-- ==== Defs.lean ====
def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.2 = (fun _ => 1#1)

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixIdeal_h1_finite [hPre_h1_finite : Cert.Pre_h1_finite.Facts] (m : (ℓ : Loc Cert.NormMixIdeal.nD Cert.NormMixIdeal.τ Cert.NormMixIdeal.sig) → Buf (Elt Ideal) ℓ) : Prop :=
  ∀ c : Dev Cert.NormMixIdeal.nD,
    (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.2.2.2.2.1 = (fun _ => 1#1)
    ∧ (Cert.Pre_h1_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8)) (m ((c.tc : Thread Cert.NormMixIdeal.nD Cert.NormMixIdeal.τ).loc Cert.NormMixIdeal.main_arg9))).2.2.2.2.2.2.2.2.2 = (fun _ => 1#1)

def Pre_NormMixRefIdeal (m : (ℓ : Loc Cert.NormMixRefIdeal.nD Cert.NormMixRefIdeal.τ Cert.NormMixRefIdeal.sig) → Buf (Elt Ideal) ℓ) : Prop :=
  True

def Pre_NormMixRefIdeal_h1_finite [hPre_h1_finite : Cert.Pre_h1_finite.Facts] (m : (ℓ : Loc Cert.NormMixRefIdeal.nD Cert.NormMixRefIdeal.τ Cert.NormMixRefIdeal.sig) → Buf (Elt Ideal) ℓ) : Prop :=
  ∀ c : Dev Cert.NormMixRefIdeal.nD,
    (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.2.2.2.2.1 = (fun _ => 1#1)
    ∧ (Cert.Pre_h1_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8)) (m ((c.tc : Thread Cert.NormMixRefIdeal.nD Cert.NormMixRefIdeal.τ).loc Cert.NormMixRefIdeal.main_arg9))).2.2.2.2.2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2)
      ∧ r.2.mem ((c.tc : Thread Cert.Merged.nD Cert.Merged.τ).loc Cert.Merged.main_arg3) = m ((c.tc : Thread Cert.Merged.nD Cert.Merged.τ).loc Cert.Merged.main_arg3)
      ∧ r.2.mem ((c.tc : Thread Cert.Merged.nD Cert.Merged.τ).loc Cert.Merged.main_arg4) = m ((c.tc : Thread Cert.Merged.nD Cert.Merged.τ).loc Cert.Merged.main_arg4)
      ∧ r.2.mem ((c.tc : Thread Cert.Merged.nD Cert.Merged.τ).loc Cert.Merged.main_arg5) = m ((c.tc : Thread Cert.Merged.nD Cert.Merged.τ).loc Cert.Merged.main_arg5))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2)
      ∧ r.2.mem ((c.tc : Thread Cert.MergedRefIdeal.nD Cert.MergedRefIdeal.τ).loc Cert.MergedRefIdeal.main_arg3) = m ((c.tc : Thread Cert.MergedRefIdeal.nD Cert.MergedRefIdeal.τ).loc Cert.MergedRefIdeal.main_arg3)
      ∧ r.2.mem ((c.tc : Thread Cert.MergedRefIdeal.nD Cert.MergedRefIdeal.τ).loc Cert.MergedRefIdeal.main_arg4) = m ((c.tc : Thread Cert.MergedRefIdeal.nD Cert.MergedRefIdeal.τ).loc Cert.MergedRefIdeal.main_arg4)
      ∧ r.2.mem ((c.tc : Thread Cert.MergedRefIdeal.nD Cert.MergedRefIdeal.τ).loc Cert.MergedRefIdeal.main_arg5) = m ((c.tc : Thread Cert.MergedRefIdeal.nD Cert.MergedRefIdeal.τ).loc Cert.MergedRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4)
      ∧ r.2.mem ((c.tc : Thread Cert.NormMix.nD Cert.NormMix.τ).loc Cert.NormMix.main_arg5) = m ((c.tc : Thread Cert.NormMix.nD Cert.NormMix.τ).loc Cert.NormMix.main_arg5)
      ∧ r.2.mem ((c.tc : Thread Cert.NormMix.nD Cert.NormMix.τ).loc Cert.NormMix.main_arg6) = m ((c.tc : Thread Cert.NormMix.nD Cert.NormMix.τ).loc Cert.NormMix.main_arg6)
      ∧ r.2.mem ((c.tc : Thread Cert.NormMix.nD Cert.NormMix.τ).loc Cert.NormMix.main_arg7) = m ((c.tc : Thread Cert.NormMix.nD Cert.NormMix.τ).loc Cert.NormMix.main_arg7)
      ∧ r.2.mem ((c.tc : Thread Cert.NormMix.nD Cert.NormMix.τ).loc Cert.NormMix.main_arg8) = m ((c.tc : Thread Cert.NormMix.nD Cert.NormMix.τ).loc Cert.NormMix.main_arg8)
      ∧ r.2.mem ((c.tc : Thread Cert.NormMix.nD Cert.NormMix.τ).loc Cert.NormMix.main_arg9) = m ((c.tc : Thread Cert.NormMix.nD Cert.NormMix.τ).loc Cert.NormMix.main_arg9))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
      ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
      ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
      ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8)
      ∧ r.2.mem ((c.tc : Thread Cert.NormMixIdeal.nD Cert.NormMixIdeal.τ).loc Cert.NormMixIdeal.main_arg9) = m ((c.tc : Thread Cert.NormMixIdeal.nD Cert.NormMixIdeal.τ).loc Cert.NormMixIdeal.main_arg9))
      ∧ r.2.sem = fun _ => 0)

def quiescent_NormMixIdeal_pre_h1_finite [hNormMixIdeal : Cert.NormMixIdeal.Facts] [hPre_h1_finite : Cert.Pre_h1_finite.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal_h1_finite m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
      ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
      ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
      ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8)
      ∧ r.2.mem ((c.tc : Thread Cert.NormMixIdeal.nD Cert.NormMixIdeal.τ).loc Cert.NormMixIdeal.main_arg9) = m ((c.tc : Thread Cert.NormMixIdeal.nD Cert.NormMixIdeal.τ).loc Cert.NormMixIdeal.main_arg9))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5)
      ∧ r.2.mem ((c.tc : Thread Cert.NormMixRefIdeal.nD Cert.NormMixRefIdeal.τ).loc Cert.NormMixRefIdeal.main_arg6) = m ((c.tc : Thread Cert.NormMixRefIdeal.nD Cert.NormMixRefIdeal.τ).loc Cert.NormMixRefIdeal.main_arg6)
      ∧ r.2.mem ((c.tc : Thread Cert.NormMixRefIdeal.nD Cert.NormMixRefIdeal.τ).loc Cert.NormMixRefIdeal.main_arg7) = m ((c.tc : Thread Cert.NormMixRefIdeal.nD Cert.NormMixRefIdeal.τ).loc Cert.NormMixRefIdeal.main_arg7)
      ∧ r.2.mem ((c.tc : Thread Cert.NormMixRefIdeal.nD Cert.NormMixRefIdeal.τ).loc Cert.NormMixRefIdeal.main_arg8) = m ((c.tc : Thread Cert.NormMixRefIdeal.nD Cert.NormMixRefIdeal.τ).loc Cert.NormMixRefIdeal.main_arg8)
      ∧ r.2.mem ((c.tc : Thread Cert.NormMixRefIdeal.nD Cert.NormMixRefIdeal.τ).loc Cert.NormMixRefIdeal.main_arg9) = m ((c.tc : Thread Cert.NormMixRefIdeal.nD Cert.NormMixRefIdeal.τ).loc Cert.NormMixRefIdeal.main_arg9))
      ∧ r.2.sem = fun _ => 0)

def quiescent_NormMixRefIdeal_pre_h1_finite [hNormMixRefIdeal : Cert.NormMixRefIdeal.Facts] [hPre_h1_finite : Cert.Pre_h1_finite.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal_h1_finite m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5)
      ∧ r.2.mem ((c.tc : Thread Cert.NormMixRefIdeal.nD Cert.NormMixRefIdeal.τ).loc Cert.NormMixRefIdeal.main_arg6) = m ((c.tc : Thread Cert.NormMixRefIdeal.nD Cert.NormMixRefIdeal.τ).loc Cert.NormMixRefIdeal.main_arg6)
      ∧ r.2.mem ((c.tc : Thread Cert.NormMixRefIdeal.nD Cert.NormMixRefIdeal.τ).loc Cert.NormMixRefIdeal.main_arg7) = m ((c.tc : Thread Cert.NormMixRefIdeal.nD Cert.NormMixRefIdeal.τ).loc Cert.NormMixRefIdeal.main_arg7)
      ∧ r.2.mem ((c.tc : Thread Cert.NormMixRefIdeal.nD Cert.NormMixRefIdeal.τ).loc Cert.NormMixRefIdeal.main_arg8) = m ((c.tc : Thread Cert.NormMixRefIdeal.nD Cert.NormMixRefIdeal.τ).loc Cert.NormMixRefIdeal.main_arg8)
      ∧ r.2.mem ((c.tc : Thread Cert.NormMixRefIdeal.nD Cert.NormMixRefIdeal.τ).loc Cert.NormMixRefIdeal.main_arg9) = m ((c.tc : Thread Cert.NormMixRefIdeal.nD Cert.NormMixRefIdeal.τ).loc Cert.NormMixRefIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1)
      ∧ r.2.mem ((c.tc : Thread Cert.Tn.nD Cert.Tn.τ).loc Cert.Tn.main_arg2) = m ((c.tc : Thread Cert.Tn.nD Cert.Tn.τ).loc Cert.Tn.main_arg2))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
      ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1)
      ∧ r.2.mem ((c.tc : Thread Cert.TnRefIdeal.nD Cert.TnRefIdeal.τ).loc Cert.TnRefIdeal.main_arg2) = m ((c.tc : Thread Cert.TnRefIdeal.nD Cert.TnRefIdeal.τ).loc Cert.TnRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)
      ∧ m' ((c.tc : Thread Cert.MergedRefIdeal.nD Cert.MergedRefIdeal.τ).loc Cert.MergedRefIdeal.main_arg2) = m ((c.tc : Thread Cert.MergedIdeal.nD Cert.MergedIdeal.τ).loc Cert.MergedIdeal.main_arg2)
      ∧ m' ((c.tc : Thread Cert.MergedRefIdeal.nD Cert.MergedRefIdeal.τ).loc Cert.MergedRefIdeal.main_arg3) = m ((c.tc : Thread Cert.MergedIdeal.nD Cert.MergedIdeal.τ).loc Cert.MergedIdeal.main_arg3)
      ∧ m' ((c.tc : Thread Cert.MergedRefIdeal.nD Cert.MergedRefIdeal.τ).loc Cert.MergedRefIdeal.main_arg4) = m ((c.tc : Thread Cert.MergedIdeal.nD Cert.MergedIdeal.τ).loc Cert.MergedIdeal.main_arg4)
      ∧ m' ((c.tc : Thread Cert.MergedRefIdeal.nD Cert.MergedRefIdeal.τ).loc Cert.MergedRefIdeal.main_arg5) = m ((c.tc : Thread Cert.MergedIdeal.nD Cert.MergedIdeal.τ).loc Cert.MergedIdeal.main_arg5)) →
    ∃ (v0 : (c : Dev Cert.MergedIdeal.nD) → Buf (Elt Ideal) ((c.tc : Thread Cert.MergedIdeal.nD Cert.MergedIdeal.τ).loc Cert.MergedIdeal.main_v0_0)) (v1 : (c : Dev Cert.MergedIdeal.nD) → Buf (Elt Ideal) ((c.tc : Thread Cert.MergedIdeal.nD Cert.MergedIdeal.τ).loc Cert.MergedIdeal.main_v0_1)) (v2 : (c : Dev Cert.MergedIdeal.nD) → Buf (Elt Ideal) ((c.tc : Thread Cert.MergedIdeal.nD Cert.MergedIdeal.τ).loc Cert.MergedIdeal.main_v0_2)) (v3 : (c : Dev Cert.MergedIdeal.nD) → Buf (Elt Ideal) ((c.tc : Thread Cert.MergedIdeal.nD Cert.MergedIdeal.τ).loc Cert.MergedIdeal.main_v0_3)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v0_0) = v0 c
          ∧ r.2.mem ((c.tc : Thread Cert.MergedIdeal.nD Cert.MergedIdeal.τ).loc Cert.MergedIdeal.main_v0_1) = v1 c
          ∧ r.2.mem ((c.tc : Thread Cert.MergedIdeal.nD Cert.MergedIdeal.τ).loc Cert.MergedIdeal.main_v0_2) = v2 c
          ∧ r.2.mem ((c.tc : Thread Cert.MergedIdeal.nD Cert.MergedIdeal.τ).loc Cert.MergedIdeal.main_v0_3) = v3 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v35) = v0 c
          ∧ r.2.mem ((c.tc : Thread Cert.MergedRefIdeal.nD Cert.MergedRefIdeal.τ).loc Cert.MergedRefIdeal.main_v36) = v1 c
          ∧ r.2.mem ((c.tc : Thread Cert.MergedRefIdeal.nD Cert.MergedRefIdeal.τ).loc Cert.MergedRefIdeal.main_v37) = v2 c
          ∧ r.2.mem ((c.tc : Thread Cert.MergedRefIdeal.nD Cert.MergedRefIdeal.τ).loc Cert.MergedRefIdeal.main_v38) = v3 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1)
          ∧ r.2.mem ((c.tc : Thread Cert.MergedRefIdeal.nD Cert.MergedRefIdeal.τ).loc Cert.MergedRefIdeal.main_arg2) = m' ((c.tc : Thread Cert.MergedRefIdeal.nD Cert.MergedRefIdeal.τ).loc Cert.MergedRefIdeal.main_arg2)
          ∧ r.2.mem ((c.tc : Thread Cert.MergedRefIdeal.nD Cert.MergedRefIdeal.τ).loc Cert.MergedRefIdeal.main_arg3) = m' ((c.tc : Thread Cert.MergedRefIdeal.nD Cert.MergedRefIdeal.τ).loc Cert.MergedRefIdeal.main_arg3)
          ∧ r.2.mem ((c.tc : Thread Cert.MergedRefIdeal.nD Cert.MergedRefIdeal.τ).loc Cert.MergedRefIdeal.main_arg4) = m' ((c.tc : Thread Cert.MergedRefIdeal.nD Cert.MergedRefIdeal.τ).loc Cert.MergedRefIdeal.main_arg4)
          ∧ r.2.mem ((c.tc : Thread Cert.MergedRefIdeal.nD Cert.MergedRefIdeal.τ).loc Cert.MergedRefIdeal.main_arg5) = m' ((c.tc : Thread Cert.MergedRefIdeal.nD Cert.MergedRefIdeal.τ).loc Cert.MergedRefIdeal.main_arg5))

def preserves_AttnBwd_AttnBwdIdeal : Prop :=
  IdealRules.named_const.Statement Cert.AttnBwdIdeal.κ "log2e" .f32 0x3FB8AA3B#32 (((Real.log 2)⁻¹ : ℝ) : EReal)
  ∧ IdealRules.named_const.Statement Cert.AttnBwdIdeal.κ "mask" .f32 0xF149F2CA#32 ⊥
  ∧ IdealRules.named_const.Statement Cert.AttnBwdIdeal.κ "exit" .f32 0xC3168000#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v10_0)) (v1 : (c : Dev Cert.AttnBwdIdeal.nD) → Buf (Elt Ideal) ((c.tc : Thread Cert.AttnBwdIdeal.nD Cert.AttnBwdIdeal.τ).loc Cert.AttnBwdIdeal.main_v10_1)) (v2 : (c : Dev Cert.AttnBwdIdeal.nD) → Buf (Elt Ideal) ((c.tc : Thread Cert.AttnBwdIdeal.nD Cert.AttnBwdIdeal.τ).loc Cert.AttnBwdIdeal.main_v10_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v10_0) = v0 c
          ∧ r.2.mem ((c.tc : Thread Cert.AttnBwdIdeal.nD Cert.AttnBwdIdeal.τ).loc Cert.AttnBwdIdeal.main_v10_1) = v1 c
          ∧ r.2.mem ((c.tc : Thread Cert.AttnBwdIdeal.nD Cert.AttnBwdIdeal.τ).loc Cert.AttnBwdIdeal.main_v10_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v57) = v0 c
          ∧ r.2.mem ((c.tc : Thread Cert.AttnBwdRefIdeal.nD Cert.AttnBwdRefIdeal.τ).loc Cert.AttnBwdRefIdeal.main_v58) = v1 c
          ∧ r.2.mem ((c.tc : Thread Cert.AttnBwdRefIdeal.nD Cert.AttnBwdRefIdeal.τ).loc Cert.AttnBwdRefIdeal.main_v59) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v18_3)) (v1 : (c : Dev Cert.FfnIdeal.nD) → Buf (Elt Ideal) ((c.tc : Thread Cert.FfnIdeal.nD Cert.FfnIdeal.τ).loc Cert.FfnIdeal.main_v18_4)) (v2 : (c : Dev Cert.FfnIdeal.nD) → Buf (Elt Ideal) ((c.tc : Thread Cert.FfnIdeal.nD Cert.FfnIdeal.τ).loc Cert.FfnIdeal.main_v20_0)) (v3 : (c : Dev Cert.FfnIdeal.nD) → Buf (Elt Ideal) ((c.tc : Thread Cert.FfnIdeal.nD Cert.FfnIdeal.τ).loc Cert.FfnIdeal.main_v20_1)) (v4 : (c : Dev Cert.FfnIdeal.nD) → Buf (Elt Ideal) ((c.tc : Thread Cert.FfnIdeal.nD Cert.FfnIdeal.τ).loc Cert.FfnIdeal.main_v20_2)) (v5 : (c : Dev Cert.FfnIdeal.nD) → Buf (Elt Ideal) ((c.tc : Thread Cert.FfnIdeal.nD Cert.FfnIdeal.τ).loc Cert.FfnIdeal.main_v20_3)) (v6 : (c : Dev Cert.FfnIdeal.nD) → Buf (Elt Ideal) ((c.tc : Thread Cert.FfnIdeal.nD Cert.FfnIdeal.τ).loc Cert.FfnIdeal.main_v20_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18_3) = v0 c
          ∧ r.2.mem ((c.tc : Thread Cert.FfnIdeal.nD Cert.FfnIdeal.τ).loc Cert.FfnIdeal.main_v18_4) = v1 c
          ∧ r.2.mem ((c.tc : Thread Cert.FfnIdeal.nD Cert.FfnIdeal.τ).loc Cert.FfnIdeal.main_v20_0) = v2 c
          ∧ r.2.mem ((c.tc : Thread Cert.FfnIdeal.nD Cert.FfnIdeal.τ).loc Cert.FfnIdeal.main_v20_1) = v3 c
          ∧ r.2.mem ((c.tc : Thread Cert.FfnIdeal.nD Cert.FfnIdeal.τ).loc Cert.FfnIdeal.main_v20_2) = v4 c
          ∧ r.2.mem ((c.tc : Thread Cert.FfnIdeal.nD Cert.FfnIdeal.τ).loc Cert.FfnIdeal.main_v20_3) = v5 c
          ∧ r.2.mem ((c.tc : Thread Cert.FfnIdeal.nD Cert.FfnIdeal.τ).loc Cert.FfnIdeal.main_v20_4) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_v70) = v1 c
          ∧ r.2.mem ((c.tc : Thread Cert.FfnRefIdeal.nD Cert.FfnRefIdeal.τ).loc Cert.FfnRefIdeal.main_v71) = v2 c
          ∧ r.2.mem ((c.tc : Thread Cert.FfnRefIdeal.nD Cert.FfnRefIdeal.τ).loc Cert.FfnRefIdeal.main_v72) = v3 c
          ∧ r.2.mem ((c.tc : Thread Cert.FfnRefIdeal.nD Cert.FfnRefIdeal.τ).loc Cert.FfnRefIdeal.main_v54) = v4 c
          ∧ r.2.mem ((c.tc : Thread Cert.FfnRefIdeal.nD Cert.FfnRefIdeal.τ).loc Cert.FfnRefIdeal.main_v73) = v5 c
          ∧ r.2.mem ((c.tc : Thread Cert.FfnRefIdeal.nD Cert.FfnRefIdeal.τ).loc Cert.FfnRefIdeal.main_v55) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v16_0)) (v1 : (c : Dev Cert.PleIdeal.nD) → Buf (Elt Ideal) ((c.tc : Thread Cert.PleIdeal.nD Cert.PleIdeal.τ).loc Cert.PleIdeal.main_v16_1)) (v2 : (c : Dev Cert.PleIdeal.nD) → Buf (Elt Ideal) ((c.tc : Thread Cert.PleIdeal.nD Cert.PleIdeal.τ).loc Cert.PleIdeal.main_v16_2)) (v3 : (c : Dev Cert.PleIdeal.nD) → Buf (Elt Ideal) ((c.tc : Thread Cert.PleIdeal.nD Cert.PleIdeal.τ).loc Cert.PleIdeal.main_v16_3)) (v4 : (c : Dev Cert.PleIdeal.nD) → Buf (Elt Ideal) ((c.tc : Thread Cert.PleIdeal.nD Cert.PleIdeal.τ).loc Cert.PleIdeal.main_v16_4)) (v5 : (c : Dev Cert.PleIdeal.nD) → Buf (Elt Ideal) ((c.tc : Thread Cert.PleIdeal.nD Cert.PleIdeal.τ).loc Cert.PleIdeal.main_v16_5)) (v6 : (c : Dev Cert.PleIdeal.nD) → Buf (Elt Ideal) ((c.tc : Thread Cert.PleIdeal.nD Cert.PleIdeal.τ).loc Cert.PleIdeal.main_v16_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v16_0) = v0 c
          ∧ r.2.mem ((c.tc : Thread Cert.PleIdeal.nD Cert.PleIdeal.τ).loc Cert.PleIdeal.main_v16_1) = v1 c
          ∧ r.2.mem ((c.tc : Thread Cert.PleIdeal.nD Cert.PleIdeal.τ).loc Cert.PleIdeal.main_v16_2) = v2 c
          ∧ r.2.mem ((c.tc : Thread Cert.PleIdeal.nD Cert.PleIdeal.τ).loc Cert.PleIdeal.main_v16_3) = v3 c
          ∧ r.2.mem ((c.tc : Thread Cert.PleIdeal.nD Cert.PleIdeal.τ).loc Cert.PleIdeal.main_v16_4) = v4 c
          ∧ r.2.mem ((c.tc : Thread Cert.PleIdeal.nD Cert.PleIdeal.τ).loc Cert.PleIdeal.main_v16_5) = v5 c
          ∧ r.2.mem ((c.tc : Thread Cert.PleIdeal.nD Cert.PleIdeal.τ).loc Cert.PleIdeal.main_v16_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v109) = v0 c
          ∧ r.2.mem ((c.tc : Thread Cert.PleRefIdeal.nD Cert.PleRefIdeal.τ).loc Cert.PleRefIdeal.main_v111) = v1 c
          ∧ r.2.mem ((c.tc : Thread Cert.PleRefIdeal.nD Cert.PleRefIdeal.τ).loc Cert.PleRefIdeal.main_v112) = v2 c
          ∧ r.2.mem ((c.tc : Thread Cert.PleRefIdeal.nD Cert.PleRefIdeal.τ).loc Cert.PleRefIdeal.main_v113) = v3 c
          ∧ r.2.mem ((c.tc : Thread Cert.PleRefIdeal.nD Cert.PleRefIdeal.τ).loc Cert.PleRefIdeal.main_v114) = v4 c
          ∧ r.2.mem ((c.tc : Thread Cert.PleRefIdeal.nD Cert.PleRefIdeal.τ).loc Cert.PleRefIdeal.main_v115) = v5 c
          ∧ r.2.mem ((c.tc : Thread Cert.PleRefIdeal.nD Cert.PleRefIdeal.τ).loc Cert.PleRefIdeal.main_v110) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_NormMix_NormMixIdeal : Prop :=
  True

def algebraic_NormMixIdeal_NormMixRefIdeal_pre_h1_finite [hNormMixIdeal : Cert.NormMixIdeal.Facts] [hNormMixRefIdeal : Cert.NormMixRefIdeal.Facts] [hPre_h1_finite : Cert.Pre_h1_finite.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal_h1_finite m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)
      ∧ m' ((c.tc : Thread Cert.NormMixRefIdeal.nD Cert.NormMixRefIdeal.τ).loc Cert.NormMixRefIdeal.main_arg5) = m ((c.tc : Thread Cert.NormMixIdeal.nD Cert.NormMixIdeal.τ).loc Cert.NormMixIdeal.main_arg5)
      ∧ m' ((c.tc : Thread Cert.NormMixRefIdeal.nD Cert.NormMixRefIdeal.τ).loc Cert.NormMixRefIdeal.main_arg6) = m ((c.tc : Thread Cert.NormMixIdeal.nD Cert.NormMixIdeal.τ).loc Cert.NormMixIdeal.main_arg6)
      ∧ m' ((c.tc : Thread Cert.NormMixRefIdeal.nD Cert.NormMixRefIdeal.τ).loc Cert.NormMixRefIdeal.main_arg7) = m ((c.tc : Thread Cert.NormMixIdeal.nD Cert.NormMixIdeal.τ).loc Cert.NormMixIdeal.main_arg7)
      ∧ m' ((c.tc : Thread Cert.NormMixRefIdeal.nD Cert.NormMixRefIdeal.τ).loc Cert.NormMixRefIdeal.main_arg8) = m ((c.tc : Thread Cert.NormMixIdeal.nD Cert.NormMixIdeal.τ).loc Cert.NormMixIdeal.main_arg8)
      ∧ m' ((c.tc : Thread Cert.NormMixRefIdeal.nD Cert.NormMixRefIdeal.τ).loc Cert.NormMixRefIdeal.main_arg9) = m ((c.tc : Thread Cert.NormMixIdeal.nD Cert.NormMixIdeal.τ).loc Cert.NormMixIdeal.main_arg9)) →
    ∃ (v0 : (c : Dev Cert.NormMixIdeal.nD) → Buf (Elt Ideal) ((c.tc : Thread Cert.NormMixIdeal.nD Cert.NormMixIdeal.τ).loc Cert.NormMixIdeal.main_v5_0)) (v1 : (c : Dev Cert.NormMixIdeal.nD) → Buf (Elt Ideal) ((c.tc : Thread Cert.NormMixIdeal.nD Cert.NormMixIdeal.τ).loc Cert.NormMixIdeal.main_v5_1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v5_0) = v0 c
          ∧ r.2.mem ((c.tc : Thread Cert.NormMixIdeal.nD Cert.NormMixIdeal.τ).loc Cert.NormMixIdeal.main_v5_1) = v1 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
          ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
          ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
          ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
          ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8)
          ∧ r.2.mem ((c.tc : Thread Cert.NormMixIdeal.nD Cert.NormMixIdeal.τ).loc Cert.NormMixIdeal.main_arg9) = m ((c.tc : Thread Cert.NormMixIdeal.nD Cert.NormMixIdeal.τ).loc Cert.NormMixIdeal.main_arg9))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v52) = v0 c
          ∧ r.2.mem ((c.tc : Thread Cert.NormMixRefIdeal.nD Cert.NormMixRefIdeal.τ).loc Cert.NormMixRefIdeal.main_v53) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4)
          ∧ r.2.mem ((c.tc : Thread Cert.NormMixRefIdeal.nD Cert.NormMixRefIdeal.τ).loc Cert.NormMixRefIdeal.main_arg5) = m' ((c.tc : Thread Cert.NormMixRefIdeal.nD Cert.NormMixRefIdeal.τ).loc Cert.NormMixRefIdeal.main_arg5)
          ∧ r.2.mem ((c.tc : Thread Cert.NormMixRefIdeal.nD Cert.NormMixRefIdeal.τ).loc Cert.NormMixRefIdeal.main_arg6) = m' ((c.tc : Thread Cert.NormMixRefIdeal.nD Cert.NormMixRefIdeal.τ).loc Cert.NormMixRefIdeal.main_arg6)
          ∧ r.2.mem ((c.tc : Thread Cert.NormMixRefIdeal.nD Cert.NormMixRefIdeal.τ).loc Cert.NormMixRefIdeal.main_arg7) = m' ((c.tc : Thread Cert.NormMixRefIdeal.nD Cert.NormMixRefIdeal.τ).loc Cert.NormMixRefIdeal.main_arg7)
          ∧ r.2.mem ((c.tc : Thread Cert.NormMixRefIdeal.nD Cert.NormMixRefIdeal.τ).loc Cert.NormMixRefIdeal.main_arg8) = m' ((c.tc : Thread Cert.NormMixRefIdeal.nD Cert.NormMixRefIdeal.τ).loc Cert.NormMixRefIdeal.main_arg8)
          ∧ r.2.mem ((c.tc : Thread Cert.NormMixRefIdeal.nD Cert.NormMixRefIdeal.τ).loc Cert.NormMixRefIdeal.main_arg9) = m' ((c.tc : Thread Cert.NormMixRefIdeal.nD Cert.NormMixRefIdeal.τ).loc Cert.NormMixRefIdeal.main_arg9))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v1_1)) (v1 : (c : Dev Cert.PoolIdeal.nD) → Buf (Elt Ideal) ((c.tc : Thread Cert.PoolIdeal.nD Cert.PoolIdeal.τ).loc Cert.PoolIdeal.main_v2_0)) (v2 : (c : Dev Cert.PoolIdeal.nD) → Buf (Elt Ideal) ((c.tc : Thread Cert.PoolIdeal.nD Cert.PoolIdeal.τ).loc Cert.PoolIdeal.main_v2_1)) (v3 : (c : Dev Cert.PoolIdeal.nD) → Buf (Elt Ideal) ((c.tc : Thread Cert.PoolIdeal.nD Cert.PoolIdeal.τ).loc Cert.PoolIdeal.main_v2_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1_1) = v0 c
          ∧ r.2.mem ((c.tc : Thread Cert.PoolIdeal.nD Cert.PoolIdeal.τ).loc Cert.PoolIdeal.main_v2_0) = v1 c
          ∧ r.2.mem ((c.tc : Thread Cert.PoolIdeal.nD Cert.PoolIdeal.τ).loc Cert.PoolIdeal.main_v2_1) = v2 c
          ∧ r.2.mem ((c.tc : Thread Cert.PoolIdeal.nD Cert.PoolIdeal.τ).loc Cert.PoolIdeal.main_v2_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v151) = v0 c
          ∧ r.2.mem ((c.tc : Thread Cert.PoolRefIdeal.nD Cert.PoolRefIdeal.τ).loc Cert.PoolRefIdeal.main_v152) = v1 c
          ∧ r.2.mem ((c.tc : Thread Cert.PoolRefIdeal.nD Cert.PoolRefIdeal.τ).loc Cert.PoolRefIdeal.main_v92) = v2 c
          ∧ r.2.mem ((c.tc : Thread Cert.PoolRefIdeal.nD Cert.PoolRefIdeal.τ).loc Cert.PoolRefIdeal.main_v149) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_AttnFwd_AttnFwdIdeal : Prop :=
  IdealRules.named_const.Statement Cert.AttnFwdIdeal.κ "log2e" .f32 0x3FB8AA3B#32 (((Real.log 2)⁻¹ : ℝ) : EReal)
  ∧ IdealRules.named_const.Statement Cert.AttnFwdIdeal.κ "mask" .f32 0xF149F2CA#32 ⊥
  ∧ IdealRules.named_const.Statement Cert.AttnFwdIdeal.κ "exit" .f32 0xC3168000#32 ⊥

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v32) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v3_0)) (v1 : (c : Dev Cert.MixerIdeal.nD) → Buf (Elt Ideal) ((c.tc : Thread Cert.MixerIdeal.nD Cert.MixerIdeal.τ).loc Cert.MixerIdeal.main_v3_1)) (v2 : (c : Dev Cert.MixerIdeal.nD) → Buf (Elt Ideal) ((c.tc : Thread Cert.MixerIdeal.nD Cert.MixerIdeal.τ).loc Cert.MixerIdeal.main_v3_2)) (v3 : (c : Dev Cert.MixerIdeal.nD) → Buf (Elt Ideal) ((c.tc : Thread Cert.MixerIdeal.nD Cert.MixerIdeal.τ).loc Cert.MixerIdeal.main_v3_3)) (v4 : (c : Dev Cert.MixerIdeal.nD) → Buf (Elt Ideal) ((c.tc : Thread Cert.MixerIdeal.nD Cert.MixerIdeal.τ).loc Cert.MixerIdeal.main_v3_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v3_0) = v0 c
          ∧ r.2.mem ((c.tc : Thread Cert.MixerIdeal.nD Cert.MixerIdeal.τ).loc Cert.MixerIdeal.main_v3_1) = v1 c
          ∧ r.2.mem ((c.tc : Thread Cert.MixerIdeal.nD Cert.MixerIdeal.τ).loc Cert.MixerIdeal.main_v3_2) = v2 c
          ∧ r.2.mem ((c.tc : Thread Cert.MixerIdeal.nD Cert.MixerIdeal.τ).loc Cert.MixerIdeal.main_v3_3) = v3 c
          ∧ r.2.mem ((c.tc : Thread Cert.MixerIdeal.nD Cert.MixerIdeal.τ).loc Cert.MixerIdeal.main_v3_4) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v23) = v0 c
          ∧ r.2.mem ((c.tc : Thread Cert.MixerRefIdeal.nD Cert.MixerRefIdeal.τ).loc Cert.MixerRefIdeal.main_v24) = v1 c
          ∧ r.2.mem ((c.tc : Thread Cert.MixerRefIdeal.nD Cert.MixerRefIdeal.τ).loc Cert.MixerRefIdeal.main_v25) = v2 c
          ∧ r.2.mem ((c.tc : Thread Cert.MixerRefIdeal.nD Cert.MixerRefIdeal.τ).loc Cert.MixerRefIdeal.main_v22) = v3 c
          ∧ r.2.mem ((c.tc : Thread Cert.MixerRefIdeal.nD Cert.MixerRefIdeal.τ).loc Cert.MixerRefIdeal.main_v40) = v4 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)) (v2 : (c : Dev Cert.ProjIdeal.nD) → Buf (Elt Ideal) ((c.tc : Thread Cert.ProjIdeal.nD Cert.ProjIdeal.τ).loc Cert.ProjIdeal.main_v5_2)) (v3 : (c : Dev Cert.ProjIdeal.nD) → Buf (Elt Ideal) ((c.tc : Thread Cert.ProjIdeal.nD Cert.ProjIdeal.τ).loc Cert.ProjIdeal.main_v5_3)) (v4 : (c : Dev Cert.ProjIdeal.nD) → Buf (Elt Ideal) ((c.tc : Thread Cert.ProjIdeal.nD Cert.ProjIdeal.τ).loc Cert.ProjIdeal.main_v5_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_v5_2) = v2 c
          ∧ r.2.mem ((c.tc : Thread Cert.ProjIdeal.nD Cert.ProjIdeal.τ).loc Cert.ProjIdeal.main_v5_3) = v3 c
          ∧ r.2.mem ((c.tc : Thread Cert.ProjIdeal.nD Cert.ProjIdeal.τ).loc Cert.ProjIdeal.main_v5_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v7) = v1 c
          ∧ r.2.mem ((c.tc : Thread Cert.ProjRefIdeal.nD Cert.ProjRefIdeal.τ).loc Cert.ProjRefIdeal.main_v8) = v2 c
          ∧ r.2.mem ((c.tc : Thread Cert.ProjRefIdeal.nD Cert.ProjRefIdeal.τ).loc Cert.ProjRefIdeal.main_v9) = v3 c
          ∧ r.2.mem ((c.tc : Thread Cert.ProjRefIdeal.nD Cert.ProjRefIdeal.τ).loc Cert.ProjRefIdeal.main_v10) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)
      ∧ m' ((c.tc : Thread Cert.TnRefIdeal.nD Cert.TnRefIdeal.τ).loc Cert.TnRefIdeal.main_arg2) = m ((c.tc : Thread Cert.TnIdeal.nD Cert.TnIdeal.τ).loc Cert.TnIdeal.main_arg2)) →
    ∃ (v0 : (c : Dev Cert.TnIdeal.nD) → Buf (Elt Ideal) ((c.tc : Thread Cert.TnIdeal.nD Cert.TnIdeal.τ).loc Cert.TnIdeal.main_v0_0)) (v1 : (c : Dev Cert.TnIdeal.nD) → Buf (Elt Ideal) ((c.tc : Thread Cert.TnIdeal.nD Cert.TnIdeal.τ).loc Cert.TnIdeal.main_v0_1)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0_0) = v0 c
          ∧ r.2.mem ((c.tc : Thread Cert.TnIdeal.nD Cert.TnIdeal.τ).loc Cert.TnIdeal.main_v0_1) = v1 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
          ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v3) = v0 c
          ∧ r.2.mem ((c.tc : Thread Cert.TnRefIdeal.nD Cert.TnRefIdeal.τ).loc Cert.TnRefIdeal.main_v7) = v1 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1)
          ∧ r.2.mem ((c.tc : Thread Cert.TnRefIdeal.nD Cert.TnRefIdeal.τ).loc Cert.TnRefIdeal.main_arg2) = m' ((c.tc : Thread Cert.TnRefIdeal.nD Cert.TnRefIdeal.τ).loc Cert.TnRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v27) = v0 c
          ∧ r.2.mem ((c.tc : Thread Cert.AdamRefIdeal.nD Cert.AdamRefIdeal.τ).loc Cert.AdamRefIdeal.main_v8) = v1 c
          ∧ r.2.mem ((c.tc : Thread Cert.AdamRefIdeal.nD Cert.AdamRefIdeal.τ).loc Cert.AdamRefIdeal.main_v14) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hMerged : Cert.Merged.Facts) (hMergedIdeal : Cert.MergedIdeal.Facts) (hMergedRefIdeal : Cert.MergedRefIdeal.Facts) (hAttnBwd : Cert.AttnBwd.Facts) (hAttnBwdIdeal : Cert.AttnBwdIdeal.Facts) (hAttnBwdRefIdeal : Cert.AttnBwdRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hNormMix : Cert.NormMix.Facts) (hNormMixIdeal : Cert.NormMixIdeal.Facts) (hNormMixRefIdeal : Cert.NormMixRefIdeal.Facts) (hPool : Cert.Pool.Facts) (hPoolIdeal : Cert.PoolIdeal.Facts) (hPoolRefIdeal : Cert.PoolRefIdeal.Facts) (hAttnFwd : Cert.AttnFwd.Facts) (hAttnFwdIdeal : Cert.AttnFwdIdeal.Facts) (hAttnFwdRefIdeal : Cert.AttnFwdRefIdeal.Facts) (hMixer : Cert.Mixer.Facts) (hMixerIdeal : Cert.MixerIdeal.Facts) (hMixerRefIdeal : Cert.MixerRefIdeal.Facts) (hNorm : Cert.Norm.Facts) (hNormIdeal : Cert.NormIdeal.Facts) (hNormRefIdeal : Cert.NormRefIdeal.Facts) (hProj : Cert.Proj.Facts) (hProjIdeal : Cert.ProjIdeal.Facts) (hProjRefIdeal : Cert.ProjRefIdeal.Facts) (hTn : Cert.Tn.Facts) (hTnIdeal : Cert.TnIdeal.Facts) (hTnRefIdeal : Cert.TnRefIdeal.Facts) (hAdam : Cert.Adam.Facts) (hAdamIdeal : Cert.AdamIdeal.Facts) (hAdamRefIdeal : Cert.AdamRefIdeal.Facts) (hPre_attn_finite : Cert.Pre_attn_finite.Facts) (hPre_ffn_finite : Cert.Pre_ffn_finite.Facts) (hPre_ple_finite : Cert.Pre_ple_finite.Facts) (hPre_h1_finite : Cert.Pre_h1_finite.Facts) (hPre_pool_finite : Cert.Pre_pool_finite.Facts) (hPre_fwd_finite : Cert.Pre_fwd_finite.Facts),
    quiescent_Merged (hMerged := hMerged)
    ∧ quiescent_MergedIdeal (hMergedIdeal := hMergedIdeal)
    ∧ quiescent_MergedRefIdeal (hMergedRefIdeal := hMergedRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_NormMix (hNormMix := hNormMix)
    ∧ quiescent_NormMixIdeal (hNormMixIdeal := hNormMixIdeal)
    ∧ quiescent_NormMixIdeal_pre_h1_finite (hNormMixIdeal := hNormMixIdeal) (hPre_h1_finite := hPre_h1_finite)
    ∧ quiescent_NormMixRefIdeal (hNormMixRefIdeal := hNormMixRefIdeal)
    ∧ quiescent_NormMixRefIdeal_pre_h1_finite (hNormMixRefIdeal := hNormMixRefIdeal) (hPre_h1_finite := hPre_h1_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_Mixer (hMixer := hMixer)
    ∧ quiescent_MixerIdeal (hMixerIdeal := hMixerIdeal)
    ∧ quiescent_MixerRefIdeal (hMixerRefIdeal := hMixerRefIdeal)
    ∧ quiescent_Norm (hNorm := hNorm)
    ∧ quiescent_NormIdeal (hNormIdeal := hNormIdeal)
    ∧ quiescent_NormRefIdeal (hNormRefIdeal := hNormRefIdeal)
    ∧ quiescent_Proj (hProj := hProj)
    ∧ quiescent_ProjIdeal (hProjIdeal := hProjIdeal)
    ∧ quiescent_ProjRefIdeal (hProjRefIdeal := hProjRefIdeal)
    ∧ quiescent_Tn (hTn := hTn)
    ∧ quiescent_TnIdeal (hTnIdeal := hTnIdeal)
    ∧ quiescent_TnRefIdeal (hTnRefIdeal := hTnRefIdeal)
    ∧ quiescent_Adam (hAdam := hAdam)
    ∧ quiescent_AdamIdeal (hAdamIdeal := hAdamIdeal)
    ∧ quiescent_AdamRefIdeal (hAdamRefIdeal := hAdamRefIdeal)
    ∧ preserves_Merged_MergedIdeal
    ∧ algebraic_MergedIdeal_MergedRefIdeal (hMergedIdeal := hMergedIdeal) (hMergedRefIdeal := hMergedRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_NormMix_NormMixIdeal
    ∧ algebraic_NormMixIdeal_NormMixRefIdeal_pre_h1_finite (hNormMixIdeal := hNormMixIdeal) (hNormMixRefIdeal := hNormMixRefIdeal) (hPre_h1_finite := hPre_h1_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_Mixer_MixerIdeal
    ∧ algebraic_MixerIdeal_MixerRefIdeal (hMixerIdeal := hMixerIdeal) (hMixerRefIdeal := hMixerRefIdeal)
    ∧ preserves_Norm_NormIdeal
    ∧ algebraic_NormIdeal_NormRefIdeal (hNormIdeal := hNormIdeal) (hNormRefIdeal := hNormRefIdeal)
    ∧ preserves_Proj_ProjIdeal
    ∧ algebraic_ProjIdeal_ProjRefIdeal (hProjIdeal := hProjIdeal) (hProjRefIdeal := hProjRefIdeal)
    ∧ preserves_Tn_TnIdeal
    ∧ algebraic_TnIdeal_TnRefIdeal (hTnIdeal := hTnIdeal) (hTnRefIdeal := hTnRefIdeal)
    ∧ preserves_Adam_AdamIdeal
    ∧ algebraic_AdamIdeal_AdamRefIdeal (hAdamIdeal := hAdamIdeal) (hAdamRefIdeal := hAdamRefIdeal)
-- ==== Pre_attn_finite.lean ====
abbrev S8192x512 : Shape := ⟨2, ![8192, 512]⟩
abbrev S8192x1024 : Shape := ⟨2, ![8192, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  slices_S8192x1024_S8192x512_0_0 : S8192x1024.Slices ![0, 0] S8192x512
  slices_S8192x1024_S8192x512_0_512 : S8192x1024.Slices ![0, 512] S8192x512

variable [Facts]

def fn_part1 {F : FTy → Type} [FloatOps F] (main_v15 : IVec S8192x512 1) (main_v19 : IVec S8192x512 1) : IVec S8192x512 1 :=
  let main_v20 : IVec S8192x512 1 := andi main_v15 main_v19
  main_v20

def fn {F : FTy → Type} [FloatOps F] (main_arg0 : FVec F S8192x512 .bf16) (main_arg1 : FVec F S8192x1024 .bf16) (main_arg2 : FVec F S8192x512 .bf16) : IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .bf16 := (extractStridedSlice S8192x512 ![0, 0] · slices_S8192x1024_S8192x512_0_0) main_arg1
  let main_v5 : FVec F S8192x512 .f32 := (extf .f32 · bitsLt_bf16_f32) main_v4
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : IVec S8192x512 1 := andi main_v3 main_v8
  let main_v10 : FVec F S8192x512 .bf16 := (extractStridedSlice S8192x512 ![0, 512] · slices_S8192x1024_S8192x512_0_512) main_arg1
  let main_v11 : FVec F S8192x512 .f32 := (extf .f32 · bitsLt_bf16_f32) main_v10
  let main_v12 : FVec F S8192x512 .f32 := Host.absf main_v11
  let main_cst_1 : FVec F S_ .f32 := constant S_ .f32 0x7F800000#32
  let main_v13 : FVec F S8192x512 .f32 := broadcastInDim S8192x512 ![] bcast_S_S8192x512 main_cst_1
  let main_v14 : IVec S8192x512 1 := cmpf .olt main_v12 main_v13
  let main_v15 : IVec S8192x512 1 := andi main_v9 main_v14
  let main_v16 : FVec F S8192x512 .f32 := (extf .f32 · bitsLt_bf16_f32) main_arg2
  let main_v17 : FVec F S8192x512 .f32 := Host.absf main_v16
  let main_cst_2 : FVec F S_ .f32 := constant S_ .f32 0x7F800000#32
  let main_v18 : FVec F S8192x512 .f32 := broadcastInDim S8192x512 ![] bcast_S_S8192x512 main_cst_2
  let main_v19 : IVec S8192x512 1 := cmpf .olt main_v17 main_v18
  fn_part1 (F := F) main_v15 main_v19
-- ==== Pre_ffn_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S1x1024 1) (main_v8 : IVec S1024x2816 1) (main_v11 : IVec S1024x2816 1) (main_v14 : IVec S2816x1024 1) (main_v17 : IVec S1x1024 1) : IVec S8192x1024 1 × IVec S1x1024 1 × IVec S1024x2816 1 × IVec S1024x2816 1 × IVec S2816x1024 1 × IVec S1x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S8192x1024 .f32) : IVec S8192x1024 1 × IVec S1x1024 1 × IVec S1024x2816 1 × IVec S1024x2816 1 × IVec S2816x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_fwd_finite.lean ====
abbrev S8192x512 : Shape := ⟨2, ![8192, 512]⟩
abbrev S8192x1024 : Shape := ⟨2, ![8192, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x1024 : S_.BroadcastsInDim S8192x1024 (![] : Fin 0 → Fin S8192x1024.rank)

variable [Facts]

def fn {F : FTy → Type} [FloatOps F] (main_arg0 : FVec F S8192x512 .bf16) (main_arg1 : FVec F S8192x1024 .bf16) : IVec S8192x512 1 × IVec S8192x1024 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  (main_v3, main_v7)
-- ==== Pre_h1_finite.lean ====
abbrev S8192x1024 : Shape := ⟨2, ![8192, 1024]⟩
abbrev S1x1024 : Shape := ⟨2, ![1, 1024]⟩
abbrev S1024x4096 : Shape := ⟨2, ![1024, 4096]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bitsLt_bf16_f32 : FTy.bits .bf16 < FTy.bits .f32
  bcast_S_S8192x512 : S_.BroadcastsInDim S8192x512 (![] : Fin 0 → Fin S8192x512.rank)

variable [Facts]

def fn_part1 {F : FTy → Type} [FloatOps F] (main_arg6 : FVec F S8192x512 .bf16) (main_arg7 : FVec F S8192x1024 .bf16) (main_arg8 : FVec F S8192x1024 .bf16) (main_arg9 : FVec F S8192x1024 .f32) (main_v2 : IVec S8192x1024 1) (main_v5 : IVec S1x1024 1) (main_v8 : IVec S1024x4096 1) (main_v12 : IVec S8192x512 1) (main_v16 : IVec S8192x512 1) (main_v18 : FVec F S8192x512 .f32) : IVec S8192x1024 1 × IVec S1x1024 1 × IVec S1024x4096 1 × IVec S8192x512 1 × IVec S8192x512 1 × IVec S8192x512 1 × IVec S8192x512 1 × IVec S8192x1024 1 × IVec S8192x1024 1 × IVec S8192x1024 1 :=
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_v21 : FVec F S8192x512 .f32 := (extf .f32 · bitsLt_bf16_f32) main_arg6
  let main_v22 : FVec F S8192x512 .f32 := Host.absf main_v21
  let main_cst_5 : FVec F S_ .f32 := constant S_ .f32 0x7F800000#32
  let main_v23 : FVec F S8192x512 .f32 := broadcastInDim S8192x512 ![] bcast_S_S8192x512 main_cst_5
  let main_v24 : IVec S8192x512 1 := cmpf .olt main_v22 main_v23
  let main_v25 : FVec F S8192x1024 .f32 := (extf .f32 · bitsLt_bf16_f32) main_arg7
  let main_v26 : FVec F S8192x1024 .f32 := Host.absf main_v25
  let main_cst_6 : FVec F S_ .f32 := constant S_ .f32 0x7F800000#32
  let main_v27 : FVec F S8192x1024 .f32 := broadcastInDim S8192x1024 ![] bcast_S_S8192x1024 main_cst_6
  let main_v28 : IVec S8192x1024 1 := cmpf .olt main_v26 main_v27
  let main_v29 : FVec F S8192x1024 .f32 := (extf .f32 · bitsLt_bf16_f32) main_arg8
  let main_v30 : FVec F S8192x1024 .f32 := Host.absf main_v29
  let main_cst_7 : FVec F S_ .f32 := constant S_ .f32 0x7F800000#32
  let main_v31 : FVec F S8192x1024 .f32 := broadcastInDim S8192x1024 ![] bcast_S_S8192x1024 main_cst_7
  let main_v32 : IVec S8192x1024 1 := cmpf .olt main_v30 main_v31
  let main_v33 : FVec F S8192x1024 .f32 := Host.absf main_arg9
  let main_cst_8 : FVec F S_ .f32 := constant S_ .f32 0x7F800000#32
  let main_v34 : FVec F S8192x1024 .f32 := broadcastInDim S8192x1024 ![] bcast_S_S8192x1024 main_cst_8
  let main_v35 : IVec S8192x1024 1 := cmpf .olt main_v33 main_v34
  (main_v2, main_v5, main_v8, main_v12, main_v16, main_v20, main_v24, main_v28, main_v32, main_v35)

def fn {F : FTy → Type} [FloatOps F] (main_arg0 : FVec F S8192x1024 .f32) (main_arg1 : FVec F S1x1024 .f32) (main_arg2 : FVec F S1024x4096 .f32) (main_arg3 : FVec F S8192x512 .bf16) (main_arg4 : FVec F S8192x512 .bf16) (main_arg5 : FVec F S8192x512 .bf16) (main_arg6 : FVec F S8192x512 .bf16) (main_arg7 : FVec F S8192x1024 .bf16) (main_arg8 : FVec F S8192x1024 .bf16) (main_arg9 : FVec F S8192x1024 .f32) : IVec S8192x1024 1 × IVec S1x1024 1 × IVec S1024x4096 1 × IVec S8192x512 1 × IVec S8192x512 1 × IVec S8192x512 1 × IVec S8192x512 1 × IVec S8192x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x512 .f32 := (extf .f32 · bitsLt_bf16_f32) main_arg3
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S8192x512 .f32 := (extf .f32 · bitsLt_bf16_f32) main_arg4
  let main_v14 : FVec F S8192x512 .f32 := Host.absf main_v13
  let main_cst_3 : FVec F S_ .f32 := constant S_ .f32 0x7F800000#32
  let main_v15 : FVec F S8192x512 .f32 := broadcastInDim S8192x512 ![] bcast_S_S8192x512 main_cst_3
  let main_v16 : IVec S8192x512 1 := cmpf .olt main_v14 main_v15
  let main_v17 : FVec F S8192x512 .f32 := (extf .f32 · bitsLt_bf16_f32) main_arg5
  let main_v18 : FVec F S8192x512 .f32 := Host.absf main_v17
  fn_part1 (F := F) main_arg6 main_arg7 main_arg8 main_arg9 main_v2 main_v5 main_v8 main_v12 main_v16 main_v18
-- ==== Pre_ple_finite.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_arg6 : FVec F S8192x1024 .f32) (main_v2 : IVec S8192x1024 1) (main_v5 : IVec S8192x256 1) (main_v8 : IVec S1024x1024 1) (main_v11 : IVec S256x1024 1) (main_v14 : IVec S1x1024 1) (main_v17 : IVec S1024 1) : IVec S8192x1024 1 × IVec S8192x256 1 × IVec S1024x1024 1 × IVec S256x1024 1 × IVec S1x1024 1 × IVec S1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x256 .f32) (main_arg2 : FVec F S1024x1024 .f32) (main_arg3 : FVec F S256x1024 .f32) (main_arg4 : FVec F S1x1024 .f32) (main_arg5 : FVec F S1024 .f32) (main_arg6 : FVec F S8192x1024 .f32) : IVec S8192x1024 1 × IVec S8192x256 1 × IVec S1024x1024 1 × IVec S256x1024 1 × IVec S1x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_pool_finite.lean ====
abbrev S8192x512 : Shape := ⟨2, ![8192, 512]⟩
abbrev S4x128x128 : Shape := ⟨3, ![4, 128, 128]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S8192x512 .f32) (main_arg1 : FVec F S4x128x128 .f32) (main_arg2 : FVec F S1x512 .f32) (main_arg3 : FVec F S8192x512 .f32) : IVec S8192x512 1 × IVec S4x128x128 1 × IVec S1x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Merged.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergedRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== AttnBwd.lean ====
abbrev S8192x512 : Shape := ⟨2, ![8192, 512]⟩
abbrev S8192x1024 : Shape := ⟨2, ![8192, 1024]⟩
abbrev S256x256 : Shape := ⟨2, ![256, 256]⟩
abbrev S_ : Shape := ⟨0, ![]⟩
abbrev S512x128 : Shape := ⟨2, ![512, 128]⟩
abbrev S8192x128 : Shape := ⟨2, ![8192, 128]⟩
abbrev S2x32x256x512 : Shape := ⟨4, ![2, 32, 256, 512]⟩
abbrev S1x128 : Shape := ⟨2, ![1, 128]⟩
abbrev S256x128 : Shape := ⟨2, ![256, 128]⟩
abbrev S256x1 : Shape := ⟨2, ![256, 1]⟩
abbrev S1x512 : Shape := ⟨2, ![1, 512]⟩
abbrev S256x512 : Shape := ⟨2, ![256, 512]⟩
abbrev S1x1x256x512 : Shape := ⟨4, ![1, 1, 256, 512]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 24
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .bf16⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S8192x512, .bf16⟩
  | .hbm, ⟨22, _⟩ => ⟨S8192x512, .bf16⟩
  | .hbm, ⟨23, _⟩ => ⟨S8192x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S256x256, .bf16⟩
  | .local _ .vmem, ⟨5, _⟩ => ⟨S256x256, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S2x32x256x512, .bf16⟩
  | .local _ .vmem, ⟨15, _⟩ => ⟨S8192x128, .f32⟩
  | .local _ .vmem, ⟨16, _⟩ => ⟨S8192x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c0_i32_16 : BitVec 32 := 0#32
  let v31 : BitVec 32 := Scalar.subi v11 c0_i32_16
  let c256_i32_17 : BitVec 32 := 256#32
  let v32 : BitVec 32 := Scalar.muli v31 c256_i32_17
  v32
def k0_off1 (i : grid0.Coords) (c0_i32_4 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c0_i32_4
  let c0_i32_16 : BitVec 32 := 0#32
  let v31 : BitVec 32 := Scalar.subi v11 c0_i32_16
  let c256_i32_17 : BitVec 32 := 256#32
  let v32 : BitVec 32 := Scalar.muli v31 c256_i32_17
  let v33 : BitVec 32 := v32
  let v34 : Index := Scalar.indexCast v33
  let c0_18 : Index := 0#32
  ![v34.toNat, 0]
def k0_off2 (i : grid0.Coords) : Fin 4 → Nat :=
  let c0_33 : Index := 0#32
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c0_i32_16 : BitVec 32 := 0#32
  let v31 : BitVec 32 := Scalar.subi v11 c0_i32_16
  let v110 : Index := Scalar.indexCast v31
  let c0_34 : Index := 0#32
  let c0_35 : Index := 0#32
  ![0, v110.toNat, 0, 0]
def k0_mult2 (i : grid0.Coords) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c0_i32_40 : BitVec 32 := 0#32
  let v133 : BitVec 32 := Scalar.subi v13 c0_i32_40
  let c256_i32_41 : BitVec 32 := 256#32
  let v134 : BitVec 32 := Scalar.muli v133 c256_i32_41
  v134
def k0_off3 (i : grid0.Coords) : Fin 4 → Nat :=
  let c1 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c0_i32_40 : BitVec 32 := 0#32
  let v133 : BitVec 32 := Scalar.subi v13 c0_i32_40
  let v212 : Index := Scalar.indexCast v133
  let c0_58 : Index := 0#32
  let c0_59 : Index := 0#32
  ![1, v212.toNat, 0, 0]
def k0_mult3 (i : grid0.Coords) (arg14 : BitVec 32) : BitVec 32 :=
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let v395 : BitVec 32 := Scalar.subi v11 arg14
  let c256_i32_122 : BitVec 32 := 256#32
  let v396 : BitVec 32 := Scalar.muli v395 c256_i32_122
  v396

def k0_off4 (i : grid0.Coords) (arg14 : BitVec 32) (c0_i32_4 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c0_i32_4
  let v395 : BitVec 32 := Scalar.subi v11 arg14
  let c256_i32_122 : BitVec 32 := 256#32
  let v396 : BitVec 32 := Scalar.muli v395 c256_i32_122
  let v397 : BitVec 32 := v396
  let v398 : Index := Scalar.indexCast v397
  let c0_123 : Index := 0#32
  ![v398.toNat, 0]
def k0_off5 (i : grid0.Coords) (arg14 : BitVec 32) : Fin 4 → Nat :=
  let c0_136 : Index := 0#32
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let v395 : BitVec 32 := Scalar.subi v11 arg14
  let v462 : Index := Scalar.indexCast v395
  let c0_137 : Index := 0#32
  let c0_138 : Index := 0#32
  ![0, v462.toNat, 0, 0]
def k0_mult4 (i : grid0.Coords) (arg14 : BitVec 32) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let v485 : BitVec 32 := Scalar.subi v13 arg14
  let c256_i32_143 : BitVec 32 := 256#32
  let v486 : BitVec 32 := Scalar.muli v485 c256_i32_143
  v486
def k0_off6 (i : grid0.Coords) (arg14 : BitVec 32) : Fin 4 → Nat :=
  let c1_157 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let v485 : BitVec 32 := Scalar.subi v13 arg14
  let v552 : Index := Scalar.indexCast v485
  let c0_158 : Index := 0#32
  let c0_159 : Index := 0#32
  ![1, v552.toNat, 0, 0]

def k0_chk1 (i : grid0.Coords) (arg14 : BitVec 32) : Prop :=
  (256 ∣ (k0_mult3 i arg14).toNat) ∧
  (∀ (r : Fin 2), ∀ a, (k0_off4 i arg14 (BitVec.ofNat 32 r.val)) a + S256x128.size a ≤ S8192x128.size a) ∧
  (∀ a, (k0_off5 i arg14) a + S1x1x256x512.size a ≤ S2x32x256x512.size a) ∧
  (∀ (hinb : ∀ a, (k0_off5 i arg14) a + S1x1x256x512.size a ≤ S2x32x256x512.size a), (Rect.unit (s := S2x32x256x512) (k0_off5 i arg14) S1x1x256x512.size hinb).PackedRows (EltTy.packing .bf16)) ∧
  (256 ∣ (k0_mult4 i arg14).toNat) ∧
  (∀ a, (k0_off6 i arg14) a + S1x1x256x512.size a ≤ S2x32x256x512.size a) ∧
  (∀ (hinb : ∀ a, (k0_off6 i arg14) a + S1x1x256x512.size a ≤ S2x32x256x512.size a), (Rect.unit (s := S2x32x256x512) (k0_off6 i arg14) S1x1x256x512.size hinb).PackedRows (EltTy.packing .bf16))
theorem k0_mult3_dvd : ∀ (i : grid0.Coords) (arg14 : BitVec 32) (k0_hw1 : k0_chk1 i arg14), 256 ∣ (k0_mult3 i arg14).toNat := fun i arg14 k0_hw1 => k0_hw1.1
theorem k0_off4_inb : ∀ (i : grid0.Coords) (arg14 : BitVec 32) (k0_hw1 : k0_chk1 i arg14), ∀ (r : Fin 2), ∀ a, (k0_off4 i arg14 (BitVec.ofNat 32 r.val)) a + S256x128.size a ≤ S8192x128.size a := fun i arg14 k0_hw1 r => k0_hw1.2.1 r
theorem k0_off5_inb : ∀ (i : grid0.Coords) (arg14 : BitVec 32) (k0_hw1 : k0_chk1 i arg14), ∀ a, (k0_off5 i arg14) a + S1x1x256x512.size a ≤ S2x32x256x512.size a := fun i arg14 k0_hw1 => k0_hw1.2.2.1
theorem k0_off5_packedbf16 : ∀ (i : grid0.Coords) (arg14 : BitVec 32) (k0_hw1 : k0_chk1 i arg14), (Rect.unit (s := S2x32x256x512) (k0_off5 i arg14) S1x1x256x512.size (k0_off5_inb i arg14 k0_hw1)).PackedRows (EltTy.packing .bf16) := fun i arg14 k0_hw1 => k0_hw1.2.2.2.1 (k0_off5_inb i arg14 k0_hw1)
theorem k0_mult4_dvd : ∀ (i : grid0.Coords) (arg14 : BitVec 32) (k0_hw1 : k0_chk1 i arg14), 256 ∣ (k0_mult4 i arg14).toNat := fun i arg14 k0_hw1 => k0_hw1.2.2.2.2.1
theorem k0_off6_inb : ∀ (i : grid0.Coords) (arg14 : BitVec 32) (k0_hw1 : k0_chk1 i arg14), ∀ a, (k0_off6 i arg14) a + S1x1x256x512.size a ≤ S2x32x256x512.size a := fun i arg14 k0_hw1 => k0_hw1.2.2.2.2.2.1
theorem k0_off6_packedbf16 : ∀ (i : grid0.Coords) (arg14 : BitVec 32) (k0_hw1 : k0_chk1 i arg14), (Rect.unit (s := S2x32x256x512) (k0_off6 i arg14) S1x1x256x512.size (k0_off6_inb i arg14 k0_hw1)).PackedRows (EltTy.packing .bf16) := fun i arg14 k0_hw1 => k0_hw1.2.2.2.2.2.2 (k0_off6_inb i arg14 k0_hw1)

def k0_mult5 (i : grid0.Coords) (arg14 : BitVec 32) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let v395 : BitVec 32 := Scalar.subi v13 arg14
  let c256_i32_122 : BitVec 32 := 256#32
  let v396 : BitVec 32 := Scalar.muli v395 c256_i32_122
  v396

def k0_off7 (i : grid0.Coords) (arg14 : BitVec 32) : Fin 2 → Nat :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let v395 : BitVec 32 := Scalar.subi v13 arg14
  let c256_i32_122 : BitVec 32 := 256#32
  let v396 : BitVec 32 := Scalar.muli v395 c256_i32_122
  let v397 : BitVec 32 := v396
  let v398 : Index := Scalar.indexCast v397
  let c0_123 : Index := 0#32
  ![v398.toNat, 0]
def k0_off8 (i : grid0.Coords) (arg14 : BitVec 32) : Fin 4 → Nat :=
  let c1_136 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let v395 : BitVec 32 := Scalar.subi v13 arg14
  let v462 : Index := Scalar.indexCast v395
  let c0_137 : Index := 0#32
  let c0_138 : Index := 0#32
  ![1, v462.toNat, 0, 0]

def k0_chk2 (i : grid0.Coords) (arg14 : BitVec 32) : Prop :=
  (256 ∣ (k0_mult5 i arg14).toNat) ∧
  (∀ a, (k0_off7 i arg14) a + S256x128.size a ≤ S8192x128.size a) ∧
  (∀ a, (k0_off8 i arg14) a + S1x1x256x512.size a ≤ S2x32x256x512.size a) ∧
  (∀ (hinb : ∀ a, (k0_off8 i arg14) a + S1x1x256x512.size a ≤ S2x32x256x512.size a), (Rect.unit (s := S2x32x256x512) (k0_off8 i arg14) S1x1x256x512.size hinb).PackedRows (EltTy.packing .bf16))
theorem k0_mult5_dvd : ∀ (i : grid0.Coords) (arg14 : BitVec 32) (k0_hw2 : k0_chk2 i arg14), 256 ∣ (k0_mult5 i arg14).toNat := fun i arg14 k0_hw2 => k0_hw2.1
theorem k0_off7_inb : ∀ (i : grid0.Coords) (arg14 : BitVec 32) (k0_hw2 : k0_chk2 i arg14), ∀ a, (k0_off7 i arg14) a + S256x128.size a ≤ S8192x128.size a := fun i arg14 k0_hw2 => k0_hw2.2.1
theorem k0_off8_inb : ∀ (i : grid0.Coords) (arg14 : BitVec 32) (k0_hw2 : k0_chk2 i arg14), ∀ a, (k0_off8 i arg14) a + S1x1x256x512.size a ≤ S2x32x256x512.size a := fun i arg14 k0_hw2 => k0_hw2.2.2.1
theorem k0_off8_packedbf16 : ∀ (i : grid0.Coords) (arg14 : BitVec 32) (k0_hw2 : k0_chk2 i arg14), (Rect.unit (s := S2x32x256x512) (k0_off8 i arg14) S1x1x256x512.size (k0_off8_inb i arg14 k0_hw2)).PackedRows (EltTy.packing .bf16) := fun i arg14 k0_hw2 => k0_hw2.2.2.2 (k0_off8_inb i arg14 k0_hw2)

@[reducible] def k0_t1_loop (v235_0 : BitVec 32) (v236_0 : BitVec 32) : Scf.Loop 32 :=
  let c0_i32_65 : BitVec 32 := 0#32
  let v237 : BitVec 32 := Scalar.subi v236_0 v235_0
  let v238 : BitVec 32 := Scalar.subi v237 c0_i32_65
  let c1_i32_66 : BitVec 32 := 1#32
  let v240 : BitVec 32 := Scalar.divsi v238 c1_i32_66
  let v241 : BitVec 32 := Scalar.muli v240 c1_i32_66
  let v242 : BitVec 32 := Scalar.addi c0_i32_65 v241
  let c1_i32_67 : BitVec 32 := 1#32
  ⟨c0_i32_65, v242, c1_i32_67⟩

def k0_mult6 (i : grid0.Coords) (v235_0 : BitVec 32) (v236_0 : BitVec 32) (k0_t1 : Fin (k0_t1_loop v235_0 v236_0).trips) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let c1_i32_67 : BitVec 32 := 1#32
  let arg14 : BitVec 32 := Scf.iv c0_i32_65 c1_i32_67 k0_t1
  let v395 : BitVec 32 := Scalar.subi v394 arg14
  let v396 : BitVec 32 := Scalar.subi v13 v395
  let c256_i32_122 : BitVec 32 := 256#32
  let v397 : BitVec 32 := Scalar.muli v396 c256_i32_122
  v397
def k0_off9 (i : grid0.Coords) (v235_0 : BitVec 32) (v236_0 : BitVec 32) (k0_t1 : Fin (k0_t1_loop v235_0 v236_0).trips) : Fin 2 → Nat :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let c1_i32_67 : BitVec 32 := 1#32
  let arg14 : BitVec 32 := Scf.iv c0_i32_65 c1_i32_67 k0_t1
  let v395 : BitVec 32 := Scalar.subi v394 arg14
  let v396 : BitVec 32 := Scalar.subi v13 v395
  let c256_i32_122 : BitVec 32 := 256#32
  let v397 : BitVec 32 := Scalar.muli v396 c256_i32_122
  let v398 : BitVec 32 := v397
  let v399 : Index := Scalar.indexCast v398
  let c0_123 : Index := 0#32
  ![v399.toNat, 0]
def k0_off10 (i : grid0.Coords) (v235_0 : BitVec 32) (v236_0 : BitVec 32) (k0_t1 : Fin (k0_t1_loop v235_0 v236_0).trips) : Fin 4 → Nat :=
  let c1_125 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let c1_i32_67 : BitVec 32 := 1#32
  let arg14 : BitVec 32 := Scf.iv c0_i32_65 c1_i32_67 k0_t1
  let v395 : BitVec 32 := Scalar.subi v394 arg14
  let v396 : BitVec 32 := Scalar.subi v13 v395
  let v409 : Index := Scalar.indexCast v396
  let c0_126 : Index := 0#32
  let c0_127 : Index := 0#32
  ![1, v409.toNat, 0, 0]
@[reducible] def k0_t2_loop (v235_0 : BitVec 32) (v236_0 : BitVec 32) : Scf.Loop 32 :=
  let c0_i32_65 : BitVec 32 := 0#32
  let v237 : BitVec 32 := Scalar.subi v236_0 v235_0
  let v238 : BitVec 32 := Scalar.subi v237 c0_i32_65
  let c1_i32_66 : BitVec 32 := 1#32
  let v240 : BitVec 32 := Scalar.divsi v238 c1_i32_66
  let v241 : BitVec 32 := Scalar.muli v240 c1_i32_66
  let v242 : BitVec 32 := Scalar.addi c0_i32_65 v241
  let v239 : BitVec 32 := Scalar.addi c0_i32_65 v238
  let c1_i32_68 : BitVec 32 := 1#32
  ⟨v242, v239, c1_i32_68⟩
def k0_mult7 (i : grid0.Coords) (v235_0 : BitVec 32) (v236_0 : BitVec 32) (k0_t2 : Fin (k0_t2_loop v235_0 v236_0).trips) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let v237 : BitVec 32 := Scalar.subi v236_0 v235_0
  let v238 : BitVec 32 := Scalar.subi v237 c0_i32_65
  let c1_i32_66 : BitVec 32 := 1#32
  let v240 : BitVec 32 := Scalar.divsi v238 c1_i32_66
  let v241 : BitVec 32 := Scalar.muli v240 c1_i32_66
  let v242 : BitVec 32 := Scalar.addi c0_i32_65 v241
  let c1_i32_68 : BitVec 32 := 1#32
  let arg14 : BitVec 32 := Scf.iv v242 c1_i32_68 k0_t2
  let v395 : BitVec 32 := Scalar.subi v394 arg14
  let v396 : BitVec 32 := Scalar.subi v13 v395
  let c256_i32_122 : BitVec 32 := 256#32
  let v397 : BitVec 32 := Scalar.muli v396 c256_i32_122
  v397
def k0_off11 (i : grid0.Coords) (v235_0 : BitVec 32) (v236_0 : BitVec 32) (k0_t2 : Fin (k0_t2_loop v235_0 v236_0).trips) : Fin 2 → Nat :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let v237 : BitVec 32 := Scalar.subi v236_0 v235_0
  let v238 : BitVec 32 := Scalar.subi v237 c0_i32_65
  let c1_i32_66 : BitVec 32 := 1#32
  let v240 : BitVec 32 := Scalar.divsi v238 c1_i32_66
  let v241 : BitVec 32 := Scalar.muli v240 c1_i32_66
  let v242 : BitVec 32 := Scalar.addi c0_i32_65 v241
  let c1_i32_68 : BitVec 32 := 1#32
  let arg14 : BitVec 32 := Scf.iv v242 c1_i32_68 k0_t2
  let v395 : BitVec 32 := Scalar.subi v394 arg14
  let v396 : BitVec 32 := Scalar.subi v13 v395
  let c256_i32_122 : BitVec 32 := 256#32
  let v397 : BitVec 32 := Scalar.muli v396 c256_i32_122
  let v398 : BitVec 32 := v397
  let v399 : Index := Scalar.indexCast v398
  let c0_123 : Index := 0#32
  ![v399.toNat, 0]
def k0_off12 (i : grid0.Coords) (v235_0 : BitVec 32) (v236_0 : BitVec 32) (k0_t2 : Fin (k0_t2_loop v235_0 v236_0).trips) : Fin 4 → Nat :=
  let c1_125 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_121 : BitVec 32 := 1#32
  let v394 : BitVec 32 := Scalar.subi v236_0 c1_i32_121
  let c0_i32_65 : BitVec 32 := 0#32
  let v237 : BitVec 32 := Scalar.subi v236_0 v235_0
  let v238 : BitVec 32 := Scalar.subi v237 c0_i32_65
  let c1_i32_66 : BitVec 32 := 1#32
  let v240 : BitVec 32 := Scalar.divsi v238 c1_i32_66
  let v241 : BitVec 32 := Scalar.muli v240 c1_i32_66
  let v242 : BitVec 32 := Scalar.addi c0_i32_65 v241
  let c1_i32_68 : BitVec 32 := 1#32
  let arg14 : BitVec 32 := Scf.iv v242 c1_i32_68 k0_t2
  let v395 : BitVec 32 := Scalar.subi v394 arg14
  let v396 : BitVec 32 := Scalar.subi v13 v395
  let v409 : Index := Scalar.indexCast v396
  let c0_126 : Index := 0#32
  let c0_127 : Index := 0#32
  ![1, v409.toNat, 0, 0]

def k0_chk3 (i : grid0.Coords) (v235_0 : BitVec 32) (v236_0 : BitVec 32) : Prop :=
  ((k0_t1_loop v235_0 v236_0).OK) ∧
  (∀ k0_t1 : Fin (k0_t1_loop v235_0 v236_0).trips, 256 ∣ (k0_mult6 i v235_0 v236_0 k0_t1).toNat) ∧
  (∀ k0_t1 : Fin (k0_t1_loop v235_0 v236_0).trips, ∀ a, (k0_off9 i v235_0 v236_0 k0_t1) a + S256x128.size a ≤ S8192x128.size a) ∧
  (∀ k0_t1 : Fin (k0_t1_loop v235_0 v236_0).trips, ∀ a, (k0_off10 i v235_0 v236_0 k0_t1) a + S1x1x256x512.size a ≤ S2x32x256x512.size a) ∧
  ((k0_t2_loop v235_0 v236_0).OK) ∧
  (∀ k0_t2 : Fin (k0_t2_loop v235_0 v236_0).trips, 256 ∣ (k0_mult7 i v235_0 v236_0 k0_t2).toNat) ∧
  (∀ k0_t2 : Fin (k0_t2_loop v235_0 v236_0).trips, ∀ a, (k0_off11 i v235_0 v236_0 k0_t2) a + S256x128.size a ≤ S8192x128.size a) ∧
  (∀ k0_t2 : Fin (k0_t2_loop v235_0 v236_0).trips, ∀ a, (k0_off12 i v235_0 v236_0 k0_t2) a + S1x1x256x512.size a ≤ S2x32x256x512.size a)
theorem k0_t1_ok : ∀ (i : grid0.Coords) (v235_0 : BitVec 32) (v236_0 : BitVec 32) (k0_hw3 : k0_chk3 i v235_0 v236_0), (k0_t1_loop v235_0 v236_0).OK := fun i v235_0 v236_0 k0_hw3 => k0_hw3.1
theorem k0_mult6_dvd : ∀ (i : grid0.Coords) (v235_0 : BitVec 32) (v236_0 : BitVec 32) (k0_hw3 : k0_chk3 i v235_0 v236_0) (k0_t1 : Fin (k0_t1_loop v235_0 v236_0).trips), 256 ∣ (k0_mult6 i v235_0 v236_0 k0_t1).toNat := fun i v235_0 v236_0 k0_hw3 k0_t1 => k0_hw3.2.1 k0_t1
theorem k0_off9_inb : ∀ (i : grid0.Coords) (v235_0 : BitVec 32) (v236_0 : BitVec 32) (k0_hw3 : k0_chk3 i v235_0 v236_0) (k0_t1 : Fin (k0_t1_loop v235_0 v236_0).trips), ∀ a, (k0_off9 i v235_0 v236_0 k0_t1) a + S256x128.size a ≤ S8192x128.size a := fun i v235_0 v236_0 k0_hw3 k0_t1 => k0_hw3.2.2.1 k0_t1
theorem k0_off10_inb : ∀ (i : grid0.Coords) (v235_0 : BitVec 32) (v236_0 : BitVec 32) (k0_hw3 : k0_chk3 i v235_0 v236_0) (k0_t1 : Fin (k0_t1_loop v235_0 v236_0).trips), ∀ a, (k0_off10 i v235_0 v236_0 k0_t1) a + S1x1x256x512.size a ≤ S2x32x256x512.size a := fun i v235_0 v236_0 k0_hw3 k0_t1 => k0_hw3.2.2.2.1 k0_t1
theorem k0_t2_ok : ∀ (i : grid0.Coords) (v235_0 : BitVec 32) (v236_0 : BitVec 32) (k0_hw3 : k0_chk3 i v235_0 v236_0), (k0_t2_loop v235_0 v236_0).OK := fun i v235_0 v236_0 k0_hw3 => k0_hw3.2.2.2.2.1
theorem k0_mult7_dvd : ∀ (i : grid0.Coords) (v235_0 : BitVec 32) (v236_0 : BitVec 32) (k0_hw3 : k0_chk3 i v235_0 v236_0) (k0_t2 : Fin (k0_t2_loop v235_0 v236_0).trips), 256 ∣ (k0_mult7 i v235_0 v236_0 k0_t2).toNat := fun i v235_0 v236_0 k0_hw3 k0_t2 => k0_hw3.2.2.2.2.2.1 k0_t2
theorem k0_off11_inb : ∀ (i : grid0.Coords) (v235_0 : BitVec 32) (v236_0 : BitVec 32) (k0_hw3 : k0_chk3 i v235_0 v236_0) (k0_t2 : Fin (k0_t2_loop v235_0 v236_0).trips), ∀ a, (k0_off11 i v235_0 v236_0 k0_t2) a + S256x128.size a ≤ S8192x128.size a := fun i v235_0 v236_0 k0_hw3 k0_t2 => k0_hw3.2.2.2.2.2.2.1 k0_t2
theorem k0_off12_inb : ∀ (i : grid0.Coords) (v235_0 : BitVec 32) (v236_0 : BitVec 32) (k0_hw3 : k0_chk3 i v235_0 v236_0) (k0_t2 : Fin (k0_t2_loop v235_0 v236_0).trips), ∀ a, (k0_off12 i v235_0 v236_0 k0_t2) a + S1x1x256x512.size a ≤ S2x32x256x512.size a := fun i v235_0 v236_0 k0_hw3 k0_t2 => k0_hw3.2.2.2.2.2.2.2 k0_t2

@[reducible] def k0_t3_loop (v235_0 : BitVec 32) : Scf.Loop 32 :=
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_72 : BitVec 32 := 1#32
  ⟨c0_i32_70, v250, c1_i32_72⟩

def k0_mult8 (i : grid0.Coords) (v235_0 : BitVec 32) (k0_t3 : Fin (k0_t3_loop v235_0).trips) : BitVec 32 :=
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c1_i32_121 : BitVec 32 := 1#32
  let v394 : BitVec 32 := Scalar.subi v235_0 c1_i32_121
  let c0_i32_70 : BitVec 32 := 0#32
  let c1_i32_72 : BitVec 32 := 1#32
  let arg14 : BitVec 32 := Scf.iv c0_i32_70 c1_i32_72 k0_t3
  let v395 : BitVec 32 := Scalar.subi v394 arg14
  let v396 : BitVec 32 := Scalar.subi v11 v395
  let c256_i32_122 : BitVec 32 := 256#32
  let v397 : BitVec 32 := Scalar.muli v396 c256_i32_122
  v397
def k0_off13 (i : grid0.Coords) (v235_0 : BitVec 32) (k0_t3 : Fin (k0_t3_loop v235_0).trips) (c0_i32_4 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c0_i32_4
  let c1_i32_121 : BitVec 32 := 1#32
  let v394 : BitVec 32 := Scalar.subi v235_0 c1_i32_121
  let c0_i32_70 : BitVec 32 := 0#32
  let c1_i32_72 : BitVec 32 := 1#32
  let arg14 : BitVec 32 := Scf.iv c0_i32_70 c1_i32_72 k0_t3
  let v395 : BitVec 32 := Scalar.subi v394 arg14
  let v396 : BitVec 32 := Scalar.subi v11 v395
  let c256_i32_122 : BitVec 32 := 256#32
  let v397 : BitVec 32 := Scalar.muli v396 c256_i32_122
  let v398 : BitVec 32 := v397
  let v399 : Index := Scalar.indexCast v398
  let c0_123 : Index := 0#32
  ![v399.toNat, 0]
def k0_off14 (i : grid0.Coords) (v235_0 : BitVec 32) (k0_t3 : Fin (k0_t3_loop v235_0).trips) : Fin 4 → Nat :=
  let c0_125 : Index := 0#32
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c1_i32_121 : BitVec 32 := 1#32
  let v394 : BitVec 32 := Scalar.subi v235_0 c1_i32_121
  let c0_i32_70 : BitVec 32 := 0#32
  let c1_i32_72 : BitVec 32 := 1#32
  let arg14 : BitVec 32 := Scf.iv c0_i32_70 c1_i32_72 k0_t3
  let v395 : BitVec 32 := Scalar.subi v394 arg14
  let v396 : BitVec 32 := Scalar.subi v11 v395
  let v409 : Index := Scalar.indexCast v396
  let c0_126 : Index := 0#32
  let c0_127 : Index := 0#32
  ![0, v409.toNat, 0, 0]
def k0_mult9 (i : grid0.Coords) (v235_0 : BitVec 32) (k0_t3 : Fin (k0_t3_loop v235_0).trips) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_139 : BitVec 32 := 1#32
  let v465 : BitVec 32 := Scalar.subi v235_0 c1_i32_139
  let c0_i32_70 : BitVec 32 := 0#32
  let c1_i32_72 : BitVec 32 := 1#32
  let arg14 : BitVec 32 := Scf.iv c0_i32_70 c1_i32_72 k0_t3
  let v466 : BitVec 32 := Scalar.subi v465 arg14
  let v467 : BitVec 32 := Scalar.subi v13 v466
  let c256_i32_140 : BitVec 32 := 256#32
  let v468 : BitVec 32 := Scalar.muli v467 c256_i32_140
  v468
def k0_off15 (i : grid0.Coords) (v235_0 : BitVec 32) (k0_t3 : Fin (k0_t3_loop v235_0).trips) : Fin 4 → Nat :=
  let c1_143 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_139 : BitVec 32 := 1#32
  let v465 : BitVec 32 := Scalar.subi v235_0 c1_i32_139
  let c0_i32_70 : BitVec 32 := 0#32
  let c1_i32_72 : BitVec 32 := 1#32
  let arg14 : BitVec 32 := Scf.iv c0_i32_70 c1_i32_72 k0_t3
  let v466 : BitVec 32 := Scalar.subi v465 arg14
  let v467 : BitVec 32 := Scalar.subi v13 v466
  let v480 : Index := Scalar.indexCast v467
  let c0_144 : Index := 0#32
  let c0_145 : Index := 0#32
  ![1, v480.toNat, 0, 0]
@[reducible] def k0_t4_loop (v235_0 : BitVec 32) : Scf.Loop 32 :=
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let v247 : BitVec 32 := Scalar.addi c0_i32_70 v246
  let c1_i32_73 : BitVec 32 := 1#32
  ⟨v250, v247, c1_i32_73⟩
def k0_mult10 (i : grid0.Coords) (v235_0 : BitVec 32) (k0_t4 : Fin (k0_t4_loop v235_0).trips) : BitVec 32 :=
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c1_i32_121 : BitVec 32 := 1#32
  let v394 : BitVec 32 := Scalar.subi v235_0 c1_i32_121
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_73 : BitVec 32 := 1#32
  let arg14 : BitVec 32 := Scf.iv v250 c1_i32_73 k0_t4
  let v395 : BitVec 32 := Scalar.subi v394 arg14
  let v396 : BitVec 32 := Scalar.subi v11 v395
  let c256_i32_122 : BitVec 32 := 256#32
  let v397 : BitVec 32 := Scalar.muli v396 c256_i32_122
  v397
def k0_off16 (i : grid0.Coords) (v235_0 : BitVec 32) (k0_t4 : Fin (k0_t4_loop v235_0).trips) (c0_i32_4 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c0_i32_4
  let c1_i32_121 : BitVec 32 := 1#32
  let v394 : BitVec 32 := Scalar.subi v235_0 c1_i32_121
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_73 : BitVec 32 := 1#32
  let arg14 : BitVec 32 := Scf.iv v250 c1_i32_73 k0_t4
  let v395 : BitVec 32 := Scalar.subi v394 arg14
  let v396 : BitVec 32 := Scalar.subi v11 v395
  let c256_i32_122 : BitVec 32 := 256#32
  let v397 : BitVec 32 := Scalar.muli v396 c256_i32_122
  let v398 : BitVec 32 := v397
  let v399 : Index := Scalar.indexCast v398
  let c0_123 : Index := 0#32
  ![v399.toNat, 0]
def k0_off17 (i : grid0.Coords) (v235_0 : BitVec 32) (k0_t4 : Fin (k0_t4_loop v235_0).trips) : Fin 4 → Nat :=
  let c0_125 : Index := 0#32
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c1_i32_121 : BitVec 32 := 1#32
  let v394 : BitVec 32 := Scalar.subi v235_0 c1_i32_121
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_73 : BitVec 32 := 1#32
  let arg14 : BitVec 32 := Scf.iv v250 c1_i32_73 k0_t4
  let v395 : BitVec 32 := Scalar.subi v394 arg14
  let v396 : BitVec 32 := Scalar.subi v11 v395
  let v409 : Index := Scalar.indexCast v396
  let c0_126 : Index := 0#32
  let c0_127 : Index := 0#32
  ![0, v409.toNat, 0, 0]
def k0_mult11 (i : grid0.Coords) (v235_0 : BitVec 32) (k0_t4 : Fin (k0_t4_loop v235_0).trips) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_139 : BitVec 32 := 1#32
  let v465 : BitVec 32 := Scalar.subi v235_0 c1_i32_139
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_73 : BitVec 32 := 1#32
  let arg14 : BitVec 32 := Scf.iv v250 c1_i32_73 k0_t4
  let v466 : BitVec 32 := Scalar.subi v465 arg14
  let v467 : BitVec 32 := Scalar.subi v13 v466
  let c256_i32_140 : BitVec 32 := 256#32
  let v468 : BitVec 32 := Scalar.muli v467 c256_i32_140
  v468
def k0_off18 (i : grid0.Coords) (v235_0 : BitVec 32) (k0_t4 : Fin (k0_t4_loop v235_0).trips) : Fin 4 → Nat :=
  let c1_143 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c1_i32_139 : BitVec 32 := 1#32
  let v465 : BitVec 32 := Scalar.subi v235_0 c1_i32_139
  let c0_i32_70 : BitVec 32 := 0#32
  let c1_i32_69 : BitVec 32 := 1#32
  let v245 : BitVec 32 := Scalar.subi v235_0 c1_i32_69
  let v246 : BitVec 32 := Scalar.subi v245 c0_i32_70
  let c1_i32_71 : BitVec 32 := 1#32
  let v248 : BitVec 32 := Scalar.divsi v246 c1_i32_71
  let v249 : BitVec 32 := Scalar.muli v248 c1_i32_71
  let v250 : BitVec 32 := Scalar.addi c0_i32_70 v249
  let c1_i32_73 : BitVec 32 := 1#32
  let arg14 : BitVec 32 := Scf.iv v250 c1_i32_73 k0_t4
  let v466 : BitVec 32 := Scalar.subi v465 arg14
  let v467 : BitVec 32 := Scalar.subi v13 v466
  let v480 : Index := Scalar.indexCast v467
  let c0_144 : Index := 0#32
  let c0_145 : Index := 0#32
  ![1, v480.toNat, 0, 0]

def k0_chk4 (i : grid0.Coords) (v235_0 : BitVec 32) : Prop :=
  ((k0_t3_loop v235_0).OK) ∧
  (∀ k0_t3 : Fin (k0_t3_loop v235_0).trips, 256 ∣ (k0_mult8 i v235_0 k0_t3).toNat) ∧
  (∀ k0_t3 : Fin (k0_t3_loop v235_0).trips, ∀ (r : Fin 2), ∀ a, (k0_off13 i v235_0 k0_t3 (BitVec.ofNat 32 r.val)) a + S256x128.size a ≤ S8192x128.size a) ∧
  (∀ k0_t3 : Fin (k0_t3_loop v235_0).trips, ∀ a, (k0_off14 i v235_0 k0_t3) a + S1x1x256x512.size a ≤ S2x32x256x512.size a) ∧
  (∀ k0_t3 : Fin (k0_t3_loop v235_0).trips, 256 ∣ (k0_mult9 i v235_0 k0_t3).toNat) ∧
  (∀ k0_t3 : Fin (k0_t3_loop v235_0).trips, ∀ a, (k0_off15 i v235_0 k0_t3) a + S1x1x256x512.size a ≤ S2x32x256x512.size a) ∧
  ((k0_t4_loop v235_0).OK) ∧
  (∀ k0_t4 : Fin (k0_t4_loop v235_0).trips, 256 ∣ (k0_mult10 i v235_0 k0_t4).toNat) ∧
  (∀ k0_t4 : Fin (k0_t4_loop v235_0).trips, ∀ (r : Fin 2), ∀ a, (k0_off16 i v235_0 k0_t4 (BitVec.ofNat 32 r.val)) a + S256x128.size a ≤ S8192x128.size a) ∧
  (∀ k0_t4 : Fin (k0_t4_loop v235_0).trips, ∀ a, (k0_off17 i v235_0 k0_t4) a + S1x1x256x512.size a ≤ S2x32x256x512.size a) ∧
  (∀ k0_t4 : Fin (k0_t4_loop v235_0).trips, 256 ∣ (k0_mult11 i v235_0 k0_t4).toNat) ∧
  (∀ k0_t4 : Fin (k0_t4_loop v235_0).trips, ∀ a, (k0_off18 i v235_0 k0_t4) a + S1x1x256x512.size a ≤ S2x32x256x512.size a)
theorem k0_t3_ok : ∀ (i : grid0.Coords) (v235_0 : BitVec 32) (k0_hw4 : k0_chk4 i v235_0), (k0_t3_loop v235_0).OK := fun i v235_0 k0_hw4 => k0_hw4.1
theorem k0_mult8_dvd : ∀ (i : grid0.Coords) (v235_0 : BitVec 32) (k0_hw4 : k0_chk4 i v235_0) (k0_t3 : Fin (k0_t3_loop v235_0).trips), 256 ∣ (k0_mult8 i v235_0 k0_t3).toNat := fun i v235_0 k0_hw4 k0_t3 => k0_hw4.2.1 k0_t3
theorem k0_off13_inb : ∀ (i : grid0.Coords) (v235_0 : BitVec 32) (k0_hw4 : k0_chk4 i v235_0) (k0_t3 : Fin (k0_t3_loop v235_0).trips), ∀ (r : Fin 2), ∀ a, (k0_off13 i v235_0 k0_t3 (BitVec.ofNat 32 r.val)) a + S256x128.size a ≤ S8192x128.size a := fun i v235_0 k0_hw4 k0_t3 r => k0_hw4.2.2.1 k0_t3 r
theorem k0_off14_inb : ∀ (i : grid0.Coords) (v235_0 : BitVec 32) (k0_hw4 : k0_chk4 i v235_0) (k0_t3 : Fin (k0_t3_loop v235_0).trips), ∀ a, (k0_off14 i v235_0 k0_t3) a + S1x1x256x512.size a ≤ S2x32x256x512.size a := fun i v235_0 k0_hw4 k0_t3 => k0_hw4.2.2.2.1 k0_t3
theorem k0_mult9_dvd : ∀ (i : grid0.Coords) (v235_0 : BitVec 32) (k0_hw4 : k0_chk4 i v235_0) (k0_t3 : Fin (k0_t3_loop v235_0).trips), 256 ∣ (k0_mult9 i v235_0 k0_t3).toNat := fun i v235_0 k0_hw4 k0_t3 => k0_hw4.2.2.2.2.1 k0_t3
theorem k0_off15_inb : ∀ (i : grid0.Coords) (v235_0 : BitVec 32) (k0_hw4 : k0_chk4 i v235_0) (k0_t3 : Fin (k0_t3_loop v235_0).trips), ∀ a, (k0_off15 i v235_0 k0_t3) a + S1x1x256x512.size a ≤ S2x32x256x512.size a := fun i v235_0 k0_hw4 k0_t3 => k0_hw4.2.2.2.2.2.1 k0_t3
theorem k0_t4_ok : ∀ (i : grid0.Coords) (v235_0 : BitVec 32) (k0_hw4 : k0_chk4 i v235_0), (k0_t4_loop v235_0).OK := fun i v235_0 k0_hw4 => k0_hw4.2.2.2.2.2.2.1
theorem k0_mult10_dvd : ∀ (i : grid0.Coords) (v235_0 : BitVec 32) (k0_hw4 : k0_chk4 i v235_0) (k0_t4 : Fin (k0_t4_loop v235_0).trips), 256 ∣ (k0_mult10 i v235_0 k0_t4).toNat := fun i v235_0 k0_hw4 k0_t4 => k0_hw4.2.2.2.2.2.2.2.1 k0_t4
theorem k0_off16_inb : ∀ (i : grid0.Coords) (v235_0 : BitVec 32) (k0_hw4 : k0_chk4 i v235_0) (k0_t4 : Fin (k0_t4_loop v235_0).trips), ∀ (r : Fin 2), ∀ a, (k0_off16 i v235_0 k0_t4 (BitVec.ofNat 32 r.val)) a + S256x128.size a ≤ S8192x128.size a := fun i v235_0 k0_hw4 k0_t4 r => k0_hw4.2.2.2.2.2.2.2.2.1 k0_t4 r
theorem k0_off17_inb : ∀ (i : grid0.Coords) (v235_0 : BitVec 32) (k0_hw4 : k0_chk4 i v235_0) (k0_t4 : Fin (k0_t4_loop v235_0).trips), ∀ a, (k0_off17 i v235_0 k0_t4) a + S1x1x256x512.size a ≤ S2x32x256x512.size a := fun i v235_0 k0_hw4 k0_t4 => k0_hw4.2.2.2.2.2.2.2.2.2.1 k0_t4
theorem k0_mult11_dvd : ∀ (i : grid0.Coords) (v235_0 : BitVec 32) (k0_hw4 : k0_chk4 i v235_0) (k0_t4 : Fin (k0_t4_loop v235_0).trips), 256 ∣ (k0_mult11 i v235_0 k0_t4).toNat := fun i v235_0 k0_hw4 k0_t4 => k0_hw4.2.2.2.2.2.2.2.2.2.2.1 k0_t4
theorem k0_off18_inb : ∀ (i : grid0.Coords) (v235_0 : BitVec 32) (k0_hw4 : k0_chk4 i v235_0) (k0_t4 : Fin (k0_t4_loop v235_0).trips), ∀ a, (k0_off18 i v235_0 k0_t4) a + S1x1x256x512.size a ≤ S2x32x256x512.size a := fun i v235_0 k0_hw4 k0_t4 => k0_hw4.2.2.2.2.2.2.2.2.2.2.2 k0_t4

def k0_mult12 (i : grid0.Coords) : BitVec 32 :=
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c0_i32_74 : BitVec 32 := 0#32
  let v253 : BitVec 32 := Scalar.subi v11 c0_i32_74
  let c256_i32_75 : BitVec 32 := 256#32
  let v254 : BitVec 32 := Scalar.muli v253 c256_i32_75
  v254
def k0_off19 (i : grid0.Coords) (c0_i32_4 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c0_i32_4
  let c0_i32_74 : BitVec 32 := 0#32
  let v253 : BitVec 32 := Scalar.subi v11 c0_i32_74
  let c256_i32_75 : BitVec 32 := 256#32
  let v254 : BitVec 32 := Scalar.muli v253 c256_i32_75
  let v255 : BitVec 32 := v254
  let v256 : Index := Scalar.indexCast v255
  let c0_76 : Index := 0#32
  ![v256.toNat, 0]
def k0_off20 (i : grid0.Coords) : Fin 4 → Nat :=
  let c0_78 : Index := 0#32
  let c2_i32 : BitVec 32 := 2#32
  let arg1 : BitVec 32 := BitVec.ofNat 32 (i 1).val
  let v10 : BitVec 32 := Scalar.muli c2_i32 arg1
  let c0_i32_4 : BitVec 32 := 0#32
  let v11 : BitVec 32 := Scalar.addi v10 c0_i32_4
  let c0_i32_74 : BitVec 32 := 0#32
  let v253 : BitVec 32 := Scalar.subi v11 c0_i32_74
  let v266 : Index := Scalar.indexCast v253
  let c0_79 : Index := 0#32
  let c0_80 : Index := 0#32
  ![0, v266.toNat, 0, 0]
def k0_mult13 (i : grid0.Coords) : BitVec 32 :=
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c0_i32_97 : BitVec 32 := 0#32
  let v322 : BitVec 32 := Scalar.subi v13 c0_i32_97
  let c256_i32_98 : BitVec 32 := 256#32
  let v323 : BitVec 32 := Scalar.muli v322 c256_i32_98
  v323
def k0_off21 (i : grid0.Coords) : Fin 4 → Nat :=
  let c1_101 : Index := 1#32
  let c2_i32_5 : BitVec 32 := 2#32
  let arg1 : BitVec 32 := BitVec.ofNat 32 (i 1).val
  let v12 : BitVec 32 := Scalar.muli c2_i32_5 arg1
  let c1_i32 : BitVec 32 := 1#32
  let v13 : BitVec 32 := Scalar.addi v12 c1_i32
  let c0_i32_97 : BitVec 32 := 0#32
  let v322 : BitVec 32 := Scalar.subi v13 c0_i32_97
  let v335 : Index := Scalar.indexCast v322
  let c0_102 : Index := 0#32
  let c0_103 : Index := 0#32
  ![1, v335.toNat, 0, 0]
def k0_cond2 (i : grid0.Coords) : BitVec 1 :=
  let arg1 : BitVec 32 := BitVec.ofNat 32 (i 1).val
  let c15_i32 : BitVec 32 := 15#32
  let v391 : BitVec 1 := Scalar.cmpi .eq arg1 c15_i32
  let v392 : BitVec 32 := Scalar.extui v391
  let c0_i32_120 : BitVec 32 := 0#32
  let v393 : BitVec 1 := Scalar.cmpi .ne v392 c0_i32_120
  v393

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdIdeal.lean ====
variable {F : FTy → Type} [FloatOps F] [Named F]
def κ : String → Option EReal := fun
  | "exit" => some ⊥
  | "log2e" => some (((Real.log 2)⁻¹ : ℝ) : EReal)
  | "mask" => some ⊥
  | _ => none
-- ==== AttnBwdRefIdeal.lean ====
abbrev S8192x512 : Shape := ⟨2, ![8192, 512]⟩
abbrev S8192x1024 : Shape := ⟨2, ![8192, 1024]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 183
  | .vmem => 0
  | .smem => 0
  | _ => 0

abbrev hbmTy0_0 (i : Nat) : BufTy := match i % 128 with
  | 0 => ⟨S8192x512, .bf16⟩
  | 1 => ⟨S8192x1024, .bf16⟩
  | 2 => ⟨S8192x512, .bf16⟩
  | 3 => ⟨S8192x512, .f32⟩
  | 4 => ⟨S8192x1024, .f32⟩
  | 5 => ⟨S8192x512, .f32⟩
  | 6 => ⟨S8192x512, .f32⟩
  | 7 => ⟨S8192x512, .f32⟩
  | 8 => ⟨S8192x8x64, .f32⟩
  | 9 => ⟨S8x8192x64, .f32⟩
  | 10 => ⟨S8192x8x64, .f32⟩
  | 11 => ⟨S8x8192x64, .f32⟩
  | 12 => ⟨S8192x8x64, .f32⟩
  | 13 => ⟨S8x8192x64, .f32⟩
  | 14 => ⟨S8x8192x8192, .f32⟩
  | 15 => ⟨S_, .f32⟩
  | 16 => ⟨S8x8192x8192, .f32⟩
  | 17 => ⟨S8x8192x8192, .f32⟩
  | 18 => ⟨S8192, .i32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8192, .f32⟩
  | 84 => ⟨S8x8192x8192, .f32⟩
  | 85 => ⟨S_, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .i1⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S_, .f32⟩
  | 106 => ⟨S8x8192x8192, .f32⟩
  | 107 => ⟨S8x8192x8192, .i1⟩
  | 108 => ⟨S_, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x8192x8192, .f32⟩
  | 121 => ⟨S8x8192x8192, .i1⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x512, .bf16⟩

abbrev hbmTy0_1 (i : Nat) : BufTy := match i % 128 with
  | 0 => ⟨S_, .f32⟩
  | 1 => ⟨S8x8192x8192, .f32⟩
  | 2 => ⟨S8x8192x8192, .f32⟩
  | 3 => ⟨S8x8192x8192, .f32⟩
  | 4 => ⟨S8x8192x8192, .f32⟩
  | 5 => ⟨S8x8192x8192, .f32⟩
  | 6 => ⟨S_, .f32⟩
  | 7 => ⟨S_, .f32⟩
  | 8 => ⟨S8x8192x8192, .i1⟩
  | 9 => ⟨S8x8192x8192, .f32⟩
  | 10 => ⟨S8x8192x8192, .f32⟩
  | 11 => ⟨S_, .f32⟩
  | 12 => ⟨S8x8192x8192, .f32⟩
  | 13 => ⟨S8x8192x64, .f32⟩
  | 14 => ⟨S8192x8x64, .f32⟩
  | 15 => ⟨S8192x512, .f32⟩
  | 16 => ⟨S8192x8x64, .f32⟩
  | 17 => ⟨S8x8192x64, .f32⟩
  | 18 => ⟨S8x64x8192, .f32⟩
  | 19 => ⟨S8x8192x64, .f32⟩
  | 20 => ⟨S8x8192x8192, .f32⟩
  | 21 => ⟨S_, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S_, .f32⟩
  | 30 => ⟨S_, .f32⟩
  | 31 => ⟨S8x8192x8192, .f32⟩
  | 32 => ⟨S8x8192x8192, .f32⟩
  | 33 => ⟨S_, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S_, .f32⟩
  | 42 => ⟨S8x8192x8192, .f32⟩
  | 43 => ⟨S8x8192x8192, .f32⟩
  | 44 => ⟨S8x8192x64, .f32⟩
  | 45 => ⟨S8x8192x64, .f32⟩
  | 46 => ⟨S8192x8x64, .f32⟩
  | 47 => ⟨S8192x512, .f32⟩
  | 48 => ⟨S8192x8x64, .f32⟩
  | 49 => ⟨S8192x512, .f32⟩
  | 50 => ⟨S8192x8x64, .f32⟩
  | 51 => ⟨S8192x512, .f32⟩
  | 52 => ⟨S8192x512, .bf16⟩
  | 53 => ⟨S8192x512, .bf16⟩
  | 54 => ⟨S8192x512, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v21_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v21_2 : Ref sig .tc := ⟨.hbm, 71, rfl⟩
abbrev main_v21_0 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_cst : Ref sig .tc := ⟨.hbm, 80, rfl⟩
abbrev main_call2_v0 : Ref sig .tc := ⟨.hbm, 81, rfl⟩
abbrev main_v23 : Ref sig .tc := ⟨.hbm, 82, rfl⟩
abbrev main_v24 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v25_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v25_2 : Ref sig .tc := ⟨.hbm, 130, rfl⟩
abbrev main_v25_0 : Ref sig .tc := ⟨.hbm, 131, rfl⟩
abbrev main_v26 : Ref sig .tc := ⟨.hbm, 132, rfl⟩
abbrev main_v27 : Ref sig .tc := ⟨.hbm, 133, rfl⟩
abbrev main_cst_1 : Ref sig .tc := ⟨.hbm, 134, rfl⟩
abbrev main_call4_v0 : Ref sig .tc := ⟨.hbm, 135, rfl⟩
abbrev main_v28_1 : Ref sig .tc := ⟨.hbm, 136, rfl⟩
abbrev main_call4_v2 : Ref sig .tc := ⟨.hbm, 137, rfl⟩
abbrev main_v28_0 : Ref sig .tc := ⟨.hbm, 138, rfl⟩
abbrev main_call4_cst : Ref sig .tc := ⟨.hbm, 139, rfl⟩
abbrev main_v28_2 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_call5_cst : Ref sig .tc := ⟨.hbm, 149, rfl⟩
abbrev main_call5_v0 : Ref sig .tc := ⟨.hbm, 150, rfl⟩
abbrev main_v37 : Ref sig .tc := ⟨.hbm, 151, rfl⟩
abbrev main_v38 : Ref sig .tc := ⟨.hbm, 152, rfl⟩
abbrev main_call6_v0 : Ref sig .tc := ⟨.hbm, 153, rfl⟩
abbrev main_call6_v1 : Ref sig .tc := ⟨.hbm, 154, rfl⟩
abbrev main_v39 : Ref sig .tc := ⟨.hbm, 155, rfl⟩
abbrev main_v40 : Ref sig .tc := ⟨.hbm, 156, rfl⟩
abbrev main_call7_cst : Ref sig .tc := ⟨.hbm, 157, rfl⟩
abbrev main_call7_v0 : Ref sig .tc := ⟨.hbm, 158, rfl⟩
abbrev main_v41 : Ref sig .tc := ⟨.hbm, 159, rfl⟩
abbrev main_v42 : Ref sig .tc := ⟨.hbm, 160, rfl⟩
abbrev main_call8_cst : Ref sig .tc := ⟨.hbm, 161, rfl⟩
abbrev main_call8_v0 : Ref sig .tc := ⟨.hbm, 162, rfl⟩
abbrev main_v43 : Ref sig .tc := ⟨.hbm, 163, rfl⟩
abbrev main_call9_v0 : Ref sig .tc := ⟨.hbm, 164, rfl⟩
abbrev main_call9_v1 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_cst_2 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 39
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S2816x1024, .f32⟩
  | .hbm, ⟨24, _⟩ => ⟨S2816x1024, .bf16⟩
  | .hbm, ⟨25, _⟩ => ⟨S2816x1024, .f32⟩
  | .hbm, ⟨26, _⟩ => ⟨S2816x1024, .bf16⟩
  | .hbm, ⟨27, _⟩ => ⟨S2816x1024, .bf16⟩
  | .hbm, ⟨28, _⟩ => ⟨S8192x2816, .bf16⟩
  | .hbm, ⟨29, _⟩ => ⟨S8192x2816, .bf16⟩
  | .hbm, ⟨30, _⟩ => ⟨S8192x2816, .bf16⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x2816, .bf16⟩
  | .hbm, ⟨35, _⟩ => ⟨S8192x2816, .bf16⟩
  | .hbm, ⟨36, _⟩ => ⟨S8192x1024, .f32⟩
  | .hbm, ⟨37, _⟩ => ⟨S8192x1024, .bf16⟩
  | .hbm, ⟨38, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S2816x1024, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S256x1024, .f32⟩
  | .local _ .vmem, ⟨29, _⟩ => ⟨S256x1024, .f32⟩
  | .local _ .vmem, ⟨30, _⟩ => ⟨S2816x1024, .bf16⟩
  | .local _ .vmem, ⟨31, _⟩ => ⟨S2816x1024, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x1024, .f32⟩
  | .local _ .vmem, ⟨37, _⟩ => ⟨S256x1024, .f32⟩
  | .local _ .vmem, ⟨38, _⟩ => ⟨S256x1024, .bf16⟩
  | .local _ .vmem, ⟨39, _⟩ => ⟨S256x1024, .bf16⟩
  | .local _ .vmem, ⟨40, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem8_0 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![false, true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![false, true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== FfnRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192x2816, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S8192x2816, .bf16⟩
  | .hbm, ⟨107, _⟩ => ⟨S8192x2816, .bf16⟩
  | .hbm, ⟨108, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v20_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v20_1 : Ref sig .tc := ⟨.hbm, 43, rfl⟩
abbrev main_v20_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x1024, .bf16⟩
  | .hbm, ⟨24, _⟩ => ⟨S256x1024, .bf16⟩
  | .hbm, ⟨25, _⟩ => ⟨S1x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S1x1024, .f32⟩
  | .hbm, ⟨31, _⟩ => ⟨S1x1024, .f32⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== PleRefIdeal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S8192x256, .f32⟩
  | 2 => ⟨S1024x1024, .f32⟩
  | 3 => ⟨S256x1024, .f32⟩
  | 4 => ⟨S1x1024, .f32⟩
  | 5 => ⟨S1024, .f32⟩
  | 6 => ⟨S8192x1024, .f32⟩
  | 7 => ⟨S_, .f32⟩
  | 8 => ⟨S8192x1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S_, .f32⟩
  | 84 => ⟨S1024, .f32⟩
  | 85 => ⟨S1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S8192x1024, .bf16⟩
  | 20 => ⟨S8192x1024, .bf16⟩
  | 21 => ⟨S8192x1024, .bf16⟩
  | 22 => ⟨S1x1024, .f32⟩
  | 23 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_21 : Ref sig .tc := ⟨.hbm, 106, rfl⟩
abbrev main_v77 : Ref sig .tc := ⟨.hbm, 107, rfl⟩
abbrev main_v78 : Ref sig .tc := ⟨.hbm, 108, rfl⟩
abbrev main_cst_22 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_23 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_24 : Ref sig .tc := ⟨.hbm, 126, rfl⟩
abbrev main_v94 : Ref sig .tc := ⟨.hbm, 127, rfl⟩
abbrev main_v95 : Ref sig .tc := ⟨.hbm, 128, rfl⟩
abbrev main_cst_25 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_26 : Ref sig .tc := ⟨.hbm, 136, rfl⟩
abbrev main_v102 : Ref sig .tc := ⟨.hbm, 137, rfl⟩
abbrev main_v103 : Ref sig .tc := ⟨.hbm, 138, rfl⟩
abbrev main_cst_27 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩

abbrev nD : Nat := 1
abbrev τ : Topo := Topo.v7x

variable {F : FTy → Type} [FloatOps F]
-- ==== NormMix.lean ====
abbrev S8192x1024 : Shape := ⟨2, ![8192, 1024]⟩
abbrev S1x1024 : Shape := ⟨2, ![1, 1024]⟩
abbrev S1024x4096 : Shape := ⟨2, ![1024, 4096]⟩
abbrev S8192x512 : Shape := ⟨2, ![8192, 512]⟩
abbrev S1024x1024 : Shape := ⟨2, ![1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S1024x4096, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S8192x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== NormMixRefIdeal.lean ====
abbrev S8192x1024 : Shape := ⟨2, ![8192, 1024]⟩
abbrev S1x1024 : Shape := ⟨2, ![1, 1024]⟩
abbrev S1024x4096 : Shape := ⟨2, ![1024, 4096]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x1024, .f32⟩
  | .hbm, ⟨16, _⟩ => ⟨S1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x4096, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .f32⟩
  | .hbm, ⟨44, _⟩ => ⟨S8192x4096, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Pool.lean ====
abbrev S8192x512 : Shape := ⟨2, ![8192, 512]⟩
abbrev S4x128x128 : Shape := ⟨3, ![4, 128, 128]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S528x1 : Shape := ⟨2, ![528, 1]⟩
abbrev S128 : Shape := ⟨1, ![128]⟩

abbrev nBuf : Space → Nat
  | .hbm => 10
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S1x512, .f32⟩
  | .hbm, ⟨3, _⟩ => ⟨S8192x512, .f32⟩
  | .hbm, ⟨4, _⟩ => ⟨S4x128x128, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S4x128x128, .f32⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S16x512, .f32⟩
  | .local _ .vmem, ⟨13, _⟩ => ⟨S16x512, .f32⟩
  | .local _ .vmem, ⟨14, _⟩ => ⟨S512x512, .bf16⟩
  | .local _ .vmem, ⟨15, _⟩ => ⟨S512x512, .bf16⟩
  | .local _ .vmem, ⟨16, _⟩ => ⟨S4x128x128, .bf16⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S4x128x128, .f32⟩
  | .local _ .vmem, ⟨21, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== PoolRefIdeal.lean ====
abbrev S8192x512 : Shape := ⟨2, ![8192, 512]⟩
abbrev S4x128x128 : Shape := ⟨3, ![4, 128, 128]⟩
abbrev S1x512 : Shape := ⟨2, ![1, 512]⟩
abbrev S1x8192x512 : Shape := ⟨3, ![1, 8192, 512]⟩
abbrev S512 : Shape := ⟨1, ![512]⟩
abbrev S_ : Shape := ⟨0, ![]⟩
abbrev S8192 : Shape := ⟨1, ![8192]⟩
abbrev S1x8192x128 : Shape := ⟨3, ![1, 8192, 128]⟩
abbrev S1x2x128 : Shape := ⟨3, ![1, 2, 128]⟩
abbrev S1x8190x128 : Shape := ⟨3, ![1, 8190, 128]⟩
abbrev S1x8192x1 : Shape := ⟨3, ![1, 8192, 1]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x1x512 : Shape := ⟨3, ![1, 1, 512]⟩
abbrev S4x1x8192x128 : Shape := ⟨4, ![4, 1, 8192, 128]⟩

abbrev nBuf : Space → Nat
  | .hbm => 192
  | .vmem => 0
  | .smem => 0
  | _ => 0

abbrev hbmTy0_0 (i : Nat) : BufTy := match i % 128 with
  | 0 => ⟨S8192x512, .f32⟩
  | 1 => ⟨S4x128x128, .f32⟩
  | 2 => ⟨S1x512, .f32⟩
  | 3 => ⟨S8192x512, .f32⟩
  | 4 => ⟨S1x8192x512, .f32⟩
  | 5 => ⟨S512, .f32⟩
  | 6 => ⟨S_, .f32⟩
  | 7 => ⟨S_, .f32⟩
  | 8 => ⟨S1x8192x512, .f32⟩
  | 9 => ⟨S8192, .i32⟩
  | 10 => ⟨S1x8192x128, .f32⟩
  | 11 => ⟨S_, .f32⟩
  | 12 => ⟨S1x2x128, .f32⟩
  | 13 => ⟨S1x8190x128, .f32⟩
  | 14 => ⟨S1x8192x128, .f32⟩
  | 15 => ⟨S_, .f32⟩
  | 16 => ⟨S1x2x128, .f32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S8192, .f32⟩
  | 24 => ⟨S1x8192x1, .f32⟩
  | 25 => ⟨S1x8192x128, .f32⟩
  | 26 => ⟨S1x8192x128, .f32⟩
  | 27 => ⟨S1x8192x128, .f32⟩
  | 28 => ⟨S1x8192x128, .f32⟩
  | 29 => ⟨S1x8192x128, .f32⟩
  | 30 => ⟨S1x8192x128, .f32⟩
  | 31 => ⟨S_, .f32⟩
  | 32 => ⟨S1x4x128, .f32⟩
  | 33 => ⟨S1x8188x128, .f32⟩
  | 34 => ⟨S1x8192x128, .f32⟩
  | 35 => ⟨S_, .f32⟩
  | 36 => ⟨S1x4x128, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S1x8192x1, .f32⟩
  | 45 => ⟨S1x8192x128, .f32⟩
  | 46 => ⟨S1x8192x128, .f32⟩
  | 47 => ⟨S1x8192x128, .f32⟩
  | 48 => ⟨S1x8192x128, .f32⟩
  | 49 => ⟨S1x8192x128, .f32⟩
  | 50 => ⟨S1x8192x128, .f32⟩
  | 51 => ⟨S_, .f32⟩
  | 52 => ⟨S1x8x128, .f32⟩
  | 53 => ⟨S1x8184x128, .f32⟩
  | 54 => ⟨S1x8192x128, .f32⟩
  | 55 => ⟨S_, .f32⟩
  | 56 => ⟨S1x8x128, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S1x8192x1, .f32⟩
  | 65 => ⟨S1x8192x128, .f32⟩
  | 66 => ⟨S1x8192x128, .f32⟩
  | 67 => ⟨S1x8192x128, .f32⟩
  | 68 => ⟨S1x8192x128, .f32⟩
  | 69 => ⟨S1x8192x128, .f32⟩
  | 70 => ⟨S1x8192x128, .f32⟩
  | 71 => ⟨S_, .f32⟩
  | 72 => ⟨S1x16x128, .f32⟩
  | 73 => ⟨S1x8176x128, .f32⟩
  | 74 => ⟨S1x8192x128, .f32⟩
  | 75 => ⟨S_, .f32⟩
  | 76 => ⟨S1x16x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S1x8192x1, .f32⟩
  | 85 => ⟨S1x8192x128, .f32⟩
  | 86 => ⟨S1x8192x128, .f32⟩
  | 87 => ⟨S1x8192x128, .f32⟩
  | 88 => ⟨S1x8192x128, .f32⟩
  | 89 => ⟨S1x8192x128, .f32⟩
  | 90 => ⟨S1x8192x1x128, .f32⟩
  | 91 => ⟨S1x8192x1x128, .f32⟩
  | 92 => ⟨S1x8192x1x128, .f32⟩
  | 93 => ⟨S1x8192x1x128, .f32⟩
  | 94 => ⟨S1x8192x4x128, .f32⟩
  | 95 => ⟨S4x128x1x8192, .f32⟩
  | 96 => ⟨S1x8192x4x128, .f32⟩
  | 97 => ⟨S1x8192x512, .f32⟩
  | 98 => ⟨S1x1x512, .f32⟩
  | 99 => ⟨S1x8192x512, .f32⟩
  | 100 => ⟨S1x8192x512, .f32⟩
  | 101 => ⟨S8192x512, .f32⟩
  | 102 => ⟨S1x8192x512, .f32⟩
  | 103 => ⟨S1x8192x512, .f32⟩
  | 104 => ⟨S_, .f32⟩
  | 105 => ⟨S1x512, .f32⟩
  | 106 => ⟨S1x1x512, .f32⟩
  | 107 => ⟨S1x8192x512, .f32⟩
  | 108 => ⟨S1x8192x512, .f32⟩
  | 109 => ⟨S_, .f32⟩
  | 110 => ⟨S512, .f32⟩
  | 111 => ⟨S1x8192x4x128, .f32⟩
  | 112 => ⟨S4x128x1x8192, .f32⟩
  | 113 => ⟨S4x1x8192x128, .f32⟩
  | 114 => ⟨S1x8192x4x128, .f32⟩
  | 115 => ⟨S4x128x128, .f32⟩
  | 116 => ⟨S4x128x128, .f32⟩
  | 117 => ⟨S1x8192x1x128, .f32⟩
  | 118 => ⟨S1x8192x128, .f32⟩
  | 119 => ⟨S1x8192x1x128, .f32⟩
  | 120 => ⟨S1x8192x128, .f32⟩
  | 121 => ⟨S1x8192x1x128, .f32⟩
  | 122 => ⟨S1x8192x128, .f32⟩
  | 123 => ⟨S1x8192x1x128, .f32⟩
  | 124 => ⟨S1x8192x128, .f32⟩
  | 125 => ⟨S1x8192x128, .f32⟩
  | 126 => ⟨S_, .f32⟩
  | 127 => ⟨S1x8192x512, .f32⟩
  | _ => ⟨S8192x512, .f32⟩

abbrev hbmTy0_1 (i : Nat) : BufTy := match i % 128 with
  | 0 => ⟨S1x8192x128, .f32⟩
  | 1 => ⟨S1x8192x128, .f32⟩
  | 2 => ⟨S1x8192x128, .f32⟩
  | 3 => ⟨S1x16x128, .f32⟩
  | 4 => ⟨S1x8176x128, .f32⟩
  | 5 => ⟨S_, .f32⟩
  | 6 => ⟨S1x8192x128, .f32⟩
  | 7 => ⟨S1x8192x128, .f32⟩
  | 8 => ⟨S_, .f32⟩
  | 9 => ⟨S1x8192x512, .f32⟩
  | 10 => ⟨S1x8192x128, .f32⟩
  | 11 => ⟨S_, .f32⟩
  | 12 => ⟨S1x8192x512, .f32⟩
  | 13 => ⟨S1x8192x512, .f32⟩
  | 14 => ⟨S1x8192x128, .f32⟩
  | 15 => ⟨S1x8192x128, .f32⟩
  | 16 => ⟨S1x8192x128, .f32⟩
  | 17 => ⟨S1x8x128, .f32⟩
  | 18 => ⟨S1x8184x128, .f32⟩
  | 19 => ⟨S_, .f32⟩
  | 20 => ⟨S1x8192x128, .f32⟩
  | 21 => ⟨S1x8192x128, .f32⟩
  | 22 => ⟨S_, .f32⟩
  | 23 => ⟨S1x8192x512, .f32⟩
  | 24 => ⟨S1x8192x512, .f32⟩
  | 25 => ⟨S1x8192x128, .f32⟩
  | 26 => ⟨S_, .f32⟩
  | 27 => ⟨S1x8192x512, .f32⟩
  | 28 => ⟨S1x8192x512, .f32⟩
  | 29 => ⟨S1x8192x128, .f32⟩
  | 30 => ⟨S1x8192x128, .f32⟩
  | 31 => ⟨S1x8192x128, .f32⟩
  | 32 => ⟨S1x4x128, .f32⟩
  | 33 => ⟨S1x8188x128, .f32⟩
  | 34 => ⟨S_, .f32⟩
  | 35 => ⟨S1x8192x128, .f32⟩
  | 36 => ⟨S1x8192x128, .f32⟩
  | 37 => ⟨S_, .f32⟩
  | 38 => ⟨S1x8192x512, .f32⟩
  | 39 => ⟨S1x8192x512, .f32⟩
  | 40 => ⟨S1x8192x128, .f32⟩
  | 41 => ⟨S_, .f32⟩
  | 42 => ⟨S1x8192x512, .f32⟩
  | 43 => ⟨S1x8192x512, .f32⟩
  | 44 => ⟨S1x8192x128, .f32⟩
  | 45 => ⟨S1x8192x128, .f32⟩
  | 46 => ⟨S1x8192x128, .f32⟩
  | 47 => ⟨S1x2x128, .f32⟩
  | 48 => ⟨S1x8190x128, .f32⟩
  | 49 => ⟨S_, .f32⟩
  | 50 => ⟨S1x8192x128, .f32⟩
  | 51 => ⟨S1x8192x128, .f32⟩
  | 52 => ⟨S_, .f32⟩
  | 53 => ⟨S1x8192x512, .f32⟩
  | 54 => ⟨S1x8192x512, .f32⟩
  | 55 => ⟨S_, .f32⟩
  | 56 => ⟨S_, .f32⟩
  | 57 => ⟨S1x8192x512, .f32⟩
  | 58 => ⟨S1x8192x512, .f32⟩
  | 59 => ⟨S1x512, .f32⟩
  | 60 => ⟨S_, .f32⟩
  | 61 => ⟨S8192x512, .f32⟩
  | 62 => ⟨S8192x512, .bf16⟩
  | 63 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_15 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_17 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_cst_19 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_20 : Ref sig .tc := ⟨.hbm, 147, rfl⟩
abbrev main_v119 : Ref sig .tc := ⟨.hbm, 148, rfl⟩
abbrev main_v120 : Ref sig .tc := ⟨.hbm, 149, rfl⟩
abbrev main_cst_21 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_22 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_23 : Ref sig .tc := ⟨.hbm, 162, rfl⟩
abbrev main_v131 : Ref sig .tc := ⟨.hbm, 163, rfl⟩
abbrev main_v132 : Ref sig .tc := ⟨.hbm, 164, rfl⟩
abbrev main_cst_24 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_25 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_26 : Ref sig .tc := ⟨.hbm, 177, rfl⟩
abbrev main_v143 : Ref sig .tc := ⟨.hbm, 178, rfl⟩
abbrev main_v144 : Ref sig .tc := ⟨.hbm, 179, rfl⟩
abbrev main_cst_27 : Ref sig .tc := ⟨.hbm, 180, rfl⟩
abbrev main_v145 : Ref sig .tc := ⟨.hbm, 181, rfl⟩
abbrev main_v146 : Ref sig .tc := ⟨.hbm, 182, rfl⟩
abbrev main_call1_call0_cst : Ref sig .tc := ⟨.hbm, 183, rfl⟩
abbrev main_call1_call0_v0 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_28 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩

abbrev nD : Nat := 1
abbrev τ : Topo := Topo.v7x

variable {F : FTy → Type} [FloatOps F]
-- ==== AttnFwd.lean ====
abbrev S8192x512 : Shape := ⟨2, ![8192, 512]⟩
abbrev S8192x1024 : Shape := ⟨2, ![8192, 1024]⟩
abbrev S256x256 : Shape := ⟨2, ![256, 256]⟩
abbrev S_ : Shape := ⟨0, ![]⟩
abbrev S1024x128 : Shape := ⟨2, ![1024, 128]⟩
abbrev S8192x128 : Shape := ⟨2, ![8192, 128]⟩
abbrev S1x128 : Shape := ⟨2, ![1, 128]⟩
abbrev S256x128 : Shape := ⟨2, ![256, 128]⟩
abbrev S256x1 : Shape := ⟨2, ![256, 1]⟩
abbrev S512x128 : Shape := ⟨2, ![512, 128]⟩
abbrev S1x512 : Shape := ⟨2, ![1, 512]⟩
abbrev S256x512 : Shape := ⟨2, ![256, 512]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S256x256, .i32⟩
  | .hbm, ⟨3, _⟩ => ⟨S256x256, .i32⟩
  | .hbm, ⟨4, _⟩ => ⟨S256x256, .i1⟩
  | .hbm, ⟨5, _⟩ => ⟨S_, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S8192x512, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S1024x128, .bf16⟩
  | .local _ .vmem, ⟨8, _⟩ => ⟨S1024x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c4_i32 : BitVec 32 := 4#32
  let arg1 : BitVec 32 := BitVec.ofNat 32 (i 1).val
  let v5 : BitVec 32 := Scalar.muli c4_i32 arg1
  let c0_i32 : BitVec 32 := 0#32
  let v6 : BitVec 32 := Scalar.addi v5 c0_i32
  let c0_i32_16 : BitVec 32 := 0#32
  let v42 : BitVec 32 := Scalar.subi v6 c0_i32_16
  let c256_i32_17 : BitVec 32 := 256#32
  let v43 : BitVec 32 := Scalar.muli v42 c256_i32_17
  v43
def k0_off1 (i : grid0.Coords) (c0_i32 : BitVec 32) : Fin 2 → Nat :=
  let c4_i32 : BitVec 32 := 4#32
  let arg1 : BitVec 32 := BitVec.ofNat 32 (i 1).val
  let v5 : BitVec 32 := Scalar.muli c4_i32 arg1
  let v6 : BitVec 32 := Scalar.addi v5 c0_i32
  let c0_i32_16 : BitVec 32 := 0#32
  let v42 : BitVec 32 := Scalar.subi v6 c0_i32_16
  let c256_i32_17 : BitVec 32 := 256#32
  let v43 : BitVec 32 := Scalar.muli v42 c256_i32_17
  let v44 : BitVec 32 := v43
  let v45 : Index := Scalar.indexCast v44
  let c0_18 : Index := 0#32
  ![v45.toNat, 0]
def k0_mult2 (i : grid0.Coords) : BitVec 32 :=
  let c4_i32_1 : BitVec 32 := 4#32
  let arg1 : BitVec 32 := BitVec.ofNat 32 (i 1).val
  let v7 : BitVec 32 := Scalar.muli c4_i32_1 arg1
  let c1_i32 : BitVec 32 := 1#32
  let v8 : BitVec 32 := Scalar.addi v7 c1_i32
  let c0_i32_34 : BitVec 32 := 0#32
  let v126 : BitVec 32 := Scalar.subi v8 c0_i32_34
  let c256_i32_35 : BitVec 32 := 256#32
  let v127 : BitVec 32 := Scalar.muli v126 c256_i32_35
  v127
def k0_mult3 (i : grid0.Coords) : BitVec 32 :=
  let c4_i32_2 : BitVec 32 := 4#32
  let arg1 : BitVec 32 := BitVec.ofNat 32 (i 1).val
  let v9 : BitVec 32 := Scalar.muli c4_i32_2 arg1
  let c2_i32 : BitVec 32 := 2#32
  let v10 : BitVec 32 := Scalar.addi v9 c2_i32
  let c0_i32_53 : BitVec 32 := 0#32
  let v210 : BitVec 32 := Scalar.subi v10 c0_i32_53
  let c256_i32_54 : BitVec 32 := 256#32
  let v211 : BitVec 32 := Scalar.muli v210 c256_i32_54
  v211
def k0_mult4 (i : grid0.Coords) : BitVec 32 :=
  let c4_i32_3 : BitVec 32 := 4#32
  let arg1 : BitVec 32 := BitVec.ofNat 32 (i 1).val
  let v11 : BitVec 32 := Scalar.muli c4_i32_3 arg1
  let c3_i32 : BitVec 32 := 3#32
  let v12 : BitVec 32 := Scalar.addi v11 c3_i32
  let c0_i32_72 : BitVec 32 := 0#32
  let v294 : BitVec 32 := Scalar.subi v12 c0_i32_72
  let c256_i32_73 : BitVec 32 := 256#32
  let v295 : BitVec 32 := Scalar.muli v294 c256_i32_73
  v295
def k0_mult5 (i : grid0.Coords) (arg7 : BitVec 32) : BitVec 32 :=
  let c4_i32 : BitVec 32 := 4#32
  let arg1 : BitVec 32 := BitVec.ofNat 32 (i 1).val
  let v5 : BitVec 32 := Scalar.muli c4_i32 arg1
  let c0_i32 : BitVec 32 := 0#32
  let v6 : BitVec 32 := Scalar.addi v5 c0_i32
  let v391 : BitVec 32 := Scalar.subi v6 arg7
  let c256_i32_101 : BitVec 32 := 256#32
  let v392 : BitVec 32 := Scalar.muli v391 c256_i32_101
  v392

def k0_off2 (i : grid0.Coords) (arg7 : BitVec 32) (c0_i32 : BitVec 32) : Fin 2 → Nat :=
  let c4_i32 : BitVec 32 := 4#32
  let arg1 : BitVec 32 := BitVec.ofNat 32 (i 1).val
  let v5 : BitVec 32 := Scalar.muli c4_i32 arg1
  let v6 : BitVec 32 := Scalar.addi v5 c0_i32
  let v391 : BitVec 32 := Scalar.subi v6 arg7
  let c256_i32_101 : BitVec 32 := 256#32
  let v392 : BitVec 32 := Scalar.muli v391 c256_i32_101
  let v393 : BitVec 32 := v392
  let v394 : Index := Scalar.indexCast v393
  let c0_102 : Index := 0#32
  ![v394.toNat, 0]
def k0_mult6 (i : grid0.Coords) (arg7 : BitVec 32) : BitVec 32 :=
  let c4_i32_1 : BitVec 32 := 4#32
  let arg1 : BitVec 32 := BitVec.ofNat 32 (i 1).val
  let v7 : BitVec 32 := Scalar.muli c4_i32_1 arg1
  let c1_i32 : BitVec 32 := 1#32
  let v8 : BitVec 32 := Scalar.addi v7 c1_i32
  let v463 : BitVec 32 := Scalar.subi v8 arg7
  let c256_i32_116 : BitVec 32 := 256#32
  let v464 : BitVec 32 := Scalar.muli v463 c256_i32_116
  v464
def k0_mult7 (i : grid0.Coords) (arg7 : BitVec 32) : BitVec 32 :=
  let c4_i32_2 : BitVec 32 := 4#32
  let arg1 : BitVec 32 := BitVec.ofNat 32 (i 1).val
  let v9 : BitVec 32 := Scalar.muli c4_i32_2 arg1
  let c2_i32 : BitVec 32 := 2#32
  let v10 : BitVec 32 := Scalar.addi v9 c2_i32
  let v535 : BitVec 32 := Scalar.subi v10 arg7
  let c256_i32_131 : BitVec 32 := 256#32
  let v536 : BitVec 32 := Scalar.muli v535 c256_i32_131
  v536
def k0_mult8 (i : grid0.Coords) (arg7 : BitVec 32) : BitVec 32 :=
  let c4_i32_3 : BitVec 32 := 4#32
  let arg1 : BitVec 32 := BitVec.ofNat 32 (i 1).val
  let v11 : BitVec 32 := Scalar.muli c4_i32_3 arg1
  let c3_i32 : BitVec 32 := 3#32
  let v12 : BitVec 32 := Scalar.addi v11 c3_i32
  let v607 : BitVec 32 := Scalar.subi v12 arg7
  let c256_i32_146 : BitVec 32 := 256#32
  let v608 : BitVec 32 := Scalar.muli v607 c256_i32_146
  v608

def k0_chk1 (i : grid0.Coords) (arg7 : BitVec 32) : Prop :=
  (256 ∣ (k0_mult5 i arg7).toNat) ∧
  (∀ (r : Fin 4), ∀ a, (k0_off2 i arg7 (BitVec.ofNat 32 r.val)) a + S256x128.size a ≤ S8192x128.size a) ∧
  (256 ∣ (k0_mult6 i arg7).toNat) ∧
  (256 ∣ (k0_mult7 i arg7).toNat) ∧
  (256 ∣ (k0_mult8 i arg7).toNat)
theorem k0_mult5_dvd : ∀ (i : grid0.Coords) (arg7 : BitVec 32) (k0_hw1 : k0_chk1 i arg7), 256 ∣ (k0_mult5 i arg7).toNat := fun i arg7 k0_hw1 => k0_hw1.1
theorem k0_off2_inb : ∀ (i : grid0.Coords) (arg7 : BitVec 32) (k0_hw1 : k0_chk1 i arg7), ∀ (r : Fin 4), ∀ a, (k0_off2 i arg7 (BitVec.ofNat 32 r.val)) a + S256x128.size a ≤ S8192x128.size a := fun i arg7 k0_hw1 r => k0_hw1.2.1 r
theorem k0_mult6_dvd : ∀ (i : grid0.Coords) (arg7 : BitVec 32) (k0_hw1 : k0_chk1 i arg7), 256 ∣ (k0_mult6 i arg7).toNat := fun i arg7 k0_hw1 => k0_hw1.2.2.1
theorem k0_mult7_dvd : ∀ (i : grid0.Coords) (arg7 : BitVec 32) (k0_hw1 : k0_chk1 i arg7), 256 ∣ (k0_mult7 i arg7).toNat := fun i arg7 k0_hw1 => k0_hw1.2.2.2.1
theorem k0_mult8_dvd : ∀ (i : grid0.Coords) (arg7 : BitVec 32) (k0_hw1 : k0_chk1 i arg7), 256 ∣ (k0_mult8 i arg7).toNat := fun i arg7 k0_hw1 => k0_hw1.2.2.2.2

def k0_mult9 (i : grid0.Coords) (arg7 : BitVec 32) : BitVec 32 :=
  let c4_i32_1 : BitVec 32 := 4#32
  let arg1 : BitVec 32 := BitVec.ofNat 32 (i 1).val
  let v7 : BitVec 32 := Scalar.muli c4_i32_1 arg1
  let c1_i32 : BitVec 32 := 1#32
  let v8 : BitVec 32 := Scalar.addi v7 c1_i32
  let v391 : BitVec 32 := Scalar.subi v8 arg7
  let c256_i32_101 : BitVec 32 := 256#32
  let v392 : BitVec 32 := Scalar.muli v391 c256_i32_101
  v392

def k0_off3 (i : grid0.Coords) (arg7 : BitVec 32) : Fin 2 → Nat :=
  let c4_i32_1 : BitVec 32 := 4#32
  let arg1 : BitVec 32 := BitVec.ofNat 32 (i 1).val
  let v7 : BitVec 32 := Scalar.muli c4_i32_1 arg1
  let c1_i32 : BitVec 32 := 1#32
  let v8 : BitVec 32 := Scalar.addi v7 c1_i32
  let v391 : BitVec 32 := Scalar.subi v8 arg7
  let c256_i32_101 : BitVec 32 := 256#32
  let v392 : BitVec 32 := Scalar.muli v391 c256_i32_101
  let v393 : BitVec 32 := v392
  let v394 : Index := Scalar.indexCast v393
  let c0_102 : Index := 0#32
  ![v394.toNat, 0]

def k0_chk2 (i : grid0.Coords) (arg7 : BitVec 32) : Prop :=
  (256 ∣ (k0_mult9 i arg7).toNat) ∧
  (∀ a, (k0_off3 i arg7) a + S256x128.size a ≤ S8192x128.size a)
theorem k0_mult9_dvd : ∀ (i : grid0.Coords) (arg7 : BitVec 32) (k0_hw2 : k0_chk2 i arg7), 256 ∣ (k0_mult9 i arg7).toNat := fun i arg7 k0_hw2 => k0_hw2.1
theorem k0_off3_inb : ∀ (i : grid0.Coords) (arg7 : BitVec 32) (k0_hw2 : k0_chk2 i arg7), ∀ a, (k0_off3 i arg7) a + S256x128.size a ≤ S8192x128.size a := fun i arg7 k0_hw2 => k0_hw2.2

def k0_mult10 (i : grid0.Coords) (arg7 : BitVec 32) : BitVec 32 :=
  let c4_i32_2 : BitVec 32 := 4#32
  let arg1 : BitVec 32 := BitVec.ofNat 32 (i 1).val
  let v9 : BitVec 32 := Scalar.muli c4_i32_2 arg1
  let c2_i32 : BitVec 32 := 2#32
  let v10 : BitVec 32 := Scalar.addi v9 c2_i32
  let v391 : BitVec 32 := Scalar.subi v10 arg7
  let c256_i32_101 : BitVec 32 := 256#32
  let v392 : BitVec 32 := Scalar.muli v391 c256_i32_101
  v392

def k0_off4 (i : grid0.Coords) (arg7 : BitVec 32) : Fin 2 → Nat :=
  let c4_i32_2 : BitVec 32 := 4#32
  let arg1 : BitVec 32 := BitVec.ofNat 32 (i 1).val
  let v9 : BitVec 32 := Scalar.muli c4_i32_2 arg1
  let c2_i32 : BitVec 32 := 2#32
  let v10 : BitVec 32 := Scalar.addi v9 c2_i32
  let v391 : BitVec 32 := Scalar.subi v10 arg7
  let c256_i32_101 : BitVec 32 := 256#32
  let v392 : BitVec 32 := Scalar.muli v391 c256_i32_101
  let v393 : BitVec 32 := v392
  let v394 : Index := Scalar.indexCast v393
  let c0_102 : Index := 0#32
  ![v394.toNat, 0]

def k0_chk3 (i : grid0.Coords) (arg7 : BitVec 32) : Prop :=
  (256 ∣ (k0_mult10 i arg7).toNat) ∧
  (∀ a, (k0_off4 i arg7) a + S256x128.size a ≤ S8192x128.size a)
theorem k0_mult10_dvd : ∀ (i : grid0.Coords) (arg7 : BitVec 32) (k0_hw3 : k0_chk3 i arg7), 256 ∣ (k0_mult10 i arg7).toNat := fun i arg7 k0_hw3 => k0_hw3.1
theorem k0_off4_inb : ∀ (i : grid0.Coords) (arg7 : BitVec 32) (k0_hw3 : k0_chk3 i arg7), ∀ a, (k0_off4 i arg7) a + S256x128.size a ≤ S8192x128.size a := fun i arg7 k0_hw3 => k0_hw3.2

def k0_mult11 (i : grid0.Coords) (arg7 : BitVec 32) : BitVec 32 :=
  let c4_i32_3 : BitVec 32 := 4#32
  let arg1 : BitVec 32 := BitVec.ofNat 32 (i 1).val
  let v11 : BitVec 32 := Scalar.muli c4_i32_3 arg1
  let c3_i32 : BitVec 32 := 3#32
  let v12 : BitVec 32 := Scalar.addi v11 c3_i32
  let v391 : BitVec 32 := Scalar.subi v12 arg7
  let c256_i32_101 : BitVec 32 := 256#32
  let v392 : BitVec 32 := Scalar.muli v391 c256_i32_101
  v392

def k0_off5 (i : grid0.Coords) (arg7 : BitVec 32) : Fin 2 → Nat :=
  let c4_i32_3 : BitVec 32 := 4#32
  let arg1 : BitVec 32 := BitVec.ofNat 32 (i 1).val
  let v11 : BitVec 32 := Scalar.muli c4_i32_3 arg1
  let c3_i32 : BitVec 32 := 3#32
  let v12 : BitVec 32 := Scalar.addi v11 c3_i32
  let v391 : BitVec 32 := Scalar.subi v12 arg7
  let c256_i32_101 : BitVec 32 := 256#32
  let v392 : BitVec 32 := Scalar.muli v391 c256_i32_101
  let v393 : BitVec 32 := v392
  let v394 : Index := Scalar.indexCast v393
  let c0_102 : Index := 0#32
  ![v394.toNat, 0]

def k0_chk4 (i : grid0.Coords) (arg7 : BitVec 32) : Prop :=
  (256 ∣ (k0_mult11 i arg7).toNat) ∧
  (∀ a, (k0_off5 i arg7) a + S256x128.size a ≤ S8192x128.size a)
theorem k0_mult11_dvd : ∀ (i : grid0.Coords) (arg7 : BitVec 32) (k0_hw4 : k0_chk4 i arg7), 256 ∣ (k0_mult11 i arg7).toNat := fun i arg7 k0_hw4 => k0_hw4.1
theorem k0_off5_inb : ∀ (i : grid0.Coords) (arg7 : BitVec 32) (k0_hw4 : k0_chk4 i arg7), ∀ a, (k0_off5 i arg7) a + S256x128.size a ≤ S8192x128.size a := fun i arg7 k0_hw4 => k0_hw4.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "exit" => some ⊥
  | "log2e" => some (((Real.log 2)⁻¹ : ℝ) : EReal)
  | "mask" => some ⊥
  | _ => none
-- ==== AttnFwdRefIdeal.lean ====
abbrev S8192x512 : Shape := ⟨2, ![8192, 512]⟩
abbrev S8192x1024 : Shape := ⟨2, ![8192, 1024]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x8x64, .f32⟩
  | .hbm, ⟨4, _⟩ => ⟨S8x8192x64, .f32⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S8x8192x64, .f32⟩
  | .hbm, ⟨9, _⟩ => ⟨S8192x512, .bf16⟩
  | .hbm, ⟨10, _⟩ => ⟨S8192x512, .f32⟩
  | .hbm, ⟨11, _⟩ => ⟨S8192x8x64, .f32⟩
  | .hbm, ⟨12, _⟩ => ⟨S8x8192x64, .f32⟩
  | .hbm, ⟨13, _⟩ => ⟨S8x8192x8192, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S_, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .i1⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S8x8192x64, .f32⟩
  | .hbm, ⟨73, _⟩ => ⟨S8192x8x64, .f32⟩
  | .hbm, ⟨74, _⟩ => ⟨S8192x512, .f32⟩
  | .hbm, ⟨75, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Mixer.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .f32⟩
  | .hbm, ⟨3, _⟩ => ⟨S512x1024, .f32⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .f32⟩
  | .hbm, ⟨16, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixerRefIdeal.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .f32⟩
  | .hbm, ⟨3, _⟩ => ⟨S512x1024, .f32⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S1x1024, .f32⟩
  | .hbm, ⟨9, _⟩ => ⟨S8192x512, .f32⟩
  | .hbm, ⟨10, _⟩ => ⟨S8192x1024, .f32⟩
  | .hbm, ⟨11, _⟩ => ⟨S8192x512, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proj.lean ====
abbrev S8192x1024 : Shape := ⟨2, ![8192, 1024]⟩
abbrev S1024x4096 : Shape := ⟨2, ![1024, 4096]⟩
abbrev S1024x1024 : Shape := ⟨2, ![1024, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x4096, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x512, .f32⟩
  | .hbm, ⟨8, _⟩ => ⟨S8192x512, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev main_v5_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S8192x1024 : Shape := ⟨2, ![8192, 1024]⟩
abbrev S1024x4096 : Shape := ⟨2, ![1024, 4096]⟩
abbrev S8192x4096 : Shape := ⟨2, ![8192, 4096]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x512, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Tn.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S2816x1024, .f32⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== TnRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x2816, .f32⟩
  | .hbm, ⟨4, _⟩ => ⟨S2816x8192, .f32⟩
  | .hbm, ⟨5, _⟩ => ⟨S8192x1024, .f32⟩
  | .hbm, ⟨6, _⟩ => ⟨S2816x1024, .f32⟩
  | .hbm, ⟨7, _⟩ => ⟨S8192x2816, .f32⟩
  | .hbm, ⟨8, _⟩ => ⟨S2816x8192, .f32⟩
  | .hbm, ⟨9, _⟩ => ⟨S8192x1024, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Adam.lean ====
abbrev S4x128x128 : Shape := ⟨3, ![4, 128, 128]⟩
abbrev S512x128 : Shape := ⟨2, ![512, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S4x128x128 : Shape := ⟨3, ![4, 128, 128]⟩
abbrev S512x128 : Shape := ⟨2, ![512, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Reals.lean ====
/- The extended-real functions of the step's gates: the kernels' sigmoid, written by the hyperbolic tangent, is the
   reference's logistic function at every extended real. -/
module

public import Idealize.ShloMosaic.Lib.IdealHost
public import Mathlib.Analysis.SpecialFunctions.Trigonometric.DerivHyp

@[expose] public section

noncomputable section

namespace Cert.Reals

open Idealize.ShloMosaic

/-- The f32 word of `0.5`. -/
theorem half_f32 : Ideal.ofBits .f32 0x3F000000#32 = (((1 : ℝ) / 2 : ℝ) : EReal) := by
  simp [Ideal.ofBits, Ideal.ieee, -EReal.coe_mul]
  norm_num

/-- The logistic function of a real, by the hyperbolic tangent of its half. -/
theorem half_tanh (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  field_simp
  nlinarith

/-- The kernels' sigmoid is the logistic function, infinities included. -/
theorem sigmoid (x : EReal) :
    Ideal.ofBits .f32 0x3F000000#32 * Ideal.tanh (Ideal.ofBits .f32 0x3F000000#32 * x) + Ideal.ofBits .f32 0x3F000000#32
      = Ideal.logistic x := by
  rw [half_f32]
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [show (1 : EReal) = ((1 : ℝ) : EReal) from rfl, ← EReal.coe_mul, ← EReal.coe_add]
    norm_num
  | coe r =>
    rw [← EReal.coe_mul, Ideal.tanh_coe, ← EReal.coe_mul, ← EReal.coe_add, Ideal.logistic_coe, half_tanh]

/-- The reference's spelling of the logistic function. -/
theorem logistic_eq (x : EReal) : Ideal.div 1 (1 + Ideal.exp (-x)) = Ideal.logistic x := rfl

end Cert.Reals

end
-- ==== Proof.MergedValue.lean ====
/- The four results of the gates' backward call as functions of its arguments, and their equality with the reference's
   derivative. -/
module

public import proofs.«01_k».proof.Proof.Reals
public import proofs.«01_k».proof.Proof.Gen.MergedIdeal.Value
public import proofs.«01_k».proof.Proof.Gen.MergedRefIdeal.Read
public import Idealize.ShloMosaic.Lib.Pipeline.ValueKit

@[expose] public section

noncomputable section

open Idealize.ShloMosaic Idealize.ShloMosaic.TcCoe Idealize.SL.Sem
open Idealize.ShloMosaic.Pipeline (Dat)

namespace Cert.MergedIdeal.Value

open Cert.MergedIdeal Cert.MergedIdeal.Gen Cert.MergedRefIdeal.Read Cert.Reals

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] :=
  (by decide +kernel : ∀ t : Fin grid0.N, _)

/-- The gradient of branch `a`'s projection. -/
theorem final6 (c : Dev nD) : (dats m 0 c).arrAt 6 (cfgs 0).N
    = val_main_v35 (F := Ideal) (m ((c : Thread nD τ).loc main_arg0)) (m ((c : Thread nD τ).loc main_arg1))
      (m ((c : Thread nD τ).loc main_arg4)) := by
  refine (dats m 0 c).arrAt_eq_of_covers 6 _ (by decide +kernel) fun t _ y => ?_
  blk_simp
  rw [after0_6]
  frame_out
  pointwise [k0_pay1, k0_pay8, k0_pay5, k0_pay6, val_main_v35, val_main_v32, val_main_v28, val_main_v27, val_main_v25,
    val_main_v9, val_main_v7, val_main_v8, val_main_v6, val_main_v5, val_main_v4, val_main_v2, val_main_cst,
    val_main_cst_0]
  rw [sigmoid, logistic_eq]
  refine (mul_comm (G := EReal) _ _).trans ?_
  blk_point [iblk, V, idx t]

/-- The gradient of branch `b`'s projection. -/
theorem final7 (c : Dev nD) : (dats m 0 c).arrAt 7 (cfgs 0).N
    = val_main_v36 (F := Ideal) (m ((c : Thread nD τ).loc main_arg0)) (m ((c : Thread nD τ).loc main_arg1))
      (m ((c : Thread nD τ).loc main_arg5)) := by
  refine (dats m 0 c).arrAt_eq_of_covers 7 _ (by decide +kernel) fun t _ y => ?_
  blk_simp
  rw [after0_7]
  frame_out
  pointwise [k0_pay2, k0_pay9, k0_pay5, k0_pay7, val_main_v36, val_main_v29, val_main_v28, val_main_v27, val_main_v25,
    val_main_v19, val_main_v17, val_main_v18, val_main_v16, val_main_v15, val_main_v14, val_main_v3, val_main_cst_2,
    val_main_cst_3]
  rw [sigmoid, logistic_eq]
  refine (mul_comm (G := EReal) _ _).trans ?_
  blk_point [iblk, V, idx t]

/-- The gradient of branch `a`'s gate. -/
theorem final8 (c : Dev nD) : (dats m 0 c).arrAt 8 (cfgs 0).N
    = val_main_v37 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_covers 8 _ (by decide +kernel) fun t _ y => ?_
  blk_simp
  rw [after0_8]
  frame_out
  pointwise [k0_pay3, k0_pay10, k0_pay5, k0_pay6, val_main_v37, val_main_v34, val_main_v33, val_main_v28, val_main_v27,
    val_main_v25, val_main_v0, val_main_v12, val_main_v11, val_main_v10, val_main_v9, val_main_v7, val_main_v8,
    val_main_v6, val_main_v5, val_main_v4, val_main_v2, val_main_cst, val_main_cst_0, val_main_cst_1]
  rw [sigmoid, logistic_eq]
  refine (mul_assoc (G := EReal) _ _ _).trans ?_
  blk_point [iblk, V, idx t]

/-- The gradient of branch `b`'s gate. -/
theorem final9 (c : Dev nD) : (dats m 0 c).arrAt 9 (cfgs 0).N
    = val_main_v38 (F := Ideal) (m ((c : Thread nD τ).loc main_arg0)) (m ((c : Thread nD τ).loc main_arg1))
      (m ((c : Thread nD τ).loc main_arg3)) (m ((c : Thread nD τ).loc main_arg5)) := by
  refine (dats m 0 c).arrAt_eq_of_covers 9 _ (by decide +kernel) fun t _ y => ?_
  blk_simp
  rw [after0_9]
  frame_out
  pointwise [k0_pay4, k0_pay11, k0_pay5, k0_pay7, val_main_v38, val_main_v31, val_main_v30, val_main_v28, val_main_v27,
    val_main_v25, val_main_v1, val_main_v22, val_main_v21, val_main_v20, val_main_v19, val_main_v17, val_main_v18,
    val_main_v16, val_main_v15, val_main_v14, val_main_v3, val_main_cst_2, val_main_cst_3, val_main_cst_4]
  rw [sigmoid, logistic_eq]
  refine (mul_assoc (G := EReal) _ _ _).trans ?_
  blk_point [iblk, V, idx t]

end Cert.MergedIdeal.Value

end
-- ==== Proof.MergedClaim.lean ====
module

public import proofs.«01_k».proof.Defs
public import proofs.«01_k».proof.Proof.MergedValue

/-! The claims of the gate gradients: the reference's run and the equality of the four results. -/

@[expose] public section

noncomputable section

namespace Cert.MergedClaim

open Idealize.ShloMosaic Idealize.SL.Sem Cert.MergedIdeal.Value Cert.MergedRefIdeal.Read

theorem frame_ref : Cert.quiescent_MergedRefIdeal := fun m g _ =>
  (θ_run Cert.MergedRefIdeal.defs _ _).mono
    (fun r h => ⟨fun c => (h c).2.2.2.2, sem_eq_zero_of_no_sems (by decide) r.2⟩)
    (Cert.MergedRefIdeal.Value.run m g)

theorem algebraic : Cert.algebraic_MergedIdeal_MergedRefIdeal := by
  pair_intro
  · run_from Cert.MergedIdeal.Value.run_blocks m g
  · run_from Cert.MergedRefIdeal.Value.run m' g'
    · exact (val_main_v35_eq _ _ _).trans (final6 m c).symm
    · exact (val_main_v36_eq _ _ _).trans (final7 m c).symm
    · exact (val_main_v37_eq _ _ _ _).trans (final8 m c).symm
    · exact (val_main_v38_eq _ _ _ _).trans (final9 m c).symm

end Cert.MergedClaim

end
-- ==== Proof.Forward.lean ====
/- The forward's merge of the two branches with the norm after it, and the norm before the mixers. -/
module

public import proofs.«01_k».proof.Defs
public import proofs.«01_k».proof.Proof.Reals
public import proofs.«01_k».proof.Proof.Gen.MixerIdeal.Value
public import proofs.«01_k».proof.Proof.Gen.MixerRefIdeal.Read
public import proofs.«01_k».proof.Proof.Gen.NormIdeal.Value
public import proofs.«01_k».proof.Proof.Gen.NormRefIdeal.Read
public import Idealize.ShloMosaic.Lib.Pipeline.ValueKit

@[expose] public section

noncomputable section

open Idealize.ShloMosaic Idealize.ShloMosaic.TcCoe Idealize.SL.Sem

namespace Cert.NormIdeal.Value

open Cert.NormIdeal Cert.NormIdeal.Gen Cert.NormRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The normalised rows. -/
theorem final (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  blk_point [iblk, V, idx t]

end Cert.NormIdeal.Value

namespace Cert.MixerIdeal.Value

open Cert.MixerIdeal Cert.MixerIdeal.Gen Cert.MixerRefIdeal.Read Cert.Reals

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- Branch `a`'s projection. -/
theorem final9 (c : Dev nD) : (dats m 0 c).arrAt 9 (cfgs 0).N
    = val_main_v23 (F := Ideal) (m ((c : Thread nD τ).loc main_arg0)) (m ((c : Thread nD τ).loc main_arg2)) := by
  refine (dats m 0 c).arrAt_eq_of_covers 9 _ (by decide +kernel) fun t _ y => ?_
  blk_simp
  rw [after0_9]
  frame_out
  pointwise [k0_pay3, k0_pay7, val_main_v23, val_main_v1, val_main_v0]
  blk_point [iblk, V, idx t]

/-- Branch `b`'s projection. -/
theorem final10 (c : Dev nD) : (dats m 0 c).arrAt 10 (cfgs 0).N
    = val_main_v24 (F := Ideal) (m ((c : Thread nD τ).loc main_arg1)) (m ((c : Thread nD τ).loc main_arg3)) := by
  refine (dats m 0 c).arrAt_eq_of_covers 10 _ (by decide +kernel) fun t _ y => ?_
  blk_simp
  rw [after0_10]
  frame_out
  pointwise [k0_pay4, k0_pay8, val_main_v24, val_main_v3, val_main_v2]
  blk_point [iblk, V, idx t]

/-- The gated sum of the branches. -/
theorem final11 (c : Dev nD) : (dats m 0 c).arrAt 11 (cfgs 0).N
    = val_main_v25 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 11 _ (by decide +kernel) fun t _ y => ?_
  blk_simp
  rw [after0_11]
  frame_out
  pointwise [k0_pay5, k0_pay1, k0_pay2, k0_pay7, k0_pay8, k0_pay9, k0_pay10, k0_pay11, k0_pay12, k0_pay13, k0_pay14, val_main_v25, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1, val_main_cst_2]
  simp only [sigmoid, logistic_eq]

  blk_point [iblk, V, idx t]

/-- The stream after the branches. -/
theorem final12 (c : Dev nD) : (dats m 0 c).arrAt 12 (cfgs 0).N
    = val_main_v22 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7)) := by
  refine (dats m 0 c).arrAt_eq_of_covers 12 _ (by decide +kernel) fun t _ y => ?_
  blk_simp
  rw [after0_12]
  frame_out
  pointwise [k0_pay1, k0_pay2, k0_pay7, k0_pay8, k0_pay9, k0_pay10, k0_pay11, k0_pay12, k0_pay13, k0_pay14, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  simp only [sigmoid, logistic_eq]

  blk_point [iblk, V, idx t]

/-- The normalised rows of that stream. -/
theorem final13 (c : Dev nD) : (dats m 0 c).arrAt 13 (cfgs 0).N
    = val_main_v40 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) := by
  refine (dats m 0 c).arrAt_eq_of_covers 13 _ (by decide +kernel) fun t _ y => ?_
  blk_simp
  rw [after0_13]
  frame_out
  pointwise [k0_pay6, k0_pay1, k0_pay2, k0_pay7, k0_pay8, k0_pay9, k0_pay10, k0_pay11, k0_pay12, k0_pay13, k0_pay14, val_main_v40, val_main_v39,
    val_main_v38, val_main_v37, val_main_v36, val_main_v35, val_main_v34, val_main_v33, val_main_v32, val_main_v31,
    val_main_v30, val_main_v29, val_main_v28, val_main_v27, val_main_v26, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_3, val_main_cst_4, val_main_cst_5]
  simp only [sigmoid, logistic_eq]

  blk_point [iblk, V, idx t]

end Cert.MixerIdeal.Value

namespace Cert.ForwardClaim

open Cert.MixerIdeal.Value Cert.MixerRefIdeal.Read

theorem frame_mixer : Cert.quiescent_MixerRefIdeal := fun m g _ =>
  (θ_run Cert.MixerRefIdeal.defs _ _).mono
    (fun r h => ⟨fun c => (h c).2.2.2.2.2, sem_eq_zero_of_no_sems (by decide) r.2⟩) (Cert.MixerRefIdeal.Value.run m g)

theorem frame_norm : Cert.quiescent_NormRefIdeal := fun m g _ =>
  (θ_run Cert.NormRefIdeal.defs _ _).mono
    (fun r h => ⟨fun c => (h c).2, sem_eq_zero_of_no_sems (by decide) r.2⟩) (Cert.NormRefIdeal.Value.run m g)

theorem mixer : Cert.algebraic_MixerIdeal_MixerRefIdeal := by
  pair_intro
  · run_from Cert.MixerIdeal.Value.run_blocks m g
  · run_from Cert.MixerRefIdeal.Value.run m' g'
    · exact (val_main_v23_eq _ _).trans (final9 m c).symm
    · exact (val_main_v24_eq _ _).trans (final10 m c).symm
    · exact (val_main_v25_eq _ _ _ _ _ _).trans (final11 m c).symm
    · exact (val_main_v22_eq _ _ _ _ _ _ _ _).trans (final12 m c).symm
    · exact (val_main_v40_eq _ _ _ _ _ _ _ _ _).trans (final13 m c).symm

theorem norm : Cert.algebraic_NormIdeal_NormRefIdeal := by
  pair_intro
  · run_from Cert.NormIdeal.Value.run_blocks m g
  · run_from Cert.NormRefIdeal.Value.run m' g'
    · exact (Cert.NormRefIdeal.Read.val_main_v14_eq _ _).trans (Cert.NormIdeal.Value.final m c).symm

end Cert.ForwardClaim
-- ==== Proof.AttnModel.lean ====
module

public import proofs.«01_k».proof.Proof.Gen.AttnBwdIdeal.Skeleton
public import Idealize.ShloMosaic.Lib.WritesUnit
public import Idealize.ShloMosaic.Lib.Pointwise

/-!
# The attention backward's body as a function of the buffers' contents

The body of the kernel runs over three scratch buffers: the stored gradients `G` of the logits' sums
(a slab of 256 rows by two heads of 256 columns per chain and key block), and the sums `dk` and `dv`.  Each
definition here is one stretch of the body — the diagonal step of a chain, one trip of each loop, the final step —
as a function from the contents it reads to the contents it leaves.
-/

@[expose] public section

noncomputable section

namespace Cert.AttnModel
open Cert.AttnBwdIdeal Cert.AttnBwdIdeal.Gen
open Idealize.ShloMosaic Idealize.ShloMosaic.TcCoe

/-! ### Reading and replacing a tile -/

section Tiles
variable {α : Type}

/-- The 256 rows of a `[8192, 128]` array at an offset. -/
def ld2 (off : Fin 2 → ℕ) (x : S8192x128.Idx → α) : S256x128.Idx → α := fun j =>
  x (ix2 (n0 := 8192) (n1 := 128) ⟨(off 0 + (j 0).val) % 8192, Nat.mod_lt _ (by decide)⟩
    ⟨(off 1 + (j 1).val) % 128, Nat.mod_lt _ (by decide)⟩)

/-- One `[256, 512]` slab of the stored gradients at an offset. -/
def ld4 (off : Fin 4 → ℕ) (x : S2x32x256x512.Idx → α) : S1x1x256x512.Idx → α := fun j =>
  x (ix4 (n0 := 2) (n1 := 32) (n2 := 256) (n3 := 512) ⟨(off 0 + (j 0).val) % 2, Nat.mod_lt _ (by decide)⟩
    ⟨(off 1 + (j 1).val) % 32, Nat.mod_lt _ (by decide)⟩ ⟨(off 2 + (j 2).val) % 256, Nat.mod_lt _ (by decide)⟩
    ⟨(off 3 + (j 3).val) % 512, Nat.mod_lt _ (by decide)⟩)

/-- An array with the tile of sizes `size` at `off` replaced. -/
def put {s : Shape} (off size : Fin s.rank → ℕ) (x : s.Idx → α) (y : (⟨s.rank, size⟩ : Shape).Idx → α) : s.Idx → α := fun j =>
  if h : ∀ a, off a ≤ (j a).val ∧ (j a).val < off a + size a then
    y (Rect.unitLocal (s := s) (off := off) (size := size) j h)
  else x j

/-- 256 rows of a `[8192, 128]` array replaced. -/
def put2 (off : Fin 2 → ℕ) (x : S8192x128.Idx → α) (y : S256x128.Idx → α) : S8192x128.Idx → α :=
  put (s := S8192x128) off S256x128.size x y

/-- One slab of the stored gradients replaced. -/
def put4 (off : Fin 4 → ℕ) (x : S2x32x256x512.Idx → α) (y : S1x1x256x512.Idx → α) : S2x32x256x512.Idx → α :=
  put (s := S2x32x256x512) off S1x1x256x512.size x y

end Tiles

/-! ### The body's stretches -/

variable {F : FTy → Type} [FloatOps F] [Named F]

/-- What the body holds fixed at a point: the keys and values, the mask of the first head's lanes, the two triangles,
    the scaled queries and the cotangents of the two chains. -/
structure Env (F : FTy → Type) where
  /-- the grid point -/
  i : grid0.Coords
  /-- the keys -/
  k : Vec F S8192x128 .bf16
  /-- the values -/
  v : Vec F S8192x128 .bf16
  /-- the lanes of the first head -/
  m : IVec S1x128 1
  /-- the triangle of the suffix sums -/
  su : FVec F S256x256 .bf16
  /-- the triangle of the prefix sums -/
  pr : FVec F S256x256 .bf16
  /-- the first chain's scaled queries -/
  q0 : FVec F S256x128 .bf16
  /-- the second chain's scaled queries -/
  q1 : FVec F S256x128 .bf16
  /-- the first chain's cotangent -/
  d0 : Vec F S256x128 .bf16
  /-- the second chain's cotangent -/
  d1 : Vec F S256x128 .bf16

/-- What the second `while` carries: the next step, the largest running sum, the running sums of the two heads. -/
abbrev R2 (F : FTy → Type) := BitVec 32 × F .f32 × FVec F S256x128 .f32 × FVec F S256x128 .f32
/-- What the first `while` carries: the next step and, of each chain, what `R2` says. -/
abbrev R1 (F : FTy → Type) :=
  BitVec 32 × F .f32 × FVec F S256x128 .f32 × FVec F S256x128 .f32 × F .f32 × FVec F S256x128 .f32 × FVec F S256x128 .f32
/-- The stored gradients. -/
abbrev GS (F : FTy → Type) := Vec F S2x32x256x512 .bf16
/-- A sum of `dk` or `dv`. -/
abbrev DA (F : FTy → Type) := Vec F S8192x128 .f32
/-- A tile of 256 rows in f32. -/
abbrev T3 (F : FTy → Type) := FVec F S256x128 .f32 × FVec F S256x128 .f32 × FVec F S256x128 .f32

variable (E : Env F)

/-- The test of the second `while`. -/
def w2cond (i : grid0.Coords) (s : R2 F) : BitVec 1 :=
  Scalar.andi (Scalar.cmpi .sle s.1 (Scalar.addi (Scalar.muli 2#32 (BitVec.ofNat 32 (i 1).val)) 1#32))
    (Scalar.cmpf .ogt s.2.1 (Named.named κ "exit" 0xC3168000#32))

/-- One trip of the second `while`: the second chain's step on an earlier key block. -/
def w2step (s : R2 F × GS F × DA F) : R2 F × GS F × DA F :=
  let t := s.1.1
  let ra := s.1.2.2.1
  let rb := s.1.2.2.2
  let k := ld2 (k0_off7 E.i t) E.k
  let v := ld2 (k0_off7 E.i t) E.v
  let p432 := k0_pay196 E.m E.q1 k
  let p433 := k0_pay197 E.m E.q1 k
  let p434 := k0_pay198 E.m E.q1 k
  let p438 := k0_pay200 E.m E.q1 E.su ra k
  let p439 := k0_pay201 E.m E.q1 E.su k
  ((Scalar.addi t 1#32, k0_pay15 E.su ra rb p433 p434 p439, k0_pay8 ra p434 p439, k0_pay11 E.su rb p433),
    put4 (k0_off8 E.i t) s.2.1 (k0_pay13 E.su E.d1 rb (k0_pay194 E.m v) p432 p433 p438),
    put2 (k0_off7 E.i t) s.2.2 (k0_pay14 E.m E.su E.d1 rb p432 p433 p438 (ld2 (k0_off7 E.i t) s.2.2)))

/-- The second `while`, of at most `n` trips. -/
def w2run : ℕ → R2 F × GS F × DA F → R2 F × GS F × DA F
  | 0, s => s
  | n + 1, s => if w2cond E.i s.1 = 1#1 then w2run n (w2step E s) else s

/-- The test of the first `while`. -/
def w1cond (i : grid0.Coords) (s : R1 F) : BitVec 1 :=
  Scalar.andi (Scalar.cmpi .sle s.1 (Scalar.addi (Scalar.muli 2#32 (BitVec.ofNat 32 (i 1).val)) 0#32))
    (Scalar.cmpf .ogt (k0_pay1 s.2.1 s.2.2.2.2.1) (Named.named κ "exit" 0xC3168000#32))

/-- The first chain's half of a trip of the first `while`. -/
def w1step0 (t : BitVec 32) (ra rb : FVec F S256x128 .f32) (g : GS F) (d : DA F) :
    (F .f32 × FVec F S256x128 .f32 × FVec F S256x128 .f32) × GS F × DA F :=
  let k := ld2 (k0_off4 E.i t 0#32) E.k
  let v := ld2 (k0_off4 E.i t 0#32) E.v
  let p432 := k0_pay170 E.m E.q0 k
  let p433 := k0_pay171 E.m E.q0 k
  let p434 := k0_pay172 E.m E.q0 k
  let p438 := k0_pay174 E.m E.q0 E.su ra k
  let p439 := k0_pay175 E.m E.q0 E.su k
  ((k0_pay183 E.su ra rb p433 p434 p439, k0_pay176 ra p434 p439, k0_pay179 E.su rb p433),
    put4 (k0_off5 E.i t) g (k0_pay181 E.su E.d0 rb (k0_pay168 E.m v) p432 p433 p438),
    put2 (k0_off4 E.i t 0#32) d (k0_pay182 E.m E.su E.d0 rb p432 p433 p438 (ld2 (k0_off4 E.i t 0#32) d)))

/-- The second chain's half of a trip of the first `while`. -/
def w1step1 (t : BitVec 32) (ra rb : FVec F S256x128 .f32) (g : GS F) (d : DA F) :
    (F .f32 × FVec F S256x128 .f32 × FVec F S256x128 .f32) × GS F × DA F :=
  let k := ld2 (k0_off4 E.i t 1#32) E.k
  let v := ld2 (k0_off4 E.i t 1#32) E.v
  let p522 := k0_pay186 E.m E.q1 k
  let p528 := k0_pay190 E.m E.su E.q1 ra k
  let p534 := k0_pay191 E.m E.su E.q1 ra k
  let p535 := k0_pay192 E.m E.q1 k
  let p536 := k0_pay193 E.m E.q1 k
  ((k0_pay7 E.su rb p534 p535 p536, p534, k0_pay3 E.su rb p535 p536),
    put4 (k0_off6 E.i t) g (k0_pay5 E.su E.d1 rb (k0_pay184 E.m v) p522 p528 p536),
    put2 (k0_off4 E.i t 1#32) d (k0_pay6 E.m E.su E.d1 rb p522 p528 p536 (ld2 (k0_off4 E.i t 1#32) d)))

/-- One trip of the first `while`: a step of both chains. -/
def w1step (s : R1 F × GS F × DA F) : R1 F × GS F × DA F :=
  let a := w1step0 E s.1.1 s.1.2.2.1 s.1.2.2.2.1 s.2.1 s.2.2
  let b := w1step1 E s.1.1 s.1.2.2.2.2.2.1 s.1.2.2.2.2.2.2 a.2.1 a.2.2
  ((Scalar.addi s.1.1 1#32, a.1.1, a.1.2.1, a.1.2.2, b.1.1, b.1.2.1, b.1.2.2), b.2.1, b.2.2)

/-- The first `while`, of at most `n` trips. -/
def w1run : ℕ → R1 F × GS F × DA F → R1 F × GS F × DA F
  | 0, s => s
  | n + 1, s => if w1cond E.i s.1 = 1#1 then w1run n (w1step E s) else s

/-- The first chain's step on its own key block, under the causal mask. -/
def diag0 (g : GS F) (d : DA F) : (F .f32 × FVec F S256x128 .f32 × FVec F S256x128 .f32) × GS F × DA F :=
  let p31 := Scalar.subi (Scalar.addi (Scalar.muli 2#32 (BitVec.ofNat 32 (E.i 1).val)) 0#32) 0#32
  let k := ld2 (k0_off1 E.i 0#32) E.k
  let v := ld2 (k0_off1 E.i 0#32) E.v
  let p53 := k0_pay104 E.m v
  let p61 := k0_pay105 (k0_pay101 E.i) p31
  let p76 := k0_pay107 E.m E.q0 k
  let p77 := k0_pay108 E.m E.q0 k
  let p78 := k0_pay109 (F := F)
  let p90 := k0_pay113 E.su (k0_pay103 (F := F)) p61 p77 p78
  let p101 := k0_pay116 E.su (k0_pay103 (F := F)) p61 p77 p78
  ((k0_pay120 p90 p101, p90, p101),
    put4 (k0_off2 E.i) g (k0_pay118 E.su E.d0 (k0_pay103 (F := F)) p53 p61 p76 p77 p78),
    put2 (k0_off1 E.i 0#32) d (k0_pay119 E.m E.su E.d0 (k0_pay103 (F := F)) p61 p76 p77 p78 (ld2 (k0_off1 E.i 0#32) d)))

/-- The second chain's step on its own key block, under the causal mask. -/
def diag1 (g : GS F) (d : DA F) : (F .f32 × FVec F S256x128 .f32 × FVec F S256x128 .f32) × GS F × DA F :=
  let p13 := Scalar.addi (Scalar.muli 2#32 (BitVec.ofNat 32 (E.i 1).val)) 1#32
  let k := ld2 (k0_off1 E.i 1#32) E.k
  let v := ld2 (k0_off1 E.i 1#32) E.v
  let p155 := k0_pay121 E.m v
  let p163 := k0_pay122 p13 (k0_pay102 E.i)
  let p166 := k0_pay123 E.m E.q1 k
  let p168 := k0_pay124 E.m E.q1 k
  let p172 := k0_pay125 E.m E.q1 k
  let p173 := k0_pay126 (F := F)
  let z := k0_pay103 (F := F)
  let p192 := k0_pay131 E.su z p163 p166 p168 p172 p173
  let p203 := k0_pay134 E.su z p163 p166 p168 p172 p173
  ((k0_pay141 p192 p203, p192, p203),
    put4 (k0_off3 E.i) g (k0_pay136 E.su E.d1 z p155 p163 p166 p168 p172 p173),
    put2 (k0_off1 E.i 1#32) d (k0_pay140 E.m (ld2 (k0_off1 E.i 1#32) d)
      (k0_pay138 E.su E.d1 z p163 p166 p168 p172 p173) (k0_pay139 E.su E.d1 z p163 p166 p168 p172 p173)))

/-- One trip of the loop of the second chain's second pass. -/
def t1step (a b : BitVec 32) (n : Fin (k0_t1_loop a b).trips) (g : GS F) (s : T3 F × DA F) : T3 F × DA F :=
  let k := ld2 (k0_off9 E.i a b n) E.k
  let gs := ld4 (k0_off10 E.i a b n) g
  let p408 := k0_pay16 E.m k
  let p411 := k0_pay17 gs
  let p419 := k0_pay18 E.m E.q1 k
  let p423 := k0_pay21 E.pr s.1.2.1 gs
  let p430 := k0_pay22 E.pr s.1.2.1 gs
  let p434 := k0_pay25 E.pr s.1.2.2 gs
  let p439 := k0_pay26 E.pr gs
  ((k0_pay144 s.1.1 p408 p411 p419 p423 p434, p430, k0_pay142 s.1.2.2 p439),
    put2 (k0_off9 E.i a b n) s.2 (k0_pay145 E.m E.q1 p411 p419 p423 p434 (ld2 (k0_off9 E.i a b n) s.2)))

/-- The first `n` trips of that loop. -/
def t1run (a b : BitVec 32) (g : GS F) (s : T3 F × DA F) : ℕ → T3 F × DA F
  | 0 => s
  | n + 1 => if h : n < (k0_t1_loop a b).trips then t1step E a b ⟨n, h⟩ g (t1run a b g s n) else t1run a b g s n

/-- The first chain's half of a trip of the loop of both chains' second pass. -/
def t3step0 (a : BitVec 32) (n : Fin (k0_t3_loop a).trips) (g : GS F) (s : T3 F × DA F) : T3 F × DA F :=
  let k := ld2 (k0_off13 E.i a n 0#32) E.k
  let gs := ld4 (k0_off14 E.i a n) g
  let p408 := k0_pay38 E.m k
  let p411 := k0_pay39 gs
  let p419 := k0_pay40 E.m E.q0 k
  let p423 := k0_pay43 E.pr s.1.2.1 gs
  let p430 := k0_pay44 E.pr s.1.2.1 gs
  let p434 := k0_pay47 E.pr s.1.2.2 gs
  let p439 := k0_pay48 E.pr gs
  ((k0_pay51 s.1.1 p408 p411 p419 p423 p434, p430, k0_pay49 s.1.2.2 p439),
    put2 (k0_off13 E.i a n 0#32) s.2 (k0_pay52 E.m E.q0 p411 p419 p423 p434 (ld2 (k0_off13 E.i a n 0#32) s.2)))

/-- The second chain's half of a trip of that loop. -/
def t3step1 (a : BitVec 32) (n : Fin (k0_t3_loop a).trips) (g : GS F) (s : T3 F × DA F) : T3 F × DA F :=
  let k := ld2 (k0_off13 E.i a n 1#32) E.k
  let gs := ld4 (k0_off15 E.i a n) g
  let p479 := k0_pay53 E.m k
  let p482 := k0_pay54 gs
  let p483 := k0_pay55 E.m E.q1 k
  let p484 := k0_pay56 (F := F)
  ((k0_pay64 E.pr s.1.1 s.1.2.1 s.1.2.2 p479 p482 p483 p484, k0_pay59 E.pr s.1.2.1 p482, k0_pay62 E.pr s.1.2.2 p482),
    put2 (k0_off13 E.i a n 1#32) s.2
      (k0_pay65 E.m E.pr E.q1 s.1.2.1 s.1.2.2 p482 p483 p484 (ld2 (k0_off13 E.i a n 1#32) s.2)))

/-- One trip of the loop of both chains' second pass. -/
def t3step (a : BitVec 32) (n : Fin (k0_t3_loop a).trips) (g : GS F) (s : (T3 F × T3 F) × DA F) : (T3 F × T3 F) × DA F :=
  let x := t3step0 E a n g (s.1.1, s.2)
  let y := t3step1 E a n g (s.1.2, x.2)
  ((x.1, y.1), y.2)

/-- The first `n` trips of that loop. -/
def t3run (a : BitVec 32) (g : GS F) (s : (T3 F × T3 F) × DA F) : ℕ → (T3 F × T3 F) × DA F
  | 0 => s
  | n + 1 => if h : n < (k0_t3_loop a).trips then t3step E a ⟨n, h⟩ g (t3run a g s n) else t3run a g s n

/-- The first chain's last step: its queries' gradient and the sum of `dk`. -/
def fin0 (g : GS F) (s : T3 F) (d : DA F) : FVec F S256x128 .bf16 × DA F :=
  let p255 := Scalar.muli (Scalar.subi (Scalar.addi (Scalar.muli 2#32 (BitVec.ofNat 32 (E.i 1).val)) 0#32) 0#32) 256#32
  let k := ld2 (k0_off19 E.i 0#32) E.k
  let gs := ld4 (k0_off20 E.i) g
  let p258 := k0_pay150 (F := F)
  let p261 := k0_pay151 E.m k
  let p262 := k0_pay152 E.m
  let p304 := k0_pay155 E.pr E.q0 (k0_pay101 E.i) s.1 s.2.1 s.2.2 p255 k p258 p261 p262 gs
  let p307 := k0_pay156 E.pr E.q0 (k0_pay101 E.i) s.2.1 s.2.2 p255 k p258 p261 p262 gs
  (k0_pay158 p304, put2 (k0_off19 E.i 0#32) d (k0_pay157 E.m (ld2 (k0_off19 E.i 0#32) d) p307))

/-- The second chain's last step. -/
def fin1 (g : GS F) (s : T3 F) (d : DA F) : FVec F S256x128 .bf16 × DA F :=
  let p324 := Scalar.muli (Scalar.subi (Scalar.addi (Scalar.muli 2#32 (BitVec.ofNat 32 (E.i 1).val)) 1#32) 0#32) 256#32
  let k := ld2 (k0_off19 E.i 1#32) E.k
  let gs := ld4 (k0_off21 E.i) g
  let p334 := k0_pay159 E.m k
  let p337 := k0_pay160 gs
  let p345 := k0_pay161 E.m E.q1 k
  let p349 := k0_pay162 E.pr s.2.1 gs
  (k0_pay165 E.pr (k0_pay102 E.i) s.1 s.2.2 p324 p334 p337 p345 p349,
    put2 (k0_off19 E.i 1#32) d (k0_pay164 E.m E.pr E.q1 (k0_pay102 E.i) s.2.2 p324 p337 p345 p349 (ld2 (k0_off19 E.i 1#32) d)))

/-! ### The whole body -/

/-- The scratch buffers: the stored gradients and the sums of `dk` and `dv`. -/
abbrev Scr (F : FTy → Type) := GS F × DA F × DA F

/-- The first pass of both chains: the first `while`, then the second. -/
def pass1 (g : GS F) (d : DA F) : BitVec 32 × BitVec 32 × GS F × DA F :=
  let a := diag0 E g d
  let b := diag1 E a.2.1 a.2.2
  let s := w1run E 33 ((1#32, a.1.1, a.1.2.1, a.1.2.2, b.1.1, b.1.2.1, b.1.2.2), b.2.1, b.2.2)
  let r := w2run E 33 ((s.1.1, s.1.2.2.2.2.1, s.1.2.2.2.2.2.1, s.1.2.2.2.2.2.2), s.2.1, s.2.2)
  (s.1.1, r.1.1, r.2.1, r.2.2)

/-- The second pass: the loop of the second chain, the loop of both, the last steps. -/
def pass2 (a b : BitVec 32) (g : GS F) (d : DA F) : FVec F S256x128 .bf16 × FVec F S256x128 .bf16 × DA F :=
  let z := k0_pay103 (F := F)
  let s := t1run E a b g ((z, z, z), d) (k0_t1_loop a b).trips
  let u := t3run E a g (((z, z, z), s.1), s.2) (k0_t3_loop a).trips
  let x := fin0 E g u.1.1 u.2
  let y := fin1 E g u.1.2 x.2
  (x.1, y.1, y.2)

/-- The scratch buffers as a point finds them: the two sums start at zero at the first point of a pair of heads. -/
def start (i : grid0.Coords) (s : Scr F) : Scr F :=
  if (i 1).val = 0 then (s.1, k0_pay94 (F := F), k0_pay95 (F := F)) else s

/-- What a point leaves in the scratch buffers, and the two halves of its queries' gradient. -/
def point (s : Scr F) : (FVec F S256x128 .bf16 × FVec F S256x128 .bf16) × Scr F :=
  let s₀ := start E.i s
  let p := pass1 E s₀.1 s₀.2.2
  let r := pass2 E p.1 p.2.1 p.2.2.1 s₀.2.1
  ((r.1, r.2.1), p.2.2.1, r.2.2, p.2.2.2)

/-- The tile of 256 rows of a `[512, 128]` block at row `o`. -/
def half {α : Type} (o : ℕ) (x : S512x128.Idx → α) : S256x128.Idx → α := fun j =>
  x (ix2 (n0 := 512) (n1 := 128) ⟨(o + (j 0).val) % 512, Nat.mod_lt _ (by decide)⟩ ⟨(j 1).val, (j 1).isLt⟩)

/-- What a point holds fixed, of the blocks its windows fetched. -/
def env (i : grid0.Coords) (q : Vec F S512x128 .bf16) (k v : Vec F S8192x128 .bf16) (su pr : Vec F S256x256 .bf16)
    (dy : Vec F S512x128 .bf16) : Env F where
  i := i
  k := k
  v := v
  m := k0_pay96
  su := k0_pay97 su
  pr := k0_pay98 pr
  q0 := k0_pay99 (half 0 q)
  q1 := k0_pay100 (half 256 q)
  d0 := half 0 dy
  d1 := half 256 dy

/-- The two halves of a `[512, 128]` block side by side. -/
def both {α : Type} (a b : S256x128.Idx → α) : S512x128.Idx → α := fun j =>
  if h : (j 0).val < 256 then a (ix2 (n0 := 256) (n1 := 128) ⟨(j 0).val, h⟩ ⟨(j 1).val, (j 1).isLt⟩)
  else b (ix2 (n0 := 256) (n1 := 128) ⟨(j 0).val - 256, by have h5 : (j 0).val < 512 := (j 0).isLt; omega⟩ ⟨(j 1).val, (j 1).isLt⟩)

end Cert.AttnModel
end
-- ==== Proof.AttnTile.lean ====
/- The two steps the attention backward makes on a tile of 256 queries by 256 keys of both heads, written once; every
   stretch of the body is one of them on its own operands. -/
module

public import proofs.«01_k».proof.Proof.AttnModel

@[expose] public section

noncomputable section

namespace Cert.AttnTile
open Cert.AttnBwdIdeal Cert.AttnBwdIdeal.Gen Cert.AttnModel
open Idealize.ShloMosaic Idealize.ShloMosaic.TcCoe

variable {F : FTy → Type} [FloatOps F] [Named F]

/-- The columns of the first head. -/
def colsA {φ : FTy} (f : FVec F S256x512 φ) : FVec F S256x256 φ :=
  extractStridedSlice S256x256 ![0, 0] f slices_S256x512_o0_0_S256x256

/-- The columns of the second head. -/
def colsB {φ : FTy} (f : FVec F S256x512 φ) : FVec F S256x256 φ :=
  extractStridedSlice S256x256 ![0, 256] f slices_S256x512_o0_256_S256x256

/-- A product with a triangle of ones. -/
def tri (u x : FVec F S256x256 .bf16) : FVec F S256x256 .f32 :=
  matmul dot_S256x256_S256x256_S256x256_1_0_0_1_n_n none x u (constant S256x256 .f32 0x00000000#32)

/-- A running sum, held along 128 lanes, along 256. -/
def spread (c : FVec F S256x128 .f32) : FVec F S256x256 .f32 :=
  concatenate S256x256 1 [⟨S256x128, c⟩, ⟨S256x128, c⟩] concatenates_S256x128_S256x128_S256x256_d1

/-- The sums of a tile along its rows, from a running sum on. -/
def scan (u x : FVec F S256x256 .bf16) (c : FVec F S256x128 .f32) : FVec F S256x256 .f32 := addf (tri u x) (spread c)

/-- The two heads' columns side by side. -/
def side (a b : FVec F S256x256 .f32) : FVec F S256x512 .f32 :=
  concatenate S256x512 1 [⟨S256x256, a⟩, ⟨S256x256, b⟩] concatenates_S256x256_S256x256_S256x512_d1

/-- The running sum after a tile read from its last column to its first. -/
def carryL (u : FVec F S256x256 .bf16) (x : FVec F S256x256 .f32) (c : FVec F S256x128 .f32) : FVec F S256x128 .f32 :=
  addf c (broadcastTo S256x128 (shapeCast S256x1
    (addf (extractStridedSlice S256x1 ![0, 0] (tri u (truncf .bf16 x bitsLt_bf16_f32)) slices_S256x256_o0_0_S256x1)
      (extractStridedSlice S256x1 ![0, 0] x slices_S256x256_o0_0_S256x1)) shapeCasts_S256x1_S256x1)
    broadcasts_S256x1_S256x128)

/-- The running sum after a tile read from its first column to its last. -/
def carryR (u x : FVec F S256x256 .bf16) (c : FVec F S256x128 .f32) : FVec F S256x128 .f32 :=
  addf c (broadcastTo S256x128 (shapeCast S256x1
    (addf (extractStridedSlice S256x1 ![0, 255] (tri u x) slices_S256x256_o0_255_S256x1)
      (extf .f32 (extractStridedSlice S256x1 ![0, 255] x slices_S256x256_o0_255_S256x1) bitsLt_bf16_f32))
    shapeCasts_S256x1_S256x1) broadcasts_S256x1_S256x128)

/-- The exponents of the attention weights of a tile. -/
def expo (su : FVec F S256x256 .bf16) (h f : FVec F S256x512 .f32) (ra rb : FVec F S256x128 .f32) : FVec F S256x512 .f32 :=
  addf h (side (scan su (truncf .bf16 (colsA f) bitsLt_bf16_f32) ra) (scan su (truncf .bf16 (colsB f) bitsLt_bf16_f32) rb))

/-- The stored gradients of a tile. -/
def slab (m : IVec S1x128 1) (d v : Vec F S256x128 .bf16) (w : FVec F S256x512 .f32) : FVec F S1x1x256x512 .bf16 :=
  shapeCast S1x1x256x512 (truncf .bf16 (mulf (matmul dot_S256x128_S512x128_S256x512_1_1_0_0_n_n none d (k0_pay104 m v)
    (constant S256x512 .f32 0x00000000#32)) w) bitsLt_bf16_f32) shapeCasts_S256x512_S1x1x256x512

/-- A sum over the queries added to 256 rows of `dk` or `dv`. -/
def fold (m : IVec S1x128 1) (d : Vec F S256x128 .bf16) (w : FVec F S256x512 .bf16) (a : FVec F S256x128 .f32) :
    FVec F S256x128 .f32 :=
  let p : FVec F S512x128 .f32 :=
    matmul dot_S256x512_S256x128_S512x128_0_0_1_1_n_n none w d (constant S512x128 .f32 0x00000000#32)
  shapeCast S256x128 (addf a (select (broadcastTo S256x128 (shapeCast S1x128 m shapeCasts_S1x128_S1x128) broadcasts_S1x128_S256x128)
    (extractStridedSlice S256x128 ![0, 0] p slices_S512x128_o0_0_S256x128)
    (extractStridedSlice S256x128 ![256, 0] p slices_S512x128_o256_0_S256x128))) shapeCasts_S256x128_S256x128

/-- What a chain's step of the first pass leaves: the largest running sum and the running sums, the slab of stored
    gradients, the rows of `dv`. -/
abbrev Out1 (F : FTy → Type) :=
  (F .f32 × FVec F S256x128 .f32 × FVec F S256x128 .f32) × FVec F S1x1x256x512 .bf16 × FVec F S256x128 .f32

/-- A step of the first pass. -/
def one (m : IVec S1x128 1) (su : FVec F S256x256 .bf16) (q d k v : Vec F S256x128 .bf16) (ra rb a : FVec F S256x128 .f32) :
    Out1 F :=
  let f := k0_pay108 m q k
  let w := exp2 (expo su (k0_pay107 m q k) f ra rb)
  let xa := carryL su (colsA f) ra
  let xb := carryL su (colsB f) rb
  ((k0_pay120 xa xb, xa, xb), slab m d v w, fold m d (truncf .bf16 w bitsLt_bf16_f32) a)

/-- A step of the first pass under the causal mask, which starts the running sums. -/
def oneD (msk : IVec S256x512 1) (m : IVec S1x128 1) (su : FVec F S256x256 .bf16) (q d k v : Vec F S256x128 .bf16)
    (a : FVec F S256x128 .f32) : Out1 F :=
  let f := select msk (k0_pay108 m q k) (k0_pay109 (F := F))
  let z := k0_pay103 (F := F)
  let w := exp2 (select msk (expo su (k0_pay107 m q k) f z z) (broadcast S256x512 (Named.named κ "mask" 0xF149F2CA#32)))
  let xa := carryL su (colsA f) z
  let xb := carryL su (colsB f) z
  ((k0_pay120 xa xb, xa, xb), slab m d v w, fold m d (truncf .bf16 w bitsLt_bf16_f32) a)

/-- The gradient of the logits of a tile. -/
def dlogit (pr : FVec F S256x256 .bf16) (g : FVec F S256x512 .bf16) (s : FVec F S256x512 .f32) (ra rb : FVec F S256x128 .f32) :
    FVec F S256x512 .f32 :=
  subf (mulf (extf .f32 g bitsLt_bf16_f32) (subf (broadcast S256x512 (Scalar.ofBits .f32 0x3F800000#32)) s))
    (mulf s (side (scan pr (colsA g) ra) (scan pr (colsB g) rb)))

/-- A tile's part of `dq` added to 256 rows. -/
def addq (m : IVec S1x128 1) (k : Vec F S256x128 .bf16) (z : FVec F S256x512 .bf16) (a : FVec F S256x128 .f32) :
    FVec F S256x128 .f32 :=
  addf a (matmul dot_S256x512_S512x128_S256x128_1_0_0_1_n_n none z (k0_pay104 m k) (constant S256x128 .f32 0x00000000#32))

/-- A step of the second pass. -/
def two (m : IVec S1x128 1) (pr : FVec F S256x256 .bf16) (q k : Vec F S256x128 .bf16) (gs : FVec F S1x1x256x512 .bf16)
    (s : T3 F) (a : FVec F S256x128 .f32) : T3 F × FVec F S256x128 .f32 :=
  let g := k0_pay39 gs
  let z := truncf .bf16 (dlogit pr g (k0_pay40 m q k) s.2.1 s.2.2) bitsLt_bf16_f32
  ((addq m k z s.1, carryR pr (colsA g) s.2.1, carryR pr (colsB g) s.2.2), fold m q z a)

/-- The last step of the second pass, under the causal mask. -/
def twoD (msk : IVec S256x512 1) (m : IVec S1x128 1) (pr : FVec F S256x256 .bf16) (q k : Vec F S256x128 .bf16)
    (gs : FVec F S1x1x256x512 .bf16) (s : T3 F) (a : FVec F S256x128 .f32) : FVec F S256x128 .bf16 × FVec F S256x128 .f32 :=
  let g := k0_pay39 gs
  let z := truncf .bf16 (select msk (dlogit pr g (k0_pay40 m q k) s.2.1 s.2.2)
    (broadcast S256x512 (Scalar.ofBits .f32 0x00000000#32))) bitsLt_bf16_f32
  (k0_pay158 (addq m k z s.1), fold m q z a)

/-! ### The body's stretches -/

variable (E : Env F)

theorem w1step0_eq (t : BitVec 32) (ra rb : FVec F S256x128 .f32) (g : GS F) (d : DA F) :
    w1step0 E t ra rb g d =
      let o := one E.m E.su E.q0 E.d0 (ld2 (k0_off4 E.i t 0#32) E.k) (ld2 (k0_off4 E.i t 0#32) E.v) ra rb
        (ld2 (k0_off4 E.i t 0#32) d)
      (o.1, put4 (k0_off5 E.i t) g o.2.1, put2 (k0_off4 E.i t 0#32) d o.2.2) := rfl

theorem w1step1_eq (t : BitVec 32) (ra rb : FVec F S256x128 .f32) (g : GS F) (d : DA F) :
    w1step1 E t ra rb g d =
      let o := one E.m E.su E.q1 E.d1 (ld2 (k0_off4 E.i t 1#32) E.k) (ld2 (k0_off4 E.i t 1#32) E.v) ra rb
        (ld2 (k0_off4 E.i t 1#32) d)
      (o.1, put4 (k0_off6 E.i t) g o.2.1, put2 (k0_off4 E.i t 1#32) d o.2.2) := rfl

theorem w2step_eq (s : R2 F × GS F × DA F) :
    w2step E s =
      let o := one E.m E.su E.q1 E.d1 (ld2 (k0_off7 E.i s.1.1) E.k) (ld2 (k0_off7 E.i s.1.1) E.v) s.1.2.2.1 s.1.2.2.2
        (ld2 (k0_off7 E.i s.1.1) s.2.2)
      ((Scalar.addi s.1.1 1#32, o.1), put4 (k0_off8 E.i s.1.1) s.2.1 o.2.1, put2 (k0_off7 E.i s.1.1) s.2.2 o.2.2) := rfl

/-- The causal mask of the first chain's own key block. -/
def mask0 (i : grid0.Coords) : IVec S256x512 1 :=
  k0_pay105 (k0_pay101 i) (Scalar.subi (Scalar.addi (Scalar.muli 2#32 (BitVec.ofNat 32 (i 1).val)) 0#32) 0#32)

/-- The causal mask of the second chain's own key block. -/
def mask1 (i : grid0.Coords) : IVec S256x512 1 :=
  k0_pay122 (Scalar.addi (Scalar.muli 2#32 (BitVec.ofNat 32 (i 1).val)) 1#32) (k0_pay102 i)

theorem diag0_eq (g : GS F) (d : DA F) :
    diag0 E g d =
      let o := oneD (mask0 E.i) E.m E.su E.q0 E.d0 (ld2 (k0_off1 E.i 0#32) E.k) (ld2 (k0_off1 E.i 0#32) E.v)
        (ld2 (k0_off1 E.i 0#32) d)
      (o.1, put4 (k0_off2 E.i) g o.2.1, put2 (k0_off1 E.i 0#32) d o.2.2) := rfl

theorem diag1_eq (g : GS F) (d : DA F) :
    diag1 E g d =
      let o := oneD (mask1 E.i) E.m E.su E.q1 E.d1 (ld2 (k0_off1 E.i 1#32) E.k) (ld2 (k0_off1 E.i 1#32) E.v)
        (ld2 (k0_off1 E.i 1#32) d)
      (o.1, put4 (k0_off3 E.i) g o.2.1, put2 (k0_off1 E.i 1#32) d o.2.2) := rfl

theorem t1step_eq (a b : BitVec 32) (n : Fin (k0_t1_loop a b).trips) (g : GS F) (s : T3 F × DA F) :
    t1step E a b n g s =
      let o := two E.m E.pr E.q1 (ld2 (k0_off9 E.i a b n) E.k) (ld4 (k0_off10 E.i a b n) g) s.1 (ld2 (k0_off9 E.i a b n) s.2)
      (o.1, put2 (k0_off9 E.i a b n) s.2 o.2) := rfl

theorem t3step0_eq (a : BitVec 32) (n : Fin (k0_t3_loop a).trips) (g : GS F) (s : T3 F × DA F) :
    t3step0 E a n g s =
      let o := two E.m E.pr E.q0 (ld2 (k0_off13 E.i a n 0#32) E.k) (ld4 (k0_off14 E.i a n) g) s.1
        (ld2 (k0_off13 E.i a n 0#32) s.2)
      (o.1, put2 (k0_off13 E.i a n 0#32) s.2 o.2) := rfl

theorem t3step1_eq (a : BitVec 32) (n : Fin (k0_t3_loop a).trips) (g : GS F) (s : T3 F × DA F) :
    t3step1 E a n g s =
      let o := two E.m E.pr E.q1 (ld2 (k0_off13 E.i a n 1#32) E.k) (ld4 (k0_off15 E.i a n) g) s.1
        (ld2 (k0_off13 E.i a n 1#32) s.2)
      (o.1, put2 (k0_off13 E.i a n 1#32) s.2 o.2) := rfl

theorem fin0_eq (g : GS F) (s : T3 F) (d : DA F) :
    fin0 E g s d =
      let o := twoD (mask0 E.i) E.m E.pr E.q0 (ld2 (k0_off19 E.i 0#32) E.k) (ld4 (k0_off20 E.i) g) s (ld2 (k0_off19 E.i 0#32) d)
      (o.1, put2 (k0_off19 E.i 0#32) d o.2) := rfl

theorem fin1_eq (g : GS F) (s : T3 F) (d : DA F) :
    fin1 E g s d =
      let o := twoD (mask1 E.i) E.m E.pr E.q1 (ld2 (k0_off19 E.i 1#32) E.k) (ld4 (k0_off21 E.i) g) s (ld2 (k0_off19 E.i 1#32) d)
      (o.1, put2 (k0_off19 E.i 1#32) d o.2) := rfl

end Cert.AttnTile
end
-- ==== Proof.AttnWords.lean ====
module

public import proofs.«01_k».proof.Proof.Gen.AttnBwdIdeal.Skeleton
public import Idealize.ShloMosaic.Lib.WordCmp
public import Idealize.ShloMosaic.Lib.LoopRemainder

/-!
# The words of the attention backward's body

The offsets of the tiles the loops address, the checks their trips make and the trip counts, as facts about natural
numbers: at step `n` of the pair of blocks `s = i 1` the key block of chain `c` is `2 s + c - n`.
-/

@[expose] public section

noncomputable section

namespace Cert.AttnModel
open Cert.AttnBwdIdeal Cert.AttnBwdIdeal.Gen
open Idealize.ShloMosaic Idealize.ShloMosaic.TcCoe

/-- The step index of a point is below 16. -/
theorem i1_lt (i : grid0.Coords) : (i 1).val < 16 := (i 1).isLt

/-- The word of a chain's key block. -/
theorem blk_word (s c n : ℕ) (hs : s < 16) (hc : c ≤ 1) (hn : n ≤ 2 * s + c) :
    Scalar.subi (Scalar.addi (Scalar.muli 2#32 (BitVec.ofNat 32 s)) (BitVec.ofNat 32 c)) (BitVec.ofNat 32 n)
      = BitVec.ofNat 32 (2 * s + c - n) := by
  apply BitVec.eq_of_toNat_eq
  simp only [Scalar.subi, Scalar.addi, Scalar.muli, IntOp.subi, IntOp.addi, IntOp.muli, BitVec.toNat_sub, BitVec.toNat_add, BitVec.toNat_mul,
    BitVec.toNat_ofNat]
  omega

/-- The word of a block's first row. -/
theorem row_word (b : ℕ) (hb : b < 32) : (Scalar.muli (BitVec.ofNat 32 b) 256#32).toNat = 256 * b := by
  simp only [Scalar.muli, IntOp.muli, BitVec.toNat_mul, BitVec.toNat_ofNat]
  omega

/-- The step of a trip of a loop that walks the steps back. -/
theorem back_word (j k : ℕ) (hk : k < j) (hj : j < 40) :
    Scalar.subi (Scalar.subi (BitVec.ofNat 32 j) 1#32) (Scf.iv 0#32 1#32 k) = BitVec.ofNat 32 (j - 1 - k) := by
  apply BitVec.eq_of_toNat_eq
  simp only [Scalar.subi, IntOp.subi, Scf.iv, BitVec.toNat_sub, BitVec.toNat_add, BitVec.toNat_mul,
    BitVec.toNat_ofNat]
  omega

/-- The next step. -/
theorem next_word (n : ℕ) : Scalar.addi (BitVec.ofNat 32 n) 1#32 = BitVec.ofNat 32 (n + 1) := by
  apply BitVec.eq_of_toNat_eq
  simp only [Scalar.addi, IntOp.addi, BitVec.toNat_add, BitVec.toNat_ofNat]
  omega

/-- The comparison of a step with the last step of a chain. -/
theorem le_word (s c n : ℕ) (hs : s < 16) (hc : c ≤ 1) (hn : n < 40) :
    Scalar.cmpi .sle (BitVec.ofNat 32 n) (Scalar.addi (Scalar.muli 2#32 (BitVec.ofNat 32 s)) (BitVec.ofNat 32 c))
      = BitVec.ofBool (decide (n ≤ 2 * s + c)) := by
  have h : Scalar.addi (Scalar.muli 2#32 (BitVec.ofNat 32 s)) (BitVec.ofNat 32 c) = BitVec.ofNat 32 (2 * s + c) := by
    apply BitVec.eq_of_toNat_eq
    simp only [Scalar.addi, Scalar.muli, IntOp.addi, IntOp.muli, BitVec.toNat_add, BitVec.toNat_mul, BitVec.toNat_ofNat]
    omega
  rw [h]
  simp only [Scalar.cmpi]
  rw [WordCmp.cmpi_sle_ofNat (by omega) (by omega)]

/-! ### The first pass -/

theorem off4_0 (i : grid0.Coords) (n : ℕ) (hn : n ≤ 2 * (i 1).val) :
    k0_off4 i (BitVec.ofNat 32 n) 0#32 = ![256 * (2 * (i 1).val - n), 0] := by
  show ![(Scalar.muli (Scalar.subi (Scalar.addi (Scalar.muli 2#32 (BitVec.ofNat 32 (i 1).val)) (BitVec.ofNat 32 0)) (BitVec.ofNat 32 n)) 256#32).toNat, 0] = _
  have := i1_lt i
  rw [blk_word _ 0 n this (by omega) (by omega), row_word _ (by omega)]; rfl

theorem off4_1 (i : grid0.Coords) (n : ℕ) (hn : n ≤ 2 * (i 1).val + 1) :
    k0_off4 i (BitVec.ofNat 32 n) 1#32 = ![256 * (2 * (i 1).val + 1 - n), 0] := by
  show ![(Scalar.muli (Scalar.subi (Scalar.addi (Scalar.muli 2#32 (BitVec.ofNat 32 (i 1).val)) (BitVec.ofNat 32 1)) (BitVec.ofNat 32 n)) 256#32).toNat, 0] = _
  have := i1_lt i
  rw [blk_word _ 1 n this (by omega) (by omega), row_word _ (by omega)]

/-- A block's word reads back as the block. -/
theorem toNat_blk (b : ℕ) (hb : b < 40) : (BitVec.ofNat 32 b).toNat = b := by
  rw [BitVec.toNat_ofNat]; omega

theorem off5_eq (i : grid0.Coords) (n : ℕ) (hn : n ≤ 2 * (i 1).val) :
    k0_off5 i (BitVec.ofNat 32 n) = ![0, 2 * (i 1).val - n, 0, 0] := by
  show ![0, (Scalar.subi (Scalar.addi (Scalar.muli 2#32 (BitVec.ofNat 32 (i 1).val)) (BitVec.ofNat 32 0)) (BitVec.ofNat 32 n)).toNat, 0, 0] = _
  have := i1_lt i
  rw [blk_word _ 0 n this (by omega) (by omega), toNat_blk _ (by omega)]; rfl

theorem off6_eq (i : grid0.Coords) (n : ℕ) (hn : n ≤ 2 * (i 1).val + 1) :
    k0_off6 i (BitVec.ofNat 32 n) = ![1, 2 * (i 1).val + 1 - n, 0, 0] := by
  show ![1, (Scalar.subi (Scalar.addi (Scalar.muli 2#32 (BitVec.ofNat 32 (i 1).val)) (BitVec.ofNat 32 1)) (BitVec.ofNat 32 n)).toNat, 0, 0] = _
  have := i1_lt i
  rw [blk_word _ 1 n this (by omega) (by omega), toNat_blk _ (by omega)]

theorem off7_eq (i : grid0.Coords) (n : ℕ) (hn : n ≤ 2 * (i 1).val + 1) :
    k0_off7 i (BitVec.ofNat 32 n) = ![256 * (2 * (i 1).val + 1 - n), 0] := off4_1 i n hn

theorem off8_eq (i : grid0.Coords) (n : ℕ) (hn : n ≤ 2 * (i 1).val + 1) :
    k0_off8 i (BitVec.ofNat 32 n) = ![1, 2 * (i 1).val + 1 - n, 0, 0] := off6_eq i n hn

/-- A tile of rows at a block is inside the array. -/
theorem inb_rows {off : Fin 2 → ℕ} (b : ℕ) (hb : b < 32) (h : off = ![256 * b, 0]) :
    ∀ a, off a + S256x128.size a ≤ S8192x128.size a := by
  subst h
  intro a
  match a with
  | ⟨0, _⟩ => show 256 * b + 256 ≤ 8192; omega
  | ⟨1, _⟩ => show 0 + 128 ≤ 128; omega

/-- A slab of the stored gradients is inside the array. -/
theorem inb_slab {off : Fin 4 → ℕ} (c b : ℕ) (hc : c ≤ 1) (hb : b < 32) (h : off = ![c, b, 0, 0]) :
    ∀ a, off a + S1x1x256x512.size a ≤ S2x32x256x512.size a := by
  subst h
  intro a
  match a with
  | ⟨0, _⟩ => show c + 1 ≤ 2; omega
  | ⟨1, _⟩ => show b + 1 ≤ 32; omega
  | ⟨2, _⟩ => show 0 + 256 ≤ 256; omega
  | ⟨3, _⟩ => show 0 + 512 ≤ 512; omega

/-- A slab takes whole rows. -/
theorem packed_slab {off : Fin 4 → ℕ} (c b : ℕ) (h : off = ![c, b, 0, 0])
    (hinb : ∀ a, off a + S1x1x256x512.size a ≤ S2x32x256x512.size a) :
    (Rect.unit (s := S2x32x256x512) off S1x1x256x512.size hinb).PackedRows (EltTy.packing .bf16) := by
  subst h
  exact .inr ⟨by decide, rfl, .inl ⟨⟨0, rfl⟩, ⟨128, rfl⟩⟩⟩

theorem dvd_row (s c n : ℕ) (hs : s < 16) (hc : c ≤ 1) (hn : n ≤ 2 * s + c) :
    256 ∣ (Scalar.muli (Scalar.subi (Scalar.addi (Scalar.muli 2#32 (BitVec.ofNat 32 s)) (BitVec.ofNat 32 c)) (BitVec.ofNat 32 n)) 256#32).toNat := by
  rw [blk_word s c n hs hc hn, row_word _ (by omega)]
  exact ⟨_, rfl⟩

/-- The first `while`'s check holds while there is a key block before the first chain's. -/
theorem chk1_of_le (i : grid0.Coords) (n : ℕ) (hn : n ≤ 2 * (i 1).val) : k0_chk1 i (BitVec.ofNat 32 n) := by
  have hi := i1_lt i
  refine ⟨dvd_row _ 0 n hi (by omega) (by omega), fun r => ?_, inb_slab 0 _ (by omega) (by omega) (off5_eq i n hn),
    packed_slab 0 _ (off5_eq i n hn), dvd_row _ 1 n hi (by omega) (by omega), inb_slab 1 _ (by omega) (by omega) (off6_eq i n (by omega)),
    packed_slab 1 _ (off6_eq i n (by omega))⟩
  match r with
  | ⟨0, _⟩ => exact inb_rows _ (by omega) (off4_0 i n hn)
  | ⟨1, _⟩ => exact inb_rows _ (by omega) (off4_1 i n (by omega))

/-- The second `while`'s check holds while there is a key block before the second chain's. -/
theorem chk2_of_le (i : grid0.Coords) (n : ℕ) (hn : n ≤ 2 * (i 1).val + 1) : k0_chk2 i (BitVec.ofNat 32 n) := by
  have hi := i1_lt i
  exact ⟨dvd_row _ 1 n hi (by omega) (by omega), inb_rows _ (by omega) (off7_eq i n hn),
    inb_slab 1 _ (by omega) (by omega) (off8_eq i n hn), packed_slab 1 _ (off8_eq i n hn)⟩

/-! ### The second pass -/

/-- The trips of a loop from zero to a small count by one. -/
theorem trips_small (n : ℕ) (hn : n < 40) : Scf.trips 0#32 (BitVec.ofNat 32 n) 1#32 = n := by
  interval_cases n <;> decide +kernel

theorem ok_small (n : ℕ) (hn : n < 40) : Scf.OK 0#32 (BitVec.ofNat 32 n) 1#32 := by
  interval_cases n <;> decide +kernel

theorem t1_ub (J D : ℕ) (hJD : J ≤ D) (hD : D < 40) :
    (k0_t1_loop (BitVec.ofNat 32 J) (BitVec.ofNat 32 D)).ub = BitVec.ofNat 32 (D - J) := by
  show Scalar.addi 0#32 (Scalar.muli (Scalar.divsi (Scalar.subi (Scalar.subi (BitVec.ofNat 32 D) (BitVec.ofNat 32 J)) 0#32) 1#32) 1#32) = _
  rw [Scalar.muli_divsi_one]
  apply BitVec.eq_of_toNat_eq
  simp only [Scalar.subi, Scalar.addi, IntOp.subi, IntOp.addi, BitVec.toNat_sub, BitVec.toNat_add, BitVec.toNat_ofNat]
  omega

theorem t3_ub (J : ℕ) (h1 : 1 ≤ J) (hJ : J < 40) : (k0_t3_loop (BitVec.ofNat 32 J)).ub = BitVec.ofNat 32 (J - 1) := by
  show Scalar.addi 0#32 (Scalar.muli (Scalar.divsi (Scalar.subi (Scalar.subi (BitVec.ofNat 32 J) 1#32) 0#32) 1#32) 1#32) = _
  rw [Scalar.muli_divsi_one]
  apply BitVec.eq_of_toNat_eq
  simp only [Scalar.subi, Scalar.addi, IntOp.subi, IntOp.addi, BitVec.toNat_sub, BitVec.toNat_add, BitVec.toNat_ofNat]
  omega

theorem t1_trips (J D : ℕ) (hJD : J ≤ D) (hD : D < 40) :
    (k0_t1_loop (BitVec.ofNat 32 J) (BitVec.ofNat 32 D)).trips = D - J := by
  show Scf.trips 0#32 (k0_t1_loop (BitVec.ofNat 32 J) (BitVec.ofNat 32 D)).ub 1#32 = _
  rw [t1_ub J D hJD hD, trips_small _ (by omega)]

theorem t3_trips (J : ℕ) (h1 : 1 ≤ J) (hJ : J < 40) : (k0_t3_loop (BitVec.ofNat 32 J)).trips = J - 1 := by
  show Scf.trips 0#32 (k0_t3_loop (BitVec.ofNat 32 J)).ub 1#32 = _
  rw [t3_ub J h1 hJ, trips_small _ (by omega)]

theorem t2_trips (a b : BitVec 32) : (k0_t2_loop a b).trips = 0 := Scf.rem_trips _ _
theorem t4_trips (a : BitVec 32) : (k0_t4_loop a).trips = 0 := Scf.rem_trips _ _

theorem off9_eq (i : grid0.Coords) (J D : ℕ) (k : Fin (k0_t1_loop (BitVec.ofNat 32 J) (BitVec.ofNat 32 D)).trips)
    (hk : k.val < D) (hD : D ≤ 2 * (i 1).val + 2) :
    k0_off9 i (BitVec.ofNat 32 J) (BitVec.ofNat 32 D) k = ![256 * (2 * (i 1).val + 1 - (D - 1 - k.val)), 0] := by
  have hi := i1_lt i
  show ![(Scalar.muli (Scalar.subi (Scalar.addi (Scalar.muli 2#32 (BitVec.ofNat 32 (i 1).val)) (BitVec.ofNat 32 1))
    (Scalar.subi (Scalar.subi (BitVec.ofNat 32 D) 1#32) (Scf.iv 0#32 1#32 k.val))) 256#32).toNat, 0] = _
  rw [back_word D k.val hk (by omega), blk_word _ 1 _ hi (by omega) (by omega), row_word _ (by omega)]

theorem off10_eq (i : grid0.Coords) (J D : ℕ) (k : Fin (k0_t1_loop (BitVec.ofNat 32 J) (BitVec.ofNat 32 D)).trips)
    (hk : k.val < D) (hD : D ≤ 2 * (i 1).val + 2) :
    k0_off10 i (BitVec.ofNat 32 J) (BitVec.ofNat 32 D) k = ![1, 2 * (i 1).val + 1 - (D - 1 - k.val), 0, 0] := by
  have hi := i1_lt i
  show ![1, (Scalar.subi (Scalar.addi (Scalar.muli 2#32 (BitVec.ofNat 32 (i 1).val)) (BitVec.ofNat 32 1))
    (Scalar.subi (Scalar.subi (BitVec.ofNat 32 D) 1#32) (Scf.iv 0#32 1#32 k.val))).toNat, 0, 0] = _
  rw [back_word D k.val hk (by omega), blk_word _ 1 _ hi (by omega) (by omega), toNat_blk _ (by omega)]

theorem off13_0 (i : grid0.Coords) (J : ℕ) (k : Fin (k0_t3_loop (BitVec.ofNat 32 J)).trips)
    (hk : k.val < J) (hJ : J ≤ 2 * (i 1).val + 1) :
    k0_off13 i (BitVec.ofNat 32 J) k 0#32 = ![256 * (2 * (i 1).val - (J - 1 - k.val)), 0] := by
  have hi := i1_lt i
  show ![(Scalar.muli (Scalar.subi (Scalar.addi (Scalar.muli 2#32 (BitVec.ofNat 32 (i 1).val)) (BitVec.ofNat 32 0))
    (Scalar.subi (Scalar.subi (BitVec.ofNat 32 J) 1#32) (Scf.iv 0#32 1#32 k.val))) 256#32).toNat, 0] = _
  rw [back_word J k.val hk (by omega), blk_word _ 0 _ hi (by omega) (by omega), row_word _ (by omega)]; rfl

theorem off13_1 (i : grid0.Coords) (J : ℕ) (k : Fin (k0_t3_loop (BitVec.ofNat 32 J)).trips)
    (hk : k.val < J) (hJ : J ≤ 2 * (i 1).val + 1) :
    k0_off13 i (BitVec.ofNat 32 J) k 1#32 = ![256 * (2 * (i 1).val + 1 - (J - 1 - k.val)), 0] := by
  have hi := i1_lt i
  show ![(Scalar.muli (Scalar.subi (Scalar.addi (Scalar.muli 2#32 (BitVec.ofNat 32 (i 1).val)) (BitVec.ofNat 32 1))
    (Scalar.subi (Scalar.subi (BitVec.ofNat 32 J) 1#32) (Scf.iv 0#32 1#32 k.val))) 256#32).toNat, 0] = _
  rw [back_word J k.val hk (by omega), blk_word _ 1 _ hi (by omega) (by omega), row_word _ (by omega)]

theorem off14_eq (i : grid0.Coords) (J : ℕ) (k : Fin (k0_t3_loop (BitVec.ofNat 32 J)).trips)
    (hk : k.val < J) (hJ : J ≤ 2 * (i 1).val + 1) :
    k0_off14 i (BitVec.ofNat 32 J) k = ![0, 2 * (i 1).val - (J - 1 - k.val), 0, 0] := by
  have hi := i1_lt i
  show ![0, (Scalar.subi (Scalar.addi (Scalar.muli 2#32 (BitVec.ofNat 32 (i 1).val)) (BitVec.ofNat 32 0))
    (Scalar.subi (Scalar.subi (BitVec.ofNat 32 J) 1#32) (Scf.iv 0#32 1#32 k.val))).toNat, 0, 0] = _
  rw [back_word J k.val hk (by omega), blk_word _ 0 _ hi (by omega) (by omega), toNat_blk _ (by omega)]; rfl

theorem off15_eq (i : grid0.Coords) (J : ℕ) (k : Fin (k0_t3_loop (BitVec.ofNat 32 J)).trips)
    (hk : k.val < J) (hJ : J ≤ 2 * (i 1).val + 1) :
    k0_off15 i (BitVec.ofNat 32 J) k = ![1, 2 * (i 1).val + 1 - (J - 1 - k.val), 0, 0] := by
  have hi := i1_lt i
  show ![1, (Scalar.subi (Scalar.addi (Scalar.muli 2#32 (BitVec.ofNat 32 (i 1).val)) (BitVec.ofNat 32 1))
    (Scalar.subi (Scalar.subi (BitVec.ofNat 32 J) 1#32) (Scf.iv 0#32 1#32 k.val))).toNat, 0, 0] = _
  rw [back_word J k.val hk (by omega), blk_word _ 1 _ hi (by omega) (by omega), toNat_blk _ (by omega)]

/-- The second chain's loop's checks. -/
theorem chk3_of_le (i : grid0.Coords) (J D : ℕ) (hJD : J ≤ D) (hD : D ≤ 2 * (i 1).val + 2) :
    k0_chk3 i (BitVec.ofNat 32 J) (BitVec.ofNat 32 D) := by
  have hi := i1_lt i
  have ht := t1_trips J D hJD (by omega)
  have hk1 : ∀ k : Fin (k0_t1_loop (BitVec.ofNat 32 J) (BitVec.ofNat 32 D)).trips, k.val < D - J := fun k => lt_of_lt_of_eq k.isLt ht
  have no : Fin (k0_t2_loop (BitVec.ofNat 32 J) (BitVec.ofNat 32 D)).trips → False := fun k => by
    exact absurd (lt_of_lt_of_eq k.isLt (t2_trips _ _)) (Nat.not_lt_zero _)
  refine ⟨?_, fun k => ?_, fun k => ?_, fun k => ?_, Scf.rem_ok _ _, fun k => (no k).elim, fun k => (no k).elim, fun k => (no k).elim⟩
  · show Scf.OK 0#32 (k0_t1_loop (BitVec.ofNat 32 J) (BitVec.ofNat 32 D)).ub 1#32
    rw [t1_ub J D hJD (by omega)]; exact ok_small _ (by omega)
  · have hk := hk1 k
    have h := dvd_row (i 1).val 1 (D - 1 - k.val) hi (by omega) (by omega)
    rw [← back_word D k.val (by omega) (by omega)] at h
    exact h
  · have hk := hk1 k
    exact inb_rows _ (by omega) (off9_eq i J D k (by omega) hD)
  · have hk := hk1 k
    exact inb_slab 1 _ (by omega) (by omega) (off10_eq i J D k (by omega) hD)

/-- The loop of both chains' checks. -/
theorem chk4_of_le (i : grid0.Coords) (J : ℕ) (h1 : 1 ≤ J) (hJ : J ≤ 2 * (i 1).val + 1) : k0_chk4 i (BitVec.ofNat 32 J) := by
  have hi := i1_lt i
  have ht := t3_trips J h1 (by omega)
  have no : Fin (k0_t4_loop (BitVec.ofNat 32 J)).trips → False := fun k => by
    exact absurd (lt_of_lt_of_eq k.isLt (t4_trips _)) (Nat.not_lt_zero _)
  have hk : ∀ k : Fin (k0_t3_loop (BitVec.ofNat 32 J)).trips, k.val < J - 1 := fun k => lt_of_lt_of_eq k.isLt ht
  refine ⟨?_, fun k => ?_, fun k r => ?_, fun k => ?_, fun k => ?_, fun k => ?_, Scf.rem_ok _ _, fun k => (no k).elim,
    fun k => (no k).elim, fun k => (no k).elim, fun k => (no k).elim, fun k => (no k).elim⟩
  · show Scf.OK 0#32 (k0_t3_loop (BitVec.ofNat 32 J)).ub 1#32
    rw [t3_ub J h1 (by omega)]; exact ok_small _ (by omega)
  · have hk := hk k
    have h := dvd_row (i 1).val 0 (J - 1 - k.val) hi (by omega) (by omega)
    rw [← back_word J k.val (by omega) (by omega)] at h
    exact h
  · have hk := hk k
    match r with
    | ⟨0, _⟩ => exact inb_rows _ (by omega) (off13_0 i J k (by omega) hJ)
    | ⟨1, _⟩ => exact inb_rows _ (by omega) (off13_1 i J k (by omega) hJ)
  · have hk := hk k
    exact inb_slab 0 _ (by omega) (by omega) (off14_eq i J k (by omega) hJ)
  · have hk := hk k
    have h := dvd_row (i 1).val 1 (J - 1 - k.val) hi (by omega) (by omega)
    rw [← back_word J k.val (by omega) (by omega)] at h
    exact h
  · have hk := hk k
    exact inb_slab 1 _ (by omega) (by omega) (off15_eq i J k (by omega) hJ)

end Cert.AttnModel
end
-- ==== Proof.FwdModel.lean ====
module

public import proofs.«01_k».proof.Proof.Gen.AttnFwdIdeal.Skeleton
public import proofs.«01_k».proof.Proof.AttnTile
public import proofs.«01_k».proof.Proof.AttnWords

/-!
# The attention forward's body as a function of the buffers' contents

The body works on four chains of 256 queries.  Each chain starts on its own key block under the causal mask; one `while`
then walks all four chains back over the earlier key blocks, and three more finish the three later chains.  What a step
of a chain does is `AttnTile`'s tile of weights, folded with the values instead of the cotangents.
-/

@[expose] public section

noncomputable section

namespace Cert.FwdModel
open Cert.AttnFwdIdeal Cert.AttnFwdIdeal.Gen
open Idealize.ShloMosaic Idealize.ShloMosaic.TcCoe
open Cert.AttnModel (ld2)

variable {F : FTy → Type} [FloatOps F] [Named F]

/-- What the body holds fixed at a point. -/
structure Env (F : FTy → Type) where
  /-- the grid point -/
  i : grid0.Coords
  /-- the keys -/
  k : Vec F S8192x128 .bf16
  /-- the values -/
  v : Vec F S8192x128 .bf16
  /-- the lanes of the first head -/
  m : IVec S1x128 1
  /-- the triangle -/
  su : FVec F S256x256 .bf16
  /-- the scaled queries of the four chains -/
  q0 : FVec F S256x128 .bf16
  q1 : FVec F S256x128 .bf16
  q2 : FVec F S256x128 .bf16
  q3 : FVec F S256x128 .bf16

/-- What a chain carries: its largest running sum, its result so far, the running sums of the two heads. -/
abbrev St (F : FTy → Type) := F .f32 × FVec F S256x128 .f32 × FVec F S256x128 .f32 × FVec F S256x128 .f32

/-- What the joint `while` carries: the step and the four chains. -/
abbrev R1 (F : FTy → Type) := BitVec 32 × St F × St F × St F × St F

/-- What the joint `while` returns, in the order of its results. -/
def flat1 (r : R1 F) := (r.1, r.2.1.1, r.2.1.2.1, r.2.1.2.2.1, r.2.1.2.2.2, r.2.2.1.1, r.2.2.1.2.1, r.2.2.1.2.2.1, r.2.2.1.2.2.2,
  r.2.2.2.1.1, r.2.2.2.1.2.1, r.2.2.2.1.2.2.1, r.2.2.2.1.2.2.2, r.2.2.2.2.1, r.2.2.2.2.2.1, r.2.2.2.2.2.2.1, r.2.2.2.2.2.2.2)

variable (E : Env F)

/-! ### The chains' own key blocks -/

/-- The word of a chain's own key block. -/
abbrev ownw (i : grid0.Coords) (c : BitVec 32) : BitVec 32 :=
  Scalar.addi (Scalar.muli 4#32 (BitVec.ofNat 32 (i 1).val)) c

/-- The word of the first row of a chain's own key block. -/
abbrev roww (i : grid0.Coords) (c : BitVec 32) : BitVec 32 := Scalar.muli (Scalar.subi (ownw i c) 0#32) 256#32

def dg0 : St F :=
  let k := ld2 (k0_off1 E.i 0#32) E.k
  let v := ld2 (k0_off1 E.i 0#32) E.v
  let z := k0_pay45 (F := F)
  let o : F .f32 := Scalar.ofBits .f32 0#32
  let p64 := k0_pay46 E.m v
  let p72 := k0_pay47 (ownw E.i 0#32) (k0_pay41 E.i)
  let p75 := k0_pay48 E.m E.q0 k
  let p77 := k0_pay49 E.m E.q0 k
  let p78 := k0_pay50 E.m E.q0 k
  (k0_pay60 E.su z p72 p75 p77 p78 o, k0_pay59 E.su z p64 p72 p75 p77 p78 o, k0_pay55 E.su z p72 p75 p77 p78 o,
    k0_pay58 E.su z p72 p75 p77 p78 o)

def dg1 : St F :=
  let k := ld2 (k0_off1 E.i 1#32) E.k
  let v := ld2 (k0_off1 E.i 1#32) E.v
  let z := k0_pay45 (F := F)
  let b := roww E.i 1#32
  let p148 := k0_pay61 E.m v
  let p156 := k0_pay62 (k0_pay42 E.i) b
  let p171 := k0_pay64 E.m E.q1 k
  let p174 := k0_pay65 E.m E.q1 (k0_pay42 E.i) b k
  let p175 := k0_pay66 E.m E.q1 (k0_pay42 E.i) b k
  let p176 := k0_pay67 E.m E.q1 (k0_pay42 E.i) b k
  (k0_pay74 E.su z p174 p175 p176, k0_pay73 E.su z p148 p156 p171 p174 p176, k0_pay69 E.su z p175 p176, k0_pay72 E.su z p174)

def dg2 : St F :=
  let k := ld2 (k0_off1 E.i 2#32) E.k
  let v := ld2 (k0_off1 E.i 2#32) E.v
  let z := k0_pay45 (F := F)
  let b := roww E.i 2#32
  let r := k0_pay43 (ownw E.i 2#32)
  let p222 := k0_pay75 E.m k
  let p232 := k0_pay77 E.m v (k0_pay76 (F := F))
  let p240 := k0_pay78 r b
  let p255 := k0_pay80 E.q2 p222
  let p263 := k0_pay84 E.su E.q2 r z b p222
  let p269 := k0_pay85 E.su E.q2 r z b p222
  let p270 := k0_pay86 E.q2 r b p222
  let p274 := k0_pay88 E.su E.q2 r z b p222
  let p275 := k0_pay89 E.su E.q2 r b p222
  (k0_pay92 z p269 p270 p275, k0_pay91 z p232 p240 p255 p263 p274, p269, k0_pay90 z p270 p275)

def dg3 : St F :=
  let k := ld2 (k0_off1 E.i 3#32) E.k
  let v := ld2 (k0_off1 E.i 3#32) E.v
  let z := k0_pay45 (F := F)
  let w := constant (F := F) S256x512 .f32 0#32
  let p306 := k0_pay93 E.m k
  let p316 := k0_pay94 E.m v
  let p324 := k0_pay95 (ownw E.i 3#32) (k0_pay44 (ownw E.i 3#32))
  (k0_pay1 (k0_pay106 E.su E.q3 z p306 p324 w), k0_pay105 E.su E.q3 z p306 p316 p324 w, k0_pay101 E.su E.q3 z p306 p324 w,
    k0_pay104 E.su E.q3 z p306 p324 w)

/-! ### A trip of the joint `while` -/

def w1a (t : BitVec 32) (s : St F) : St F :=
  let k := ld2 (k0_off2 E.i t 0#32) E.k
  let v := ld2 (k0_off2 E.i t 0#32) E.v
  let p413 := k0_pay107 E.m v
  let p428 := k0_pay109 E.m E.q0 k
  let p429 := k0_pay110 E.m E.q0 k
  let p430 := k0_pay111 E.m E.q0 k
  let p434 := k0_pay113 E.m E.q0 E.su s.2.2.1 k
  let p435 := k0_pay114 E.m E.q0 E.su k
  (k0_pay120 E.su s.2.2.1 s.2.2.2 p429 p430 p435, k0_pay119 E.su s.2.1 s.2.2.2 p413 p428 p429 p434, k0_pay115 s.2.2.1 p430 p435,
    k0_pay118 E.su s.2.2.2 p429)

def w1b (t : BitVec 32) (s : St F) : St F :=
  let k := ld2 (k0_off2 E.i t 1#32) E.k
  let v := ld2 (k0_off2 E.i t 1#32) E.v
  let p485 := k0_pay121 E.m v
  let p486 := k0_pay122 E.m E.q1 k
  (k0_pay133 E.su s.2.2.1 s.2.2.2 p486, k0_pay132 E.su s.2.1 s.2.2.1 s.2.2.2 p485 p486, k0_pay128 E.su s.2.2.1 p486,
    k0_pay131 E.su s.2.2.2 p486)

def w1c (t : BitVec 32) (s : St F) : St F :=
  let k := ld2 (k0_off2 E.i t 2#32) E.k
  let v := ld2 (k0_off2 E.i t 2#32) E.v
  let p557 := k0_pay134 E.m v
  let p572 := k0_pay136 E.m E.q2 k
  let p578 := k0_pay140 E.m E.su E.q2 s.2.2.1 k
  let p584 := k0_pay141 E.m E.su E.q2 s.2.2.1 k
  let p585 := k0_pay142 E.m E.q2 k
  (k0_pay146 E.su s.2.2.2 p584 p585, k0_pay145 E.su s.2.1 s.2.2.2 p557 p572 p578 p585, p584, k0_pay144 E.su s.2.2.2 p585)

def w1d (t : BitVec 32) (s : St F) : St F :=
  let k := ld2 (k0_off2 E.i t 3#32) E.k
  let v := ld2 (k0_off2 E.i t 3#32) E.v
  let p629 := k0_pay147 E.m v
  let p632 := k0_pay148 E.m E.q3 k
  let p634 := k0_pay149 E.m E.q3 k
  (k0_pay16 E.su s.2.2.1 s.2.2.2 p632 p634, k0_pay15 E.su s.2.1 s.2.2.1 s.2.2.2 p629 p632 p634, k0_pay11 E.su s.2.2.1 p632 p634,
    k0_pay14 E.su s.2.2.2 p632 p634)

/-- The test of the joint `while`. -/
def w1cond (i : grid0.Coords) (s : R1 F) : BitVec 1 :=
  Scalar.andi (Scalar.cmpi .sle s.1 (ownw i 0#32))
    (Scalar.cmpf .ogt (k0_pay6 s.2.1.1 s.2.2.1.1 s.2.2.2.1.1 s.2.2.2.2.1) (Named.named κ "exit" 0xC3168000#32))

def w1step (s : R1 F) : R1 F :=
  (Scalar.addi s.1 1#32, w1a E s.1 s.2.1, w1b E s.1 s.2.2.1, w1c E s.1 s.2.2.2.1, w1d E s.1 s.2.2.2.2)

/-- The trips of a `while`, as many as there may be. -/
def run {S : Type} (cond : S → BitVec 1) (step : S → S) : ℕ → S → S
  | 0, s => s
  | n + 1, s => if cond s = 1#1 then run cond step n (step s) else s

/-! ### The `while`s of one chain -/

def w2step (s : BitVec 32 × St F) : BitVec 32 × St F :=
  let k := ld2 (k0_off3 E.i s.1) E.k
  let v := ld2 (k0_off3 E.i s.1) E.v
  let p413 := k0_pay150 E.m v
  let p428 := k0_pay152 E.m E.q1 k
  let p429 := k0_pay153 E.m E.q1 k
  let p430 := k0_pay154 E.m E.q1 k
  let p434 := k0_pay156 E.m E.q1 E.su s.2.2.2.1 k
  let p435 := k0_pay157 E.m E.q1 E.su k
  (Scalar.addi s.1 1#32, k0_pay22 E.su s.2.2.2.1 s.2.2.2.2 p429 p430 p435, k0_pay21 E.su s.2.2.1 s.2.2.2.2 p413 p428 p429 p434,
    k0_pay17 s.2.2.2.1 p430 p435, k0_pay20 E.su s.2.2.2.2 p429)

def w3step (s : BitVec 32 × St F) : BitVec 32 × St F :=
  let k := ld2 (k0_off4 E.i s.1) E.k
  let v := ld2 (k0_off4 E.i s.1) E.v
  let p413 := k0_pay158 E.m v
  let p428 := k0_pay160 E.m E.q2 k
  let p429 := k0_pay161 E.m E.q2 k
  let p430 := k0_pay162 E.m E.q2 k
  let p434 := k0_pay164 E.m E.q2 E.su s.2.2.2.1 k
  let p435 := k0_pay165 E.m E.q2 E.su k
  (Scalar.addi s.1 1#32, k0_pay28 E.su s.2.2.2.1 s.2.2.2.2 p429 p430 p435, k0_pay27 E.su s.2.2.1 s.2.2.2.2 p413 p428 p429 p434,
    k0_pay23 s.2.2.2.1 p430 p435, k0_pay26 E.su s.2.2.2.2 p429)

def w4step (s : BitVec 32 × St F) : BitVec 32 × St F :=
  let k := ld2 (k0_off5 E.i s.1) E.k
  let v := ld2 (k0_off5 E.i s.1) E.v
  let p413 := k0_pay166 E.m v
  let p428 := k0_pay168 E.m E.q3 k
  let p429 := k0_pay169 E.m E.q3 k
  let p430 := k0_pay170 E.m E.q3 k
  let p434 := k0_pay172 E.m E.q3 E.su s.2.2.2.1 k
  let p435 := k0_pay173 E.m E.q3 E.su k
  (Scalar.addi s.1 1#32, k0_pay34 E.su s.2.2.2.1 s.2.2.2.2 p429 p430 p435, k0_pay33 E.su s.2.2.1 s.2.2.2.2 p413 p428 p429 p434,
    k0_pay29 s.2.2.2.1 p430 p435, k0_pay32 E.su s.2.2.2.2 p429)

/-- The test of a chain's `while`. -/
def wcond (i : grid0.Coords) (c : BitVec 32) (s : BitVec 32 × St F) : BitVec 1 :=
  Scalar.andi (Scalar.cmpi .sle s.1 (ownw i c)) (Scalar.cmpf .ogt s.2.1 (Named.named κ "exit" 0xC3168000#32))

/-! ### The body -/

/-- The 256 rows of a `[1024, 128]` block from `o` on. -/
def quarter {α : Type} (o : ℕ) (x : S1024x128.Idx → α) : S256x128.Idx → α := fun j =>
  x (ix2 (n0 := 1024) (n1 := 128) ⟨(o + (j 0).val) % 1024, Nat.mod_lt _ (by decide)⟩ ⟨(j 1).val, (j 1).isLt⟩)

/-- What the point holds fixed, from the blocks its windows fetched. -/
def env (i : grid0.Coords) (q : Vec F S1024x128 .bf16) (k v : Vec F S8192x128 .bf16) (su : Vec F S256x256 .bf16) : Env F where
  i := i
  k := k
  v := v
  m := k0_pay35
  su := k0_pay36 su
  q0 := k0_pay37 (quarter 0 q)
  q1 := k0_pay38 (quarter 256 q)
  q2 := k0_pay39 (quarter 512 q)
  q3 := k0_pay40 (quarter 768 q)

/-- What the joint `while` leaves. -/
def joint : R1 F := run (w1cond E.i) (w1step E) 33 (1#32, dg0 E, dg1 E, dg2 E, dg3 E)

/-- The four chains' results. -/
def outs : FVec F S256x128 .f32 × FVec F S256x128 .f32 × FVec F S256x128 .f32 × FVec F S256x128 .f32 :=
  ((joint E).2.1.2.1, (run (wcond E.i 1#32) (w2step E) 33 ((joint E).1, (joint E).2.2.1)).2.2.1,
    (run (wcond E.i 2#32) (w3step E) 33 ((joint E).1, (joint E).2.2.2.1)).2.2.1,
    (run (wcond E.i 3#32) (w4step E) 33 ((joint E).1, (joint E).2.2.2.2)).2.2.1)

/-- Four blocks of 256 rows one above the other. -/
def stack4 {α : Type} (a b c d : S256x128.Idx → α) : S1024x128.Idx → α := fun j =>
  let l : Fin 128 := ⟨(j 1).val, (j 1).isLt⟩
  let r : Fin 256 := ⟨(j 0).val % 256, Nat.mod_lt _ (by decide)⟩
  if (j 0).val < 256 then a (ix2 (n0 := 256) (n1 := 128) r l)
  else if (j 0).val < 512 then b (ix2 (n0 := 256) (n1 := 128) r l)
  else if (j 0).val < 768 then c (ix2 (n0 := 256) (n1 := 128) r l)
  else d (ix2 (n0 := 256) (n1 := 128) r l)

/-- What the body stores. -/
def result : Vec F S1024x128 .bf16 :=
  stack4 (k0_pay2 (outs E).1) (k0_pay3 (outs E).2.1) (k0_pay4 (outs E).2.2.1) (k0_pay5 (outs E).2.2.2)

/-! ### Every stretch is one step on a tile -/

/-- A step of a chain on a key block. -/
def fone (m : IVec S1x128 1) (su : FVec F S256x256 .bf16) (q k v : FVec F S256x128 .bf16) (s : St F) : St F :=
  let f := Cert.AttnBwdIdeal.Gen.k0_pay108 m q k
  let w := exp2 (AttnTile.expo su (Cert.AttnBwdIdeal.Gen.k0_pay107 m q k) f s.2.2.1 s.2.2.2)
  let xa := AttnTile.carryL su (AttnTile.colsA f) s.2.2.1
  let xb := AttnTile.carryL su (AttnTile.colsB f) s.2.2.2
  (Cert.AttnBwdIdeal.Gen.k0_pay120 xa xb, AttnTile.addq m v (truncf .bf16 w bitsLt_bf16_f32) s.2.1, xa, xb)

/-- The step of a chain on its own key block. -/
def foneD (msk : IVec S256x512 1) (m : IVec S1x128 1) (su : FVec F S256x256 .bf16) (q k v : FVec F S256x128 .bf16) : St F :=
  let f := select msk (Cert.AttnBwdIdeal.Gen.k0_pay108 m q k) (Cert.AttnBwdIdeal.Gen.k0_pay109 (F := F))
  let z := Cert.AttnBwdIdeal.Gen.k0_pay103 (F := F)
  let w := exp2 (select msk (AttnTile.expo su (Cert.AttnBwdIdeal.Gen.k0_pay107 m q k) f z z)
    (broadcast S256x512 (Named.named Cert.AttnBwdIdeal.κ "mask" 0xF149F2CA#32)))
  let xa := AttnTile.carryL su (AttnTile.colsA f) z
  let xb := AttnTile.carryL su (AttnTile.colsB f) z
  (Cert.AttnBwdIdeal.Gen.k0_pay120 xa xb, AttnTile.addq m v (truncf .bf16 w bitsLt_bf16_f32) z, xa, xb)

theorem w2step_eq (s : BitVec 32 × St F) :
    w2step E s = (Scalar.addi s.1 1#32, fone E.m E.su E.q1 (ld2 (k0_off3 E.i s.1) E.k) (ld2 (k0_off3 E.i s.1) E.v) s.2) := rfl
theorem w3step_eq (s : BitVec 32 × St F) :
    w3step E s = (Scalar.addi s.1 1#32, fone E.m E.su E.q2 (ld2 (k0_off4 E.i s.1) E.k) (ld2 (k0_off4 E.i s.1) E.v) s.2) := rfl
theorem w4step_eq (s : BitVec 32 × St F) :
    w4step E s = (Scalar.addi s.1 1#32, fone E.m E.su E.q3 (ld2 (k0_off5 E.i s.1) E.k) (ld2 (k0_off5 E.i s.1) E.v) s.2) := rfl

end Cert.FwdModel
end
-- ==== Proof.FwdRun.lean ====
module

public import proofs.«01_k».proof.Proof.Gen.AttnFwdIdeal.Launch
public import proofs.«01_k».proof.Proof.FwdModel
public import Idealize.ShloMosaic.Lib.Claim
public import Idealize.ShloMosaic.Lib.Ring

/-!
# The attention forward's loops run

The four `while`s only read the keys and the values.  One induction on the trips still possible serves all of them; each
adds what one trip of its own does.
-/

@[expose] public section

set_option maxHeartbeats 4000000

noncomputable section

namespace Cert.FwdModel
open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnModel (ld2 row_word toNat_blk next_word inb_rows)

variable {F : FTy → Type} [FloatOps F] [Named F]
local notation "𝕄" => MT nD τ sig Unit (Elt F) ℕ (UR sig nD τ) ℕ

/-- The loops' variants: the trips still possible. -/
abbrev 𝒱₀ : Variants := Variants.nat

/-! ### Words -/

theorem i1_lt (i : grid0.Coords) : (i 1).val < 8 := (i 1).isLt

theorem own_word (i : grid0.Coords) (c : ℕ) (hc : c ≤ 3) : ownw i (BitVec.ofNat 32 c) = BitVec.ofNat 32 (4 * (i 1).val + c) := by
  have := i1_lt i
  apply BitVec.eq_of_toNat_eq
  simp only [Scalar.addi, Scalar.muli, IntOp.addi, IntOp.muli, BitVec.toNat_add, BitVec.toNat_mul, BitVec.toNat_ofNat]
  omega

/-- The first row of a chain's key block at a step. -/
theorem blk_row (i : grid0.Coords) (c n : ℕ) (hc : c ≤ 3) (hn : n ≤ 4 * (i 1).val + c) :
    (Scalar.muli (Scalar.subi (ownw i (BitVec.ofNat 32 c)) (BitVec.ofNat 32 n)) 256#32).toNat = 256 * (4 * (i 1).val + c - n) := by
  have := i1_lt i
  rw [own_word i c hc, show Scalar.subi (BitVec.ofNat 32 (4 * (i 1).val + c)) (BitVec.ofNat 32 n)
    = BitVec.ofNat 32 (4 * (i 1).val + c - n) by
      apply BitVec.eq_of_toNat_eq
      simp only [Scalar.subi, IntOp.subi, BitVec.toNat_sub, BitVec.toNat_ofNat]
      omega, row_word _ (by omega)]

theorem off2_eq (i : grid0.Coords) (c n : ℕ) (hc : c ≤ 3) (hn : n ≤ 4 * (i 1).val + c) :
    k0_off2 i (BitVec.ofNat 32 n) (BitVec.ofNat 32 c) = ![256 * (4 * (i 1).val + c - n), 0] := by
  rw [← blk_row i c n hc hn]; rfl

theorem off3_eq (i : grid0.Coords) (n : ℕ) (hn : n ≤ 4 * (i 1).val + 1) :
    k0_off3 i (BitVec.ofNat 32 n) = ![256 * (4 * (i 1).val + 1 - n), 0] := off2_eq i 1 n (by omega) hn

theorem off4_eq (i : grid0.Coords) (n : ℕ) (hn : n ≤ 4 * (i 1).val + 2) :
    k0_off4 i (BitVec.ofNat 32 n) = ![256 * (4 * (i 1).val + 2 - n), 0] := off2_eq i 2 n (by omega) hn

theorem off5_eq (i : grid0.Coords) (n : ℕ) (hn : n ≤ 4 * (i 1).val + 3) :
    k0_off5 i (BitVec.ofNat 32 n) = ![256 * (4 * (i 1).val + 3 - n), 0] := off2_eq i 3 n (by omega) hn

theorem dvd_row (i : grid0.Coords) (c n : ℕ) (hc : c ≤ 3) (hn : n ≤ 4 * (i 1).val + c) :
    256 ∣ (Scalar.muli (Scalar.subi (ownw i (BitVec.ofNat 32 c)) (BitVec.ofNat 32 n)) 256#32).toNat := by
  rw [blk_row i c n hc hn]
  exact ⟨_, rfl⟩

theorem chk1_of_le (i : grid0.Coords) (n : ℕ) (hn : n ≤ 4 * (i 1).val) : k0_chk1 i (BitVec.ofNat 32 n) := by
  have hi := i1_lt i
  refine ⟨dvd_row i 0 n (by omega) (by omega), fun r => ?_, dvd_row i 1 n (by omega) (by omega), dvd_row i 2 n (by omega) (by omega),
    dvd_row i 3 n (by omega) (by omega)⟩
  have hr := r.isLt
  exact inb_rows _ (by omega) (off2_eq i r.val n (by omega) (by omega))

theorem chk2_of_le (i : grid0.Coords) (n : ℕ) (hn : n ≤ 4 * (i 1).val + 1) : k0_chk2 i (BitVec.ofNat 32 n) := by
  have hi := i1_lt i
  exact ⟨dvd_row i 1 n (by omega) hn, inb_rows _ (by omega) (off3_eq i n hn)⟩

theorem chk3_of_le (i : grid0.Coords) (n : ℕ) (hn : n ≤ 4 * (i 1).val + 2) : k0_chk3 i (BitVec.ofNat 32 n) := by
  have hi := i1_lt i
  exact ⟨dvd_row i 2 n (by omega) hn, inb_rows _ (by omega) (off4_eq i n hn)⟩

theorem chk4_of_le (i : grid0.Coords) (n : ℕ) (hn : n ≤ 4 * (i 1).val + 3) : k0_chk4 i (BitVec.ofNat 32 n) := by
  have hi := i1_lt i
  exact ⟨dvd_row i 3 n (by omega) hn, inb_rows _ (by omega) (off5_eq i n hn)⟩

/-- The comparison of a step with the last step of a chain. -/
theorem le_word (i : grid0.Coords) (c n : ℕ) (hc : c ≤ 3) (hn : n < 60) :
    Scalar.cmpi .sle (BitVec.ofNat 32 n) (ownw i (BitVec.ofNat 32 c)) = BitVec.ofBool (decide (n ≤ 4 * (i 1).val + c)) := by
  have := i1_lt i
  rw [own_word i c hc]
  simp only [Scalar.cmpi]
  rw [WordCmp.cmpi_sle_ofNat (by omega) (by omega)]

/-- The test of a `while` fails past the last step. -/
theorem step_le {i : grid0.Coords} {c n : ℕ} {q : BitVec 1} (hc : c ≤ 3) (hn : n < 60)
    (h : Scalar.andi (Scalar.cmpi .sle (BitVec.ofNat 32 n) (ownw i (BitVec.ofNat 32 c))) q = 1#1) : n ≤ 4 * (i 1).val + c := by
  rw [le_word i c n hc hn] at h
  by_contra hlt
  rw [decide_eq_false hlt] at h
  revert h
  revert q
  decide

/-! ### Tiles of a buffer -/

theorem readAt_rows {e : EltTy} (m : Memref sig .tc .vmem S8192x128 e) (f : m.view.ty.Contents (Elt F)) (off : Fin 2 → ℕ)
    (inb : ∀ a, off a + S256x128.size a ≤ S8192x128.size a) :
    m.view.readAt (Elt F) (Rect.unit (s := S8192x128) off S256x128.size inb).toLoadRect f
      = ld2 off (m.view.read (Elt F) f) := by
  rw [View.readAt_eq_ld]
  funext j
  refine congrArg (m.view.read (Elt F) f) (funext fun a => Fin.ext ?_)
  have h := inb a
  match a, h with
  | ⟨0, _⟩, h =>
    have hj : (j 0).val < 256 := (j 0).isLt
    have h0 : off 0 + 256 ≤ 8192 := h
    show off 0 + 1 * (j 0).val = (off 0 + (j 0).val) % 8192
    omega
  | ⟨1, _⟩, h =>
    have hj : (j 1).val < 128 := (j 1).isLt
    have h0 : off 1 + 128 ≤ 128 := h
    show off 1 + 1 * (j 1).val = (off 1 + (j 1).val) % 128
    omega

/-! ### The `while`s -/

/-- What the `while`s read. -/
def held (c : Dev nD) (arg3 arg4 : Memref sig .tc .vmem S8192x128 .bf16) (E : Env F) : sProp 𝕄 :=
  iprop(owns (c : Thread nD τ) arg3 fullShare E.k ∗ owns (c : Thread nD τ) arg4 fullShare E.v)

/-- A label that keeps `H` and returns `r`. -/
def callSpec {β : Type} (H : sProp 𝕄) (r : β) : sWPT 𝕄 β := do
  sWPT.consume H
  sWPT.produce H
  pure r

theorem callSpec_apply {β : Type} (H : sProp 𝕄) (r : β) (K : β → sProp 𝕄) :
    callSpec H r K = iprop(H ∗ (H -∗ K r)) := rfl

/-- A loop that keeps what it reads runs as `run` says, from a step that leaves enough trips. -/
theorem loop_le {S β : Type} (c : Dev nD) (Es : Set ℕ) (H : sProp 𝕄) (cond : S → BitVec 1) (step : S → S)
    (time : S → BitVec 32) (b : ℕ) (out : S → β) (prog : S → Prog (TpuEff nD τ sig (Elt F) (Λ₀ F) .tc) β)
    (hnext : ∀ s, time (step s) = Scalar.addi (time s) 1#32)
    (hle : ∀ n s, n ≤ b + 1 → time s = BitVec.ofNat 32 n → cond s = 1#1 → n ≤ b)
    (hgo : ∀ k n s r, time s = BitVec.ofNat 32 n → n ≤ b → cond s = 1#1 →
      (∀ K, callSpec H r K ⊢ wp frame (wpE (defs₀ (F := F)) 𝒱₀ (c : Thread nD τ) (some k)) Es (prog (step s)) K) →
      ∀ K, callSpec H r K ⊢ wp frame (wpE (defs₀ (F := F)) 𝒱₀ (c : Thread nD τ) (some (k + 1))) Es (prog s) K)
    (hstop : ∀ s, ¬ cond s = 1#1 → prog s = .ret (out s)) :
    ∀ (k n : ℕ) (s : S), time s = BitVec.ofNat 32 n → n ≤ b + 1 → b + 1 ≤ n + k → ∀ K,
      callSpec H (out (run cond step k s)) K
        ⊢ wp frame (wpE (defs₀ (F := F)) 𝒱₀ (c : Thread nD τ) (some k)) Es (prog s) K := by
  have stop : ∀ k s, ¬ cond s = 1#1 → ∀ K, callSpec H (out s) K
      ⊢ wp frame (wpE (defs₀ (F := F)) 𝒱₀ (c : Thread nD τ) (some k)) Es (prog s) K := by
    intro k s hb K
    rw [callSpec_apply, hstop s hb]
    iintro ⟨H, Hk⟩
    rw [wp_ret]; imodintro
    iapply Hk; iexact H
  intro k
  induction k with
  | zero =>
    intro n s ht hn hk K
    exact stop 0 s (fun h => by have := hle n s hn ht h; omega) K
  | succ k ih =>
    intro n s ht hn hk K
    by_cases hb : cond s = 1#1
    · rw [run, if_pos hb]
      have h := hle n s hn ht hb
      refine hgo k n s _ ht h hb (fun K => ih (n + 1) (step s) ?_ (by omega) (by omega) K) K
      rw [hnext, ht, next_word]
    · rw [run, if_neg hb]
      exact stop _ s hb K

/-- Where a `while` stops. -/
theorem run_count {S : Type} (cond : S → BitVec 1) (step : S → S) (time : S → BitVec 32) (b : ℕ)
    (hnext : ∀ s, time (step s) = Scalar.addi (time s) 1#32)
    (hle : ∀ n s, n ≤ b + 1 → time s = BitVec.ofNat 32 n → cond s = 1#1 → n ≤ b) :
    ∀ (k n : ℕ) (s : S), time s = BitVec.ofNat 32 n → n ≤ b + 1 →
      ∃ J, time (run cond step k s) = BitVec.ofNat 32 J ∧ n ≤ J ∧ J ≤ b + 1 := by
  intro k
  induction k with
  | zero => intro n s ht hn; exact ⟨n, ht, Nat.le_refl n, hn⟩
  | succ k ih =>
    intro n s ht hn
    by_cases hb : cond s = 1#1
    · rw [run, if_pos hb]
      have h := hle n s hn ht hb
      obtain ⟨J, h1, h2, h3⟩ := ih (n + 1) (step s) (by rw [hnext, ht, next_word]) (by omega)
      exact ⟨J, h1, by omega, h3⟩
    · rw [run, if_neg hb]
      exact ⟨n, ht, Nat.le_refl n, hn⟩

section
variable (c : Dev nD) (Es : Set ℕ) (E : Env F) (arg3 : Memref sig .tc .vmem S8192x128 .bf16) (harg3 : arg3.IsWhole)
    (arg4 : Memref sig .tc .vmem S8192x128 .bf16) (harg4 : arg4.IsWhole)

theorem w2_le : ∀ (k n : ℕ) (s : BitVec 32 × St F), s.1 = BitVec.ofNat 32 n → n ≤ 4 * (E.i 1).val + 1 + 1 →
    4 * (E.i 1).val + 1 + 1 ≤ n + k → ∀ K, callSpec (held c arg3 arg4 E) (run (wcond E.i 1#32) (w2step E) k s) K
      ⊢ wp frame (wpE (defs₀ (F := F)) 𝒱₀ (c : Thread nD τ) (some k)) Es
        (defs₀ (F := F) .tc 2 ⟨E.i, arg3, harg3, E.m, arg4, harg4, E.q1, E.su, s.1, s.2.1, s.2.2.1, s.2.2.2.1, s.2.2.2.2⟩) K := by
  have hi := i1_lt E.i
  refine loop_le c Es (held c arg3 arg4 E) (wcond E.i 1#32) (w2step E) (fun s => s.1) (4 * (E.i 1).val + 1) id
    (fun s => defs₀ (F := F) .tc 2 ⟨E.i, arg3, harg3, E.m, arg4, harg4, E.q1, E.su, s.1, s.2.1, s.2.2.1, s.2.2.2.1, s.2.2.2.2⟩)
    (fun s => rfl) (fun n s hn ht hb => ?_) (fun k n s r ht hn hb ih K => ?_) (fun s hb => ?_)
  · obtain ⟨t, s⟩ := s
    obtain rfl : t = BitVec.ofNat 32 n := ht
    exact step_le (c := 1) (by omega) (by omega) hb
  · obtain ⟨t, top, acc, ra, rb⟩ := s
    obtain rfl : t = BitVec.ofNat 32 n := ht
    have hc := chk2_of_le E.i n hn
    show _ ⊢ wp frame _ _ (cc0_while2 E.i arg3 harg3 E.m arg4 harg4 E.q1 E.su (BitVec.ofNat 32 n) top acc ra rb) K
    simp only [cc0_while2_eq_skeleton]; unfold cc0_while2_skel
    simp only [k0_part14_eq_skeleton]
    unfold wcond ownw at hb
    simp only [hb, ↓reduceIte]
    obtain ⟨i, kk, vv, m, su, q0, q1, q2, q3⟩ := E
    dsimp only at hi hn hc hb ⊢
    rw [callSpec_apply]
    unfold held owns
    iintro ⟨⟨⟨%f3, %hf3, H3⟩, ⟨%f4, %hf4, H4⟩⟩, Hk⟩
    dsimp only at hf3 hf4
    subst hf3 hf4
    generalize hs' : w2step (F := F) _ _ = s' at ih ⊢
    dsimp only [w2step] at hs'
    rw [← readAt_rows arg3 f3 _ (k0_off3_inb i _ hc), ← readAt_rows arg4 f4 _ (k0_off3_inb i _ hc)] at hs'
    sl_exec
    subst hs'
    dsimp only at ih
    iapply (wp_call_spec 𝒱₀ (c : Thread nD τ) (some (k + 1)) Es (callSpec _ _) k (fun u hu => by cases hu; exact Nat.lt_succ_self k) ih)
    rw [callSpec_apply]
    unfold held owns
    isplitl [H3 H4]
    · isplitl [H3]
      · iexists _; isplitr; swap; · iexact H3
        ipureintro; rfl
      · iexists _; isplitr; swap; · iexact H4
        ipureintro; rfl
    iintro H
    rw [wp_ret]; imodintro
    iapply Hk; iexact H
  · obtain ⟨t, top, acc, ra, rb⟩ := s
    show cc0_while2 E.i arg3 harg3 E.m arg4 harg4 E.q1 E.su t top acc ra rb = _
    unfold wcond ownw at hb
    unfold cc0_while2
    simp only [hb, ↓reduceIte, Prog.pure_eq_ret, id_eq]

theorem w3_le : ∀ (k n : ℕ) (s : BitVec 32 × St F), s.1 = BitVec.ofNat 32 n → n ≤ 4 * (E.i 1).val + 2 + 1 →
    4 * (E.i 1).val + 2 + 1 ≤ n + k → ∀ K, callSpec (held c arg3 arg4 E) (run (wcond E.i 2#32) (w3step E) k s) K
      ⊢ wp frame (wpE (defs₀ (F := F)) 𝒱₀ (c : Thread nD τ) (some k)) Es
        (defs₀ (F := F) .tc 3 ⟨E.i, arg3, harg3, E.m, arg4, harg4, E.q2, E.su, s.1, s.2.1, s.2.2.1, s.2.2.2.1, s.2.2.2.2⟩) K := by
  have hi := i1_lt E.i
  refine loop_le c Es (held c arg3 arg4 E) (wcond E.i 2#32) (w3step E) (fun s => s.1) (4 * (E.i 1).val + 2) id
    (fun s => defs₀ (F := F) .tc 3 ⟨E.i, arg3, harg3, E.m, arg4, harg4, E.q2, E.su, s.1, s.2.1, s.2.2.1, s.2.2.2.1, s.2.2.2.2⟩)
    (fun s => rfl) (fun n s hn ht hb => ?_) (fun k n s r ht hn hb ih K => ?_) (fun s hb => ?_)
  · obtain ⟨t, s⟩ := s
    obtain rfl : t = BitVec.ofNat 32 n := ht
    exact step_le (c := 2) (by omega) (by omega) hb
  · obtain ⟨t, top, acc, ra, rb⟩ := s
    obtain rfl : t = BitVec.ofNat 32 n := ht
    have hc := chk3_of_le E.i n hn
    show _ ⊢ wp frame _ _ (cc0_while3 E.i arg3 harg3 E.m arg4 harg4 E.q2 E.su (BitVec.ofNat 32 n) top acc ra rb) K
    simp only [cc0_while3_eq_skeleton]; unfold cc0_while3_skel
    simp only [k0_part15_eq_skeleton]
    unfold wcond ownw at hb
    simp only [hb, ↓reduceIte]
    obtain ⟨i, kk, vv, m, su, q0, q1, q2, q3⟩ := E
    dsimp only at hi hn hc hb ⊢
    rw [callSpec_apply]
    unfold held owns
    iintro ⟨⟨⟨%f3, %hf3, H3⟩, ⟨%f4, %hf4, H4⟩⟩, Hk⟩
    dsimp only at hf3 hf4
    subst hf3 hf4
    generalize hs' : w3step (F := F) _ _ = s' at ih ⊢
    dsimp only [w3step] at hs'
    rw [← readAt_rows arg3 f3 _ (k0_off4_inb i _ hc), ← readAt_rows arg4 f4 _ (k0_off4_inb i _ hc)] at hs'
    sl_exec
    subst hs'
    dsimp only at ih
    iapply (wp_call_spec 𝒱₀ (c : Thread nD τ) (some (k + 1)) Es (callSpec _ _) k (fun u hu => by cases hu; exact Nat.lt_succ_self k) ih)
    rw [callSpec_apply]
    unfold held owns
    isplitl [H3 H4]
    · isplitl [H3]
      · iexists _; isplitr; swap; · iexact H3
        ipureintro; rfl
      · iexists _; isplitr; swap; · iexact H4
        ipureintro; rfl
    iintro H
    rw [wp_ret]; imodintro
    iapply Hk; iexact H
  · obtain ⟨t, top, acc, ra, rb⟩ := s
    show cc0_while3 E.i arg3 harg3 E.m arg4 harg4 E.q2 E.su t top acc ra rb = _
    unfold wcond ownw at hb
    unfold cc0_while3
    simp only [hb, ↓reduceIte, Prog.pure_eq_ret, id_eq]

theorem w4_le : ∀ (k n : ℕ) (s : BitVec 32 × St F), s.1 = BitVec.ofNat 32 n → n ≤ 4 * (E.i 1).val + 3 + 1 →
    4 * (E.i 1).val + 3 + 1 ≤ n + k → ∀ K, callSpec (held c arg3 arg4 E) (run (wcond E.i 3#32) (w4step E) k s) K
      ⊢ wp frame (wpE (defs₀ (F := F)) 𝒱₀ (c : Thread nD τ) (some k)) Es
        (defs₀ (F := F) .tc 4 ⟨E.i, arg3, harg3, E.m, arg4, harg4, E.q3, E.su, s.1, s.2.1, s.2.2.1, s.2.2.2.1, s.2.2.2.2⟩) K := by
  have hi := i1_lt E.i
  refine loop_le c Es (held c arg3 arg4 E) (wcond E.i 3#32) (w4step E) (fun s => s.1) (4 * (E.i 1).val + 3) id
    (fun s => defs₀ (F := F) .tc 4 ⟨E.i, arg3, harg3, E.m, arg4, harg4, E.q3, E.su, s.1, s.2.1, s.2.2.1, s.2.2.2.1, s.2.2.2.2⟩)
    (fun s => rfl) (fun n s hn ht hb => ?_) (fun k n s r ht hn hb ih K => ?_) (fun s hb => ?_)
  · obtain ⟨t, s⟩ := s
    obtain rfl : t = BitVec.ofNat 32 n := ht
    exact step_le (c := 3) (by omega) (by omega) hb
  · obtain ⟨t, top, acc, ra, rb⟩ := s
    obtain rfl : t = BitVec.ofNat 32 n := ht
    have hc := chk4_of_le E.i n hn
    show _ ⊢ wp frame _ _ (cc0_while4 E.i arg3 harg3 E.m arg4 harg4 E.q3 E.su (BitVec.ofNat 32 n) top acc ra rb) K
    simp only [cc0_while4_eq_skeleton]; unfold cc0_while4_skel
    simp only [k0_part16_eq_skeleton]
    unfold wcond ownw at hb
    simp only [hb, ↓reduceIte]
    obtain ⟨i, kk, vv, m, su, q0, q1, q2, q3⟩ := E
    dsimp only at hi hn hc hb ⊢
    rw [callSpec_apply]
    unfold held owns
    iintro ⟨⟨⟨%f3, %hf3, H3⟩, ⟨%f4, %hf4, H4⟩⟩, Hk⟩
    dsimp only at hf3 hf4
    subst hf3 hf4
    generalize hs' : w4step (F := F) _ _ = s' at ih ⊢
    dsimp only [w4step] at hs'
    rw [← readAt_rows arg3 f3 _ (k0_off5_inb i _ hc), ← readAt_rows arg4 f4 _ (k0_off5_inb i _ hc)] at hs'
    sl_exec
    subst hs'
    dsimp only at ih
    iapply (wp_call_spec 𝒱₀ (c : Thread nD τ) (some (k + 1)) Es (callSpec _ _) k (fun u hu => by cases hu; exact Nat.lt_succ_self k) ih)
    rw [callSpec_apply]
    unfold held owns
    isplitl [H3 H4]
    · isplitl [H3]
      · iexists _; isplitr; swap; · iexact H3
        ipureintro; rfl
      · iexists _; isplitr; swap; · iexact H4
        ipureintro; rfl
    iintro H
    rw [wp_ret]; imodintro
    iapply Hk; iexact H
  · obtain ⟨t, top, acc, ra, rb⟩ := s
    show cc0_while4 E.i arg3 harg3 E.m arg4 harg4 E.q3 E.su t top acc ra rb = _
    unfold wcond ownw at hb
    unfold cc0_while4
    simp only [hb, ↓reduceIte, Prog.pure_eq_ret, id_eq]

theorem w1_le : ∀ (k n : ℕ) (s : R1 F), s.1 = BitVec.ofNat 32 n → n ≤ 4 * (E.i 1).val + 1 →
    4 * (E.i 1).val + 1 ≤ n + k → ∀ K, callSpec (held c arg3 arg4 E) (flat1 (run (w1cond E.i) (w1step E) k s)) K
      ⊢ wp frame (wpE (defs₀ (F := F)) 𝒱₀ (c : Thread nD τ) (some k)) Es
        (defs₀ (F := F) .tc 1 ⟨E.i, arg3, harg3, E.m, arg4, harg4, E.q0, E.su, E.q1, E.q2, E.q3, s.1, s.2.1.1, s.2.1.2.1, s.2.1.2.2.1,
          s.2.1.2.2.2, s.2.2.1.1, s.2.2.1.2.1, s.2.2.1.2.2.1, s.2.2.1.2.2.2, s.2.2.2.1.1, s.2.2.2.1.2.1, s.2.2.2.1.2.2.1,
          s.2.2.2.1.2.2.2, s.2.2.2.2.1, s.2.2.2.2.2.1, s.2.2.2.2.2.2.1, s.2.2.2.2.2.2.2⟩) K := by
  have hi := i1_lt E.i
  refine loop_le c Es (held c arg3 arg4 E) (w1cond E.i) (w1step E) (fun s => s.1) (4 * (E.i 1).val) flat1
    (fun s => defs₀ (F := F) .tc 1 ⟨E.i, arg3, harg3, E.m, arg4, harg4, E.q0, E.su, E.q1, E.q2, E.q3, s.1, s.2.1.1, s.2.1.2.1, s.2.1.2.2.1,
          s.2.1.2.2.2, s.2.2.1.1, s.2.2.1.2.1, s.2.2.1.2.2.1, s.2.2.1.2.2.2, s.2.2.2.1.1, s.2.2.2.1.2.1, s.2.2.2.1.2.2.1,
          s.2.2.2.1.2.2.2, s.2.2.2.2.1, s.2.2.2.2.2.1, s.2.2.2.2.2.2.1, s.2.2.2.2.2.2.2⟩)
    (fun s => rfl) (fun n s hn ht hb => ?_) (fun k n s r ht hn hb ih K => ?_) (fun s hb => ?_)
  · obtain ⟨t, s⟩ := s
    obtain rfl : t = BitVec.ofNat 32 n := ht
    exact step_le (c := 0) (by omega) (by omega) hb
  · obtain ⟨t, ⟨t0, a0, x0, y0⟩, ⟨t1, a1, x1, y1⟩, ⟨t2, a2, x2, y2⟩, ⟨t3, a3, x3, y3⟩⟩ := s
    obtain rfl : t = BitVec.ofNat 32 n := ht
    have hc := chk1_of_le E.i n hn
    show _ ⊢ wp frame _ _ (cc0_while1 E.i arg3 harg3 E.m arg4 harg4 E.q0 E.su E.q1 E.q2 E.q3 (BitVec.ofNat 32 n)
      t0 a0 x0 y0 t1 a1 x1 y1 t2 a2 x2 y2 t3 a3 x3 y3) K
    simp only [cc0_while1_eq_skeleton]; unfold cc0_while1_skel
    simp only [k0_part9_eq_skeleton, k0_part10_eq_skeleton, k0_part11_eq_skeleton, k0_part12_eq_skeleton, k0_part13_eq_skeleton]
    unfold w1cond ownw at hb
    simp only [hb, ↓reduceIte]
    obtain ⟨i, kk, vv, m, su, q0, q1, q2, q3⟩ := E
    dsimp only at hi hn hc hb ⊢
    rw [callSpec_apply]
    unfold held owns
    iintro ⟨⟨⟨%f3, %hf3, H3⟩, ⟨%f4, %hf4, H4⟩⟩, Hk⟩
    dsimp only at hf3 hf4
    subst hf3 hf4
    generalize hs' : w1step (F := F) _ _ = s' at ih ⊢
    dsimp only [w1step, w1a, w1b, w1c, w1d] at hs'
    have i0 := k0_off2_inb i _ hc 0
    have i1 := k0_off2_inb i _ hc 1
    have i2 := k0_off2_inb i _ hc 2
    have i3 := k0_off2_inb i _ hc 3
    rw [← readAt_rows arg3 f3 (k0_off2 i (BitVec.ofNat 32 n) 0#32) i0, ← readAt_rows arg4 f4 (k0_off2 i (BitVec.ofNat 32 n) 0#32) i0,
      ← readAt_rows arg3 f3 (k0_off2 i (BitVec.ofNat 32 n) 1#32) i1, ← readAt_rows arg4 f4 (k0_off2 i (BitVec.ofNat 32 n) 1#32) i1,
      ← readAt_rows arg3 f3 (k0_off2 i (BitVec.ofNat 32 n) 2#32) i2, ← readAt_rows arg4 f4 (k0_off2 i (BitVec.ofNat 32 n) 2#32) i2,
      ← readAt_rows arg3 f3 (k0_off2 i (BitVec.ofNat 32 n) 3#32) i3, ← readAt_rows arg4 f4 (k0_off2 i (BitVec.ofNat 32 n) 3#32) i3] at hs'
    sl_exec
    subst hs'
    dsimp only at ih
    iapply (wp_call_spec 𝒱₀ (c : Thread nD τ) (some (k + 1)) Es (callSpec _ _) k (fun u hu => by cases hu; exact Nat.lt_succ_self k) ih)
    rw [callSpec_apply]
    unfold held owns
    isplitl [H3 H4]
    · isplitl [H3]
      · iexists _; isplitr; swap; · iexact H3
        ipureintro; rfl
      · iexists _; isplitr; swap; · iexact H4
        ipureintro; rfl
    iintro H
    rw [wp_ret]; imodintro
    iapply Hk; iexact H
  · obtain ⟨t, ⟨t0, a0, x0, y0⟩, ⟨t1, a1, x1, y1⟩, ⟨t2, a2, x2, y2⟩, ⟨t3, a3, x3, y3⟩⟩ := s
    show cc0_while1 E.i arg3 harg3 E.m arg4 harg4 E.q0 E.su E.q1 E.q2 E.q3 t
      t0 a0 x0 y0 t1 a1 x1 y1 t2 a2 x2 y2 t3 a3 x3 y3 = _
    unfold w1cond ownw at hb
    simp only [cc0_while1_eq_skeleton]; unfold cc0_while1_skel
    simp only [hb, ↓reduceIte, Prog.pure_eq_ret]
    rfl

end

end Cert.FwdModel
end
-- ==== Proof.FwdPoint.lean ====
module

public import proofs.«01_k».proof.Proof.FwdRun

/-!
# A point of the attention forward's grid runs

The whole body at one grid point, from the blocks its windows fetched to what `FwdModel.result` says.
-/

@[expose] public section

set_option maxHeartbeats 4000000

noncomputable section

namespace Cert.FwdModel
open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnModel (ld2)

variable {F : FTy → Type} [FloatOps F] [Named F]
local notation "𝕄" => MT nD τ sig Unit (Elt F) ℕ (UR sig nD τ) ℕ

theorem readAt_quarter {e : EltTy} (m : Memref sig .tc .vmem S1024x128 e) (f : m.view.ty.Contents (Elt F)) (o : ℕ)
    (inb : ∀ a, (![o, 0] : Fin 2 → ℕ) a + S256x128.size a ≤ S1024x128.size a) :
    m.view.readAt (Elt F) (Rect.unit (s := S1024x128) ![o, 0] S256x128.size inb).toLoadRect f = quarter o (m.view.read (Elt F) f) := by
  rw [View.readAt_eq_ld]
  funext j
  refine congrArg (m.view.read (Elt F) f) (funext fun a => Fin.ext ?_)
  have h := inb 0
  match a with
  | ⟨0, _⟩ =>
    have hj : (j 0).val < 256 := (j 0).isLt
    have h0 : o + 256 ≤ 1024 := h
    show o + 1 * (j 0).val = (o + (j 0).val) % 1024
    omega
  | ⟨1, _⟩ =>
    show 0 + 1 * (j 1).val = (j 1).val
    omega

theorem readAt_all {e : EltTy} (m : Memref sig .tc .vmem S256x256 e) (f : m.view.ty.Contents (Elt F)) :
    m.view.readAt (Elt F) (Rect.unit (s := S256x256) ![0, 0] S256x256.size inb_S256x256_S256x256_0_0).toLoadRect f
      = m.view.read (Elt F) f := by
  rw [View.readAt_eq_ld]
  funext j
  refine congrArg (m.view.read (Elt F) f) (funext fun a => Fin.ext ?_)
  match a with
  | ⟨0, _⟩ => show 0 + 1 * (j 0).val = (j 0).val; omega
  | ⟨1, _⟩ => show 0 + 1 * (j 1).val = (j 1).val; omega

/-- One store of 256 rows, read at a row. -/
theorem writes_quarter {e : EltTy} (m : Memref sig .tc .vmem S1024x128 e) (f : m.view.ty.Contents (Elt F)) (o : ℕ) (x : Vec F S256x128 e)
    (inb : ∀ a, (![o, 0] : Fin 2 → ℕ) a + S256x128.size a ≤ S1024x128.size a) (L : List (View.Piece (Elt F) S1024x128 e)) (j : S1024x128.Idx) :
    m.view.read (Elt F) (m.view.writes (Elt F) f (⟨Rect.unit (s := S1024x128) ![o, 0] S256x128.size inb, x⟩ :: L)) j
      = if h : o ≤ (j 0).val ∧ (j 0).val < o + 256 then
          x (ix2 (n0 := 256) (n1 := 128) ⟨(j 0).val - o, by omega⟩ ⟨(j 1).val, (j 1).isLt⟩)
        else m.view.read (Elt F) (m.view.writes (Elt F) f L) j := by
  have hj1 : (j 1).val < 128 := (j 1).isLt
  rw [View.read_writes_cons_unit m.view f inb x L j rfl]
  by_cases h : o ≤ (j 0).val ∧ (j 0).val < o + 256
  · rw [dif_pos h, dif_pos (fun a => by
        match a with
        | ⟨0, _⟩ => exact h
        | ⟨1, _⟩ => exact ⟨Nat.zero_le _, lt_of_lt_of_eq hj1 (Nat.zero_add _).symm⟩)]
    refine congrArg x (funext fun a => Fin.ext ?_)
    match a with
    | ⟨0, _⟩ => rfl
    | ⟨1, _⟩ => exact Nat.sub_zero _
  · rw [dif_neg h, dif_neg (fun hn => h (hn 0))]

theorem writes_four {e : EltTy} (m : Memref sig .tc .vmem S1024x128 e) (f : m.view.ty.Contents (Elt F)) (x y z w : Vec F S256x128 e) :
    m.view.read (Elt F) (m.view.writes (Elt F) f
      [⟨Rect.unit (s := S1024x128) ![768, 0] S256x128.size inb_S1024x128_S256x128_768_0, w⟩,
        ⟨Rect.unit (s := S1024x128) ![512, 0] S256x128.size inb_S1024x128_S256x128_512_0, z⟩,
        ⟨Rect.unit (s := S1024x128) ![256, 0] S256x128.size inb_S1024x128_S256x128_256_0, y⟩,
        ⟨Rect.unit (s := S1024x128) ![0, 0] S256x128.size inb_S1024x128_S256x128_0_0, x⟩]) = stack4 x y z w := by
  funext j
  have hj : (j 0).val < 1024 := (j 0).isLt
  rw [writes_quarter, writes_quarter, writes_quarter, writes_quarter]
  unfold stack4
  by_cases h0 : (j 0).val < 256
  · rw [dif_neg (by omega), dif_neg (by omega), dif_neg (by omega), dif_pos (by omega), if_pos h0]
    refine congrArg x (congrArg₂ ix2 (Fin.ext ?_) rfl); show (j 0).val - 0 = (j 0).val % 256; omega
  by_cases h1 : (j 0).val < 512
  · rw [dif_neg (by omega), dif_neg (by omega), dif_pos (by omega), if_neg h0, if_pos h1]
    refine congrArg y (congrArg₂ ix2 (Fin.ext ?_) rfl); show (j 0).val - 256 = (j 0).val % 256; omega
  by_cases h2 : (j 0).val < 768
  · rw [dif_neg (by omega), dif_pos (by omega), if_neg h0, if_neg h1, if_pos h2]
    refine congrArg z (congrArg₂ ix2 (Fin.ext ?_) rfl); show (j 0).val - 512 = (j 0).val % 256; omega
  · rw [dif_pos (by omega), if_neg h0, if_neg h1, if_neg h2]
    refine congrArg w (congrArg₂ ix2 (Fin.ext ?_) rfl); show (j 0).val - 768 = (j 0).val % 256; omega

/-- What the body reads and writes, at the contents of each buffer. -/
def bufs (c : Dev nD) (arg2 : Memref sig .tc .vmem S1024x128 .bf16) (arg3 arg4 : Memref sig .tc .vmem S8192x128 .bf16)
    (arg5 : Memref sig .tc .vmem S256x256 .bf16) (arg6 : Memref sig .tc .vmem S1024x128 .bf16) (q : Vec F S1024x128 .bf16)
    (k v : Vec F S8192x128 .bf16) (su : Vec F S256x256 .bf16) (o : Vec F S1024x128 .bf16) : sProp 𝕄 :=
  iprop(owns (c : Thread nD τ) arg2 fullShare q ∗ owns (c : Thread nD τ) arg3 fullShare k ∗ owns (c : Thread nD τ) arg4 fullShare v
      ∗ owns (c : Thread nD τ) arg5 fullShare su ∗ owns (c : Thread nD τ) arg6 fullShare o)

theorem sound_point (c : Dev nD) (Es : Set ℕ) (i : grid0.Coords)
    (arg2 : Memref sig .tc .vmem S1024x128 .bf16) (harg2 : arg2.IsWhole) (arg3 : Memref sig .tc .vmem S8192x128 .bf16)
    (harg3 : arg3.IsWhole) (arg4 : Memref sig .tc .vmem S8192x128 .bf16) (harg4 : arg4.IsWhole)
    (arg5 : Memref sig .tc .vmem S256x256 .bf16) (harg5 : arg5.IsWhole) (arg6 : Memref sig .tc .vmem S1024x128 .bf16)
    (harg6 : arg6.IsWhole) (q : Vec F S1024x128 .bf16) (k v : Vec F S8192x128 .bf16) (su : Vec F S256x256 .bf16)
    (o : Vec F S1024x128 .bf16) :
    bufs c arg2 arg3 arg4 arg5 arg6 q k v su o
    ⊢ wp frame (wpE (defs₀ (F := F)) 𝒱₀ (c : Thread nD τ) none) Es
      (cc0_attn_fwd i arg2 harg2 arg3 harg3 arg4 harg4 arg5 harg5 arg6 harg6)
      (fun _ => bufs c arg2 arg3 arg4 arg5 arg6 q k v su (result (env i q k v su))) := by
  have hi := i1_lt i
  simp only [cc0_attn_fwd_eq_skeleton]
  unfold cc0_attn_fwd_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold bufs owns
  iintro ⟨⟨%f2, %hf2, H2⟩, ⟨%f3, %hf3, H3⟩, ⟨%f4, %hf4, H4⟩, ⟨%f5, %hf5, H5⟩, ⟨%f6, %hf6, H6⟩⟩
  obtain ⟨E, hE⟩ : ∃ E, E = env i q k v su := ⟨_, rfl⟩
  have hEi : E.i = i := by rw [hE]; rfl
  have hEk : E.k = k := by rw [hE]; rfl
  have hEv : E.v = v := by rw [hE]; rfl
  have hEm : E.m = k0_pay35 := by rw [hE]; rfl
  have hEs : E.su = k0_pay36 su := by rw [hE]; rfl
  have h0 : E.q0 = k0_pay37 (quarter 0 q) := by rw [hE]; rfl
  have h1 : E.q1 = k0_pay38 (quarter 256 q) := by rw [hE]; rfl
  have h2 : E.q2 = k0_pay39 (quarter 512 q) := by rw [hE]; rfl
  have h3 : E.q3 = k0_pay40 (quarter 768 q) := by rw [hE]; rfl
  rw [← hE]
  clear hE
  subst hf2 hf3 hf4 hf5
  rw [← readAt_quarter arg2 f2 0 inb_S1024x128_S256x128_0_0] at h0
  rw [← readAt_quarter arg2 f2 256 inb_S1024x128_S256x128_256_0] at h1
  rw [← readAt_quarter arg2 f2 512 inb_S1024x128_S256x128_512_0] at h2
  rw [← readAt_quarter arg2 f2 768 inb_S1024x128_S256x128_768_0] at h3
  rw [← readAt_all arg5 f5] at hEs
  obtain ⟨a, ha⟩ : ∃ a, a = dg0 E := ⟨_, rfl⟩
  obtain ⟨b, hb⟩ : ∃ b, b = dg1 E := ⟨_, rfl⟩
  obtain ⟨d, hd⟩ : ∃ d, d = dg2 E := ⟨_, rfl⟩
  obtain ⟨e, he⟩ : ∃ e, e = dg3 E := ⟨_, rfl⟩
  obtain ⟨w, hw⟩ : ∃ w, w = run (w1cond E.i) (w1step E) 33 (1#32, a, b, d, e) := ⟨_, rfl⟩
  obtain ⟨x, hx⟩ : ∃ x, x = run (wcond E.i 1#32) (w2step E) 33 (w.1, w.2.2.1) := ⟨_, rfl⟩
  obtain ⟨y, hy⟩ : ∃ y, y = run (wcond E.i 2#32) (w3step E) 33 (w.1, w.2.2.2.1) := ⟨_, rfl⟩
  obtain ⟨z, hz⟩ : ∃ z, z = run (wcond E.i 3#32) (w4step E) 33 (w.1, w.2.2.2.2) := ⟨_, rfl⟩
  have hR : result E = stack4 (k0_pay2 w.2.1.2.1) (k0_pay3 x.2.2.1) (k0_pay4 y.2.2.1) (k0_pay5 z.2.2.1) := by
    rw [hz, hy, hx, hw, hb, ha, hd, he]
    rfl
  rw [hR]
  clear hR
  have hi' := i1_lt E.i
  obtain ⟨J, hJ, hJ1, hJ2⟩ := run_count (w1cond E.i) (w1step E) (fun s => s.1) (4 * (E.i 1).val) (fun _ => rfl)
    (fun n s hn ht hb => step_le (c := 0) (n := n) (by omega) (by omega) (by rw [← ht]; exact hb)) 33 1 (1#32, a, b, d, e) rfl (by omega)
  rw [← hw] at hJ
  have hw1 := fun K => w1_le c Es E arg3 harg3 arg4 harg4 33 1 (1#32, a, b, d, e) rfl (by omega) (by omega) K
  rw [← hw] at hw1
  have hw2 := fun K => w2_le c Es E arg3 harg3 arg4 harg4 33 J (w.1, w.2.2.1) hJ (by omega) (by omega) K
  rw [← hx] at hw2
  have hw3 := fun K => w3_le c Es E arg3 harg3 arg4 harg4 33 J (w.1, w.2.2.2.1) hJ (by omega) (by omega) K
  rw [← hy] at hw3
  have hw4 := fun K => w4_le c Es E arg3 harg3 arg4 harg4 33 J (w.1, w.2.2.2.2) hJ (by omega) (by omega) K
  rw [← hz] at hw4
  clear hw hx hy hz hJ
  obtain ⟨i', kk, vv, m, su', q0, q1, q2, q3⟩ := E
  dsimp only at hEi hEk hEv hEm hEs h0 h1 h2 h3 ha hb hd he hw1 hw2 hw3 hw4 ⊢
  subst hEi hEk hEv hEm hEs h0 h1 h2 h3
  have j0 := k0_off1_inb i' 0
  have j1 := k0_off1_inb i' 1
  have j2 := k0_off1_inb i' 2
  have j3 := k0_off1_inb i' 3
  dsimp only [dg0] at ha
  rw [← readAt_rows arg3 f3 (k0_off1 i' 0#32) j0, ← readAt_rows arg4 f4 (k0_off1 i' 0#32) j0] at ha
  dsimp only [dg1] at hb
  rw [← readAt_rows arg3 f3 (k0_off1 i' 1#32) j1, ← readAt_rows arg4 f4 (k0_off1 i' 1#32) j1] at hb
  dsimp only [dg2] at hd
  rw [← readAt_rows arg3 f3 (k0_off1 i' 2#32) j2, ← readAt_rows arg4 f4 (k0_off1 i' 2#32) j2] at hd
  dsimp only [dg3] at he
  rw [← readAt_rows arg3 f3 (k0_off1 i' 3#32) j3, ← readAt_rows arg4 f4 (k0_off1 i' 3#32) j3] at he
  subst ha hb hd he
  obtain ⟨t, ⟨t0, a0, x0, y0⟩, ⟨t1, a1, x1, y1⟩, ⟨t2, a2, x2, y2⟩, ⟨t3, a3, x3, y3⟩⟩ := w
  obtain ⟨xt, xo, xa, xx, xy⟩ := x
  obtain ⟨yt, yo, ya, yx, yy⟩ := y
  obtain ⟨zt, zo, za, zx, zy⟩ := z
  dsimp only [flat1] at hw1 hw2 hw3 hw4 ⊢
  sl_exec
  iapply (wp_call_spec 𝒱₀ (c : Thread nD τ) none Es (callSpec _ _) 33 (fun u hu => nomatch hu) hw1)
  rw [callSpec_apply]
  unfold held owns
  isplitl [H3 H4]
  · isplitl [H3]
    · iexists _; isplitr; swap; · iexact H3
      ipureintro; rfl
    · iexists _; isplitr; swap; · iexact H4
      ipureintro; rfl
  iintro H
  clear hw1
  sl_exec
  iapply (wp_call_spec 𝒱₀ (c : Thread nD τ) none Es (callSpec _ _) 33 (fun u hu => nomatch hu) hw2)
  rw [callSpec_apply]
  unfold held owns
  isplitl [H]
  · iexact H
  iintro H
  clear hw2
  sl_exec
  iapply (wp_call_spec 𝒱₀ (c : Thread nD τ) none Es (callSpec _ _) 33 (fun u hu => nomatch hu) hw3)
  rw [callSpec_apply]
  unfold held owns
  isplitl [H]
  · iexact H
  iintro H
  clear hw3
  sl_exec
  iapply (wp_call_spec 𝒱₀ (c : Thread nD τ) none Es (callSpec _ _) 33 (fun u hu => nomatch hu) hw4)
  rw [callSpec_apply]
  unfold held owns
  isplitl [H]
  · iexact H
  iintro H
  clear hw4
  sl_exec
  sl_step
  icases H with ⟨H3, H4⟩
  isplitl [H2]
  · iexists _; isplitr; swap; · iexact H2
    ipureintro; rfl
  isplitl [H3]; · iexact H3
  isplitl [H4]; · iexact H4
  isplitl [H5]
  · iexists _; isplitr; swap; · iexact H5
    ipureintro; rfl
  iexists _; isplitr; swap; · iexact H6
  ipureintro
  exact writes_four arg6 f6 _ _ _ _

end Cert.FwdModel
end
-- ==== Proof.FwdLaunch.lean ====
module

public import proofs.«01_k».proof.Proof.FwdPoint
public import proofs.«01_k».proof.Proof.Gen.AttnFwdIdeal.Points
public import Idealize.ShloMosaic.Lib.Pipeline.ArrRel

/-!
# The attention forward's launch

The grid run point after point: each input window holds its block and the result's window is left what
`FwdModel.result` says.
-/

@[expose] public section

set_option maxHeartbeats 4000000

noncomputable section

namespace Cert.FwdModel
open Cert.AttnFwdIdeal Cert.AttnFwdIdeal.Gen
open Idealize.ShloMosaic Idealize.ShloMosaic.TcCoe Idealize.ShloMosaic.Tactic
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The host lines before the kernel: the triangle of ones. -/
abbrev hosts : List (List (HloOp τ sig (Elt F))) := [hostOps0, hostOps0_1, hostOps0_2]

/-- The buffers as the kernel's run finds them. -/
abbrev V (c : Dev nD) (b : Ref sig .tc) : Buf (Elt F) ((c : Thread nD τ).loc b) := StableHlo.after hosts.flatten (fun b => m (c, b)) b

theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main hosts
    ⟨hostOps0_sub, hostOps0_1_sub, hostOps0_2_sub⟩ (by repeat' constructor) fun c => main_chain c

/-- Window `w`'s block at point `t`, of its array as the run finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` holds fixed: the blocks of its input windows. -/
def envAt (c : Dev nD) (t : Fin (cfg0 (F := F)).N) : Env F :=
  env (grid0.coords t) (iblk m c 0 t) (iblk m c 1 t) (iblk m c 2 t) (iblk m c 3 t)

/-- The proof's data: inputs stay at what was found, the result's window is left the point's rows at every point. -/
def rdat (c : Dev nD) : RDat τ (Elt F) Unit ℕ (UR sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = result (envAt m c t)
    | ⟨_ + 5, h⟩ => absurd h (Nat.not_lt.2 (Nat.le_add_left _ _))
  Φ n := Pipeline.ΦA spec0 c
  q w := Pipeline.shareOf spec0 w
  owed _ := 0

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : (rdat (F := F) m c).BodyObligation (defs₀ (F := F)) 𝒱₀ () Set.univ := fun t Y hY => by
  have e0 : Y 0 = iblk m c 0 t := (RDat.finds_in_eq_fetched (rdat m c) 0 rfl (fun _ _ _ => rfl) (fun _ _ _ h => h) t _ (hY 0)).choose_spec
  have e1 : Y 1 = iblk m c 1 t := (RDat.finds_in_eq_fetched (rdat m c) 1 rfl (fun _ _ _ => rfl) (fun _ _ _ h => h) t _ (hY 1)).choose_spec
  have e2 : Y 2 = iblk m c 2 t := (RDat.finds_in_eq_fetched (rdat m c) 2 rfl (fun _ _ _ => rfl) (fun _ _ _ h => h) t _ (hY 2)).choose_spec
  have e3 : Y 3 = iblk m c 3 t := (RDat.finds_in_eq_fetched (rdat m c) 3 rfl (fun _ _ _ => rfl) (fun _ _ _ h => h) t _ (hY 3)).choose_spec
  rw [bigSep_W0, bigSep_W0, defs₀_row, show (rdat m c).owesAt () t.succ = (rdat m c).owesAt () t.castSucc from rfl,
    show (rdat m c).Φ t.succ = (rdat m c).Φ t.castSucc from rfl]
  iintro ⟨HΦ, Ho, H0, H1, H2, H3, H4⟩
  iapply (wp_wand_r frame (wpE (defs₀ (F := F)) 𝒱₀ (c : Thread nD τ) none) Set.univ)
  isplitl [H0 H1 H2 H3 H4]
  · iapply (sound_point c Set.univ (grid0.coords t) _ _ _ _ _ _ _ _ _ _ (Y 0) (Y 1) (Y 2) (Y 3) (Y 4))
    unfold bufs
    isplitl [H0]; · iexact H0
    isplitl [H1]; · iexact H1
    isplitl [H2]; · iexact H2
    isplitl [H3]; · iexact H3
    iexact H4
  iintro %r H
  unfold bufs
  icases H with ⟨H0, H1, H2, H3, H4⟩
  isplitl [HΦ]; · iexact HΦ
  isplitl [Ho]; · iexact Ho
  isplitl [H0]; · iexists (Y 0); isplitr; · ipureintro; exact (rfl : Y 0 = Y 0)
                  iexact H0
  isplitl [H1]; · iexists (Y 1); isplitr; · ipureintro; exact (rfl : Y 1 = Y 1)
                  iexact H1
  isplitl [H2]; · iexists (Y 2); isplitr; · ipureintro; exact (rfl : Y 2 = Y 2)
                  iexact H2
  isplitl [H3]; · iexists (Y 3); isplitr; · ipureintro; exact (rfl : Y 3 = Y 3)
                  iexact H3
  rw [e0, e1, e2, e3]
  iexists (result (envAt m c t))
  isplitr; · ipureintro; exact (rfl : result (envAt m c t) = result (envAt m c t))
  iexact H4

set_option backward.isDefEq.respectTransparency.types false in
include ρ in
theorem run_main_quiescent : θ_run defs (onTc (τ := τ) (main (F := F))) (⟨m, fun _ => 0, ρ⟩) (fun r => (Pipeline.RDat.FramePost (cfg0 (F := F)) (rdat m) (V m)) r ∧ r.2.sem = fun _ => 0) :=
  Pipeline.RDat.θ_run_frame_track_shared (Q' := _) cfgs (0 : Fin 1) launch₀0 defs₀ 𝒱₀ (rdat m) m ρ main
    (hbody := body_obligation m) (hq := fun _ _ _ => rfl)
    (howed := fun _ _ => rfl) (V := V m) (hmain := hmain m 𝒱₀) (hA := fun _ _ => rfl) (hin := fun _ => .rfl) (hout := fun _ => .rfl)

/-- The arguments end as they were and every counter ends at zero. -/
theorem frame_run : θ_run defs (onTc (τ := τ) (main (F := F))) (⟨m, fun _ => 0, ρ⟩) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨h.1.arr_in c 0 rfl, h.1.arr_in c 1 rfl⟩, h.2⟩) (run_main_quiescent m ρ)

end Cert.FwdModel

end
-- ==== Proof.Relabel.lean ====
module

public import Idealize.ShloMosaic.Rules

/-!
# A program under other arguments of its labels

Two body tables whose labels have the same results and whose arguments correspond one to one: what holds of a program
over the first holds of the same program over the second.
-/

@[expose] public section

noncomputable section

namespace Cert.Relabel
open Idealize.ShloMosaic
open Idealize.SL Idealize.SL.RA Idealize.SL.Sem
open Idealize.SL.BI (sProp bigSep)
open scoped Idealize.SL.BI
open Idealize.SL.BI.BIBase Idealize.SL.BI.Laws

section Prog
variable {nD : Nat} {τ : Topo} {sig : RefSig} {Val : EltTy → Type} {L : Type} {A A' R : L → Type} (f : ∀ ℓ, A ℓ → A' ℓ) {p : Proc τ}

/-- An effect with its call's argument carried over. -/
def eff : ∀ {β : Type}, TpuEff nD τ sig Val ⟨L, A, R⟩ p β → TpuEff nD τ sig Val ⟨L, A', R⟩ p β
  | _, .load m r h => .load m r h
  | _, .store m r w M h hm => .store m r w M h hm
  | _, .havoc m => .havoc m
  | _, .deviceId => .deviceId
  | _, .assume φ d => .assume φ d
  | _, .semSignal dst sem n => .semSignal dst sem n
  | _, .dmaSemSignal sem n => .dmaSemSignal sem n
  | _, .semWait sem n => .semWait sem n
  | _, .semRead sem => .semRead sem
  | _, .enqueueDmaAs src tgt via sem h₁ h₂ h₃ => .enqueueDmaAs src tgt via sem h₁ h₂ h₃
  | _, .waitDma sem b s e hk => .waitDma sem b s e hk
  | _, .enqueueIndirectDma hp offs hn sem row => .enqueueIndirectDma hp offs hn sem row
  | _, .prngSeed hp ws h => .prngSeed hp ws h
  | _, .prngDraw hp t => .prngDraw hp t
  | _, .hloBegin hp op => .hloBegin hp op
  | _, .hloEnd hp W => .hloEnd hp W
  | _, .call ℓ a => .call (Λ := ⟨L, A', R⟩) ℓ (f ℓ a)
  | _, .customCall ℓ a => .customCall (Λ := ⟨L, A', R⟩) ℓ (f ℓ a)
  | _, .kernelExit => .kernelExit

/-- A program with its calls' arguments carried over. -/
def prog {α : Type} : Prog (TpuEff nD τ sig Val ⟨L, A, R⟩ p) α → Prog (TpuEff nD τ sig Val ⟨L, A', R⟩ p) α
  | .ret a => .ret a
  | .op e k => .op (eff f e) fun x => prog (k x)

theorem prog_op {α β : Type} (e : TpuEff nD τ sig Val ⟨L, A, R⟩ p β) (k : β → Prog (TpuEff nD τ sig Val ⟨L, A, R⟩ p) α) :
    prog f (.op e k) = .op (eff f e) fun x => prog f (k x) := rfl

theorem prog_bind {α β : Type} (q : Prog (TpuEff nD τ sig Val ⟨L, A, R⟩ p) α) (k : α → Prog (TpuEff nD τ sig Val ⟨L, A, R⟩ p) β) :
    prog f (q >>= k) = prog f q >>= fun x => prog f (k x) := by
  induction q with
  | ret a => rfl
  | op e k ih => simp only [Prog.bind_op, prog_op, ih]

theorem prog_ite {α : Type} (b : Prop) [Decidable b] (q q' : Prog (TpuEff nD τ sig Val ⟨L, A, R⟩ p) α) :
    prog f (if b then q else q') = if b then prog f q else prog f q' := apply_ite _ _ _ _

end Prog

section Wp
variable {nD : Nat} {τ : Topo} {sig : RefSig} {Ix : Type} [DecidableEq Ix] {Val : EltTy → Type} {Name : Type} [DecidableEq Name]
  {U : Type} [URA U] {Lvl : Type} [Preorder Lvl] {L : Type} {A A' R : L → Type} (f : ∀ ℓ, A ℓ → A' ℓ) (g : ∀ ℓ, A' ℓ → A ℓ)
  (hgf : ∀ ℓ a, g ℓ (f ℓ a) = a) {D : Defs nD τ sig Val ⟨L, A, R⟩} {D' : Defs nD τ sig Val ⟨L, A', R⟩} (𝒱 : Variants)
  (c : Thread nD τ) (hD : ∀ ℓ a, D' c.2 ℓ a = prog f (D c.2 ℓ (g ℓ a)))
local notation "𝕄" => MT nD τ sig Ix Val Name U Lvl

theorem wp_arm (Γ : PendingWaitsCtx sig Ix) (E : Set Name) (cw : Set Name → (ℓ : L) → A ℓ → Bool → sWPT 𝕄 (R ℓ))
    (cw' : Set Name → (ℓ : L) → A' ℓ → Bool → sWPT 𝕄 (R ℓ)) (h : ∀ E ℓ a x K, cw E ℓ a x K ⊢ cw' E ℓ (f ℓ a) x K)
    {α : Type} (q : Prog (TpuEff nD τ sig Val ⟨L, A, R⟩ c.2) α) (Φ : α → sProp 𝕄) :
    wp frame (clauses (Λ := ⟨L, A, R⟩) c Γ cw) E q Φ ⊢ wp frame (clauses (Λ := ⟨L, A', R⟩) c Γ cw') E (prog f q) Φ := by
  induction q with
  | ret a => exact .rfl
  | op e k ih =>
    rw [prog_op, wp_op, wp_op]
    refine BI.fupd_mono (Entails.trans (OrdCont.mono (clauses (Λ := ⟨L, A, R⟩) c Γ cw E e) ih) ?_)
    generalize (fun x => wp frame (clauses (Λ := ⟨L, A', R⟩) c Γ cw') E (prog f (k x)) Φ) = K
    cases e with
    | call ℓ a => exact h E ℓ a false K
    | customCall ℓ a =>
      exact OrdCont.mono (atomically frame E (scopedSpec c)) (Q := fun _ => cw E ℓ a true K)
        (Q' := fun _ => cw' E ℓ (f ℓ a) true K) fun _ => h E ℓ a true K
    | enqueueDmaAs _ tgt _ _ _ _ _ => cases tgt <;> exact Entails.of_eq rfl
    | semWait _ n => cases n <;> exact Entails.of_eq rfl
    | semSignal _ _ n => cases n <;> exact Entails.of_eq rfl
    | dmaSemSignal _ n => cases n <;> exact Entails.of_eq rfl
    | _ => exact Entails.of_eq rfl

include hD in
theorem body_eq (x : Bool) (ℓ : L) (a : A' ℓ) : bodyOf D' c.2 x ℓ a = prog f (bodyOf D c.2 x ℓ (g ℓ a)) := by
  cases x
  · exact hD ℓ a
  · simp only [bodyOf, prog_bind, hD]; rfl

include hgf hD in
/-- The clause of a call under the first table entails the one of the same call under the second. -/
theorem call_arm (bd : Option 𝒱.V) (Γ : PendingWaitsCtx sig Ix) (E : Set Name) (ℓ : L) (a : A ℓ) (x : Bool) (K : R ℓ → sProp 𝕄) :
    callArm D 𝒱 c bd Γ E ℓ a x K ⊢ callArm D' 𝒱 c bd Γ E ℓ (f ℓ a) x K := by
  let W : sWPT.Fam 𝕄 (fun i : CallIdx 𝒱 sig Ix Name ⟨L, A', R⟩ => R i.ℓ) := fun i => callArm D 𝒱 c i.bd i.Γ i.E i.ℓ (g i.ℓ i.a) i.x
  have hW : W.Frameable := fun i => callArm_frameable D 𝒱 c i.bd i.Γ i.E i.ℓ (g i.ℓ i.a) i.x
  have hbody (bd : Option 𝒱.V) (Γ : PendingWaitsCtx sig Ix) (E : Set Name) (x : Bool) (ℓ : L) (a : A' ℓ) (K : R ℓ → sProp 𝕄) :
      wp frame (clauses (Λ := ⟨L, A, R⟩) c Γ fun E ℓ a x => callArm D 𝒱 c bd Γ E ℓ a x) E (bodyOf D c.2 x ℓ (g ℓ a)) K
        ⊢ wp frame (clauses (Λ := ⟨L, A', R⟩) c Γ fun E ℓ a x => W ⟨bd, Γ, E, ℓ, a, x⟩) E (bodyOf D' c.2 x ℓ a) K := by
    rw [body_eq f g c hD]
    exact wp_arm f c Γ E (fun E ℓ a x => callArm D 𝒱 c bd Γ E ℓ a x) (fun E ℓ a x => W ⟨bd, Γ, E, ℓ, a, x⟩)
      (fun E ℓ a x K => Entails.of_eq (by show _ = callArm D 𝒱 c bd Γ E ℓ (g ℓ (f ℓ a)) x K; rw [hgf])) _ K
  have hpost : W ≤ callF D' 𝒱 c W := by
    rintro ⟨bd, Γ, E, ℓ, a, x⟩ K
    show callArm D 𝒱 c bd Γ E ℓ (g ℓ a) x K ⊢ _
    rw [callArm_unfold]
    simp only [callF, sWPT.or_apply, spec_simps, gfp_callF_apply]
    refine or_mono ?_ ?_
    · refine exists_mono fun v => sep_mono_right (OrdCont.mono (beginPendingWaits c Γ) fun e? => ?_)
      exact hbody (some v) (Γ.descend e?) E x ℓ a _
    · exact exists_mono fun e => sep_mono_right (sep_mono_right (sep_mono_right (wand_mono_right (hbody bd Γ E x ℓ a K))))
  refine Entails.trans (Entails.of_eq ?_) (callArm_coind D' 𝒱 c hW hpost ⟨bd, Γ, E, ℓ, f ℓ a, x⟩ K)
  show _ = callArm D 𝒱 c bd Γ E ℓ (g ℓ (f ℓ a)) x K
  rw [hgf]

include hgf hD in
/-- What holds of a program under the first table holds of it under the second. -/
theorem wp_prog (E : Set Name) (bd : Option 𝒱.V) (Γ : PendingWaitsCtx sig Ix) {α : Type}
    (q : Prog (TpuEff nD τ sig Val ⟨L, A, R⟩ c.2) α) (Φ : α → sProp 𝕄) :
    wp frame (wpE' D 𝒱 c bd Γ) E q Φ ⊢ wp frame (wpE' D' 𝒱 c bd Γ) E (prog f q) Φ :=
  wp_arm f c Γ E _ _ (fun E ℓ a x K => call_arm f g hgf 𝒱 c hD bd Γ E ℓ a x K) q Φ

end Wp

end Cert.Relabel

end
-- ==== Proof.FwdWord.lean ====
module

public import proofs.«01_k».proof.Proof.FwdLaunch
public import proofs.«01_k».proof.Proof.Relabel
public import proofs.«01_k».proof.Proof.Gen.AttnFwd.Launch
public import proofs.«01_k».proof.Proof.Gen.AttnFwd.Points
public import proofs.«01_k».proof.Proof.Gen.AttnFwd.Skeleton

/-!
# The attention forward over the machine's words
-/

@[expose] public section

set_option maxHeartbeats 4000000

noncomputable section

namespace Cert.FwdWord
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A named constant is the float of its word. -/
local instance words : Named F := ⟨fun _ _ {φ} b => Scalar.ofBits φ b⟩

/-- The loops' records of one program as the other's, -/
def fwd : ∀ ℓ, (Cert.AttnFwdIdeal.Λ₀ F).Args ℓ → (Cert.AttnFwd.Λ₀ F).Args ℓ
  | 0, a => a
  | 1, ⟨a1, a2, a3, a4, a5, a6, a7, a8, a9, a10, a11, a12, a13, a14, a15, a16, a17, a18, a19, a20, a21, a22, a23, a24, a25, a26, a27, a28⟩ =>
    ⟨a1, a2, a3, a4, a5, a6, a7, a8, a9, a10, a11, a12, a13, a14, a15, a16, a17, a18, a19, a20, a21, a22, a23, a24, a25, a26, a27, a28⟩
  | 2, ⟨a1, a2, a3, a4, a5, a6, a7, a8, a9, a10, a11, a12, a13⟩ => ⟨a1, a2, a3, a4, a5, a6, a7, a8, a9, a10, a11, a12, a13⟩
  | 3, ⟨a1, a2, a3, a4, a5, a6, a7, a8, a9, a10, a11, a12, a13⟩ => ⟨a1, a2, a3, a4, a5, a6, a7, a8, a9, a10, a11, a12, a13⟩
  | 4, ⟨a1, a2, a3, a4, a5, a6, a7, a8, a9, a10, a11, a12, a13⟩ => ⟨a1, a2, a3, a4, a5, a6, a7, a8, a9, a10, a11, a12, a13⟩
  | ⟨_ + 5, h⟩, _ => absurd h (Nat.not_lt.2 (Nat.le_add_left _ _))

/-- and back. -/
def back : ∀ ℓ, (Cert.AttnFwd.Λ₀ F).Args ℓ → (Cert.AttnFwdIdeal.Λ₀ F).Args ℓ
  | 0, a => a
  | 1, ⟨a1, a2, a3, a4, a5, a6, a7, a8, a9, a10, a11, a12, a13, a14, a15, a16, a17, a18, a19, a20, a21, a22, a23, a24, a25, a26, a27, a28⟩ =>
    ⟨a1, a2, a3, a4, a5, a6, a7, a8, a9, a10, a11, a12, a13, a14, a15, a16, a17, a18, a19, a20, a21, a22, a23, a24, a25, a26, a27, a28⟩
  | 2, ⟨a1, a2, a3, a4, a5, a6, a7, a8, a9, a10, a11, a12, a13⟩ => ⟨a1, a2, a3, a4, a5, a6, a7, a8, a9, a10, a11, a12, a13⟩
  | 3, ⟨a1, a2, a3, a4, a5, a6, a7, a8, a9, a10, a11, a12, a13⟩ => ⟨a1, a2, a3, a4, a5, a6, a7, a8, a9, a10, a11, a12, a13⟩
  | 4, ⟨a1, a2, a3, a4, a5, a6, a7, a8, a9, a10, a11, a12, a13⟩ => ⟨a1, a2, a3, a4, a5, a6, a7, a8, a9, a10, a11, a12, a13⟩
  | ⟨_ + 5, h⟩, _ => absurd h (Nat.not_lt.2 (Nat.le_add_left _ _))

theorem back_fwd : ∀ ℓ (a : (Cert.AttnFwdIdeal.Λ₀ F).Args ℓ), back ℓ (fwd ℓ a) = a
  | 0, _ => rfl
  | 1, _ => rfl
  | 2, _ => rfl
  | 3, _ => rfl
  | 4, _ => rfl
  | ⟨_ + 5, h⟩, _ => absurd h (Nat.not_lt.2 (Nat.le_add_left _ _))

/-- A program over the one program's labels as one over the other's. -/
abbrev carry {α : Type} (q : Prog (TpuEff Cert.AttnFwdIdeal.nD Cert.AttnFwdIdeal.τ Cert.AttnFwdIdeal.sig (Elt F) (Cert.AttnFwdIdeal.Λ₀ F) .tc) α) :
    Prog (TpuEff Cert.AttnFwd.nD Cert.AttnFwd.τ Cert.AttnFwd.sig (Elt F) (Cert.AttnFwd.Λ₀ F) .tc) α :=
  Relabel.prog (sig := Cert.AttnFwd.sig) (R := (Cert.AttnFwd.Λ₀ F).Result) fwd q

theorem row0 (a : (Cert.AttnFwd.Λ₀ F).Args 0) : Cert.AttnFwd.defs₀ (F := F) .tc 0 a = carry (Cert.AttnFwdIdeal.defs₀ .tc 0 a) := by
  obtain ⟨t, s⟩ := a
  show Cert.AttnFwd.cc0_attn_fwd _ _ _ _ _ _ _ _ _ _ _ = carry (Cert.AttnFwdIdeal.cc0_attn_fwd _ _ _ _ _ _ _ _ _ _ _)
  rw [Cert.AttnFwd.Gen.cc0_attn_fwd_eq_skeleton, Cert.AttnFwdIdeal.Gen.cc0_attn_fwd_eq_skeleton]
  rfl

theorem rows : ∀ ℓ (a : (Cert.AttnFwd.Λ₀ F).Args ℓ), Cert.AttnFwd.defs₀ .tc ℓ a = carry (Cert.AttnFwdIdeal.defs₀ .tc ℓ (back ℓ a))
  | 0, a => row0 a
  | 1, a => by
    cases a; show Cert.AttnFwd.cc0_while1 .. = carry (Cert.AttnFwdIdeal.cc0_while1 ..)
    rw [Cert.AttnFwd.Gen.cc0_while1_eq_skeleton, Cert.AttnFwdIdeal.Gen.cc0_while1_eq_skeleton]
    unfold Cert.AttnFwd.Gen.cc0_while1_skel Cert.AttnFwdIdeal.Gen.cc0_while1_skel
    refine Eq.trans ?_ (Relabel.prog_ite _ _ _ _).symm
    exact if_congr Iff.rfl rfl rfl
  | 2, a => by
    cases a; show Cert.AttnFwd.cc0_while2 .. = carry (Cert.AttnFwdIdeal.cc0_while2 ..)
    rw [Cert.AttnFwd.Gen.cc0_while2_eq_skeleton, Cert.AttnFwdIdeal.Gen.cc0_while2_eq_skeleton]
    unfold Cert.AttnFwd.Gen.cc0_while2_skel Cert.AttnFwdIdeal.Gen.cc0_while2_skel
    refine Eq.trans ?_ (Relabel.prog_ite _ _ _ _).symm
    exact if_congr Iff.rfl rfl rfl
  | 3, a => by
    cases a; show Cert.AttnFwd.cc0_while3 .. = carry (Cert.AttnFwdIdeal.cc0_while3 ..)
    rw [Cert.AttnFwd.Gen.cc0_while3_eq_skeleton, Cert.AttnFwdIdeal.Gen.cc0_while3_eq_skeleton]
    unfold Cert.AttnFwd.Gen.cc0_while3_skel Cert.AttnFwdIdeal.Gen.cc0_while3_skel
    refine Eq.trans ?_ (Relabel.prog_ite _ _ _ _).symm
    exact if_congr Iff.rfl rfl rfl
  | 4, a => by
    cases a; show Cert.AttnFwd.cc0_while4 .. = carry (Cert.AttnFwdIdeal.cc0_while4 ..)
    rw [Cert.AttnFwd.Gen.cc0_while4_eq_skeleton, Cert.AttnFwdIdeal.Gen.cc0_while4_eq_skeleton]
    unfold Cert.AttnFwd.Gen.cc0_while4_skel Cert.AttnFwdIdeal.Gen.cc0_while4_skel
    refine Eq.trans ?_ (Relabel.prog_ite _ _ _ _).symm
    exact if_congr Iff.rfl rfl rfl
  | ⟨_ + 5, h⟩, _ => absurd h (Nat.not_lt.2 (Nat.le_add_left _ _))

open Cert.AttnFwd Cert.AttnFwd.Gen
open Idealize.ShloMosaic.Pipeline (RDat)

local notation "𝕄" => MT nD τ sig Unit (Elt F) ℕ (UR sig nD τ) ℕ

variable (m : (ℓ : Loc nD τ sig) → Buf (Elt F) ℓ) (ρ : Dev nD → PrngReg)

/-- The host lines before the kernel: the triangle of ones. -/
abbrev hosts : List (List (HloOp τ sig (Elt F))) := [hostOps0, hostOps0_1, hostOps0_2]

/-- The buffers as the kernel's run finds them. -/
abbrev V (c : Dev nD) (b : Ref sig .tc) : Buf (Elt F) ((c : Thread nD τ).loc b) := StableHlo.after hosts.flatten (fun b => m (c, b)) b

/-- The run's data: inputs stay at what was found, and of the result's window nothing is said. -/
def rdat (c : Dev nD) : RDat τ (Elt F) Unit ℕ (UR sig nD τ) ℕ (cfg0 (F := F)) c where
  A w := V m c (Pipeline.arrRef spec0 w)
  after w t := fun Y X => ((cfg0 (F := F)).win w).isOut = false → X = Y
  Φ n := Pipeline.ΦA spec0 c
  q w := Pipeline.shareOf spec0 w
  owed _ := 0

/-- A point of the grid, by what the other program's point does. -/
theorem point (c : Dev nD) (t : Fin (cfg0 (F := F)).N) (q : Vec F S1024x128 .bf16) (k v : Vec F S8192x128 .bf16)
    (su : Vec F S256x256 .bf16) (o : Vec F S1024x128 .bf16) :
    (FwdModel.bufs c (st0_0 t) (st0_1 t) (st0_2 t) (st0_3 t) (st0_4 t) q k v su o : sProp 𝕄)
    ⊢ wp frame (wpE (defs₀ (F := F)) FwdModel.𝒱₀ (c : Thread nD τ) none) Set.univ (defs₀ (F := F) .tc 0 (t, (cfg0 (F := F)).slots t))
      (fun _ => FwdModel.bufs c (st0_0 t) (st0_1 t) (st0_2 t) (st0_3 t) (st0_4 t) q k v su (FwdModel.result (FwdModel.env (grid0.coords t) q k v su))) := by
  rw [rows]
  exact (FwdModel.sound_point c Set.univ (grid0.coords t) _ _ _ _ _ _ _ _ _ _ q k v su o).trans
    (Relabel.wp_prog fwd back back_fwd FwdModel.𝒱₀ (c : Thread nD τ) rows Set.univ none .empty _ _)

theorem body_obligation (c : Dev nD) : (rdat (F := F) m c).BodyObligation (defs₀ (F := F)) FwdModel.𝒱₀ () Set.univ := fun t Y hY => by
  rw [bigSep_W0, bigSep_W0, show (rdat m c).owesAt () t.succ = (rdat m c).owesAt () t.castSucc from rfl,
    show (rdat m c).Φ t.succ = (rdat m c).Φ t.castSucc from rfl]
  iintro ⟨HΦ, Ho, H0, H1, H2, H3, H4⟩
  iapply (wp_wand_r frame (wpE (defs₀ (F := F)) FwdModel.𝒱₀ (c : Thread nD τ) none) Set.univ)
  isplitl [H0 H1 H2 H3 H4]
  · iapply (point c t (Y 0) (Y 1) (Y 2) (Y 3) (Y 4))
    unfold FwdModel.bufs
    isplitl [H0]; · iexact H0
    isplitl [H1]; · iexact H1
    isplitl [H2]; · iexact H2
    isplitl [H3]; · iexact H3
    iexact H4
  iintro %r H
  unfold FwdModel.bufs
  icases H with ⟨H0, H1, H2, H3, H4⟩
  isplitl [HΦ]; · iexact HΦ
  isplitl [Ho]; · iexact Ho
  isplitl [H0]; · iexists (Y 0); isplitr; · ipureintro; exact fun _ => rfl
                  iexact H0
  isplitl [H1]; · iexists (Y 1); isplitr; · ipureintro; exact fun _ => rfl
                  iexact H1
  isplitl [H2]; · iexists (Y 2); isplitr; · ipureintro; exact fun _ => rfl
                  iexact H2
  isplitl [H3]; · iexists (Y 3); isplitr; · ipureintro; exact fun _ => rfl
                  iexact H3
  iexists (FwdModel.result (FwdModel.env (grid0.coords t) (Y 0) (Y 1) (Y 2) (Y 3)))
  isplitr; · ipureintro; exact fun h => Bool.noConfusion (show true = false from h)
  iexact H4

set_option backward.isDefEq.respectTransparency.types false in
include ρ in
theorem run : θ_run defs (onTc (τ := τ) (main (F := F))) (⟨m, fun _ => 0, ρ⟩) (fun r => (Pipeline.RDat.FramePost (cfg0 (F := F)) (rdat m) (V m)) r ∧ r.2.sem = fun _ => 0) :=
  Pipeline.RDat.θ_run_frame_track_shared (Q' := _) cfgs (0 : Fin 1) launch₀0 defs₀ FwdModel.𝒱₀ (rdat m) m ρ main
    (hbody := body_obligation m) (hq := fun _ _ _ => rfl)
    (howed := fun _ _ => rfl) (V := V m) (hmain := Pipeline.hmain_prefixes cfgs 0 defs₀ FwdModel.𝒱₀ m main hosts
      ⟨hostOps0_sub, hostOps0_1_sub, hostOps0_2_sub⟩ (by repeat' constructor) fun c => main_chain c)
    (hA := fun _ _ => rfl) (hin := fun _ => .rfl) (hout := fun _ => .rfl)

/-- The arguments end as they were and every counter ends at zero. -/
theorem frame_run : θ_run defs (onTc (τ := τ) (main (F := F))) (⟨m, fun _ => 0, ρ⟩) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨h.1.arr_in c 0 rfl, h.1.arr_in c 1 rfl⟩, h.2⟩) (run m ρ)

end Cert.FwdWord

end
-- ==== Proof.Products.lean ====
/- The optimiser's step, the product of the normalised rows with the mixers' weights, and the product that gives the
   gradients of the feed-forward's weights. -/
module

public import proofs.«01_k».proof.Defs
public import proofs.«01_k».proof.Proof.Gen.AdamIdeal.Value
public import proofs.«01_k».proof.Proof.Gen.AdamRefIdeal.Read
public import proofs.«01_k».proof.Proof.Gen.ProjIdeal.Value
public import proofs.«01_k».proof.Proof.Gen.ProjRefIdeal.Read
public import proofs.«01_k».proof.Proof.Gen.TnIdeal.Value
public import proofs.«01_k».proof.Proof.Gen.TnRefIdeal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.TnIdeal.Value

open Cert.TnIdeal Cert.TnIdeal.Gen Cert.TnRefIdeal.Read

variable (m : (ℓ : Loc nD τ sig) → Buf (Elt Ideal) ℓ) (c : Dev nD)

theorem idx : ∀ t : Fin cfg0.N, win0_0.index t = ![t.val % 8, t.val / 8] ∧ win0_1.index t = ![t.val % 8, t.val / 8]
    ∧ win0_2.index t = ![t.val % 8, 0] :=
  (by decide +kernel : ∀ t : Fin grid0.N, _)

/-- Row `k` of tile `n`, among all the rows. -/
def row (n : ℕ) (k : Fin 1024) : Fin 8192 := ⟨n % 8 * 1024 + k.val, by omega⟩

/-- Eight tiles of rows, one after the other, make the product over all the rows. -/
theorem fold (X : (n : ℕ) → n < cfg0.N → S1024x1408.Idx → EReal) (Y : (n : ℕ) → n < cfg0.N → S1024x1024.Idx → EReal)
    (A : S8192x2816.Idx → EReal) (B : S8192x1024.Idx → EReal)
    (hX : ∀ n h (k : Fin 1024) (i : Fin 2816), n / 8 = i.val / 1408 →
      X n h (ix2 k ⟨i.val % 1408, Nat.mod_lt _ (by decide)⟩) = A (ix2 (row n k) i))
    (hY : ∀ n h (k j : Fin 1024), Y n h (ix2 k j) = B (ix2 (row n k) j)) (i : Fin 2816) (j : Fin 1024)
    (r : ℕ) (hr : r = i.val / 1408) (h : 8 * r + 7 < cfg0.N) :
    Pipeline.accAt (fun n h => k0_pay3 (F := Ideal) (X n h) (Y n h) (k0_pay1 (F := Ideal)))
        (fun n h acc => k0_pay3 (F := Ideal) (X n h) (Y n h) acc) (8 * r) 7 h
        (ix2 ⟨i.val % 1408, Nat.mod_lt _ (by decide)⟩ j)
      = ∑ l : Fin 8192, A (ix2 l i) * B (ix2 l j) := by
  rw [Pipeline.accAt_add_apply _ _ (fun _ => 0)
    (fun n y => if h : n < cfg0.N then ∑ k : Fin 1024, X n h (ix2 k (y 0)) * Y n h (ix2 k (y 1)) else 0) _ 7
    (fun h y => by rw [dif_pos h]; pointwise [k0_pay3, k0_pay1])
    (fun n h acc y _ _ => by rw [dif_pos h]; pointwise [k0_pay3]) 7 le_rfl, zero_add, Finset.sum_range]
  have hb (s : Fin 8) : 8 * r + s.val < cfg0.N := by omega
  simp only [hb, dite_true]
  refine Fin.sum_mul_add_congr fun s k hl => ?_
  have e : row (8 * r + s.val) k = ⟨s.val * 1024 + k.val, hl⟩ := Fin.ext (by simp only [row]; omega)
  exact congrArg₂ _ ((hX _ _ k i (by omega)).trans (by rw [e])) ((hY _ _ k j).trans (by rw [e]))

theorem iblk2 (n : ℕ) (h : n < cfg0.N) (k j : Fin 1024) :
    iblk m c 2 ⟨n, h⟩ (ix2 k j) = m ((c : Thread nD τ).loc main_arg2) (ix2 (row n k) j) := by
  blk_point [iblk, V, idx ⟨n, h⟩, row]

theorem run_eq (i : Fin 2816) (j : Fin 1024) : run3Of (ix2 i j) = i.val / 1408 := by
  show 1 * (i.val / 1408 - 0) + 1 * (j.val / 1024 - 0) = _
  omega

theorem loc_eq (i : Fin 2816) (j : Fin 1024) : loc3Of (ix2 i j) = ix2 ⟨i.val % 1408, Nat.mod_lt _ (by decide)⟩ j := by
  refine (eq_ix2 _).trans (congrArg _ (Fin.ext ?_))
  exact Nat.mod_eq_of_lt j.isLt

/-- The gradient of the gate's weights. -/
theorem rows3 : G3 m c
    = val_main_v3 (F := Ideal) (m ((c : Thread nD τ).loc main_arg0)) (m ((c : Thread nD τ).loc main_arg2)) := by
  funext i
  idx_vars i
  pointwise [val_main_v3, val_main_v2, val_main_v1, val_main_v0]
  refine (dif_pos (lt_of_lt_of_eq (by rw [show run3Of (ix2 i0 i1) = _ from run_eq i0 i1]; omega) N_0.symm)).trans ?_
  rw [show loc3Of (ix2 i0 i1) = _ from loc_eq i0 i1]
  exact fold (fun n h => iblk m c 0 ⟨n, h⟩) (fun n h => iblk m c 2 ⟨n, h⟩) _ _
    (fun n h k i hi => by blk_point [iblk, V, idx ⟨n, h⟩, row]) (iblk2 m c) i0 i1 _ (run_eq i0 i1) _

/-- The gradient of the other factor's weights. -/
theorem rows4 : G4 m c
    = val_main_v7 (F := Ideal) (m ((c : Thread nD τ).loc main_arg1)) (m ((c : Thread nD τ).loc main_arg2)) := by
  funext i
  idx_vars i
  pointwise [val_main_v7, val_main_v6, val_main_v5, val_main_v4]
  refine (dif_pos (lt_of_lt_of_eq (by rw [show run4Of (ix2 i0 i1) = _ from run_eq i0 i1]; omega) N_0.symm)).trans ?_
  rw [show loc4Of (ix2 i0 i1) = _ from loc_eq i0 i1]
  exact fold (fun n h => iblk m c 1 ⟨n, h⟩) (fun n h => iblk m c 2 ⟨n, h⟩) _ _
    (fun n h k i hi => by blk_point [iblk, V, idx ⟨n, h⟩, row]) (iblk2 m c) i0 i1 _ (run_eq i0 i1) _

end Cert.TnIdeal.Value

namespace Cert.AdamIdeal.Value

open Cert.AdamIdeal Cert.AdamIdeal.Gen Cert.AdamRefIdeal.Read

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The first moment. -/
theorem final5 (c : Dev nD) : (dats m 0 c).arrAt 5 (cfgs 0).N
    = val_main_v8 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay2, k0_pay1, val_main_v8, val_main_v7, val_main_v6, val_main_v5, val_main_v4, val_main_v2, val_main_v1,
    val_main_cst, val_main_cst_0]
  blk_point [iblk, V, idx t]

/-- The second moment. -/
theorem final6 (c : Dev nD) : (dats m 0 c).arrAt 6 (cfgs 0).N
    = val_main_v14 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay3, k0_pay1, val_main_v14, val_main_v13, val_main_v12, val_main_v11, val_main_v10, val_main_v9,
    val_main_cst_1, val_main_cst_2, val_main_v3, val_main_v1]
  blk_point [iblk, V, idx t]

/-- The change of the weights. -/
theorem final4 (c : Dev nD) : (dats m 0 c).arrAt 4 (cfgs 0).N
    = val_main_v27 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay4, k0_pay3, k0_pay2, k0_pay1, val_main_v27, val_main_v26, val_main_v25, val_main_v24, val_main_v23,
    val_main_v22, val_main_v21, val_main_v20, val_main_v19, val_main_v18, val_main_v17, val_main_v16, val_main_v15,
    val_main_cst_3, val_main_cst_4, val_main_cst_5, val_main_cst_6, val_main_cst_7, val_main_v8, val_main_v7,
    val_main_v6, val_main_v5, val_main_v4, val_main_cst, val_main_cst_0, val_main_v14, val_main_v13, val_main_v12,
    val_main_v11, val_main_v10, val_main_v9, val_main_cst_1, val_main_cst_2, val_main_v3, val_main_v2, val_main_v1,
    val_main_v0]
  blk_point [iblk, V, idx t]

end Cert.AdamIdeal.Value

namespace Cert.ProjIdeal.Value

open Cert.ProjIdeal Cert.ProjIdeal.Gen Cert.ProjRefIdeal.Read

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The mixers' input `q`. -/
theorem final6 (c : Dev nD) : (dats m 0 c).arrAt 6 (cfgs 0).N
    = val_main_v7 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  frame_out
  pointwise [k0_pay3, k0_pay1, val_main_v7, val_main_v3, val_main_v1, val_main_v0]
  blk_point [iblk, V, idx t]

/-- The mixers' input `u`. -/
theorem final5 (c : Dev nD) : (dats m 0 c).arrAt 5 (cfgs 0).N
    = val_main_v2 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  pointwise [k0_pay2, k0_pay1, val_main_v2, val_main_v1, val_main_v0]
  blk_point [iblk, V, idx t]

/-- The mixers' inputs `k` and `v`. -/
theorem final7 (c : Dev nD) : (dats m 0 c).arrAt 7 (cfgs 0).N
    = val_main_v8 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  frame_out
  pointwise [k0_pay4, val_main_v8, val_main_v4, val_main_v1, val_main_v0]
  blk_point [iblk, V, idx t]

/-- The gate of branch `a`. -/
theorem final8 (c : Dev nD) : (dats m 0 c).arrAt 8 (cfgs 0).N
    = val_main_v9 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  frame_out
  pointwise [k0_pay5, val_main_v9, val_main_v5, val_main_v1, val_main_v0]
  blk_point [iblk, V, idx t]

/-- The gate of branch `b`. -/
theorem final9 (c : Dev nD) : (dats m 0 c).arrAt 9 (cfgs 0).N
    = val_main_v10 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  frame_out
  pointwise [k0_pay6, val_main_v10, val_main_v6, val_main_v1, val_main_v0]
  blk_point [iblk, V, idx t]

end Cert.ProjIdeal.Value

namespace Cert.ProductsClaim

theorem frame_tn : Cert.quiescent_TnRefIdeal := fun m g _ => (θ_run Cert.TnRefIdeal.defs _ _).mono
  (fun r h => ⟨fun c => (h c).2.2, sem_eq_zero_of_no_sems (by decide) r.2⟩) (Cert.TnRefIdeal.Value.run m g)

theorem frame_proj : Cert.quiescent_ProjRefIdeal := fun m g _ => (θ_run Cert.ProjRefIdeal.defs _ _).mono
  (fun r h => ⟨fun c => (h c).2.2.2.2.2, sem_eq_zero_of_no_sems (by decide) r.2⟩) (Cert.ProjRefIdeal.Value.run m g)

theorem frame_adam : Cert.quiescent_AdamRefIdeal := fun m g _ => (θ_run Cert.AdamRefIdeal.defs _ _).mono
  (fun r h => ⟨fun c => (h c).2.2.2, sem_eq_zero_of_no_sems (by decide) r.2⟩) (Cert.AdamRefIdeal.Value.run m g)

open Cert.TnIdeal.Value Cert.TnRefIdeal.Read in
theorem tn : Cert.algebraic_TnIdeal_TnRefIdeal := by
  pair_intro
  · run_from Cert.TnIdeal.Value.run m g
  · run_from Cert.TnRefIdeal.Value.run m' g'
    · exact (val_main_v3_eq _ _).trans (rows3 m c).symm
    · exact (val_main_v7_eq _ _).trans (rows4 m c).symm

open Cert.ProjIdeal.Value Cert.ProjRefIdeal.Read in
theorem proj : Cert.algebraic_ProjIdeal_ProjRefIdeal := by
  pair_intro
  · run_from Cert.ProjIdeal.Value.run_blocks m g
  · run_from Cert.ProjRefIdeal.Value.run m' g'
    · exact (val_main_v2_eq _ _).trans (final5 m c).symm
    · exact (val_main_v7_eq _ _).trans (final6 m c).symm
    · exact (val_main_v8_eq _ _).trans (final7 m c).symm
    · exact (val_main_v9_eq _ _).trans (final8 m c).symm
    · exact (val_main_v10_eq _ _).trans (final9 m c).symm

open Cert.AdamIdeal.Value Cert.AdamRefIdeal.Read in
theorem adam : Cert.algebraic_AdamIdeal_AdamRefIdeal := by
  pair_intro
  · run_from Cert.AdamIdeal.Value.run_blocks m g
  · run_from Cert.AdamRefIdeal.Value.run m' g'
    · exact (val_main_v27_eq _ _ _ _).trans (final4 m c).symm
    · exact (val_main_v8_eq _ _).trans (final5 m c).symm
    · exact (val_main_v14_eq _ _).trans (final6 m c).symm

end Cert.ProductsClaim
-- ==== Proof.AttnRun.lean ====
module

public import proofs.«01_k».proof.Proof.Gen.AttnBwdIdeal.Launch
public import proofs.«01_k».proof.Proof.AttnModel
public import proofs.«01_k».proof.Proof.AttnWords
public import Idealize.ShloMosaic.Lib.Claim
public import Idealize.ShloMosaic.Lib.Ring

/-!
# The attention backward's loops run

Each loop of the body, from the buffers it reads and writes to what `AttnModel` says it leaves there: the two `while`s by
induction on the trips still possible, the counted loops by an invariant.
-/

@[expose] public section

set_option maxHeartbeats 4000000

noncomputable section

namespace Cert.AttnModel
open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The loops' variants: the trips still possible. -/
abbrev 𝒱₀ : Variants := Variants.nat

/-! ### Tiles of a buffer -/

theorem readAt_rows {e : EltTy} (m : Memref sig .tc .vmem S8192x128 e) (f : m.view.ty.Contents (Elt F)) (off : Fin 2 → ℕ)
    (inb : ∀ a, off a + S256x128.size a ≤ S8192x128.size a) :
    m.view.readAt (Elt F) (Rect.unit (s := S8192x128) off S256x128.size inb).toLoadRect f
      = ld2 off (m.view.read (Elt F) f) := by
  rw [View.readAt_eq_ld]
  funext j
  refine congrArg (m.view.read (Elt F) f) (funext fun a => Fin.ext ?_)
  have h := inb a
  match a, h with
  | ⟨0, _⟩, h =>
    have hj : (j 0).val < 256 := (j 0).isLt
    have h0 : off 0 + 256 ≤ 8192 := h
    show off 0 + 1 * (j 0).val = (off 0 + (j 0).val) % 8192
    omega
  | ⟨1, _⟩, h =>
    have hj : (j 1).val < 128 := (j 1).isLt
    have h0 : off 1 + 128 ≤ 128 := h
    show off 1 + 1 * (j 1).val = (off 1 + (j 1).val) % 128
    omega

theorem readAt_slab {e : EltTy} (m : Memref sig .tc .vmem S2x32x256x512 e) (f : m.view.ty.Contents (Elt F)) (off : Fin 4 → ℕ)
    (inb : ∀ a, off a + S1x1x256x512.size a ≤ S2x32x256x512.size a) :
    m.view.readAt (Elt F) (Rect.unit (s := S2x32x256x512) off S1x1x256x512.size inb).toLoadRect f
      = ld4 off (m.view.read (Elt F) f) := by
  rw [View.readAt_eq_ld]
  funext j
  refine congrArg (m.view.read (Elt F) f) (funext fun a => Fin.ext ?_)
  have h := inb a
  match a, h with
  | ⟨0, _⟩, h =>
    have hj : (j 0).val < 1 := (j 0).isLt
    have h0 : off 0 + 1 ≤ 2 := h
    show off 0 + 1 * (j 0).val = (off 0 + (j 0).val) % 2
    omega
  | ⟨1, _⟩, h =>
    have hj : (j 1).val < 1 := (j 1).isLt
    have h0 : off 1 + 1 ≤ 32 := h
    show off 1 + 1 * (j 1).val = (off 1 + (j 1).val) % 32
    omega
  | ⟨2, _⟩, h =>
    have hj : (j 2).val < 256 := (j 2).isLt
    have h0 : off 2 + 256 ≤ 256 := h
    show off 2 + 1 * (j 2).val = (off 2 + (j 2).val) % 256
    omega
  | ⟨3, _⟩, h =>
    have hj : (j 3).val < 512 := (j 3).isLt
    have h0 : off 3 + 512 ≤ 512 := h
    show off 3 + 1 * (j 3).val = (off 3 + (j 3).val) % 512
    omega

theorem writes_rows {e : EltTy} (m : Memref sig .tc .vmem S8192x128 e) (f : m.view.ty.Contents (Elt F)) (off : Fin 2 → ℕ)
    (inb : ∀ a, off a + S256x128.size a ≤ S8192x128.size a) (y : Vec F S256x128 e) (L : List (View.Piece (Elt F) S8192x128 e)) :
    m.view.read (Elt F) (m.view.writes (Elt F) f (⟨Rect.unit (s := S8192x128) off S256x128.size inb, y⟩ :: L))
      = put2 off (m.view.read (Elt F) (m.view.writes (Elt F) f L)) y :=
  funext fun j => View.read_writes_cons_unit m.view f inb y L j rfl

theorem writes_slab {e : EltTy} (m : Memref sig .tc .vmem S2x32x256x512 e) (f : m.view.ty.Contents (Elt F)) (off : Fin 4 → ℕ)
    (inb : ∀ a, off a + S1x1x256x512.size a ≤ S2x32x256x512.size a) (y : Vec F S1x1x256x512 e)
    (L : List (View.Piece (Elt F) S2x32x256x512 e)) :
    m.view.read (Elt F) (m.view.writes (Elt F) f (⟨Rect.unit (s := S2x32x256x512) off S1x1x256x512.size inb, y⟩ :: L))
      = put4 off (m.view.read (Elt F) (m.view.writes (Elt F) f L)) y :=
  funext fun j => View.read_writes_cons_unit m.view f inb y L j rfl

/-- The rows left by one store. -/
theorem writes_rows1 {e : EltTy} (m : Memref sig .tc .vmem S8192x128 e) (f : m.view.ty.Contents (Elt F)) (off : Fin 2 → ℕ)
    (inb : ∀ a, off a + S256x128.size a ≤ S8192x128.size a) (y : Vec F S256x128 e) :
    m.view.read (Elt F) (m.view.writes (Elt F) f [⟨Rect.unit (s := S8192x128) off S256x128.size inb, y⟩])
      = put2 off (m.view.read (Elt F) f) y := writes_rows m f off inb y []

/-! ### The tiles' offsets as the run reads them -/

instance closed4_0 (i : grid0.Coords) (n : ℕ) [h : Fact (n ≤ 2 * (i 1).val)] : ClosedOff (k0_off4 i (BitVec.ofNat 32 n) 0#32) :=
  ⟨![256 * (2 * (i 1).val - n), 0], off4_0 i n h.out⟩

instance closed4_1 (i : grid0.Coords) (n : ℕ) [h : Fact (n ≤ 2 * (i 1).val)] : ClosedOff (k0_off4 i (BitVec.ofNat 32 n) 1#32) :=
  ⟨![256 * (2 * (i 1).val + 1 - n), 0], off4_1 i n (Nat.le_succ_of_le h.out)⟩

/-! ### The `while`s -/

/-- The test of a `while` fails past the last step. -/
theorem step_le {s c n : ℕ} {p q : BitVec 1} (hs : s < 16) (hc : c ≤ 1) (hn : n < 40)
    (hp : p = Scalar.cmpi .sle (BitVec.ofNat 32 n) (Scalar.addi (Scalar.muli 2#32 (BitVec.ofNat 32 s)) (BitVec.ofNat 32 c)))
    (h : Scalar.andi p q = 1#1) : n ≤ 2 * s + c := by
  rw [le_word s c n hs hc hn] at hp
  by_contra hlt
  rw [decide_eq_false hlt] at hp
  subst hp
  revert h
  revert q
  decide

/-- What both `while`s read and write. -/
def held (c : Dev nD) (arg3 arg4 : Memref sig .tc .vmem S8192x128 .bf16) (arg11 : Memref sig .tc .vmem S2x32x256x512 .bf16)
    (arg13 : Memref sig .tc .vmem S8192x128 .f32) (E : Env F) (g : GS F) (d : DA F) : sProp 𝕄 :=
  iprop(owns (c : Thread nD τ) arg3 fullShare E.k ∗ owns (c : Thread nD τ) arg4 fullShare E.v
      ∗ owns (c : Thread nD τ) arg11 fullShare g ∗ owns (c : Thread nD τ) arg13 fullShare d)

/-- A label that takes `H` to `H'` and returns `r`. -/
def callSpec {β : Type} (H H' : sProp 𝕄) (r : β) : sWPT 𝕄 β := do
  sWPT.consume H
  sWPT.produce H'
  pure r

theorem callSpec_apply {β : Type} (H H' : sProp 𝕄) (r : β) (K : β → sProp 𝕄) :
    callSpec H H' r K = iprop(H ∗ (H' -∗ K r)) := rfl

theorem w2_le (c : Dev nD) (Es : Set ℕ) (E : Env F) (arg3 : Memref sig .tc .vmem S8192x128 .bf16) (harg3 : arg3.IsWhole)
    (arg4 : Memref sig .tc .vmem S8192x128 .bf16) (harg4 : arg4.IsWhole)
    (arg11 : Memref sig .tc .vmem S2x32x256x512 .bf16) (harg11 : arg11.IsWhole)
    (arg13 : Memref sig .tc .vmem S8192x128 .f32) (harg13 : arg13.IsWhole) :
    ∀ (k n : ℕ) (s : R2 F × GS F × DA F), s.1.1 = BitVec.ofNat 32 n →
      n ≤ 2 * (E.i 1).val + 2 → 2 * (E.i 1).val + 2 ≤ n + k → ∀ K : R2 F → sProp 𝕄,
      callSpec (held c arg3 arg4 arg11 arg13 E s.2.1 s.2.2)
        (held c arg3 arg4 arg11 arg13 E (w2run E k s).2.1 (w2run E k s).2.2) (w2run E k s).1 K
      ⊢ wp frame (wpE (defs₀ (F := F)) 𝒱₀ (c : Thread nD τ) (some k)) Es
          (defs₀ (F := F) .tc 2 ⟨E.i, arg3, harg3, E.m, arg4, harg4, E.q1, E.su, E.d1, arg11, harg11, arg13, harg13,
            s.1.1, s.1.2.1, s.1.2.2.1, s.1.2.2.2⟩) K := by
  intro k
  induction k with
  | zero =>
    intro n ⟨⟨t, mx, ra, rb⟩, g, d⟩ ht hn hk K
    obtain rfl : t = BitVec.ofNat 32 n := ht
    show _ ⊢ wp frame (wpE (defs₀ (F := F)) 𝒱₀ (c : Thread nD τ) (some 0)) Es
      (cc0_while2 E.i arg3 harg3 E.m arg4 harg4 E.q1 E.su E.d1 arg11 harg11 arg13 harg13 (BitVec.ofNat 32 n) mx ra rb) K
    have hi := i1_lt E.i
    unfold cc0_while2
    have htest : ¬ Scalar.andi (Scalar.cmpi .sle (BitVec.ofNat 32 n) (Scalar.addi (Scalar.muli 2#32 (BitVec.ofNat 32 (E.i 1).val)) 1#32))
        (Scalar.cmpf .ogt mx (Named.named κ "exit" 0xC3168000#32)) = 1#1 := fun h => by
      have := step_le (c := 1) hi (by omega) (by omega) rfl h
      omega
    simp only [htest, ↓reduceIte, Prog.pure_eq_ret, w2run]
    rw [callSpec_apply]
    iintro ⟨H, Hk⟩
    rw [wp_ret]; imodintro
    iapply Hk; iexact H
  | succ k ih =>
    intro n ⟨⟨t, mx, ra, rb⟩, g, d⟩ ht hn hk K
    obtain rfl : t = BitVec.ofNat 32 n := ht
    show _ ⊢ wp frame (wpE (defs₀ (F := F)) 𝒱₀ (c : Thread nD τ) (some (k + 1))) Es
      (cc0_while2 E.i arg3 harg3 E.m arg4 harg4 E.q1 E.su E.d1 arg11 harg11 arg13 harg13 (BitVec.ofNat 32 n) mx ra rb) K
    have hi := i1_lt E.i
    by_cases hb : w2cond E.i (BitVec.ofNat 32 n, mx, ra, rb) = 1#1
    · have hle : n ≤ 2 * (E.i 1).val + 1 := step_le (c := 1) hi (by omega) (by omega) rfl hb
      have hc := chk2_of_le E.i n hle
      rw [w2run, if_pos hb]
      have ih' := ih (n + 1) (w2step E ((BitVec.ofNat 32 n, mx, ra, rb), g, d)) (next_word n) (by omega) (by omega)
      clear ih
      simp only [cc0_while2_eq_skeleton]; unfold cc0_while2_skel
      simp only [k0_part21_eq_skeleton]
      unfold w2cond at hb
      simp only [hb, ↓reduceIte]
      obtain ⟨i, kk, vv, m, su, pr, q0, q1, d0, d1⟩ := E
      dsimp only at hi hle hc hb ⊢
      rw [callSpec_apply]
      unfold held owns
      iintro ⟨⟨⟨%f3, %hf3, H3⟩, ⟨%f4, %hf4, H4⟩, ⟨%f11, %hf11, H11⟩, ⟨%f13, %hf13, H13⟩⟩, Hk⟩
      subst hf3 hf4 hf11 hf13
      generalize hs' : w2step (F := F) _ _ = s' at ih' ⊢
      dsimp only [w2step] at hs'
      rw [← readAt_rows arg3 f3 _ (k0_off7_inb i _ hc), ← readAt_rows arg4 f4 _ (k0_off7_inb i _ hc),
        ← readAt_rows arg13 f13 _ (k0_off7_inb i _ hc)] at hs'
      sl_exec
      subst hs'
      dsimp only at ih'
      iapply (wp_call_spec 𝒱₀ (c : Thread nD τ) (some (k + 1)) Es (callSpec _ _ _) k (fun u hu => by cases hu; exact Nat.lt_succ_self k) ih')
      rw [callSpec_apply]
      unfold held owns
      isplitl [H3 H4 H11 H13]
      · isplitl [H3]
        · iexists _; isplitr; swap; · iexact H3
          ipureintro; rfl
        isplitl [H4]
        · iexists _; isplitr; swap; · iexact H4
          ipureintro; rfl
        isplitl [H11]
        · iexists _; isplitr; swap; · iexact H11
          ipureintro; exact writes_slab arg11 f11 _ (k0_off8_inb i _ hc) _ []
        · iexists _; isplitr; swap; · iexact H13
          ipureintro; exact writes_rows arg13 f13 _ (k0_off7_inb i _ hc) _ []
      iintro H
      rw [wp_ret]; imodintro
      iapply Hk; iexact H
    · rw [w2run, if_neg hb]
      unfold w2cond at hb
      unfold cc0_while2
      simp only [hb, ↓reduceIte, Prog.pure_eq_ret]
      rw [callSpec_apply]
      iintro ⟨H, Hk⟩
      rw [wp_ret]; imodintro
      iapply Hk; iexact H

theorem w1_le (c : Dev nD) (Es : Set ℕ) (E : Env F) (arg3 : Memref sig .tc .vmem S8192x128 .bf16) (harg3 : arg3.IsWhole)
    (arg4 : Memref sig .tc .vmem S8192x128 .bf16) (harg4 : arg4.IsWhole)
    (arg11 : Memref sig .tc .vmem S2x32x256x512 .bf16) (harg11 : arg11.IsWhole)
    (arg13 : Memref sig .tc .vmem S8192x128 .f32) (harg13 : arg13.IsWhole) :
    ∀ (k n : ℕ) (s : R1 F × GS F × DA F), s.1.1 = BitVec.ofNat 32 n →
      n ≤ 2 * (E.i 1).val + 1 → 2 * (E.i 1).val + 1 ≤ n + k → ∀ K : R1 F → sProp 𝕄,
      callSpec (held c arg3 arg4 arg11 arg13 E s.2.1 s.2.2)
        (held c arg3 arg4 arg11 arg13 E (w1run E k s).2.1 (w1run E k s).2.2) (w1run E k s).1 K
      ⊢ wp frame (wpE (defs₀ (F := F)) 𝒱₀ (c : Thread nD τ) (some k)) Es
          (defs₀ (F := F) .tc 1 ⟨E.i, arg3, harg3, E.m, arg4, harg4, E.q0, E.su, E.d0, arg11, harg11, arg13, harg13, E.q1, E.d1,
            s.1.1, s.1.2.1, s.1.2.2.1, s.1.2.2.2.1, s.1.2.2.2.2.1, s.1.2.2.2.2.2.1, s.1.2.2.2.2.2.2⟩) K := by
  intro k
  induction k with
  | zero =>
    intro n ⟨⟨t, mx, ra, rb, mx', ra', rb'⟩, g, d⟩ ht hn hk K
    obtain rfl : t = BitVec.ofNat 32 n := ht
    show _ ⊢ wp frame (wpE (defs₀ (F := F)) 𝒱₀ (c : Thread nD τ) (some 0)) Es
      (cc0_while1 E.i arg3 harg3 E.m arg4 harg4 E.q0 E.su E.d0 arg11 harg11 arg13 harg13 E.q1 E.d1 (BitVec.ofNat 32 n) mx ra rb mx' ra' rb') K
    have hi := i1_lt E.i
    simp only [cc0_while1_eq_skeleton]; unfold cc0_while1_skel
    have htest : ¬ Scalar.andi (Scalar.cmpi .sle (BitVec.ofNat 32 n) (Scalar.addi (Scalar.muli 2#32 (BitVec.ofNat 32 (E.i 1).val)) 0#32))
        (Scalar.cmpf .ogt (k0_pay1 mx mx') (Named.named κ "exit" 0xC3168000#32)) = 1#1 := fun h => by
      have := step_le (c := 0) hi (by omega) (by omega) rfl h
      omega
    simp only [htest, ↓reduceIte, Prog.pure_eq_ret, w1run]
    rw [callSpec_apply]
    iintro ⟨H, Hk⟩
    rw [wp_ret]; imodintro
    iapply Hk; iexact H
  | succ k ih =>
    intro n ⟨⟨t, mx, ra, rb, mx', ra', rb'⟩, g, d⟩ ht hn hk K
    obtain rfl : t = BitVec.ofNat 32 n := ht
    show _ ⊢ wp frame (wpE (defs₀ (F := F)) 𝒱₀ (c : Thread nD τ) (some (k + 1))) Es
      (cc0_while1 E.i arg3 harg3 E.m arg4 harg4 E.q0 E.su E.d0 arg11 harg11 arg13 harg13 E.q1 E.d1 (BitVec.ofNat 32 n) mx ra rb mx' ra' rb') K
    have hi := i1_lt E.i
    by_cases hb : w1cond E.i (BitVec.ofNat 32 n, mx, ra, rb, mx', ra', rb') = 1#1
    · have hle : n ≤ 2 * (E.i 1).val := step_le (c := 0) hi (by omega) (by omega) rfl hb
      have hc := chk1_of_le E.i n hle
      rw [w1run, if_pos hb]
      have ih' := ih (n + 1) (w1step E ((BitVec.ofNat 32 n, mx, ra, rb, mx', ra', rb'), g, d)) (next_word n) (by omega) (by omega)
      clear ih
      simp only [cc0_while1_eq_skeleton]; unfold cc0_while1_skel
      simp only [k0_part18_eq_skeleton, k0_part19_eq_skeleton, k0_part20_eq_skeleton]
      unfold w1cond at hb
      simp only [hb, ↓reduceIte]
      obtain ⟨i, kk, vv, m, su, pr, q0, q1, d0, d1⟩ := E
      dsimp only at hi hle hc hb ⊢
      rw [callSpec_apply]
      unfold held owns
      iintro ⟨⟨⟨%f3, %hf3, H3⟩, ⟨%f4, %hf4, H4⟩, ⟨%f11, %hf11, H11⟩, ⟨%f13, %hf13, H13⟩⟩, Hk⟩
      subst hf3 hf4 hf11 hf13
      generalize hs' : w1step (F := F) _ _ = s' at ih' ⊢
      dsimp only [w1step, w1step0, w1step1] at hs'
      haveI : Fact (n ≤ 2 * (i 1).val) := ⟨hle⟩
      have i0 := k0_off4_inb i (BitVec.ofNat 32 n) hc 0
      have i1 := k0_off4_inb i (BitVec.ofNat 32 n) hc 1
      rw [← readAt_rows arg3 f3 (k0_off4 i (BitVec.ofNat 32 n) 0#32) i0, ← readAt_rows arg3 f3 (k0_off4 i (BitVec.ofNat 32 n) 1#32) i1,
        ← readAt_rows arg4 f4 (k0_off4 i (BitVec.ofNat 32 n) 0#32) i0, ← readAt_rows arg4 f4 (k0_off4 i (BitVec.ofNat 32 n) 1#32) i1,
        ← readAt_rows arg13 f13 (k0_off4 i (BitVec.ofNat 32 n) 0#32) i0, ← writes_rows1 arg13 f13 (k0_off4 i (BitVec.ofNat 32 n) 0#32) i0,
        ← readAt_rows arg13 _ (k0_off4 i (BitVec.ofNat 32 n) 1#32) i1] at hs'
      sl_exec
      subst hs'
      dsimp only at ih'
      iapply (wp_call_spec 𝒱₀ (c : Thread nD τ) (some (k + 1)) Es (callSpec _ _ _) k (fun u hu => by cases hu; exact Nat.lt_succ_self k) ih')
      rw [callSpec_apply]
      unfold held owns
      isplitl [H3 H4 H11 H13]
      · isplitl [H3]
        · iexists _; isplitr; swap; · iexact H3
          ipureintro; rfl
        isplitl [H4]
        · iexists _; isplitr; swap; · iexact H4
          ipureintro; rfl
        isplitl [H11]
        · iexists _; isplitr; swap; · iexact H11
          ipureintro
          exact (writes_slab arg11 f11 _ (k0_off6_inb i _ hc) _ _).trans
            (congrArg (fun x => put4 _ x _) (writes_slab arg11 f11 _ (k0_off5_inb i _ hc) _ []))
        · iexists _; isplitr; swap; · iexact H13
          ipureintro
          exact writes_rows arg13 f13 _ i1 _ _
      iintro H
      rw [wp_ret]; imodintro
      iapply Hk; iexact H
    · rw [w1run, if_neg hb]
      unfold w1cond at hb
      simp only [cc0_while1_eq_skeleton]; unfold cc0_while1_skel
      simp only [hb, ↓reduceIte, Prog.pure_eq_ret]
      rw [callSpec_apply]
      iintro ⟨H, Hk⟩
      rw [wp_ret]; imodintro
      iapply Hk; iexact H

end Cert.AttnModel
end
-- ==== Proof.AttnLoops.lean ====
module

public import proofs.«01_k».proof.Proof.AttnRun

/-!
# The attention backward's counted loops run

The two loops of the second pass, from the buffers they read and write to what `AttnModel` says they leave there.
-/

@[expose] public section

set_option maxHeartbeats 4000000

noncomputable section

namespace Cert.AttnModel
open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (Es : Set ℕ) (E : Env F)
  (arg2 : Memref sig .tc .vmem S512x128 .bf16) (harg2 : arg2.IsWhole) (arg3 : Memref sig .tc .vmem S8192x128 .bf16)
  (harg3 : arg3.IsWhole) (arg4 : Memref sig .tc .vmem S8192x128 .bf16) (harg4 : arg4.IsWhole)
  (arg5 : Memref sig .tc .vmem S256x256 .bf16) (harg5 : arg5.IsWhole) (arg6 : Memref sig .tc .vmem S256x256 .bf16)
  (harg6 : arg6.IsWhole) (arg7 : Memref sig .tc .vmem S512x128 .bf16) (harg7 : arg7.IsWhole)
  (arg8 : Memref sig .tc .vmem S512x128 .bf16) (harg8 : arg8.IsWhole) (arg9 : Memref sig .tc .vmem S8192x128 .bf16)
  (harg9 : arg9.IsWhole) (arg10 : Memref sig .tc .vmem S8192x128 .bf16) (harg10 : arg10.IsWhole)
  (arg11 : Memref sig .tc .vmem S2x32x256x512 .bf16) (harg11 : arg11.IsWhole) (arg12 : Memref sig .tc .vmem S8192x128 .f32)
  (harg12 : arg12.IsWhole) (arg13 : Memref sig .tc .vmem S8192x128 .f32) (harg13 : arg13.IsWhole) (v11 : BitVec 32)
  (v13 : BitVec 32) (v30 : FVec F S256x128 .f32) (v90 : FVec F S256x128 .f32) (v101 : FVec F S256x128 .f32) (v132 : F .f32)
  (v135 : BitVec 32) (v192 : FVec F S256x128 .f32) (v203 : FVec F S256x128 .f32) (v217 : Vec F S256x128 .f32)
  (v220 : FVec F S256x128 .f32) (v221 : FVec F S256x128 .f32)

/-- What both loops read and write. -/
def kept (c : Dev nD) (arg3 : Memref sig .tc .vmem S8192x128 .bf16) (arg11 : Memref sig .tc .vmem S2x32x256x512 .bf16)
    (arg12 : Memref sig .tc .vmem S8192x128 .f32) (E : Env F) (g : GS F) (d : DA F) : sProp 𝕄 :=
  iprop(owns (c : Thread nD τ) arg3 fullShare E.k ∗ owns (c : Thread nD τ) arg11 fullShare g
      ∗ owns (c : Thread nD τ) arg12 fullShare d)

/-- The result is `r` and the buffers hold `g` and `d`. -/
def left {β : Type} (c : Dev nD) (arg3 : Memref sig .tc .vmem S8192x128 .bf16) (arg11 : Memref sig .tc .vmem S2x32x256x512 .bf16)
    (arg12 : Memref sig .tc .vmem S8192x128 .f32) (E : Env F) (g : GS F) (s : β × DA F) (r : β) : sProp 𝕄 :=
  iprop(⌜r = s.1⌝ ∗ kept c arg3 arg11 arg12 E g s.2)

theorem t1_trip (a b : BitVec 32) (hw : k0_chk3 E.i a b) (g : GS F) (n : Fin (k0_t1_loop a b).trips) (s : T3 F × DA F) :
    kept c arg3 arg11 arg12 E g s.2 ⊢ wp frame (wpE (defs₀ (F := F)) 𝒱₀ (c : Thread nD τ) none) Es
      (k0_t1_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 a b hw n s.1)
      (left c arg3 arg11 arg12 E g (t1step E a b n g s)) := by
  obtain ⟨⟨x, y, z⟩, d⟩ := s
  unfold k0_t1_body
  simp only [k0_part1_eq_skeleton]
  obtain ⟨i, kk, vv, m, su, pr, q0, q1, d0, d1⟩ := E
  dsimp only at hw ⊢
  unfold kept owns
  iintro ⟨⟨%f3, %hf3, H3⟩, ⟨%f11, %hf11, H11⟩, ⟨%f12, %hf12, H12⟩⟩
  subst hf3 hf11 hf12
  generalize hs' : t1step (F := F) _ _ _ _ _ _ = s'
  dsimp only [t1step] at hs'
  rw [← readAt_rows arg3 f3 _ (k0_off9_inb i a b hw n), ← readAt_slab arg11 f11 _ (k0_off10_inb i a b hw n),
    ← readAt_rows arg12 f12 _ (k0_off9_inb i a b hw n)] at hs'
  sl_exec
  sl_step
  subst hs'
  unfold left kept owns
  isplitr
  · ipureintro; rfl
  isplitl [H3]
  · iexists _; isplitr; swap; · iexact H3
    ipureintro; rfl
  isplitl [H11]
  · iexists _; isplitr; swap; · iexact H11
    ipureintro; rfl
  iexists _; isplitr; swap; · iexact H12
  ipureintro
  exact writes_rows arg12 f12 _ (k0_off9_inb i a b hw n) _ []

theorem t1_loop (a b : BitVec 32) (hw : k0_chk3 E.i a b) (g : GS F) (s : T3 F × DA F)
    {β : Type} {kk : T3 F → Prog (TpuEff nD τ sig (Elt F) (Λ₀ F) .tc) β} {Q : β → sProp 𝕄} :
    kept c arg3 arg11 arg12 E g s.2 ⊢ iprop((∀ r, left c arg3 arg11 arg12 E g (t1run E a b g s (k0_t1_loop a b).trips) r -∗
        wp frame (wpE (defs₀ (F := F)) 𝒱₀ (c : Thread nD τ) none) Es (kk r) Q) -∗
      wp frame (wpE (defs₀ (F := F)) 𝒱₀ (c : Thread nD τ) none) Es
      (Scf.Loop.for (k0_t1_loop a b) (k0_t1_ok E.i a b hw) s.1 (k0_t1_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 a b hw) >>= kk) Q) := by
  have h := Scf.wp_for_bind frame (wpE (defs₀ (F := F)) 𝒱₀ (c : Thread nD τ) none) Es _ _ _ (k0_t1_ok E.i a b hw) s.1
    (k0_t1_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 a b hw)
    (fun n r => left c arg3 arg11 arg12 E g (t1run E a b g s n) r) (fun n r => by
      have ht := t1_trip c Es E arg2 harg2 arg3 harg3 arg4 harg4 arg5 harg5 arg6 harg6 arg7 harg7 arg8 harg8 arg9 harg9 arg10 harg10
        arg11 harg11 arg12 harg12 arg13 harg13 v11 v13 v30 v90 v101 v132 v135 v192 v203 v217 v220 v221 a b hw g n (t1run E a b g s n.val)
      have hs : t1run E a b g s (n.val + 1) = t1step E a b n g (t1run E a b g s n.val) := dif_pos n.isLt
      rw [hs]
      unfold left at ht ⊢
      iintro ⟨%hr, H⟩
      subst hr
      iapply ht; iexact H) (kk := kk) (Q := Q)
  iintro H
  iapply h
  unfold left
  isplitr
  · ipureintro; rfl
  · iexact H

/-! ### The loop of both chains -/

/-- What that loop carries. -/
abbrev T6 (F : FTy → Type) := FVec F S256x128 .f32 × FVec F S256x128 .f32 × FVec F S256x128 .f32 × FVec F S256x128 .f32
  × FVec F S256x128 .f32 × FVec F S256x128 .f32

theorem t3_lt (i : grid0.Coords) (J : ℕ) [h1 : Fact (1 ≤ J)] [h2 : Fact (J ≤ 2 * (i 1).val + 1)]
    (k : Fin (k0_t3_loop (BitVec.ofNat 32 J)).trips) : k.val < J := by
  have hi := i1_lt i
  have := h1.out
  have := h2.out
  have := lt_of_lt_of_eq k.isLt (t3_trips J h1.out (by omega))
  omega

instance closed13_0 (i : grid0.Coords) (J : ℕ) [h1 : Fact (1 ≤ J)] [h2 : Fact (J ≤ 2 * (i 1).val + 1)]
    (k : Fin (k0_t3_loop (BitVec.ofNat 32 J)).trips) : ClosedOff (k0_off13 i (BitVec.ofNat 32 J) k 0#32) :=
  ⟨![256 * (2 * (i 1).val - (J - 1 - k.val)), 0], off13_0 i J k (t3_lt i J k) h2.out⟩

instance closed13_1 (i : grid0.Coords) (J : ℕ) [h1 : Fact (1 ≤ J)] [h2 : Fact (J ≤ 2 * (i 1).val + 1)]
    (k : Fin (k0_t3_loop (BitVec.ofNat 32 J)).trips) : ClosedOff (k0_off13 i (BitVec.ofNat 32 J) k 1#32) :=
  ⟨![256 * (2 * (i 1).val + 1 - (J - 1 - k.val)), 0], off13_1 i J k (t3_lt i J k) h2.out⟩

theorem t3_trip (J : ℕ) [h1 : Fact (1 ≤ J)] [h2 : Fact (J ≤ 2 * (E.i 1).val + 1)] (hw : k0_chk4 E.i (BitVec.ofNat 32 J)) (g : GS F)
    (n : Fin (k0_t3_loop (BitVec.ofNat 32 J)).trips) (s : (T3 F × T3 F) × DA F) :
    kept c arg3 arg11 arg12 E g s.2 ⊢ wp frame (wpE (defs₀ (F := F)) 𝒱₀ (c : Thread nD τ) none) Es
      (k0_t3_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 (BitVec.ofNat 32 J) hw n
        (s.1.1.1, s.1.1.2.1, s.1.1.2.2, s.1.2.1, s.1.2.2.1, s.1.2.2.2))
      (fun r => left c arg3 arg11 arg12 E g (t3step E (BitVec.ofNat 32 J) n g s)
        ((r.1, r.2.1, r.2.2.1), (r.2.2.2.1, r.2.2.2.2.1, r.2.2.2.2.2))) := by
  obtain ⟨⟨⟨x, y, z⟩, ⟨x', y', z'⟩⟩, d⟩ := s
  unfold k0_t3_body
  simp only [k0_part3_eq_skeleton, k0_part4_eq_skeleton, k0_part5_eq_skeleton]
  obtain ⟨i, kk, vv, m, su, pr, q0, q1, d0, d1⟩ := E
  dsimp only at hw h2 ⊢
  unfold kept owns
  iintro ⟨⟨%f3, %hf3, H3⟩, ⟨%f11, %hf11, H11⟩, ⟨%f12, %hf12, H12⟩⟩
  subst hf3 hf11 hf12
  generalize hs' : t3step (F := F) _ _ _ _ _ = s'
  dsimp only [t3step, t3step0, t3step1] at hs'
  have i0 := k0_off13_inb i (BitVec.ofNat 32 J) hw n 0
  have i1 := k0_off13_inb i (BitVec.ofNat 32 J) hw n 1
  rw [← readAt_rows arg3 f3 (k0_off13 i (BitVec.ofNat 32 J) n 0#32) i0, ← readAt_rows arg3 f3 (k0_off13 i (BitVec.ofNat 32 J) n 1#32) i1,
    ← readAt_slab arg11 f11 _ (k0_off14_inb i (BitVec.ofNat 32 J) hw n), ← readAt_slab arg11 f11 _ (k0_off15_inb i (BitVec.ofNat 32 J) hw n),
    ← readAt_rows arg12 f12 (k0_off13 i (BitVec.ofNat 32 J) n 0#32) i0, ← writes_rows1 arg12 f12 (k0_off13 i (BitVec.ofNat 32 J) n 0#32) i0,
    ← readAt_rows arg12 _ (k0_off13 i (BitVec.ofNat 32 J) n 1#32) i1] at hs'
  sl_exec
  sl_step
  subst hs'
  unfold left kept owns
  isplitr
  · ipureintro; rfl
  isplitl [H3]
  · iexists _; isplitr; swap; · iexact H3
    ipureintro; rfl
  isplitl [H11]
  · iexists _; isplitr; swap; · iexact H11
    ipureintro; rfl
  iexists _; isplitr; swap; · iexact H12
  ipureintro
  exact writes_rows arg12 f12 _ i1 _ _

theorem t3_loop (J : ℕ) [h1 : Fact (1 ≤ J)] [h2 : Fact (J ≤ 2 * (E.i 1).val + 1)] (hw : k0_chk4 E.i (BitVec.ofNat 32 J)) (g : GS F)
    (s : (T3 F × T3 F) × DA F)
    {β : Type} {kk : T6 F → Prog (TpuEff nD τ sig (Elt F) (Λ₀ F) .tc) β} {Q : β → sProp 𝕄} :
    kept c arg3 arg11 arg12 E g s.2 ⊢ iprop((∀ r : T6 F,
        left c arg3 arg11 arg12 E g (t3run E (BitVec.ofNat 32 J) g s (k0_t3_loop (BitVec.ofNat 32 J)).trips)
          ((r.1, r.2.1, r.2.2.1), (r.2.2.2.1, r.2.2.2.2.1, r.2.2.2.2.2)) -∗
        wp frame (wpE (defs₀ (F := F)) 𝒱₀ (c : Thread nD τ) none) Es (kk r) Q) -∗
      wp frame (wpE (defs₀ (F := F)) 𝒱₀ (c : Thread nD τ) none) Es
      (Scf.Loop.for (k0_t3_loop (BitVec.ofNat 32 J)) (k0_t3_ok E.i (BitVec.ofNat 32 J) hw)
        (s.1.1.1, s.1.1.2.1, s.1.1.2.2, s.1.2.1, s.1.2.2.1, s.1.2.2.2) (k0_t3_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 (BitVec.ofNat 32 J) hw) >>= kk) Q) := by
  have h := Scf.wp_for_bind frame (wpE (defs₀ (F := F)) 𝒱₀ (c : Thread nD τ) none) Es _ _ _ (k0_t3_ok E.i (BitVec.ofNat 32 J) hw)
    (s.1.1.1, s.1.1.2.1, s.1.1.2.2, s.1.2.1, s.1.2.2.1, s.1.2.2.2)
    (k0_t3_body E.i arg2 harg2 arg3 harg3 arg4 harg4 arg5 harg5 arg6 harg6 arg7 harg7 arg8 harg8 arg9 harg9 arg10 harg10 arg11 harg11 arg12 harg12
      arg13 harg13 E.m E.su E.pr v11 v13 E.q0 E.q1 E.d0 E.d1 v30 v90 v101 v132 v135 v192 v203 v217 v220 v221 (BitVec.ofNat 32 J) hw)
    (fun n r => left c arg3 arg11 arg12 E g (t3run E (BitVec.ofNat 32 J) g s n)
          ((r.1, r.2.1, r.2.2.1), (r.2.2.2.1, r.2.2.2.2.1, r.2.2.2.2.2))) (fun n r => by
      have ht := t3_trip c Es E arg2 harg2 arg3 harg3 arg4 harg4 arg5 harg5 arg6 harg6 arg7 harg7 arg8 harg8 arg9 harg9 arg10 harg10
        arg11 harg11 arg12 harg12 arg13 harg13 v11 v13 v30 v90 v101 v132 v135 v192 v203 v217 v220 v221 J hw g n (t3run E (BitVec.ofNat 32 J) g s n.val)
      have hs : t3run E (BitVec.ofNat 32 J) g s (n.val + 1) = t3step E (BitVec.ofNat 32 J) n g (t3run E (BitVec.ofNat 32 J) g s n.val) := dif_pos n.isLt
      rw [hs]
      unfold left at ht ⊢
      iintro ⟨%hr, H⟩
      obtain ⟨r1, r2, r3, r4, r5, r6⟩ := r
      dsimp only at hr
      rw [← hr] at ht
      iapply ht; iexact H) (kk := kk) (Q := Q)
  iintro H
  iapply h
  unfold left
  isplitr
  · ipureintro; rfl
  · iexact H

end Cert.AttnModel
end
-- ==== Proof.AttnPoint.lean ====
module

public import proofs.«01_k».proof.Proof.AttnLoops

/-!
# A point of the attention backward's grid runs

The whole body at one grid point, from the blocks its windows fetched and the scratch buffers as the point before left them
to what `AttnModel.point` says.
-/

@[expose] public section

set_option maxHeartbeats 4000000

noncomputable section

namespace Cert.AttnModel
open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-! ### Where the `while`s stop -/

theorem w1_count (E : Env F) : ∀ (k n : ℕ) (s : R1 F × GS F × DA F), s.1.1 = BitVec.ofNat 32 n → n ≤ 2 * (E.i 1).val + 1 →
    ∃ J, (w1run E k s).1.1 = BitVec.ofNat 32 J ∧ n ≤ J ∧ J ≤ 2 * (E.i 1).val + 1 := by
  intro k
  induction k with
  | zero => intro n s hs hn; exact ⟨n, hs, Nat.le_refl n, hn⟩
  | succ k ih =>
    intro n s hs hn
    rw [w1run]
    split_ifs with hb
    · have hi := i1_lt E.i
      obtain ⟨⟨t, r⟩, g, d⟩ := s
      obtain rfl : t = BitVec.ofNat 32 n := hs
      have hle : n ≤ 2 * (E.i 1).val := step_le (c := 0) hi (by omega) (by omega) rfl hb
      obtain ⟨J, h1, h2, h3⟩ := ih (n + 1) (w1step E ((BitVec.ofNat 32 n, r), g, d)) (next_word n) (by omega)
      exact ⟨J, h1, by omega, h3⟩
    · exact ⟨n, hs, Nat.le_refl n, hn⟩

theorem w2_count (E : Env F) : ∀ (k n : ℕ) (s : R2 F × GS F × DA F), s.1.1 = BitVec.ofNat 32 n → n ≤ 2 * (E.i 1).val + 2 →
    ∃ J, (w2run E k s).1.1 = BitVec.ofNat 32 J ∧ n ≤ J ∧ J ≤ 2 * (E.i 1).val + 2 := by
  intro k
  induction k with
  | zero => intro n s hs hn; exact ⟨n, hs, Nat.le_refl n, hn⟩
  | succ k ih =>
    intro n s hs hn
    rw [w2run]
    split_ifs with hb
    · have hi := i1_lt E.i
      obtain ⟨⟨t, r⟩, g, d⟩ := s
      obtain rfl : t = BitVec.ofNat 32 n := hs
      have hle : n ≤ 2 * (E.i 1).val + 1 := step_le (c := 1) hi (by omega) (by omega) rfl hb
      obtain ⟨J, h1, h2, h3⟩ := ih (n + 1) (w2step E ((BitVec.ofNat 32 n, r), g, d)) (next_word n) (by omega)
      exact ⟨J, h1, by omega, h3⟩
    · exact ⟨n, hs, Nat.le_refl n, hn⟩

/-! ### Whole blocks and halves of a block -/

theorem readAt_half {e : EltTy} (m : Memref sig .tc .vmem S512x128 e) (f : m.view.ty.Contents (Elt F)) (o : ℕ)
    (inb : ∀ a, (![o, 0] : Fin 2 → ℕ) a + S256x128.size a ≤ S512x128.size a) :
    m.view.readAt (Elt F) (Rect.unit (s := S512x128) ![o, 0] S256x128.size inb).toLoadRect f = half o (m.view.read (Elt F) f) := by
  rw [View.readAt_eq_ld]
  funext j
  refine congrArg (m.view.read (Elt F) f) (funext fun a => Fin.ext ?_)
  have h := inb 0
  match a with
  | ⟨0, _⟩ =>
    have hj : (j 0).val < 256 := (j 0).isLt
    have h0 : o + 256 ≤ 512 := h
    show o + 1 * (j 0).val = (o + (j 0).val) % 512
    omega
  | ⟨1, _⟩ =>
    show 0 + 1 * (j 1).val = (j 1).val
    omega

theorem readAt_all {e : EltTy} (m : Memref sig .tc .vmem S256x256 e) (f : m.view.ty.Contents (Elt F)) :
    m.view.readAt (Elt F) (Rect.unit (s := S256x256) ![0, 0] S256x256.size inb_S256x256_S256x256_0_0).toLoadRect f
      = m.view.read (Elt F) f := by
  rw [View.readAt_eq_ld]
  funext j
  refine congrArg (m.view.read (Elt F) f) (funext fun a => Fin.ext ?_)
  match a with
  | ⟨0, _⟩ => show 0 + 1 * (j 0).val = (j 0).val; omega
  | ⟨1, _⟩ => show 0 + 1 * (j 1).val = (j 1).val; omega

theorem readAt_rows_all {e : EltTy} (m : Memref sig .tc .vmem S8192x128 e) (f : m.view.ty.Contents (Elt F)) :
    m.view.readAt (Elt F) (Rect.unit (s := S8192x128) ![0, 0] S8192x128.size inb_S8192x128_S8192x128_0_0).toLoadRect f
      = m.view.read (Elt F) f := by
  rw [View.readAt_eq_ld]
  funext j
  refine congrArg (m.view.read (Elt F) f) (funext fun a => Fin.ext ?_)
  match a with
  | ⟨0, _⟩ => show 0 + 1 * (j 0).val = (j 0).val; omega
  | ⟨1, _⟩ => show 0 + 1 * (j 1).val = (j 1).val; omega

theorem writes_all {e : EltTy} (m : Memref sig .tc .vmem S8192x128 e) (f : m.view.ty.Contents (Elt F)) (y : Vec F S8192x128 e) :
    m.view.read (Elt F) (m.view.writes (Elt F) f
      [⟨Rect.unit (s := S8192x128) ![0, 0] S8192x128.size inb_S8192x128_S8192x128_0_0, y⟩]) = y := by
  funext j
  rw [View.read_writes_cons_unit m.view f inb_S8192x128_S8192x128_0_0 y [] j rfl, dif_pos (fun a => by
    match a with
    | ⟨0, _⟩ => exact ⟨Nat.zero_le _, lt_of_lt_of_eq (j 0).isLt (Nat.zero_add _).symm⟩
    | ⟨1, _⟩ => exact ⟨Nat.zero_le _, lt_of_lt_of_eq (j 1).isLt (Nat.zero_add _).symm⟩)]
  refine congrArg y (funext fun a => Fin.ext ?_)
  match a with
  | ⟨0, _⟩ => exact Nat.sub_zero _
  | ⟨1, _⟩ => exact Nat.sub_zero _

/-- The first point of a pair of heads. -/
theorem first_iff (i : grid0.Coords) : Scalar.cmpi .ne (Scalar.extui (Scalar.cmpi .eq (BitVec.ofNat 32 (i 1).val) 0#32)) 0#32 = 1#1
    ↔ (i 1).val = 0 := by
  have hi := i1_lt i
  generalize (i 1).val = x at hi
  interval_cases x <;> decide

variable (c : Dev nD) (Es : Set ℕ) (i : grid0.Coords)
  (arg2 : Memref sig .tc .vmem S512x128 .bf16) (harg2 : arg2.IsWhole) (arg3 : Memref sig .tc .vmem S8192x128 .bf16)
  (harg3 : arg3.IsWhole) (arg4 : Memref sig .tc .vmem S8192x128 .bf16) (harg4 : arg4.IsWhole)
  (arg5 : Memref sig .tc .vmem S256x256 .bf16) (harg5 : arg5.IsWhole) (arg6 : Memref sig .tc .vmem S256x256 .bf16)
  (harg6 : arg6.IsWhole) (arg7 : Memref sig .tc .vmem S512x128 .bf16) (harg7 : arg7.IsWhole)
  (arg8 : Memref sig .tc .vmem S512x128 .bf16) (harg8 : arg8.IsWhole) (arg9 : Memref sig .tc .vmem S8192x128 .bf16)
  (harg9 : arg9.IsWhole) (arg10 : Memref sig .tc .vmem S8192x128 .bf16) (harg10 : arg10.IsWhole)
  (arg11 : Memref sig .tc .vmem S2x32x256x512 .bf16) (harg11 : arg11.IsWhole) (arg12 : Memref sig .tc .vmem S8192x128 .f32)
  (harg12 : arg12.IsWhole) (arg13 : Memref sig .tc .vmem S8192x128 .f32) (harg13 : arg13.IsWhole)

/-- What the body's first stretch reads and writes. -/
def reads9 (c : Dev nD) (arg2 : Memref sig .tc .vmem S512x128 .bf16) (arg5 arg6 : Memref sig .tc .vmem S256x256 .bf16)
    (arg7 : Memref sig .tc .vmem S512x128 .bf16) (arg12 arg13 : Memref sig .tc .vmem S8192x128 .f32) (q : Vec F S512x128 .bf16)
    (su pr : Vec F S256x256 .bf16) (dy : Vec F S512x128 .bf16) (x y : DA F) : sProp 𝕄 :=
  iprop(owns (c : Thread nD τ) arg2 fullShare q ∗ owns (c : Thread nD τ) arg5 fullShare su ∗ owns (c : Thread nD τ) arg6 fullShare pr
      ∗ owns (c : Thread nD τ) arg7 fullShare dy ∗ owns (c : Thread nD τ) arg12 fullShare x ∗ owns (c : Thread nD τ) arg13 fullShare y)

theorem first_part (q : Vec F S512x128 .bf16) (k v : Vec F S8192x128 .bf16) (su pr : Vec F S256x256 .bf16) (dy : Vec F S512x128 .bf16)
    (s : Scr F) :
    reads9 c arg2 arg5 arg6 arg7 arg12 arg13 q su pr dy s.2.1 s.2.2
    ⊢ wp frame (wpE (defs₀ (F := F)) 𝒱₀ (c : Thread nD τ) none) Es
      (k0_part9 i arg2 harg2 arg3 harg3 arg4 harg4 arg5 harg5 arg6 harg6 arg7 harg7 arg8 harg8 arg9 harg9 arg10 harg10 arg11 harg11
        arg12 harg12 arg13 harg13) (fun r => iprop(⌜r = ⟨BitVec.ofNat 32 (i 1).val, (env i q k v su pr dy).m, (env i q k v su pr dy).su,
          (env i q k v su pr dy).pr, Scalar.addi (Scalar.muli 2#32 (BitVec.ofNat 32 (i 1).val)) 0#32,
          Scalar.addi (Scalar.muli 2#32 (BitVec.ofNat 32 (i 1).val)) 1#32, (env i q k v su pr dy).q0, (env i q k v su pr dy).q1,
          (env i q k v su pr dy).d0, (env i q k v su pr dy).d1, k0_pay101 i, k0_pay102 i, k0_pay103 (F := F),
          Scalar.subi (Scalar.addi (Scalar.muli 2#32 (BitVec.ofNat 32 (i 1).val)) 0#32) 0#32⟩⌝
        ∗ reads9 c arg2 arg5 arg6 arg7 arg12 arg13 q su pr dy (start i s).2.1 (start i s).2.2)) := by
  have hi := i1_lt i
  simp only [k0_part9_eq_skeleton]
  unfold k0_part9_skel
  unfold reads9 owns
  iintro ⟨⟨%f2, %hf2, H2⟩, ⟨%f5, %hf5, H5⟩, ⟨%f6, %hf6, H6⟩, ⟨%f7, %hf7, H7⟩, ⟨%f12, %hf12, H12⟩, ⟨%f13, %hf13, H13⟩⟩
  subst hf2 hf5 hf6 hf7
  sl_exec
  sl_step
  isplitr
  · ipureintro
    rw [readAt_half arg2 f2 0 inb_S512x128_S256x128_0_0, readAt_half arg2 f2 256 inb_S512x128_S256x128_256_0,
      readAt_half arg7 f7 0 inb_S512x128_S256x128_0_0, readAt_half arg7 f7 256 inb_S512x128_S256x128_256_0,
      readAt_all arg5 f5, readAt_all arg6 f6]
    rfl
  unfold start
  isplitl [H2]
  · iexists _; isplitr; swap; · iexact H2
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H12]
  · iexists _; isplitr; swap; · iexact H12
    ipureintro
    split_ifs with h1 h2 h2
    · exact writes_all arg12 f12 _
    · exact absurd ((first_iff i).1 h1) h2
    · exact absurd ((first_iff i).2 h2) h1
    · exact hf12
  · iexists _; isplitr; swap; · iexact H13
    ipureintro
    split_ifs with h1 h2 h2
    · exact writes_all arg13 f13 _
    · exact absurd ((first_iff i).1 h1) h2
    · exact absurd ((first_iff i).2 h2) h1
    · exact hf13

/-- The two chains' own key blocks lie apart. -/
theorem off1_apart : ∀ i : grid0.Coords, k0_off1 i 0#32 0 + 256 ≤ k0_off1 i 1#32 0 ∧ k0_off1 i 1#32 0 + 256 ≤ 8192 := by decide +kernel

theorem off19_apart : ∀ i : grid0.Coords, k0_off19 i 0#32 0 + 256 ≤ k0_off19 i 1#32 0 ∧ k0_off19 i 1#32 0 + 256 ≤ 8192 := by
  decide +kernel

/-- Two stores of a half each leave the two halves. -/
theorem writes_both {e : EltTy} (m : Memref sig .tc .vmem S512x128 e) (f : m.view.ty.Contents (Elt F)) (x y : Vec F S256x128 e) :
    m.view.read (Elt F) (m.view.writes (Elt F) f
      [⟨Rect.unit (s := S512x128) ![256, 0] S256x128.size inb_S512x128_S256x128_256_0, y⟩,
        ⟨Rect.unit (s := S512x128) ![0, 0] S256x128.size inb_S512x128_S256x128_0_0, x⟩]) = both x y := by
  funext j
  have hj : (j 0).val < 512 := (j 0).isLt
  have hj1 : (j 1).val < 128 := (j 1).isLt
  rw [View.read_writes_cons_unit m.view f inb_S512x128_S256x128_256_0 y _ j rfl]
  unfold both
  by_cases h : (j 0).val < 256
  · rw [dif_pos h, dif_neg (fun hn => by have h0 : 256 ≤ (j 0).val := (hn 0).1; omega),
      View.read_writes_cons_unit m.view f inb_S512x128_S256x128_0_0 x [] j rfl, dif_pos (fun a => by
        match a with
        | ⟨0, _⟩ => exact ⟨Nat.zero_le _, lt_of_lt_of_eq h (Nat.zero_add _).symm⟩
        | ⟨1, _⟩ => exact ⟨Nat.zero_le _, lt_of_lt_of_eq hj1 (Nat.zero_add _).symm⟩)]
    refine congrArg x (funext fun a => Fin.ext ?_)
    match a with
    | ⟨0, _⟩ => exact Nat.sub_zero _
    | ⟨1, _⟩ => exact Nat.sub_zero _
  · rw [dif_neg h, dif_pos (fun a => by
        match a with
        | ⟨0, _⟩ => exact ⟨Nat.le_of_not_lt h, hj⟩
        | ⟨1, _⟩ => exact ⟨Nat.zero_le _, lt_of_lt_of_eq hj1 (Nat.zero_add _).symm⟩)]
    refine congrArg y (funext fun a => Fin.ext ?_)
    match a with
    | ⟨0, _⟩ => rfl
    | ⟨1, _⟩ => exact Nat.sub_zero _

/-- Rows past the ones replaced are read as they were. -/
theorem ld2_put2 {α : Type} (off off' : Fin 2 → ℕ) (x : S8192x128.Idx → α) (y : S256x128.Idx → α)
    (h : off 0 + 256 ≤ off' 0 ∧ off' 0 + 256 ≤ 8192) : ld2 off' (put2 off x y) = ld2 off' x := by
  funext j
  refine dif_neg fun hn => ?_
  have h0 := (hn 0).2
  have hj : (j 0).val < 256 := (j 0).isLt
  have e : (off' 0 + (j 0).val) % 8192 = off' 0 + (j 0).val := Nat.mod_eq_of_lt (by omega)
  have h1 : (off' 0 + (j 0).val) % 8192 < off 0 + 256 := h0
  omega

/-- What the body reads and writes, at the contents of each buffer. -/
def bufs (c : Dev nD) (arg2 : Memref sig .tc .vmem S512x128 .bf16) (arg3 arg4 : Memref sig .tc .vmem S8192x128 .bf16)
    (arg5 arg6 : Memref sig .tc .vmem S256x256 .bf16) (arg7 arg8 : Memref sig .tc .vmem S512x128 .bf16)
    (arg9 arg10 : Memref sig .tc .vmem S8192x128 .bf16) (arg11 : Memref sig .tc .vmem S2x32x256x512 .bf16)
    (arg12 arg13 : Memref sig .tc .vmem S8192x128 .f32) (q : Vec F S512x128 .bf16) (k v : Vec F S8192x128 .bf16)
    (su pr : Vec F S256x256 .bf16) (dy o8 : Vec F S512x128 .bf16) (o9 o10 : Vec F S8192x128 .bf16) (s : Scr F) : sProp 𝕄 :=
  iprop(owns (c : Thread nD τ) arg2 fullShare q ∗ owns (c : Thread nD τ) arg3 fullShare k ∗ owns (c : Thread nD τ) arg4 fullShare v
      ∗ owns (c : Thread nD τ) arg5 fullShare su ∗ owns (c : Thread nD τ) arg6 fullShare pr ∗ owns (c : Thread nD τ) arg7 fullShare dy
      ∗ owns (c : Thread nD τ) arg8 fullShare o8 ∗ owns (c : Thread nD τ) arg9 fullShare o9 ∗ owns (c : Thread nD τ) arg10 fullShare o10
      ∗ owns (c : Thread nD τ) arg11 fullShare s.1 ∗ owns (c : Thread nD τ) arg12 fullShare s.2.1 ∗ owns (c : Thread nD τ) arg13 fullShare s.2.2)

theorem sound_point (q : Vec F S512x128 .bf16) (k v : Vec F S8192x128 .bf16) (su pr : Vec F S256x256 .bf16) (dy o8 : Vec F S512x128 .bf16)
    (o9 o10 : Vec F S8192x128 .bf16) (s : Scr F) :
    bufs c arg2 arg3 arg4 arg5 arg6 arg7 arg8 arg9 arg10 arg11 arg12 arg13 q k v su pr dy o8 o9 o10 s
    ⊢ wp frame (wpE (defs₀ (F := F)) 𝒱₀ (c : Thread nD τ) none) Es
      (cc0_attn_bwd i arg2 harg2 arg3 harg3 arg4 harg4 arg5 harg5 arg6 harg6 arg7 harg7 arg8 harg8 arg9 harg9 arg10 harg10 arg11 harg11
        arg12 harg12 arg13 harg13) (fun _ => bufs c arg2 arg3 arg4 arg5 arg6 arg7 arg8 arg9 arg10 arg11 arg12 arg13 q k v su pr dy
          (both (point (env i q k v su pr dy) s).1.1 (point (env i q k v su pr dy) s).1.2)
          (if k0_cond2 i = 1#1 then k0_pay166 (point (env i q k v su pr dy) s).2.2.1 else o9)
          (if k0_cond2 i = 1#1 then k0_pay167 (point (env i q k v su pr dy) s).2.2.2 else o10)
          (point (env i q k v su pr dy) s).2) := by
  have hi := i1_lt i
  simp only [cc0_attn_bwd_eq_skeleton]
  unfold cc0_attn_bwd_skel
  unfold bufs
  iintro ⟨H2, H3, H4, H5, H6, H7, H8, H9, H10, H11, H12, H13⟩
  rw [wp_bind]
  iapply (wp_wand_r frame (wpE (defs₀ (F := F)) 𝒱₀ (c : Thread nD τ) none) Es)
  isplitl [H2 H5 H6 H7 H12 H13]
  · iapply (first_part c Es i arg2 harg2 arg3 harg3 arg4 harg4 arg5 harg5 arg6 harg6 arg7 harg7 arg8 harg8 arg9 harg9 arg10 harg10 arg11 harg11
        arg12 harg12 arg13 harg13 q k v su pr dy s)
    unfold reads9
    isplitl [H2]; · iexact H2
    isplitl [H5]; · iexact H5
    isplitl [H6]; · iexact H6
    isplitl [H7]; · iexact H7
    isplitl [H12]; · iexact H12
    iexact H13
  iintro %r ⟨%hr, H⟩
  subst hr
  unfold reads9
  icases H with ⟨H2, H5, H6, H7, H12, H13⟩
  have hEi : (env i q k v su pr dy).i = i := rfl
  have hEk : (env i q k v su pr dy).k = k := rfl
  have hEv : (env i q k v su pr dy).v = v := rfl
  generalize env i q k v su pr dy = E at hEi hEk hEv ⊢
  have hi' := i1_lt E.i
  have h1 : (start i s).1 = s.1 := by unfold start; split_ifs <;> rfl
  rw [← h1]
  obtain ⟨a, ha⟩ : ∃ a, a = diag0 E (start i s).1 (start i s).2.2 := ⟨_, rfl⟩
  obtain ⟨b, hb⟩ : ∃ b, b = diag1 E a.2.1 a.2.2 := ⟨_, rfl⟩
  obtain ⟨w, hw⟩ : ∃ w, w = w1run E 33 ((1#32, a.1.1, a.1.2.1, a.1.2.2, b.1.1, b.1.2.1, b.1.2.2), b.2.1, b.2.2) := ⟨_, rfl⟩
  obtain ⟨r, hr⟩ : ∃ r, r = w2run E 33 ((w.1.1, w.1.2.2.2.2.1, w.1.2.2.2.2.2.1, w.1.2.2.2.2.2.2), w.2.1, w.2.2) := ⟨_, rfl⟩
  obtain ⟨t, ht⟩ : ∃ t, t = t1run E w.1.1 r.1.1 r.2.1 ((k0_pay103 (F := F), k0_pay103, k0_pay103), (start i s).2.1)
    (k0_t1_loop w.1.1 r.1.1).trips := ⟨_, rfl⟩
  obtain ⟨u, hu⟩ : ∃ u, u = t3run E w.1.1 r.2.1 (((k0_pay103 (F := F), k0_pay103, k0_pay103), t.1), t.2)
    (k0_t3_loop w.1.1).trips := ⟨_, rfl⟩
  obtain ⟨x, hx⟩ : ∃ x, x = fin0 E r.2.1 u.1.1 u.2 := ⟨_, rfl⟩
  obtain ⟨y, hy⟩ : ∃ y, y = fin1 E r.2.1 u.1.2 x.2 := ⟨_, rfl⟩
  have hP : point E s = ((x.1, y.1), r.2.1, y.2, r.2.2) := by
    rw [hy, hx, hu, ht, hr, hw, hb, ha]
    unfold point
    rw [hEi]
    rfl
  rw [hP]
  clear hP
  dsimp only
  generalize start i s = s₀ at ha hb hw hr ht hu hx hy ⊢
  obtain ⟨g₀, dk₀, dv₀⟩ := s₀
  dsimp only at ha ht ⊢
  obtain ⟨J, hJ, hJ1, hJ2⟩ := w1_count E 33 1 _ (rfl : (((1#32, a.1.1, a.1.2.1, a.1.2.2, b.1.1, b.1.2.1, b.1.2.2), b.2.1, b.2.2) : R1 F × GS F × DA F).1.1 = BitVec.ofNat 32 1) (by omega)
  rw [← hw] at hJ
  obtain ⟨D, hD, hD1, hD2⟩ := w2_count E 33 J ((w.1.1, w.1.2.2.2.2.1, w.1.2.2.2.2.2.1, w.1.2.2.2.2.2.2), w.2.1, w.2.2) hJ (by omega)
  rw [← hr] at hD
  have hw1 := fun K => w1_le c Es E arg3 harg3 arg4 harg4 arg11 harg11 arg13 harg13 33 1 ((1#32, a.1.1, a.1.2.1, a.1.2.2, b.1.1, b.1.2.1, b.1.2.2), b.2.1, b.2.2)
    rfl (by omega) (by dsimp only; omega) K
  rw [← hw] at hw1
  have hw2 := fun K => w2_le c Es E arg3 harg3 arg4 harg4 arg11 harg11 arg13 harg13 33 J ((w.1.1, w.1.2.2.2.2.1, w.1.2.2.2.2.2.1, w.1.2.2.2.2.2.2), w.2.1, w.2.2)
    hJ (by omega) (by omega) K
  rw [← hr] at hw2
  clear hw hr
  obtain ⟨⟨w1, w2, w3, w4, w5, w6, w7⟩, wg, wd⟩ := w
  obtain ⟨⟨r1, r2, r3, r4⟩, rg, rd⟩ := r
  dsimp only at ht hu hx hy hw1 hw2 hJ hD ⊢
  subst hJ hD
  simp only [k0_part10_eq_skeleton, k0_part11_eq_skeleton, k0_part12_eq_skeleton, k0_part13_eq_skeleton, k0_part14_eq_skeleton]
  unfold owns
  icases H3 with ⟨%f3, %hf3, H3⟩
  icases H4 with ⟨%f4, %hf4, H4⟩
  icases H11 with ⟨%f11, %hf11, H11⟩
  icases H13 with ⟨%f13, %hf13, H13⟩
  obtain ⟨i', kk, vv, m, su', pr', q0, q1, d0, d1⟩ := E
  dsimp only at hEi hEk hEv hf3 hf4 hf11 hf13 ha hb ht hu hx hy hw1 hw2 hi' hJ2 hD2 ⊢
  subst hEi hEk hEv hf3 hf4 hf11 hf13
  have c4 := chk4_of_le i' J hJ1 hJ2
  have c3 := chk3_of_le i' J D hD1 hD2
  have j0 := k0_off1_inb i' 0
  have j1 := k0_off1_inb i' 1
  dsimp only [diag0] at ha
  rw [← readAt_rows arg3 f3 (k0_off1 i' 0#32) j0, ← readAt_rows arg4 f4 (k0_off1 i' 0#32) j0, ← readAt_rows arg13 f13 (k0_off1 i' 0#32) j0] at ha
  subst ha
  dsimp only [diag1] at hb
  rw [ld2_put2 _ _ _ _ (off1_apart i')] at hb
  rw [← readAt_rows arg3 f3 (k0_off1 i' 1#32) j1, ← readAt_rows arg4 f4 (k0_off1 i' 1#32) j1, ← readAt_rows arg13 f13 (k0_off1 i' 1#32) j1] at hb
  subst hb
  dsimp only at hw1
  sl_exec
  iapply (wp_call_spec 𝒱₀ (c : Thread nD τ) none Es (callSpec _ _ _) 33 (fun u hu => nomatch hu) hw1)
  rw [callSpec_apply]
  unfold held owns
  isplitl [H3 H4 H11 H13]
  · isplitl [H3]
    · iexists _; isplitr; swap; · iexact H3
      ipureintro; rfl
    isplitl [H4]
    · iexists _; isplitr; swap; · iexact H4
      ipureintro; rfl
    isplitl [H11]
    · iexists _; isplitr; swap; · iexact H11
      ipureintro
      exact (writes_slab arg11 f11 _ (k0_off3_inb i') _ _).trans
        (congrArg (fun x => put4 _ x _) (writes_slab arg11 f11 _ (k0_off2_inb i') _ []))
    · iexists _; isplitr; swap; · iexact H13
      ipureintro
      exact (writes_rows arg13 f13 _ j1 _ _).trans
        (congrArg (fun x => put2 _ x _) (writes_rows arg13 f13 _ j0 _ []))
  iintro H
  clear hw1
  sl_exec
  iapply (wp_call_spec 𝒱₀ (c : Thread nD τ) none Es (callSpec _ _ _) 33 (fun u hu => nomatch hu) hw2)
  rw [callSpec_apply]
  unfold held owns
  isplitl [H]
  · iexact H
  iintro H
  clear hw2
  sl_exec
  icases H with ⟨H3, H4, H11, H13⟩
  iapply (t1_loop c Es ⟨i', arg3.view.read (Elt F) f3, arg4.view.read (Elt F) f4, m, su', pr', q0, q1, d0, d1⟩ arg2 harg2 arg3 harg3
    arg4 harg4 arg5 harg5 arg6 harg6 arg7 harg7 arg8 harg8 arg9 harg9 arg10 harg10 arg11 harg11 arg12 harg12 arg13 harg13
    _ _ _ _ _ _ _ _ _ _ _ _ (BitVec.ofNat 32 J) (BitVec.ofNat 32 D) c3 rg ((k0_pay103, k0_pay103, k0_pay103), dk₀)) $$ [H3 H11 H12]
  · unfold kept owns
    isplitl [H3]; · iexact H3
    isplitl [H11]; · iexact H11
    iexact H12
  rw [← ht]
  iintro %x1 H
  unfold left
  icases H with ⟨%hx1, H⟩
  obtain ⟨⟨p1, p2, p3⟩, td⟩ := t
  dsimp only at hx1 hu
  subst hx1
  sl_exec
  haveI : Fact (1 ≤ J) := ⟨hJ1⟩
  haveI : Fact (J ≤ 2 * (i' 1).val + 1) := ⟨hJ2⟩
  iapply (t3_loop c Es ⟨i', arg3.view.read (Elt F) f3, arg4.view.read (Elt F) f4, m, su', pr', q0, q1, d0, d1⟩ arg2 harg2 arg3 harg3
    arg4 harg4 arg5 harg5 arg6 harg6 arg7 harg7 arg8 harg8 arg9 harg9 arg10 harg10 arg11 harg11 arg12 harg12 arg13 harg13
    _ _ _ _ _ _ _ _ _ _ _ _ J c4 rg (((k0_pay103, k0_pay103, k0_pay103), (p1, p2, p3)), td)) $$ [H]
  · iexact H
  rw [← hu]
  iintro %x2 H
  unfold left
  icases H with ⟨%hx2, H⟩
  obtain ⟨⟨a0, a1⟩, ud⟩ := u
  obtain ⟨x21, x22, x23, x24, x25, x26⟩ := x2
  dsimp only at hx2 hx hy
  obtain ⟨rfl, rfl⟩ := Prod.mk.inj hx2
  unfold kept owns
  icases H with ⟨⟨%g3, %hg3, H3⟩, ⟨%g11, %hg11, H11⟩, ⟨%g12, %hg12, H12⟩⟩
  icases H8 with ⟨%f8, %hf8, H8⟩
  icases H9 with ⟨%f9, %hf9, H9⟩
  icases H10 with ⟨%f10, %hf10, H10⟩
  icases H13 with ⟨%g13, %hg13, H13⟩
  dsimp only at hg3 hg12
  clear ht hu hx2
  subst hg11 hg12 hg13 hf9 hf10
  have j0 := k0_off19_inb i' 0
  have j1 := k0_off19_inb i' 1
  dsimp only [fin0] at hx
  rw [← hg3, ← readAt_rows arg3 g3 (k0_off19 i' 0#32) j0, ← readAt_slab arg11 g11 _ (k0_off20_inb i'),
    ← readAt_rows arg12 g12 (k0_off19 i' 0#32) j0] at hx
  subst hx
  dsimp only [fin1] at hy
  rw [ld2_put2 _ _ _ _ (off19_apart i')] at hy
  rw [← hg3, ← readAt_rows arg3 g3 (k0_off19 i' 1#32) j1, ← readAt_slab arg11 g11 _ (k0_off21_inb i'),
    ← readAt_rows arg12 g12 (k0_off19 i' 1#32) j1] at hy
  subst hy
  simp only [k0_part15_eq_skeleton, k0_part16_eq_skeleton, k0_part17_eq_skeleton]
  sl_exec
  sl_step
  isplitl [H2]; · iexact H2
  isplitl [H3]
  · iexists _; isplitr; swap; · iexact H3
    ipureintro; exact hg3
  isplitl [H4]; · iexact H4
  isplitl [H5]; · iexact H5
  isplitl [H6]; · iexact H6
  isplitl [H7]; · iexact H7
  isplitl [H8]
  · iexists _; isplitr; swap; · iexact H8
    ipureintro
    exact writes_both arg8 f8 _ _
  isplitl [H9]
  · iexists _; isplitr; swap; · iexact H9
    ipureintro
    split_ifs with h2
    · refine (writes_all arg9 f9 _).trans (congrArg k0_pay166 ?_)
      exact (readAt_rows_all arg12 _).trans ((writes_rows arg12 g12 _ j1 _ _).trans
        (congrArg (fun x => put2 _ x _) (writes_rows arg12 g12 _ j0 _ [])))
    · rfl
  isplitl [H10]
  · iexists _; isplitr; swap; · iexact H10
    ipureintro
    split_ifs with h2
    · exact (writes_all arg10 f10 _).trans (congrArg k0_pay167 (readAt_rows_all arg13 _))
    · rfl
  isplitl [H11]
  · iexists _; isplitr; swap; · iexact H11
    ipureintro; rfl
  isplitl [H12]
  · iexists _; isplitr; swap; · iexact H12
    ipureintro
    exact (writes_rows arg12 g12 _ j1 _ _).trans
        (congrArg (fun x => put2 _ x _) (writes_rows arg12 g12 _ j0 _ []))
  iexists _; isplitr; swap; · iexact H13
  ipureintro; rfl

end Cert.AttnModel
end
-- ==== Proof.AttnFrame.lean ====
module

public import proofs.«01_k».proof.Proof.AttnPoint
public import proofs.«01_k».proof.Proof.Gen.AttnBwdIdeal.Points
public import Idealize.ShloMosaic.Lib.Pipeline.ArrRel

/-!
# The attention backward's launch

The grid run point after point: the scratch buffers' contents are a recursion over the points from contents that nothing
fixes, each input window holds its block, and the three results' windows are left what `AttnModel.point` says.
-/

@[expose] public section

set_option maxHeartbeats 4000000

noncomputable section

namespace Cert.AttnModel
open Cert.AttnBwdIdeal Cert.AttnBwdIdeal.Gen
open Idealize.ShloMosaic Idealize.ShloMosaic.TcCoe Idealize.ShloMosaic.Tactic
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The host lines before the kernel: the two triangles of ones. -/
abbrev hosts : List (List (HloOp τ sig (Elt F))) := [hostOps0, hostOps0_1, hostOps0_2, hostOps0_3, hostOps0_4]

/-- The buffers as the kernel's run finds them. -/
abbrev V (c : Dev nD) (b : Ref sig .tc) : Buf (Elt F) ((c : Thread nD τ).loc b) := StableHlo.after hosts.flatten (fun b => m (c, b)) b

theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main hosts
    ⟨hostOps0_sub, hostOps0_1_sub, hostOps0_2_sub, hostOps0_3_sub, hostOps0_4_sub⟩ (by repeat' constructor) fun c => main_chain c

/-- Window `w`'s block at point `t`, of its array as the run finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` holds fixed: the blocks of its input windows. -/
def envAt (c : Dev nD) (t : Fin (cfg0 (F := F)).N) : Env F :=
  env (grid0.coords t) (iblk m c 0 t) (iblk m c 1 t) (iblk m c 2 t) (iblk m c 3 t) (iblk m c 4 t) (iblk m c 5 t)

/-- The scratch buffers before point `n`, from `s` before the first. -/
def scr (c : Dev nD) (s : Scr F) : ℕ → Scr F
  | 0 => s
  | n + 1 => if h : n < (cfg0 (F := F)).N then (point (envAt m c ⟨n, h⟩) (scr c s n)).2 else scr c s n

theorem scr_succ (c : Dev nD) (s : Scr F) (t : Fin (cfg0 (F := F)).N) : scr m c s (t.val + 1) = (point (envAt m c t) (scr m c s t.val)).2 := by
  rw [scr, dif_pos t.isLt]

/-- The scratch buffers at contents `s`, and the core's generator register at some state. -/
def scrHeld (c : Dev nD) (s : Scr F) : sProp 𝕄 :=
  iprop(owns (c : Thread nD τ) (Memref.whole cc0_scratch0) fullShare s.1 ∗ owns (c : Thread nD τ) (Memref.whole cc0_scratch1) fullShare s.2.1
    ∗ owns (c : Thread nD τ) (Memref.whole cc0_scratch2) fullShare s.2.2 ∗ ∃ r, prngReg c r)

/-- The proof's data: inputs stay at what was found, the first result's window is left the point's rows at every point, the
    other two their sums at the last point of a head pair. -/
def rdat (c : Dev nD) : RDat τ (Elt F) Unit ℕ (UR sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => ∃ s, X = both (point (envAt m c t) (scr m c s t.val)).1.1 (point (envAt m c t) (scr m c s t.val)).1.2
    | ⟨7, _⟩ => fun Y X => ∃ s, X = if k0_cond2 (grid0.coords t) = 1#1 then k0_pay166 (point (envAt m c t) (scr m c s t.val)).2.2.1 else Y
    | ⟨8, _⟩ => fun Y X => ∃ s, X = if k0_cond2 (grid0.coords t) = 1#1 then k0_pay167 (point (envAt m c t) (scr m c s t.val)).2.2.2 else Y
    | ⟨_ + 9, h⟩ => absurd h (Nat.not_lt.2 (Nat.le_add_left _ _))
  Φ n := iprop(∃ s, scrHeld c (scr m c s n.val))
  q w := Pipeline.shareOf spec0 w
  owed _ := 0

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : (rdat (F := F) m c).BodyObligation (defs₀ (F := F)) 𝒱₀ () Set.univ := fun t Y hY => by
  have e0 : Y 0 = iblk m c 0 t := (RDat.finds_in_eq_fetched (rdat m c) 0 rfl (fun _ _ _ => rfl) (fun _ _ _ h => h) t _ (hY 0)).choose_spec
  have e1 : Y 1 = iblk m c 1 t := (RDat.finds_in_eq_fetched (rdat m c) 1 rfl (fun _ _ _ => rfl) (fun _ _ _ h => h) t _ (hY 1)).choose_spec
  have e2 : Y 2 = iblk m c 2 t := (RDat.finds_in_eq_fetched (rdat m c) 2 rfl (fun _ _ _ => rfl) (fun _ _ _ h => h) t _ (hY 2)).choose_spec
  have e3 : Y 3 = iblk m c 3 t := (RDat.finds_in_eq_fetched (rdat m c) 3 rfl (fun _ _ _ => rfl) (fun _ _ _ h => h) t _ (hY 3)).choose_spec
  have e4 : Y 4 = iblk m c 4 t := (RDat.finds_in_eq_fetched (rdat m c) 4 rfl (fun _ _ _ => rfl) (fun _ _ _ h => h) t _ (hY 4)).choose_spec
  have e5 : Y 5 = iblk m c 5 t := (RDat.finds_in_eq_fetched (rdat m c) 5 rfl (fun _ _ _ => rfl) (fun _ _ _ h => h) t _ (hY 5)).choose_spec
  have ee : env (grid0.coords t) (Y 0) (Y 1) (Y 2) (Y 3) (Y 4) (Y 5) = envAt m c t := by rw [e0, e1, e2, e3, e4, e5]; rfl
  rw [bigSep_W0, bigSep_W0, defs₀_row, show (rdat m c).owesAt () t.succ = (rdat m c).owesAt () t.castSucc from rfl,
    show (rdat m c).Φ t.castSucc = iprop(∃ s, scrHeld c (scr m c s t.val)) from rfl,
    show (rdat m c).Φ t.succ = iprop(∃ s, scrHeld c (scr m c s (t.val + 1))) from rfl]
  unfold scrHeld
  iintro ⟨⟨%s, S0, S1, S2, Hr⟩, Ho, H0, H1, H2, H3, H4, H5, H6, H7, H8⟩
  iapply (wp_wand_r frame (wpE (defs₀ (F := F)) 𝒱₀ (c : Thread nD τ) none) Set.univ)
  isplitl [H0 H1 H2 H3 H4 H5 H6 H7 H8 S0 S1 S2]
  · iapply (sound_point c Set.univ (grid0.coords t) _ _ _ _ _ _ _ _ _ _ _ _ _ _ _ _ _ _ _ _ _ _ _ _ (Y 0) (Y 1) (Y 2)
      (Y 3) (Y 4) (Y 5) (Y 6) (Y 7) (Y 8) (scr m c s t.val))
    unfold bufs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iexact S2
  rw [ee]
  iintro %r H
  unfold bufs
  icases H with ⟨H0, H1, H2, H3, H4, H5, H6, H7, H8, S0, S1, S2⟩
  isplitl [S0 S1 S2 Hr]
  · iexists s
    rw [scr_succ]
    isplitl [S0]; · iexact S0
    isplitl [S1]; · iexact S1
    isplitl [S2]; · iexact S2
    iexact Hr
  isplitl [Ho]; · iexact Ho
  isplitl [H0]; · iexists (Y 0); isplitr; · ipureintro; exact (rfl : Y 0 = Y 0)
                  iexact H0
  isplitl [H1]; · iexists (Y 1); isplitr; · ipureintro; exact (rfl : Y 1 = Y 1)
                  iexact H1
  isplitl [H2]; · iexists (Y 2); isplitr; · ipureintro; exact (rfl : Y 2 = Y 2)
                  iexact H2
  isplitl [H3]; · iexists (Y 3); isplitr; · ipureintro; exact (rfl : Y 3 = Y 3)
                  iexact H3
  isplitl [H4]; · iexists (Y 4); isplitr; · ipureintro; exact (rfl : Y 4 = Y 4)
                  iexact H4
  isplitl [H5]; · iexists (Y 5); isplitr; · ipureintro; exact (rfl : Y 5 = Y 5)
                  iexact H5
  isplitl [H6]
  · iexists (both (point (envAt m c t) (scr m c s t.val)).1.1 (point (envAt m c t) (scr m c s t.val)).1.2)
    isplitr; · ipureintro; exact ⟨s, rfl⟩
    iexact H6
  isplitl [H7]
  · iexists (if k0_cond2 (grid0.coords t) = 1#1 then k0_pay166 (point (envAt m c t) (scr m c s t.val)).2.2.1 else Y 7)
    isplitr; · ipureintro; exact ⟨s, rfl⟩
    iexact H7
  iexists (if k0_cond2 (grid0.coords t) = 1#1 then k0_pay167 (point (envAt m c t) (scr m c s t.val)).2.2.2 else Y 8)
  isplitr; · ipureintro; exact ⟨s, rfl⟩
  iexact H8

end Cert.AttnModel

end
-- ==== Proof.AttnLaunch.lean ====
module

public import proofs.«01_k».proof.Proof.AttnFrame

/-!
# The attention backward's run

The launch of the grid and what it leaves, for any values of the floats.
-/

@[expose] public section

set_option maxHeartbeats 4000000

noncomputable section

namespace Cert.AttnModel
open Cert.AttnBwdIdeal Cert.AttnBwdIdeal.Gen
open Idealize.ShloMosaic Idealize.ShloMosaic.TcCoe Idealize.ShloMosaic.Tactic
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

theorem enter (c : Dev nD) : (Pipeline.ΦA spec0 c : sProp 𝕄) ⊢ (rdat m c).Φ 0 := by
  show (Pipeline.ΦA spec0 c : sProp 𝕄) ⊢ iprop(∃ s, scrHeld c (scr m c s 0))
  unfold Pipeline.ΦA
  rw [scopedRest0_eq]
  iintro ⟨⟨⟨%f, S0⟩, ⟨%g, S1⟩, ⟨%h, S2⟩⟩, Hr⟩
  iexists (f, g, h)
  unfold scrHeld
  simp only [scr, owns_whole]
  isplitl [S0]; · iexact S0
  isplitl [S1]; · iexact S1
  isplitl [S2]; · iexact S2
  iexact Hr

theorem leave (c : Dev nD) : (rdat m c).Φ (Fin.last (cfg0 (F := F)).N) ⊢ (Pipeline.ΦA spec0 c : sProp 𝕄) := by
  show iprop(∃ s, scrHeld c (scr m c s (cfg0 (F := F)).N)) ⊢ (Pipeline.ΦA spec0 c : sProp 𝕄)
  unfold Pipeline.ΦA
  rw [scopedRest0_eq]
  iintro ⟨%s, H⟩
  unfold scrHeld
  simp only [owns_whole]
  icases H with ⟨S0, S1, S2, Hr⟩
  isplitl [S0 S1 S2]
  · isplitl [S0]; · iexists _; iexact S0
    isplitl [S1]; · iexists _; iexact S1
    iexists _; iexact S2
  iexact Hr

set_option backward.isDefEq.respectTransparency.types false in
include ρ in
theorem run_main_quiescent : θ_run defs (onTc (τ := τ) (main (F := F))) (⟨m, fun _ => 0, ρ⟩) (fun r => (Pipeline.RDat.FramePost (cfg0 (F := F)) (rdat m) (V m)) r ∧ r.2.sem = fun _ => 0) :=
  Pipeline.RDat.θ_run_frame_track_shared (Q' := _) cfgs (0 : Fin 1) launch₀0 defs₀ 𝒱₀ (rdat m) m ρ main
    (hbody := body_obligation m) (hq := fun _ _ _ => rfl)
    (howed := fun _ _ => rfl) (V := V m) (hmain := hmain m 𝒱₀) (hA := fun _ _ => rfl) (hin := enter m) (hout := leave m)

/-- The arguments end as they were and every counter ends at zero. -/
theorem frame_run : θ_run defs (onTc (τ := τ) (main (F := F))) (⟨m, fun _ => 0, ρ⟩) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h.1.arr_in c 0 rfl, h.1.arr_in c 1 rfl, h.1.arr_in c 5 rfl⟩, h.2⟩) (run_main_quiescent m ρ)

end Cert.AttnModel

end
-- ==== Proof.BwdWord.lean ====
module

public import proofs.«01_k».proof.Proof.AttnLaunch
public import proofs.«01_k».proof.Proof.Relabel
public import proofs.«01_k».proof.Proof.Gen.AttnBwd.Launch
public import proofs.«01_k».proof.Proof.Gen.AttnBwd.Points
public import proofs.«01_k».proof.Proof.Gen.AttnBwd.Skeleton

/-!
# The attention backward over the machine's words
-/

@[expose] public section

set_option maxHeartbeats 4000000

noncomputable section

namespace Cert.BwdWord
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A named constant is the float of its word. -/
local instance words : Named F := ⟨fun _ _ {φ} b => Scalar.ofBits φ b⟩

/-- The two programs' monads: with the constants named, and with their words. -/
abbrev Held (F : FTy → Type) [FloatOps F] := Prog (TpuEff Cert.AttnBwdIdeal.nD Cert.AttnBwdIdeal.τ Cert.AttnBwdIdeal.sig (Elt F) (Cert.AttnBwdIdeal.Λ₀ F) .tc)
abbrev Plain (F : FTy → Type) [FloatOps F] := Prog (TpuEff Cert.AttnBwd.nD Cert.AttnBwd.τ Cert.AttnBwd.sig (Elt F) (Cert.AttnBwd.Λ₀ F) .tc)

/-- The loops' records of one program as the other's, -/
def fwd : ∀ ℓ, (Cert.AttnBwdIdeal.Λ₀ F).Args ℓ → (Cert.AttnBwd.Λ₀ F).Args ℓ
  | 0, a => a
  | 1, ⟨a1, a2, a3, a4, a5, a6, a7, a8, a9, a10, a11, a12, a13, a14, a15, a16, a17, a18, a19, a20, a21, a22⟩ =>
    ⟨a1, a2, a3, a4, a5, a6, a7, a8, a9, a10, a11, a12, a13, a14, a15, a16, a17, a18, a19, a20, a21, a22⟩
  | 2, ⟨a1, a2, a3, a4, a5, a6, a7, a8, a9, a10, a11, a12, a13, a14, a15, a16, a17⟩ =>
    ⟨a1, a2, a3, a4, a5, a6, a7, a8, a9, a10, a11, a12, a13, a14, a15, a16, a17⟩
  | ⟨_ + 3, h⟩, _ => absurd h (Nat.not_lt.2 (Nat.le_add_left _ _))

/-- and back. -/
def back : ∀ ℓ, (Cert.AttnBwd.Λ₀ F).Args ℓ → (Cert.AttnBwdIdeal.Λ₀ F).Args ℓ
  | 0, a => a
  | 1, ⟨a1, a2, a3, a4, a5, a6, a7, a8, a9, a10, a11, a12, a13, a14, a15, a16, a17, a18, a19, a20, a21, a22⟩ =>
    ⟨a1, a2, a3, a4, a5, a6, a7, a8, a9, a10, a11, a12, a13, a14, a15, a16, a17, a18, a19, a20, a21, a22⟩
  | 2, ⟨a1, a2, a3, a4, a5, a6, a7, a8, a9, a10, a11, a12, a13, a14, a15, a16, a17⟩ =>
    ⟨a1, a2, a3, a4, a5, a6, a7, a8, a9, a10, a11, a12, a13, a14, a15, a16, a17⟩
  | ⟨_ + 3, h⟩, _ => absurd h (Nat.not_lt.2 (Nat.le_add_left _ _))

theorem back_fwd : ∀ ℓ (a : (Cert.AttnBwdIdeal.Λ₀ F).Args ℓ), back ℓ (fwd ℓ a) = a
  | 0, _ => rfl
  | 1, _ => rfl
  | 2, _ => rfl
  | ⟨_ + 3, h⟩, _ => absurd h (Nat.not_lt.2 (Nat.le_add_left _ _))

/-- A program over the one program's labels as one over the other's. -/
abbrev carry {α : Type} (q : Held F α) :
    Plain F α :=
  Relabel.prog (sig := Cert.AttnBwd.sig) (R := (Cert.AttnBwd.Λ₀ F).Result) fwd q

theorem bind {α β : Type} {q : Held F α}
    {q' : Plain F α}
    {k : α → Held F β}
    {k' : α → Plain F β}
    (h : q' = carry q) (hk : ∀ x, k' x = carry (k x)) : (q' >>= k') = carry (q >>= k) := by
  rw [h, funext hk]
  exact (Relabel.prog_bind _ _ _).symm

theorem loop {w : Nat} {σ : Type} (lb ub st : BitVec w) (hok : Scf.OK lb ub st) (init : σ)
    {body : Fin (Scf.trips lb ub st) → σ → Held F σ}
    {body' : Fin (Scf.trips lb ub st) → σ → Plain F σ}
    (h : ∀ k s, body' k s = carry (body k s)) : Scf.for lb ub st hok init body' = carry (Scf.for lb ub st hok init body) := by
  rw [Scf.for_eq, Scf.for_eq]
  generalize List.finRange (Scf.trips lb ub st) = ks
  induction ks generalizing init with
  | nil => rfl
  | cons k ks ih => rw [Scf.forFrom_cons, Scf.forFrom_cons]; exact bind (h k init) ih

theorem part14 (i a1 h1 a2 h2 a3 h3 a4 h4 a5 h5 a6 h6 a7 h7 a8 h8 a9 h9 a10 h10 a11 h11 a12 h12 b1 b2 b3 b4 b5 b6 b7 b8 b9 b10 b11 b12 b13 b14 b15 b16 b17 b18 b19) : Cert.AttnBwd.k0_part14 (F := F) i a1 h1 a2 h2 a3 h3 a4 h4 a5 h5 a6 h6 a7 h7 a8 h8 a9 h9 a10 h10 a11 h11 a12 h12 b1 b2 b3 b4 b5 b6 b7 b8 b9 b10 b11 b12 b13 b14 b15 b16 b17 b18 b19 = carry (Cert.AttnBwdIdeal.k0_part14 i a1 h1 a2 h2 a3 h3 a4 h4 a5 h5 a6 h6 a7 h7 a8 h8 a9 h9 a10 h10 a11 h11 a12 h12 b1 b2 b3 b4 b5 b6 b7 b8 b9 b10 b11 b12 b13 b14 b15 b16 b17 b18 b19) := by
  rw [Cert.AttnBwd.Gen.k0_part14_eq_skeleton, Cert.AttnBwdIdeal.Gen.k0_part14_eq_skeleton]
  unfold Cert.AttnBwd.Gen.k0_part14_skel Cert.AttnBwdIdeal.Gen.k0_part14_skel
  exact bind rfl fun _ => bind rfl fun _ => bind rfl fun _ => bind rfl fun _ => bind rfl fun _ => bind rfl fun _ =>
    bind (loop _ _ _ _ _ fun _ _ => rfl) fun _ => bind (loop _ _ _ _ _ fun _ _ => rfl) fun _ =>
    bind (loop _ _ _ _ _ fun _ _ => rfl) fun _ => bind (loop _ _ _ _ _ fun _ _ => rfl) fun _ => rfl

theorem part9 (i a1 h1 a2 h2 a3 h3 a4 h4 a5 h5 a6 h6 a7 h7 a8 h8 a9 h9 a10 h10 a11 h11 a12 h12) : Cert.AttnBwd.k0_part9 (F := F) i a1 h1 a2 h2 a3 h3 a4 h4 a5 h5 a6 h6 a7 h7 a8 h8 a9 h9 a10 h10 a11 h11 a12 h12 = carry (Cert.AttnBwdIdeal.k0_part9 i a1 h1 a2 h2 a3 h3 a4 h4 a5 h5 a6 h6 a7 h7 a8 h8 a9 h9 a10 h10 a11 h11 a12 h12) := by
  rw [Cert.AttnBwd.Gen.k0_part9_eq_skeleton, Cert.AttnBwdIdeal.Gen.k0_part9_eq_skeleton]
  unfold Cert.AttnBwd.Gen.k0_part9_skel Cert.AttnBwdIdeal.Gen.k0_part9_skel
  refine Eq.trans ?_ (apply_dite _ _ _ _).symm
  exact dite_congr rfl (fun _ => rfl) (fun _ => rfl)

theorem part17 (i a1 h1 a2 h2 a3 h3 a4 h4 a5 h5 a6 h6 a7 h7 a8 h8 a9 h9 a10 h10 a11 h11 a12 h12 b1 b2 b3 b4 b5 b6 b7 b8 b9 b10 b11 b12) : Cert.AttnBwd.k0_part17 (F := F) i a1 h1 a2 h2 a3 h3 a4 h4 a5 h5 a6 h6 a7 h7 a8 h8 a9 h9 a10 h10 a11 h11 a12 h12 b1 b2 b3 b4 b5 b6 b7 b8 b9 b10 b11 b12 = carry (Cert.AttnBwdIdeal.k0_part17 i a1 h1 a2 h2 a3 h3 a4 h4 a5 h5 a6 h6 a7 h7 a8 h8 a9 h9 a10 h10 a11 h11 a12 h12 b1 b2 b3 b4 b5 b6 b7 b8 b9 b10 b11 b12) := by
  rw [Cert.AttnBwd.Gen.k0_part17_eq_skeleton, Cert.AttnBwdIdeal.Gen.k0_part17_eq_skeleton]
  unfold Cert.AttnBwd.Gen.k0_part17_skel Cert.AttnBwdIdeal.Gen.k0_part17_skel
  refine bind rfl fun _ => bind rfl fun _ => bind rfl fun _ => bind rfl fun _ => bind rfl fun _ => Eq.trans ?_ (apply_dite _ _ _ _).symm
  exact dite_congr rfl (fun _ => rfl) (fun _ => rfl)

theorem row0 (a : (Cert.AttnBwd.Λ₀ F).Args 0) : Cert.AttnBwd.defs₀ (F := F) .tc 0 a = carry (Cert.AttnBwdIdeal.defs₀ .tc 0 a) := by
  obtain ⟨t, s⟩ := a
  show Cert.AttnBwd.cc0_attn_bwd _ _ _ _ _ _ _ _ _ _ _ _ _ _ _ _ _ _ _ _ _ _ _ _ _ = carry (Cert.AttnBwdIdeal.cc0_attn_bwd _ _ _ _ _ _ _ _ _ _ _ _ _ _ _ _ _ _ _ _ _ _ _ _ _)
  rw [Cert.AttnBwd.Gen.cc0_attn_bwd_eq_skeleton, Cert.AttnBwdIdeal.Gen.cc0_attn_bwd_eq_skeleton]
  unfold Cert.AttnBwd.Gen.cc0_attn_bwd_skel Cert.AttnBwdIdeal.Gen.cc0_attn_bwd_skel
  refine bind (part9 ..) fun _ => bind rfl fun _ => bind rfl fun _ => bind rfl fun _ => bind rfl fun _ => bind (part14 ..) fun _ => bind rfl fun _ =>
    bind rfl fun _ => bind (part17 ..) fun _ => rfl

theorem rows : ∀ ℓ (a : (Cert.AttnBwd.Λ₀ F).Args ℓ), Cert.AttnBwd.defs₀ .tc ℓ a = carry (Cert.AttnBwdIdeal.defs₀ .tc ℓ (back ℓ a))
  | 0, a => row0 a
  | 1, a => by
    cases a; show Cert.AttnBwd.cc0_while1 .. = carry (Cert.AttnBwdIdeal.cc0_while1 ..)
    rw [Cert.AttnBwd.Gen.cc0_while1_eq_skeleton, Cert.AttnBwdIdeal.Gen.cc0_while1_eq_skeleton]
    unfold Cert.AttnBwd.Gen.cc0_while1_skel Cert.AttnBwdIdeal.Gen.cc0_while1_skel
    refine Eq.trans ?_ (Relabel.prog_ite _ _ _ _).symm
    exact if_congr Iff.rfl rfl rfl
  | 2, a => by
    cases a; show Cert.AttnBwd.cc0_while2 .. = carry (Cert.AttnBwdIdeal.cc0_while2 ..)
    rw [Cert.AttnBwd.Gen.cc0_while2_eq_skeleton, Cert.AttnBwdIdeal.Gen.cc0_while2_eq_skeleton]
    unfold Cert.AttnBwd.Gen.cc0_while2_skel Cert.AttnBwdIdeal.Gen.cc0_while2_skel
    refine Eq.trans ?_ (Relabel.prog_ite _ _ _ _).symm
    exact if_congr Iff.rfl rfl rfl
  | ⟨_ + 3, h⟩, _ => absurd h (Nat.not_lt.2 (Nat.le_add_left _ _))

open Cert.AttnBwd Cert.AttnBwd.Gen
open Idealize.ShloMosaic.Pipeline (RDat)

local notation "𝕄" => MT nD τ sig Unit (Elt F) ℕ (UR sig nD τ) ℕ

variable (m : (ℓ : Loc nD τ sig) → Buf (Elt F) ℓ) (ρ : Dev nD → PrngReg)

/-- The host lines before the kernel: the two triangles of ones. -/
abbrev hosts : List (List (HloOp τ sig (Elt F))) := [hostOps0, hostOps0_1, hostOps0_2, hostOps0_3, hostOps0_4]

/-- The buffers as the kernel's run finds them. -/
abbrev V (c : Dev nD) (b : Ref sig .tc) : Buf (Elt F) ((c : Thread nD τ).loc b) := StableHlo.after hosts.flatten (fun b => m (c, b)) b

/-- The run's data: inputs stay at what was found; of the results' windows and of the scratch nothing is said. -/
def rdat (c : Dev nD) : RDat τ (Elt F) Unit ℕ (UR sig nD τ) ℕ (cfg0 (F := F)) c where
  A w := V m c (Pipeline.arrRef spec0 w)
  after w t := fun Y X => ((cfg0 (F := F)).win w).isOut = false → X = Y
  Φ n := iprop(∃ s, AttnModel.scrHeld c s)
  q w := Pipeline.shareOf spec0 w
  owed _ := 0

/-- A point of the grid, by what the other program's point does. -/
theorem point (c : Dev nD) (t : Fin (cfg0 (F := F)).N) (q : Vec F S512x128 .bf16) (k v : Vec F S8192x128 .bf16)
    (su pr : Vec F S256x256 .bf16) (dy o8 : Vec F S512x128 .bf16) (o9 o10 : Vec F S8192x128 .bf16) (s : AttnModel.Scr F) :
    (AttnModel.bufs c (st0_0 t) (st0_1 t) (st0_2 t) (st0_3 t) (st0_4 t) (st0_5 t) (st0_6 t) (st0_7 t) (st0_8 t) (Memref.whole cc0_scratch0) (Memref.whole cc0_scratch1) (Memref.whole cc0_scratch2) q k v su pr dy o8 o9 o10 s : sProp 𝕄)
    ⊢ wp frame (wpE (defs₀ (F := F)) AttnModel.𝒱₀ (c : Thread nD τ) none) Set.univ (defs₀ (F := F) .tc 0 (t, (cfg0 (F := F)).slots t))
      (fun _ => iprop(∃ o8 o9 o10 s, AttnModel.bufs c (st0_0 t) (st0_1 t) (st0_2 t) (st0_3 t) (st0_4 t) (st0_5 t) (st0_6 t) (st0_7 t) (st0_8 t) (Memref.whole cc0_scratch0) (Memref.whole cc0_scratch1) (Memref.whole cc0_scratch2) q k v su pr dy o8 o9 o10 s)) := by
  rw [rows]
  refine (AttnModel.sound_point c Set.univ (grid0.coords t) _ _ _ _ _ _ _ _ _ _ _ _ _ _ _ _ _ _ _ _ _ _ _ _ q k v su pr dy o8 o9 o10 s).trans
    ((wp_mono _ _ _ fun _ => ?_).trans (Relabel.wp_prog fwd back back_fwd AttnModel.𝒱₀ (c : Thread nD τ) rows Set.univ none .empty _ _))
  iintro H
  iexists _, _, _, _
  iexact H

theorem body_obligation (c : Dev nD) : (rdat (F := F) m c).BodyObligation (defs₀ (F := F)) AttnModel.𝒱₀ () Set.univ := fun t Y hY => by
  rw [bigSep_W0, bigSep_W0, show (rdat m c).owesAt () t.succ = (rdat m c).owesAt () t.castSucc from rfl,
    show (rdat m c).Φ t.succ = iprop(∃ s, AttnModel.scrHeld c s) from rfl, show (rdat m c).Φ t.castSucc = iprop(∃ s, AttnModel.scrHeld c s) from rfl]
  unfold AttnModel.scrHeld
  iintro ⟨⟨%s, S0, S1, S2, Hr⟩, Ho, H0, H1, H2, H3, H4, H5, H6, H7, H8⟩
  iapply (wp_wand_r frame (wpE (defs₀ (F := F)) AttnModel.𝒱₀ (c : Thread nD τ) none) Set.univ)
  isplitl [H0 H1 H2 H3 H4 H5 H6 H7 H8 S0 S1 S2]
  · iapply (point c t (Y 0) (Y 1) (Y 2) (Y 3) (Y 4) (Y 5) (Y 6) (Y 7) (Y 8) s)
    unfold AttnModel.bufs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iexact S2
  iintro %r ⟨%o8, %o9, %o10, %s, H⟩
  unfold AttnModel.bufs
  icases H with ⟨H0, H1, H2, H3, H4, H5, H6, H7, H8, S0, S1, S2⟩
  isplitl [S0 S1 S2 Hr]
  · iexists s
    iframe
  isplitl [Ho]; · iexact Ho
  isplitl [H0]; · iexists (Y 0); isplitr; · ipureintro; exact fun _ => rfl
                  iexact H0
  isplitl [H1]; · iexists (Y 1); isplitr; · ipureintro; exact fun _ => rfl
                  iexact H1
  isplitl [H2]; · iexists (Y 2); isplitr; · ipureintro; exact fun _ => rfl
                  iexact H2
  isplitl [H3]; · iexists (Y 3); isplitr; · ipureintro; exact fun _ => rfl
                  iexact H3
  isplitl [H4]; · iexists (Y 4); isplitr; · ipureintro; exact fun _ => rfl
                  iexact H4
  isplitl [H5]; · iexists (Y 5); isplitr; · ipureintro; exact fun _ => rfl
                  iexact H5
  isplitl [H6]; · iexists o8; isplitr; · ipureintro; exact fun h => Bool.noConfusion (show true = false from h)
                  iexact H6
  isplitl [H7]; · iexists o9; isplitr; · ipureintro; exact fun h => Bool.noConfusion (show true = false from h)
                  iexact H7
  iexists o10; isplitr; · ipureintro; exact fun h => Bool.noConfusion (show true = false from h)
  iexact H8

theorem enter (c : Dev nD) : (Pipeline.ΦA spec0 c : sProp 𝕄) ⊢ (rdat m c).Φ 0 := by
  show (Pipeline.ΦA spec0 c : sProp 𝕄) ⊢ iprop(∃ s, AttnModel.scrHeld c s)
  unfold Pipeline.ΦA
  rw [scopedRest0_eq]
  iintro ⟨⟨⟨%f, S0⟩, ⟨%g, S1⟩, ⟨%h, S2⟩⟩, Hr⟩
  iexists (f, g, h)
  unfold AttnModel.scrHeld
  simp only [owns_whole]
  isplitl [S0]; · iexact S0
  isplitl [S1]; · iexact S1
  isplitl [S2]; · iexact S2
  iexact Hr

theorem leave (c : Dev nD) : (rdat m c).Φ (Fin.last (cfg0 (F := F)).N) ⊢ (Pipeline.ΦA spec0 c : sProp 𝕄) := by
  show iprop(∃ s, AttnModel.scrHeld c s) ⊢ (Pipeline.ΦA spec0 c : sProp 𝕄)
  unfold Pipeline.ΦA
  rw [scopedRest0_eq]
  unfold AttnModel.scrHeld
  simp only [owns_whole]
  iintro ⟨%s, S0, S1, S2, Hr⟩
  isplitl [S0 S1 S2]
  · isplitl [S0]; · iexists _; iexact S0
    isplitl [S1]; · iexists _; iexact S1
    iexists _; iexact S2
  iexact Hr

set_option backward.isDefEq.respectTransparency.types false in
include ρ in
theorem run : θ_run defs (onTc (τ := τ) (main (F := F))) (⟨m, fun _ => 0, ρ⟩) (fun r => (Pipeline.RDat.FramePost (cfg0 (F := F)) (rdat m) (V m)) r ∧ r.2.sem = fun _ => 0) :=
  Pipeline.RDat.θ_run_frame_track_shared (Q' := _) cfgs (0 : Fin 1) launch₀0 defs₀ AttnModel.𝒱₀ (rdat m) m ρ main
    (hbody := body_obligation m) (hq := fun _ _ _ => rfl)
    (howed := fun _ _ => rfl) (V := V m) (hmain := Pipeline.hmain_prefixes cfgs 0 defs₀ AttnModel.𝒱₀ m main hosts
      ⟨hostOps0_sub, hostOps0_1_sub, hostOps0_2_sub, hostOps0_3_sub, hostOps0_4_sub⟩ (by repeat' constructor) fun c => main_chain c)
    (hA := fun _ _ => rfl) (hin := enter m) (hout := leave m)

/-- The arguments end as they were and every counter ends at zero. -/
theorem frame_run : θ_run defs (onTc (τ := τ) (main (F := F))) (⟨m, fun _ => 0, ρ⟩) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h.1.arr_in c 0 rfl, h.1.arr_in c 1 rfl, h.1.arr_in c 5 rfl⟩, h.2⟩) (run m ρ)

end Cert.BwdWord

end
-- ==== Proof.AttnReal.lean ====
/- The two steps of the attention backward on real tiles: each leaves real tiles, given here by real formulas. -/
module

public import proofs.«01_k».proof.Proof.AttnTile
public import proofs.«01_k».proof.Proof.Reals

@[expose] public section

noncomputable section

namespace Cert.AttnReal
open Cert.AttnBwdIdeal Cert.AttnBwdIdeal.Gen Cert.AttnModel Cert.AttnTile
open Idealize.ShloMosaic Idealize.ShloMosaic.TcCoe

/-- A two-dimensional array of reals. -/
def up {a b : ℕ} (f : ℕ → ℕ → ℝ) : (⟨2, ![a, b]⟩ : Shape).Idx → EReal := fun j => ((f (j 0).val (j 1).val : ℝ) : EReal)

theorem up_ix2 {a b : ℕ} (f : ℕ → ℕ → ℝ) (i : Fin a) (j : Fin b) : up f (ix2 i j) = ((f i.val j.val : ℝ) : EReal) := rfl

theorem up_at {a b d e : ℕ} {f : ℕ → ℕ → ℝ} {i : (⟨2, ![a, b]⟩ : Shape).Idx} (n t : ℕ) (j : (⟨2, ![d, e]⟩ : Shape).Idx)
    (h0 : (i 0).val = t * n + (j 0).val) (h1 : (i 1).val = (j 1).val) : up f i = ((f (n * t + (j 0).val) (j 1).val : ℝ) : EReal) := by
  unfold up
  rw [h0, h1, mul_comm]

theorem one_row {n : ℕ} (j : (⟨2, ![1, n]⟩ : Shape).Idx) : ∃ i : Fin n, j = ix2 0 i := by
  obtain ⟨j0, j1, rfl⟩ : ∃ j0 j1, j = ix2 j0 j1 := ⟨j 0, j 1, eq_ix2 j⟩
  exact ⟨j1, by obtain rfl : j0 = 0 := by omega
                rfl⟩

theorem up_congr {a b : ℕ} {f g : ℕ → ℕ → ℝ} (h : ∀ i < a, ∀ j < b, f i j = g i j) : (up f : (⟨2, ![a, b]⟩ : Shape).Idx → EReal) = up g :=
  funext fun j => congrArg _ (h _ (j 0).isLt _ (j 1).isLt)

/-- A sum of reals is real. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

/-- A sum of products of reals is real. -/
theorem coe_sum_mul {n : ℕ} (f g : Fin n → ℝ) : (∑ k, ((f k : ℝ) : EReal) * ((g k : ℝ) : EReal)) = ((∑ k, f k * g k : ℝ) : EReal) := by
  rw [coe_sum]; exact Finset.sum_congr rfl fun k _ => (EReal.coe_mul _ _).symm

/-- The lanes of the first head. -/
abbrev lanes : IVec S1x128 1 := k0_pay96

theorem lanes_ix2 (l : Fin 128) : lanes (ix2 0 l) = if l.val < 64 then 1#1 else 0#1 := by
  revert l; decide +kernel

theorem select_lanes {α : Type} (l : Fin 128) (a b : α) : Scalar.select (lanes (ix2 0 l)) a b = if l.val < 64 then a else b := by
  rw [lanes_ix2]; split <;> rfl

/-- The two heads' rows one above the other, the other head's lanes zero. -/
def stackR (k : ℕ → ℕ → ℝ) : ℕ → ℕ → ℝ := fun j c =>
  if j < 256 then (if c < 64 then k j c else 0) else (if c < 64 then 0 else k (j - 256) c)

theorem stack_up (k : ℕ → ℕ → ℝ) : k0_pay104 (F := Ideal) lanes (up k) = up (stackR k) := by
  funext j
  idx_vars j
  pointwise [k0_pay104]
  simp only [select_lanes, up_ix2, stackR]
  split <;> split <;> rfl

/-- The product of two rows over the lanes of head `h`. -/
def dot (q k : ℕ → ℕ → ℝ) (h r s : ℕ) : ℝ := ∑ c ∈ Finset.range 64, q r (64 * h + c) * k s (64 * h + c)

/-- A value per head, row and column, the heads' columns side by side. -/
def pair (f : ℕ → ℕ → ℕ → ℝ) : ℕ → ℕ → ℝ := fun r j => f (j / 256) r (j % 256)

theorem dot_stack (q k : ℕ → ℕ → ℝ) (r j : ℕ) (hj : j < 512) :
    ∑ c : Fin 128, q r c.val * stackR k j c.val = pair (dot q k) r j := by
  rw [Fin.sum_univ_eq_sum_range (fun c => q r c * stackR k j c) 128, Finset.sum_range_add _ 64 64]
  unfold pair dot
  by_cases h : j < 256
  · rw [Nat.div_eq_of_lt h, Nat.mod_eq_of_lt h,
      Finset.sum_eq_zero (s := Finset.range 64) (f := fun x => q r (64 + x) * stackR k j (64 + x)) (fun c _ => by simp [stackR, h]),
      add_zero]
    refine Finset.sum_congr rfl fun c hc => ?_
    simp [stackR, h, Finset.mem_range.1 hc]
  · have h1 : j / 256 = 1 := by omega
    have h2 : j % 256 = j - 256 := by omega
    rw [h1, h2, Finset.sum_eq_zero (s := Finset.range 64) (f := fun x => q r x * stackR k j x)
      (fun c hc => by simp [stackR, h, Finset.mem_range.1 hc]), zero_add]
    refine Finset.sum_congr rfl fun c hc => ?_
    simp [stackR, h]

theorem mul_stack_up (q k : ℕ → ℕ → ℝ) (j : S256x512.Idx) :
    matmul (F := Ideal) (φ₁ := .bf16) (φ₂ := .bf16) dot_S256x128_S512x128_S256x512_1_1_0_0_n_n none (up q) (up (stackR k)) (constant S256x512 .f32 0x00000000#32) j
      = up (pair (dot q k)) j := by
  idx_vars j
  pointwise
  simp only [up_ix2, coe_sum_mul]
  rw [dot_stack _ _ _ _ j1.isLt]

/-- The base change of the logarithms. -/
def c2 : ℝ := (Real.log 2)⁻¹

theorem log2_pos : 0 < Real.log 2 := Real.log_pos (by norm_num)

theorem named_log2e : Named.named (F := Ideal) κ "log2e" (φ := .f32) 0x3FB8AA3B#32 = ((c2 : ℝ) : EReal) := rfl
theorem named_mask : Named.named (F := Ideal) κ "mask" (φ := .f32) 0xF149F2CA#32 = ⊥ := rfl
theorem named_exit : Named.named (F := Ideal) κ "exit" (φ := .f32) 0xC3168000#32 = ⊥ := rfl

/-- The logarithm of the sigmoid of `-z`. -/
def lsg (z : ℝ) : ℝ := -Real.log (1 + Real.exp z)

theorem rpow_two (x : ℝ) : (2 : ℝ).rpow (x * c2) = Real.exp x := by
  show (2 : ℝ) ^ (x * c2) = _
  rw [Real.rpow_def_of_pos (by norm_num)]
  congr 1; unfold c2; field_simp [log2_pos.ne']

theorem hit_real (z : ℝ) : min (z * c2) 0 - Real.log (1 + (2 : ℝ).rpow (0 - |z * c2|)) * c2 = c2 * (z + lsg z) := by
  have hc : 0 < c2 := inv_pos.2 log2_pos
  have h0 : (0 - |z * c2|) = (-|z|) * c2 := by rw [abs_mul, abs_of_pos hc]; ring
  rw [h0, rpow_two]
  have key : min z 0 - Real.log (1 + Real.exp (-|z|)) = z + lsg z := by
    unfold lsg
    rcases le_total z 0 with h | h
    · rw [min_eq_left h, abs_of_nonpos h, neg_neg]; ring
    · rw [min_eq_right h, abs_of_nonneg h]
      have : 1 + Real.exp z = Real.exp z * (1 + Real.exp (-z)) := by rw [mul_add, ← Real.exp_add]; simp [add_comm]
      rw [this, Real.log_mul (Real.exp_pos z).ne' (by positivity), Real.log_exp]; ring
  have hm : min (z * c2) 0 = min z 0 * c2 := by rw [min_mul_of_nonneg _ _ hc.le, zero_mul]
  rw [hm, ← sub_mul, key, mul_comm]

theorem hit_coe (z : ℝ) :
    min ((z * c2 : ℝ) : EReal) 0
      - Ideal.log (1 + FloatOps.exp2 (F := Ideal) (φ := .f32) ((0 : EReal) - FloatOps.absf (F := Ideal) (φ := .f32) ((z * c2 : ℝ) : EReal))) * ((c2 : ℝ) : EReal)
      = ((c2 * (z + lsg z) : ℝ) : EReal) := by
  have e1 : FloatOps.absf (F := Ideal) (φ := .f32) ((z * c2 : ℝ) : EReal) = ((|z * c2| : ℝ) : EReal) := by
    show max _ _ = _
    rw [← EReal.coe_neg, ← EReal.coe_strictMono.monotone.map_max]; rfl
  have e2 : (0 : EReal) - ((|z * c2| : ℝ) : EReal) = ((0 - |z * c2| : ℝ) : EReal) := by rw [EReal.coe_sub]; rfl
  have e3 : FloatOps.exp2 (F := Ideal) (φ := .f32) ((0 - |z * c2| : ℝ) : EReal) = (((2 : ℝ).rpow (0 - |z * c2|) : ℝ) : EReal) := rfl
  have hp : 0 < (2 : ℝ).rpow (0 - |z * c2|) := Real.rpow_pos_of_pos (by norm_num) _
  have e4 : (1 : EReal) + (((2 : ℝ).rpow (0 - |z * c2|) : ℝ) : EReal) = ((1 + (2 : ℝ).rpow (0 - |z * c2|) : ℝ) : EReal) := by
    rw [EReal.coe_add]; rfl
  have e5 : min ((z * c2 : ℝ) : EReal) 0 = ((min (z * c2) 0 : ℝ) : EReal) := by
    rw [EReal.coe_strictMono.monotone.map_min]; rfl
  rw [e1, e2, e3, e4, e5, Ideal.log_coe, if_neg (by linarith), ← EReal.coe_mul, ← EReal.coe_sub, hit_real]

theorem score_up (q k : ℕ → ℕ → ℝ) : k0_pay106 (F := Ideal) lanes (up q) (up k) = up (pair fun h r s => dot q k h r s * c2) := by
  funext j
  have e : k0_pay106 (F := Ideal) lanes (up q) (up k) j
      = (matmul (F := Ideal) (φ₁ := .bf16) (φ₂ := .bf16) dot_S256x128_S512x128_S256x512_1_1_0_0_n_n none (up q) (k0_pay104 lanes (up k)) (constant S256x512 .f32 0x00000000#32) j : EReal)
        * (Named.named (F := Ideal) κ "log2e" (φ := .f32) 0x3FB8AA3B#32 : EReal) := rfl
  rw [e, stack_up, mul_stack_up, named_log2e]
  exact (EReal.coe_mul _ _).symm

theorem hit_up (q k : ℕ → ℕ → ℝ) :
    k0_pay107 (F := Ideal) lanes (up q) (up k) = up (pair fun h r s => c2 * (dot q k h r s + lsg (dot q k h r s))) := by
  funext j
  idx_vars j
  pointwise [k0_pay107]
  rw [score_up, named_log2e]
  simp only [up_ix2, pair]
  exact hit_coe _

theorem fail_up (q k : ℕ → ℕ → ℝ) :
    k0_pay108 (F := Ideal) lanes (up q) (up k) = up (pair fun h r s => c2 * lsg (dot q k h r s)) := by
  funext j
  idx_vars j
  pointwise [k0_pay108]
  rw [score_up, hit_up]
  simp only [up_ix2, pair, ← EReal.coe_sub]
  congr 1; ring

/-! ### Running sums -/

/-- A value per row, held along the lanes. -/
def ln (c : ℕ → ℝ) : S256x128.Idx → EReal := up fun r _ => c r

/-- The triangle of the sums over later columns. -/
def triL : S256x256.Idx → EReal := up fun j s => if s < j then 1 else 0

/-- The triangle of the sums over earlier columns. -/
def triR : S256x256.Idx → EReal := up fun j s => if j < s then 1 else 0

theorem colsA_up (φ : FTy) (f : ℕ → ℕ → ℕ → ℝ) : colsA (F := Ideal) (φ := φ) (up (pair f)) = up (f 0) := by
  funext j
  idx_vars j
  pointwise [colsA]
  simp only [up_ix2, pair]
  rw [show (j1 : ℕ) / 256 = 0 from Nat.div_eq_of_lt j1.isLt, Nat.mod_eq_of_lt j1.isLt]

theorem colsB_up (φ : FTy) (f : ℕ → ℕ → ℕ → ℝ) : colsB (F := Ideal) (φ := φ) (up (pair f)) = up (f 1) := by
  funext j
  idx_vars j
  pointwise [colsB]
  simp only [up_ix2, pair]
  have h := j1.isLt
  rw [show (256 + (j1 : ℕ)) / 256 = 1 by omega, show (256 + (j1 : ℕ)) % 256 = j1 by omega]

theorem side_up (f : ℕ → ℕ → ℕ → ℝ) : side (F := Ideal) (up (f 0)) (up (f 1)) = up (pair f) := by
  funext j
  idx_vars j
  pointwise [side]
  simp only [up_ix2, pair]
  have h := j1.isLt
  split
  · rename_i h1
    rw [show (j1 : ℕ) / 256 = 0 from Nat.div_eq_of_lt h1, Nat.mod_eq_of_lt h1]
  · rename_i h1
    rw [show (j1 : ℕ) / 256 = 1 by omega, show (j1 : ℕ) % 256 = j1 - 256 by omega]

theorem tri_up (x u : ℕ → ℕ → ℝ) :
    tri (F := Ideal) (up u) (up x) = up (fun r s => ∑ j ∈ Finset.range 256, x r j * u j s) := by
  funext j
  idx_vars j
  pointwise [tri]
  simp only [up_ix2, coe_sum_mul]
  rw [Fin.sum_univ_eq_sum_range (fun c => x j0 c * u c j1) 256]

theorem spread_ln (c : ℕ → ℝ) : spread (F := Ideal) (ln c) = up (fun r _ => c r) := by
  funext j
  idx_vars j
  pointwise [spread]
  simp only [ln, up_ix2]
  split <;> rfl

theorem scanL_up (x : ℕ → ℕ → ℝ) (c : ℕ → ℝ) :
    scan (F := Ideal) triL (up x) (ln c) = up (fun r s => ∑ j ∈ Finset.range 256, (if s < j then x r j else 0) + c r) := by
  funext j
  show tri (F := Ideal) triL (up x) j + spread (F := Ideal) (ln c) j = _
  rw [triL, tri_up, spread_ln]
  simp only [up, ← EReal.coe_add, mul_ite, mul_one, mul_zero]

theorem scanR_up (x : ℕ → ℕ → ℝ) (c : ℕ → ℝ) :
    scan (F := Ideal) triR (up x) (ln c) = up (fun r s => ∑ j ∈ Finset.range 256, (if j < s then x r j else 0) + c r) := by
  funext j
  show tri (F := Ideal) triR (up x) j + spread (F := Ideal) (ln c) j = _
  rw [triR, tri_up, spread_ln]
  simp only [up, ← EReal.coe_add, mul_ite, mul_one, mul_zero]

theorem sum_first (x : ℕ → ℝ) : ∑ j ∈ Finset.range 256, x j * (if 0 < j then 1 else 0) + x 0 = ∑ j ∈ Finset.range 256, x j := by
  rw [Finset.sum_range_succ' _ 255, Finset.sum_range_succ' _ 255]
  simp

theorem sum_last (x : ℕ → ℝ) : ∑ j ∈ Finset.range 256, x j * (if j < 255 then 1 else 0) + x 255 = ∑ j ∈ Finset.range 256, x j := by
  rw [Finset.sum_range_succ _ 255, Finset.sum_range_succ _ 255]
  rw [Finset.sum_congr rfl fun j hj => by rw [if_pos (Finset.mem_range.1 hj), mul_one]]
  simp

theorem carryL_up (x : ℕ → ℕ → ℝ) (c : ℕ → ℝ) :
    carryL (F := Ideal) triL (up x) (ln c) = ln (fun r => c r + ∑ j ∈ Finset.range 256, x r j) := by
  funext j
  idx_vars j
  pointwise [carryL]
  change ln c _ + (tri (F := Ideal) triL (up x) (ix2 j0 0) + up x (ix2 j0 0)) = _
  rw [triL, tri_up]
  simp only [ln, up_ix2, ← EReal.coe_add]
  exact congrArg (fun t : ℝ => ((c j0 + t : ℝ) : EReal)) (sum_first _)

theorem carryR_up (x : ℕ → ℕ → ℝ) (c : ℕ → ℝ) :
    carryR (F := Ideal) triR (up x) (ln c) = ln (fun r => c r + ∑ j ∈ Finset.range 256, x r j) := by
  funext j
  idx_vars j
  pointwise [carryR]
  rw [triR, tri_up]
  simp only [ln, up_ix2, ← EReal.coe_add]
  exact congrArg (fun t : ℝ => ((c j0 + t : ℝ) : EReal)) (sum_last _)

/-! ### The largest running sum -/

theorem fold_max_ne {ι : Type} [Fintype ι] (f : ι → EReal) (b : EReal) (k : ι) (h : f k ≠ ⊥) :
    (Finset.univ.fold max b f) ≠ ⊥ := by
  intro e
  have h1 : f k ≤ Finset.univ.fold max b f := (Finset.le_fold_max _).2 (Or.inr ⟨k, Finset.mem_univ k, le_rfl⟩)
  rw [e] at h1
  exact h (le_bot_iff.1 h1)

theorem top_ln (a b : ℕ → ℝ) : k0_pay120 (F := Ideal) (ln a) (ln b) ≠ ⊥ := by
  pointwise [k0_pay120]
  refine fold_max_ne _ _ (0, 0) fun h => ?_
  exact EReal.coe_ne_bot _ (max_eq_bot.1 h).1

/-! ### The first pass -/

/-- A slab of stored gradients. -/
def upS (f : ℕ → ℕ → ℝ) : S1x1x256x512.Idx → EReal := fun j => ((f (j 2).val (j 3).val : ℝ) : EReal)

theorem exp2_coe_c2 (x : ℝ) : Ideal.exp2 ((c2 * x : ℝ) : EReal) = ((Real.exp x : ℝ) : EReal) := by
  rw [Ideal.exp2_coe, mul_comm, rpow_two]

theorem expo_up (H f : ℕ → ℕ → ℕ → ℝ) (C : ℕ → ℕ → ℝ) :
    expo (F := Ideal) triL (up (pair fun h r s => c2 * H h r s)) (up (pair fun h r s => c2 * f h r s))
        (ln fun r => c2 * C 0 r) (ln fun r => c2 * C 1 r)
      = up (pair fun h r s => c2 * (H h r s + (∑ j ∈ Finset.range 256, (if s < j then f h r j else 0) + C h r))) := by
  funext j
  show up _ j + side (F := Ideal) (scan (F := Ideal) triL (colsA (F := Ideal) (φ := .f32) (up (pair fun h r s => c2 * f h r s))) (ln fun r => c2 * C 0 r))
    (scan (F := Ideal) triL (colsB (F := Ideal) (φ := .f32) (up (pair fun h r s => c2 * f h r s))) (ln fun r => c2 * C 1 r)) j = _
  rw [colsA_up, colsB_up, scanL_up, scanL_up,
    side_up (fun h r s => ∑ j ∈ Finset.range 256, (if s < j then c2 * f h r j else 0) + c2 * C h r)]
  simp only [up, ← EReal.coe_add, pair]
  congr 1
  rw [mul_add, mul_add, Finset.mul_sum]
  simp only [mul_ite, mul_zero]

theorem slab_up (d v : ℕ → ℕ → ℝ) (w : ℕ → ℕ → ℕ → ℝ) :
    slab (F := Ideal) lanes (up d) (up v) (up (pair w)) = upS (pair fun h r s => dot d v h r s * w h r s) := by
  funext j
  idx_vars j
  pointwise [slab]
  rw [stack_up]
  simp only [up_ix2, coe_sum_mul]
  rw [dot_stack _ _ _ _ j3.isLt, ← EReal.coe_mul]
  rfl

theorem fold_up (d : ℕ → ℕ → ℝ) (w : ℕ → ℕ → ℕ → ℝ) (a : ℕ → ℕ → ℝ) :
    fold (F := Ideal) lanes (up d) (up (pair w)) (up a)
      = up (fun s l => a s l + ∑ r ∈ Finset.range 256, w (l / 64) r s * d r l) := by
  funext j
  idx_vars j
  pointwise [fold]
  simp only [up_ix2, select_lanes, coe_sum_mul]
  have h := j0.isLt
  split
  · rename_i h1
    rw [← EReal.coe_add, Nat.div_eq_of_lt h1, Fin.sum_univ_eq_sum_range (fun k => pair w k j0 * d k j1) 256]
    simp only [pair, Nat.div_eq_of_lt h, Nat.mod_eq_of_lt h]
  · rename_i h1
    have h2 := j1.isLt
    rw [← EReal.coe_add, show (j1 : ℕ) / 64 = 1 by omega, Fin.sum_univ_eq_sum_range (fun k => pair w k (256 + j0) * d k j1) 256]
    simp only [pair, show (256 + (j0 : ℕ)) / 256 = 1 by omega, show (256 + (j0 : ℕ)) % 256 = j0 by omega]

/-- The attention weights of a tile beside finished running sums `C`. -/
def wgt (q k : ℕ → ℕ → ℝ) (C : ℕ → ℕ → ℝ) (h r s : ℕ) : ℝ :=
  Real.exp (dot q k h r s + lsg (dot q k h r s) + (∑ j ∈ Finset.range 256, (if s < j then lsg (dot q k h r j) else 0) + C h r))

/-- The attention weights of a tile on the diagonal. -/
def wgtD (q k : ℕ → ℕ → ℝ) (h r s : ℕ) : ℝ :=
  if s < r then
    Real.exp (dot q k h r s + lsg (dot q k h r s)
      + ∑ j ∈ Finset.range 256, (if s < j then (if j < r then lsg (dot q k h r j) else 0) else 0))
  else 0

/-- The weights of a tile beside finished running sums. -/
theorem wgt_up (q k : ℕ → ℕ → ℝ) (C : ℕ → ℕ → ℝ) :
    exp2 (F := Ideal) (φ := .f32) (expo (F := Ideal) triL (k0_pay107 (F := Ideal) lanes (up q) (up k)) (k0_pay108 (F := Ideal) lanes (up q) (up k))
      (ln fun r => c2 * C 0 r) (ln fun r => c2 * C 1 r)) = up (pair (wgt q k C)) := by
  rw [hit_up, fail_up, expo_up]
  funext j
  exact exp2_coe_c2 _

theorem one_up (q d k v a : ℕ → ℕ → ℝ) (C : ℕ → ℕ → ℝ) :
    ∃ t : EReal, t ≠ ⊥ ∧
      one (F := Ideal) lanes triL (up q) (up d) (up k) (up v) (ln fun r => c2 * C 0 r) (ln fun r => c2 * C 1 r) (up a)
        = ((t, ln fun r => c2 * (C 0 r + ∑ j ∈ Finset.range 256, lsg (dot q k 0 r j)),
              ln fun r => c2 * (C 1 r + ∑ j ∈ Finset.range 256, lsg (dot q k 1 r j))),
            upS (pair fun h r s => dot d v h r s * wgt q k C h r s),
            up fun s l => a s l + ∑ r ∈ Finset.range 256, wgt q k C (l / 64) r s * d r l) := by
  have hw := wgt_up q k C
  have hx : ∀ h, carryL (F := Ideal) triL (up fun r s => c2 * lsg (dot q k h r s)) (ln fun r => c2 * C h r)
      = ln fun r => c2 * (C h r + ∑ j ∈ Finset.range 256, lsg (dot q k h r j)) := fun h => by
    rw [carryL_up]; simp only [mul_add, Finset.mul_sum]
  refine ⟨k0_pay120 (F := Ideal) (ln fun r => c2 * (C 0 r + ∑ j ∈ Finset.range 256, lsg (dot q k 0 r j)))
    (ln fun r => c2 * (C 1 r + ∑ j ∈ Finset.range 256, lsg (dot q k 1 r j))), top_ln _ _, ?_⟩
  have hA : carryL (F := Ideal) triL (colsA (F := Ideal) (k0_pay108 (F := Ideal) lanes (up q) (up k))) (ln fun r => c2 * C 0 r)
      = ln fun r => c2 * (C 0 r + ∑ j ∈ Finset.range 256, lsg (dot q k 0 r j)) := by rw [fail_up, colsA_up, hx 0]
  have hB : carryL (F := Ideal) triL (colsB (F := Ideal) (k0_pay108 (F := Ideal) lanes (up q) (up k))) (ln fun r => c2 * C 1 r)
      = ln fun r => c2 * (C 1 r + ∑ j ∈ Finset.range 256, lsg (dot q k 1 r j)) := by rw [fail_up, colsB_up, hx 1]
  unfold one
  dsimp only
  rw [hw, hA, hB, slab_up]
  refine Prod.ext rfl (Prod.ext rfl ?_)
  exact fold_up d (wgt q k C) a

/-- The causal mask of a tile on the diagonal. -/
def IsDiag (msk : IVec S256x512 1) : Prop := ∀ (r : Fin 256) (j : Fin 512), msk (ix2 r j) = if j.val % 256 < r.val then 1#1 else 0#1

theorem select_diag {msk : IVec S256x512 1} (hm : IsDiag msk) (f : ℕ → ℕ → ℕ → ℝ) (b : EReal) (j : S256x512.Idx) :
    select msk (up (pair f) : FVec Ideal S256x512 .f32) (broadcast S256x512 b) j
      = if (j 1).val % 256 < (j 0).val then up (pair f) j else b := by
  idx_vars j
  pointwise
  rw [hm]
  show _ = if (j1 : ℕ) % 256 < (j0 : ℕ) then _ else _
  split <;> rfl

/-- The zero tile, as a running sum. -/
theorem zero_ln : k0_pay103 (F := Ideal) = ln fun r => c2 * (fun (_ _ : ℕ) => (0 : ℝ)) 0 r := by
  funext j
  show Ideal.ofBits .f32 0x00000000#32 = _
  rw [Ideal.ofBits_zero_f32]
  simp [ln, up]

/-- The logarithms of a tile on the diagonal that the running sums add. -/
theorem failD_up {msk : IVec S256x512 1} (hm : IsDiag msk) (q k : ℕ → ℕ → ℝ) :
    (select msk (k0_pay108 (F := Ideal) lanes (up q) (up k)) (k0_pay109 (F := Ideal)) : FVec Ideal S256x512 .f32)
    = up (pair fun h r s => c2 * (if s < r then lsg (dot q k h r s) else 0)) := by
  funext j
  rw [fail_up, show k0_pay109 (F := Ideal) = broadcast S256x512 (0 : EReal) from by
    funext j; show Ideal.ofBits .f32 0x00000000#32 = _; rw [Ideal.ofBits_zero_f32]; rfl, select_diag hm]
  simp only [up, pair]
  split <;> simp

/-- The weights of a tile on the diagonal. -/
theorem wgtD_up {msk : IVec S256x512 1} (hm : IsDiag msk) (q k : ℕ → ℕ → ℝ) :
    exp2 (F := Ideal) (φ := .f32) (select msk
    (expo (F := Ideal) triL (k0_pay107 (F := Ideal) lanes (up q) (up k))
      (up (pair fun h r s => c2 * (if s < r then lsg (dot q k h r s) else 0)))
      (ln fun r => c2 * (fun (_ _ : ℕ) => (0 : ℝ)) 0 r) (ln fun r => c2 * (fun (_ _ : ℕ) => (0 : ℝ)) 0 r))
    (broadcast S256x512 (Named.named (F := Ideal) κ "mask" (φ := .f32) 0xF149F2CA#32))) = up (pair (wgtD q k)) := by
  have hz1 : (ln fun r => c2 * (fun (_ _ : ℕ) => (0 : ℝ)) 0 r) = (ln fun r => c2 * (fun (_ _ : ℕ) => (0 : ℝ)) 1 r) := rfl
  have e := expo_up (fun h r s => dot q k h r s + lsg (dot q k h r s)) (fun h r s => if s < r then lsg (dot q k h r s) else 0)
    (fun _ _ => 0)
  rw [hit_up]
  rw [← hz1] at e
  funext j
  show Ideal.exp2 (select msk _ _ j) = _
  rw [e, named_mask, select_diag hm]
  simp only [up, pair, wgtD]
  split
  · rw [exp2_coe_c2, add_zero]
  · exact Ideal.exp2_bot

theorem oneD_up {msk : IVec S256x512 1} (hm : IsDiag msk) (q d k v a : ℕ → ℕ → ℝ) :
    ∃ t : EReal, t ≠ ⊥ ∧
      oneD (F := Ideal) msk lanes triL (up q) (up d) (up k) (up v) (up a)
        = ((t, ln fun r => c2 * ∑ j ∈ Finset.range 256, (if j < r then lsg (dot q k 0 r j) else 0),
              ln fun r => c2 * ∑ j ∈ Finset.range 256, (if j < r then lsg (dot q k 1 r j) else 0)),
            upS (pair fun h r s => dot d v h r s * wgtD q k h r s),
            up fun s l => a s l + ∑ r ∈ Finset.range 256, wgtD q k (l / 64) r s * d r l) := by
  have hz := zero_ln
  have hz1 : (ln fun r => c2 * (fun (_ _ : ℕ) => (0 : ℝ)) 0 r) = (ln fun r => c2 * (fun (_ _ : ℕ) => (0 : ℝ)) 1 r) := rfl
  have hf := failD_up hm q k
  have hw := wgtD_up hm q k
  have hx : ∀ h, carryL (F := Ideal) triL (up fun r s => c2 * (if s < r then lsg (dot q k h r s) else 0)) (ln fun r => c2 * (fun (_ _ : ℕ) => (0 : ℝ)) 0 r)
      = ln fun r => c2 * ∑ j ∈ Finset.range 256, (if j < r then lsg (dot q k h r j) else 0) := fun h => by
    rw [carryL_up]; simp only [mul_zero, zero_add, Finset.mul_sum]
  refine ⟨k0_pay120 (F := Ideal) (ln fun r => c2 * ∑ j ∈ Finset.range 256, (if j < r then lsg (dot q k 0 r j) else 0))
    (ln fun r => c2 * ∑ j ∈ Finset.range 256, (if j < r then lsg (dot q k 1 r j) else 0)), top_ln _ _, ?_⟩
  unfold oneD
  dsimp only
  rw [hf, hz, hw, colsA_up, colsB_up, hx 0, hx 1, slab_up]
  refine Prod.ext rfl (Prod.ext rfl ?_)
  exact fold_up d (wgtD q k) a

/-! ### The second pass -/

/-- The sigmoid. -/
def sg (z : ℝ) : ℝ := (1 + Real.exp (-z))⁻¹

theorem sig_up (q k : ℕ → ℕ → ℝ) : k0_pay40 (F := Ideal) lanes (up q) (up k) = up (pair fun h r s => sg (dot q k h r s)) := by
  funext j
  show Ideal.ofBits .f32 0x3F000000#32 * Ideal.tanh (Ideal.ofBits .f32 0x3F000000#32
    * (matmul (F := Ideal) (φ₁ := .bf16) (φ₂ := .bf16) dot_S256x128_S512x128_S256x512_1_1_0_0_n_n none (up q) (k0_pay104 (F := Ideal) lanes (up k)) (constant S256x512 .f32 0x00000000#32) j : EReal))
    + Ideal.ofBits .f32 0x3F000000#32 = _
  rw [Reals.sigmoid, stack_up, mul_stack_up]
  exact Ideal.logistic_coe _

theorem slab_read (g : ℕ → ℕ → ℝ) : k0_pay39 (F := Ideal) (upS g) = up g := by
  funext j
  idx_vars j
  pointwise [k0_pay39]
  rfl

/-- The gradient of the logits of a tile. -/
def dlg (q k : ℕ → ℕ → ℝ) (G : ℕ → ℕ → ℕ → ℝ) (P : ℕ → ℕ → ℝ) (h r s : ℕ) : ℝ :=
  G h r s * (1 - sg (dot q k h r s))
    - sg (dot q k h r s) * (∑ j ∈ Finset.range 256, (if j < s then G h r j else 0) + P h r)

theorem dlogit_up (q k : ℕ → ℕ → ℝ) (G : ℕ → ℕ → ℕ → ℝ) (P : ℕ → ℕ → ℝ) :
    dlogit (F := Ideal) triR (up (pair G)) (up (pair fun h r s => sg (dot q k h r s))) (ln (P 0)) (ln (P 1))
      = up (pair (dlg q k G P)) := by
  funext j
  show up (pair G) j * (Ideal.ofBits .f32 0x3F800000#32 - up _ j)
    - up _ j * side (F := Ideal) (scan (F := Ideal) triR (colsA (F := Ideal) (φ := .bf16) (up (pair G))) (ln (P 0)))
      (scan (F := Ideal) triR (colsB (F := Ideal) (φ := .bf16) (up (pair G))) (ln (P 1))) j = _
  rw [colsA_up, colsB_up, scanR_up, scanR_up, Ideal.ofBits_one_f32,
    side_up (fun h r s => ∑ j ∈ Finset.range 256, (if j < s then G h r j else 0) + P h r)]
  simp only [up, pair, dlg]
  rw [show (1 : EReal) = ((1 : ℝ) : EReal) from rfl, ← EReal.coe_sub, ← EReal.coe_mul, ← EReal.coe_mul, ← EReal.coe_sub]

theorem addq_up (k a : ℕ → ℕ → ℝ) (z : ℕ → ℕ → ℕ → ℝ) :
    addq (F := Ideal) lanes (up k) (up (pair z)) (up a)
      = up (fun r c => a r c + ∑ s ∈ Finset.range 256, z (c / 64) r s * k s c) := by
  funext j
  idx_vars j
  pointwise [addq]
  rw [stack_up]
  simp only [up_ix2, coe_sum_mul, ← EReal.coe_add]
  congr 2
  rw [Fin.sum_univ_eq_sum_range (fun s => pair z j0 s * stackR k s j1) 512, Finset.sum_range_add _ 256 256]
  have h := j1.isLt
  by_cases h1 : (j1 : ℕ) < 64
  · rw [Finset.sum_eq_zero (s := Finset.range 256) (f := fun x => pair z j0 (256 + x) * stackR k (256 + x) j1)
      (fun c _ => by simp [stackR, h1]), add_zero]
    refine Finset.sum_congr rfl fun s hs => ?_
    have hs := Finset.mem_range.1 hs
    simp only [pair, stackR, if_pos hs, if_pos h1, Nat.div_eq_of_lt hs, Nat.mod_eq_of_lt hs, Nat.div_eq_of_lt h1]
  · rw [Finset.sum_eq_zero (s := Finset.range 256) (f := fun x => pair z j0 x * stackR k x j1)
      (fun c hc => by simp [stackR, h1, Finset.mem_range.1 hc]), zero_add]
    refine Finset.sum_congr rfl fun s hs => ?_
    have hs := Finset.mem_range.1 hs
    simp only [pair, stackR, if_neg (show ¬ 256 + s < 256 by omega), if_neg h1, show (256 + s) / 256 = 1 by omega,
      show (256 + s) % 256 = s by omega, show 256 + s - 256 = s by omega, show (j1 : ℕ) / 64 = 1 by omega]

theorem two_up (q k : ℕ → ℕ → ℝ) (G : ℕ → ℕ → ℕ → ℝ) (b a : ℕ → ℕ → ℝ) (P : ℕ → ℕ → ℝ) :
    two (F := Ideal) lanes triR (up q) (up k) (upS (pair G)) (up b, ln (P 0), ln (P 1)) (up a)
      = ((up fun r c => b r c + ∑ s ∈ Finset.range 256, dlg q k G P (c / 64) r s * k s c,
          ln fun r => P 0 r + ∑ j ∈ Finset.range 256, G 0 r j, ln fun r => P 1 r + ∑ j ∈ Finset.range 256, G 1 r j),
        up fun s l => a s l + ∑ r ∈ Finset.range 256, dlg q k G P (l / 64) r s * q r l) := by
  have ht : (truncf (F := Ideal) .bf16 (up (pair (dlg q k G P)) : FVec Ideal S256x512 .f32) bitsLt_bf16_f32 : FVec Ideal S256x512 .bf16)
      = up (pair (dlg q k G P)) := rfl
  unfold two
  dsimp only
  rw [slab_read, sig_up, dlogit_up, colsA_up, colsB_up, carryR_up, carryR_up, ht, addq_up, fold_up]

/-- The gradient of the logits of a tile on the diagonal. -/
def dlgD (q k : ℕ → ℕ → ℝ) (G : ℕ → ℕ → ℕ → ℝ) (P : ℕ → ℕ → ℝ) (h r s : ℕ) : ℝ := if s < r then dlg q k G P h r s else 0

theorem eighth_f32 : Ideal.ofBits .f32 0x3E000000#32 = (((1 : ℝ) / 8 : ℝ) : EReal) := by
  simp [Ideal.ofBits, Ideal.ieee, -EReal.coe_mul]
  norm_num

theorem eighth_bf16 : Ideal.ofBits .bf16 0x3E00#16 = (((1 : ℝ) / 8 : ℝ) : EReal) := by
  simp [Ideal.ofBits, Ideal.ieee, -EReal.coe_mul]
  norm_num

theorem twoD_up {msk : IVec S256x512 1} (hm : IsDiag msk) (q k : ℕ → ℕ → ℝ) (G : ℕ → ℕ → ℕ → ℝ) (b a : ℕ → ℕ → ℝ) (P : ℕ → ℕ → ℝ) :
    twoD (F := Ideal) msk lanes triR (up q) (up k) (upS (pair G)) (up b, ln (P 0), ln (P 1)) (up a)
      = (up fun r c => (b r c + ∑ s ∈ Finset.range 256, dlgD q k G P (c / 64) r s * k s c) * (1 / 8),
        up fun s l => a s l + ∑ r ∈ Finset.range 256, dlgD q k G P (l / 64) r s * q r l) := by
  have ht : (truncf (F := Ideal) .bf16 (select msk (up (pair (dlg q k G P)) : FVec Ideal S256x512 .f32)
      (broadcast S256x512 (Scalar.ofBits (F := Ideal) .f32 0x00000000#32))) bitsLt_bf16_f32 : FVec Ideal S256x512 .bf16)
      = up (pair (dlgD q k G P)) := by
    funext j
    show select msk _ _ j = _
    rw [select_diag hm]
    show (if _ then _ else Ideal.ofBits .f32 0x00000000#32) = _
    rw [Ideal.ofBits_zero_f32]
    simp only [up, pair, dlgD]
    split <;> rfl
  unfold twoD
  dsimp only
  rw [slab_read, sig_up, dlogit_up, ht, addq_up, fold_up]
  refine Prod.ext ?_ rfl
  funext j
  show up _ j * Ideal.ofBits .f32 0x3E000000#32 = _
  rw [eighth_f32]
  exact (EReal.coe_mul _ _).symm

end Cert.AttnReal
end
-- ==== Proof.AttnSpec.lean ====
/- The gradients of the attention of a pair of heads as functions of real arrays, and the same sums taken key block by
   key block. -/
module

public import proofs.«01_k».proof.Proof.AttnReal

@[expose] public section

noncomputable section

namespace Cert.AttnSpec
open Cert.AttnReal

variable (Q K V D : ℕ → ℕ → ℝ)

/-- The logarithm of the probability of passing a key, of the keys before the query. -/
def LL (h t s : ℕ) : ℝ := if s < t then lsg (dot Q K h t s) else 0

/-- The attention weights. -/
def AA (h t s : ℕ) : ℝ :=
  if s < t then
    Real.exp (dot Q K h t s + lsg (dot Q K h t s) + ∑ j ∈ Finset.range 8192, (if s < j then LL Q K h t j else 0))
  else 0

/-- The gradients of the exponents. -/
def GG (h t s : ℕ) : ℝ := dot D V h t s * AA Q K h t s

/-- The gradients of the logits. -/
def ZZ (h t s : ℕ) : ℝ :=
  if s < t then
    GG Q K V D h t s * (1 - sg (dot Q K h t s))
      - sg (dot Q K h t s) * ∑ j ∈ Finset.range 8192, (if j < s then GG Q K V D h t j else 0)
  else 0

/-- The gradient of the queries. -/
def dQ (t c : ℕ) : ℝ := (∑ s ∈ Finset.range 8192, ZZ Q K V D (c / 64) t s * K s c) * (1 / 8)

/-- The gradient of the keys. -/
def dK (s c : ℕ) : ℝ := ∑ t ∈ Finset.range 8192, ZZ Q K V D (c / 64) t s * Q t c

/-- The gradient of the values. -/
def dV (s c : ℕ) : ℝ := ∑ t ∈ Finset.range 8192, AA Q K (c / 64) t s * D t c

/-! ### Sums by blocks of 256 -/

/-- The rows of block `x`. -/
def tl (x : ℕ) (f : ℕ → ℕ → ℝ) : ℕ → ℕ → ℝ := fun r c => f (256 * x + r) c

theorem sum_block (x : ℕ) (hx : x < 32) (f : ℕ → ℝ) :
    ∑ j ∈ Finset.range 8192, (if j / 256 = x then f j else 0) = ∑ j ∈ Finset.range 256, f (256 * x + j) := by
  rw [← Finset.sum_filter]
  refine Finset.sum_nbij' (fun j => j - 256 * x) (fun j => 256 * x + j) ?_ ?_ ?_ ?_ ?_
  · intro j hj; simp only [Finset.mem_filter, Finset.mem_range] at hj ⊢; omega
  · intro j hj; simp only [Finset.mem_filter, Finset.mem_range] at hj ⊢; omega
  · intro j hj; simp only [Finset.mem_filter, Finset.mem_range] at hj; omega
  · intro j hj; omega
  · intro j hj; simp only [Finset.mem_filter, Finset.mem_range] at hj; congr 1; omega

/-- What block `x` adds to a sum over the keys before `n` blocks. -/
theorem sum_below (x : ℕ) (hx : x < 32) (f : ℕ → ℝ) :
    ∑ j ∈ Finset.range 8192, (if j < 256 * x then f j else 0) + ∑ j ∈ Finset.range 256, f (256 * x + j)
      = ∑ j ∈ Finset.range 8192, (if j < 256 * (x + 1) then f j else 0) := by
  rw [← sum_block x hx, ← Finset.sum_add_distrib]
  refine Finset.sum_congr rfl fun j _ => ?_
  by_cases h1 : j < 256 * x
  · rw [if_pos h1, if_neg (by omega), if_pos (by omega), add_zero]
  · by_cases h2 : j / 256 = x
    · rw [if_neg h1, if_pos h2, if_pos (by omega), zero_add]
    · rw [if_neg h1, if_neg h2, if_neg (by omega), zero_add]

/-- What block `x` adds to a sum over the keys of later blocks. -/
theorem sum_above (x : ℕ) (hx : x < 32) (f : ℕ → ℝ) :
    ∑ j ∈ Finset.range 8192, (if 256 * (x + 1) ≤ j then f j else 0) + ∑ j ∈ Finset.range 256, f (256 * x + j)
      = ∑ j ∈ Finset.range 8192, (if 256 * x ≤ j then f j else 0) := by
  rw [← sum_block x hx, ← Finset.sum_add_distrib]
  refine Finset.sum_congr rfl fun j _ => ?_
  by_cases h1 : 256 * (x + 1) ≤ j
  · rw [if_pos h1, if_neg (by omega), if_pos (by omega), add_zero]
  · by_cases h2 : j / 256 = x
    · rw [if_neg h1, if_pos h2, if_pos (by omega), zero_add]
    · rw [if_neg h1, if_neg h2, if_neg (by omega), zero_add]

/-- The keys after a key of block `x`: those of its block and those of later blocks. -/
theorem sum_after (x s : ℕ) (hx : x < 32) (hs : s < 256) (f : ℕ → ℝ) :
    ∑ j ∈ Finset.range 256, (if s < j then f (256 * x + j) else 0) + ∑ j ∈ Finset.range 8192, (if 256 * (x + 1) ≤ j then f j else 0)
      = ∑ j ∈ Finset.range 8192, (if 256 * x + s < j then f j else 0) := by
  have e := sum_block x hx (fun j => if 256 * x + s < j then f j else 0)
  rw [show ∑ j ∈ Finset.range 256, (if s < j then f (256 * x + j) else 0)
      = ∑ j ∈ Finset.range 256, (if 256 * x + s < 256 * x + j then f (256 * x + j) else 0) from
    Finset.sum_congr rfl fun j _ => by simp, ← e, ← Finset.sum_add_distrib]
  refine Finset.sum_congr rfl fun j _ => ?_
  by_cases h1 : 256 * (x + 1) ≤ j
  · rw [if_pos h1, if_neg (by omega), if_pos (by omega), zero_add]
  · by_cases h2 : j / 256 = x
    · rw [if_pos h2, if_neg h1, add_zero]
    · rw [if_neg h2, if_neg h1, if_neg (by omega), zero_add]

/-- The keys before a key of block `x`: those of its block and those of earlier blocks. -/
theorem sum_before (x s : ℕ) (hx : x < 32) (hs : s < 256) (f : ℕ → ℝ) :
    ∑ j ∈ Finset.range 256, (if j < s then f (256 * x + j) else 0) + ∑ j ∈ Finset.range 8192, (if j < 256 * x then f j else 0)
      = ∑ j ∈ Finset.range 8192, (if j < 256 * x + s then f j else 0) := by
  have e := sum_block x hx (fun j => if j < 256 * x + s then f j else 0)
  rw [show ∑ j ∈ Finset.range 256, (if j < s then f (256 * x + j) else 0)
      = ∑ j ∈ Finset.range 256, (if 256 * x + j < 256 * x + s then f (256 * x + j) else 0) from
    Finset.sum_congr rfl fun j _ => by simp, ← e, ← Finset.sum_add_distrib]
  refine Finset.sum_congr rfl fun j _ => ?_
  by_cases h1 : j < 256 * x
  · rw [if_pos h1, if_neg (by omega), if_pos (by omega), zero_add]
  · by_cases h2 : j / 256 = x
    · rw [if_pos h2, if_neg h1, add_zero]
    · rw [if_neg h2, if_neg h1, if_neg (by omega), zero_add]

/-! ### What the two passes carry -/

/-- The running sum of the first pass once the blocks from `x` on are read. -/
def CR (y x : ℕ) (h r : ℕ) : ℝ := ∑ j ∈ Finset.range 8192, (if 256 * x ≤ j then LL Q K h (256 * y + r) j else 0)

/-- The running sum of the second pass before block `x` is read. -/
def PR (y x : ℕ) (h r : ℕ) : ℝ := ∑ j ∈ Finset.range 8192, (if j < 256 * x then GG Q K V D h (256 * y + r) j else 0)

/-- The gradient of the queries of block `y` before key block `x` is read. -/
def QA (y x : ℕ) (r c : ℕ) : ℝ := ∑ s ∈ Finset.range 8192, (if s < 256 * x then ZZ Q K V D (c / 64) (256 * y + r) s * K s c else 0)

/-- What the queries of block `y` add to the gradient of the values. -/
def VT (y s c : ℕ) : ℝ := ∑ r ∈ Finset.range 256, AA Q K (c / 64) (256 * y + r) s * D (256 * y + r) c

/-- What the queries of block `y` add to the gradient of the keys. -/
def KT (y s c : ℕ) : ℝ := ∑ r ∈ Finset.range 256, ZZ Q K V D (c / 64) (256 * y + r) s * Q (256 * y + r) c

theorem LL_late {h t s : ℕ} (hs : t ≤ s) : LL Q K h t s = 0 := if_neg (by omega)
theorem AA_late {h t s : ℕ} (hs : t ≤ s) : AA Q K h t s = 0 := if_neg (by omega)
theorem ZZ_late {h t s : ℕ} (hs : t ≤ s) : ZZ Q K V D h t s = 0 := if_neg (by omega)

theorem VT_late {y s c : ℕ} (hs : 256 * (y + 1) ≤ s) : VT Q K D y s c = 0 :=
  Finset.sum_eq_zero fun r hr => by rw [AA_late Q K (by have := Finset.mem_range.1 hr; omega), zero_mul]

theorem KT_late {y s c : ℕ} (hs : 256 * (y + 1) ≤ s) : KT Q K V D y s c = 0 :=
  Finset.sum_eq_zero fun r hr => by rw [ZZ_late Q K V D (by have := Finset.mem_range.1 hr; omega), zero_mul]

theorem CR_start (y h r : ℕ) (hr : r < 256) : CR Q K y (y + 1) h r = 0 :=
  Finset.sum_eq_zero fun j _ => by
    split
    · exact LL_late Q K (by omega)
    · rfl

theorem PR_start (y h r : ℕ) : PR Q K V D y 0 h r = 0 := Finset.sum_eq_zero fun j _ => if_neg (by omega)

theorem QA_start (y r c : ℕ) : QA Q K V D y 0 r c = 0 := Finset.sum_eq_zero fun j _ => if_neg (by omega)

theorem QA_end (y r c : ℕ) (hr : r < 256) : QA Q K V D y (y + 1) r c * (1 / 8) = dQ Q K V D (256 * y + r) c := by
  refine congrArg (· * (1 / 8 : ℝ)) (Finset.sum_congr rfl fun s _ => ?_)
  split
  · rfl
  · rw [ZZ_late Q K V D (by omega), zero_mul]

theorem dot_tl (A B : ℕ → ℕ → ℝ) (y x h r s : ℕ) : dot (tl y A) (tl x B) h r s = dot A B h (256 * y + r) (256 * x + s) := rfl

/-- The weights of a block before the queries' own. -/
theorem wgt_tl {y x : ℕ} (hxy : x < y) (hy : y < 32) (h r s : ℕ) (hs : s < 256) :
    wgt (tl y Q) (tl x K) (fun h r => CR Q K y (x + 1) h r) h r s = AA Q K h (256 * y + r) (256 * x + s) := by
  rw [wgt, AA, if_pos (by omega)]
  simp only [dot_tl]
  rw [← sum_after x s (by omega) hs]
  refine congrArg (fun w => Real.exp (_ + (w + _))) (Finset.sum_congr rfl fun j hj => ?_)
  rw [LL, if_pos (show 256 * x + j < 256 * y + r by have := Finset.mem_range.1 hj; omega)]

/-- The weights of the queries' own block. -/
theorem wgtD_tl {y : ℕ} (hy : y < 32) (h r s : ℕ) (hr : r < 256) (hs : s < 256) :
    wgtD (tl y Q) (tl y K) h r s = AA Q K h (256 * y + r) (256 * y + s) := by
  rw [wgtD, AA]
  simp only [dot_tl, Nat.add_lt_add_iff_left]
  rw [← sum_after y s (by omega) hs]
  have e : ∑ j ∈ Finset.range 8192, (if 256 * (y + 1) ≤ j then LL Q K h (256 * y + r) j else 0) = 0 := CR_start Q K y h r hr
  rw [e, add_zero]
  split
  · refine congrArg (fun w => Real.exp (_ + w)) (Finset.sum_congr rfl fun j hj => ?_)
    simp only [LL, Nat.add_lt_add_iff_left]
  · rfl

/-- The running sum after a block before the queries' own. -/
theorem CR_step {y x : ℕ} (hxy : x < y) (hy : y < 32) (h r : ℕ) :
    CR Q K y (x + 1) h r + ∑ j ∈ Finset.range 256, lsg (dot (tl y Q) (tl x K) h r j) = CR Q K y x h r := by
  unfold CR
  rw [← sum_above x (by omega)]
  refine congrArg (fun w => _ + w) (Finset.sum_congr rfl fun j hj => ?_)
  rw [LL, if_pos (by have := Finset.mem_range.1 hj; omega), dot_tl]

/-- The running sum after the queries' own block. -/
theorem CR_diag {y : ℕ} (hy : y < 32) (h r : ℕ) (hr : r < 256) :
    ∑ j ∈ Finset.range 256, (if j < r then lsg (dot (tl y Q) (tl y K) h r j) else 0) = CR Q K y y h r := by
  have e := sum_above y hy (fun j => LL Q K h (256 * y + r) j)
  have e2 : ∑ j ∈ Finset.range 8192, (if 256 * (y + 1) ≤ j then LL Q K h (256 * y + r) j else 0) = 0 := CR_start Q K y h r hr
  rw [e2, zero_add] at e
  rw [CR, ← e]
  refine Finset.sum_congr rfl fun j hj => ?_
  simp only [LL, dot_tl, Nat.add_lt_add_iff_left]

theorem PR_step {y x : ℕ} (hx : x < 32) (h r : ℕ) :
    PR Q K V D y x h r + ∑ j ∈ Finset.range 256, GG Q K V D h (256 * y + r) (256 * x + j) = PR Q K V D y (x + 1) h r :=
  sum_below x hx _

/-- The gradients of the logits of a block before the queries' own. -/
theorem dlg_tl {y x : ℕ} (hxy : x < y) (hy : y < 32) (h r s : ℕ) (hs : s < 256) :
    dlg (tl y Q) (tl x K) (fun h r s => GG Q K V D h (256 * y + r) (256 * x + s)) (fun h r => PR Q K V D y x h r) h r s
      = ZZ Q K V D h (256 * y + r) (256 * x + s) := by
  rw [dlg, ZZ, if_pos (by omega), ← sum_before x s (by omega) hs]
  rfl

/-- The gradients of the logits of the queries' own block. -/
theorem dlgD_tl {y : ℕ} (hy : y < 32) (h r s : ℕ) (hs : s < 256) :
    dlgD (tl y Q) (tl y K) (fun h r s => GG Q K V D h (256 * y + r) (256 * y + s)) (fun h r => PR Q K V D y y h r) h r s
      = ZZ Q K V D h (256 * y + r) (256 * y + s) := by
  rw [dlgD, ZZ]
  simp only [Nat.add_lt_add_iff_left]
  split
  · rw [dlg, ← sum_before y s (by omega) hs]
    rfl
  · rfl

theorem QA_step {y x : ℕ} (hx : x < 32) (r c : ℕ) :
    QA Q K V D y x r c + ∑ s ∈ Finset.range 256, ZZ Q K V D (c / 64) (256 * y + r) (256 * x + s) * K (256 * x + s) c
      = QA Q K V D y (x + 1) r c :=
  sum_below x hx (fun s => ZZ Q K V D (c / 64) (256 * y + r) s * K s c)

/-- A sum over the queries, block by block. -/
theorem sum_tiles (f : ℕ → ℝ) : ∑ t ∈ Finset.range 8192, f t = ∑ y ∈ Finset.range 32, ∑ r ∈ Finset.range 256, f (256 * y + r) := by
  have key : ∀ n ≤ 32, ∑ t ∈ Finset.range (256 * n), f t = ∑ y ∈ Finset.range n, ∑ r ∈ Finset.range 256, f (256 * y + r) := by
    intro n
    induction n with
    | zero => intro _; simp
    | succ n ih => intro h; rw [Finset.sum_range_succ, ← ih (by omega), Nat.mul_succ, Finset.sum_range_add]
  exact key 32 le_rfl

theorem dV_tiles (s c : ℕ) : dV Q K D s c = ∑ y ∈ Finset.range 32, VT Q K D y s c := sum_tiles _
theorem dK_tiles (s c : ℕ) : dK Q K V D s c = ∑ y ∈ Finset.range 32, KT Q K V D y s c := sum_tiles _

end Cert.AttnSpec
end
-- ==== Proof.AttnPass.lean ====
/- A grid point of the attention backward on real arrays: what its two passes leave. -/
module

public import proofs.«01_k».proof.Proof.AttnSpec
public import proofs.«01_k».proof.Proof.AttnWords

@[expose] public section

noncomputable section

namespace Cert.AttnPass
open Cert.AttnBwdIdeal Cert.AttnBwdIdeal.Gen Cert.AttnModel Cert.AttnTile Cert.AttnReal Cert.AttnSpec Cert.AttnModel
open Idealize.ShloMosaic Idealize.ShloMosaic.TcCoe

/-! ### Tiles of real arrays -/

/-- The rows of a block, read from a real array. -/
theorem ld2_up {off : Fin 2 → ℕ} {x : ℕ} (h : off = ![256 * x, 0]) (hx : x < 32) (f : ℕ → ℕ → ℝ) :
    ld2 off (up f : S8192x128.Idx → EReal) = up (tl x f) := by
  subst h
  funext j
  have h0 : (j 0).val < 256 := (j 0).isLt
  have h1 : (j 1).val < 128 := (j 1).isLt
  show ((f ((256 * x + (j 0).val) % 8192) ((0 + (j 1).val) % 128) : ℝ) : EReal) = ((f (256 * x + (j 0).val) (j 1).val : ℝ) : EReal)
  rw [Nat.mod_eq_of_lt (by omega), Nat.zero_add, Nat.mod_eq_of_lt h1]

/-- A real array after something is added to the rows of a block. -/
theorem put2_up {off : Fin 2 → ℕ} {x : ℕ} (h : off = ![256 * x, 0]) (f B : ℕ → ℕ → ℝ) :
    put2 off (up f : S8192x128.Idx → EReal) (up fun s l => tl x f s l + B (256 * x + s) l)
      = up fun s l => f s l + (if s / 256 = x then B s l else 0) := by
  subst h
  funext j
  have h1 : (j 1).val < 128 := (j 1).isLt
  unfold put2 put
  split
  · rename_i hh
    have h0 := hh 0
    simp only [Matrix.cons_val_zero] at h0
    have h0' : 256 * x ≤ (j 0).val ∧ (j 0).val < 256 * x + 256 := h0
    show ((f (256 * x + ((j 0).val - 256 * x)) ((j 1).val - 0) + B (256 * x + ((j 0).val - 256 * x)) ((j 1).val - 0) : ℝ) : EReal)
      = ((f (j 0).val (j 1).val + (if (j 0).val / 256 = x then B (j 0).val (j 1).val else 0) : ℝ) : EReal)
    rw [if_pos (by omega), Nat.sub_zero, show 256 * x + ((j 0).val - 256 * x) = (j 0).val by omega]
  · rename_i hh
    show ((f (j 0).val (j 1).val : ℝ) : EReal)
      = ((f (j 0).val (j 1).val + (if (j 0).val / 256 = x then B (j 0).val (j 1).val else 0) : ℝ) : EReal)
    rw [if_neg, add_zero]
    intro e
    refine hh fun a => ?_
    match a with
    | ⟨0, _⟩ =>
      show 256 * x ≤ (j 0).val ∧ (j 0).val < 256 * x + 256
      omega
    | ⟨1, _⟩ =>
      show 0 ≤ (j 1).val ∧ (j 1).val < 0 + 128
      omega

/-- The slab `(o, n)` of the stored gradients. -/
def At (o n : ℕ) (g : GS Ideal) (f : ℕ → ℕ → ℝ) : Prop := ld4 ![o, n, 0, 0] g = upS f

theorem At_put4 {off : Fin 4 → ℕ} {o n : ℕ} (h : off = ![o, n, 0, 0]) (ho : o < 2) (hn : n < 32) (g : GS Ideal) (f : ℕ → ℕ → ℝ) :
    At o n (put4 off g (upS f)) f := by
  subst h
  funext j
  have h0 : (j 0).val < 1 := (j 0).isLt
  have h1 : (j 1).val < 1 := (j 1).isLt
  have h2 : (j 2).val < 256 := (j 2).isLt
  have h3 : (j 3).val < 512 := (j 3).isLt
  show put4 _ g (upS f) (ix4 ⟨(o + (j 0).val) % 2, _⟩ ⟨(n + (j 1).val) % 32, _⟩ ⟨(0 + (j 2).val) % 256, _⟩ ⟨(0 + (j 3).val) % 512, _⟩) = _
  unfold put4 put
  rw [dif_pos]
  · show ((f ((0 + (j 2).val) % 256 - 0) ((0 + (j 3).val) % 512 - 0) : ℝ) : EReal) = ((f (j 2).val (j 3).val : ℝ) : EReal)
    rw [Nat.zero_add, Nat.zero_add, Nat.sub_zero, Nat.sub_zero, Nat.mod_eq_of_lt h2, Nat.mod_eq_of_lt h3]
  · intro a
    match a with
    | ⟨0, _⟩ => show o ≤ (o + (j 0).val) % 2 ∧ (o + (j 0).val) % 2 < o + 1; omega
    | ⟨1, _⟩ => show n ≤ (n + (j 1).val) % 32 ∧ (n + (j 1).val) % 32 < n + 1; omega
    | ⟨2, _⟩ => show 0 ≤ (0 + (j 2).val) % 256 ∧ (0 + (j 2).val) % 256 < 0 + 256; omega
    | ⟨3, _⟩ => show 0 ≤ (0 + (j 3).val) % 512 ∧ (0 + (j 3).val) % 512 < 0 + 512; omega

theorem At_put4_other {off : Fin 4 → ℕ} {o n o' n' : ℕ} (h : off = ![o, n, 0, 0]) (ho : o' < 2) (hn : n' < 32)
    (hne : ¬ (o' = o ∧ n' = n)) (g : GS Ideal) (y : S1x1x256x512.Idx → EReal) (f : ℕ → ℕ → ℝ) (hg : At o' n' g f) :
    At o' n' (put4 off g y) f := by
  subst h
  refine Eq.trans ?_ (show ld4 ![o', n', 0, 0] g = upS f from hg)
  funext j
  have h0 : (j 0).val < 1 := (j 0).isLt
  have h1 : (j 1).val < 1 := (j 1).isLt
  show put4 _ g y (ix4 ⟨(o' + (j 0).val) % 2, _⟩ ⟨(n' + (j 1).val) % 32, _⟩ ⟨(0 + (j 2).val) % 256, _⟩ ⟨(0 + (j 3).val) % 512, _⟩) = _
  unfold put4 put
  rw [dif_neg]
  · rfl
  · intro hh
    have a0 : o ≤ (o' + (j 0).val) % 2 ∧ (o' + (j 0).val) % 2 < o + 1 := hh 0
    have a1 : n ≤ (n' + (j 1).val) % 32 ∧ (n' + (j 1).val) % 32 < n + 1 := hh 1
    omega

theorem ln_congr {a b : ℕ → ℝ} (h : ∀ r < 256, a r = b r) : ln a = ln b := up_congr fun r hr _ _ => h r hr

theorem pair_congr {f g : ℕ → ℕ → ℕ → ℝ} (h : ∀ o r s, r < 256 → s < 256 → f o r s = g o r s) :
    (up (pair f) : S256x512.Idx → EReal) = up (pair g) :=
  up_congr fun r hr j hj => h _ _ _ hr (Nat.mod_lt _ (by decide))

theorem slab_congr {f g : ℕ → ℕ → ℕ → ℝ} (h : ∀ o r s, r < 256 → s < 256 → f o r s = g o r s) : upS (pair f) = upS (pair g) :=
  funext fun j => congrArg _ (h _ _ _ (j 2).isLt (Nat.mod_lt _ (by decide)))

/-! ### A chain's step on a block -/

variable (Q K V D : ℕ → ℕ → ℝ)

/-- The stored gradients of queries' block `y` and key block `x`. -/
def slabR (y x : ℕ) : ℕ → ℕ → ℝ := pair fun h r s => GG Q K V D h (256 * y + r) (256 * x + s)

/-- A running sum of the first pass. -/
def rs (y x h : ℕ) : S256x128.Idx → EReal := ln fun r => c2 * CR Q K y x h r

/-- A running sum of the second pass. -/
def ps (y x h : ℕ) : S256x128.Idx → EReal := ln (PR Q K V D y x h)

theorem one_tl {y x : ℕ} (hxy : x < y) (hy : y < 32) (f : ℕ → ℕ → ℝ) :
    ∃ t : EReal, t ≠ ⊥ ∧
      one (F := Ideal) lanes triL (up (tl y Q)) (up (tl y D)) (up (tl x K)) (up (tl x V)) (rs Q K y (x + 1) 0) (rs Q K y (x + 1) 1) (up (tl x f))
        = ((t, rs Q K y x 0, rs Q K y x 1), upS (slabR Q K V D y x), up fun s l => tl x f s l + VT Q K D y (256 * x + s) l) := by
  obtain ⟨t, ht, e⟩ := one_up (tl y Q) (tl y D) (tl x K) (tl x V) (tl x f) (fun h r => CR Q K y (x + 1) h r)
  refine ⟨t, ht, e.trans ?_⟩
  refine Prod.ext (Prod.ext rfl (Prod.ext ?_ ?_)) (Prod.ext ?_ ?_)
  · exact ln_congr fun r _ => congrArg (c2 * ·) (CR_step Q K hxy hy 0 r)
  · exact ln_congr fun r _ => congrArg (c2 * ·) (CR_step Q K hxy hy 1 r)
  · exact slab_congr fun h r s hr hs => by rw [wgt_tl Q K hxy hy h r s hs, dot_tl, GG]
  · dsimp only
    refine up_congr fun s hs l hl => congrArg (tl x f s l + ·) ?_
    refine Finset.sum_congr rfl fun r hr => ?_
    rw [wgt_tl Q K hxy hy _ r s hs]; rfl

theorem oneD_tl {msk : IVec S256x512 1} (hm : IsDiag msk) {y : ℕ} (hy : y < 32) (f : ℕ → ℕ → ℝ) :
    ∃ t : EReal, t ≠ ⊥ ∧
      oneD (F := Ideal) msk lanes triL (up (tl y Q)) (up (tl y D)) (up (tl y K)) (up (tl y V)) (up (tl y f))
        = ((t, rs Q K y y 0, rs Q K y y 1), upS (slabR Q K V D y y), up fun s l => tl y f s l + VT Q K D y (256 * y + s) l) := by
  obtain ⟨t, ht, e⟩ := oneD_up hm (tl y Q) (tl y D) (tl y K) (tl y V) (tl y f)
  refine ⟨t, ht, e.trans ?_⟩
  refine Prod.ext (Prod.ext rfl (Prod.ext ?_ ?_)) (Prod.ext ?_ ?_)
  · exact ln_congr fun r hr => congrArg (c2 * ·) (CR_diag Q K hy 0 r hr)
  · exact ln_congr fun r hr => congrArg (c2 * ·) (CR_diag Q K hy 1 r hr)
  · exact slab_congr fun h r s hr hs => by rw [wgtD_tl Q K hy h r s hr hs, dot_tl, GG]
  · dsimp only
    refine up_congr fun s hs l hl => congrArg (tl y f s l + ·) ?_
    refine Finset.sum_congr rfl fun r hr => ?_
    rw [wgtD_tl Q K hy _ r s (Finset.mem_range.1 hr) hs]; rfl

theorem two_tl {y x : ℕ} (hxy : x < y) (hy : y < 32) (f : ℕ → ℕ → ℝ) :
    two (F := Ideal) lanes triR (up (tl y Q)) (up (tl x K)) (upS (slabR Q K V D y x))
        (up (QA Q K V D y x), ps Q K V D y x 0, ps Q K V D y x 1) (up (tl x f))
      = ((up (QA Q K V D y (x + 1)), ps Q K V D y (x + 1) 0, ps Q K V D y (x + 1) 1),
          up fun s l => tl x f s l + KT Q K V D y (256 * x + s) l) := by
  refine (two_up (tl y Q) (tl x K) (fun h r s => GG Q K V D h (256 * y + r) (256 * x + s)) (QA Q K V D y x) (tl x f)
    (fun h r => PR Q K V D y x h r)).trans ?_
  refine Prod.ext (Prod.ext ?_ (Prod.ext ?_ ?_)) ?_
  · dsimp only
    refine up_congr fun r hr c hc => ?_
    rw [← QA_step Q K V D (by omega)]
    refine congrArg (QA Q K V D y x r c + ·) (Finset.sum_congr rfl fun s hs => ?_)
    rw [dlg_tl Q K V D hxy hy _ r s (Finset.mem_range.1 hs)]; rfl
  · exact ln_congr fun r _ => PR_step Q K V D (by omega) 0 r
  · exact ln_congr fun r _ => PR_step Q K V D (by omega) 1 r
  · dsimp only
    refine up_congr fun s hs l hl => congrArg (tl x f s l + ·) ?_
    refine Finset.sum_congr rfl fun r hr => ?_
    rw [dlg_tl Q K V D hxy hy _ r s hs]; rfl

theorem twoD_tl {msk : IVec S256x512 1} (hm : IsDiag msk) {y : ℕ} (hy : y < 32) (f : ℕ → ℕ → ℝ) :
    twoD (F := Ideal) msk lanes triR (up (tl y Q)) (up (tl y K)) (upS (slabR Q K V D y y))
        (up (QA Q K V D y y), ps Q K V D y y 0, ps Q K V D y y 1) (up (tl y f))
      = (up (tl y (dQ Q K V D)), up fun s l => tl y f s l + KT Q K V D y (256 * y + s) l) := by
  refine (twoD_up hm (tl y Q) (tl y K) (fun h r s => GG Q K V D h (256 * y + r) (256 * y + s)) (QA Q K V D y y) (tl y f)
    (fun h r => PR Q K V D y y h r)).trans ?_
  refine Prod.ext ?_ ?_
  · dsimp only
    refine up_congr fun r hr c hc => ?_
    rw [tl, ← QA_end Q K V D y r c hr, ← QA_step Q K V D hy]
    refine congrArg (fun w => (QA Q K V D y y r c + w) * (1 / 8 : ℝ)) (Finset.sum_congr rfl fun s hs => ?_)
    rw [dlgD_tl Q K V D hy _ r s (Finset.mem_range.1 hs)]; rfl
  · dsimp only
    refine up_congr fun s hs l hl => congrArg (tl y f s l + ·) ?_
    refine Finset.sum_congr rfl fun r hr => ?_
    rw [dlgD_tl Q K V D hy _ r s hs]; rfl

/-! ### The causal masks -/

/-- A key before a query of the same block, as the words say it. -/
theorem slt_word (b r j : ℕ) (hb : b < 32) (hr : r < 256) (hj : j < 512) :
    IntOp.cmpi .slt (IntOp.addi (Scalar.muli (BitVec.ofNat 32 b) 256#32) (IntOp.andi (BitVec.ofNat 32 j) 255#32))
      (IntOp.addi (Scalar.muli (BitVec.ofNat 32 b) 256#32) (BitVec.ofNat 32 r)) = if j % 256 < r then 1#1 else 0#1 := by
  have e1 : (IntOp.addi (Scalar.muli (BitVec.ofNat 32 b) 256#32) (IntOp.andi (BitVec.ofNat 32 j) 255#32)).toNat = 256 * b + j % 256 := by
    have h : j &&& 255 = j % 256 := Nat.and_two_pow_sub_one_eq_mod j 8
    simp only [Scalar.muli, IntOp.muli, IntOp.addi, IntOp.andi, BitVec.toNat_add, BitVec.toNat_mul, BitVec.toNat_and, BitVec.toNat_ofNat]
    rw [show j % 2 ^ 32 = j from Nat.mod_eq_of_lt (by omega), show 255 % 2 ^ 32 = 255 from rfl, h]
    omega
  have e2 : (IntOp.addi (Scalar.muli (BitVec.ofNat 32 b) 256#32) (BitVec.ofNat 32 r)).toNat = 256 * b + r := by
    simp only [Scalar.muli, IntOp.muli, IntOp.addi, BitVec.toNat_add, BitVec.toNat_mul, BitVec.toNat_ofNat]
    omega
  rw [WordCmp.cmpi_slt_of_lt (by rw [e1]; omega) (by rw [e2]; omega), e1, e2]
  by_cases h : j % 256 < r
  · simp [h]
  · simp [h, -not_lt]

/-- The word of a chain's own block. -/
theorem own_word (s c : ℕ) (hs : s < 16) (hc : c ≤ 1) :
    Scalar.addi (Scalar.muli 2#32 (BitVec.ofNat 32 s)) (BitVec.ofNat 32 c) = BitVec.ofNat 32 (2 * s + c) := by
  apply BitVec.eq_of_toNat_eq
  simp only [Scalar.addi, Scalar.muli, IntOp.addi, IntOp.muli, BitVec.toNat_add, BitVec.toNat_mul, BitVec.toNat_ofNat]
  omega

theorem sub_zero_word (x : BitVec 32) : Scalar.subi x 0#32 = x := by
  apply BitVec.eq_of_toNat_eq
  simp [Scalar.subi, IntOp.subi]

theorem mask0_diag (i : grid0.Coords) : IsDiag (mask0 i) := by
  intro r j
  have hi := i1_lt i
  pointwise [mask0, k0_pay105, k0_pay101]
  have e := own_word (i 1).val 0 hi (by omega)
  rw [sub_zero_word]
  rw [show (0#32) = BitVec.ofNat 32 0 from rfl, e]
  exact slt_word _ _ _ (by omega) r.isLt j.isLt

theorem mask1_diag (i : grid0.Coords) : IsDiag (mask1 i) := by
  intro r j
  have hi := i1_lt i
  pointwise [mask1, k0_pay122, k0_pay102]
  have e := own_word (i 1).val 1 hi (by omega)
  rw [sub_zero_word]
  rw [show (1#32) = BitVec.ofNat 32 1 from rfl, e]
  exact slt_word _ _ _ (by omega) r.isLt j.isLt

theorem off1_0 : ∀ i : grid0.Coords, k0_off1 i 0#32 = ![256 * (2 * (i 1).val), 0] := by decide +kernel
theorem off1_1 : ∀ i : grid0.Coords, k0_off1 i 1#32 = ![256 * (2 * (i 1).val + 1), 0] := by decide +kernel
theorem off2_eq : ∀ i : grid0.Coords, k0_off2 i = ![0, 2 * (i 1).val, 0, 0] := by decide +kernel
theorem off3_eq : ∀ i : grid0.Coords, k0_off3 i = ![1, 2 * (i 1).val + 1, 0, 0] := by decide +kernel
theorem off19_0 : ∀ i : grid0.Coords, k0_off19 i 0#32 = ![256 * (2 * (i 1).val), 0] := by decide +kernel
theorem off19_1 : ∀ i : grid0.Coords, k0_off19 i 1#32 = ![256 * (2 * (i 1).val + 1), 0] := by decide +kernel
theorem off20_eq : ∀ i : grid0.Coords, k0_off20 i = ![0, 2 * (i 1).val, 0, 0] := by decide +kernel
theorem off21_eq : ∀ i : grid0.Coords, k0_off21 i = ![1, 2 * (i 1).val + 1, 0, 0] := by decide +kernel

/-! ### The loops of the first pass -/

/-- What a point holds fixed, on real arrays. -/
def realEnv (i : grid0.Coords) : Env Ideal where
  i := i
  k := up K
  v := up V
  m := lanes
  su := triL
  pr := triR
  q0 := up (tl (2 * (i 1).val) Q)
  q1 := up (tl (2 * (i 1).val + 1) Q)
  d0 := up (tl (2 * (i 1).val) D)
  d1 := up (tl (2 * (i 1).val + 1) D)

/-- The rows of `B` from block `x` on. -/
def lo (x : ℕ) (B : ℕ → ℕ → ℝ) (s l : ℕ) : ℝ := if 256 * x ≤ s then B s l else 0

/-- The rows of `B` before block `x`. -/
def hi (x : ℕ) (B : ℕ → ℕ → ℝ) (s l : ℕ) : ℝ := if s < 256 * x then B s l else 0

theorem lo_step (x : ℕ) (B : ℕ → ℕ → ℝ) (s l : ℕ) : lo (x + 1) B s l + (if s / 256 = x then B s l else 0) = lo x B s l := by
  unfold lo
  by_cases h1 : 256 * (x + 1) ≤ s
  · rw [if_pos h1, if_neg (by omega), if_pos (by omega), add_zero]
  · by_cases h2 : s / 256 = x
    · rw [if_neg h1, if_pos h2, if_pos (by omega), zero_add]
    · rw [if_neg h1, if_neg h2, if_neg (by omega), zero_add]

theorem hi_step (x : ℕ) (B : ℕ → ℕ → ℝ) (s l : ℕ) : hi x B s l + (if s / 256 = x then B s l else 0) = hi (x + 1) B s l := by
  unfold hi
  by_cases h1 : s < 256 * x
  · rw [if_pos h1, if_neg (by omega), if_pos (by omega), add_zero]
  · by_cases h2 : s / 256 = x
    · rw [if_neg h1, if_pos h2, if_pos (by omega), zero_add]
    · rw [if_neg h1, if_neg h2, if_neg (by omega), zero_add]

theorem lo_zero (B : ℕ → ℕ → ℝ) (s l : ℕ) : lo 0 B s l = B s l := if_pos (by omega)
theorem hi_zero (B : ℕ → ℕ → ℝ) (s l : ℕ) : hi 0 B s l = 0 := if_neg (by omega)

theorem lo_VT (y s l : ℕ) : lo (y + 1) (VT Q K D y) s l = 0 := by
  unfold lo; split
  · exact VT_late Q K D (by assumption)
  · rfl

theorem hi_KT (y s l : ℕ) : hi (y + 1) (KT Q K V D y) s l = KT Q K V D y s l := by
  unfold hi; split
  · rfl
  · exact (KT_late Q K V D (by omega)).symm

/-- The sum of `dv` once each chain has read its blocks from `x` on. -/
def dvAt (b : ℕ) (f : ℕ → ℕ → ℝ) (x0 x1 : ℕ) : S8192x128.Idx → EReal :=
  up fun s l => f s l + lo x0 (VT Q K D (2 * b)) s l + lo x1 (VT Q K D (2 * b + 1)) s l

/-- What the first pass has stored once each chain has read its blocks from `x` on. -/
def Stored (b : ℕ) (x0 x1 : ℕ) (g : GS Ideal) : Prop :=
  (∀ x, x0 ≤ x → x ≤ 2 * b → At 0 x g (slabR Q K V D (2 * b) x))
    ∧ ∀ x, x1 ≤ x → x ≤ 2 * b + 1 → At 1 x g (slabR Q K V D (2 * b + 1) x)

theorem Stored.put0 {b x0 x1 : ℕ} {g : GS Ideal} (h : Stored Q K V D b (x0 + 1) x1 g) (hb : b < 16) (h0 : x0 ≤ 2 * b)
    {off : Fin 4 → ℕ} (ho : off = ![0, x0, 0, 0]) : Stored Q K V D b x0 x1 (put4 off g (upS (slabR Q K V D (2 * b) x0))) := by
  refine ⟨fun x hx hx' => ?_, fun x hx hx' => ?_⟩
  · by_cases e : x = x0
    · subst e; exact At_put4 ho (by omega) (by omega) _ _
    · exact At_put4_other ho (by omega) (by omega) (by omega) _ _ _ (h.1 x (by omega) hx')
  · exact At_put4_other ho (by omega) (by omega) (by omega) _ _ _ (h.2 x hx hx')

theorem Stored.put1 {b x0 x1 : ℕ} {g : GS Ideal} (h : Stored Q K V D b x0 (x1 + 1) g) (hb : b < 16) (h1 : x1 ≤ 2 * b + 1)
    {off : Fin 4 → ℕ} (ho : off = ![1, x1, 0, 0]) : Stored Q K V D b x0 x1 (put4 off g (upS (slabR Q K V D (2 * b + 1) x1))) := by
  refine ⟨fun x hx hx' => ?_, fun x hx hx' => ?_⟩
  · exact At_put4_other ho (by omega) (by omega) (by omega) _ _ _ (h.1 x hx hx')
  · by_cases e : x = x1
    · subst e; exact At_put4 ho (by omega) (by omega) _ _
    · exact At_put4_other ho (by omega) (by omega) (by omega) _ _ _ (h.2 x (by omega) hx')

theorem dvAt_put0 {b x0 x1 : ℕ} (f : ℕ → ℕ → ℝ) {off : Fin 2 → ℕ} (ho : off = ![256 * x0, 0]) :
    put2 off (dvAt Q K D b f (x0 + 1) x1)
      (up fun s l => tl x0 (fun s l => f s l + lo (x0 + 1) (VT Q K D (2 * b)) s l + lo x1 (VT Q K D (2 * b + 1)) s l) s l
        + VT Q K D (2 * b) (256 * x0 + s) l) = dvAt Q K D b f x0 x1 := by
  rw [dvAt, put2_up ho]
  refine up_congr fun s _ l _ => ?_
  rw [← lo_step x0 (VT Q K D (2 * b)) s l]
  ring

theorem dvAt_put1 {b x0 x1 : ℕ} (f : ℕ → ℕ → ℝ) {off : Fin 2 → ℕ} (ho : off = ![256 * x1, 0]) :
    put2 off (dvAt Q K D b f x0 (x1 + 1))
      (up fun s l => tl x1 (fun s l => f s l + lo x0 (VT Q K D (2 * b)) s l + lo (x1 + 1) (VT Q K D (2 * b + 1)) s l) s l
        + VT Q K D (2 * b + 1) (256 * x1 + s) l) = dvAt Q K D b f x0 x1 := by
  rw [dvAt, put2_up ho]
  refine up_congr fun s _ l _ => ?_
  rw [← lo_step x1 (VT Q K D (2 * b + 1)) s l]
  ring

/-- The state of the first `while` before step `n`. -/
def I1 (i : grid0.Coords) (f : ℕ → ℕ → ℝ) (n : ℕ) (s : R1 Ideal × GS Ideal × DA Ideal) : Prop :=
  ∃ (ta tb : EReal) (g : GS Ideal), ta ≠ ⊥ ∧ tb ≠ ⊥ ∧
    s = ((BitVec.ofNat 32 n, ta, rs Q K (2 * (i 1).val) (2 * (i 1).val + 1 - n) 0, rs Q K (2 * (i 1).val) (2 * (i 1).val + 1 - n) 1,
        tb, rs Q K (2 * (i 1).val + 1) (2 * (i 1).val + 2 - n) 0, rs Q K (2 * (i 1).val + 1) (2 * (i 1).val + 2 - n) 1), g,
      dvAt Q K D (i 1).val f (2 * (i 1).val + 1 - n) (2 * (i 1).val + 2 - n))
    ∧ Stored Q K V D (i 1).val (2 * (i 1).val + 1 - n) (2 * (i 1).val + 2 - n) g

theorem I1_step (i : grid0.Coords) (f : ℕ → ℕ → ℝ) (n : ℕ) (h1 : 1 ≤ n) (hn : n ≤ 2 * (i 1).val)
    (s : R1 Ideal × GS Ideal × DA Ideal) (h : I1 Q K V D i f n s) : I1 Q K V D i f (n + 1) (w1step (realEnv Q K V D i) s) := by
  have hi := i1_lt i
  obtain ⟨ta, tb, g, hta, htb, rfl, hg⟩ := h
  obtain ⟨x, hx⟩ : ∃ x, 2 * (i 1).val - n = x := ⟨_, rfl⟩
  have e0 : 2 * (i 1).val + 1 - n = x + 1 := by omega
  have e1 : 2 * (i 1).val + 2 - n = (x + 1) + 1 := by omega
  have e2 : 2 * (i 1).val + 1 - (n + 1) = x := by omega
  have e3 : 2 * (i 1).val + 2 - (n + 1) = x + 1 := by omega
  have o4 : k0_off4 i (BitVec.ofNat 32 n) 0#32 = ![256 * x, 0] := by rw [off4_0 i n hn, hx]
  have o4' : k0_off4 i (BitVec.ofNat 32 n) 1#32 = ![256 * (x + 1), 0] := by rw [off4_1 i n (by omega), e0]
  have o5 : k0_off5 i (BitVec.ofNat 32 n) = ![0, x, 0, 0] := by rw [off5_eq i n hn, hx]
  have o6 : k0_off6 i (BitVec.ofNat 32 n) = ![1, x + 1, 0, 0] := by rw [off6_eq i n (by omega), e0]
  rw [e0, e1] at hg ⊢
  unfold I1
  rw [e2, e3]
  obtain ⟨t0, ht0, r0⟩ := one_tl Q K V D (show x < 2 * (i 1).val by omega) (by omega)
    (fun s l => f s l + lo (x + 1) (VT Q K D (2 * (i 1).val)) s l + lo (x + 1 + 1) (VT Q K D (2 * (i 1).val + 1)) s l)
  obtain ⟨t1, ht1, r1⟩ := one_tl Q K V D (show x + 1 < 2 * (i 1).val + 1 by omega) (by omega)
    (fun s l => f s l + lo x (VT Q K D (2 * (i 1).val)) s l + lo (x + 1 + 1) (VT Q K D (2 * (i 1).val + 1)) s l)
  have s0 : w1step0 (realEnv Q K V D i) (BitVec.ofNat 32 n) (rs Q K (2 * (i 1).val) (x + 1) 0) (rs Q K (2 * (i 1).val) (x + 1) 1) g
      (dvAt Q K D (i 1).val f (x + 1) (x + 1 + 1))
      = ((t0, rs Q K (2 * (i 1).val) x 0, rs Q K (2 * (i 1).val) x 1),
        put4 (k0_off5 i (BitVec.ofNat 32 n)) g (upS (slabR Q K V D (2 * (i 1).val) x)), dvAt Q K D (i 1).val f x (x + 1 + 1)) := by
    rw [w1step0_eq]
    dsimp only [realEnv]
    rw [ld2_up o4 (by omega), ld2_up o4 (by omega), dvAt, ld2_up o4 (by omega), r0]
    refine Prod.ext rfl (Prod.ext rfl ?_)
    exact dvAt_put0 Q K D f o4
  have s1 : ∀ g', w1step1 (realEnv Q K V D i) (BitVec.ofNat 32 n) (rs Q K (2 * (i 1).val + 1) (x + 1 + 1) 0)
      (rs Q K (2 * (i 1).val + 1) (x + 1 + 1) 1) g' (dvAt Q K D (i 1).val f x (x + 1 + 1))
      = ((t1, rs Q K (2 * (i 1).val + 1) (x + 1) 0, rs Q K (2 * (i 1).val + 1) (x + 1) 1),
        put4 (k0_off6 i (BitVec.ofNat 32 n)) g' (upS (slabR Q K V D (2 * (i 1).val + 1) (x + 1))), dvAt Q K D (i 1).val f x (x + 1)) := by
    intro g'
    rw [w1step1_eq]
    dsimp only [realEnv]
    rw [ld2_up o4' (by omega), ld2_up o4' (by omega), dvAt, ld2_up o4' (by omega), r1]
    refine Prod.ext rfl (Prod.ext rfl ?_)
    exact dvAt_put1 Q K D f o4'
  refine ⟨t0, t1, _, ht0, ht1, ?_, (hg.put0 Q K V D hi (by omega) o5).put1 Q K V D hi (by omega) o6⟩
  unfold w1step
  dsimp only
  rw [s0]
  dsimp only
  rw [s1]
  rw [next_word]

end Cert.AttnPass
end
-- ==== Proof.AttnSums.lean ====
module

public import proofs.«01_k».proof.Proof.AttnPass

/-!
# The two passes of a point, on real arrays

The loops of the first pass run to the start of the sequence: the early exit's threshold is `⊥`, so it never stops them.
-/

@[expose] public section

noncomputable section

namespace Cert.AttnPass
open Cert.AttnBwdIdeal Cert.AttnBwdIdeal.Gen
open Idealize.ShloMosaic Idealize.ShloMosaic.TcCoe
open Cert.AttnModel Cert.AttnTile Cert.AttnReal Cert.AttnSpec

variable (Q K V D : ℕ → ℕ → ℝ)

/-! ### The loops of the first pass end at the first block -/

theorem exit_passes {x : EReal} (h : x ≠ ⊥) : Scalar.cmpf (F := Ideal) (φ := .f32) .ogt x (Named.named (F := Ideal) (φ := .f32) κ "exit" 0xC3168000#32) = 1#1 := by
  rw [named_exit]
  show BitVec.ofBool (decide _) = _
  simp [bot_lt_iff_ne_bot, h]

theorem pay1_ne {a b : EReal} (ha : a ≠ ⊥) (hb : b ≠ ⊥) : k0_pay1 (F := Ideal) a b ≠ ⊥ := by
  show max a b ≠ ⊥
  rw [Ne, max_eq_bot]
  tauto

theorem w1cond_iff (i : grid0.Coords) (n : ℕ) (hn : n < 40) {ta tb : EReal} (ha : ta ≠ ⊥) (hb : tb ≠ ⊥) (a1 a2 b1 b2 : FVec Ideal S256x128 .f32) :
    w1cond (F := Ideal) i (BitVec.ofNat 32 n, ta, a1, a2, tb, b1, b2) = 1#1 ↔ n ≤ 2 * (i 1).val := by
  unfold w1cond
  dsimp only
  rw [exit_passes (pay1_ne ha hb), show (0#32) = BitVec.ofNat 32 0 from rfl, le_word (i 1).val 0 n (i1_lt i) (by omega) hn]
  by_cases h : n ≤ 2 * (i 1).val
  · simp [h, Scalar.andi, IntOp.andi]
  · simp [h, Scalar.andi, IntOp.andi, -not_le]

theorem w2cond_iff (i : grid0.Coords) (n : ℕ) (hn : n < 40) {tb : EReal} (hb : tb ≠ ⊥) (b1 b2 : FVec Ideal S256x128 .f32) :
    w2cond (F := Ideal) i (BitVec.ofNat 32 n, tb, b1, b2) = 1#1 ↔ n ≤ 2 * (i 1).val + 1 := by
  unfold w2cond
  dsimp only
  rw [exit_passes hb, show Scalar.muli 2#32 (BitVec.ofNat 32 (i 1).val) = Scalar.muli 2#32 (BitVec.ofNat 32 (i 1).val) from rfl]
  rw [show Scalar.addi (Scalar.muli 2#32 (BitVec.ofNat 32 (i 1).val)) 1#32
    = Scalar.addi (Scalar.muli 2#32 (BitVec.ofNat 32 (i 1).val)) (BitVec.ofNat 32 1) from rfl, le_word (i 1).val 1 n (i1_lt i) (by omega) hn]
  by_cases h : n ≤ 2 * (i 1).val + 1
  · simp [h, Scalar.andi, IntOp.andi]
  · simp [h, Scalar.andi, IntOp.andi, -not_le]

theorem w1run_eq (i : grid0.Coords) (f : ℕ → ℕ → ℝ) : ∀ (k n : ℕ) (s : R1 Ideal × GS Ideal × DA Ideal), 1 ≤ n → n ≤ 2 * (i 1).val + 1 →
    2 * (i 1).val + 1 < n + k → I1 Q K V D i f n s → I1 Q K V D i f (2 * (i 1).val + 1) (w1run (realEnv Q K V D i) k s) := by
  intro k
  induction k with
  | zero => intro n s _ _ h; omega
  | succ k ih =>
    intro n s h1 hn hk h
    have hi := i1_lt i
    have hc : w1cond (F := Ideal) (realEnv Q K V D i).i s.1 = 1#1 ↔ n ≤ 2 * (i 1).val := by
      obtain ⟨ta, tb, g, ha, hb, rfl, _⟩ := h
      exact w1cond_iff i n (by omega) ha hb _ _ _ _
    rw [w1run]
    by_cases hlt : n ≤ 2 * (i 1).val
    · rw [if_pos (hc.2 hlt)]
      exact ih (n + 1) _ (by omega) (by omega) (by omega) (I1_step Q K V D i f n h1 hlt s h)
    · rw [if_neg (fun e => hlt (hc.1 e))]
      rwa [show 2 * (i 1).val + 1 = n by omega]

/-- The second `while` of one trip. -/
theorem w2run_once {F : FTy → Type} [FloatOps F] [Named F] (E : Env F) (s : R2 F × GS F × DA F) (h : w2cond E.i s.1 = 1#1)
    (h' : ¬w2cond E.i (w2step E s).1 = 1#1) : w2run E 33 s = w2step E s :=
  (if_pos h : w2run E (32 + 1) s = w2run E 32 (w2step E s)).trans (if_neg h' : w2run E (31 + 1) (w2step E s) = _)

/-- The state the first `while` starts from: both chains' steps on their own blocks. -/
def first {F : FTy → Type} [FloatOps F] [Named F] (E : Env F) (g : GS F) (d : DA F) : R1 F × GS F × DA F :=
  let a := diag0 E g d
  let b := diag1 E a.2.1 a.2.2
  ((1#32, a.1.1, a.1.2.1, a.1.2.2, b.1.1, b.1.2.1, b.1.2.2), b.2.1, b.2.2)

theorem pass1_of {F : FTy → Type} [FloatOps F] [Named F] (E : Env F) (g : GS F) (d : DA F) {n : BitVec 32} {ta tb : F .f32}
    {a1 a2 b1 b2 : FVec F S256x128 .f32} {g1 : GS F} {d1 : DA F} {r : R2 F × GS F × DA F}
    (h1 : w1run E 33 (first E g d) = ((n, ta, a1, a2, tb, b1, b2), g1, d1)) (h2 : w2run E 33 ((n, tb, b1, b2), g1, d1) = r) :
    pass1 E g d = (n, r.1.1, r.2.1, r.2.2) := by
  subst h2
  show (let s := w1run E 33 (first E g d)
      let r := w2run E 33 ((s.1.1, s.1.2.2.2.2.1, s.1.2.2.2.2.2.1, s.1.2.2.2.2.2.2), s.2.1, s.2.2)
      (s.1.1, r.1.1, r.2.1, r.2.2)) = _
  rw [h1]

/-- The diagonal steps. -/
theorem first_eq (i : grid0.Coords) (f : ℕ → ℕ → ℝ) (g : GS Ideal) : I1 Q K V D i f 1 (first (realEnv Q K V D i) g (up f)) := by
  have hi := i1_lt i
  have e : (up f : DA Ideal) = dvAt Q K D (i 1).val f (2 * (i 1).val + 1) (2 * (i 1).val + 1 + 1) :=
    up_congr fun s _ l _ => by rw [lo_VT, lo_VT, add_zero, add_zero]
  have hg : Stored Q K V D (i 1).val (2 * (i 1).val + 1) (2 * (i 1).val + 1 + 1) g :=
    ⟨fun x _ _ => by omega, fun x _ _ => by omega⟩
  obtain ⟨t0, ht0, r0⟩ := oneD_tl Q K V D (mask0_diag i) (show 2 * (i 1).val < 32 by omega)
    (fun s l => f s l + lo (2 * (i 1).val + 1) (VT Q K D (2 * (i 1).val)) s l + lo (2 * (i 1).val + 1 + 1) (VT Q K D (2 * (i 1).val + 1)) s l)
  obtain ⟨t1, ht1, r1⟩ := oneD_tl Q K V D (mask1_diag i) (show 2 * (i 1).val + 1 < 32 by omega)
    (fun s l => f s l + lo (2 * (i 1).val) (VT Q K D (2 * (i 1).val)) s l + lo (2 * (i 1).val + 1 + 1) (VT Q K D (2 * (i 1).val + 1)) s l)
  have s0 : diag0 (realEnv Q K V D i) g (up f)
      = ((t0, rs Q K (2 * (i 1).val) (2 * (i 1).val) 0, rs Q K (2 * (i 1).val) (2 * (i 1).val) 1),
        put4 (k0_off2 i) g (upS (slabR Q K V D (2 * (i 1).val) (2 * (i 1).val))),
        dvAt Q K D (i 1).val f (2 * (i 1).val) (2 * (i 1).val + 1 + 1)) := by
    rw [diag0_eq, e]
    dsimp only [realEnv]
    rw [ld2_up (off1_0 i) (by omega), ld2_up (off1_0 i) (by omega), dvAt, ld2_up (off1_0 i) (by omega), r0]
    refine Prod.ext rfl (Prod.ext rfl ?_)
    exact dvAt_put0 Q K D f (off1_0 i)
  have s1 : ∀ g', diag1 (realEnv Q K V D i) g' (dvAt Q K D (i 1).val f (2 * (i 1).val) (2 * (i 1).val + 1 + 1))
      = ((t1, rs Q K (2 * (i 1).val + 1) (2 * (i 1).val + 1) 0, rs Q K (2 * (i 1).val + 1) (2 * (i 1).val + 1) 1),
        put4 (k0_off3 i) g' (upS (slabR Q K V D (2 * (i 1).val + 1) (2 * (i 1).val + 1))),
        dvAt Q K D (i 1).val f (2 * (i 1).val) (2 * (i 1).val + 1)) := by
    intro g'
    rw [diag1_eq]
    dsimp only [realEnv]
    rw [ld2_up (off1_1 i) (by omega), ld2_up (off1_1 i) (by omega), dvAt, ld2_up (off1_1 i) (by omega), r1]
    refine Prod.ext rfl (Prod.ext rfl ?_)
    exact dvAt_put1 Q K D f (off1_1 i)
  unfold first
  rw [s0]
  dsimp only
  rw [s1]
  exact ⟨t0, t1, _, ht0, ht1, rfl, (hg.put0 Q K V D hi (by omega) (off2_eq i)).put1 Q K V D hi (by omega) (off3_eq i)⟩

/-- The first pass. -/
theorem pass1_eq (i : grid0.Coords) (f : ℕ → ℕ → ℝ) (g : GS Ideal) :
    ∃ g', Stored Q K V D (i 1).val 0 0 g' ∧ pass1 (realEnv Q K V D i) g (up f)
      = (BitVec.ofNat 32 (2 * (i 1).val + 1), BitVec.ofNat 32 (2 * (i 1).val + 2), g',
          up fun s l => f s l + VT Q K D (2 * (i 1).val) s l + VT Q K D (2 * (i 1).val + 1) s l) := by
  have hi := i1_lt i
  have h := w1run_eq Q K V D i f 33 1 _ (le_refl 1) (by omega) (by omega) (first_eq Q K V D i f g)
  obtain ⟨ta, tb, g1, ha, hb, hs, hg⟩ := h
  have z0 : 2 * (i 1).val + 1 - (2 * (i 1).val + 1) = 0 := by omega
  have z1 : 2 * (i 1).val + 2 - (2 * (i 1).val + 1) = 0 + 1 := by omega
  rw [z0, z1] at hs hg
  have o7 : k0_off7 i (BitVec.ofNat 32 (2 * (i 1).val + 1)) = ![256 * 0, 0] := by rw [off7_eq i _ (le_refl _), z0]
  have o8 : k0_off8 i (BitVec.ofNat 32 (2 * (i 1).val + 1)) = ![1, 0, 0, 0] := by rw [off8_eq i _ (le_refl _), z0]
  obtain ⟨t1, ht1, r1⟩ := one_tl Q K V D (show 0 < 2 * (i 1).val + 1 by omega) (by omega)
    (fun s l => f s l + lo 0 (VT Q K D (2 * (i 1).val)) s l + lo (0 + 1) (VT Q K D (2 * (i 1).val + 1)) s l)
  have s2 : w2step (realEnv Q K V D i) ((BitVec.ofNat 32 (2 * (i 1).val + 1), tb, rs Q K (2 * (i 1).val + 1) (0 + 1) 0, rs Q K (2 * (i 1).val + 1) (0 + 1) 1), g1,
        dvAt Q K D (i 1).val f 0 (0 + 1))
      = ((BitVec.ofNat 32 (2 * (i 1).val + 2), t1, rs Q K (2 * (i 1).val + 1) 0 0, rs Q K (2 * (i 1).val + 1) 0 1),
        put4 (k0_off8 i (BitVec.ofNat 32 (2 * (i 1).val + 1))) g1 (upS (slabR Q K V D (2 * (i 1).val + 1) 0)),
        dvAt Q K D (i 1).val f 0 0) := by
    rw [w2step_eq]
    dsimp only [realEnv]
    rw [ld2_up o7 (by omega), ld2_up o7 (by omega), dvAt, ld2_up o7 (by omega), r1, next_word]
    refine Prod.ext rfl (Prod.ext rfl ?_)
    exact dvAt_put1 Q K D f o7
  refine ⟨put4 (k0_off8 i (BitVec.ofNat 32 (2 * (i 1).val + 1))) g1 (upS (slabR Q K V D (2 * (i 1).val + 1) 0)),
    hg.put1 Q K V D hi (by omega) o8, ?_⟩
  have c1 := (w2cond_iff i (2 * (i 1).val + 1) (by omega) hb (rs Q K (2 * (i 1).val + 1) (0 + 1) 0) (rs Q K (2 * (i 1).val + 1) (0 + 1) 1)).2
    (le_refl _)
  have c2 : ¬w2cond (F := Ideal) i (BitVec.ofNat 32 (2 * (i 1).val + 2), t1, rs Q K (2 * (i 1).val + 1) 0 0, rs Q K (2 * (i 1).val + 1) 0 1) = 1#1 :=
    fun e => absurd ((w2cond_iff i _ (by omega) ht1 _ _).1 e) (by omega)
  have e := w2run_once (realEnv Q K V D i)
    ((BitVec.ofNat 32 (2 * (i 1).val + 1), tb, rs Q K (2 * (i 1).val + 1) (0 + 1) 0, rs Q K (2 * (i 1).val + 1) (0 + 1) 1), g1,
      dvAt Q K D (i 1).val f 0 (0 + 1)) c1 (by rw [s2]; exact c2)
  refine (pass1_of _ g (up f) hs (e.trans s2)).trans ?_
  dsimp only
  rw [show dvAt Q K D (i 1).val f 0 0 = up fun s l => f s l + VT Q K D (2 * (i 1).val) s l + VT Q K D (2 * (i 1).val + 1) s l from
    up_congr fun s _ l _ => by rw [lo_zero, lo_zero]]

/-! ### The second pass -/

/-- The sum of `dk` once each chain has read its blocks before `x`. -/
def dkAt (b : ℕ) (f : ℕ → ℕ → ℝ) (x0 x1 : ℕ) : S8192x128.Idx → EReal :=
  up fun s l => f s l + hi x0 (KT Q K V D (2 * b)) s l + hi x1 (KT Q K V D (2 * b + 1)) s l

theorem dkAt_put0 {b x0 x1 : ℕ} (f : ℕ → ℕ → ℝ) {off : Fin 2 → ℕ} (ho : off = ![256 * x0, 0]) :
    put2 off (dkAt Q K V D b f x0 x1)
      (up fun s l => tl x0 (fun s l => f s l + hi x0 (KT Q K V D (2 * b)) s l + hi x1 (KT Q K V D (2 * b + 1)) s l) s l
        + KT Q K V D (2 * b) (256 * x0 + s) l) = dkAt Q K V D b f (x0 + 1) x1 := by
  rw [dkAt, put2_up ho]
  refine up_congr fun s _ l _ => ?_
  rw [← hi_step x0 (KT Q K V D (2 * b)) s l]
  ring

theorem dkAt_put1 {b x0 x1 : ℕ} (f : ℕ → ℕ → ℝ) {off : Fin 2 → ℕ} (ho : off = ![256 * x1, 0]) :
    put2 off (dkAt Q K V D b f x0 x1)
      (up fun s l => tl x1 (fun s l => f s l + hi x0 (KT Q K V D (2 * b)) s l + hi x1 (KT Q K V D (2 * b + 1)) s l) s l
        + KT Q K V D (2 * b + 1) (256 * x1 + s) l) = dkAt Q K V D b f x0 (x1 + 1) := by
  rw [dkAt, put2_up ho]
  refine up_congr fun s _ l _ => ?_
  rw [← hi_step x1 (KT Q K V D (2 * b + 1)) s l]
  ring

/-- The sums of a chain before key block `x` of its second pass. -/
def qs (y x : ℕ) : T3 Ideal := (up (QA Q K V D y x), ps Q K V D y x 0, ps Q K V D y x 1)

theorem zero_tile : k0_pay103 (F := Ideal) = ln fun _ => 0 := by
  funext j; idx_vars j
  pointwise [k0_pay103]
  rfl

theorem qs_zero (y : ℕ) : (k0_pay103 (F := Ideal), k0_pay103 (F := Ideal), k0_pay103 (F := Ideal)) = qs Q K V D y 0 := by
  rw [zero_tile]
  refine Prod.ext ?_ (Prod.ext ?_ ?_)
  · exact up_congr fun r _ c _ => (QA_start Q K V D y r c).symm
  · exact ln_congr fun r _ => (PR_start Q K V D y 0 r).symm
  · exact ln_congr fun r _ => (PR_start Q K V D y 1 r).symm

theorem ld4_of {off : Fin 4 → ℕ} {o x : ℕ} {g : GS Ideal} {f : ℕ → ℕ → ℝ} (ho : off = ![o, x, 0, 0]) (h : At o x g f) :
    ld4 off g = upS f := by
  rw [ho]; exact h

theorem t1run_eq (i : grid0.Coords) (f : ℕ → ℕ → ℝ) (g : GS Ideal) (hg : Stored Q K V D (i 1).val 0 0 g) :
    t1run (realEnv Q K V D i) (BitVec.ofNat 32 (2 * (i 1).val + 1)) (BitVec.ofNat 32 (2 * (i 1).val + 2)) g
        (qs Q K V D (2 * (i 1).val + 1) 0, dkAt Q K V D (i 1).val f 0 0)
        (k0_t1_loop (BitVec.ofNat 32 (2 * (i 1).val + 1)) (BitVec.ofNat 32 (2 * (i 1).val + 2))).trips
      = (qs Q K V D (2 * (i 1).val + 1) 1, dkAt Q K V D (i 1).val f 0 1) := by
  have hi := i1_lt i
  have ht := t1_trips (2 * (i 1).val + 1) (2 * (i 1).val + 2) (by omega) (by omega)
  have h0 : 0 < (k0_t1_loop (BitVec.ofNat 32 (2 * (i 1).val + 1)) (BitVec.ofNat 32 (2 * (i 1).val + 2))).trips := by omega
  have one : ∀ (s : T3 Ideal × DA Ideal) (n : ℕ), n = 1 →
      t1run (realEnv Q K V D i) (BitVec.ofNat 32 (2 * (i 1).val + 1)) (BitVec.ofNat 32 (2 * (i 1).val + 2)) g s n
        = t1step (realEnv Q K V D i) (BitVec.ofNat 32 (2 * (i 1).val + 1)) (BitVec.ofNat 32 (2 * (i 1).val + 2)) ⟨0, h0⟩ g s := by
    rintro s _ rfl; exact dif_pos h0
  rw [one _ _ (by omega), t1step_eq]
  have o9 : k0_off9 i (BitVec.ofNat 32 (2 * (i 1).val + 1)) (BitVec.ofNat 32 (2 * (i 1).val + 2)) ⟨0, h0⟩ = ![256 * 0, 0] := by
    rw [off9_eq i _ _ ⟨0, h0⟩ (by show 0 < _; omega) (le_refl _)]
    rw [show 2 * (i 1).val + 1 - (2 * (i 1).val + 2 - 1 - 0) = 0 by omega]
  have o10 : k0_off10 i (BitVec.ofNat 32 (2 * (i 1).val + 1)) (BitVec.ofNat 32 (2 * (i 1).val + 2)) ⟨0, h0⟩ = ![1, 0, 0, 0] := by
    rw [off10_eq i _ _ ⟨0, h0⟩ (by show 0 < _; omega) (le_refl _)]
    rw [show 2 * (i 1).val + 1 - (2 * (i 1).val + 2 - 1 - 0) = 0 by omega]
  dsimp only [realEnv]
  rw [ld2_up o9 (by omega), ld4_of o10 (hg.2 0 (le_refl _) (by omega)), dkAt, ld2_up o9 (by omega), qs,
    two_tl Q K V D (show 0 < 2 * (i 1).val + 1 by omega) (by omega)]
  refine Prod.ext rfl ?_
  exact dkAt_put1 Q K V D f o9

theorem t3step_eq' (i : grid0.Coords) (f : ℕ → ℕ → ℝ) (g : GS Ideal) (hg : Stored Q K V D (i 1).val 0 0 g) (n : ℕ) (hn : n < 2 * (i 1).val)
    (h : n < (k0_t3_loop (BitVec.ofNat 32 (2 * (i 1).val + 1))).trips) :
    t3step (realEnv Q K V D i) (BitVec.ofNat 32 (2 * (i 1).val + 1)) ⟨n, h⟩ g
        ((qs Q K V D (2 * (i 1).val) n, qs Q K V D (2 * (i 1).val + 1) (n + 1)), dkAt Q K V D (i 1).val f n (n + 1))
      = ((qs Q K V D (2 * (i 1).val) (n + 1), qs Q K V D (2 * (i 1).val + 1) (n + 1 + 1)), dkAt Q K V D (i 1).val f (n + 1) (n + 1 + 1)) := by
  have hi := i1_lt i
  have e0 : 2 * (i 1).val - (2 * (i 1).val + 1 - 1 - n) = n := by omega
  have e1 : 2 * (i 1).val + 1 - (2 * (i 1).val + 1 - 1 - n) = n + 1 := by omega
  have o13 : k0_off13 i (BitVec.ofNat 32 (2 * (i 1).val + 1)) ⟨n, h⟩ 0#32 = ![256 * n, 0] := by
    rw [off13_0 i _ ⟨n, h⟩ (by show n < _; omega) (le_refl _), e0]
  have o13' : k0_off13 i (BitVec.ofNat 32 (2 * (i 1).val + 1)) ⟨n, h⟩ 1#32 = ![256 * (n + 1), 0] := by
    rw [off13_1 i _ ⟨n, h⟩ (by show n < _; omega) (le_refl _), e1]
  have o14 : k0_off14 i (BitVec.ofNat 32 (2 * (i 1).val + 1)) ⟨n, h⟩ = ![0, n, 0, 0] := by
    rw [off14_eq i _ ⟨n, h⟩ (by show n < _; omega) (le_refl _), e0]
  have o15 : k0_off15 i (BitVec.ofNat 32 (2 * (i 1).val + 1)) ⟨n, h⟩ = ![1, n + 1, 0, 0] := by
    rw [off15_eq i _ ⟨n, h⟩ (by show n < _; omega) (le_refl _), e1]
  have s0 : t3step0 (realEnv Q K V D i) (BitVec.ofNat 32 (2 * (i 1).val + 1)) ⟨n, h⟩ g
      (qs Q K V D (2 * (i 1).val) n, dkAt Q K V D (i 1).val f n (n + 1))
      = (qs Q K V D (2 * (i 1).val) (n + 1), dkAt Q K V D (i 1).val f (n + 1) (n + 1)) := by
    rw [t3step0_eq]
    dsimp only [realEnv]
    rw [ld2_up o13 (by omega), ld4_of o14 (hg.1 n (by omega) (by omega)), dkAt, ld2_up o13 (by omega), qs,
      two_tl Q K V D (show n < 2 * (i 1).val by omega) (by omega)]
    refine Prod.ext rfl ?_
    exact dkAt_put0 Q K V D f o13
  have s1 : t3step1 (realEnv Q K V D i) (BitVec.ofNat 32 (2 * (i 1).val + 1)) ⟨n, h⟩ g
      (qs Q K V D (2 * (i 1).val + 1) (n + 1), dkAt Q K V D (i 1).val f (n + 1) (n + 1))
      = (qs Q K V D (2 * (i 1).val + 1) (n + 1 + 1), dkAt Q K V D (i 1).val f (n + 1) (n + 1 + 1)) := by
    rw [t3step1_eq]
    dsimp only [realEnv]
    rw [ld2_up o13' (by omega), ld4_of o15 (hg.2 (n + 1) (by omega) (by omega)), dkAt, ld2_up o13' (by omega), qs,
      two_tl Q K V D (show n + 1 < 2 * (i 1).val + 1 by omega) (by omega)]
    refine Prod.ext rfl ?_
    exact dkAt_put1 Q K V D f o13'
  unfold t3step
  dsimp only
  rw [s0]
  dsimp only
  rw [s1]

theorem t3run_eq (i : grid0.Coords) (f : ℕ → ℕ → ℝ) (g : GS Ideal) (hg : Stored Q K V D (i 1).val 0 0 g) : ∀ n, n ≤ 2 * (i 1).val →
    t3run (realEnv Q K V D i) (BitVec.ofNat 32 (2 * (i 1).val + 1)) g
        ((qs Q K V D (2 * (i 1).val) 0, qs Q K V D (2 * (i 1).val + 1) 1), dkAt Q K V D (i 1).val f 0 1) n
      = ((qs Q K V D (2 * (i 1).val) n, qs Q K V D (2 * (i 1).val + 1) (n + 1)), dkAt Q K V D (i 1).val f n (n + 1)) := by
  have hi := i1_lt i
  have ht := t3_trips (2 * (i 1).val + 1) (by omega) (by omega)
  intro n
  induction n with
  | zero => intro _; rfl
  | succ n ih =>
    intro hn
    have hlt : n < (k0_t3_loop (BitVec.ofNat 32 (2 * (i 1).val + 1))).trips := by omega
    rw [t3run, dif_pos hlt, ih (by omega), t3step_eq' Q K V D i f g hg n (by omega) hlt]

/-- The second pass. -/
theorem pass2_eq (i : grid0.Coords) (f : ℕ → ℕ → ℝ) (g : GS Ideal) (hg : Stored Q K V D (i 1).val 0 0 g) :
    pass2 (realEnv Q K V D i) (BitVec.ofNat 32 (2 * (i 1).val + 1)) (BitVec.ofNat 32 (2 * (i 1).val + 2)) g (up f)
      = (up (tl (2 * (i 1).val) (dQ Q K V D)), up (tl (2 * (i 1).val + 1) (dQ Q K V D)),
          up fun s l => f s l + KT Q K V D (2 * (i 1).val) s l + KT Q K V D (2 * (i 1).val + 1) s l) := by
  have hi := i1_lt i
  have e : (up f : DA Ideal) = dkAt Q K V D (i 1).val f 0 0 := up_congr fun s _ l _ => by rw [hi_zero, hi_zero, add_zero, add_zero]
  have ht := t3_trips (2 * (i 1).val + 1) (by omega) (by omega)
  have f0 : fin0 (realEnv Q K V D i) g (qs Q K V D (2 * (i 1).val) (2 * (i 1).val))
      (dkAt Q K V D (i 1).val f (2 * (i 1).val) (2 * (i 1).val + 1))
      = (up (tl (2 * (i 1).val) (dQ Q K V D)), dkAt Q K V D (i 1).val f (2 * (i 1).val + 1) (2 * (i 1).val + 1)) := by
    rw [fin0_eq]
    dsimp only [realEnv]
    rw [ld2_up (off19_0 i) (by omega), ld4_of (off20_eq i) (hg.1 _ (by omega) (le_refl _)), dkAt, ld2_up (off19_0 i) (by omega), qs,
      twoD_tl Q K V D (mask0_diag i) (show 2 * (i 1).val < 32 by omega)]
    refine Prod.ext rfl ?_
    exact dkAt_put0 Q K V D f (off19_0 i)
  have f1 : fin1 (realEnv Q K V D i) g (qs Q K V D (2 * (i 1).val + 1) (2 * (i 1).val + 1))
      (dkAt Q K V D (i 1).val f (2 * (i 1).val + 1) (2 * (i 1).val + 1))
      = (up (tl (2 * (i 1).val + 1) (dQ Q K V D)), dkAt Q K V D (i 1).val f (2 * (i 1).val + 1) (2 * (i 1).val + 1 + 1)) := by
    rw [fin1_eq]
    dsimp only [realEnv]
    rw [ld2_up (off19_1 i) (by omega), ld4_of (off21_eq i) (hg.2 _ (by omega) (le_refl _)), dkAt, ld2_up (off19_1 i) (by omega), qs,
      twoD_tl Q K V D (mask1_diag i) (show 2 * (i 1).val + 1 < 32 by omega)]
    refine Prod.ext rfl ?_
    exact dkAt_put1 Q K V D f (off19_1 i)
  unfold pass2
  dsimp only
  rw [e, qs_zero Q K V D (2 * (i 1).val + 1), t1run_eq Q K V D i f g hg]
  dsimp only
  rw [← qs_zero Q K V D (2 * (i 1).val + 1), qs_zero Q K V D (2 * (i 1).val), t3run_eq Q K V D i f g hg _ (by omega)]
  dsimp only
  rw [ht]
  simp only [Nat.add_sub_cancel]
  rw [f0]
  dsimp only
  rw [f1]
  dsimp only
  rw [show dkAt Q K V D (i 1).val f (2 * (i 1).val + 1) (2 * (i 1).val + 1 + 1)
    = up fun s l => f s l + KT Q K V D (2 * (i 1).val) s l + KT Q K V D (2 * (i 1).val + 1) s l from
    up_congr fun s _ l _ => by rw [hi_KT, hi_KT]]

end Cert.AttnPass
end
-- ==== Proof.AttnArrays.lean ====
module

public import proofs.«01_k».proof.Proof.AttnSums
public import proofs.«01_k».proof.Proof.AttnFrame
public import Idealize.ShloMosaic.Lib.Pipeline.ValueKit

/-!
# What the attention backward leaves in its results

Each point's blocks are tiles of the real arrays that the arguments hold; the scratch sums after the last point of a
pair of heads are the gradients of its keys and values.
-/

@[expose] public section

noncomputable section

namespace Cert.AttnPass
open Cert.AttnBwdIdeal Cert.AttnBwdIdeal.Gen
open Idealize.ShloMosaic Idealize.ShloMosaic.TcCoe Idealize.SL.Sem
open Cert.AttnModel Cert.AttnTile Cert.AttnReal Cert.AttnSpec

variable (m : (ℓ : Loc nD τ sig) → Buf (Elt Ideal) ℓ)

theorem V_suffix (c : Dev nD) : V m c main_v4 = (triL : S256x256.Idx → EReal) := by
  have e : V m c main_v4 = truncf .bf16 (select (cmpi .sgt (iotaInDim S256x256 32 0) (iotaInDim S256x256 32 1))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32 := by
    rfl
  rw [e]
  funext j; idx_vars j
  pointwise []
  rw [triL, up_ix2]
  by_cases h : j1.val < j0.val
  · rw [WordCmp.cmpi_sgt_ofNat (by omega) (by omega), decide_eq_true h, if_pos h]; exact EReal.coe_one.symm
  · rw [WordCmp.cmpi_sgt_ofNat (by omega) (by omega), decide_eq_false h, if_neg h]; exact EReal.coe_zero.symm

theorem V_prefix (c : Dev nD) : V m c main_v9 = (triR : S256x256.Idx → EReal) := by
  have e : V m c main_v9 = truncf .bf16 (select (cmpi .slt (iotaInDim S256x256 32 0) (iotaInDim S256x256 32 1))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32 := by
    rfl
  rw [e]
  funext j; idx_vars j
  pointwise []
  rw [triR, up_ix2]
  by_cases h : j0.val < j1.val
  · rw [WordCmp.cmpi_slt_ofNat (by omega) (by omega), decide_eq_true h, if_pos h]; exact EReal.coe_one.symm
  · rw [WordCmp.cmpi_slt_ofNat (by omega) (by omega), decide_eq_false h, if_neg h]; exact EReal.coe_zero.symm

theorem idx6 : ∀ t : Fin (cfg0 (F := Ideal)).N, win0_0.index t = ![(grid0.coords t 1).val, (grid0.coords t 0).val] ∧ win0_1.index t = ![0, (grid0.coords t 0).val]
    ∧ win0_2.index t = ![0, 4 + (grid0.coords t 0).val] ∧ win0_3.index t = ![0, 0] ∧ win0_4.index t = ![0, 0]
    ∧ win0_5.index t = ![(grid0.coords t 1).val, (grid0.coords t 0).val]
    ∧ win0_6.index t = ![(grid0.coords t 1).val, (grid0.coords t 0).val]
    ∧ win0_7.index t = ![0, (grid0.coords t 0).val] ∧ win0_8.index t = ![0, (grid0.coords t 0).val] :=
  (by decide +kernel : ∀ t : Fin grid0.N, _)

theorem coord0 (t : Fin (cfg0 (F := Ideal)).N) : (grid0.coords t 0).val < 4 := (grid0.coords t 0).isLt
theorem coord1 (t : Fin (cfg0 (F := Ideal)).N) : (grid0.coords t 1).val < 16 := (grid0.coords t 1).isLt

/-- A pair of heads' columns of an array. -/
def cols (p : ℕ) (f : ℕ → ℕ → ℝ) (r l : ℕ) : ℝ := f r (128 * p + l)

theorem iblk0 (c : Dev nD) (t : Fin (cfg0 (F := Ideal)).N) (q : ℕ → ℕ → ℝ) (h : m ((c : Thread nD τ).loc main_arg0) = (up q : S8192x512.Idx → EReal)) :
    iblk m c 0 t = (up fun r l => cols (grid0.coords t 0).val q (512 * (grid0.coords t 1).val + r) l : S512x128.Idx → EReal) := by
  funext j; idx_vars j
  have h0 := coord0 t
  have h1 := coord1 t
  have e : iblk m c 0 t (ix2 j0 j1) = m ((c : Thread nD τ).loc main_arg0)
      (ix2 (n0 := 8192) (n1 := 512) ⟨512 * (grid0.coords t 1).val + j0.val, by omega⟩ ⟨128 * (grid0.coords t 0).val + j1.val, by omega⟩) := by
    blk_point [iblk, V, idx6 t]
  rw [e, h]; rfl

theorem iblk5 (c : Dev nD) (t : Fin (cfg0 (F := Ideal)).N) (f : ℕ → ℕ → ℝ) (h : m ((c : Thread nD τ).loc main_arg2) = (up f : S8192x512.Idx → EReal)) :
    iblk m c 5 t = (up fun r l => cols (grid0.coords t 0).val f (512 * (grid0.coords t 1).val + r) l : S512x128.Idx → EReal) := by
  funext j; idx_vars j
  have h0 := coord0 t
  have h1 := coord1 t
  have e : iblk m c 5 t (ix2 j0 j1) = m ((c : Thread nD τ).loc main_arg2)
      (ix2 (n0 := 8192) (n1 := 512) ⟨512 * (grid0.coords t 1).val + j0.val, by omega⟩ ⟨128 * (grid0.coords t 0).val + j1.val, by omega⟩) := by
    blk_point [iblk, V, idx6 t]
  rw [e, h]; rfl

theorem iblk1 (c : Dev nD) (t : Fin (cfg0 (F := Ideal)).N) (f : ℕ → ℕ → ℝ) (h : m ((c : Thread nD τ).loc main_arg1) = (up f : S8192x1024.Idx → EReal)) :
    iblk m c 1 t = (up (cols (grid0.coords t 0).val f) : S8192x128.Idx → EReal) := by
  funext j; idx_vars j
  have h0 := coord0 t
  have e : iblk m c 1 t (ix2 j0 j1) = m ((c : Thread nD τ).loc main_arg1)
      (ix2 (n0 := 8192) (n1 := 1024) ⟨j0.val, by omega⟩ ⟨128 * (grid0.coords t 0).val + j1.val, by omega⟩) := by
    blk_point [iblk, V, idx6 t]
  rw [e, h]; rfl

theorem iblk2 (c : Dev nD) (t : Fin (cfg0 (F := Ideal)).N) (f : ℕ → ℕ → ℝ) (h : m ((c : Thread nD τ).loc main_arg1) = (up f : S8192x1024.Idx → EReal)) :
    iblk m c 2 t = (up (cols (4 + (grid0.coords t 0).val) f) : S8192x128.Idx → EReal) := by
  funext j; idx_vars j
  have h0 := coord0 t
  have e : iblk m c 2 t (ix2 j0 j1) = m ((c : Thread nD τ).loc main_arg1)
      (ix2 (n0 := 8192) (n1 := 1024) ⟨j0.val, by omega⟩ ⟨128 * (4 + (grid0.coords t 0).val) + j1.val, by omega⟩) := by
    blk_point [iblk, V, idx6 t]
  rw [e, h]; rfl

theorem iblk3 (c : Dev nD) (t : Fin (cfg0 (F := Ideal)).N) : iblk m c 3 t = (triL : S256x256.Idx → EReal) := by
  funext j; idx_vars j
  have e : iblk m c 3 t (ix2 j0 j1) = V m c main_v4 (ix2 (n0 := 256) (n1 := 256) j0 j1) := by
    blk_point [iblk, idx6 t]
  rw [e, V_suffix]

theorem iblk4 (c : Dev nD) (t : Fin (cfg0 (F := Ideal)).N) : iblk m c 4 t = (triR : S256x256.Idx → EReal) := by
  funext j; idx_vars j
  have e : iblk m c 4 t (ix2 j0 j1) = V m c main_v9 (ix2 (n0 := 256) (n1 := 256) j0 j1) := by
    blk_point [iblk, idx6 t]
  rw [e, V_prefix]

theorem half_up (o : ℕ) (ho : o + 256 ≤ 512) (f : ℕ → ℕ → ℝ) :
    half o (up f : S512x128.Idx → EReal) = up fun r l => f (o + r) l := by
  funext j; idx_vars j
  show ((f ((o + j0.val) % 512) j1.val : ℝ) : EReal) = _
  rw [Nat.mod_eq_of_lt (by omega)]; rfl

theorem pay99_up (f : ℕ → ℕ → ℝ) : k0_pay99 (F := Ideal) (up f) = up fun r l => f r l * (1 / 8) := by
  funext j; idx_vars j
  pointwise [k0_pay99]
  rw [up_ix2, up_ix2]
  show _ * Ideal.ofBits .bf16 0x3E00#16 = _
  rw [eighth_bf16, ← EReal.coe_mul]

variable (q kv dy : ℕ → ℕ → ℝ)

/-- The scaled queries of a pair of heads. -/
def Qp (p r l : ℕ) : ℝ := cols p q r l * (1 / 8)

theorem envAt_eq (c : Dev nD) (t : Fin (cfg0 (F := Ideal)).N) (hq : m ((c : Thread nD τ).loc main_arg0) = (up q : S8192x512.Idx → EReal))
    (hk : m ((c : Thread nD τ).loc main_arg1) = (up kv : S8192x1024.Idx → EReal))
    (hd : m ((c : Thread nD τ).loc main_arg2) = (up dy : S8192x512.Idx → EReal)) :
    envAt m c t = realEnv (Qp q (grid0.coords t 0).val) (cols (grid0.coords t 0).val kv) (cols (4 + (grid0.coords t 0).val) kv)
      (cols (grid0.coords t 0).val dy) (grid0.coords t) := by
  unfold envAt env realEnv
  rw [iblk0 m c t q hq, iblk1 m c t kv hk, iblk2 m c t kv hk, iblk3, iblk4, iblk5 m c t dy hd, half_up 0 (by omega), half_up 256 (by omega),
    half_up 0 (by omega), half_up 256 (by omega), pay99_up, show k0_pay100 (F := Ideal) = k0_pay99 from rfl, pay99_up]
  have es : k0_pay97 (F := Ideal) triL = triL := by funext j; idx_vars j; pointwise [k0_pay97]
  have ep : k0_pay98 (F := Ideal) triR = triR := by funext j; idx_vars j; pointwise [k0_pay98]
  rw [es, ep]
  congr 1
  · exact up_congr fun r _ l _ => by rw [tl, Qp]; congr 2; omega
  · exact up_congr fun r _ l _ => by rw [tl, Qp]; congr 2; omega
  · exact up_congr fun r _ l _ => by rw [tl]; congr 1; omega
  · exact up_congr fun r _ l _ => by rw [tl]; congr 1; omega

/-! ### A point, and the sums over the points -/

theorem zero_pay94 : k0_pay94 (F := Ideal) = (up fun _ _ => 0 : S8192x128.Idx → EReal) := by
  funext j; idx_vars j; pointwise [k0_pay94]; rfl

theorem zero_pay95 : k0_pay95 (F := Ideal) = (up fun _ _ => 0 : S8192x128.Idx → EReal) := by
  funext j; idx_vars j; pointwise [k0_pay95]; rfl

section Point
variable (Q K V D : ℕ → ℕ → ℝ)

/-- The sum of `dk` over the queries of the first `n` blocks. -/
def dkSum (n s l : ℕ) : ℝ := ∑ y ∈ Finset.range n, KT Q K V D y s l
/-- The sum of `dv` over the queries of the first `n` blocks. -/
def dvSum (n s l : ℕ) : ℝ := ∑ y ∈ Finset.range n, VT Q K D y s l

theorem point_eq (i : grid0.Coords) (s : Scr Ideal)
    (hs : ¬(i 1).val = 0 → s.2.1 = (up (dkSum Q K V D (2 * (i 1).val)) : S8192x128.Idx → EReal)
      ∧ s.2.2 = (up (dvSum Q K D (2 * (i 1).val)) : S8192x128.Idx → EReal)) :
    ∃ g', point (realEnv Q K V D i) s = ((up (tl (2 * (i 1).val) (dQ Q K V D)), up (tl (2 * (i 1).val + 1) (dQ Q K V D))), g',
      up (dkSum Q K V D (2 * (i 1).val + 2)), up (dvSum Q K D (2 * (i 1).val + 2))) := by
  have e : ∃ g, start i s = (g, (up (dkSum Q K V D (2 * (i 1).val)) : S8192x128.Idx → EReal), (up (dvSum Q K D (2 * (i 1).val)) : S8192x128.Idx → EReal)) := by
    refine ⟨s.1, ?_⟩
    unfold start
    by_cases h : (i 1).val = 0
    · rw [if_pos h, zero_pay94, zero_pay95, h]
      rfl
    · rw [if_neg h, ← (hs h).1, ← (hs h).2]
  obtain ⟨g, e⟩ := e
  obtain ⟨g', hg', h1⟩ := pass1_eq Q K V D i (dvSum Q K D (2 * (i 1).val)) g
  refine ⟨g', ?_⟩
  unfold point
  dsimp only
  rw [show (realEnv Q K V D i).i = i from rfl, e]
  dsimp only
  rw [h1]
  dsimp only
  rw [pass2_eq Q K V D i _ g' hg']
  dsimp only
  have e1 : (up fun s l => dkSum Q K V D (2 * (i 1).val) s l + KT Q K V D (2 * (i 1).val) s l + KT Q K V D (2 * (i 1).val + 1) s l : S8192x128.Idx → EReal)
      = up (dkSum Q K V D (2 * (i 1).val + 2)) :=
    up_congr fun s _ l _ => by rw [dkSum, dkSum, Finset.sum_range_succ, Finset.sum_range_succ]
  have e2 : (up fun s l => dvSum Q K D (2 * (i 1).val) s l + VT Q K D (2 * (i 1).val) s l + VT Q K D (2 * (i 1).val + 1) s l : S8192x128.Idx → EReal)
      = up (dvSum Q K D (2 * (i 1).val + 2)) :=
    up_congr fun s _ l _ => by rw [dvSum, dvSum, Finset.sum_range_succ, Finset.sum_range_succ]
  rw [e1, e2]

end Point

theorem coords_eq : ∀ t : Fin (cfg0 (F := Ideal)).N, (grid0.coords t 0).val = t.val / 16 ∧ (grid0.coords t 1).val = t.val % 16 :=
  (by decide +kernel : ∀ t : Fin grid0.N, _)

/-- What a point leaves. -/
theorem point_at (c : Dev nD) (s : Scr Ideal) (hq : m ((c : Thread nD τ).loc main_arg0) = (up q : S8192x512.Idx → EReal))
    (hk : m ((c : Thread nD τ).loc main_arg1) = (up kv : S8192x1024.Idx → EReal))
    (hd : m ((c : Thread nD τ).loc main_arg2) = (up dy : S8192x512.Idx → EReal)) : ∀ (n : ℕ) (t : Fin (cfg0 (F := Ideal)).N), t.val = n →
    ∃ g', point (envAt m c t) (scr m c s t.val)
      = ((up (tl (2 * (n % 16)) (dQ (Qp q (n / 16)) (cols (n / 16) kv) (cols (4 + n / 16) kv) (cols (n / 16) dy))),
          up (tl (2 * (n % 16) + 1) (dQ (Qp q (n / 16)) (cols (n / 16) kv) (cols (4 + n / 16) kv) (cols (n / 16) dy)))), g',
        up (dkSum (Qp q (n / 16)) (cols (n / 16) kv) (cols (4 + n / 16) kv) (cols (n / 16) dy) (2 * (n % 16) + 2)),
        up (dvSum (Qp q (n / 16)) (cols (n / 16) kv) (cols (n / 16) dy) (2 * (n % 16) + 2))) := by
  intro n
  induction n with
  | zero =>
    intro t ht
    obtain ⟨c0, c1⟩ := coords_eq t
    rw [ht] at c0 c1
    rw [envAt_eq m q kv dy c t hq hk hd, c0]
    obtain ⟨g', h⟩ := point_eq (Qp q (0 / 16)) (cols (0 / 16) kv) (cols (4 + 0 / 16) kv) (cols (0 / 16) dy) (grid0.coords t) (scr m c s t.val)
      (fun h => absurd c1 h)
    refine ⟨g', h.trans ?_⟩
    rw [c1]
  | succ n ih =>
    intro t ht
    obtain ⟨c0, c1⟩ := coords_eq t
    rw [ht] at c0 c1
    rw [envAt_eq m q kv dy c t hq hk hd, c0]
    obtain ⟨g', h⟩ := point_eq (Qp q ((n + 1) / 16)) (cols ((n + 1) / 16) kv) (cols (4 + (n + 1) / 16) kv) (cols ((n + 1) / 16) dy) (grid0.coords t)
      (scr m c s t.val) (fun hne => by
        rw [c1] at hne ⊢
        have hn : n < (cfg0 (F := Ideal)).N := by have := t.isLt; omega
        obtain ⟨g1, e⟩ := ih ⟨n, hn⟩ rfl
        have hsc : scr m c s t.val = (point (envAt m c ⟨n, hn⟩) (scr m c s n)).2 := by
          rw [ht]; exact scr_succ m c s ⟨n, hn⟩
        rw [hsc, e]
        dsimp only
        rw [show (n + 1) / 16 = n / 16 by omega, show 2 * ((n + 1) % 16) = 2 * (n % 16) + 2 by omega]
        exact ⟨rfl, rfl⟩)
    refine ⟨g', h.trans ?_⟩
    rw [c1]

/-! ### The arrays -/

/-- The gradient by the queries, -/
def dqF (r c : ℕ) : ℝ := dQ (Qp q (c / 128)) (cols (c / 128) kv) (cols (4 + c / 128) kv) (cols (c / 128) dy) r (c % 128)
/-- by the keys -/
def dkF (r c : ℕ) : ℝ := dK (Qp q (c / 128)) (cols (c / 128) kv) (cols (4 + c / 128) kv) (cols (c / 128) dy) r (c % 128)
/-- and by the values. -/
def dvF (r c : ℕ) : ℝ := dV (Qp q (c / 128)) (cols (c / 128) kv) (cols (c / 128) dy) r (c % 128)

theorem flush7 : ∀ t : Fin (cfg0 (F := Ideal)).N, win0_7.flush t = true → t.val % 16 = 15 ∧ k0_cond2 (grid0.coords t) = 1#1 :=
  (by decide +kernel : ∀ t : Fin grid0.N, _)
theorem flush8 : ∀ t : Fin (cfg0 (F := Ideal)).N, win0_8.flush t = true → t.val % 16 = 15 ∧ k0_cond2 (grid0.coords t) = 1#1 :=
  (by decide +kernel : ∀ t : Fin grid0.N, _)

section Arrays
variable (c : Dev nD) (hq : m ((c : Thread nD τ).loc main_arg0) = (up q : S8192x512.Idx → EReal))
    (hk : m ((c : Thread nD τ).loc main_arg1) = (up kv : S8192x1024.Idx → EReal))
    (hd : m ((c : Thread nD τ).loc main_arg2) = (up dy : S8192x512.Idx → EReal))
include hq hk hd

theorem leaves6 (t : Fin (cfg0 (F := Ideal)).N) (X) (h : (rdat m c).Leaves 6 t X) :
    X = (up fun r l => dqF q kv dy (512 * (t.val % 16) + r) (128 * (t.val / 16) + l) : S512x128.Idx → EReal) := by
  obtain ⟨Y, _, s, rfl⟩ := h
  obtain ⟨g', e⟩ := point_at m q kv dy c s hq hk hd t.val t rfl
  rw [e]
  dsimp only
  funext j; idx_vars j
  unfold both
  dsimp only
  have e1 : (128 * (t.val / 16) + j1.val) / 128 = t.val / 16 := by omega
  have e2 : (128 * (t.val / 16) + j1.val) % 128 = j1.val := by omega
  split
  · rw [up_ix2, up_ix2, dqF, e1, e2, tl]
    exact congrArg (fun w => ((dQ (Qp q (t.val / 16)) (cols (t.val / 16) kv) (cols (4 + t.val / 16) kv) (cols (t.val / 16) dy) w j1.val : ℝ) : EReal))
      (show 256 * (2 * (t.val % 16)) + j0.val = 512 * (t.val % 16) + j0.val by omega)
  · rename_i hlt
    have hge : 256 ≤ j0.val := Nat.not_lt.1 hlt
    rw [up_ix2, up_ix2, dqF, e1, e2, tl]
    exact congrArg (fun w => ((dQ (Qp q (t.val / 16)) (cols (t.val / 16) kv) (cols (4 + t.val / 16) kv) (cols (t.val / 16) dy) w j1.val : ℝ) : EReal))
      (show 256 * (2 * (t.val % 16) + 1) + (j0.val - 256) = 512 * (t.val % 16) + j0.val by omega)

theorem leaves7 (t : Fin (cfg0 (F := Ideal)).N) (hf : win0_7.flush t = true) (X) (h : (rdat m c).Leaves 7 t X) :
    X = (up fun r l => dkF q kv dy r (128 * (t.val / 16) + l) : S8192x128.Idx → EReal) := by
  obtain ⟨Y, _, s, rfl⟩ := h
  obtain ⟨g', e⟩ := point_at m q kv dy c s hq hk hd t.val t rfl
  rw [if_pos (flush7 t hf).2, e, (flush7 t hf).1]
  dsimp only
  funext j; idx_vars j
  pointwise [k0_pay166]
  have e1 : (128 * (t.val / 16) + j1.val) / 128 = t.val / 16 := by omega
  have e2 : (128 * (t.val / 16) + j1.val) % 128 = j1.val := by omega
  rw [up_ix2, up_ix2, dkF, e1, e2, dK_tiles]
  rfl

theorem leaves8 (t : Fin (cfg0 (F := Ideal)).N) (hf : win0_8.flush t = true) (X) (h : (rdat m c).Leaves 8 t X) :
    X = (up fun r l => dvF q kv dy r (128 * (t.val / 16) + l) : S8192x128.Idx → EReal) := by
  obtain ⟨Y, _, s, rfl⟩ := h
  obtain ⟨g', e⟩ := point_at m q kv dy c s hq hk hd t.val t rfl
  rw [if_pos (flush8 t hf).2, e, (flush8 t hf).1]
  dsimp only
  funext j; idx_vars j
  pointwise [k0_pay167]
  have e1 : (128 * (t.val / 16) + j1.val) / 128 = t.val / 16 := by omega
  have e2 : (128 * (t.val / 16) + j1.val) % 128 = j1.val := by omega
  rw [up_ix2, up_ix2, dvF, e1, e2, dV_tiles]
  rfl

variable (after : (w : Fin (cfg0 (F := Ideal)).W) → (t : Fin (cfg0 (F := Ideal)).N) → ((cfg0 (F := Ideal)).win w).block.Idx → Elt Ideal ((cfg0 (F := Ideal)).win w).elt)
  (ha : ∀ w t, ((cfg0 (F := Ideal)).win w).flush t = true → (rdat m c).Leaves w t (after w t))
include ha

theorem arr6 : ((rdat m c).withAfter after).arrAt 6 (cfg0 (F := Ideal)).N = (up (dqF q kv dy) : S8192x512.Idx → EReal) := by
  refine ((rdat m c).withAfter after).arrAt_eq_of_covers 6 _ (by decide +kernel) fun t ht y => ?_
  blk_simp
  rw [show ((rdat m c).withAfter after).after 6 t = after 6 t from rfl, leaves6 m q kv dy c hq hk hd t _ (ha 6 t ht)]
  idx_vars y
  obtain ⟨c0, c1⟩ := coords_eq t
  have h0 := coord0 t
  have h1 := coord1 t
  have e : (up (dqF q kv dy) : S8192x512.Idx → EReal) ((win0_6.blk t).view.emb (ix2 y0 y1))
      = (up (dqF q kv dy) : S8192x512.Idx → EReal) (ix2 (n0 := 8192) (n1 := 512) ⟨512 * (grid0.coords t 1).val + y0.val, by omega⟩
        ⟨128 * (grid0.coords t 0).val + y1.val, by omega⟩) := by
    blk_point [idx6 t]
  rw [e, up_ix2, up_ix2]
  dsimp only
  rw [c0, c1]

theorem arr7 : ((rdat m c).withAfter after).arrAt 7 (cfg0 (F := Ideal)).N = (up (dkF q kv dy) : S8192x512.Idx → EReal) := by
  refine ((rdat m c).withAfter after).arrAt_eq_of_covers 7 _ (by decide +kernel) fun t ht y => ?_
  blk_simp
  rw [show ((rdat m c).withAfter after).after 7 t = after 7 t from rfl, leaves7 m q kv dy c hq hk hd t ht _ (ha 7 t ht)]
  idx_vars y
  obtain ⟨c0, c1⟩ := coords_eq t
  have h0 := coord0 t
  have e : (up (dkF q kv dy) : S8192x512.Idx → EReal) ((win0_7.blk t).view.emb (ix2 y0 y1))
      = (up (dkF q kv dy) : S8192x512.Idx → EReal) (ix2 (n0 := 8192) (n1 := 512) ⟨y0.val, by omega⟩
        ⟨128 * (grid0.coords t 0).val + y1.val, by omega⟩) := by
    blk_point [idx6 t]
  rw [e, up_ix2, up_ix2]
  dsimp only
  rw [c0]

theorem arr8 : ((rdat m c).withAfter after).arrAt 8 (cfg0 (F := Ideal)).N = (up (dvF q kv dy) : S8192x512.Idx → EReal) := by
  refine ((rdat m c).withAfter after).arrAt_eq_of_covers 8 _ (by decide +kernel) fun t ht y => ?_
  blk_simp
  rw [show ((rdat m c).withAfter after).after 8 t = after 8 t from rfl, leaves8 m q kv dy c hq hk hd t ht _ (ha 8 t ht)]
  idx_vars y
  obtain ⟨c0, c1⟩ := coords_eq t
  have h0 := coord0 t
  have e : (up (dvF q kv dy) : S8192x512.Idx → EReal) ((win0_8.blk t).view.emb (ix2 y0 y1))
      = (up (dvF q kv dy) : S8192x512.Idx → EReal) (ix2 (n0 := 8192) (n1 := 512) ⟨y0.val, by omega⟩
        ⟨128 * (grid0.coords t 0).val + y1.val, by omega⟩) := by
    blk_point [idx6 t]
  rw [e, up_ix2, up_ix2]
  dsimp only
  rw [c0]

end Arrays

end Cert.AttnPass
end
-- ==== Proof.FwdPass.lean ====
module

public import proofs.«01_k».proof.Proof.FwdLaunch
public import proofs.«01_k».proof.Proof.AttnArrays

/-!
# A point of the attention forward, on real arrays

Each chain's partial result after its key blocks from `x` on, down to block `0`; the early exit's threshold is `⊥`, so no
loop stops before.
-/

@[expose] public section

set_option maxRecDepth 16384

noncomputable section

namespace Cert.FwdPass
open Cert.AttnFwdIdeal Cert.AttnFwdIdeal.Gen
open Idealize.ShloMosaic Idealize.ShloMosaic.TcCoe
open Cert.FwdModel Cert.AttnTile Cert.AttnReal Cert.AttnSpec
open Cert.AttnModel (ld2)
open Cert.AttnPass (ld2_up ln_congr pair_congr rs slt_word sub_zero_word)

variable (Q K V : ℕ → ℕ → ℝ)

/-- The attention's result. -/
def OO (t c : ℕ) : ℝ := ∑ s ∈ Finset.range 8192, AA Q K (c / 64) t s * V s c

/-- The result of queries' block `y` over the key blocks from `x` on. -/
def OA (y x r c : ℕ) : ℝ := ∑ s ∈ Finset.range 8192, (if 256 * x ≤ s then AA Q K (c / 64) (256 * y + r) s * V s c else 0)

theorem OA_end (y : ℕ) : OA Q K V y 0 = tl y (OO Q K V) := by
  funext r c
  exact Finset.sum_congr rfl fun s _ => if_pos (by omega)

theorem OA_step {y x : ℕ} (hx : x < 32) (r c : ℕ) :
    OA Q K V y (x + 1) r c + ∑ s ∈ Finset.range 256, AA Q K (c / 64) (256 * y + r) (256 * x + s) * V (256 * x + s) c = OA Q K V y x r c :=
  sum_above x hx (fun s => AA Q K (c / 64) (256 * y + r) s * V s c)

theorem OA_start (y r c : ℕ) (hr : r < 256) : OA Q K V y (y + 1) r c = 0 :=
  Finset.sum_eq_zero fun s _ => by
    split
    · rw [AA_late Q K (by omega), zero_mul]
    · rfl

/-! ### A chain's step on a block -/

/-- A chain of queries' block `y` that has read the key blocks from `x` on. -/
def Holds (y x : ℕ) (s : St Ideal) : Prop :=
  s.1 ≠ (⊥ : EReal) ∧ s.2 = (up (OA Q K V y x), rs Q K y x 0, rs Q K y x 1)

theorem fone_tl {y x : ℕ} (hxy : x < y) (hy : y < 32) (s : St Ideal) (h : Holds Q K V y (x + 1) s) :
    Holds Q K V y x (fone lanes triL (up (tl y Q)) (up (tl x K)) (up (tl x V)) s) := by
  obtain ⟨t, a, ra, rb⟩ := s
  obtain ⟨_, e⟩ := h
  dsimp only at e
  obtain ⟨rfl, rfl, rfl⟩ : a = up (OA Q K V y (x + 1)) ∧ ra = rs Q K y (x + 1) 0 ∧ rb = rs Q K y (x + 1) 1 := by
    simpa only [Prod.mk.injEq] using e
  obtain ⟨t', ht', e1⟩ := Cert.AttnPass.one_tl Q K V (fun _ _ => 0) hxy hy (fun _ _ => 0)
  have e2 := congrArg Prod.fst e1
  have hw := wgt_up (tl y Q) (tl x K) (fun h r => CR Q K y (x + 1) h r)
  unfold one at e2
  dsimp only at e2
  simp only [Prod.mk.injEq] at e2
  obtain ⟨e0, ea, eb⟩ := e2
  unfold fone Holds
  dsimp only
  rw [e0, ea, eb]
  refine ⟨ht', Prod.ext ?_ rfl⟩
  dsimp only
  refine (congrArg (fun w => addq (F := Ideal) lanes (up (tl x V)) w (up (OA Q K V y (x + 1)))) hw).trans ?_
  rw [addq_up]
  refine up_congr fun r hr c hc => ?_
  refine Eq.trans ?_ (OA_step Q K V (y := y) (x := x) (by omega) r c)
  refine congrArg (OA Q K V y (x + 1) r c + ·) (Finset.sum_congr rfl fun s hs => ?_)
  rw [wgt_tl Q K hxy hy _ r s (Finset.mem_range.1 hs)]; rfl

theorem foneD_tl {msk : IVec S256x512 1} (hm : IsDiag msk) {y : ℕ} (hy : y < 32) :
    Holds Q K V y y (foneD msk lanes triL (up (tl y Q)) (up (tl y K)) (up (tl y V))) := by
  obtain ⟨t', ht', e1⟩ := Cert.AttnPass.oneD_tl Q K V (fun _ _ => 0) hm hy (fun _ _ => 0)
  have e2 := congrArg Prod.fst e1
  have hw := wgtD_up hm (tl y Q) (tl y K)
  rw [← failD_up hm, ← zero_ln] at hw
  unfold oneD at e2
  dsimp only at e2
  simp only [Prod.mk.injEq] at e2
  obtain ⟨e0, ea, eb⟩ := e2
  unfold foneD Holds
  dsimp only
  rw [e0, ea, eb]
  refine ⟨ht', Prod.ext ?_ rfl⟩
  dsimp only
  refine (congrArg (fun w => addq (F := Ideal) lanes (up (tl y V)) w (Cert.AttnBwdIdeal.Gen.k0_pay103 (F := Ideal))) hw).trans ?_
  rw [show Cert.AttnBwdIdeal.Gen.k0_pay103 (F := Ideal) = up fun _ _ => 0 from zero_ln.trans (up_congr fun _ _ _ _ => mul_zero _), addq_up]
  refine up_congr fun r hr c hc => ?_
  rw [← OA_step Q K V hy, OA_start Q K V y r c hr]
  refine congrArg ((0 : ℝ) + ·) (Finset.sum_congr rfl fun s hs => ?_)
  rw [wgtD_tl Q K hy _ r s hr (Finset.mem_range.1 hs)]; rfl

/-! ### The masks and the tests -/

theorem slt_own (i : grid0.Coords) (c : ℕ) (hc : c ≤ 3) (r : Fin 256) (j : Fin 512) {b : BitVec 32} (hb : b = ownw i (BitVec.ofNat 32 c)) :
    IntOp.cmpi .slt (IntOp.addi (Scalar.muli b 256#32) (IntOp.andi (BitVec.ofNat 32 j.val) 255#32))
      (IntOp.addi (Scalar.muli b 256#32) (BitVec.ofNat 32 r.val)) = if j.val % 256 < r.val then 1#1 else 0#1 := by
  have hi := i1_lt i
  rw [hb, own_word i c hc]
  exact slt_word _ _ _ (by omega) r.isLt j.isLt

theorem diag0 (i : grid0.Coords) : IsDiag (k0_pay47 (ownw i 0#32) (k0_pay41 i)) := by
  intro r j
  pointwise [k0_pay47, k0_pay41]
  rw [sub_zero_word]
  exact slt_own i 0 (by omega) r j rfl

theorem diag1 (i : grid0.Coords) : IsDiag (k0_pay62 (k0_pay42 i) (roww i 1#32)) := by
  intro r j
  pointwise [k0_pay62, k0_pay42]
  rw [roww, sub_zero_word]
  exact slt_own i 1 (by omega) r j rfl

theorem diag2 (i : grid0.Coords) : IsDiag (k0_pay78 (k0_pay43 (ownw i 2#32)) (roww i 2#32)) := by
  intro r j
  pointwise [k0_pay78, k0_pay43]
  rw [roww, sub_zero_word]
  exact slt_own i 2 (by omega) r j rfl

theorem diag3 (i : grid0.Coords) : IsDiag (k0_pay95 (ownw i 3#32) (k0_pay44 (ownw i 3#32))) := by
  intro r j
  pointwise [k0_pay95, k0_pay44]
  rw [sub_zero_word]
  exact slt_own i 3 (by omega) r j rfl

theorem off1_eq : ∀ (i : grid0.Coords) (c : Fin 4), k0_off1 i (BitVec.ofNat 32 c.val) = ![256 * (4 * (i 1).val + c.val), 0] := by decide +kernel

theorem passes {x : EReal} (h : x ≠ ⊥) :
    Scalar.cmpf (F := Ideal) (φ := .f32) .ogt x (Named.named (F := Ideal) (φ := .f32) κ "exit" 0xC3168000#32) = 1#1 :=
  Cert.AttnPass.exit_passes h

theorem test_iff {i : grid0.Coords} (c n : ℕ) (hc : c ≤ 3) (hn : n < 60) {x : EReal} (hx : x ≠ ⊥) :
    Scalar.andi (Scalar.cmpi .sle (BitVec.ofNat 32 n) (ownw i (BitVec.ofNat 32 c)))
        (Scalar.cmpf (F := Ideal) (φ := .f32) .ogt x (Named.named (F := Ideal) (φ := .f32) κ "exit" 0xC3168000#32)) = 1#1
      ↔ n ≤ 4 * (i 1).val + c := by
  rw [passes hx, le_word i c n hc hn]
  by_cases h : n ≤ 4 * (i 1).val + c
  · simp [h, Scalar.andi, IntOp.andi]
  · simp [h, Scalar.andi, IntOp.andi, -not_le]

theorem top_ne {a b c d : EReal} (ha : a ≠ ⊥) : k0_pay6 (F := Ideal) a b c d ≠ (⊥ : EReal) := by
  show max (max (max a b) c) d ≠ ⊥
  rw [Ne, max_eq_bot, max_eq_bot, max_eq_bot]
  tauto

theorem next_word (n : ℕ) : Scalar.addi (BitVec.ofNat 32 n) 1#32 = BitVec.ofNat 32 (n + 1) := by
  apply BitVec.eq_of_toNat_eq
  simp [Scalar.addi, IntOp.addi]

/-! ### The loops end at the first key block -/

theorem run_ends {S : Type} (cond : S → BitVec 1) (step : S → S) (P : ℕ → S → Prop) (e : ℕ)
    (hcond : ∀ n s, n ≤ e + 1 → P n s → (cond s = 1#1 ↔ n ≤ e)) (hstep : ∀ n s, n ≤ e → P n s → P (n + 1) (step s)) :
    ∀ (k n : ℕ) (s : S), n ≤ e + 1 → e + 1 < n + k → P n s → P (e + 1) (run cond step k s) := by
  intro k
  induction k with
  | zero => intro n s _ h _; omega
  | succ k ih =>
    intro n s hn hk h
    rw [run]
    by_cases hc : n ≤ e
    · rw [if_pos ((hcond n s hn h).2 hc)]
      exact ih (n + 1) _ (by omega) (by omega) (hstep n s hc h)
    · rw [if_neg (fun hh => hc ((hcond n s hn h).1 hh)), show e + 1 = n by omega]
      exact h

/-- What a point holds fixed, on real arrays. -/
def realEnv (i : grid0.Coords) : Env Ideal where
  i := i
  k := up K
  v := up V
  m := lanes
  su := triL
  q0 := up (tl (4 * (i 1).val) Q)
  q1 := up (tl (4 * (i 1).val + 1) Q)
  q2 := up (tl (4 * (i 1).val + 2) Q)
  q3 := up (tl (4 * (i 1).val + 3) Q)

variable (i : grid0.Coords)

/-- The four chains before step `n` of the joint loop. -/
def J (n : ℕ) (s : R1 Ideal) : Prop :=
  1 ≤ n ∧ s.1 = BitVec.ofNat 32 n
    ∧ Holds Q K V (4 * (i 1).val) (4 * (i 1).val + 1 - n) s.2.1 ∧ Holds Q K V (4 * (i 1).val + 1) (4 * (i 1).val + 1 + 1 - n) s.2.2.1
    ∧ Holds Q K V (4 * (i 1).val + 2) (4 * (i 1).val + 2 + 1 - n) s.2.2.2.1 ∧ Holds Q K V (4 * (i 1).val + 3) (4 * (i 1).val + 3 + 1 - n) s.2.2.2.2

theorem chain_step {c n : ℕ} (hc : c ≤ 3) (h1 : 1 ≤ n) (hn : n ≤ 4 * (i 1).val + c) {off : Fin 2 → ℕ}
    (ho : off = ![256 * (4 * (i 1).val + c - n), 0]) (s : St Ideal) (h : Holds Q K V (4 * (i 1).val + c) (4 * (i 1).val + c + 1 - n) s) :
    Holds Q K V (4 * (i 1).val + c) (4 * (i 1).val + c + 1 - (n + 1))
      (fone lanes triL (up (tl (4 * (i 1).val + c) Q)) (ld2 off (up K : S8192x128.Idx → EReal)) (ld2 off (up V : S8192x128.Idx → EReal)) s) := by
  have hi := i1_lt i
  rw [ld2_up ho (by omega), ld2_up ho (by omega), show 4 * (i 1).val + c + 1 - (n + 1) = 4 * (i 1).val + c - n by omega]
  rw [show 4 * (i 1).val + c + 1 - n = 4 * (i 1).val + c - n + 1 by omega] at h
  exact fone_tl Q K V (by omega) (by omega) s h

theorem own_step {c : ℕ} (hc : c ≤ 3) {off : Fin 2 → ℕ} (ho : off = ![256 * (4 * (i 1).val + c), 0]) {msk : IVec S256x512 1} (hm : IsDiag msk) :
    Holds Q K V (4 * (i 1).val + c) (4 * (i 1).val + c + 1 - 1)
      (foneD msk lanes triL (up (tl (4 * (i 1).val + c) Q)) (ld2 off (up K : S8192x128.Idx → EReal)) (ld2 off (up V : S8192x128.Idx → EReal))) := by
  have hi := i1_lt i
  rw [ld2_up ho (by omega), ld2_up ho (by omega), Nat.add_sub_cancel]
  exact foneD_tl Q K V hm (by omega)

theorem joint_holds : J Q K V i (4 * (i 1).val + 1) (joint (realEnv Q K V i)) := by
  have hi := i1_lt i
  refine run_ends _ _ (J Q K V i) (4 * (i 1).val) ?_ ?_ 33 1 _ (by omega) (by omega) ?_
  · rintro n ⟨w, s0, s1, s2, s3⟩ hn ⟨h1, hw, h, _⟩
    dsimp only at hw h
    subst hw
    exact test_iff 0 n (by omega) (by omega) (top_ne h.1)
  · rintro n ⟨w, s0, s1, s2, s3⟩ hn ⟨h1, hw, g0, g1, g2, g3⟩
    dsimp only at hw g0 g1 g2 g3
    subst hw
    refine ⟨by omega, next_word n, ?_, ?_, ?_, ?_⟩
    · exact chain_step Q K V i (c := 0) (by omega) h1 hn (off2_eq i 0 n (by omega) hn) s0 g0
    · exact chain_step Q K V i (c := 1) (by omega) h1 (by omega) (off2_eq i 1 n (by omega) (by omega)) s1 g1
    · exact chain_step Q K V i (c := 2) (by omega) h1 (by omega) (off2_eq i 2 n (by omega) (by omega)) s2 g2
    · exact chain_step Q K V i (c := 3) (by omega) h1 (by omega) (off2_eq i 3 n (by omega) (by omega)) s3 g3
  · refine ⟨le_rfl, rfl, ?_, ?_, ?_, ?_⟩
    · exact own_step Q K V i (c := 0) (by omega) (off1_eq i 0) (diag0 i)
    · exact own_step Q K V i (c := 1) (by omega) (off1_eq i 1) (diag1 i)
    · exact own_step Q K V i (c := 2) (by omega) (off1_eq i 2) (diag2 i)
    · exact own_step Q K V i (c := 3) (by omega) (off1_eq i 3) (diag3 i)

/-- A chain's own loop takes it from the joint loop's end to its first key block. -/
theorem chain_ends (c : ℕ) (hc : c ≤ 3) (hc0 : 0 < c) (off : BitVec 32 → Fin 2 → ℕ)
    (ho : ∀ n ≤ 4 * (i 1).val + c, off (BitVec.ofNat 32 n) = ![256 * (4 * (i 1).val + c - n), 0])
    (step : BitVec 32 × St Ideal → BitVec 32 × St Ideal)
    (hs : ∀ s, step s = (Scalar.addi s.1 1#32, fone lanes triL (up (tl (4 * (i 1).val + c) Q)) (ld2 (off s.1) (up K : S8192x128.Idx → EReal))
      (ld2 (off s.1) (up V : S8192x128.Idx → EReal)) s.2))
    (s : St Ideal) (h : Holds Q K V (4 * (i 1).val + c) (4 * (i 1).val + c + 1 - (4 * (i 1).val + 1)) s) :
    (run (wcond (F := Ideal) i (BitVec.ofNat 32 c)) step 33 (BitVec.ofNat 32 (4 * (i 1).val + 1), s)).2.2.1
      = up (tl (4 * (i 1).val + c) (OO Q K V)) := by
  have hi := i1_lt i
  have key := run_ends (wcond (F := Ideal) i (BitVec.ofNat 32 c)) step
    (fun n s => 1 ≤ n ∧ s.1 = BitVec.ofNat 32 n ∧ Holds Q K V (4 * (i 1).val + c) (4 * (i 1).val + c + 1 - n) s.2) (4 * (i 1).val + c)
    (by
      rintro n ⟨w, s⟩ hn ⟨h1, hw, h⟩
      dsimp only at hw h
      subst hw
      exact test_iff c n hc (by omega) h.1)
    (by
      rintro n ⟨w, s⟩ hn ⟨h1, hw, h⟩
      dsimp only at hw h
      subst hw
      rw [hs]
      exact ⟨by omega, next_word n, chain_step Q K V i hc h1 hn (ho n hn) s h⟩)
    33 (4 * (i 1).val + 1) (BitVec.ofNat 32 (4 * (i 1).val + 1), s) (by omega) (by omega) ⟨by omega, rfl, h⟩
  obtain ⟨_, _, _, e⟩ := key
  rw [e, Nat.sub_self, OA_end]

/-- What a point stores: its four blocks of rows of the attention's result. -/
theorem result_eq : result (realEnv Q K V i) = stack4 (up (tl (4 * (i 1).val) (OO Q K V))) (up (tl (4 * (i 1).val + 1) (OO Q K V)))
    (up (tl (4 * (i 1).val + 2) (OO Q K V))) (up (tl (4 * (i 1).val + 3) (OO Q K V))) := by
  obtain ⟨_, hw, h0, h1, h2, h3⟩ := joint_holds Q K V i
  have e0 : (outs (realEnv Q K V i)).1 = up (tl (4 * (i 1).val) (OO Q K V)) := by
    show (joint (realEnv Q K V i)).2.1.2.1 = _
    rw [h0.2, Nat.sub_self, OA_end]
  have e1 : (outs (realEnv Q K V i)).2.1 = up (tl (4 * (i 1).val + 1) (OO Q K V)) := by
    show (run (wcond i 1#32) (w2step (realEnv Q K V i)) 33 ((joint (realEnv Q K V i)).1, (joint (realEnv Q K V i)).2.2.1)).2.2.1 = _
    rw [hw]
    exact chain_ends Q K V i 1 (by omega) (by omega) (k0_off3 i) (off3_eq i) _ (w2step_eq (realEnv Q K V i)) _ h1
  have e2 : (outs (realEnv Q K V i)).2.2.1 = up (tl (4 * (i 1).val + 2) (OO Q K V)) := by
    show (run (wcond i 2#32) (w3step (realEnv Q K V i)) 33 ((joint (realEnv Q K V i)).1, (joint (realEnv Q K V i)).2.2.2.1)).2.2.1 = _
    rw [hw]
    exact chain_ends Q K V i 2 (by omega) (by omega) (k0_off4 i) (off4_eq i) _ (w3step_eq (realEnv Q K V i)) _ h2
  have e3 : (outs (realEnv Q K V i)).2.2.2 = up (tl (4 * (i 1).val + 3) (OO Q K V)) := by
    show (run (wcond i 3#32) (w4step (realEnv Q K V i)) 33 ((joint (realEnv Q K V i)).1, (joint (realEnv Q K V i)).2.2.2.2)).2.2.1 = _
    rw [hw]
    exact chain_ends Q K V i 3 (by omega) (by omega) (k0_off5 i) (off5_eq i) _ (w4step_eq (realEnv Q K V i)) _ h3
  unfold result
  rw [e0, e1, e2, e3]
  rfl

end Cert.FwdPass
end
-- ==== Proof.AttnRef.lean ====
module

public import proofs.«01_k».proof.Proof.AttnArrays
public import proofs.«01_k».proof.Proof.Gen.AttnBwdRefIdeal.Read

/-!
# The reference of the attention backward, on real arrays
-/

@[expose] public section

noncomputable section

namespace Cert.AttnRef
open Cert.AttnBwdRefIdeal Cert.AttnBwdRefIdeal.Gen Cert.AttnBwdRefIdeal.Read
open Idealize.ShloMosaic Idealize.ShloMosaic.TcCoe Idealize.SL.Sem
open Cert.AttnReal Cert.AttnSpec
open Cert.AttnPass (cols Qp dqF dkF dvF)

/-- An array of rank three of real numbers. -/
def up3 {a b c : ℕ} (f : ℕ → ℕ → ℕ → ℝ) : (⟨3, ![a, b, c]⟩ : Shape).Idx → EReal := fun j => ((f (j 0).val (j 1).val (j 2).val : ℝ) : EReal)

theorem up3_ix3 {a b c : ℕ} (f : ℕ → ℕ → ℕ → ℝ) (i : Fin a) (j : Fin b) (k : Fin c) :
    (up3 f : (⟨3, ![a, b, c]⟩ : Shape).Idx → EReal) (ix3 i j k) = ((f i.val j.val k.val : ℝ) : EReal) := rfl

/-! ## Sums over a sliding window -/

theorem foldl_real {α : Type} (g : α → EReal) (g' : α → ℝ) (hg : ∀ n, g n = ((g' n : ℝ) : EReal)) (l : List α) :
    ∀ a : ℝ, l.foldl (fun r n => r + g n) (a : EReal) = ((a + (l.map g').sum : ℝ) : EReal) := by
  induction l with
  | nil => intro a; simp
  | cons x l ih =>
    intro a
    rw [List.foldl_cons, hg, ← EReal.coe_add, ih, List.map_cons, List.sum_cons, add_assoc]

theorem window_sum {A B N lo hi : ℕ} (f : ℕ → ℕ → ℕ → ℝ) (x : (⟨3, ![A, B, N]⟩ : Shape).Idx → EReal) (hx : x = up3 f)
    (h : (⟨3, ![A, B, N]⟩ : Shape).ReduceWindows ![1, 1, N] ![1, 1, 1] ![0, 0, lo] ![0, 0, hi] ⟨3, ![A, B, N]⟩)
    (init : EReal) (hinit : init = 0) (i : Fin A) (j : Fin B) (k : Fin N) :
    Ideal.hostReduceWindowAdd ![1, 1, N] ![1, 1, 1] ![0, 0, lo] ![0, 0, hi] h x init (ix3 i j k)
      = ((∑ n ∈ Finset.range N, (if lo ≤ k.val + n ∧ k.val + n - lo < N then f i.val j.val (k.val + n - lo) else 0) : ℝ) : EReal) := by
  subst hx hinit
  have hnum : (⟨3, ![1, 1, N]⟩ : Shape).numel = N := by simp [Shape.numel, Fin.prod_univ_succ]
  have hw : ∀ n, ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
    intro n
    have e0 : ((⟨3, ![1, 1, N]⟩ : Shape).rowMajor.symm n 0).val < 1 := ((⟨3, ![1, 1, N]⟩ : Shape).rowMajor.symm n 0).isLt
    have e1 : ((⟨3, ![1, 1, N]⟩ : Shape).rowMajor.symm n 1).val < 1 := ((⟨3, ![1, 1, N]⟩ : Shape).rowMajor.symm n 1).isLt
    have e := rowMajor_val3 ((⟨3, ![1, 1, N]⟩ : Shape).rowMajor.symm n) _ _ rfl rfl
    rw [Equiv.apply_symm_apply] at e
    have z0 := Nat.lt_one_iff.1 e0
    have z1 := Nat.lt_one_iff.1 e1
    rw [z0, z1] at e
    exact ⟨z0, z1, by omega⟩
  unfold Ideal.hostReduceWindowAdd Host.reduceWindow
  refine (foldl_real _ (fun n => if lo ≤ k.val + n.val ∧ k.val + n.val - lo < N then f i.val j.val (k.val + n.val - lo) else 0) (fun n => ?_) _ 0).trans ?_
  · obtain ⟨w0, w1, w2⟩ := hw n
    split
    · next hin =>
      have h2 := hin 2
      change lo ≤ k.val * 1 + ((⟨3, ![1, 1, N]⟩ : Shape).rowMajor.symm n 2).val ∧ k.val * 1 + ((⟨3, ![1, 1, N]⟩ : Shape).rowMajor.symm n 2).val - lo < N at h2
      rw [w2] at h2
      rw [if_pos ⟨by omega, by omega⟩]
      show ((f (i.val * 1 + _ - 0) (j.val * 1 + _ - 0) (k.val * 1 + _ - lo) : ℝ) : EReal) = _
      rw [w0, w1, w2]
      simp
    · next hin =>
      rw [if_neg, EReal.coe_zero]
      intro hh
      apply hin
      intro a
      match a with
      | ⟨0, _⟩ =>
        show 0 ≤ i.val * 1 + ((⟨3, ![1, 1, N]⟩ : Shape).rowMajor.symm n 0).val ∧ i.val * 1 + ((⟨3, ![1, 1, N]⟩ : Shape).rowMajor.symm n 0).val - 0 < A
        rw [w0]; have := i.isLt; omega
      | ⟨1, _⟩ =>
        show 0 ≤ j.val * 1 + ((⟨3, ![1, 1, N]⟩ : Shape).rowMajor.symm n 1).val ∧ j.val * 1 + ((⟨3, ![1, 1, N]⟩ : Shape).rowMajor.symm n 1).val - 0 < B
        rw [w1]; have := j.isLt; omega
      | ⟨2, _⟩ =>
        show lo ≤ k.val * 1 + ((⟨3, ![1, 1, N]⟩ : Shape).rowMajor.symm n 2).val ∧ k.val * 1 + ((⟨3, ![1, 1, N]⟩ : Shape).rowMajor.symm n 2).val - lo < N
        rw [w2]; omega
  · rw [zero_add, ← Fin.sum_univ_def, ← Finset.sum_range (fun n => if lo ≤ k.val + n ∧ k.val + n - lo < N then f i.val j.val (k.val + n - lo) else 0), hnum]

/-! ## The soft plus of a real number -/

theorem softplus_real (x : ℝ) :
    (if (x : EReal) ≠ (x : EReal) then (x : EReal) else max (x : EReal) 0 + Ideal.log1p (Ideal.exp (-FloatOps.absf (F := Ideal) (φ := .f32) (x : EReal))))
      = ((Real.log (1 + Real.exp x) : ℝ) : EReal) := by
  rw [if_neg (by simp)]
  show max (x : EReal) 0 + Ideal.log (1 + Ideal.exp (-(max (x : EReal) (-x)))) = _
  rw [← EReal.coe_neg, ← EReal.coe_strictMono.monotone.map_max, ← EReal.coe_neg, Ideal.exp_coe, ← EReal.coe_one, ← EReal.coe_add, Ideal.log_coe,
    if_neg (not_le.2 (by positivity)), ← EReal.coe_zero, ← EReal.coe_strictMono.monotone.map_max, ← EReal.coe_add]
  refine congrArg _ ?_
  rcases le_total 0 x with hx | hx
  · rw [max_eq_left hx, max_eq_left (by linarith)]
    have e : 1 + Real.exp x = Real.exp x * (1 + Real.exp (-x)) := by
      rw [mul_add, ← Real.exp_add]; simp [add_comm]
    rw [e, Real.log_mul (by positivity) (by positivity), Real.log_exp]
  · rw [max_eq_right hx, max_eq_right (by linarith)]
    simp

/-- The soft plus at minus `z` is the logarithm of the sigmoid, with the sign changed. -/
theorem log_neg (z : ℝ) : -Real.log (1 + Real.exp (-z)) = z + lsg z := by
  unfold lsg
  have e : 1 + Real.exp z = Real.exp z * (1 + Real.exp (-z)) := by
    rw [mul_add, ← Real.exp_add]; simp [add_comm]
  rw [e, Real.log_mul (by positivity) (by positivity), Real.log_exp]
  ring

theorem exp_sub_softplus (z : ℝ) : Real.exp (z - Real.log (1 + Real.exp z)) = sg z := by
  rw [Real.exp_sub, Real.exp_log (by positivity)]
  unfold sg
  rw [Real.exp_neg]
  have := Real.exp_pos z
  field_simp
  ring

theorem exp_neg_softplus (z : ℝ) : Real.exp (-z - Real.log (1 + Real.exp (-z))) = 1 - sg z := by
  rw [exp_sub_softplus]
  unfold sg
  rw [neg_neg, Real.exp_neg]
  have := Real.exp_pos z
  field_simp
  ring

theorem inf_f32 : Ideal.ofBits .f32 0x7F800000#32 = ⊤ := by simp [Ideal.ofBits, Ideal.ieee]

theorem residual_real (x y : ℝ) :
    Ideal.exp ((if (x : EReal) = Ideal.ofBits .f32 0x7F800000#32 then 0 else (x : EReal)) - (if (y : EReal) = Ideal.ofBits .f32 0x7F800000#32 then 0 else (y : EReal)))
      = ((Real.exp (x - y) : ℝ) : EReal) := by
  rw [inf_f32, if_neg (EReal.coe_ne_top x), if_neg (EReal.coe_ne_top y), ← EReal.coe_sub, Ideal.exp_coe]

theorem slt_iota (s t : ℕ) (hs : s < 8192) (ht : t < 8192) (a b : EReal) :
    Scalar.select (IntOp.cmpi .slt (BitVec.ofNat 32 s) (BitVec.ofNat 32 t)) a b = if s < t then a else b := by
  have e1 : (BitVec.ofNat 32 s).toNat = s := by rw [BitVec.toNat_ofNat]; omega
  have e2 : (BitVec.ofNat 32 t).toNat = t := by rw [BitVec.toNat_ofNat]; omega
  rw [WordCmp.cmpi_slt_of_lt (by rw [e1]; omega) (by rw [e2]; omega), e1, e2, Scalar.select_decide]

variable (q kv dy : ℕ → ℕ → ℝ)

theorem v6_eq : val_main_v6 (F := Ideal) (up q) = up3 fun h t c => q t (64 * h + c) := by
  funext j; idx_vars j
  pointwise [val_main_v6, val_main_v5, val_main_v0]
  refine congrArg (fun n => ((q j1.val n : ℝ) : EReal)) (by show j0.val * 64 + j2.val = 64 * j0.val + j2.val; omega)

theorem v8_eq : val_main_v8 (F := Ideal) (up kv) = up3 fun h t c => kv t (64 * h + c) := by
  funext j; idx_vars j
  pointwise [val_main_v8, val_main_v7, val_main_v3, val_main_v1]
  refine congrArg (fun n => ((kv j1.val n : ℝ) : EReal)) (by show j0.val * 64 + j2.val = 64 * j0.val + j2.val; omega)

theorem v13_eq : val_main_v13 (F := Ideal) (up q) (up kv) = up3 fun h t s => dot (Qp q (h / 2)) (cols (h / 2) kv) (h % 2) t s := by
  funext j; idx_vars j
  pointwise [val_main_v13, val_main_v11, v6_eq, v8_eq, val_main_v12, val_main_cst]
  rw [show Ideal.ofBits FTy.f32 1040187392#32 = (((1 : ℝ) / 8 : ℝ) : EReal) from eighth_f32, up3_ix3]
  simp only [up3_ix3, ← EReal.coe_mul]
  rw [← coe_sum, ← EReal.coe_mul]
  refine congrArg _ ?_
  unfold dot
  rw [Finset.sum_range, Finset.sum_mul]
  refine Finset.sum_congr rfl fun c _ => ?_
  show q j1.val (64 * j0.val + c.val) * kv j2.val (64 * j0.val + c.val) * (1 / 8)
    = q j1.val (128 * (j0.val / 2) + (64 * (j0.val % 2) + c.val)) * (1 / 8) * kv j2.val (128 * (j0.val / 2) + (64 * (j0.val % 2) + c.val))
  rw [show 128 * (j0.val / 2) + (64 * (j0.val % 2) + c.val) = 64 * j0.val + c.val by omega]
  ring

theorem v21_eq : val_main_v21_0 (F := Ideal) (up q) (up kv) = up3 fun h t s => lsg (dot (Qp q (h / 2)) (cols (h / 2) kv) (h % 2) t s) := by
  funext j; idx_vars j
  pointwise [val_main_v21_0, val_main_call0_v1_0, val_main_call0_call0_v4, val_main_call0_call0_v6, val_main_call0_call0_v11, val_main_call0_call0_v3, val_main_call0_call0_v2,
    val_main_call0_call0_v5, val_main_call0_call0_v10, val_main_call0_call0_v9, val_main_call0_call0_v8, val_main_call0_call0_v7, val_main_call0_call0_v1, val_main_call0_call0_v0, val_main_call0_call0_cst,
    val_main_call0_v0, val_main_v20, v13_eq]
  rw [neg_neg, up3_ix3, up3_ix3, softplus_real, ← EReal.coe_neg]
  rfl

theorem v21_1_eq : val_main_v21_1 (F := Ideal) (up q) (up kv) = up3 fun h t s => sg (dot (Qp q (h / 2)) (cols (h / 2) kv) (h % 2) t s) := by
  funext j; idx_vars j
  pointwise [val_main_v21_1, val_main_call0_call0_v21, val_main_call0_call0_v20, val_main_call0_call0_v16, val_main_call0_call0_v18, val_main_call0_call0_v14, val_main_call0_call0_v13, val_main_call0_call0_v15,
    val_main_call0_call0_v17, val_main_call0_call0_v19, val_main_call0_call0_cst_0, val_main_call0_call0_cst_1, val_main_call0_call0_cst_2, val_main_call0_call0_cst_3, val_main_call0_v1_0, val_main_call0_call0_v4, val_main_call0_call0_v6, val_main_call0_call0_v11, val_main_call0_call0_v3, val_main_call0_call0_v2,
    val_main_call0_call0_v5, val_main_call0_call0_v10, val_main_call0_call0_v9, val_main_call0_call0_v8, val_main_call0_call0_v7, val_main_call0_call0_v1, val_main_call0_call0_v0, val_main_call0_call0_cst,
    val_main_call0_v0, val_main_v20, v13_eq]
  rw [neg_neg, up3_ix3, up3_ix3, softplus_real, residual_real, exp_sub_softplus]

theorem v22_eq : val_main_v22_0 (F := Ideal) (up q) (up kv) = up3 fun h t s => LL (Qp q (h / 2)) (cols (h / 2) kv) (h % 2) t s := by
  funext j; idx_vars j
  pointwise [val_main_v22_0, val_main_v22_1, val_main_v19, val_main_v18, val_main_v17, val_main_v16, val_main_v15, val_main_v14, val_main_call1_v2, val_main_call1_v0, v21_eq]
  rw [slt_iota _ _ j2.isLt j1.isLt, up3_ix3, up3_ix3]
  unfold LL
  by_cases hh : j2.val < j1.val
  · rw [if_pos hh, if_pos hh]
  · rw [if_neg hh, if_neg hh]
    exact Ideal.ofBits_zero_f32

/-- The terms from `k` on, added in the order of a window that starts at `k`. -/
theorem later_sum (f : ℕ → ℝ) (k : ℕ) (hk : k < 8192) :
    (∑ n ∈ Finset.range 8192, (if 0 ≤ k + n ∧ k + n - 0 < 8192 then f (k + n - 0) else 0)) - f k
      = ∑ j ∈ Finset.range 8192, if k < j then f j else 0 := by
  have e : (∑ n ∈ Finset.range 8192, (if 0 ≤ k + n ∧ k + n - 0 < 8192 then f (k + n - 0) else 0))
      = ∑ j ∈ Finset.range 8192, if k ≤ j then f j else 0 := by
    rw [← Finset.sum_filter, ← Finset.sum_filter]
    refine Finset.sum_nbij' (fun n => k + n) (fun j => j - k) ?_ ?_ ?_ ?_ ?_
    · intro a ha; simp only [Finset.mem_filter, Finset.mem_range] at ha ⊢; omega
    · intro a ha; simp only [Finset.mem_filter, Finset.mem_range] at ha ⊢; omega
    · intro a ha; simp only [Finset.mem_filter, Finset.mem_range] at ha; omega
    · intro a ha; simp only [Finset.mem_filter, Finset.mem_range] at ha; omega
    · intro a ha; rfl
  have e2 : (∑ j ∈ Finset.range 8192, if k ≤ j then f j else 0)
      = (∑ j ∈ Finset.range 8192, if k < j then f j else 0) + ∑ j ∈ Finset.range 8192, if j = k then f k else 0 := by
    rw [← Finset.sum_add_distrib]
    refine Finset.sum_congr rfl fun j _ => ?_
    rcases lt_trichotomy k j with h | h | h
    · rw [if_pos h.le, if_pos h, if_neg (by omega), add_zero]
    · subst h; simp
    · rw [if_neg (by omega), if_neg (by omega), if_neg (by omega), add_zero]
  rw [e, e2, Finset.sum_ite_eq' (Finset.range 8192) k (fun _ => f k), if_pos (Finset.mem_range.2 hk)]
  ring

/-- The terms up to `k`, added in the order of a window that ends at `k`. -/
theorem earlier_sum (f : ℕ → ℝ) (k : ℕ) (hk : k < 8192) :
    -f k + (∑ n ∈ Finset.range 8192, (if 8191 ≤ k + n ∧ k + n - 8191 < 8192 then f (k + n - 8191) else 0))
      = ∑ j ∈ Finset.range 8192, if j < k then f j else 0 := by
  have e : (∑ n ∈ Finset.range 8192, (if 8191 ≤ k + n ∧ k + n - 8191 < 8192 then f (k + n - 8191) else 0))
      = ∑ j ∈ Finset.range 8192, if j ≤ k then f j else 0 := by
    rw [← Finset.sum_filter, ← Finset.sum_filter]
    refine Finset.sum_nbij' (fun n => k + n - 8191) (fun j => j + 8191 - k) ?_ ?_ ?_ ?_ ?_
    · intro a ha; simp only [Finset.mem_filter, Finset.mem_range] at ha ⊢; omega
    · intro a ha; simp only [Finset.mem_filter, Finset.mem_range] at ha ⊢; omega
    · intro a ha; simp only [Finset.mem_filter, Finset.mem_range] at ha; omega
    · intro a ha; simp only [Finset.mem_filter, Finset.mem_range] at ha; omega
    · intro a ha; rfl
  have e2 : (∑ j ∈ Finset.range 8192, if j ≤ k then f j else 0)
      = (∑ j ∈ Finset.range 8192, if j < k then f j else 0) + ∑ j ∈ Finset.range 8192, if j = k then f k else 0 := by
    rw [← Finset.sum_add_distrib]
    refine Finset.sum_congr rfl fun j _ => ?_
    rcases lt_trichotomy j k with h | h | h
    · rw [if_pos h.le, if_pos h, if_neg (by omega), add_zero]
    · subst h; simp
    · rw [if_neg (by omega), if_neg (by omega), if_neg (by omega), add_zero]
  rw [e, e2, Finset.sum_ite_eq' (Finset.range 8192) k (fun _ => f k), if_pos (Finset.mem_range.2 hk)]
  ring

theorem call2_zero (i : S_.Idx) : val_main_call2_v0 (F := Ideal) i = 0 := Ideal.ofBits_zero_f32

theorem call7_zero (i : S_.Idx) : val_main_call7_v0 (F := Ideal) i = 0 := Ideal.ofBits_zero_f32

theorem v24_eq : val_main_v24 (F := Ideal) (up q) (up kv) = up3 fun h t s =>
    ∑ j ∈ Finset.range 8192, if s < j then LL (Qp q (h / 2)) (cols (h / 2) kv) (h % 2) t j else 0 := by
  funext j; idx_vars j
  pointwise [val_main_v24, v22_eq]
  have e : val_main_v23 (F := Ideal) (up q) (up kv) (ix3 j0 j1 j2) = (((∑ n ∈ Finset.range 8192, (if 0 ≤ j2.val + n ∧ j2.val + n - 0 < 8192 then LL (Qp q (j0.val / 2)) (cols (j0.val / 2) kv) (j0.val % 2) j1.val (j2.val + n - 0) else 0) : ℝ) : ℝ) : EReal) := by
    unfold val_main_v23 Host.reduceWindowAdd
    exact window_sum (lo := 0) (hi := 8191) (fun h t s => LL (Qp q (h / 2)) (cols (h / 2) kv) (h % 2) t s) _ (v22_eq q kv)
      reduceWindows_S8x8192x8192_S8x8192x8192_w1s1p0_0_w1s1p0_0_w8192s1p0_8191 _ (call2_zero (Shape.Idx.first h_S_)) j0 j1 j2
  rw [e, up3_ix3, up3_ix3, ← EReal.coe_sub]
  exact congrArg _ (later_sum _ _ j2.isLt)

theorem v27_eq : val_main_v27 (F := Ideal) (up q) (up kv) = up3 fun h t s => Real.exp
    (dot (Qp q (h / 2)) (cols (h / 2) kv) (h % 2) t s + lsg (dot (Qp q (h / 2)) (cols (h / 2) kv) (h % 2) t s)
      + ∑ j ∈ Finset.range 8192, if s < j then LL (Qp q (h / 2)) (cols (h / 2) kv) (h % 2) t j else 0) := by
  funext j; idx_vars j
  pointwise [val_main_v27, val_main_v26, v24_eq, val_main_v25_0, val_main_call3_v1_0, val_main_call3_call0_v4, val_main_call3_call0_v6, val_main_call3_call0_v11, val_main_call3_call0_v3, val_main_call3_call0_v2,
    val_main_call3_call0_v5, val_main_call3_call0_v10, val_main_call3_call0_v9, val_main_call3_call0_v8, val_main_call3_call0_v7, val_main_call3_call0_v1, val_main_call3_call0_v0, val_main_call3_call0_cst,
    val_main_call3_v0, v13_eq]
  rw [up3_ix3, up3_ix3, up3_ix3, ← EReal.coe_neg, softplus_real, ← EReal.coe_neg, log_neg, ← EReal.coe_add, Ideal.exp_coe]

theorem v25_1_eq : val_main_v25_1 (F := Ideal) (up q) (up kv) = up3 fun h t s => 1 - sg (dot (Qp q (h / 2)) (cols (h / 2) kv) (h % 2) t s) := by
  funext j; idx_vars j
  pointwise [val_main_v25_1, val_main_call3_call0_v21, val_main_call3_call0_v20, val_main_call3_call0_v16, val_main_call3_call0_v18, val_main_call3_call0_v14, val_main_call3_call0_v13, val_main_call3_call0_v15,
    val_main_call3_call0_v17, val_main_call3_call0_v19, val_main_call3_call0_cst_0, val_main_call3_call0_cst_1, val_main_call3_call0_cst_2, val_main_call3_call0_cst_3, val_main_call3_v1_0, val_main_call3_call0_v4, val_main_call3_call0_v6, val_main_call3_call0_v11, val_main_call3_call0_v3, val_main_call3_call0_v2,
    val_main_call3_call0_v5, val_main_call3_call0_v10, val_main_call3_call0_v9, val_main_call3_call0_v8, val_main_call3_call0_v7, val_main_call3_call0_v1, val_main_call3_call0_v0, val_main_call3_call0_cst,
    val_main_call3_v0, v13_eq]
  rw [up3_ix3, up3_ix3, ← EReal.coe_neg, softplus_real, residual_real, exp_neg_softplus]

theorem v28_eq : val_main_v28_0 (F := Ideal) (up q) (up kv) = up3 fun h t s => AA (Qp q (h / 2)) (cols (h / 2) kv) (h % 2) t s := by
  funext j; idx_vars j
  pointwise [val_main_v28_0, val_main_v28_1, val_main_v19, val_main_v18, val_main_v17, val_main_v16, val_main_v15, val_main_v14, val_main_call4_v2, val_main_call4_v0, v27_eq]
  rw [slt_iota _ _ j2.isLt j1.isLt, up3_ix3, up3_ix3]
  unfold AA
  by_cases hh : j2.val < j1.val
  · rw [if_pos hh, if_pos hh]
  · rw [if_neg hh, if_neg hh]
    exact Ideal.ofBits_zero_f32

theorem v10_eq : val_main_v10 (F := Ideal) (up kv) = up3 fun h t c => kv t (512 + (64 * h + c)) := by
  funext j; idx_vars j
  pointwise [val_main_v10, val_main_v9, val_main_v4, val_main_v1]
  refine congrArg (fun n => ((kv j1.val n : ℝ) : EReal)) (by show 512 + (j0.val * 64 + j2.val) = 512 + (64 * j0.val + j2.val); omega)

theorem v33_eq : val_main_v33 (F := Ideal) (up dy) = up3 fun h t c => dy t (64 * h + c) := by
  funext j; idx_vars j
  pointwise [val_main_v33, val_main_v32, val_main_v2]
  refine congrArg (fun n => ((dy j1.val n : ℝ) : EReal)) (by show j0.val * 64 + j2.val = 64 * j0.val + j2.val; omega)

theorem v36_eq : val_main_v36 (F := Ideal) (up kv) (up dy) = up3 fun h t s => dot (cols (h / 2) dy) (cols (4 + h / 2) kv) (h % 2) t s := by
  funext j; idx_vars j
  pointwise [val_main_v36, v33_eq, v10_eq]
  rw [up3_ix3]
  simp only [up3_ix3, ← EReal.coe_mul]
  rw [← coe_sum]
  refine congrArg _ ?_
  unfold dot
  rw [Finset.sum_range]
  refine Finset.sum_congr rfl fun c _ => ?_
  show dy j1.val (64 * j0.val + c.val) * kv j2.val (512 + (64 * j0.val + c.val))
    = dy j1.val (128 * (j0.val / 2) + (64 * (j0.val % 2) + c.val)) * kv j2.val (128 * (4 + j0.val / 2) + (64 * (j0.val % 2) + c.val))
  rw [show 128 * (j0.val / 2) + (64 * (j0.val % 2) + c.val) = 64 * j0.val + c.val by omega,
    show 128 * (4 + j0.val / 2) + (64 * (j0.val % 2) + c.val) = 512 + (64 * j0.val + c.val) by omega]

/-- The gradient at the weights of head `h`, times the weight. -/
def G3 (h t s : ℕ) : ℝ := GG (Qp q (h / 2)) (cols (h / 2) kv) (cols (4 + h / 2) kv) (cols (h / 2) dy) (h % 2) t s

theorem v38_eq : val_main_v38 (F := Ideal) (up q) (up kv) (up dy) = up3 (G3 q kv dy) := by
  funext j; idx_vars j
  pointwise [val_main_v38, val_main_v37, val_main_v28_1, val_main_v19, val_main_v18, val_main_v17, val_main_v16, val_main_v15, val_main_v14, val_main_call5_v0, val_main_call5_cst, v27_eq, v36_eq]
  rw [slt_iota _ _ j2.isLt j1.isLt, up3_ix3, up3_ix3, up3_ix3]
  unfold G3 GG AA
  by_cases hh : j2.val < j1.val
  · rw [if_pos hh, if_pos hh, ← EReal.coe_mul]
  · rw [if_neg hh, if_neg hh, mul_zero]
    simp

theorem v42_eq : val_main_v42 (F := Ideal) (up q) (up kv) (up dy) = up3 fun h t s => ∑ j ∈ Finset.range 8192, if j < s then G3 q kv dy h t j else 0 := by
  funext j; idx_vars j
  pointwise [val_main_v42, val_main_v40, v38_eq]
  have e : val_main_v41 (F := Ideal) (up q) (up kv) (up dy) (ix3 j0 j1 j2) = (((∑ n ∈ Finset.range 8192, (if 8191 ≤ j2.val + n ∧ j2.val + n - 8191 < 8192 then G3 q kv dy j0.val j1.val (j2.val + n - 8191) else 0) : ℝ) : ℝ) : EReal) := by
    unfold val_main_v41 Host.reduceWindowAdd
    exact window_sum (lo := 8191) (hi := 0) (G3 q kv dy) _ (v38_eq q kv dy)
      reduceWindows_S8x8192x8192_S8x8192x8192_w1s1p0_0_w1s1p0_0_w8192s1p8191_0 _ (call7_zero (Shape.Idx.first h_S_)) j0 j1 j2
  rw [e, up3_ix3, up3_ix3, ← EReal.coe_neg, ← EReal.coe_add]
  exact congrArg _ (earlier_sum (fun s => G3 q kv dy j0.val j1.val s) _ j2.isLt)

theorem v46_eq : val_main_v46 (F := Ideal) (up q) (up kv) (up dy) = up3 fun h t s =>
    ZZ (Qp q (h / 2)) (cols (h / 2) kv) (cols (4 + h / 2) kv) (cols (h / 2) dy) (h % 2) t s := by
  funext j; idx_vars j
  pointwise [val_main_v46, val_main_v45, val_main_v44, val_main_call9_v1, val_main_call9_v0, val_main_v43, val_main_call8_v0, val_main_call8_cst, val_main_v22_1,
    val_main_v39, val_main_call6_v1, val_main_call6_v0, val_main_v19, val_main_v18, val_main_v17, val_main_v16, val_main_v15, val_main_v14, v38_eq, v42_eq, v25_1_eq, v21_1_eq]
  rw [slt_iota _ _ j2.isLt j1.isLt, up3_ix3, up3_ix3, up3_ix3, up3_ix3, up3_ix3]
  unfold ZZ
  by_cases hh : j2.val < j1.val
  · rw [if_pos hh, if_pos hh]
    simp only [← EReal.coe_neg, ← EReal.coe_mul, ← EReal.coe_add]
    refine congrArg _ ?_
    unfold G3
    ring
  · rw [if_neg hh, if_neg hh]
    unfold G3 GG AA
    rw [if_neg hh]
    simp

theorem v57_eq : val_main_v57 (F := Ideal) (up q) (up kv) (up dy) = up (dqF q kv dy) := by
  funext j; idx_vars j
  pointwise [val_main_v57, val_main_v56, val_main_v55, val_main_v50, val_main_v48, val_main_v47, val_main_cst_2, v46_eq, v8_eq]
  rw [show Ideal.ofBits FTy.f32 1040187392#32 = (((1 : ℝ) / 8 : ℝ) : EReal) from eighth_f32]
  simp only [up3_ix3, ← EReal.coe_mul]
  rw [← coe_sum]
  refine congrArg _ ?_
  show _ = dQ (Qp q (j1.val / 128)) (cols (j1.val / 128) kv) (cols (4 + j1.val / 128) kv) (cols (j1.val / 128) dy) j0.val (j1.val % 128)
  unfold dQ
  rw [Finset.sum_range, Finset.sum_mul]
  refine Finset.sum_congr rfl fun x _ => ?_
  show ZZ (Qp q (j1.val / 64 / 2)) (cols (j1.val / 64 / 2) kv) (cols (4 + j1.val / 64 / 2) kv) (cols (j1.val / 64 / 2) dy) (j1.val / 64 % 2) j0.val x.val
      * (1 / 8) * kv x.val (64 * (j1.val / 64) + j1.val % 64)
    = ZZ _ _ _ _ (j1.val % 128 / 64) j0.val x.val * kv x.val (128 * (j1.val / 128) + j1.val % 128) * (1 / 8)
  rw [show j1.val / 64 / 2 = j1.val / 128 by omega, show j1.val / 64 % 2 = j1.val % 128 / 64 by omega,
    show 64 * (j1.val / 64) + j1.val % 64 = 128 * (j1.val / 128) + j1.val % 128 by omega]
  ring

theorem v58_eq : val_main_v58 (F := Ideal) (up q) (up kv) (up dy) = up (dkF q kv dy) := by
  funext j; idx_vars j
  pointwise [val_main_v58, val_main_v54, val_main_v53, val_main_v49, val_main_v48, val_main_v47, val_main_cst_2, v46_eq, v6_eq]
  rw [show Ideal.ofBits FTy.f32 1040187392#32 = (((1 : ℝ) / 8 : ℝ) : EReal) from eighth_f32]
  simp only [up3_ix3, ← EReal.coe_mul]
  rw [← coe_sum]
  refine congrArg _ ?_
  show _ = dK (Qp q (j1.val / 128)) (cols (j1.val / 128) kv) (cols (4 + j1.val / 128) kv) (cols (j1.val / 128) dy) j0.val (j1.val % 128)
  unfold dK
  rw [Finset.sum_range]
  refine Finset.sum_congr rfl fun x _ => ?_
  show ZZ (Qp q (j1.val / 64 / 2)) (cols (j1.val / 64 / 2) kv) (cols (4 + j1.val / 64 / 2) kv) (cols (j1.val / 64 / 2) dy) (j1.val / 64 % 2) x.val j0.val
      * (1 / 8) * q x.val (64 * (j1.val / 64) + j1.val % 64)
    = ZZ _ _ _ _ (j1.val % 128 / 64) x.val j0.val * (q x.val (128 * (j1.val / 128) + j1.val % 128) * (1 / 8))
  rw [show j1.val / 64 / 2 = j1.val / 128 by omega, show j1.val / 64 % 2 = j1.val % 128 / 64 by omega,
    show 64 * (j1.val / 64) + j1.val % 64 = 128 * (j1.val / 128) + j1.val % 128 by omega]
  ring

theorem v59_eq : val_main_v59 (F := Ideal) (up q) (up kv) (up dy) = up (dvF q kv dy) := by
  funext j; idx_vars j
  pointwise [val_main_v59, val_main_v52, val_main_v51, val_main_v35, val_main_v34, v28_eq, v33_eq]
  simp only [up3_ix3, ← EReal.coe_mul]
  rw [← coe_sum]
  refine congrArg _ ?_
  show _ = dV (Qp q (j1.val / 128)) (cols (j1.val / 128) kv) (cols (j1.val / 128) dy) j0.val (j1.val % 128)
  unfold dV
  rw [Finset.sum_range]
  refine Finset.sum_congr rfl fun x _ => ?_
  show dy x.val (64 * (j1.val / 64) + j1.val % 64) * AA (Qp q (j1.val / 64 / 2)) (cols (j1.val / 64 / 2) kv) (j1.val / 64 % 2) x.val j0.val
    = AA _ _ (j1.val % 128 / 64) x.val j0.val * dy x.val (128 * (j1.val / 128) + j1.val % 128)
  rw [show j1.val / 64 / 2 = j1.val / 128 by omega, show j1.val / 64 % 2 = j1.val % 128 / 64 by omega,
    show 64 * (j1.val / 64) + j1.val % 64 = 128 * (j1.val / 128) + j1.val % 128 by omega]
  ring

end Cert.AttnRef
end
-- ==== Proof.FwdRef.lean ====
module

public import proofs.«01_k».proof.Proof.FwdPass
public import proofs.«01_k».proof.Proof.AttnRef
public import proofs.«01_k».proof.Proof.Gen.AttnFwdRefIdeal.Read

/-!
# The reference of the attention forward, on real arrays

Its lines up to the weights are the first lines of the attention backward's reference.
-/

@[expose] public section

noncomputable section

namespace Cert.FwdRef
open Cert.AttnFwdRefIdeal Cert.AttnFwdRefIdeal.Gen Cert.AttnFwdRefIdeal.Read
open Idealize.ShloMosaic Idealize.ShloMosaic.TcCoe Idealize.SL.Sem
open Cert.AttnReal Cert.AttnSpec Cert.AttnRef
open Cert.AttnPass (cols Qp)
open Cert.FwdPass (OO)

variable (q kv : ℕ → ℕ → ℝ)

theorem weights_same (a : (⟨S8192x512, .bf16⟩ : BufTy).Contents (Elt Ideal)) (b : (⟨S8192x1024, .bf16⟩ : BufTy).Contents (Elt Ideal)) :
    val_main_v28 (F := Ideal) a b = Cert.AttnBwdRefIdeal.Read.val_main_v28_0 (F := Ideal) a b := rfl

theorem values_same (b : (⟨S8192x1024, .bf16⟩ : BufTy).Contents (Elt Ideal)) :
    val_main_v10 (F := Ideal) b = Cert.AttnBwdRefIdeal.Read.val_main_v10 (F := Ideal) b := rfl

theorem w28_eq : val_main_v28 (F := Ideal) (up q) (up kv) = up3 fun h t s => AA (Qp q (h / 2)) (cols (h / 2) kv) (h % 2) t s :=
  (weights_same _ _).trans (v28_eq q kv)

theorem w10_eq : val_main_v10 (F := Ideal) (up kv) = up3 fun h t c => kv t (512 + (64 * h + c)) :=
  (values_same _).trans (Cert.AttnRef.v10_eq kv)

/-- The attention of all heads. -/
def outF (r c : ℕ) : ℝ := OO (Qp q (c / 128)) (cols (c / 128) kv) (cols (4 + c / 128) kv) r (c % 128)

theorem v32_eq : val_main_v32 (F := Ideal) (up q) (up kv) = up (outF q kv) := by
  funext j; idx_vars j
  pointwise [val_main_v32, val_main_v31, val_main_v30, val_main_v29, w28_eq, w10_eq]
  simp only [up3_ix3, ← EReal.coe_mul]
  rw [← coe_sum]
  refine congrArg _ ?_
  show _ = OO (Qp q (j1.val / 128)) (cols (j1.val / 128) kv) (cols (4 + j1.val / 128) kv) j0.val (j1.val % 128)
  unfold OO
  rw [Finset.sum_range]
  refine Finset.sum_congr rfl fun x _ => ?_
  show AA (Qp q (j1.val / 64 / 2)) (cols (j1.val / 64 / 2) kv) (j1.val / 64 % 2) j0.val x.val * kv x.val (512 + (64 * (j1.val / 64) + j1.val % 64))
    = AA _ _ (j1.val % 128 / 64) j0.val x.val * kv x.val (128 * (4 + j1.val / 128) + j1.val % 128)
  rw [show j1.val / 64 / 2 = j1.val / 128 by omega, show j1.val / 64 % 2 = j1.val % 128 / 64 by omega,
    show 512 + (64 * (j1.val / 64) + j1.val % 64) = 128 * (4 + j1.val / 128) + j1.val % 128 by omega]

end Cert.FwdRef
end
-- ==== Proof.FwdArrays.lean ====
module

public import proofs.«01_k».proof.Proof.FwdRef

/-!
# What the attention forward leaves in its result

Each point's blocks are tiles of the real arrays that the arguments hold.
-/

@[expose] public section

noncomputable section

namespace Cert.FwdPass
open Cert.AttnFwdIdeal Cert.AttnFwdIdeal.Gen
open Idealize.ShloMosaic Idealize.ShloMosaic.TcCoe Idealize.SL.Sem
open Cert.FwdModel Cert.AttnReal Cert.AttnSpec
open Cert.AttnPass (cols Qp)
open Cert.FwdRef (outF)

variable (m : (ℓ : Loc nD τ sig) → Buf (Elt Ideal) ℓ)

theorem V_tri (c : Dev nD) : V m c main_v4 = (triL : S256x256.Idx → EReal) := by
  have e : V m c main_v4 = truncf .bf16 (select (cmpi .sgt (iotaInDim S256x256 32 0) (iotaInDim S256x256 32 1))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32 := by
    rfl
  rw [e]
  funext j; idx_vars j
  pointwise []
  rw [triL, up_ix2]
  by_cases h : j1.val < j0.val
  · rw [WordCmp.cmpi_sgt_ofNat (by omega) (by omega), decide_eq_true h, if_pos h]; exact EReal.coe_one.symm
  · rw [WordCmp.cmpi_sgt_ofNat (by omega) (by omega), decide_eq_false h, if_neg h]; exact EReal.coe_zero.symm

theorem idx4 : ∀ t : Fin (cfg0 (F := Ideal)).N, win0_0.index t = ![(grid0.coords t 1).val, (grid0.coords t 0).val] ∧ win0_1.index t = ![0, (grid0.coords t 0).val]
    ∧ win0_2.index t = ![0, 4 + (grid0.coords t 0).val] ∧ win0_3.index t = ![0, 0]
    ∧ win0_4.index t = ![(grid0.coords t 1).val, (grid0.coords t 0).val] :=
  (by decide +kernel : ∀ t : Fin grid0.N, _)

theorem coord0 (t : Fin (cfg0 (F := Ideal)).N) : (grid0.coords t 0).val < 4 := (grid0.coords t 0).isLt
theorem coord1 (t : Fin (cfg0 (F := Ideal)).N) : (grid0.coords t 1).val < 8 := (grid0.coords t 1).isLt

theorem iblk0 (c : Dev nD) (t : Fin (cfg0 (F := Ideal)).N) (q : ℕ → ℕ → ℝ) (h : m ((c : Thread nD τ).loc main_arg0) = (up q : S8192x512.Idx → EReal)) :
    iblk m c 0 t = (up fun r l => cols (grid0.coords t 0).val q (1024 * (grid0.coords t 1).val + r) l : S1024x128.Idx → EReal) := by
  funext j; idx_vars j
  have h0 := coord0 t
  have h1 := coord1 t
  have e : iblk m c 0 t (ix2 j0 j1) = m ((c : Thread nD τ).loc main_arg0)
      (ix2 (n0 := 8192) (n1 := 512) ⟨1024 * (grid0.coords t 1).val + j0.val, by omega⟩ ⟨128 * (grid0.coords t 0).val + j1.val, by omega⟩) := by
    blk_point [iblk, V, idx4 t]
  rw [e, h]; rfl

theorem iblk1 (c : Dev nD) (t : Fin (cfg0 (F := Ideal)).N) (f : ℕ → ℕ → ℝ) (h : m ((c : Thread nD τ).loc main_arg1) = (up f : S8192x1024.Idx → EReal)) :
    iblk m c 1 t = (up (cols (grid0.coords t 0).val f) : S8192x128.Idx → EReal) := by
  funext j; idx_vars j
  have h0 := coord0 t
  have e : iblk m c 1 t (ix2 j0 j1) = m ((c : Thread nD τ).loc main_arg1)
      (ix2 (n0 := 8192) (n1 := 1024) ⟨j0.val, by omega⟩ ⟨128 * (grid0.coords t 0).val + j1.val, by omega⟩) := by
    blk_point [iblk, V, idx4 t]
  rw [e, h]; rfl

theorem iblk2 (c : Dev nD) (t : Fin (cfg0 (F := Ideal)).N) (f : ℕ → ℕ → ℝ) (h : m ((c : Thread nD τ).loc main_arg1) = (up f : S8192x1024.Idx → EReal)) :
    iblk m c 2 t = (up (cols (4 + (grid0.coords t 0).val) f) : S8192x128.Idx → EReal) := by
  funext j; idx_vars j
  have h0 := coord0 t
  have e : iblk m c 2 t (ix2 j0 j1) = m ((c : Thread nD τ).loc main_arg1)
      (ix2 (n0 := 8192) (n1 := 1024) ⟨j0.val, by omega⟩ ⟨128 * (4 + (grid0.coords t 0).val) + j1.val, by omega⟩) := by
    blk_point [iblk, V, idx4 t]
  rw [e, h]; rfl

theorem iblk3 (c : Dev nD) (t : Fin (cfg0 (F := Ideal)).N) : iblk m c 3 t = (triL : S256x256.Idx → EReal) := by
  funext j; idx_vars j
  have e : iblk m c 3 t (ix2 j0 j1) = V m c main_v4 (ix2 (n0 := 256) (n1 := 256) j0 j1) := by
    blk_point [iblk, idx4 t]
  rw [e, V_tri]

theorem quarter_up (o : ℕ) (ho : o + 256 ≤ 1024) (f : ℕ → ℕ → ℝ) :
    quarter o (up f : S1024x128.Idx → EReal) = up fun r l => f (o + r) l := by
  funext j; idx_vars j
  show ((f ((o + j0.val) % 1024) j1.val : ℝ) : EReal) = _
  rw [Nat.mod_eq_of_lt (by omega)]; rfl

theorem pay37_up (f : ℕ → ℕ → ℝ) : k0_pay37 (F := Ideal) (up f) = up fun r l => f r l * (1 / 8) := by
  funext j; idx_vars j
  pointwise [k0_pay37]
  rw [up_ix2, up_ix2]
  show _ * Ideal.ofBits .bf16 0x3E00#16 = _
  rw [eighth_bf16, ← EReal.coe_mul]

variable (q kv : ℕ → ℕ → ℝ)

theorem envAt_eq (c : Dev nD) (t : Fin (cfg0 (F := Ideal)).N) (hq : m ((c : Thread nD τ).loc main_arg0) = (up q : S8192x512.Idx → EReal))
    (hk : m ((c : Thread nD τ).loc main_arg1) = (up kv : S8192x1024.Idx → EReal)) :
    envAt m c t = realEnv (Qp q (grid0.coords t 0).val) (cols (grid0.coords t 0).val kv) (cols (4 + (grid0.coords t 0).val) kv) (grid0.coords t) := by
  unfold envAt env realEnv
  rw [iblk0 m c t q hq, iblk1 m c t kv hk, iblk2 m c t kv hk, iblk3, quarter_up 0 (by omega), quarter_up 256 (by omega), quarter_up 512 (by omega),
    quarter_up 768 (by omega), show k0_pay38 (F := Ideal) = k0_pay37 from rfl, show k0_pay39 (F := Ideal) = k0_pay37 from rfl,
    show k0_pay40 (F := Ideal) = k0_pay37 from rfl, pay37_up, pay37_up, pay37_up, pay37_up]
  have es : k0_pay36 (F := Ideal) triL = triL := by funext j; idx_vars j; pointwise [k0_pay36]
  rw [es]
  congr 1
  · exact up_congr fun r _ l _ => by rw [tl, Qp]; congr 2; omega
  · exact up_congr fun r _ l _ => by rw [tl, Qp]; congr 2; omega
  · exact up_congr fun r _ l _ => by rw [tl, Qp]; congr 2; omega
  · exact up_congr fun r _ l _ => by rw [tl, Qp]; congr 2; omega

theorem stack4_tl (y : ℕ) (f : ℕ → ℕ → ℝ) :
    stack4 (up (tl (4 * y) f)) (up (tl (4 * y + 1) f)) (up (tl (4 * y + 2) f)) (up (tl (4 * y + 3) f))
      = (up fun r l => f (1024 * y + r) l : S1024x128.Idx → EReal) := by
  funext j; idx_vars j
  unfold stack4
  dsimp only
  rw [up_ix2, up_ix2, up_ix2, up_ix2, up_ix2]
  unfold tl
  dsimp only
  show (if j0.val < 256 then _ else if j0.val < 512 then _ else if j0.val < 768 then _ else _) = _
  have hb : j0.val < 1024 := j0.isLt
  split
  · exact congrArg (fun w => ((f w j1.val : ℝ) : EReal)) (show 256 * (4 * y) + (j0.val % 256) = 1024 * y + j0.val by omega)
  · split
    · exact congrArg (fun w => ((f w j1.val : ℝ) : EReal)) (show 256 * (4 * y + 1) + (j0.val % 256) = 1024 * y + j0.val by omega)
    · split
      · exact congrArg (fun w => ((f w j1.val : ℝ) : EReal)) (show 256 * (4 * y + 2) + (j0.val % 256) = 1024 * y + j0.val by omega)
      · exact congrArg (fun w => ((f w j1.val : ℝ) : EReal)) (show 256 * (4 * y + 3) + (j0.val % 256) = 1024 * y + j0.val by omega)

section Arrays
variable (c : Dev nD) (hq : m ((c : Thread nD τ).loc main_arg0) = (up q : S8192x512.Idx → EReal))
    (hk : m ((c : Thread nD τ).loc main_arg1) = (up kv : S8192x1024.Idx → EReal))
include hq hk

theorem leaves4 (t : Fin (cfg0 (F := Ideal)).N) (X) (h : (rdat m c).Leaves 4 t X) :
    X = (up fun r l => outF q kv (1024 * (grid0.coords t 1).val + r) (128 * (grid0.coords t 0).val + l) : S1024x128.Idx → EReal) := by
  obtain ⟨Y, _, rfl⟩ := h
  rw [envAt_eq m q kv c t hq hk, result_eq, stack4_tl]
  refine up_congr fun r _ l hl => ?_
  rw [outF, show (128 * (grid0.coords t 0).val + l) / 128 = (grid0.coords t 0).val by omega,
    show (128 * (grid0.coords t 0).val + l) % 128 = l by omega]

variable (after : (w : Fin (cfg0 (F := Ideal)).W) → (t : Fin (cfg0 (F := Ideal)).N) → ((cfg0 (F := Ideal)).win w).block.Idx → Elt Ideal ((cfg0 (F := Ideal)).win w).elt)
  (ha : ∀ w t, ((cfg0 (F := Ideal)).win w).flush t = true → (rdat m c).Leaves w t (after w t))
include ha

theorem arr4 : ((rdat m c).withAfter after).arrAt 4 (cfg0 (F := Ideal)).N = (up (outF q kv) : S8192x512.Idx → EReal) := by
  refine ((rdat m c).withAfter after).arrAt_eq_of_covers 4 _ (by decide +kernel) fun t ht y => ?_
  blk_simp
  rw [show ((rdat m c).withAfter after).after 4 t = after 4 t from rfl, leaves4 m q kv c hq hk t _ (ha 4 t ht)]
  idx_vars y
  have h0 := coord0 t
  have h1 := coord1 t
  have e : (up (outF q kv) : S8192x512.Idx → EReal) ((win0_4.blk t).view.emb (ix2 y0 y1))
      = (up (outF q kv) : S8192x512.Idx → EReal) (ix2 (n0 := 8192) (n1 := 512) ⟨1024 * (grid0.coords t 1).val + y0.val, by omega⟩
        ⟨128 * (grid0.coords t 0).val + y1.val, by omega⟩) := by
    blk_point [idx4 t]
  rw [e, up_ix2, up_ix2]

end Arrays

end Cert.FwdPass
end
-- ==== Proof.AttnClaim.lean ====
module

public import proofs.«01_k».proof.Defs
public import proofs.«01_k».proof.Proof.AttnRef
public import proofs.«01_k».proof.Proof.AttnLaunch
public import proofs.«01_k».proof.Proof.Gen.Pre_attn_finite

/-! The claims of the attention backward: both runs and the equality of the three gradients. -/

@[expose] public section

noncomputable section

namespace Cert.AttnClaim

open Idealize.ShloMosaic Idealize.ShloMosaic.TcCoe Idealize.SL.Sem Cert.AttnReal Cert.AttnModel
open Cert.AttnBwdIdeal (S8192x512 S8192x1024 nD τ)

/-! ## Finite arguments are arrays of real numbers -/

theorem andi_one {a b : BitVec 1} (h : IntOp.andi a b = 1#1) : a = 1#1 ∧ b = 1#1 := by
  revert h; revert a b; unfold IntOp.andi; decide

theorem real_of_abs (x : EReal) (h : max x (-x) < ⊤) : ((x.toReal : ℝ) : EReal) = x := by
  refine EReal.coe_toReal ?_ ?_
  · rintro rfl; simp at h
  · rintro rfl; simp at h

theorem exists_up {a b : ℕ} (x : (⟨2, ![a, b]⟩ : Shape).Idx → EReal) (h : ∀ i j, max (x (ix2 i j)) (-(x (ix2 i j))) < ⊤) :
    ∃ f : ℕ → ℕ → ℝ, x = up f := by
  refine ⟨fun r c => if hh : r < a ∧ c < b then (x (ix2 ⟨r, hh.1⟩ ⟨c, hh.2⟩)).toReal else 0, ?_⟩
  funext j
  obtain ⟨j0, j1, rfl⟩ : ∃ j0 j1, j = ix2 j0 j1 := ⟨j 0, j 1, eq_ix2 j⟩
  show x (ix2 j0 j1) = (((if hh : j0.val < a ∧ j1.val < b then (x (ix2 ⟨j0.val, hh.1⟩ ⟨j1.val, hh.2⟩)).toReal else 0 : ℝ)) : EReal)
  rw [dif_pos ⟨j0.isLt, j1.isLt⟩]
  exact (real_of_abs _ (h _ _)).symm

theorem fn_at (a d : S8192x512.Idx → EReal) (b : S8192x1024.Idx → EReal) (i : Fin 8192) (j : Fin 512)
    (h : Cert.Pre_attn_finite.fn (F := Ideal) a b d (ix2 i j) = 1#1) :
    max (a (ix2 i j)) (-(a (ix2 i j))) < ⊤ ∧ max (b (ix2 i ⟨j.val, by omega⟩)) (-(b (ix2 i ⟨j.val, by omega⟩))) < ⊤
      ∧ max (b (ix2 i ⟨512 + j.val, by omega⟩)) (-(b (ix2 i ⟨512 + j.val, by omega⟩))) < ⊤ ∧ max (d (ix2 i j)) (-(d (ix2 i j))) < ⊤ := by
  have e : Cert.Pre_attn_finite.fn (F := Ideal) a b d (ix2 i j)
      = IntOp.andi (IntOp.andi (IntOp.andi
          (BitVec.ofBool (decide (FloatOps.absf (F := Ideal) (φ := .f32) (a (ix2 i j)) < Ideal.ofBits FTy.f32 0x7F800000#32)))
          (BitVec.ofBool (decide (FloatOps.absf (F := Ideal) (φ := .f32) (b (ix2 i ⟨j.val, by omega⟩)) < Ideal.ofBits FTy.f32 0x7F800000#32))))
          (BitVec.ofBool (decide (FloatOps.absf (F := Ideal) (φ := .f32) (b (ix2 i ⟨512 + j.val, by omega⟩)) < Ideal.ofBits FTy.f32 0x7F800000#32))))
        (BitVec.ofBool (decide (FloatOps.absf (F := Ideal) (φ := .f32) (d (ix2 i j)) < Ideal.ofBits FTy.f32 0x7F800000#32))) := by
    pointwise [Cert.Pre_attn_finite.fn, Cert.Pre_attn_finite.fn_part1]
  rw [e, Cert.AttnRef.inf_f32] at h
  obtain ⟨h, h4⟩ := andi_one h
  obtain ⟨h, h3⟩ := andi_one h
  obtain ⟨h1, h2⟩ := andi_one h
  have t : ∀ x : EReal, BitVec.ofBool (decide (FloatOps.absf (F := Ideal) (φ := .f32) x < ⊤)) = 1#1 → max x (-x) < ⊤ := by
    intro x hx
    by_contra hn
    have : decide (FloatOps.absf (F := Ideal) (φ := .f32) x < ⊤) = false := decide_eq_false hn
    rw [this] at hx
    exact absurd hx (by decide)
  exact ⟨t _ h1, t _ h2, t _ h3, t _ h4⟩

theorem reals (m : (ℓ : Loc nD τ Cert.AttnBwdIdeal.sig) → Buf (Elt Ideal) ℓ) (hpre : Cert.Pre_AttnBwdIdeal_attn_finite m) (c : Dev nD) :
    ∃ q kv dy : ℕ → ℕ → ℝ, m ((c.tc : Thread nD τ).loc Cert.AttnBwdIdeal.main_arg0) = (up q : S8192x512.Idx → EReal)
      ∧ m ((c.tc : Thread nD τ).loc Cert.AttnBwdIdeal.main_arg1) = (up kv : S8192x1024.Idx → EReal)
      ∧ m ((c.tc : Thread nD τ).loc Cert.AttnBwdIdeal.main_arg2) = (up dy : S8192x512.Idx → EReal) := by
  have h := fun i j => fn_at _ _ _ i j (congrFun (hpre c) (ix2 i j))
  obtain ⟨q, hq⟩ := exists_up (a := 8192) (b := 512) (m ((c.tc : Thread nD τ).loc Cert.AttnBwdIdeal.main_arg0)) fun i j => (h i j).1
  obtain ⟨kv, hk⟩ := exists_up (a := 8192) (b := 1024) (m ((c.tc : Thread nD τ).loc Cert.AttnBwdIdeal.main_arg1)) fun i j => by
    by_cases hj : j.val < 512
    · exact (h i ⟨j.val, hj⟩).2.1
    · have := (h i ⟨j.val - 512, by omega⟩).2.2.1
      rwa [show (⟨512 + (j.val - 512), by omega⟩ : Fin 1024) = j from Fin.ext (by show 512 + (j.val - 512) = j.val; omega)] at this
  obtain ⟨dy, hd⟩ := exists_up (a := 8192) (b := 512) (m ((c.tc : Thread nD τ).loc Cert.AttnBwdIdeal.main_arg2)) fun i j => (h i j).2.2.2
  exact ⟨q, kv, dy, hq, hk, hd⟩

/-! ## The two runs -/

theorem frame_ref : Cert.quiescent_AttnBwdRefIdeal := fun m g _ =>
  (θ_run Cert.AttnBwdRefIdeal.defs _ _).mono
    (fun r h => ⟨fun c => (h c).2.2.2, sem_eq_zero_of_no_sems (by decide) r.2⟩)
    (Cert.AttnBwdRefIdeal.Value.run m g)

/-- The kernel's run: what the three result arrays hold. -/
theorem run_kernel (m : (ℓ : Loc nD τ Cert.AttnBwdIdeal.sig) → Buf (Elt Ideal) ℓ) (ρ : Dev nD → PrngReg) (q kv dy : Dev nD → ℕ → ℕ → ℝ)
    (hq : ∀ c : Dev nD, m ((c.tc : Thread nD τ).loc Cert.AttnBwdIdeal.main_arg0) = (up (q c) : S8192x512.Idx → EReal))
    (hk : ∀ c : Dev nD, m ((c.tc : Thread nD τ).loc Cert.AttnBwdIdeal.main_arg1) = (up (kv c) : S8192x1024.Idx → EReal))
    (hd : ∀ c : Dev nD, m ((c.tc : Thread nD τ).loc Cert.AttnBwdIdeal.main_arg2) = (up (dy c) : S8192x512.Idx → EReal)) :
    θ_run (Cert.AttnBwdIdeal.defs (F := Ideal)) (onTc (τ := τ) (Cert.AttnBwdIdeal.main (F := Ideal))) ⟨m, fun _ => 0, ρ⟩ (fun r => ∀ c : Dev nD,
      r.2.mem ((c.tc : Thread nD τ).loc Cert.AttnBwdIdeal.main_v10_0) = (up (Cert.AttnPass.dqF (q c) (kv c) (dy c)) : S8192x512.Idx → EReal)
      ∧ r.2.mem ((c.tc : Thread nD τ).loc Cert.AttnBwdIdeal.main_v10_1) = (up (Cert.AttnPass.dkF (q c) (kv c) (dy c)) : S8192x512.Idx → EReal)
      ∧ r.2.mem ((c.tc : Thread nD τ).loc Cert.AttnBwdIdeal.main_v10_2) = (up (Cert.AttnPass.dvF (q c) (kv c) (dy c)) : S8192x512.Idx → EReal)
      ∧ r.2.mem ((c.tc : Thread nD τ).loc Cert.AttnBwdIdeal.main_arg0) = m ((c.tc : Thread nD τ).loc Cert.AttnBwdIdeal.main_arg0)
      ∧ r.2.mem ((c.tc : Thread nD τ).loc Cert.AttnBwdIdeal.main_arg1) = m ((c.tc : Thread nD τ).loc Cert.AttnBwdIdeal.main_arg1)
      ∧ r.2.mem ((c.tc : Thread nD τ).loc Cert.AttnBwdIdeal.main_arg2) = m ((c.tc : Thread nD τ).loc Cert.AttnBwdIdeal.main_arg2)) := by
  refine (θ_run Cert.AttnBwdIdeal.defs _ _).mono (fun r h c => ?_) (run_main_quiescent (F := Ideal) m ρ)
  obtain ⟨after, ha, hw⟩ := Pipeline.RDat.FramePost.exists_exact h.1 c
  exact ⟨(hw 6).trans (Cert.AttnPass.arr6 m _ _ _ c (hq c) (hk c) (hd c) after ha),
    (hw 7).trans (Cert.AttnPass.arr7 m _ _ _ c (hq c) (hk c) (hd c) after ha),
    (hw 8).trans (Cert.AttnPass.arr8 m _ _ _ c (hq c) (hk c) (hd c) after ha),
    h.1.arr_in c 0 rfl, h.1.arr_in c 1 rfl, h.1.arr_in c 5 rfl⟩

theorem algebraic : Cert.algebraic_AttnBwdIdeal_AttnBwdRefIdeal_pre_attn_finite := by
  intro m g m' g' hpre hagree
  choose q kv dy hq hk hd using reals m hpre
  refine ⟨fun c => (up (Cert.AttnPass.dqF (q c) (kv c) (dy c)) : S8192x512.Idx → EReal), fun c => (up (Cert.AttnPass.dkF (q c) (kv c) (dy c)) : S8192x512.Idx → EReal),
    fun c => (up (Cert.AttnPass.dvF (q c) (kv c) (dy c)) : S8192x512.Idx → EReal), run_kernel m g q kv dy hq hk hd, ?_⟩
  refine (θ_run Cert.AttnBwdRefIdeal.defs _ _).mono (fun r h c => ?_) (Cert.AttnBwdRefIdeal.Value.run m' g')
  obtain ⟨h0, h1, h2, h3, h4, h5⟩ := h c
  obtain ⟨a0, a1, a2⟩ := hagree c
  refine ⟨h0.trans ?_, h1.trans ?_, h2.trans ?_, h3, h4, h5⟩
  · refine (Cert.AttnBwdRefIdeal.Read.val_main_v57_eq m' c).trans ?_
    rw [a0, a1, a2, hq c, hk c, hd c]
    exact Cert.AttnRef.v57_eq _ _ _
  · refine (Cert.AttnBwdRefIdeal.Read.val_main_v58_eq m' c).trans ?_
    rw [a0, a1, a2, hq c, hk c, hd c]
    exact Cert.AttnRef.v58_eq _ _ _
  · refine (Cert.AttnBwdRefIdeal.Read.val_main_v59_eq m' c).trans ?_
    rw [a0, a1, a2, hq c, hk c, hd c]
    exact Cert.AttnRef.v59_eq _ _ _

end Cert.AttnClaim

end
-- ==== Proof.Finite.lean ====
module

public import proofs.«01_k».proof.Proof.AttnClaim

/-! A precondition that asks for finite numbers makes each array an array of reals. -/

@[expose] public section

noncomputable section

namespace Cert.Finite

open Idealize.ShloMosaic Idealize.ShloMosaic.TcCoe Cert.AttnReal

/-- The comparison of one element with infinity. -/
def below (x : EReal) : BitVec 1 := BitVec.ofBool (decide (FloatOps.absf (F := Ideal) (φ := .f32) x < Ideal.ofBits FTy.f32 0x7F800000#32))

theorem lt_top (x : EReal) (h : below x = 1#1) : max x (-x) < ⊤ := by
  unfold below at h
  rw [Cert.AttnRef.inf_f32] at h
  by_contra hn
  have : decide (FloatOps.absf (F := Ideal) (φ := .f32) x < ⊤) = false := decide_eq_false hn
  rw [this] at h
  exact absurd h (by decide)

theorem real_array {a b : ℕ} (x : (⟨2, ![a, b]⟩ : Shape).Idx → EReal) (p : (⟨2, ![a, b]⟩ : Shape).Idx → BitVec 1)
    (hp : p = fun _ => 1#1) (e : ∀ i j, p (ix2 i j) = below (x (ix2 i j))) : ∃ f : ℕ → ℕ → ℝ, x = up f :=
  Cert.AttnClaim.exists_up x fun i j => lt_top _ ((e i j).symm.trans (congrFun hp _))

/-- The same for a row of numbers. -/
theorem real_row {a : ℕ} (x : (⟨1, ![a]⟩ : Shape).Idx → EReal) (p : (⟨1, ![a]⟩ : Shape).Idx → BitVec 1)
    (hp : p = fun _ => 1#1) (e : ∀ i, p i = below (x i)) : ∃ f : ℕ → ℝ, x = fun i => ((f (i 0).val : ℝ) : EReal) := by
  refine ⟨fun n => if h : n < a then (x (ix1 ⟨n, h⟩)).toReal else 0, funext fun i => ?_⟩
  have hi : (i 0).val < a := (i 0).isLt
  have ei : i = ix1 ⟨(i 0).val, hi⟩ := eq_ix1 i
  show x i = (((if h : (i 0).val < a then (x (ix1 ⟨(i 0).val, h⟩)).toReal else 0 : ℝ)) : EReal)
  rw [dif_pos hi, ← ei]
  exact (Cert.AttnClaim.real_of_abs _ (lt_top _ ((e i).symm.trans (congrFun hp _)))).symm

end Cert.Finite

end
-- ==== Proof.FwdClaim.lean ====
module

public import proofs.«01_k».proof.Proof.FwdArrays
public import proofs.«01_k».proof.Proof.Finite
public import proofs.«01_k».proof.Proof.Gen.Pre_fwd_finite

/-! The claims of the attention forward: both runs and the equality of the result. -/

@[expose] public section

noncomputable section

namespace Cert.FwdClaim

open Idealize.ShloMosaic Idealize.ShloMosaic.TcCoe Idealize.SL.Sem Cert.AttnReal Cert.Finite Cert.FwdModel
open Cert.AttnFwdIdeal (S8192x512 S8192x1024 nD τ)
open Cert.FwdRef (outF)

theorem frame_ideal : Cert.quiescent_AttnFwdIdeal := fun m ρ _ => frame_run (F := Ideal) m ρ

theorem frame_ref : Cert.quiescent_AttnFwdRefIdeal := fun m g _ =>
  (θ_run Cert.AttnFwdRefIdeal.defs _ _).mono
    (fun r h => ⟨fun c => (h c).2, sem_eq_zero_of_no_sems (by decide) r.2⟩)
    (Cert.AttnFwdRefIdeal.Value.run m g)

theorem reals (m : (ℓ : Loc nD τ Cert.AttnFwdIdeal.sig) → Buf (Elt Ideal) ℓ) (hpre : Cert.Pre_AttnFwdIdeal_fwd_finite m) (c : Dev nD) :
    ∃ q kv : ℕ → ℕ → ℝ, m ((c.tc : Thread nD τ).loc Cert.AttnFwdIdeal.main_arg0) = (up q : S8192x512.Idx → EReal)
      ∧ m ((c.tc : Thread nD τ).loc Cert.AttnFwdIdeal.main_arg1) = (up kv : S8192x1024.Idx → EReal) := by
  obtain ⟨h0, h1⟩ := hpre c
  obtain ⟨q, hq⟩ := real_array _ _ h0 fun i j => by pointwise [Cert.Pre_fwd_finite.fn]; rfl
  obtain ⟨kv, hk⟩ := real_array _ _ h1 fun i j => by pointwise [Cert.Pre_fwd_finite.fn]; rfl
  exact ⟨q, kv, hq, hk⟩

/-- The kernel's run: what the result array holds. -/
theorem run_kernel (m : (ℓ : Loc nD τ Cert.AttnFwdIdeal.sig) → Buf (Elt Ideal) ℓ) (ρ : Dev nD → PrngReg) (q kv : Dev nD → ℕ → ℕ → ℝ)
    (hq : ∀ c : Dev nD, m ((c.tc : Thread nD τ).loc Cert.AttnFwdIdeal.main_arg0) = (up (q c) : S8192x512.Idx → EReal))
    (hk : ∀ c : Dev nD, m ((c.tc : Thread nD τ).loc Cert.AttnFwdIdeal.main_arg1) = (up (kv c) : S8192x1024.Idx → EReal)) :
    θ_run (Cert.AttnFwdIdeal.defs (F := Ideal)) (onTc (τ := τ) (Cert.AttnFwdIdeal.main (F := Ideal))) ⟨m, fun _ => 0, ρ⟩ (fun r => ∀ c : Dev nD,
      r.2.mem ((c.tc : Thread nD τ).loc Cert.AttnFwdIdeal.main_v5) = (up (outF (q c) (kv c)) : S8192x512.Idx → EReal)
      ∧ r.2.mem ((c.tc : Thread nD τ).loc Cert.AttnFwdIdeal.main_arg0) = m ((c.tc : Thread nD τ).loc Cert.AttnFwdIdeal.main_arg0)
      ∧ r.2.mem ((c.tc : Thread nD τ).loc Cert.AttnFwdIdeal.main_arg1) = m ((c.tc : Thread nD τ).loc Cert.AttnFwdIdeal.main_arg1)) := by
  refine (θ_run Cert.AttnFwdIdeal.defs _ _).mono (fun r h c => ?_) (run_main_quiescent (F := Ideal) m ρ)
  obtain ⟨after, ha, hw⟩ := Pipeline.RDat.FramePost.exists_exact h.1 c
  exact ⟨(hw 4).trans (Cert.FwdPass.arr4 m _ _ c (hq c) (hk c) after ha), h.1.arr_in c 0 rfl, h.1.arr_in c 1 rfl⟩

theorem algebraic : Cert.algebraic_AttnFwdIdeal_AttnFwdRefIdeal_pre_fwd_finite := by
  intro m g m' g' hpre hagree
  choose q kv hq hk using reals m hpre
  refine ⟨fun c => (up (outF (q c) (kv c)) : S8192x512.Idx → EReal), run_kernel m g q kv hq hk, ?_⟩
  refine (θ_run Cert.AttnFwdRefIdeal.defs _ _).mono (fun r h c => ?_) (Cert.AttnFwdRefIdeal.Value.run m' g')
  obtain ⟨h0, h1, h2⟩ := h c
  obtain ⟨a0, a1⟩ := hagree c
  refine ⟨h0.trans ((Cert.AttnFwdRefIdeal.Read.val_main_v32_eq m' c).trans ?_), h1, h2⟩
  rw [a0, a1, hq c, hk c]
  exact Cert.FwdRef.v32_eq _ _

end Cert.FwdClaim

end
-- ==== Proof.NormReal.lean ====
/- The root-mean-square norm of a row of reals, and its derivative, in plain real formulas. -/
module

public import proofs.«01_k».proof.Proof.AttnReal

@[expose] public section

noncomputable section

namespace Cert.NormReal
open Idealize.ShloMosaic Cert.AttnReal

/-- The small number added to the mean of the squares. -/
def eps : ℝ := 8796093 / 2 ^ 43

theorem eps_pos : 0 < eps := by unfold eps; positivity

theorem eps_f32 : Ideal.ofBits .f32 0x358637BD#32 = ((eps : ℝ) : EReal) := by
  simp [Ideal.ofBits, Ideal.ieee, eps, -EReal.coe_mul]
  norm_num

theorem width_f32 : Ideal.ofBits .f32 0x44800000#32 = ((1024 : ℝ) : EReal) := by
  simp [Ideal.ofBits, Ideal.ieee, -EReal.coe_mul]
  norm_num

theorem neg_half_f32 : Ideal.ofBits .f32 0xBF000000#32 = (((-1 : ℝ) / 2 : ℝ) : EReal) := by
  simp [Ideal.ofBits, Ideal.ieee, -EReal.coe_mul]
  norm_num

/-- The mean of the squares of a row, with the small number added. -/
def ms (x : ℕ → ℝ) : ℝ := (∑ j ∈ Finset.range 1024, x j * x j) * (1 / 1024) + eps

theorem ms_pos (x : ℕ → ℝ) : 0 < ms x := by
  have h : 0 ≤ ∑ j ∈ Finset.range 1024, x j * x j := Finset.sum_nonneg fun j _ => mul_self_nonneg _
  have := eps_pos
  unfold ms; positivity

/-- One over the root of it. -/
def inv (x : ℕ → ℝ) : ℝ := (Real.sqrt (ms x))⁻¹

theorem inv_sq (x : ℕ → ℝ) : inv x * inv x = 1 / ms x := by
  unfold inv
  rw [← mul_inv, Real.mul_self_sqrt (ms_pos x).le, one_div]

theorem rsqrt_ms (x : ℕ → ℝ) : Ideal.rsqrt ((ms x : ℝ) : EReal) = ((inv x : ℝ) : EReal) := by
  rw [Ideal.rsqrt_coe, if_neg (not_lt.mpr (ms_pos x).le), if_neg (ms_pos x).ne']; rfl

theorem div_width (x : ℝ) : Ideal.div ((x : ℝ) : EReal) ((1024 : ℝ) : EReal) = ((x * (1 / 1024) : ℝ) : EReal) := by
  rw [Ideal.div_coe (by norm_num), EReal.coe_mul]

theorem div_ms (x : ℕ → ℝ) (y : ℝ) : Ideal.div ((y : ℝ) : EReal) ((ms x : ℝ) : EReal) = ((y * (1 / ms x) : ℝ) : EReal) := by
  rw [Ideal.div_coe (ms_pos x).ne', EReal.coe_mul]

/-- The normalised row. -/
def unit (x : ℕ → ℝ) (j : ℕ) : ℝ := x j * inv x

/-- The cotangent of the row whose normalised row has the cotangent `d`. -/
def dunit (x d : ℕ → ℝ) (j : ℕ) : ℝ := inv x * (d j - unit x j * ((∑ i ∈ Finset.range 1024, d i * unit x i) * (1 / 1024)))

/-- The same cotangent by the derivative of the mean of the squares. -/
theorem dunit_eq (x d : ℕ → ℝ) (j : ℕ) :
    dunit x d j = d j * inv x + 2 * (x j * ((∑ i ∈ Finset.range 1024, x i * d i) * (-1 / 2 * (inv x * (1 / ms x))) * (1 / 1024))) := by
  have e : ∑ i ∈ Finset.range 1024, d i * unit x i = inv x * ∑ i ∈ Finset.range 1024, x i * d i := by
    rw [Finset.mul_sum]; exact Finset.sum_congr rfl fun i _ => by unfold unit; ring
  unfold dunit
  rw [e, ← inv_sq]
  unfold unit
  ring

/-- A sum by blocks of `b`. -/
theorem sum_blocks (b : ℕ) (f : ℕ → ℝ) (n : ℕ) : ∑ t ∈ Finset.range n, ∑ a ∈ Finset.range b, f (b * t + a) = ∑ t ∈ Finset.range (b * n), f t := by
  induction n with
  | zero => simp
  | succ n ih => rw [Finset.sum_range_succ, ih, Nat.mul_succ, Finset.sum_range_add]

/-- The sum over the blocks of the sums over their rows is the sum over all rows. -/
theorem sum_points (b n : ℕ) (f : ℕ → ℝ) (g : ℕ → ℕ → ℝ) (h : ∀ s a, g s a = f (b * s + a)) :
    (∑ p : Fin n, ((∑ a ∈ Finset.range b, g p.val a : ℝ) : EReal)) = ((∑ t ∈ Finset.range (b * n), f t : ℝ) : EReal) := by
  rw [← coe_sum]
  simp only [h]
  exact congrArg _ ((Finset.sum_range fun t => ∑ a ∈ Finset.range b, f (b * t + a)).symm.trans (sum_blocks b f n))

end Cert.NormReal
-- ==== Proof.NormMixValue.lean ====
/- The gradient of the norm and of its product, tile by tile, on real tiles. -/
module

public import proofs.«01_k».proof.Proof.NormReal
public import proofs.«01_k».proof.Proof.Gen.NormMixIdeal.Value
public import Idealize.ShloMosaic.Lib.Pipeline.ValueKit

@[expose] public section

noncomputable section

namespace Cert.NormMixValue
open Cert.NormMixIdeal Cert.NormMixIdeal.Gen Cert.AttnReal Cert.NormReal
open Idealize.ShloMosaic Idealize.ShloMosaic.TcCoe

variable (x dres dh : ℕ → ℕ → ℝ) (g : ℕ → ℝ)

theorem squares_eq : k0_pay7 (F := Ideal) (up x) = up fun t j => x t j * x t j := by
  funext j; idx_vars j; pointwise [k0_pay7]; simp only [up_ix2, ← EReal.coe_mul]

theorem inv_eq : k0_pay1 (F := Ideal) (up fun t j => x t j * x t j) = up fun t _ => inv (x t) := by
  funext j; idx_vars j; pointwise [k0_pay1]
  simp only [up_ix2, ← coe_sum, eps_f32, width_f32, div_width, ← EReal.coe_add]
  have e : (∑ k : Fin 1024, x j0.val k.val * x j0.val k.val) * (1 / 1024) + eps = ms (x j0.val) := by
    unfold ms; rw [Finset.sum_range fun k => x j0.val k * x j0.val k]
  rw [e]; exact rsqrt_ms _

theorem unit_eq : k0_pay2 (F := Ideal) (up x) (up fun t j => x t j * x t j) = up fun t => unit (x t) := by
  funext j; idx_vars j; pointwise [k0_pay2, inv_eq]; simp only [up_ix2, ← EReal.coe_mul]; rfl

theorem dx_eq : k0_pay3 (F := Ideal) (up dh) (up x) (up fun _ => g) (up dres) (up fun t j => x t j * x t j)
    = up fun t j => dunit (x t) (fun k => dh t k * g k) j + dres t j := by
  funext j; idx_vars j; pointwise [k0_pay3, inv_eq, unit_eq]
  simp only [up_ix2, ← EReal.coe_mul, ← coe_sum, width_f32, div_width, ← EReal.coe_sub, ← EReal.coe_add]
  refine congrArg _ ?_
  unfold dunit
  rw [Finset.sum_range fun k => dh _ k * g k * unit (x _) k]

theorem gain_eq (acc : S1x1024.Idx → EReal) (j : Fin 1024) :
    k0_pay5 (F := Ideal) (up dh) (up x) (up fun t j => x t j * x t j) acc (ix2 0 j)
      = acc (ix2 0 j) + ((∑ t ∈ Finset.range 512, dh t j.val * unit (x t) j.val : ℝ) : EReal) := by
  pointwise [k0_pay5, unit_eq]
  simp only [up_ix2, ← EReal.coe_mul, ← coe_sum]
  rw [Finset.sum_range fun t => dh t j.val * unit (x t) j.val]

theorem zero_eq (j : S1x1024.Idx) : k0_pay4 (F := Ideal) j = 0 := by pointwise [k0_pay4]

/-- The six cotangents side by side. -/
def beside (u q k v ga gb : ℕ → ℕ → ℝ) (t c : ℕ) : ℝ :=
  if c < 512 then u t c else if c < 1024 then q t (c - 512) else if c < 1536 then k t (c - 1024) else
    if c < 2048 then v t (c - 1536) else if c < 3072 then ga t (c - 2048) else gb t (c - 3072)

/-- The cotangent of the normalised rows. -/
def back (u q k v ga gb w : ℕ → ℕ → ℝ) (t j : ℕ) : ℝ := ∑ c ∈ Finset.range 4096, beside u q k v ga gb t c * w j c

variable (u q k v ga gb w : ℕ → ℕ → ℝ)

theorem sum_cut (f : ℕ → ℝ) : ∑ c ∈ Finset.range 4096, f c
    = ∑ c ∈ Finset.range 512, f c + ∑ c ∈ Finset.range 512, f (512 + c)
      + (∑ c ∈ Finset.range 512, f (1024 + c) + ∑ c ∈ Finset.range 512, f (1536 + c))
      + ∑ c ∈ Finset.range 1024, f (2048 + c) + ∑ c ∈ Finset.range 1024, f (3072 + c) := by
  have h : Finset.range 4096 = Finset.range (512 + 512 + 512 + 512 + 1024 + 1024) := rfl
  rw [h]
  simp only [Finset.sum_range_add f]
  simp only [Nat.reduceAdd]
  ring

theorem back_cut (t j : ℕ) : back u q k v ga gb w t j
    = ∑ c ∈ Finset.range 512, u t c * w j c + ∑ c ∈ Finset.range 512, q t c * w j (512 + c)
      + (∑ c ∈ Finset.range 512, k t c * w j (1024 + c) + ∑ c ∈ Finset.range 512, v t c * w j (1024 + (512 + c)))
      + ∑ c ∈ Finset.range 1024, ga t c * w j (2048 + c) + ∑ c ∈ Finset.range 1024, gb t c * w j (3072 + c) := by
  unfold back
  rw [sum_cut]
  have b : ∀ (a n : ℕ) (f : ℕ → ℝ), (∀ c < n, beside u q k v ga gb t (a + c) = f c) →
      ∑ c ∈ Finset.range n, beside u q k v ga gb t (a + c) * w j (a + c) = ∑ c ∈ Finset.range n, f c * w j (a + c) :=
    fun a n f h => Finset.sum_congr rfl fun c hc => by rw [h c (Finset.mem_range.mp hc)]
  have b0 := b 0 512 (u t) fun c h => by
    unfold beside; rw [if_pos (by omega), Nat.zero_add]
  have b1 := b 512 512 (q t) fun c h => by
    unfold beside; rw [if_neg (by omega), if_pos (by omega), Nat.add_sub_cancel_left]
  have b2 := b 1024 512 (k t) fun c h => by
    unfold beside; rw [if_neg (by omega), if_neg (by omega), if_pos (by omega), Nat.add_sub_cancel_left]
  have b3 := b 1536 512 (v t) fun c h => by
    unfold beside; rw [if_neg (by omega), if_neg (by omega), if_neg (by omega), if_pos (by omega), Nat.add_sub_cancel_left]
  have b4 := b 2048 1024 (ga t) fun c h => by
    unfold beside; rw [if_neg (by omega), if_neg (by omega), if_neg (by omega), if_neg (by omega), if_pos (by omega), Nat.add_sub_cancel_left]
  have b5 := b 3072 1024 (gb t) fun c h => by
    unfold beside; rw [if_neg (by omega), if_neg (by omega), if_neg (by omega), if_neg (by omega), if_neg (by omega), Nat.add_sub_cancel_left]
  simp only [Nat.zero_add] at b0
  rw [b0, b1, b2, b3, b4, b5]
  simp only [← Nat.add_assoc]

theorem back_eq : k0_pay6 (F := Ideal) (up u) (up q) (up k) (up v) (up ga) (up gb) (up w) (up fun j c => w j (1024 + c))
      (up fun j c => w j (2048 + c)) (up fun j c => w j (3072 + c))
    = up (back u q k v ga gb w) := by
  funext j; idx_vars j; pointwise [k0_pay6]
  simp only [up_ix2, ← EReal.coe_mul, ← coe_sum, ← EReal.coe_add]
  refine congrArg _ ?_
  rw [back_cut]
  simp only [Finset.sum_range]

end Cert.NormMixValue
-- ==== Proof.NormMixArrays.lean ====
/- The two arrays the call leaves, in plain real formulas over the whole arguments. -/
module

public import proofs.«01_k».proof.Proof.NormMixValue

@[expose] public section

noncomputable section

namespace Cert.NormMixArrays
open Cert.NormMixIdeal Cert.NormMixIdeal.Gen Cert.AttnReal Cert.NormReal Cert.NormMixValue
open Idealize.ShloMosaic Idealize.ShloMosaic.TcCoe

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![t.val, 0] ∧ win0_11.index t = ![0, 0] ∧ win0_12.index t = ![t.val, 0]
    ∧ win0_13.index t = ![t.val, 0] ∧ win0_14.index t = ![0, 0] :=
  (by decide +kernel : ∀ t : Fin grid0.N, _)

theorem row_lt (t : Fin cfg0.N) (j : Fin 512) : 512 * t.val + j.val < 8192 := by
  have := lt_of_lt_of_eq t.isLt N_0; omega

/-- The rows of a whole array from row `512 s` on. -/
def rows (f : ℕ → ℕ → ℝ) (s a b : ℕ) : ℝ := f (512 * s + a) b

variable {m} {c : Dev nD} {x dres w u q k v ga gb : ℕ → ℕ → ℝ} {g : ℕ → ℕ → ℝ}

/-- The arguments of device `c` are these arrays of reals. -/
structure Args (m : (ℓ : Loc nD τ sig) → Buf (Elt Ideal) ℓ) (c : Dev nD) (x w u q k v ga gb dres : ℕ → ℕ → ℝ) (g : ℕ → ℕ → ℝ) : Prop where
  x : m ((c : Thread nD τ).loc main_arg0) = (up x : S8192x1024.Idx → EReal)
  g : m ((c : Thread nD τ).loc main_arg1) = (up g : S1x1024.Idx → EReal)
  w : m ((c : Thread nD τ).loc main_arg2) = (up w : S1024x4096.Idx → EReal)
  u : m ((c : Thread nD τ).loc main_arg3) = (up u : S8192x512.Idx → EReal)
  q : m ((c : Thread nD τ).loc main_arg4) = (up q : S8192x512.Idx → EReal)
  k : m ((c : Thread nD τ).loc main_arg5) = (up k : S8192x512.Idx → EReal)
  v : m ((c : Thread nD τ).loc main_arg6) = (up v : S8192x512.Idx → EReal)
  ga : m ((c : Thread nD τ).loc main_arg7) = (up ga : S8192x1024.Idx → EReal)
  gb : m ((c : Thread nD τ).loc main_arg8) = (up gb : S8192x1024.Idx → EReal)
  dres : m ((c : Thread nD τ).loc main_arg9) = (up dres : S8192x1024.Idx → EReal)

variable (A : Args m c x w u q k v ga gb dres g)
include A

theorem block_u (t : Fin cfg0.N) : iblk m c 0 t = (up (rows u t.val) : S512x512.Idx → EReal) := by
  funext j; idx_vars j
  exact .trans (by blk_point [iblk, V, idx t]) (congrFun A.u (ix2 ⟨512 * t.val + j0.val, row_lt t j0⟩ j1))

theorem block_q (t : Fin cfg0.N) : iblk m c 1 t = (up (rows q t.val) : S512x512.Idx → EReal) := by
  funext j; idx_vars j
  exact .trans (by blk_point [iblk, V, idx t]) (congrFun A.q (ix2 ⟨512 * t.val + j0.val, row_lt t j0⟩ j1))

theorem block_k (t : Fin cfg0.N) : iblk m c 2 t = (up (rows k t.val) : S512x512.Idx → EReal) := by
  funext j; idx_vars j
  exact .trans (by blk_point [iblk, V, idx t]) (congrFun A.k (ix2 ⟨512 * t.val + j0.val, row_lt t j0⟩ j1))

theorem block_v (t : Fin cfg0.N) : iblk m c 3 t = (up (rows v t.val) : S512x512.Idx → EReal) := by
  funext j; idx_vars j
  exact .trans (by blk_point [iblk, V, idx t]) (congrFun A.v (ix2 ⟨512 * t.val + j0.val, row_lt t j0⟩ j1))

theorem block_ga (t : Fin cfg0.N) : iblk m c 4 t = (up (rows ga t.val) : S512x1024.Idx → EReal) := by
  funext j; idx_vars j
  exact .trans (by blk_point [iblk, V, idx t]) (congrFun A.ga (ix2 ⟨512 * t.val + j0.val, row_lt t j0⟩ j1))

theorem block_gb (t : Fin cfg0.N) : iblk m c 5 t = (up (rows gb t.val) : S512x1024.Idx → EReal) := by
  funext j; idx_vars j
  exact .trans (by blk_point [iblk, V, idx t]) (congrFun A.gb (ix2 ⟨512 * t.val + j0.val, row_lt t j0⟩ j1))

theorem block_x (t : Fin cfg0.N) : iblk m c 10 t = (up (rows x t.val) : S512x1024.Idx → EReal) := by
  funext j; idx_vars j
  exact .trans (by blk_point [iblk, V, idx t]) (congrFun A.x (ix2 ⟨512 * t.val + j0.val, row_lt t j0⟩ j1))

theorem block_dres (t : Fin cfg0.N) : iblk m c 12 t = (up (rows dres t.val) : S512x1024.Idx → EReal) := by
  funext j; idx_vars j
  exact .trans (by blk_point [iblk, V, idx t]) (congrFun A.dres (ix2 ⟨512 * t.val + j0.val, row_lt t j0⟩ j1))

theorem block_w0 (t : Fin cfg0.N) : iblk m c 6 t = (up (fun j c => w j (c)) : S1024x1024.Idx → EReal) := by
  funext j; idx_vars j
  exact .trans (by blk_point [iblk, V, idx t]) (congrFun A.w (ix2 j0 ⟨j1.val, by omega⟩))

theorem block_w1 (t : Fin cfg0.N) : iblk m c 7 t = (up (fun j c => w j (1024 + c)) : S1024x1024.Idx → EReal) := by
  funext j; idx_vars j
  exact .trans (by blk_point [iblk, V, idx t]) (congrFun A.w (ix2 j0 ⟨1024 + j1.val, by omega⟩))

theorem block_w2 (t : Fin cfg0.N) : iblk m c 8 t = (up (fun j c => w j (2048 + c)) : S1024x1024.Idx → EReal) := by
  funext j; idx_vars j
  exact .trans (by blk_point [iblk, V, idx t]) (congrFun A.w (ix2 j0 ⟨2048 + j1.val, by omega⟩))

theorem block_w3 (t : Fin cfg0.N) : iblk m c 9 t = (up (fun j c => w j (3072 + c)) : S1024x1024.Idx → EReal) := by
  funext j; idx_vars j
  exact .trans (by blk_point [iblk, V, idx t]) (congrFun A.w (ix2 j0 ⟨3072 + j1.val, by omega⟩))

theorem block_g (t : Fin cfg0.N) : iblk m c 11 t = (up (fun _ => g 0) : S1x1024.Idx → EReal) := by
  funext j; idx_vars j
  have e : iblk m c 11 t (ix2 j0 j1) = m ((c : Thread nD τ).loc main_arg1) (ix2 j0 j1) := by
    blk_point [iblk, V, idx t]
  have z : j0.val = 0 := by omega
  rw [e, A.g, up_ix2, up_ix2, z]

/-- The cotangent of the normalised rows of a block. -/
theorem back_rows (t : Fin cfg0.N) : k0_pay6 (F := Ideal) (iblk m c 0 t) (iblk m c 1 t) (iblk m c 2 t) (iblk m c 3 t) (iblk m c 4 t)
      (iblk m c 5 t) (iblk m c 6 t) (iblk m c 7 t) (iblk m c 8 t) (iblk m c 9 t)
    = up (rows (back u q k v ga gb w) t.val) := by
  rw [block_u A, block_q A, block_k A, block_v A, block_ga A, block_gb A, block_w0 A, block_w1 A, block_w2 A, block_w3 A]
  exact back_eq ..

theorem tile (t : Fin cfg0.N) (y : ((cfg0.win 13).xblock (cfg0.grid.coords t)).Idx) :
    k0_pay3 (F := Ideal)
      (k0_pay6 (F := Ideal) (iblk m c 0 t) (iblk m c 1 t) (iblk m c 2 t) (iblk m c 3 t) (iblk m c 4 t) (iblk m c 5 t) (iblk m c 6 t)
        (iblk m c 7 t) (iblk m c 8 t) (iblk m c 9 t))
      (iblk m c 10 t) (iblk m c 11 t) (iblk m c 12 t) (k0_pay7 (F := Ideal) (iblk m c 10 t)) y =
    (up (fun t j => dunit (x t) (fun l => back u q k v ga gb w t l * g 0 l) j + dres t j) : S8192x1024.Idx → EReal)
      (((View.whole main_v5_0).slice (win0_13.rect t)).emb y) := by
  rw [back_rows A, block_x A, block_g A, block_dres A, squares_eq, dx_eq]
  have e0 : ((((View.whole main_v5_0).slice (win0_13.rect t)).emb y) 0).val = 512 * t.val + (y 0).val := by
    blk_simp [idx t] <;> try omega
  have e1 : ((((View.whole main_v5_0).slice (win0_13.rect t)).emb y) 1).val = (y 1).val := by
    blk_simp [idx t] <;> try omega
  unfold up
  rw [e0, e1]; rfl

/-- The gradient of the input rows. -/
theorem grad_rows : (dats m 0 c).arrAt 13 cfg0.N
    = (up (fun t j => dunit (x t) (fun l => back u q k v ga gb w t l * g 0 l) j + dres t j) : S8192x1024.Idx → EReal) := by
  refine (dats m 0 c).arrAt_eq_of_covers 13 _ (by decide +kernel) fun t _ y => ?_
  blk_simp
  rw [after0_13]
  by_cases h : t.val % 16 = 0
  · rw [outsAt0_A m c t h]; frame_out
    exact tile A t y
  · rw [outsAt0_B m c t h]; frame_out
    exact tile A t y

/-- The gradient of the gain. -/
theorem grad_gain : (dats m 0 c).arrAt 14 cfg0.N
    = (up (fun _ j => ∑ t ∈ Finset.range 8192, back u q k v ga gb w t j * unit (x t) j) : S1x1024.Idx → EReal) := by
  refine (dats m 0 c).arrAt_eq_of_after_last 14 t0_15 (by decide +kernel) _ fun j => ?_
  blk_simp
  obtain ⟨j1, rfl⟩ := one_row j
  rw [after0_14, Pipeline.eq_sum_fin_of_reset_step_apply_last (fun n h => (outsAt0 m c n h).2) 16 (fun _ => 0)
    (fun (t : Fin cfg0.N) (j : S1x1024.Idx) => ((∑ a ∈ Finset.range 512, rows (back u q k v ga gb w) t.val a (j 1).val * unit (rows x t.val a) (j 1).val : ℝ) : EReal))
    (fun t h j => by
      obtain ⟨j1, rfl⟩ := one_row j
      rw [outsAt0_A m c t h]; frame_out
      rw [back_rows A, block_x A, squares_eq, gain_eq, zero_eq]; rfl)
    (fun t h j => by
      obtain ⟨j1, rfl⟩ := one_row j
      rw [outsAt0_B m c t h]; frame_out
      rw [back_rows A, block_x A, squares_eq, gain_eq]; rfl)
    (le_of_eq N_0) t0_15 rfl _, zero_add]
  exact sum_points 512 16 (fun t => back u q k v ga gb w t j1.val * unit (x t) j1.val) _ fun s a => rfl

end Cert.NormMixArrays
-- ==== Proof.NormMixRef.lean ====
/- The reference of the norm's gradient, in plain real formulas. -/
module

public import proofs.«01_k».proof.Proof.NormMixValue
public import proofs.«01_k».proof.Proof.Gen.NormMixRefIdeal.Read

@[expose] public section

noncomputable section

namespace Cert.NormMixRef
open Cert.NormMixRefIdeal Cert.NormMixRefIdeal.Gen Cert.NormMixRefIdeal.Read Cert.AttnReal Cert.NormReal
open Cert.NormMixValue (back beside back_cut)
open Idealize.ShloMosaic Idealize.ShloMosaic.TcCoe

variable (x dres w u q k v ga gb g : ℕ → ℕ → ℝ)

theorem ms_eq : val_main_v13 (F := Ideal) (up x) = up fun t _ => ms (x t) := by
  funext j; idx_vars j; pointwise [val_main_v13, val_main_v12, val_main_cst_1, val_main_v11, val_main_v10, val_main_cst_0, val_main_v9, val_main_v8, val_main_v7, val_main_cst]
  simp only [up_ix2, ← EReal.coe_mul, ← coe_sum, eps_f32, width_f32, div_width, ← EReal.coe_add]
  refine congrArg _ ?_
  unfold ms; rw [Finset.sum_range fun k => x j0.val k * x j0.val k]

theorem inv_eq : val_main_v14 (F := Ideal) (up x) = up fun t _ => inv (x t) := by
  funext j; idx_vars j; pointwise [val_main_v14, ms_eq]
  exact rsqrt_ms _

theorem slope_eq : val_main_v17 (F := Ideal) (up x) = up fun t _ => -1 / 2 * (inv (x t) * (1 / ms (x t))) := by
  funext j; idx_vars j; pointwise [val_main_v17, val_main_v16, val_main_cst_2, val_main_v15, ms_eq, inv_eq]
  simp only [up_ix2, neg_half_f32, div_ms, ← EReal.coe_mul]

theorem unit_eq : val_main_v19 (F := Ideal) (up x) = up fun t => unit (x t) := by
  funext j; idx_vars j; pointwise [val_main_v19, val_main_v18, inv_eq]
  simp only [up_ix2, ← EReal.coe_mul]; rfl

theorem back_eq : val_main_v31 (F := Ideal) (up w) (up u) (up q) (up k) (up v) (up ga) (up gb) = up (back u q k v ga gb w) := by
  funext j; idx_vars j
  pointwise [val_main_v31, val_main_v30, val_main_v0, val_main_v1, val_main_v2, val_main_v3, val_main_v4, val_main_v5]
  simp only [up_ix2, Nat.sub_sub, Nat.reduceAdd]
  unfold back
  rw [Finset.sum_range, coe_sum]
  refine Finset.sum_congr rfl fun c _ => ?_
  rw [EReal.coe_mul]
  refine congrArg (· * _) ?_
  unfold beside
  split_ifs <;> first | rfl | omega

/-- The scaled cotangent. -/
theorem scaled_eq : val_main_v36 (F := Ideal) (up g) (up w) (up u) (up q) (up k) (up v) (up ga) (up gb)
    = up fun t j => back u q k v ga gb w t j * g 0 j := by
  funext j; idx_vars j
  pointwise [val_main_v36, val_main_v35, val_main_v20, val_main_v6, back_eq]
  simp only [up_ix2, ← EReal.coe_mul]; rfl

theorem total_eq : val_main_v40 (F := Ideal) (up x) (up g) (up w) (up u) (up q) (up k) (up v) (up ga) (up gb)
    = up fun t _ => ∑ i ∈ Finset.range 1024, x t i * (back u q k v ga gb w t i * g 0 i) := by
  funext j; idx_vars j
  pointwise [val_main_v40, val_main_v39, val_main_v38, val_main_cst_5, scaled_eq]
  simp only [up_ix2, ← EReal.coe_mul, ← coe_sum]
  rw [Finset.sum_range]

theorem grad_rows : val_main_v52 (F := Ideal) (up x) (up g) (up w) (up u) (up q) (up k) (up v) (up ga) (up gb) (up dres)
    = up fun t j => dunit (x t) (fun l => back u q k v ga gb w t l * g 0 l) j + dres t j := by
  funext j; idx_vars j
  pointwise [val_main_v52, val_main_v51, val_main_v50, val_main_v49, val_main_v48, val_main_v47, val_main_v46, val_main_v45, val_main_cst_6,
    val_main_cst_7, val_main_v44, val_main_v43, val_main_v42, val_main_v41, scaled_eq, total_eq, inv_eq, slope_eq]
  simp only [up_ix2, ← EReal.coe_mul, width_f32, div_width, Finset.univ_unique, Finset.sum_singleton, ← EReal.coe_add]
  refine congrArg _ ?_
  rw [dunit_eq]
  ring

theorem column_eq (i : S1024.Idx) : val_main_v33 (F := Ideal) (up x) (up w) (up u) (up q) (up k) (up v) (up ga) (up gb) i
    = ((∑ t ∈ Finset.range 8192, back u q k v ga gb w t (i 0).val * unit (x t) (i 0).val : ℝ) : EReal) := by
  rw [val_main_v33_apply, Finset.sum_range, coe_sum]
  rw [val_main_cst_3_apply, show (FloatOps.ofBits (F := Ideal) .f32 0x00000000#32 : EReal) = 0 from Ideal.ofBits_zero_f32, zero_add]
  refine Finset.sum_congr rfl fun t _ => ?_
  rw [val_main_v32_apply, unit_eq, back_eq, mul_comm, EReal.coe_mul]
  rfl

theorem grad_gain : val_main_v53 (F := Ideal) (up x) (up w) (up u) (up q) (up k) (up v) (up ga) (up gb)
    = (up fun _ j => ∑ t ∈ Finset.range 8192, back u q k v ga gb w t j * unit (x t) j) := by
  funext j; idx_vars j
  pointwise [val_main_v53, val_main_v37, val_main_cst_4, val_main_v34, column_eq]
  simp only [Finset.univ_unique, Finset.sum_singleton]
  rfl

end Cert.NormMixRef
-- ==== Proof.NormMixClaim.lean ====
module

public import proofs.«01_k».proof.Proof.Finite
public import proofs.«01_k».proof.Proof.NormMixArrays
public import proofs.«01_k».proof.Proof.NormMixRef
public import proofs.«01_k».proof.Proof.Gen.Pre_h1_finite

/-! The claims of the first norm's gradient. -/

@[expose] public section

noncomputable section

namespace Cert.NormMixClaim

open Idealize.ShloMosaic Idealize.ShloMosaic.TcCoe Idealize.SL.Sem Cert.AttnReal Cert.Finite
open Cert.NormMixIdeal

theorem reals (m : (ℓ : Loc nD τ sig) → Buf (Elt Ideal) ℓ) (hpre : Cert.Pre_NormMixIdeal_h1_finite m) (c : Dev nD) :
    ∃ x w u q k v ga gb dres g : ℕ → ℕ → ℝ, Cert.NormMixArrays.Args m c x w u q k v ga gb dres g := by
  obtain ⟨h0, h1, h2, h3, h4, h5, h6, h7, h8, h9⟩ := hpre c
  obtain ⟨x, hx⟩ := real_array _ _ h0 fun i j => by pointwise [Cert.Pre_h1_finite.fn, Cert.Pre_h1_finite.fn_part1]; rfl
  obtain ⟨g, hg⟩ := real_array _ _ h1 fun i j => by pointwise [Cert.Pre_h1_finite.fn, Cert.Pre_h1_finite.fn_part1]; rfl
  obtain ⟨w, hw⟩ := real_array _ _ h2 fun i j => by pointwise [Cert.Pre_h1_finite.fn, Cert.Pre_h1_finite.fn_part1]; rfl
  obtain ⟨u, hu⟩ := real_array _ _ h3 fun i j => by pointwise [Cert.Pre_h1_finite.fn, Cert.Pre_h1_finite.fn_part1]; rfl
  obtain ⟨q, hq⟩ := real_array _ _ h4 fun i j => by pointwise [Cert.Pre_h1_finite.fn, Cert.Pre_h1_finite.fn_part1]; rfl
  obtain ⟨k, hk⟩ := real_array _ _ h5 fun i j => by pointwise [Cert.Pre_h1_finite.fn, Cert.Pre_h1_finite.fn_part1]; rfl
  obtain ⟨v, hv⟩ := real_array _ _ h6 fun i j => by pointwise [Cert.Pre_h1_finite.fn, Cert.Pre_h1_finite.fn_part1]; rfl
  obtain ⟨ga, ha⟩ := real_array _ _ h7 fun i j => by pointwise [Cert.Pre_h1_finite.fn, Cert.Pre_h1_finite.fn_part1]; rfl
  obtain ⟨gb, hb⟩ := real_array _ _ h8 fun i j => by pointwise [Cert.Pre_h1_finite.fn, Cert.Pre_h1_finite.fn_part1]; rfl
  obtain ⟨dres, hd⟩ := real_array _ _ h9 fun i j => by pointwise [Cert.Pre_h1_finite.fn, Cert.Pre_h1_finite.fn_part1]; rfl
  exact ⟨x, w, u, q, k, v, ga, gb, dres, g, ⟨hx, hg, hw, hu, hq, hk, hv, ha, hb, hd⟩⟩

theorem frame_ref : Cert.quiescent_NormMixRefIdeal := fun m g _ =>
  (θ_run Cert.NormMixRefIdeal.defs _ _).mono
    (fun r h => ⟨fun c => (h c).2.2, sem_eq_zero_of_no_sems (by decide) r.2⟩)
    (Cert.NormMixRefIdeal.Value.run m g)

theorem algebraic : Cert.algebraic_NormMixIdeal_NormMixRefIdeal_pre_h1_finite := by
  intro m g m' g' hpre hagree
  choose x w u q k v ga gb dres gain A using reals m hpre
  refine ⟨_, _, (θ_run Cert.NormMixIdeal.defs _ _).mono (fun r h c => ⟨(h c).1.trans (Cert.NormMixArrays.grad_rows (A c)),
    (h c).2.1.trans (Cert.NormMixArrays.grad_gain (A c)), (h c).2.2⟩) (Cert.NormMixIdeal.Value.run_blocks m g), ?_⟩
  refine (θ_run Cert.NormMixRefIdeal.defs _ _).mono (fun r h c => ?_) (Cert.NormMixRefIdeal.Value.run m' g')
  obtain ⟨h0, h1, hrest⟩ := h c
  obtain ⟨a0, a1, a2, a3, a4, a5, a6, a7, a8, a9⟩ := hagree c
  refine ⟨h0.trans ?_, h1.trans ?_, hrest⟩
  · refine (Cert.NormMixRefIdeal.Read.val_main_v52_eq m' c).trans ?_
    rw [a0, a1, a2, a3, a4, a5, a6, a7, a8, a9, (A c).x, (A c).g, (A c).w, (A c).u, (A c).q, (A c).k, (A c).v, (A c).ga, (A c).gb, (A c).dres]
    exact Cert.NormMixRef.grad_rows ..
  · refine Eq.trans (Cert.NormMixRefIdeal.Read.val_main_v53_eq ..) ?_
    rw [a0, a2, a3, a4, a5, a6, a7, a8, (A c).x, (A c).w, (A c).u, (A c).q, (A c).k, (A c).v, (A c).ga, (A c).gb]
    exact Cert.NormMixRef.grad_gain ..

end Cert.NormMixClaim

end
-- ==== Proof.PoolValue.lean ====
/- The windowed pooling map and its gradient: plain real formulas, and the tiles' arithmetic on real tiles. -/
module

public import proofs.«01_k».proof.Proof.NormReal
public import proofs.«01_k».proof.Proof.Gen.PoolIdeal.Frame
public import Idealize.ShloMosaic.Lib.Pipeline.ValueKit
public import Idealize.ShloMosaic.Lib.WordArith

@[expose] public section

noncomputable section

namespace Cert.PoolValue
open Cert.PoolIdeal Cert.PoolIdeal.Gen Cert.AttnReal Cert.NormReal
open Idealize.ShloMosaic Idealize.ShloMosaic.TcCoe

/-! ## The formulas -/

/-- How many rows a mean over the last `n` rows has at row `t`. -/
def count (n t : ℕ) : ℝ := ((min (t + 1) n : ℕ) : ℝ)

/-- The sum over the last `n` rows. -/
def back (n : ℕ) (f : ℕ → ℝ) (t : ℕ) : ℝ := ∑ i ∈ Finset.range n, if i ≤ t then f (t - i) else 0

/-- The sum over the next `n` rows. -/
def ahead (n : ℕ) (f : ℕ → ℝ) (t : ℕ) : ℝ := ∑ i ∈ Finset.range n, if t + i < 8192 then f (t + i) else 0

/-- The mean over the last `n` rows less the row itself. -/
def mean (n : ℕ) (f : ℕ → ℝ) (t : ℕ) : ℝ := back n f t * (1 / count n t) - f t

/-- The derivative of the mean less the row, applied to `f`. -/
def spread (n : ℕ) (f : ℕ → ℝ) (t : ℕ) : ℝ := ahead n (fun s => f s * (1 / count n s)) t - f t

/-- The arguments: the stream `u`, the four groups' weights, the scale, the cotangent `d`. -/
structure Inputs where
  u : ℕ → ℕ → ℝ
  w : ℕ → ℕ → ℕ → ℝ
  s : ℕ → ℝ
  d : ℕ → ℕ → ℝ

variable (I : Inputs)

/-- The number of rows column `j` is averaged over: two in the first group, then twice the group before. -/
def span (j : ℕ) : ℕ := 2 ^ (j / 128 + 1)

def pooled (t j : ℕ) : ℝ := mean (span j) (fun s => I.u s j) t

def mixed (t j : ℕ) : ℝ := ∑ k ∈ Finset.range 128, pooled I t (128 * (j / 128) + k) * I.w (j / 128) k (j % 128)

def ya (t j : ℕ) : ℝ := mixed I t j * I.s j

def dmix (t j : ℕ) : ℝ := I.d t j * I.s j

def dpool (t j : ℕ) : ℝ := ∑ k ∈ Finset.range 128, dmix I t (128 * (j / 128) + k) * I.w (j / 128) (j % 128) k

def du (t j : ℕ) : ℝ := spread (span j) (fun s => dpool I s j) t

def dw (g a b : ℕ) : ℝ := ∑ t ∈ Finset.range 8192, pooled I t (128 * g + a) * dmix I t (128 * g + b)

def ds (j : ℕ) : ℝ := ∑ t ∈ Finset.range 8192, I.d t j * mixed I t j

theorem one_f32 : Ideal.ofBits .f32 0x3F800000#32 = ((1 : ℝ) : EReal) := by
  rw [Ideal.ofBits_one_f32]; rfl

/-! ## Sums by doubling -/

/-- The rows of `f` turned by `s`. -/
def roll (s : ℕ) (f : ℕ → ℕ → ℝ) (r j : ℕ) : ℝ := f ((r + 528 - s) % 528) j

def twice (s : ℕ) (f : ℕ → ℕ → ℝ) (r j : ℕ) : ℝ := f r j + roll s f r j

theorem twice_eq (sw : BitVec 32) (s : ℕ) (hs : sw.toNat = s) (hl : s < 528) (f : ℕ → ℕ → ℝ) (h : S528x128.Rotates 0 none) :
    addf (F := Ideal) (φ := .f32) (up f : S528x128.Idx → EReal) (dynamicRotate 0 sw none (up f : S528x128.Idx → EReal) h) = up (twice s f) := by
  subst hs
  funext j; idx_vars j; pointwise []
  simp only [up_ix2, Nat.mod_eq_of_lt hl, ← EReal.coe_add]; rfl

theorem back_twice (f g : ℕ → ℕ → ℝ) (n j : ℕ) (hn : 0 < n) (hn' : n ≤ 16) (h : ∀ r, n - 1 ≤ r → r < 528 → g r j = ∑ i ∈ Finset.range n, f (r - i) j) :
    ∀ r, 2 * n - 1 ≤ r → r < 528 → twice n g r j = ∑ i ∈ Finset.range (2 * n), f (r - i) j := by
  intro r h1 h2
  unfold twice roll
  rw [show (r + 528 - n) % 528 = r - n by omega, h r (by omega) h2, h (r - n) (by omega) (by omega), two_mul, Finset.sum_range_add]
  exact congrArg _ (Finset.sum_congr rfl fun i _ => by rw [Nat.sub_sub])

theorem ahead_twice (f g : ℕ → ℕ → ℝ) (n j : ℕ) (hn : 0 < n) (hn' : n ≤ 16) (h : ∀ r, r + n ≤ 528 → g r j = ∑ i ∈ Finset.range n, f (r + i) j) :
    ∀ r, r + 2 * n ≤ 528 → twice (528 - n) g r j = ∑ i ∈ Finset.range (2 * n), f (r + i) j := by
  intro r h1
  unfold twice roll
  rw [show (r + 528 - (528 - n)) % 528 = r + n by omega, h r (by omega), h (r + n) (by omega), two_mul, Finset.sum_range_add]
  exact congrArg _ (Finset.sum_congr rfl fun i _ => by rw [Nat.add_assoc])

/-! ## The rows with the ones before them -/

section Fwd

variable (U : ℕ → ℕ → ℝ) (i : grid0.Coords)

/-- Sixteen rows before the tile, zero where there are none, then the tile's. -/
def ext (t c r j : ℕ) : ℝ := if 16 ≤ 512 * t + r then U (512 * t + r - 16) (c + j) else 0

def halo (t k j : ℕ) : ℝ := U (512 * t - 16 + k) j

def edge (t k j : ℕ) : ℝ := if t = 0 then 0 else U (512 * t - 16 + k) j

def tile (t c r j : ℕ) : ℝ := U (512 * t + r) (c + j)

theorem edge_eq : k0_pay3 (F := Ideal) i (up (halo U (i 0).val)) = up (edge U (i 0).val) := by
  funext j; idx_vars j; pointwise [k0_pay3]
  have hl : (i 0).val < 16 := (i 0).isLt
  rw [up_ix2, up_ix2]
  unfold edge
  by_cases h : (i 0).val = 0
  · rw [if_pos h, h]; rfl
  · rw [if_neg h]
    have e : Scalar.cmpi CmpIPredicate.eq (BitVec.ofNat 32 (i 0).val) 0#32 = 0#1 := by word_cmp
    rw [e]; rfl

theorem ext_eq (t c : ℕ) (hs : S16x512.Slices ![0, c] S16x128) (hc : Shape.Concatenates [S16x128, S512x128] S528x128 0) :
    concatenate S528x128 0 [⟨S16x128, extractStridedSlice S16x128 ![0, c] (up (edge U t) : S16x512.Idx → EReal) hs⟩, ⟨S512x128, (up (tile U t c) : S512x128.Idx → EReal)⟩] hc
      = up (ext U t c) := by
  funext j; idx_vars j; pointwise []
  simp only [up_ix2]
  unfold edge ext tile
  split
  · next h =>
    by_cases ht : t = 0
    · rw [if_pos ht, if_neg (by omega)]
    · rw [if_neg ht, if_pos (by omega)]
      rw [show 512 * t - 16 + j0.val = 512 * t + j0.val - 16 by omega]
  · next h =>
    rw [if_pos (by omega), show 512 * t + (j0.val - 16) = 512 * t + j0.val - 16 by omega]

theorem count_word (t r n : ℕ) (ht : t < 16) (hr : r < 528) (hn : n ≤ 16) :
    FloatOps.sitofp (F := Ideal) FTy.f32 (IntOp.minsi (IntOp.addi (IntOp.addi (Scalar.muli (BitVec.ofNat 32 t) 512#32) (BitVec.ofNat 32 r)) 1#32) (BitVec.ofNat 32 n))
      = ((count n (512 * t + r) : ℝ) : EReal) := by
  have e : IntOp.addi (IntOp.addi (Scalar.muli (BitVec.ofNat 32 t) 512#32) (BitVec.ofNat 32 r)) 1#32 = BitVec.ofNat 32 (512 * t + r + 1) := by
    apply BitVec.eq_of_toNat_eq
    show ((BitVec.ofNat 32 t * 512#32 + BitVec.ofNat 32 r) + 1#32).toNat = _
    simp only [BitVec.toNat_add, BitVec.toNat_mul, BitVec.toNat_ofNat]
    omega
  have hm : (IntOp.minsi (BitVec.ofNat 32 (512 * t + r + 1)) (BitVec.ofNat 32 n)).toNat = min (512 * t + r + 1) n := by
    rw [WordArith.toNat_minsi_of_lt _ _ (by rw [BitVec.toNat_ofNat]; omega) (by rw [BitVec.toNat_ofNat]; omega), BitVec.toNat_ofNat, BitVec.toNat_ofNat]
    omega
  rw [e]
  show (((IntOp.minsi (BitVec.ofNat 32 (512 * t + r + 1)) (BitVec.ofNat 32 n)).toInt : ℝ) : EReal) = _
  rw [BitVec.toInt_eq_toNat_cond, hm, if_pos (by omega)]
  unfold count
  norm_cast

theorem count_eq (n : ℕ) (hn : n ≤ 16) :
    (sitofp .f32 (minsi (addi (k0_pay4 i) (broadcast S512x1 1#32)) (broadcast S512x1 (BitVec.ofNat 32 n))) : FVec Ideal S512x1 .f32)
      = up fun r _ => count n (512 * (i 0).val + r) := by
  funext j; idx_vars j; pointwise [k0_pay4]
  exact count_word _ _ _ (i 0).isLt (by omega) hn

theorem count_pos (n t : ℕ) (hn : 0 < n) : 0 < count n t := by
  unfold count; exact_mod_cast (by omega : 0 < min (t + 1) n)

/-- The end of each group: the sum's rows, the mean less the row. -/
theorem mean_eq (t c n : ℕ) (hn : 0 < n) (hn' : n ≤ 16) (g : ℕ → ℕ → ℝ) (cnt : FVec Ideal S512x1 .f32) (hcnt : cnt = up fun r _ => count n (512 * t + r))
    (hg : ∀ j r, n - 1 ≤ r → r < 528 → g r j = ∑ i ∈ Finset.range n, ext U t c (r - i) j) (hs : S528x128.Slices ![16, 0] S512x128) :
    subf (F := Ideal) (φ := .f32) (mulf (extractStridedSlice S512x128 ![16, 0] (up g : S528x128.Idx → EReal) hs)
      (broadcastTo S512x128 (divf (broadcast S512x1 (Scalar.ofBits .f32 0x3F800000#32)) cnt) broadcasts_S512x1_S512x128)) (up (tile U t c))
      = up fun r j => mean n (fun s => U s (c + j)) (512 * t + r) := by
  subst hcnt
  funext j; idx_vars j; pointwise []
  simp only [up_ix2]
  rw [← EReal.coe_one, Ideal.div_coe (count_pos n _ hn).ne', ← EReal.coe_mul, ← EReal.coe_mul, ← EReal.coe_sub]
  refine congrArg _ ?_
  unfold mean back tile
  rw [hg _ _ (by omega) (by omega), one_mul, one_div]
  refine congrArg (fun z => z * _ - _) (Finset.sum_congr rfl fun k hk => ?_)
  have := Finset.mem_range.1 hk
  unfold ext
  by_cases h : k ≤ 512 * t + j0.val
  · rw [if_pos (by omega), if_pos h, show 512 * t + (16 + j0.val - k) - 16 = 512 * t + j0.val - k by omega]
  · rw [if_neg (by omega), if_neg h]

theorem sum_one (t c : ℕ) (j r : ℕ) : ext U t c r j = ∑ i ∈ Finset.range 1, ext U t c (r - i) j := by simp

theorem sum_two (t c : ℕ) (j : ℕ) : ∀ r, 2 - 1 ≤ r → r < 528 → twice 1 (ext U t c) r j = ∑ i ∈ Finset.range 2, ext U t c (r - i) j :=
  back_twice _ _ 1 j (by omega) (by omega) fun r _ _ => sum_one U t c j r

theorem sum_four (t c : ℕ) (j : ℕ) : ∀ r, 4 - 1 ≤ r → r < 528 → twice 2 (twice 1 (ext U t c)) r j = ∑ i ∈ Finset.range 4, ext U t c (r - i) j :=
  back_twice _ _ 2 j (by omega) (by omega) (sum_two U t c j)

theorem sum_eight (t c : ℕ) (j : ℕ) : ∀ r, 8 - 1 ≤ r → r < 528 → twice 4 (twice 2 (twice 1 (ext U t c))) r j = ∑ i ∈ Finset.range 8, ext U t c (r - i) j :=
  back_twice _ _ 4 j (by omega) (by omega) (sum_four U t c j)

theorem sum_sixteen (t c : ℕ) (j : ℕ) : ∀ r, 16 - 1 ≤ r → r < 528 →
    twice 8 (twice 4 (twice 2 (twice 1 (ext U t c)))) r j = ∑ i ∈ Finset.range 16, ext U t c (r - i) j :=
  back_twice _ _ 8 j (by omega) (by omega) (sum_eight U t c j)

/-- The means less the rows, of the tile's columns from `c` on, over `n` rows. -/
def meanTile (n t c r j : ℕ) : ℝ := mean n (fun s => U s (c + j)) (512 * t + r)

theorem mean0 : k0_pay5 (F := Ideal) i (up (halo U (i 0).val)) (up (tile U (i 0).val 0)) = up (meanTile U 2 (i 0).val 0) := by
  unfold k0_pay5
  dsimp only
  rw [edge_eq, ext_eq, twice_eq 1#32 1 rfl (by omega)]
  exact mean_eq U _ 0 2 (by omega) (by omega) _ _ (count_eq i 2 (by omega)) (fun j => sum_two U _ 0 j) _

theorem mean1 : k0_pay7 (F := Ideal) (up (edge U (i 0).val)) (k0_pay4 i) (up (tile U (i 0).val 128)) = up (meanTile U 4 (i 0).val 128) := by
  unfold k0_pay7
  dsimp only
  rw [ext_eq, twice_eq 1#32 1 rfl (by omega), twice_eq 2#32 2 rfl (by omega)]
  exact mean_eq U _ 128 4 (by omega) (by omega) _ _ (count_eq i 4 (by omega)) (fun j => sum_four U _ 128 j) _

theorem mean2 : k0_pay10 (F := Ideal) (k0_pay4 i) (up (tile U (i 0).val 256)) (k0_pay9 (up (edge U (i 0).val)) (up (tile U (i 0).val 256)))
    = up (meanTile U 8 (i 0).val 256) := by
  unfold k0_pay10 k0_pay9
  dsimp only
  rw [ext_eq, twice_eq 1#32 1 rfl (by omega), twice_eq 2#32 2 rfl (by omega), twice_eq 4#32 4 rfl (by omega)]
  exact mean_eq U _ 256 8 (by omega) (by omega) _ _ (count_eq i 8 (by omega)) (fun j => sum_eight U _ 256 j) _

theorem mean3 : k0_pay1 (F := Ideal) (up (tile U (i 0).val 384)) (k0_pay12 (up (edge U (i 0).val)) (up (tile U (i 0).val 384))) (k0_pay13 (k0_pay4 i))
    = up (meanTile U 16 (i 0).val 384) := by
  unfold k0_pay1 k0_pay12 k0_pay13
  dsimp only
  rw [ext_eq, twice_eq 1#32 1 rfl (by omega), twice_eq 2#32 2 rfl (by omega), twice_eq 4#32 4 rfl (by omega), twice_eq 8#32 8 rfl (by omega)]
  exact mean_eq U _ 384 16 (by omega) (by omega) _ _ (count_eq i 16 (by omega)) (fun j => sum_sixteen U _ 384 j) _

/-- One group's weights as the tile reads them. -/
def slab (W : ℕ → ℕ → ℕ → ℝ) (g : ℕ) : S1x128x128.Idx → EReal := fun j => ((W g (j 1).val (j 2).val : ℝ) : EReal)

theorem slab_ix3 (W : ℕ → ℕ → ℕ → ℝ) (g : ℕ) (i : Fin 1) (j k : Fin 128) : slab W g (ix3 i j k) = ((W g j.val k.val : ℝ) : EReal) := rfl

/-- The product of a tile with the group's weights. -/
def mixTile (W : ℕ → ℕ → ℕ → ℝ) (P : ℕ → ℕ → ℝ) (g r j : ℕ) : ℝ := ∑ k ∈ Finset.range 128, P r k * W g k j

theorem mix_eq (W : ℕ → ℕ → ℕ → ℝ) (P : ℕ → ℕ → ℝ) (g : ℕ) :
    matmul (F := Ideal) (φ₁ := .bf16) (φ₂ := .bf16) dot_S512x128_S128x128_S512x128_1_0_0_1_n_n none (up P : FVec Ideal S512x128 .bf16)
      (shapeCast S128x128 (slab W g : FVec Ideal S1x128x128 .bf16) shapeCasts_S1x128x128_S128x128) (constant S512x128 .f32 0x00000000#32) = up (mixTile W P g) := by
  funext j; idx_vars j; pointwise []
  simp only [up_ix2, slab_ix3, ← EReal.coe_mul, ← coe_sum]
  refine congrArg _ ?_
  unfold mixTile; rw [Finset.sum_range]

/-- The second result's tile. -/
def yaTile (W : ℕ → ℕ → ℕ → ℝ) (S : ℕ → ℝ) (n t g r j : ℕ) : ℝ := mixTile W (meanTile U n t (128 * g)) g r j * S (128 * g + j)

theorem scaled_eq (W : ℕ → ℕ → ℕ → ℝ) (S : ℕ → ℝ) (n t g c : ℕ) (hc : c = 128 * g) :
    mulf (F := Ideal) (φ := .f32) (up (mixTile W (meanTile U n t c) g) : S512x128.Idx → EReal) (broadcastTo S512x128 (up fun _ j => S (c + j) : S1x128.Idx → EReal) broadcasts_S1x128_S512x128)
      = up (yaTile U W S n t g) := by
  subst hc
  funext j; idx_vars j; pointwise []
  simp only [up_ix2, ← EReal.coe_mul]; rfl

theorem ya0 (W : ℕ → ℕ → ℕ → ℝ) (S : ℕ → ℝ) :
    k0_pay6 (F := Ideal) i (up (halo U (i 0).val)) (up (tile U (i 0).val 0)) (slab W 0) (up fun _ j => S (0 + j)) = up (yaTile U W S 2 (i 0).val 0) := by
  unfold k0_pay6; dsimp only; rw [mean0, mix_eq, scaled_eq U W S _ _ 0 0 rfl]; rfl

theorem ya1 (W : ℕ → ℕ → ℕ → ℝ) (S : ℕ → ℝ) :
    k0_pay8 (F := Ideal) (up (edge U (i 0).val)) (k0_pay4 i) (up (tile U (i 0).val 128)) (slab W 1) (up fun _ j => S (128 + j)) = up (yaTile U W S 4 (i 0).val 1) := by
  unfold k0_pay8; dsimp only; rw [mean1, mix_eq, scaled_eq U W S _ _ 1 128 rfl]; rfl

theorem ya2 (W : ℕ → ℕ → ℕ → ℝ) (S : ℕ → ℝ) :
    k0_pay11 (F := Ideal) (k0_pay4 i) (up (tile U (i 0).val 256)) (k0_pay9 (up (edge U (i 0).val)) (up (tile U (i 0).val 256))) (slab W 2) (up fun _ j => S (256 + j))
      = up (yaTile U W S 8 (i 0).val 2) := by
  unfold k0_pay11; dsimp only; rw [mean2, mix_eq, scaled_eq U W S _ _ 2 256 rfl]; rfl

theorem ya3 (W : ℕ → ℕ → ℕ → ℝ) (S : ℕ → ℝ) :
    k0_pay2 (F := Ideal) (up (tile U (i 0).val 384)) (k0_pay12 (up (edge U (i 0).val)) (up (tile U (i 0).val 384))) (k0_pay13 (k0_pay4 i)) (slab W 3) (up fun _ j => S (384 + j))
      = up (yaTile U W S 16 (i 0).val 3) := by
  unfold k0_pay2; dsimp only; rw [mean3, mix_eq, scaled_eq U W S _ _ 3 384 rfl]; rfl

end Fwd

/-! ## The rows with the ones after them -/

section Bwd

variable (U : ℕ → ℕ → ℝ) (i : grid1.Coords)

/-- The sixteen rows after the tile; past the last tile, the last sixteen. -/
def tail (t k j : ℕ) : ℝ := U (16 * min (32 * (t + 1)) 511 + k) j

def later (t k j : ℕ) : ℝ := if t = 15 then 0 else U (512 * (t + 1) + k) j

/-- The tile's rows and sixteen more, zero past the end. -/
def near (t r j : ℕ) : ℝ := if 512 * t + r < 8192 then U (512 * t + r) j else 0

theorem later_eq : k1_pay3 (F := Ideal) i (up (tail U (i 0).val)) = up (later U (i 0).val) := by
  funext j; idx_vars j; pointwise [k1_pay3]
  have hl : (i 0).val < 16 := (i 0).isLt
  rw [up_ix2, up_ix2]
  unfold later
  by_cases h : (i 0).val = 15
  · rw [if_pos h, h]; rfl
  · rw [if_neg h]
    have e : Scalar.cmpi CmpIPredicate.eq (BitVec.ofNat 32 (i 0).val) 15#32 = 0#1 := by word_cmp
    rw [e]
    unfold tail
    rw [show 16 * min (32 * ((i 0).val + 1)) 511 + j0.val = 512 * ((i 0).val + 1) + j0.val by omega]
    rfl

theorem near_eq (S : ℕ → ℝ) (t c : ℕ) (ht : t < 16) (hs : S16x512.Slices ![0, c] S16x128) :
    mulf (F := Ideal) (φ := .f32) (concatenate S528x128 0 [⟨S512x128, (up (tile U t c) : S512x128.Idx → EReal)⟩,
        ⟨S16x128, extractStridedSlice S16x128 ![0, c] (up (later U t) : S16x512.Idx → EReal) hs⟩] concatenates_S512x128_S16x128_S528x128_d0)
      (broadcastTo S528x128 (up fun _ j => S (c + j) : S1x128.Idx → EReal) broadcasts_S1x128_S528x128) = up (near (fun s j => U s (c + j) * S (c + j)) t) := by
  funext j; idx_vars j; pointwise []
  simp only [up_ix2]
  unfold near tile later
  split
  · next h => rw [if_pos (by omega), ← EReal.coe_mul]
  · next h =>
    by_cases h15 : t = 15
    · rw [if_pos h15, if_neg (by omega), ← EReal.coe_mul, zero_mul]
    · rw [if_neg h15, if_pos (by omega), ← EReal.coe_mul, show 512 * (t + 1) + (j0.val - 512) = 512 * t + j0.val by omega]

/-- The product with a group's weights, turned over. -/
def turned (W : ℕ → ℕ → ℝ) (E : ℕ → ℕ → ℝ) (s j : ℕ) : ℝ := ∑ k ∈ Finset.range 128, E s k * W j k

theorem turned_eq (W : ℕ → ℕ → ℕ → ℝ) (E : ℕ → ℕ → ℝ) (g t : ℕ) :
    matmul (F := Ideal) (φ₁ := .bf16) (φ₂ := .bf16) dot_S528x128_S128x128_S528x128_1_1_0_0_n_n none (up (near E t) : FVec Ideal S528x128 .bf16)
      (shapeCast S128x128 (slab W g : FVec Ideal S1x128x128 .bf16) shapeCasts_S1x128x128_S128x128) (constant S528x128 .f32 0x00000000#32) = up (near (turned (W g) E) t) := by
  funext j; idx_vars j; pointwise []
  simp only [up_ix2, slab_ix3, ← EReal.coe_mul, ← coe_sum]
  refine congrArg _ ?_
  unfold near turned
  rw [Finset.sum_range]
  split
  · rfl
  · simp

theorem share_eq (P : ℕ → ℕ → ℝ) (n : ℕ) (hn : 0 < n) (hn' : n ≤ 16) :
    mulf (F := Ideal) (φ := .f32) (up (near P (i 0).val) : S528x128.Idx → EReal) (broadcastTo S528x128 (divf (broadcast S528x1 (Scalar.ofBits .f32 0x3F800000#32))
      (sitofp .f32 (minsi (addi (k1_pay4 i) (broadcast S528x1 1#32)) (broadcast S528x1 (BitVec.ofNat 32 n))) : FVec Ideal S528x1 .f32)) broadcasts_S528x1_S528x128)
      = up (near (fun s j => P s j * (1 / count n s)) (i 0).val) := by
  funext j; idx_vars j; pointwise [k1_pay4]
  rw [count_word _ _ _ (i 0).isLt (by omega) hn', ← EReal.coe_one, Ideal.div_coe (count_pos n _ hn).ne', up_ix2, up_ix2, ← EReal.coe_mul, ← EReal.coe_mul, one_mul]
  refine congrArg _ ?_
  unfold near
  split
  · rfl
  · rw [zero_mul]

theorem spread_eq (P : ℕ → ℕ → ℝ) (t n : ℕ) (ht : t < 16) (hn : 0 < n) (hn' : n ≤ 16) (g : ℕ → ℕ → ℝ)
    (hg : ∀ j r, r + n ≤ 528 → g r j = ∑ i ∈ Finset.range n, near (fun s j => P s j * (1 / count n s)) t (r + i) j) :
    subf (F := Ideal) (φ := .f32) (extractStridedSlice S512x128 ![0, 0] (up g : S528x128.Idx → EReal) slices_S528x128_o0_0_S512x128)
      (extractStridedSlice S512x128 ![0, 0] (up (near P t) : S528x128.Idx → EReal) slices_S528x128_o0_0_S512x128)
      = up fun r j => spread n (fun s => P s j) (512 * t + r) := by
  funext j; idx_vars j; pointwise []
  simp only [up_ix2]
  rw [← EReal.coe_sub]
  refine congrArg _ ?_
  unfold spread ahead
  rw [hg _ _ (by omega)]
  unfold near
  rw [if_pos (by omega)]
  refine congrArg (fun z => z - _) (Finset.sum_congr rfl fun k hk => ?_)
  rw [Nat.add_assoc]

theorem next_one (Q : ℕ → ℕ → ℝ) (j r : ℕ) : Q r j = ∑ i ∈ Finset.range 1, Q (r + i) j := by simp

theorem next_two (Q : ℕ → ℕ → ℝ) (j : ℕ) : ∀ r, r + 2 ≤ 528 → twice 527 Q r j = ∑ i ∈ Finset.range 2, Q (r + i) j :=
  ahead_twice _ _ 1 j (by omega) (by omega) fun r _ => next_one Q j r

theorem next_four (Q : ℕ → ℕ → ℝ) (j : ℕ) : ∀ r, r + 4 ≤ 528 → twice 526 (twice 527 Q) r j = ∑ i ∈ Finset.range 4, Q (r + i) j :=
  ahead_twice _ _ 2 j (by omega) (by omega) (next_two Q j)

theorem next_eight (Q : ℕ → ℕ → ℝ) (j : ℕ) : ∀ r, r + 8 ≤ 528 → twice 524 (twice 526 (twice 527 Q)) r j = ∑ i ∈ Finset.range 8, Q (r + i) j :=
  ahead_twice _ _ 4 j (by omega) (by omega) (next_four Q j)

theorem next_sixteen (Q : ℕ → ℕ → ℝ) (j : ℕ) : ∀ r, r + 16 ≤ 528 → twice 520 (twice 524 (twice 526 (twice 527 Q))) r j = ∑ i ∈ Finset.range 16, Q (r + i) j :=
  ahead_twice _ _ 8 j (by omega) (by omega) (next_eight Q j)

/-- The scaled cotangent's columns from `c` on. -/
def scaled (S : ℕ → ℝ) (c s j : ℕ) : ℝ := U s (c + j) * S (c + j)

/-- The third result's tile, for `n` rows and group `g`. -/
def duTile (W : ℕ → ℕ → ℕ → ℝ) (S : ℕ → ℝ) (n t g r j : ℕ) : ℝ := spread n (fun s => turned (W g) (scaled U S (128 * g)) s j) (512 * t + r)

variable (W : ℕ → ℕ → ℕ → ℝ) (S : ℕ → ℝ)

theorem scaled0 : k1_pay7 (F := Ideal) i (up (tail U (i 0).val)) (up fun _ j => S (0 + j)) (up (tile U (i 0).val 0)) = up (near (scaled U S 0) (i 0).val) := by
  unfold k1_pay7; dsimp only; rw [later_eq, near_eq U S _ 0 (i 0).isLt]; rfl

theorem scaled1 : k1_pay14 (F := Ideal) (up (later U (i 0).val)) (up fun _ j => S (128 + j)) (up (tile U (i 0).val 128)) = up (near (scaled U S 128) (i 0).val) := by
  unfold k1_pay14; dsimp only; rw [near_eq U S _ 128 (i 0).isLt]; rfl

theorem scaled2 : k1_pay20 (F := Ideal) (up (later U (i 0).val)) (up fun _ j => S (256 + j)) (up (tile U (i 0).val 256)) = up (near (scaled U S 256) (i 0).val) := by
  unfold k1_pay20; dsimp only; rw [near_eq U S _ 256 (i 0).isLt]; rfl

theorem scaled3 : k1_pay25 (F := Ideal) (up (later U (i 0).val)) (up fun _ j => S (384 + j)) (up (tile U (i 0).val 384)) = up (near (scaled U S 384) (i 0).val) := by
  unfold k1_pay25; dsimp only; rw [near_eq U S _ 384 (i 0).isLt]; rfl

theorem du0 : k1_pay10 (F := Ideal) (k1_pay4 i) (up (near (scaled U S 0) (i 0).val)) (slab W 0) = up (duTile U W S 2 (i 0).val 0) := by
  unfold k1_pay10; dsimp only
  rw [turned_eq W _ 0, share_eq i _ 2 (by omega) (by omega), twice_eq 527#32 527 rfl (by omega), spread_eq _ _ 2 (i 0).isLt (by omega) (by omega) _ (fun j => next_two _ j)]
  rfl

theorem du1 : k1_pay17 (F := Ideal) (k1_pay16 (up (later U (i 0).val)) (k1_pay4 i) (up fun _ j => S (128 + j)) (up (tile U (i 0).val 128)) (slab W 1)) = up (duTile U W S 4 (i 0).val 1) := by
  unfold k1_pay17 k1_pay16; dsimp only
  rw [scaled1, turned_eq W _ 1, share_eq i _ 4 (by omega) (by omega), twice_eq 527#32 527 rfl (by omega), twice_eq 526#32 526 rfl (by omega),
    spread_eq _ _ 4 (i 0).isLt (by omega) (by omega) _ (fun j => next_four _ j)]
  rfl

theorem du2 : k1_pay22 (F := Ideal) (k1_pay4 i) (up (near (scaled U S 256) (i 0).val)) (slab W 2) = up (duTile U W S 8 (i 0).val 2) := by
  unfold k1_pay22; dsimp only
  rw [turned_eq W _ 2, share_eq i _ 8 (by omega) (by omega), twice_eq 527#32 527 rfl (by omega), twice_eq 526#32 526 rfl (by omega), twice_eq 524#32 524 rfl (by omega),
    spread_eq _ _ 8 (i 0).isLt (by omega) (by omega) _ (fun j => next_eight _ j)]
  rfl

theorem du3 : k1_pay27 (F := Ideal) (up (later U (i 0).val)) (k1_pay4 i) (up fun _ j => S (384 + j)) (up (tile U (i 0).val 384)) (slab W 3) = up (duTile U W S 16 (i 0).val 3) := by
  unfold k1_pay27; dsimp only
  rw [scaled3, turned_eq W _ 3, share_eq i _ 16 (by omega) (by omega), twice_eq 527#32 527 rfl (by omega), twice_eq 526#32 526 rfl (by omega), twice_eq 524#32 524 rfl (by omega),
    twice_eq 520#32 520 rfl (by omega), spread_eq _ _ 16 (i 0).isLt (by omega) (by omega) _ (fun j => next_sixteen _ j)]
  rfl

/-! ## The sums over the rows -/

/-- A matrix in a block of one group. -/
def one (A : ℕ → ℕ → ℝ) : S1x128x128.Idx → EReal := fun j => ((A (j 1).val (j 2).val : ℝ) : EReal)

theorem one_ix3 (A : ℕ → ℕ → ℝ) (i : Fin 1) (j k : Fin 128) : one A (ix3 i j k) = ((A j.val k.val : ℝ) : EReal) := rfl

/-- A matrix with a tile's products added. -/
def grow (A P E : ℕ → ℕ → ℝ) (a b : ℕ) : ℝ := A a b + ∑ r ∈ Finset.range 512, P r a * E r b

theorem grow_eq (A P E : ℕ → ℕ → ℝ) :
    (shapeCast S1x128x128 (addf (F := Ideal) (φ := .f32) (shapeCast S128x128 (one A) shapeCasts_S1x128x128_S128x128)
      (matmul (F := Ideal) (φ₁ := .bf16) (φ₂ := .bf16) dot_S512x128_S512x128_S128x128_0_0_1_1_n_n none (up P : FVec Ideal S512x128 .bf16)
        (extractStridedSlice S512x128 ![0, 0] (up E : FVec Ideal S528x128 .bf16) slices_S528x128_o0_0_S512x128) (constant S128x128 .f32 0x00000000#32)))
      shapeCasts_S128x128_S1x128x128 : S1x128x128.Idx → EReal) = one (grow A P E) := by
  funext j; idx_vars j; pointwise []
  simp only [up_ix2, one_ix3, ← EReal.coe_mul, ← coe_sum, ← EReal.coe_add]
  refine congrArg _ ?_
  unfold grow; rw [Finset.sum_range]

theorem same_eq (P : ℕ → ℕ → ℝ) : (shapeCast S512x128 (up P : S512x128.Idx → EReal) shapeCasts_S512x128_S512x128) = up P := by
  funext j; idx_vars j; pointwise []

/-- A row with a tile's column sums added. -/
def gather (A : ℕ → ℝ) (D P : ℕ → ℕ → ℝ) (j : ℕ) : ℝ := A j + ∑ r ∈ Finset.range 512, D r j * P r j

theorem gather_eq (A : ℕ → ℝ) (D P : ℕ → ℕ → ℝ) :
    addf (F := Ideal) (φ := .f32) (shapeCast S1x128 (up fun _ => A : S1x128.Idx → EReal) shapeCasts_S1x128_S1x128) (shapeCast S1x128 (multiReduction (F := Ideal) (φ := .f32) .add [0] S128
      (mulf (F := Ideal) (φ := .f32) (up D : S512x128.Idx → EReal) (up P)) 0x00000000#32 reduces_S512x128_S128 (.inl rfl) rfl) shapeCasts_S128_S1x128)
      = up fun _ => gather A D P := by
  funext j; idx_vars j; pointwise []
  simp only [up_ix2, ← EReal.coe_mul, ← coe_sum, ← EReal.coe_add]
  refine congrArg _ ?_
  unfold gather; rw [Finset.sum_range]

variable (P D : ℕ → ℕ → ℝ) (A : ℕ → ℝ) (M E : ℕ → ℕ → ℝ)

theorem ds0 : k1_pay6 (F := Ideal) (up D) (up P) (slab W 0) (up fun _ => A) = up fun _ => gather A D (mixTile W P 0) := by
  unfold k1_pay6 k1_pay5; dsimp only; rw [same_eq, mix_eq, gather_eq]

theorem ds1 : k1_pay13 (F := Ideal) (up D) (k1_pay12 (up P) (slab W 1)) (up fun _ => A) = up fun _ => gather A D (mixTile W P 1) := by
  unfold k1_pay13 k1_pay12 k1_pay11; dsimp only; rw [same_eq, mix_eq, gather_eq]

theorem ds2 : k1_pay19 (F := Ideal) (up D) (up P) (slab W 2) (up fun _ => A) = up fun _ => gather A D (mixTile W P 2) := by
  unfold k1_pay19 k1_pay18; dsimp only; rw [same_eq, mix_eq, gather_eq]

theorem ds3 : k1_pay24 (F := Ideal) (up D) (up P) (slab W 3) (up fun _ => A) = up fun _ => gather A D (mixTile W P 3) := by
  unfold k1_pay24 k1_pay23; dsimp only; rw [same_eq, mix_eq, gather_eq]

theorem dw0 : k1_pay9 (F := Ideal) (k1_pay5 (up P)) (up E) (k1_pay8 (one M)) = one (grow M P E) := by
  unfold k1_pay9 k1_pay8 k1_pay5; dsimp only; rw [same_eq]; exact grow_eq M P E

theorem dw1 : k1_pay15 (F := Ideal) (up (later U (i 0).val)) (up fun _ j => S (128 + j)) (up (tile U (i 0).val 128)) (k1_pay11 (up P)) (one M)
    = one (grow M P (near (scaled U S 128) (i 0).val)) := by
  unfold k1_pay15 k1_pay11; dsimp only; rw [same_eq, scaled1]; exact grow_eq M P _

theorem dw2 : k1_pay21 (F := Ideal) (up (later U (i 0).val)) (up fun _ j => S (256 + j)) (up (tile U (i 0).val 256)) (up P) (one M)
    = one (grow M P (near (scaled U S 256) (i 0).val)) := by
  unfold k1_pay21 k1_pay18; dsimp only; rw [same_eq, scaled2]; exact grow_eq M P _

theorem dw3 : k1_pay26 (F := Ideal) (up (later U (i 0).val)) (up fun _ j => S (384 + j)) (up (tile U (i 0).val 384)) (k1_pay23 (up P)) (one M)
    = one (grow M P (near (scaled U S 384) (i 0).val)) := by
  unfold k1_pay26 k1_pay23; dsimp only; rw [same_eq, scaled3]; exact grow_eq M P _

end Bwd

end Cert.PoolValue
-- ==== Proof.PoolArrays.lean ====
/- The arrays the two calls of the windowed pooling leave, in plain real formulas. -/
module

public import proofs.«01_k».proof.Proof.PoolValue

@[expose] public section

noncomputable section

namespace Cert.PoolArrays
open Cert.PoolIdeal Cert.PoolIdeal.Gen Cert.AttnReal Cert.NormReal Cert.PoolValue
open Idealize.ShloMosaic Idealize.ShloMosaic.TcCoe

variable {V : (c : Dev nD) → (b : Ref sig .tc) → Buf (Elt Ideal) ((c : Thread nD τ).loc b)} {c : Dev nD} {I : Inputs}

/-- The four groups' weights. -/
def cube (W : ℕ → ℕ → ℕ → ℝ) : S4x128x128.Idx → EReal := fun j => ((W (j 0).val (j 1).val (j 2).val : ℝ) : EReal)

theorem cube_ix3 (W : ℕ → ℕ → ℕ → ℝ) (i : Fin 4) (j k : Fin 128) : cube W (ix3 i j k) = ((W i.val j.val k.val : ℝ) : EReal) := rfl

/-! ## Parts of blocks -/

theorem part_tile (U : ℕ → ℕ → ℝ) (t o : ℕ) (inb : ∀ a, (![0, o] : Fin 2 → ℕ) a + S512x128.size a ≤ S512x512.size a) :
    View.ld (Val := Elt Ideal) (e' := .f32) (up (tile U t 0) : S512x512.Idx → EReal) (Rect.unit (s := S512x512) ![0, o] S512x128.size inb) = (up (tile U t o) : S512x128.Idx → EReal) := by
  funext j; idx_vars j; pointwise []
  rw [up_ix2, up_ix2]; unfold tile; rw [Nat.zero_add]

theorem part_row (S : ℕ → ℝ) (o : ℕ) (inb : ∀ a, (![0, o] : Fin 2 → ℕ) a + S1x128.size a ≤ S1x512.size a) :
    View.ld (Val := Elt Ideal) (e' := .f32) (up (fun _ => S) : S1x512.Idx → EReal) (Rect.unit (s := S1x512) ![0, o] S1x128.size inb) = (up (fun _ j => S (o + j)) : S1x128.Idx → EReal) := by
  funext j; idx_vars j; pointwise []
  rfl

theorem part_slab (W : ℕ → ℕ → ℕ → ℝ) (g : ℕ) (inb : ∀ a, (![g, 0, 0] : Fin 3 → ℕ) a + S1x128x128.size a ≤ S4x128x128.size a) :
    View.ld (Val := Elt Ideal) (e' := .bf16) (cube W) (Rect.unit (s := S4x128x128) ![g, 0, 0] S1x128x128.size inb) = slab W g := by
  funext j; idx_vars j; pointwise []
  rfl

theorem part_halo (f : ℕ → ℕ → ℝ) :
    View.ld (Val := Elt Ideal) (e' := .f32) (up f : S16x512.Idx → EReal) (Rect.unit (s := S16x512) ![0, 0] S16x512.size inb_S16x512_S16x512_0_0) = (up f : S16x512.Idx → EReal) := by
  funext j; idx_vars j; pointwise []

theorem piece (f g : ℕ → ℕ → ℝ) (o : ℕ) (inb : ∀ a, (![0, o] : Fin 2 → ℕ) a + S512x128.size a ≤ S512x512.size a) (h : ∀ r j, j < 128 → f r j = g r (o + j))
    (x : S512x128.Idx) : (up f : S512x128.Idx → EReal) x = (up g : S512x512.Idx → EReal) ((Rect.unit (s := S512x512) ![0, o] S512x128.size inb).emb x) := by
  have e0 : (((Rect.unit (s := S512x512) ![0, o] S512x128.size inb).emb x) 0).val = (x 0).val := by blk_simp
  have e1 : (((Rect.unit (s := S512x512) ![0, o] S512x128.size inb).emb x) 1).val = o + (x 1).val := by blk_simp
  unfold up
  rw [e0, e1, h _ _ (x 1).isLt]

theorem span_eq (g j : ℕ) (hj : j < 128) : span (128 * g + j) = 2 ^ (g + 1) := by
  unfold span; rw [show (128 * g + j) / 128 = g by omega]

theorem mean_part (t g n o r j : ℕ) (ho : o = 128 * g) (hn : n = 2 ^ (g + 1)) (hj : j < 128) : meanTile I.u n t o r j = pooled I (512 * t + r) (o + j) := by
  subst ho hn
  unfold meanTile pooled; rw [span_eq g j hj]

theorem ya_part (t g n o r j : ℕ) (ho : o = 128 * g) (hn : n = 2 ^ (g + 1)) (hj : j < 128) : yaTile I.u I.w I.s n t g r j = ya I (512 * t + r) (o + j) := by
  subst ho hn
  unfold yaTile ya mixTile mixed
  rw [show (128 * g + j) / 128 = g by omega, show (128 * g + j) % 128 = j by omega]
  refine congrArg (fun z => z * _) (Finset.sum_congr rfl fun k hk => ?_)
  rw [mean_part t g _ _ r k rfl rfl (Finset.mem_range.1 hk)]

/-! ## The forward call -/

theorem idx0 : ∀ t : Fin cfg0.N, win0_0.index t = ![t.val, 0] ∧ win0_1.index t = ![32 * t.val - 1, 0] ∧ win0_2.index t = ![0, 0, 0]
    ∧ win0_3.index t = ![0, 0] ∧ win0_4.index t = ![t.val, 0] ∧ win0_5.index t = ![t.val, 0] :=
  (by decide +kernel : ∀ t : Fin grid0.N, _)

theorem row_lt0 (t : Fin cfg0.N) (j : Fin 512) : 512 * t.val + j.val < 8192 := by
  have := lt_of_lt_of_eq t.isLt N_0; omega

theorem halo_lt0 (t : Fin cfg0.N) (j : Fin 16) : 16 * (32 * t.val - 1) + j.val < 8192 := by
  have := lt_of_lt_of_eq t.isLt N_0; omega

theorem point0 (t : Fin cfg0.N) : (grid0.coords t 0).val = t.val := by
  have := lt_of_lt_of_eq t.isLt N_0
  have e : (grid0.coords t 0).val = t.val / 1 % 16 := Pipeline.Grid.coords_val t 0 (by decide) rfl
  omega

/-- What the forward call finds. -/
structure Entry0 (V : (c : Dev nD) → (b : Ref sig .tc) → Buf (Elt Ideal) ((c : Thread nD τ).loc b)) (c : Dev nD) (I : Inputs) : Prop where
  u : V c main_arg0 = (up I.u : S8192x512.Idx → EReal)
  w : V c main_v0 = cube I.w
  s : V c main_arg2 = (up (fun _ => I.s) : S1x512.Idx → EReal)

section Forward
variable (A : Entry0 V c I)
include A

theorem block0_u (t : Fin cfg0.N) : iblk0 V c 0 t = (up (tile I.u t.val 0) : S512x512.Idx → EReal) := by
  funext j; idx_vars j
  have e : iblk0 V c 0 t (ix2 j0 j1) = V c main_arg0 (ix2 ⟨512 * t.val + j0.val, row_lt0 t j0⟩ j1) := by blk_point [iblk0, idx0 t]
  rw [e, A.u, up_ix2, up_ix2]; unfold tile; rw [Nat.zero_add]

theorem block0_halo (t : Fin cfg0.N) : iblk0 V c 1 t = (up (halo I.u t.val) : S16x512.Idx → EReal) := by
  funext j; idx_vars j
  have e : iblk0 V c 1 t (ix2 j0 j1) = V c main_arg0 (ix2 ⟨16 * (32 * t.val - 1) + j0.val, halo_lt0 t j0⟩ j1) := by blk_point [iblk0, idx0 t]
  rw [e, A.u, up_ix2, up_ix2]; unfold halo
  rw [show 512 * t.val - 16 = 16 * (32 * t.val - 1) by omega]

theorem block0_w (t : Fin cfg0.N) : iblk0 V c 2 t = cube I.w := by
  funext j; idx_vars j
  have e : iblk0 V c 2 t (ix3 j0 j1 j2) = V c main_v0 (ix3 j0 j1 j2) := by blk_point [iblk0, idx0 t]
  rw [e, A.w]

theorem block0_s (t : Fin cfg0.N) : iblk0 V c 3 t = (up (fun _ => I.s) : S1x512.Idx → EReal) := by
  funext j; idx_vars j
  have e : iblk0 V c 3 t (ix2 j0 j1) = V c main_arg2 (ix2 j0 j1) := by blk_point [iblk0, idx0 t]
  rw [e, A.s]

theorem tile0_pooled (t : Fin cfg0.N) : out0_4 (grid0.coords t) (iblk0 V c 0 t) (iblk0 V c 1 t) (iblk0 V c 2 t) (iblk0 V c 3 t)
    = (up fun r j => pooled I (512 * t.val + r) j : S512x512.Idx → EReal) := by
  rw [block0_u A, block0_halo A, block0_w A, block0_s A]
  unfold_out out0_4
  rw [← point0 t]
  simp only [part_tile, part_halo, edge_eq, mean0, mean1, mean2, mean3]
  funext y
  refine View.canon_apply_of_pieces _ _ ?_ y (cover0_4 _ _ _ _ y)
  intro p hp x
  simp only [List.mem_cons, List.not_mem_nil, or_false] at hp
  rcases hp with rfl | rfl | rfl | rfl
  · exact piece _ _ 384 inb_S512x512_S512x128_0_384 (fun r j hj => mean_part _ 3 16 384 r j rfl rfl hj) x
  · exact piece _ _ 256 inb_S512x512_S512x128_0_256 (fun r j hj => mean_part _ 2 8 256 r j rfl rfl hj) x
  · exact piece _ _ 128 inb_S512x512_S512x128_0_128 (fun r j hj => mean_part _ 1 4 128 r j rfl rfl hj) x
  · exact piece _ _ 0 inb_S512x512_S512x128_0_0 (fun r j hj => mean_part _ 0 2 0 r j rfl rfl hj) x

theorem tile0_ya (t : Fin cfg0.N) : out0_5 (grid0.coords t) (iblk0 V c 0 t) (iblk0 V c 1 t) (iblk0 V c 2 t) (iblk0 V c 3 t)
    = (up fun r j => ya I (512 * t.val + r) j : S512x512.Idx → EReal) := by
  rw [block0_u A, block0_halo A, block0_w A, block0_s A]
  unfold_out out0_5
  rw [← point0 t]
  simp only [part_tile, part_halo, part_row, part_slab, edge_eq, ya0, ya1, ya2, ya3]
  funext y
  refine View.canon_apply_of_pieces _ _ ?_ y (cover0_5 _ _ _ _ y)
  intro p hp x
  simp only [List.mem_cons, List.not_mem_nil, or_false] at hp
  rcases hp with rfl | rfl | rfl | rfl
  · exact piece _ _ 384 inb_S512x512_S512x128_0_384 (fun r j hj => ya_part _ 3 16 384 r j rfl rfl hj) x
  · exact piece _ _ 256 inb_S512x512_S512x128_0_256 (fun r j hj => ya_part _ 2 8 256 r j rfl rfl hj) x
  · exact piece _ _ 128 inb_S512x512_S512x128_0_128 (fun r j hj => ya_part _ 1 4 128 r j rfl rfl hj) x
  · exact piece _ _ 0 inb_S512x512_S512x128_0_0 (fun r j hj => ya_part _ 0 2 0 r j rfl rfl hj) x

theorem arr0_4 : (dat0 V c).arrAt 4 cfg0.N = (up (pooled I) : S8192x512.Idx → EReal) := by
  refine (dat0 V c).arrAt_eq_of_covers 4 _ (by decide +kernel) fun t _ y => ?_
  blk_simp
  rw [after0_4, tile0_pooled A]
  exact (up_at 512 t.val y (by blk_simp [idx0 t]) (by blk_simp [idx0 t])).symm

theorem arr0_5 : (dat0 V c).arrAt 5 cfg0.N = (up (ya I) : S8192x512.Idx → EReal) := by
  refine (dat0 V c).arrAt_eq_of_covers 5 _ (by decide +kernel) fun t _ y => ?_
  blk_simp
  rw [after0_5, tile0_ya A]
  exact (up_at 512 t.val y (by blk_simp [idx0 t]) (by blk_simp [idx0 t])).symm

end Forward

end Cert.PoolArrays
-- ==== Proof.PoolBack.lean ====
/- The arrays the backward call of the windowed pooling leaves, in plain real formulas. -/
module

public import proofs.«01_k».proof.Proof.PoolArrays
public import Idealize.ShloMosaic.Lib.Pipeline.CanonAppend

@[expose] public section

noncomputable section

namespace Cert.PoolBack
open Cert.PoolIdeal Cert.PoolIdeal.Gen Cert.AttnReal Cert.NormReal Cert.PoolValue Cert.PoolArrays
open Idealize.ShloMosaic Idealize.ShloMosaic.TcCoe

variable {V : (c : Dev nD) → (b : Ref sig .tc) → Buf (Elt Ideal) ((c : Thread nD τ).loc b)} {c : Dev nD} {I : Inputs}

/-! ## Parts of blocks -/

theorem part_pooled (U : ℕ → ℕ → ℝ) (t o : ℕ) (inb : ∀ a, (![0, o] : Fin 2 → ℕ) a + (![512, 128] : Fin 2 → ℕ) a ≤ S512x512.size a) :
    View.ld (Val := Elt Ideal) (e' := .bf16) (up (tile U t 0) : S512x512.Idx → EReal) (Rect.unit (s := S512x512) ![0, o] ![512, 128] inb) = (up (tile U t o) : S512x128.Idx → EReal) := by
  funext j; idx_vars j; pointwise []
  rw [up_ix2, up_ix2]; unfold tile; rw [Nat.zero_add]

theorem part_block (U : ℕ → ℕ → ℝ) (t o : ℕ) (inb : ∀ a, (![0, o] : Fin 2 → ℕ) a + (![512, 128] : Fin 2 → ℕ) a ≤ S512x512.size a) :
    View.ld (Val := Elt Ideal) (e' := .f32) (up (tile U t 0) : S512x512.Idx → EReal) (Rect.unit (s := S512x512) ![0, o] ![512, 128] inb) = (up (tile U t o) : S512x128.Idx → EReal) :=
  part_tile U t o inb

theorem part_scale (S : ℕ → ℝ) (o : ℕ) (inb : ∀ a, (![0, o] : Fin 2 → ℕ) a + (![1, 128] : Fin 2 → ℕ) a ≤ S1x512.size a) :
    View.ld (Val := Elt Ideal) (e' := .f32) (up (fun _ => S) : S1x512.Idx → EReal) (Rect.unit (s := S1x512) ![0, o] ![1, 128] inb) = (up (fun _ j => S (o + j)) : S1x128.Idx → EReal) :=
  part_row S o inb

theorem part_weight (W : ℕ → ℕ → ℕ → ℝ) (g : ℕ) (inb : ∀ a, (![g, 0, 0] : Fin 3 → ℕ) a + (![1, 128, 128] : Fin 3 → ℕ) a ≤ S4x128x128.size a) :
    View.ld (Val := Elt Ideal) (e' := .bf16) (cube W) (Rect.unit (s := S4x128x128) ![g, 0, 0] ![1, 128, 128] inb) = slab W g :=
  part_slab W g inb

theorem part_cube (M : ℕ → ℕ → ℕ → ℝ) (g : ℕ) (inb : ∀ a, (![g, 0, 0] : Fin 3 → ℕ) a + (![1, 128, 128] : Fin 3 → ℕ) a ≤ S4x128x128.size a) :
    View.ld (Val := Elt Ideal) (e' := .f32) (cube M) (Rect.unit (s := S4x128x128) ![g, 0, 0] ![1, 128, 128] inb) = one (M g) := by
  funext j; idx_vars j; pointwise []
  rfl

theorem piece_cube (M : ℕ → ℕ → ℝ) (G : ℕ → ℕ → ℕ → ℝ) (g : ℕ) (inb : ∀ a, (![g, 0, 0] : Fin 3 → ℕ) a + (![1, 128, 128] : Fin 3 → ℕ) a ≤ S4x128x128.size a)
    (h : ∀ a b, M a b = G g a b) (x : S1x128x128.Idx) : one M x = cube G ((Rect.unit (s := S4x128x128) ![g, 0, 0] ![1, 128, 128] inb).emb x) := by
  have e0 : (((Rect.unit (s := S4x128x128) ![g, 0, 0] ![1, 128, 128] inb).emb x) 0).val = g := by blk_simp
  have e1 : (((Rect.unit (s := S4x128x128) ![g, 0, 0] ![1, 128, 128] inb).emb x) 1).val = (x 1).val := by blk_simp
  have e2 : (((Rect.unit (s := S4x128x128) ![g, 0, 0] ![1, 128, 128] inb).emb x) 2).val = (x 2).val := by blk_simp
  unfold one cube
  rw [e0, e1, e2, h]

theorem piece_row (f G : ℕ → ℝ) (o : ℕ) (inb : ∀ a, (![0, o] : Fin 2 → ℕ) a + (![1, 128] : Fin 2 → ℕ) a ≤ S1x512.size a) (h : ∀ j, j < 128 → f j = G (o + j))
    (x : S1x128.Idx) : (up (fun _ => f) : S1x128.Idx → EReal) x = (up (fun _ => G) : S1x512.Idx → EReal) ((Rect.unit (s := S1x512) ![0, o] ![1, 128] inb).emb x) := by
  have e1 : (((Rect.unit (s := S1x512) ![0, o] ![1, 128] inb).emb x) 1).val = o + (x 1).val := by blk_simp
  unfold up
  rw [e1]
  exact congrArg _ (h _ (x 1).isLt)

/-- A column block's four stores. -/
theorem cover_tile (p0 p1 p2 p3 : S512x128.Idx → EReal) (y : S512x512.Idx) :
    ∃ pc ∈ ([⟨Rect.unit (s := S512x512) ![0, 384] ![512, 128] inb_S512x512_S512x128_0_384, p3⟩, ⟨Rect.unit (s := S512x512) ![0, 256] ![512, 128] inb_S512x512_S512x128_0_256, p2⟩,
      ⟨Rect.unit (s := S512x512) ![0, 128] ![512, 128] inb_S512x512_S512x128_0_128, p1⟩, ⟨Rect.unit (s := S512x512) ![0, 0] ![512, 128] inb_S512x512_S512x128_0_0, p0⟩] : List (View.Piece (Elt Ideal) S512x512 .bf16)), y ∈ pc.1.set :=
  View.cover_of_tiledL (_ : List (View.Piece (Elt Ideal) S512x512 .bf16)) S512x128.size (by sl_kernel_rfl) y

theorem cover_cube (p0 p1 p2 p3 : S1x128x128.Idx → EReal) (y : S4x128x128.Idx) :
    ∃ pc ∈ ([⟨Rect.unit (s := S4x128x128) ![3, 0, 0] ![1, 128, 128] inb_S4x128x128_S1x128x128_3_0_0, p3⟩, ⟨Rect.unit (s := S4x128x128) ![2, 0, 0] ![1, 128, 128] inb_S4x128x128_S1x128x128_2_0_0, p2⟩,
      ⟨Rect.unit (s := S4x128x128) ![1, 0, 0] ![1, 128, 128] inb_S4x128x128_S1x128x128_1_0_0, p1⟩, ⟨Rect.unit (s := S4x128x128) ![0, 0, 0] ![1, 128, 128] inb_S4x128x128_S1x128x128_0_0_0, p0⟩] : List (View.Piece (Elt Ideal) S4x128x128 .f32)), y ∈ pc.1.set :=
  View.cover_of_tiledL (_ : List (View.Piece (Elt Ideal) S4x128x128 .f32)) S1x128x128.size (by sl_kernel_rfl) y

theorem cover_row (p0 p1 p2 p3 : S1x128.Idx → EReal) (y : S1x512.Idx) :
    ∃ pc ∈ ([⟨Rect.unit (s := S1x512) ![0, 384] ![1, 128] inb_S1x512_S1x128_0_384, p3⟩, ⟨Rect.unit (s := S1x512) ![0, 256] ![1, 128] inb_S1x512_S1x128_0_256, p2⟩,
      ⟨Rect.unit (s := S1x512) ![0, 128] ![1, 128] inb_S1x512_S1x128_0_128, p1⟩, ⟨Rect.unit (s := S1x512) ![0, 0] ![1, 128] inb_S1x512_S1x128_0_0, p0⟩] : List (View.Piece (Elt Ideal) S1x512 .f32)), y ∈ pc.1.set :=
  View.cover_of_tiledL (_ : List (View.Piece (Elt Ideal) S1x512 .f32)) S1x128.size (by sl_kernel_rfl) y

/-- The store of zeros a first point begins with. -/
abbrev zeroCube : View.Piece (Elt Ideal) S4x128x128 .f32 := ⟨Rect.unit (s := S4x128x128) ![0, 0, 0] ![4, 128, 128] inb_S4x128x128_S4x128x128_0_0_0, k1_pay1 (F := Ideal)⟩
abbrev zeroRow : View.Piece (Elt Ideal) S1x512 .f32 := ⟨Rect.unit (s := S1x512) ![0, 0] ![1, 512] inb_S1x512_S1x512_0_0, k1_pay2 (F := Ideal)⟩

abbrev slabAt (g : ℕ) (inb : ∀ a, (![g, 0, 0] : Fin 3 → ℕ) a + (![1, 128, 128] : Fin 3 → ℕ) a ≤ S4x128x128.size a) : Rect S4x128x128 := Rect.unit (s := S4x128x128) ![g, 0, 0] ![1, 128, 128] inb
abbrev rowAt (o : ℕ) (inb : ∀ a, (![0, o] : Fin 2 → ℕ) a + (![1, 128] : Fin 2 → ℕ) a ≤ S1x512.size a) : Rect S1x512 := Rect.unit (s := S1x512) ![0, o] ![1, 128] inb

theorem zero_cube (y : S4x128x128.Idx) : View.canon (Val := Elt Ideal) [zeroCube] y = ((0 : ℝ) : EReal) := by
  rw [View.canon_cons_unit_lit' _ _ _ (by decide)]
  idx_vars y
  pointwise [k1_pay1]
  rfl

theorem zero_row (y : S1x512.Idx) : View.canon (Val := Elt Ideal) [zeroRow] y = ((0 : ℝ) : EReal) := by
  rw [View.canon_cons_unit_lit' _ _ _ (by decide)]
  idx_vars y
  pointwise [k1_pay2]
  rfl

/-- Where nothing was stored since, a first point still finds its zeros. -/
theorem fresh_cube (L : List (View.Piece (Elt Ideal) S4x128x128 .f32)) (y : S4x128x128.Idx) (h : ∀ p ∈ L, y ∉ p.1.set) : View.canon (L ++ [zeroCube]) y = ((0 : ℝ) : EReal) := by
  induction L with
  | nil => exact zero_cube y
  | cons p L ih =>
    rw [List.cons_append, View.canon_cons_of_not_mem p _ (h p (by simp))]
    exact ih fun q hq => h q (List.mem_cons_of_mem _ hq)

theorem fresh_row (L : List (View.Piece (Elt Ideal) S1x512 .f32)) (y : S1x512.Idx) (h : ∀ p ∈ L, y ∉ p.1.set) : View.canon (L ++ [zeroRow]) y = ((0 : ℝ) : EReal) := by
  induction L with
  | nil => exact zero_row y
  | cons p L ih =>
    rw [List.cons_append, View.canon_cons_of_not_mem p _ (h p (by simp))]
    exact ih fun q hq => h q (List.mem_cons_of_mem _ hq)

theorem off_slab (g k : ℕ) (i0 i1) (h : g ≠ k) (x : S1x128x128.Idx) : (slabAt g i0).toLoadRect.idx x ∉ (slabAt k i1).set := by
  rw [Rect.mem_set_unit]
  intro m
  have e0 : (((slabAt g i0).toLoadRect.idx x) 0).val = g := by
    show (((slabAt g i0).emb x) 0).val = g
    blk_simp
  have := m 0
  rw [e0] at this
  simp at this
  omega

theorem off_row (g k : ℕ) (i0 i1) (h : g ≠ k) (x : S1x128.Idx) : (rowAt (128 * g) i0).toLoadRect.idx x ∉ (rowAt (128 * k) i1).set := by
  rw [Rect.mem_set_unit]
  intro m
  have e0 : (((rowAt (128 * g) i0).toLoadRect.idx x) 1).val = 128 * g + (x 1).val := by
    show (((rowAt (128 * g) i0).emb x) 1).val = _
    blk_simp
  have hx : (x 1).val < 128 := (x 1).isLt
  have := m 1
  rw [e0] at this
  simp at this
  omega

section Fresh
variable (v : View sig .tc .vmem S4x128x128 .f32) (q0 q1 q2 : S1x128x128.Idx → EReal) (r0 r1 r2 : S1x128.Idx → EReal) (z : View sig .tc .vmem S1x512 .f32)

theorem fresh0 : v.readCov (Val := Elt Ideal) [zeroCube] (slabAt 0 inb_S4x128x128_S1x128x128_0_0_0).toLoadRect = one (fun _ _ => 0) := by
  rw [View.readCov_eq_canon']; funext x
  exact fresh_cube [] _ (by simp)

theorem fresh1 : v.readCov (Val := Elt Ideal) [⟨slabAt 0 inb_S4x128x128_S1x128x128_0_0_0, q0⟩, zeroCube] (slabAt 1 inb_S4x128x128_S1x128x128_1_0_0).toLoadRect = one (fun _ _ => 0) := by
  rw [View.readCov_eq_canon']; funext x
  refine fresh_cube [⟨slabAt 0 inb_S4x128x128_S1x128x128_0_0_0, q0⟩] _ fun p hp => ?_
  simp only [List.mem_cons, List.not_mem_nil, or_false] at hp
  obtain rfl := hp
  exact off_slab 1 0 inb_S4x128x128_S1x128x128_1_0_0 inb_S4x128x128_S1x128x128_0_0_0 (by decide) x

theorem fresh2 : v.readCov (Val := Elt Ideal) [⟨slabAt 1 inb_S4x128x128_S1x128x128_1_0_0, q1⟩, ⟨slabAt 0 inb_S4x128x128_S1x128x128_0_0_0, q0⟩, zeroCube]
    (slabAt 2 inb_S4x128x128_S1x128x128_2_0_0).toLoadRect = one (fun _ _ => 0) := by
  rw [View.readCov_eq_canon']; funext x
  refine fresh_cube [⟨slabAt 1 inb_S4x128x128_S1x128x128_1_0_0, q1⟩, ⟨slabAt 0 inb_S4x128x128_S1x128x128_0_0_0, q0⟩] _ fun p hp => ?_
  simp only [List.mem_cons, List.not_mem_nil, or_false] at hp
  rcases hp with rfl | rfl
  · exact off_slab 2 1 inb_S4x128x128_S1x128x128_2_0_0 inb_S4x128x128_S1x128x128_1_0_0 (by decide) x
  · exact off_slab 2 0 inb_S4x128x128_S1x128x128_2_0_0 inb_S4x128x128_S1x128x128_0_0_0 (by decide) x

theorem fresh3 : v.readCov (Val := Elt Ideal) [⟨slabAt 2 inb_S4x128x128_S1x128x128_2_0_0, q2⟩, ⟨slabAt 1 inb_S4x128x128_S1x128x128_1_0_0, q1⟩, ⟨slabAt 0 inb_S4x128x128_S1x128x128_0_0_0, q0⟩, zeroCube]
    (slabAt 3 inb_S4x128x128_S1x128x128_3_0_0).toLoadRect = one (fun _ _ => 0) := by
  rw [View.readCov_eq_canon']; funext x
  refine fresh_cube [⟨slabAt 2 inb_S4x128x128_S1x128x128_2_0_0, q2⟩, ⟨slabAt 1 inb_S4x128x128_S1x128x128_1_0_0, q1⟩, ⟨slabAt 0 inb_S4x128x128_S1x128x128_0_0_0, q0⟩] _ fun p hp => ?_
  simp only [List.mem_cons, List.not_mem_nil, or_false] at hp
  rcases hp with rfl | rfl | rfl
  · exact off_slab 3 2 inb_S4x128x128_S1x128x128_3_0_0 inb_S4x128x128_S1x128x128_2_0_0 (by decide) x
  · exact off_slab 3 1 inb_S4x128x128_S1x128x128_3_0_0 inb_S4x128x128_S1x128x128_1_0_0 (by decide) x
  · exact off_slab 3 0 inb_S4x128x128_S1x128x128_3_0_0 inb_S4x128x128_S1x128x128_0_0_0 (by decide) x

theorem freshRow0 : z.readCov (Val := Elt Ideal) [zeroRow] (rowAt 0 inb_S1x512_S1x128_0_0).toLoadRect = (up (fun _ _ => 0) : S1x128.Idx → EReal) := by
  rw [View.readCov_eq_canon']; funext x
  exact fresh_row [] _ (by simp)

theorem freshRow1 : z.readCov (Val := Elt Ideal) [⟨rowAt 0 inb_S1x512_S1x128_0_0, r0⟩, zeroRow] (rowAt 128 inb_S1x512_S1x128_0_128).toLoadRect = (up (fun _ _ => 0) : S1x128.Idx → EReal) := by
  rw [View.readCov_eq_canon']; funext x
  refine fresh_row [⟨rowAt 0 inb_S1x512_S1x128_0_0, r0⟩] _ fun p hp => ?_
  simp only [List.mem_cons, List.not_mem_nil, or_false] at hp
  obtain rfl := hp
  exact off_row 1 0 inb_S1x512_S1x128_0_128 inb_S1x512_S1x128_0_0 (by decide) x

theorem freshRow2 : z.readCov (Val := Elt Ideal) [⟨rowAt 128 inb_S1x512_S1x128_0_128, r1⟩, ⟨rowAt 0 inb_S1x512_S1x128_0_0, r0⟩, zeroRow]
    (rowAt 256 inb_S1x512_S1x128_0_256).toLoadRect = (up (fun _ _ => 0) : S1x128.Idx → EReal) := by
  rw [View.readCov_eq_canon']; funext x
  refine fresh_row [⟨rowAt 128 inb_S1x512_S1x128_0_128, r1⟩, ⟨rowAt 0 inb_S1x512_S1x128_0_0, r0⟩] _ fun p hp => ?_
  simp only [List.mem_cons, List.not_mem_nil, or_false] at hp
  rcases hp with rfl | rfl
  · exact off_row 2 1 inb_S1x512_S1x128_0_256 inb_S1x512_S1x128_0_128 (by decide) x
  · exact off_row 2 0 inb_S1x512_S1x128_0_256 inb_S1x512_S1x128_0_0 (by decide) x

theorem freshRow3 : z.readCov (Val := Elt Ideal) [⟨rowAt 256 inb_S1x512_S1x128_0_256, r2⟩, ⟨rowAt 128 inb_S1x512_S1x128_0_128, r1⟩, ⟨rowAt 0 inb_S1x512_S1x128_0_0, r0⟩, zeroRow]
    (rowAt 384 inb_S1x512_S1x128_0_384).toLoadRect = (up (fun _ _ => 0) : S1x128.Idx → EReal) := by
  rw [View.readCov_eq_canon']; funext x
  refine fresh_row [⟨rowAt 256 inb_S1x512_S1x128_0_256, r2⟩, ⟨rowAt 128 inb_S1x512_S1x128_0_128, r1⟩, ⟨rowAt 0 inb_S1x512_S1x128_0_0, r0⟩] _ fun p hp => ?_
  simp only [List.mem_cons, List.not_mem_nil, or_false] at hp
  rcases hp with rfl | rfl | rfl
  · exact off_row 3 2 inb_S1x512_S1x128_0_384 inb_S1x512_S1x128_0_256 (by decide) x
  · exact off_row 3 1 inb_S1x512_S1x128_0_384 inb_S1x512_S1x128_0_128 (by decide) x
  · exact off_row 3 0 inb_S1x512_S1x128_0_384 inb_S1x512_S1x128_0_0 (by decide) x
end Fresh

theorem idx1 : ∀ t : Fin cfg1.N, win1_0.index t = ![t.val, 0] ∧ win1_1.index t = ![min (32 * (t.val + 1)) 511, 0] ∧ win1_2.index t = ![t.val, 0]
    ∧ win1_3.index t = ![0, 0, 0] ∧ win1_4.index t = ![0, 0] ∧ win1_5.index t = ![t.val, 0] ∧ win1_6.index t = ![0, 0, 0] ∧ win1_7.index t = ![0, 0] :=
  (by decide +kernel : ∀ t : Fin grid1.N, _)

theorem row_lt1 (t : Fin cfg1.N) (j : Fin 512) : 512 * t.val + j.val < 8192 := by
  have := lt_of_lt_of_eq t.isLt N_1; omega

theorem tail_lt1 (t : Fin cfg1.N) (j : Fin 16) : 16 * min (32 * (t.val + 1)) 511 + j.val < 8192 := by
  have := lt_of_lt_of_eq t.isLt N_1; omega

theorem point1 (t : Fin cfg1.N) : (grid1.coords t 0).val = t.val := by
  have h := lt_of_lt_of_eq t.isLt N_1
  have e : (grid1.coords t 0).val = t.val / 1 % 16 := Pipeline.Grid.coords_val t 0 (by decide) rfl
  omega

/-- The arrays the backward call finds. -/
structure Entry1 (V : (c : Dev nD) → (b : Ref sig .tc) → Buf (Elt Ideal) ((c : Thread nD τ).loc b)) (c : Dev nD) (I : Inputs) : Prop where
  d : V c main_arg3 = (up I.d : S8192x512.Idx → EReal)
  p : V c main_v1_0 = (up (pooled I) : S8192x512.Idx → EReal)
  w : V c main_v0 = cube I.w
  s : V c main_arg2 = (up (fun _ => I.s) : S1x512.Idx → EReal)

/-- The sums over the first m positions. -/
def dwUpTo (I : Inputs) (m g a b : ℕ) : ℝ := ∑ s ∈ Finset.range m, pooled I s (128 * g + a) * dmix I s (128 * g + b)
def dsUpTo (I : Inputs) (m j : ℕ) : ℝ := ∑ s ∈ Finset.range m, I.d s j * mixed I s j

theorem grow_part (t g o : ℕ) (M : ℕ → ℕ → ℝ) (ht : t < 16) (ho : o = 128 * g) (hM : ∀ a b, M a b = dwUpTo I (512 * t) g a b) (a b : ℕ) :
    grow M (tile (pooled I) t o) (near (scaled I.d I.s o) t) a b = dwUpTo I (512 * t + 512) g a b := by
  subst ho
  unfold grow
  rw [hM]
  unfold dwUpTo
  rw [Finset.sum_range_add]
  refine congrArg _ (Finset.sum_congr rfl fun r hr => ?_)
  unfold tile near scaled dmix
  rw [if_pos (by have := Finset.mem_range.1 hr; omega)]

theorem gather_part (t g o : ℕ) (M : ℕ → ℝ) (ho : o = 128 * g) (hM : ∀ j, M j = dsUpTo I (512 * t) (o + j)) (j : ℕ) (hj : j < 128) :
    gather M (tile I.d t o) (mixTile I.w (tile (pooled I) t o) g) j = dsUpTo I (512 * t + 512) (o + j) := by
  subst ho
  unfold gather
  rw [hM]
  unfold dsUpTo
  rw [Finset.sum_range_add]
  refine congrArg _ (Finset.sum_congr rfl fun r hr => ?_)
  unfold tile mixTile mixed
  rw [show (128 * g + j) / 128 = g by omega, show (128 * g + j) % 128 = j by omega]

theorem du_part (t g n o r j : ℕ) (ho : o = 128 * g) (hn : n = 2 ^ (g + 1)) (hj : j < 128) : duTile I.d I.w I.s n t g r j = du I (512 * t + r) (o + j) := by
  subst ho hn
  unfold duTile du turned dpool scaled dmix
  rw [span_eq g j hj, show (128 * g + j) / 128 = g by omega, show (128 * g + j) % 128 = j by omega]

/-- The last of the sixteen points. -/
def last : Fin cfg1.N := ⟨15, lt_of_lt_of_eq (by decide) N_1.symm⟩

section Backward
variable (A : Entry1 V c I)
include A

theorem block1_d (t : Fin cfg1.N) : iblk1 V c 0 t = (up (tile I.d t.val 0) : S512x512.Idx → EReal) := by
  funext j; idx_vars j
  have e : iblk1 V c 0 t (ix2 j0 j1) = V c main_arg3 (ix2 ⟨512 * t.val + j0.val, row_lt1 t j0⟩ j1) := by blk_point [iblk1, idx1 t]
  rw [e, A.d, up_ix2, up_ix2]; unfold tile; rw [Nat.zero_add]

theorem block1_tail (t : Fin cfg1.N) : iblk1 V c 1 t = (up (tail I.d t.val) : S16x512.Idx → EReal) := by
  funext j; idx_vars j
  rw [show iblk1 V c 1 t (ix2 j0 j1) = V c main_arg3 (ix2 ⟨16 * min (32 * (t.val + 1)) 511 + j0.val, tail_lt1 t j0⟩ j1) by blk_point [iblk1, idx1 t], A.d, up_ix2, up_ix2]; rfl

theorem block1_p (t : Fin cfg1.N) : iblk1 V c 2 t = (up (tile (pooled I) t.val 0) : S512x512.Idx → EReal) := by
  funext j; idx_vars j
  have e : iblk1 V c 2 t (ix2 j0 j1) = V c main_v1_0 (ix2 ⟨512 * t.val + j0.val, row_lt1 t j0⟩ j1) := by blk_point [iblk1, idx1 t]
  rw [e, A.p, up_ix2, up_ix2]; unfold tile; rw [Nat.zero_add]

theorem block1_w (t : Fin cfg1.N) : iblk1 V c 3 t = cube I.w := by
  funext j; idx_vars j
  have e : iblk1 V c 3 t (ix3 j0 j1 j2) = V c main_v0 (ix3 j0 j1 j2) := by blk_point [iblk1, idx1 t]
  rw [e, A.w]

theorem block1_s (t : Fin cfg1.N) : iblk1 V c 4 t = (up (fun _ => I.s) : S1x512.Idx → EReal) := by
  funext j; idx_vars j
  have e : iblk1 V c 4 t (ix2 j0 j1) = V c main_arg2 (ix2 j0 j1) := by blk_point [iblk1, idx1 t]
  rw [e, A.s]

theorem tileA_du (t : Fin cfg1.N) (h0 : t.val % 16 = 0) : (outsAt1 V c t.val t.isLt).1 = (up fun r j => du I (512 * t.val + r) j : S512x512.Idx → EReal) := by
  rw [outsAt1_A V c t h0, block1_d A, block1_tail A, block1_p A, block1_w A, block1_s A]
  dsimp only
  unfold out1_A_5
  rw [View.read_writes_junk_eq_canon]
  frame_out
  rw [← point1 t]
  simp only [part_block, part_scale, part_weight, later_eq, scaled0, scaled2, du0, du1, du2, du3]
  funext y
  refine View.canon_apply_of_pieces _ _ ?_ y (cover_tile _ _ _ _ y)
  intro p hp x
  simp only [List.mem_cons, List.not_mem_nil, or_false] at hp
  rcases hp with rfl | rfl | rfl | rfl
  · exact piece _ _ 384 inb_S512x512_S512x128_0_384 (fun r j hj => du_part _ 3 16 384 r j rfl rfl hj) x
  · exact piece _ _ 256 inb_S512x512_S512x128_0_256 (fun r j hj => du_part _ 2 8 256 r j rfl rfl hj) x
  · exact piece _ _ 128 inb_S512x512_S512x128_0_128 (fun r j hj => du_part _ 1 4 128 r j rfl rfl hj) x
  · exact piece _ _ 0 inb_S512x512_S512x128_0_0 (fun r j hj => du_part _ 0 2 0 r j rfl rfl hj) x

theorem tileB_du (t : Fin cfg1.N) (h0 : ¬ t.val % 16 = 0) : (outsAt1 V c t.val t.isLt).1 = (up fun r j => du I (512 * t.val + r) j : S512x512.Idx → EReal) := by
  rw [outsAt1_B V c t h0, block1_d A, block1_tail A, block1_p A, block1_w A, block1_s A]
  generalize (outsAt1 V c (t.val - 1) (Nat.lt_of_le_of_lt (Nat.sub_le _ _) t.isLt)).2.1 = M
  generalize (outsAt1 V c (t.val - 1) (Nat.lt_of_le_of_lt (Nat.sub_le _ _) t.isLt)).2.2 = S
  dsimp only
  unfold out1_B_5
  rw [View.read_writes_junk_eq_canon]
  frame_out
  rw [← point1 t]
  simp only [part_block, part_scale, part_weight, later_eq, scaled0, scaled2, du0, du1, du2, du3]
  funext y
  refine View.canon_apply_of_pieces _ _ ?_ y (cover_tile _ _ _ _ y)
  intro p hp x
  simp only [List.mem_cons, List.not_mem_nil, or_false] at hp
  rcases hp with rfl | rfl | rfl | rfl
  · exact piece _ _ 384 inb_S512x512_S512x128_0_384 (fun r j hj => du_part _ 3 16 384 r j rfl rfl hj) x
  · exact piece _ _ 256 inb_S512x512_S512x128_0_256 (fun r j hj => du_part _ 2 8 256 r j rfl rfl hj) x
  · exact piece _ _ 128 inb_S512x512_S512x128_0_128 (fun r j hj => du_part _ 1 4 128 r j rfl rfl hj) x
  · exact piece _ _ 0 inb_S512x512_S512x128_0_0 (fun r j hj => du_part _ 0 2 0 r j rfl rfl hj) x

theorem tileA_dw (t : Fin cfg1.N) (h0 : t.val % 16 = 0) : (outsAt1 V c t.val t.isLt).2.1 = cube (dwUpTo I (512 * t.val + 512)) := by
  have ht : (grid1.coords t 0).val < 16 := by rw [point1 t]; exact lt_of_lt_of_eq t.isLt N_1
  have hz : ∀ g a b, (0 : ℝ) = dwUpTo I (512 * (grid1.coords t 0).val) g a b := fun g a b => by
    rw [show (grid1.coords t 0).val = 0 by rw [point1 t] at ht ⊢; omega]; simp [dwUpTo]
  rw [outsAt1_A V c t h0, block1_d A, block1_tail A, block1_p A, block1_w A, block1_s A]
  dsimp only
  unfold out1_A_6
  rw [View.read_writes_junk_eq_canon]
  frame_out
  rw [← point1 t]
  simp only [fresh0, fresh1, fresh2, fresh3, part_block, part_scale, later_eq, scaled0, dw0, dw1, dw2, dw3]
  funext y
  refine View.canon_append_of_pieces _ [zeroCube] _ ?_ y (cover_cube _ _ _ _ y)
  intro p hp x
  simp only [List.mem_cons, List.not_mem_nil, or_false] at hp
  rcases hp with rfl | rfl | rfl | rfl
  · exact piece_cube _ _ 3 inb_S4x128x128_S1x128x128_3_0_0 (grow_part _ 3 384 _ ht rfl (fun a b => hz _ a b)) x
  · exact piece_cube _ _ 2 inb_S4x128x128_S1x128x128_2_0_0 (grow_part _ 2 256 _ ht rfl (fun a b => hz _ a b)) x
  · exact piece_cube _ _ 1 inb_S4x128x128_S1x128x128_1_0_0 (grow_part _ 1 128 _ ht rfl (fun a b => hz _ a b)) x
  · exact piece_cube _ _ 0 inb_S4x128x128_S1x128x128_0_0_0 (grow_part _ 0 0 _ ht rfl (fun a b => hz _ a b)) x

theorem tileA_ds (t : Fin cfg1.N) (h0 : t.val % 16 = 0) : (outsAt1 V c t.val t.isLt).2.2 = (up (fun _ => dsUpTo I (512 * t.val + 512)) : S1x512.Idx → EReal) := by
  have ht : (grid1.coords t 0).val < 16 := by rw [point1 t]; exact lt_of_lt_of_eq t.isLt N_1
  have hz : ∀ j, (0 : ℝ) = dsUpTo I (512 * (grid1.coords t 0).val) j := fun j => by
    rw [show (grid1.coords t 0).val = 0 by rw [point1 t] at ht ⊢; omega]; simp [dsUpTo]
  rw [outsAt1_A V c t h0, block1_d A, block1_tail A, block1_p A, block1_w A, block1_s A]
  dsimp only
  unfold out1_A_7
  rw [View.read_writes_junk_eq_canon]
  frame_out
  rw [← point1 t]
  simp only [freshRow0, freshRow1, freshRow2, freshRow3, part_block, part_weight, ds0, ds1, ds2, ds3]
  funext y
  refine View.canon_append_of_pieces _ [zeroRow] _ ?_ y (cover_row _ _ _ _ y)
  intro p hp x
  simp only [List.mem_cons, List.not_mem_nil, or_false] at hp
  rcases hp with rfl | rfl | rfl | rfl
  · exact piece_row _ _ 384 inb_S1x512_S1x128_0_384 (gather_part _ 3 384 _ rfl (fun j => hz _)) x
  · exact piece_row _ _ 256 inb_S1x512_S1x128_0_256 (gather_part _ 2 256 _ rfl (fun j => hz _)) x
  · exact piece_row _ _ 128 inb_S1x512_S1x128_0_128 (gather_part _ 1 128 _ rfl (fun j => hz _)) x
  · exact piece_row _ _ 0 inb_S1x512_S1x128_0_0 (gather_part _ 0 0 _ rfl (fun j => hz _)) x

theorem tileB_dw (t : Fin cfg1.N) (h0 : ¬ t.val % 16 = 0)
    (hM : (outsAt1 V c (t.val - 1) (Nat.lt_of_le_of_lt (Nat.sub_le _ _) t.isLt)).2.1 = cube (dwUpTo I (512 * t.val)))
    (hS : (outsAt1 V c (t.val - 1) (Nat.lt_of_le_of_lt (Nat.sub_le _ _) t.isLt)).2.2 = (up (fun _ => dsUpTo I (512 * t.val)) : S1x512.Idx → EReal)) : (outsAt1 V c t.val t.isLt).2.1 = cube (dwUpTo I (512 * t.val + 512)) := by
  have ht : (grid1.coords t 0).val < 16 := by rw [point1 t]; exact lt_of_lt_of_eq t.isLt N_1
  rw [outsAt1_B V c t h0, block1_d A, block1_tail A, block1_p A, block1_w A, block1_s A]
  rw [hM, hS]
  dsimp only
  unfold out1_B_6
  rw [View.read_writes_junk_eq_canon]
  frame_out
  rw [← point1 t]
  simp only [part_block, part_scale, part_cube, later_eq, scaled0, dw0, dw1, dw2, dw3]
  funext y
  refine View.canon_apply_of_pieces _ _ ?_ y (cover_cube _ _ _ _ y)
  intro p hp x
  simp only [List.mem_cons, List.not_mem_nil, or_false] at hp
  rcases hp with rfl | rfl | rfl | rfl
  · exact piece_cube _ _ 3 inb_S4x128x128_S1x128x128_3_0_0 (grow_part _ 3 384 _ ht rfl (fun a b => rfl)) x
  · exact piece_cube _ _ 2 inb_S4x128x128_S1x128x128_2_0_0 (grow_part _ 2 256 _ ht rfl (fun a b => rfl)) x
  · exact piece_cube _ _ 1 inb_S4x128x128_S1x128x128_1_0_0 (grow_part _ 1 128 _ ht rfl (fun a b => rfl)) x
  · exact piece_cube _ _ 0 inb_S4x128x128_S1x128x128_0_0_0 (grow_part _ 0 0 _ ht rfl (fun a b => rfl)) x

theorem tileB_ds (t : Fin cfg1.N) (h0 : ¬ t.val % 16 = 0)
    (hM : (outsAt1 V c (t.val - 1) (Nat.lt_of_le_of_lt (Nat.sub_le _ _) t.isLt)).2.1 = cube (dwUpTo I (512 * t.val)))
    (hS : (outsAt1 V c (t.val - 1) (Nat.lt_of_le_of_lt (Nat.sub_le _ _) t.isLt)).2.2 = (up (fun _ => dsUpTo I (512 * t.val)) : S1x512.Idx → EReal)) : (outsAt1 V c t.val t.isLt).2.2 = (up (fun _ => dsUpTo I (512 * t.val + 512)) : S1x512.Idx → EReal) := by
  have ht : (grid1.coords t 0).val < 16 := by rw [point1 t]; exact lt_of_lt_of_eq t.isLt N_1
  rw [outsAt1_B V c t h0, block1_d A, block1_tail A, block1_p A, block1_w A, block1_s A]
  rw [hM, hS]
  dsimp only
  unfold out1_B_7
  rw [View.read_writes_junk_eq_canon]
  frame_out
  rw [← point1 t]
  simp only [part_block, part_scale, part_weight, ds0, ds1, ds2, ds3]
  funext y
  refine View.canon_apply_of_pieces _ _ ?_ y (cover_row _ _ _ _ y)
  intro p hp x
  simp only [List.mem_cons, List.not_mem_nil, or_false] at hp
  rcases hp with rfl | rfl | rfl | rfl
  · exact piece_row _ _ 384 inb_S1x512_S1x128_0_384 (gather_part _ 3 384 _ rfl (fun j => rfl)) x
  · exact piece_row _ _ 256 inb_S1x512_S1x128_0_256 (gather_part _ 2 256 _ rfl (fun j => rfl)) x
  · exact piece_row _ _ 128 inb_S1x512_S1x128_0_128 (gather_part _ 1 128 _ rfl (fun j => rfl)) x
  · exact piece_row _ _ 0 inb_S1x512_S1x128_0_0 (gather_part _ 0 0 _ rfl (fun j => rfl)) x

theorem tile_du (t : Fin cfg1.N) : (outsAt1 V c t.val t.isLt).1 = (up fun r j => du I (512 * t.val + r) j : S512x512.Idx → EReal) := by
  by_cases h : t.val % 16 = 0
  · exact tileA_du A t h
  · exact tileB_du A t h

theorem sums (n : ℕ) : ∀ h : n < cfg1.N, (outsAt1 V c n h).2.1 = cube (dwUpTo I (512 * n + 512))
    ∧ (outsAt1 V c n h).2.2 = (up (fun _ => dsUpTo I (512 * n + 512)) : S1x512.Idx → EReal) := by
  induction n with
  | zero => exact fun h => ⟨tileA_dw A ⟨0, h⟩ rfl, tileA_ds A ⟨0, h⟩ rfl⟩
  | succ n ih =>
    intro h
    have h0 : ¬ (n + 1) % 16 = 0 := by have := lt_of_lt_of_eq h N_1; omega
    have hp := ih (Nat.lt_of_succ_lt h)
    have e : 512 * n + 512 = 512 * (n + 1) := by omega
    rw [e] at hp
    exact ⟨tileB_dw A ⟨n + 1, h⟩ h0 hp.1 hp.2, tileB_ds A ⟨n + 1, h⟩ h0 hp.1 hp.2⟩

theorem arr1_5 : (dat1 V c).arrAt 5 cfg1.N = (up (du I) : S8192x512.Idx → EReal) := by
  refine (dat1 V c).arrAt_eq_of_covers 5 _ (by decide +kernel) fun t _ y => ?_
  blk_simp
  rw [after1_5, tile_du A]
  exact (up_at 512 t.val y (by blk_simp [idx1 t]) (by blk_simp [idx1 t])).symm

theorem arr1_6 : (dat1 V c).arrAt 6 cfg1.N = cube (dw I) := by
  refine (dat1 V c).arrAt_eq_of_after_last 6 last (by decide +kernel) _ fun j => ?_
  blk_simp
  rw [after1_6, (sums A last.val last.isLt).1]
  rfl

theorem arr1_7 : (dat1 V c).arrAt 7 cfg1.N = (up (fun _ => ds I) : S1x512.Idx → EReal) := by
  refine (dat1 V c).arrAt_eq_of_after_last 7 last (by decide +kernel) _ fun j => ?_
  blk_simp
  rw [after1_7, (sums A last.val last.isLt).2]
  rfl

end Backward

end Cert.PoolBack
-- ==== Proof.PoolRun.lean ====
/- The whole program of the windowed pooling: what its two calls find, and what the run leaves. -/
module

public import proofs.«01_k».proof.Proof.PoolBack

@[expose] public section

noncomputable section

namespace Cert.PoolRun
open Cert.PoolIdeal Cert.PoolIdeal.Gen Cert.AttnReal Cert.NormReal Cert.PoolValue Cert.PoolArrays Cert.PoolBack
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) {I : Inputs} {c : Dev nD}

/-- The arguments as real arrays. -/
structure Args (m : (ℓ : Loc nD τ sig) → Buf (Elt Ideal) ℓ) (c : Dev nD) (I : Inputs) : Prop where
  u : m ((c : Thread nD τ).loc main_arg0) = (up I.u : S8192x512.Idx → EReal)
  w : m ((c : Thread nD τ).loc main_arg1) = cube I.w
  s : m ((c : Thread nD τ).loc main_arg2) = (up (fun _ => I.s) : S1x512.Idx → EReal)
  d : m ((c : Thread nD τ).loc main_arg3) = (up I.d : S8192x512.Idx → EReal)

theorem host_w : W1 m ρ c main_v0 = (truncf (F := Ideal) .bf16 (m ((c : Thread nD τ).loc main_arg1)) bitsLt_bf16_f32 : FVec Ideal S4x128x128 .bf16) := rfl

theorem entry0 (A : Args m c I) : Entry0 (V1 m ρ) c I where
  u := (W1_args m ρ c main_arg0 (by decide)).trans A.u
  w := by
    refine (host_w m ρ).trans ?_
    rw [A.w]; rfl
  s := (W1_args m ρ c main_arg2 (by decide)).trans A.s

theorem entry1 (A : Args m c I) : Entry1 (V2 m ρ) c I where
  d := (W2_args m ρ c main_arg3 (by decide)).trans A.d
  p := (W2_arr m ρ c 4).trans (arr0_4 (entry0 m ρ A))
  w := (W2_of m ρ c main_v0 (by decide)).trans (entry0 m ρ A).w
  s := (W2_args m ρ c main_arg2 (by decide)).trans A.s

/-! ## What the run leaves -/

theorem end_ya (A : Args m c I) : W3 m ρ c main_v1_1 = (up (ya I) : S8192x512.Idx → EReal) :=
  (W3_of m ρ c main_v1_1 (by decide)).trans ((W2_arr m ρ c 5).trans (arr0_5 (entry0 m ρ A)))
theorem end_du (A : Args m c I) : W3 m ρ c main_v2_0 = (up (du I) : S8192x512.Idx → EReal) := (W3_arr m ρ c 5).trans (arr1_5 (entry1 m ρ A))
theorem end_dw (A : Args m c I) : W3 m ρ c main_v2_1 = cube (dw I) := (W3_arr m ρ c 6).trans (arr1_6 (entry1 m ρ A))
theorem end_ds (A : Args m c I) : W3 m ρ c main_v2_2 = (up (fun _ => ds I) : S1x512.Idx → EReal) := (W3_arr m ρ c 7).trans (arr1_7 (entry1 m ρ A))

local notation "𝕄" => MT nD τ sig Unit (Elt Ideal) ℕ (UR sig nD τ) ℕ

/-- The run of both calls, at the memory they leave. -/
theorem run : θ_run defs (onTc (τ := τ) (main (F := Ideal))) ⟨m, fun _ => 0, ρ⟩ (fun r =>
    ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.PoolRun

end
-- ==== Proof.PoolRef.lean ====
module

public import proofs.«01_k».proof.Proof.AttnRef
public import proofs.«01_k».proof.Proof.PoolArrays
public import proofs.«01_k».proof.Proof.Gen.PoolRefIdeal.Read

/-! The reference of the windowed pooling, on real arrays. -/

@[expose] public section

noncomputable section

namespace Cert.PoolRef
open Cert.PoolRefIdeal Cert.PoolRefIdeal.Gen Cert.PoolRefIdeal.Read
open Idealize.ShloMosaic Idealize.ShloMosaic.TcCoe Idealize.SL.Sem
open Cert.AttnReal Cert.NormReal Cert.PoolValue
open Cert.AttnRef (up3 up3_ix3 foldl_real)
open Cert.PoolArrays (cube cube_ix3)

/-! ## Sums over a sliding window of rows -/

theorem window_rows {A N C lo hi : ℕ} (f : ℕ → ℕ → ℕ → ℝ) (x : (⟨3, ![A, N, C]⟩ : Shape).Idx → EReal) (hx : x = up3 f)
    (h : (⟨3, ![A, N, C]⟩ : Shape).ReduceWindows ![1, N, 1] ![1, 1, 1] ![0, lo, 0] ![0, hi, 0] ⟨3, ![A, N, C]⟩)
    (init : EReal) (hinit : init = 0) (i : Fin A) (k : Fin N) (j : Fin C) :
    Ideal.hostReduceWindowAdd ![1, N, 1] ![1, 1, 1] ![0, lo, 0] ![0, hi, 0] h x init (ix3 i k j)
      = ((∑ n ∈ Finset.range N, (if lo ≤ k.val + n ∧ k.val + n - lo < N then f i.val (k.val + n - lo) j.val else 0) : ℝ) : EReal) := by
  subst hx hinit
  have hnum : (⟨3, ![1, N, 1]⟩ : Shape).numel = N := by simp [Shape.numel, Fin.prod_univ_succ]
  have hw : ∀ n, ((⟨3, ![1, N, 1]⟩ : Shape).rowMajor.symm n 0).val = 0 ∧ ((⟨3, ![1, N, 1]⟩ : Shape).rowMajor.symm n 2).val = 0
      ∧ ((⟨3, ![1, N, 1]⟩ : Shape).rowMajor.symm n 1).val = n.val := by
    intro n
    have e0 : ((⟨3, ![1, N, 1]⟩ : Shape).rowMajor.symm n 0).val < 1 := ((⟨3, ![1, N, 1]⟩ : Shape).rowMajor.symm n 0).isLt
    have e1 : ((⟨3, ![1, N, 1]⟩ : Shape).rowMajor.symm n 2).val < 1 := ((⟨3, ![1, N, 1]⟩ : Shape).rowMajor.symm n 2).isLt
    have e := rowMajor_val3 ((⟨3, ![1, N, 1]⟩ : Shape).rowMajor.symm n) _ _ rfl rfl
    rw [Equiv.apply_symm_apply] at e
    have z0 := Nat.lt_one_iff.1 e0
    have z1 := Nat.lt_one_iff.1 e1
    have q2 : (⟨3, ![1, N, 1]⟩ : Shape).size 2 = 1 := rfl
    have q2' : (![1, N, 1] : Fin 3 → ℕ) 2 = 1 := rfl
    rw [z0, z1, q2', Nat.zero_mul, Nat.zero_add, Nat.mul_one, Nat.add_zero] at e
    exact ⟨z0, z1, e.symm⟩
  unfold Ideal.hostReduceWindowAdd Host.reduceWindow
  refine (foldl_real _ (fun n => if lo ≤ k.val + n.val ∧ k.val + n.val - lo < N then f i.val (k.val + n.val - lo) j.val else 0) (fun n => ?_) _ 0).trans ?_
  · obtain ⟨w0, w2, w1⟩ := hw n
    split
    · next hin =>
      have h2 := hin 1
      change lo ≤ k.val * 1 + ((⟨3, ![1, N, 1]⟩ : Shape).rowMajor.symm n 1).val ∧ k.val * 1 + ((⟨3, ![1, N, 1]⟩ : Shape).rowMajor.symm n 1).val - lo < N at h2
      rw [w1] at h2
      rw [if_pos ⟨by omega, by omega⟩]
      show ((f (i.val * 1 + _ - 0) (k.val * 1 + _ - lo) (j.val * 1 + _ - 0) : ℝ) : EReal) = _
      rw [w0, w1, w2]
      simp
    · next hin =>
      rw [if_neg, EReal.coe_zero]
      intro hh
      apply hin
      intro a
      match a with
      | ⟨0, _⟩ =>
        show 0 ≤ i.val * 1 + ((⟨3, ![1, N, 1]⟩ : Shape).rowMajor.symm n 0).val ∧ i.val * 1 + ((⟨3, ![1, N, 1]⟩ : Shape).rowMajor.symm n 0).val - 0 < A
        rw [w0]; have := i.isLt; omega
      | ⟨1, _⟩ =>
        show lo ≤ k.val * 1 + ((⟨3, ![1, N, 1]⟩ : Shape).rowMajor.symm n 1).val ∧ k.val * 1 + ((⟨3, ![1, N, 1]⟩ : Shape).rowMajor.symm n 1).val - lo < N
        rw [w1]; omega
      | ⟨2, _⟩ =>
        show 0 ≤ j.val * 1 + ((⟨3, ![1, N, 1]⟩ : Shape).rowMajor.symm n 2).val ∧ j.val * 1 + ((⟨3, ![1, N, 1]⟩ : Shape).rowMajor.symm n 2).val - 0 < C
        rw [w2]; have := j.isLt; omega
  · rw [zero_add, ← Fin.sum_univ_def, ← Finset.sum_range (fun n => if lo ≤ k.val + n ∧ k.val + n - lo < N then f i.val (k.val + n - lo) j.val else 0), hnum]

/-! ## Sums of the rows before and after one -/

/-- The sum of the rows up to one, and of the rows from one on. -/
def upTo (f : ℕ → ℝ) (t : ℕ) : ℝ := ∑ s ∈ Finset.range (t + 1), f s
def onFrom (f : ℕ → ℝ) (t : ℕ) : ℝ := ∑ i ∈ Finset.range (8192 - t), f (t + i)

theorem upTo_window (f : ℕ → ℝ) (t : ℕ) (ht : t < 8192) :
    (∑ n ∈ Finset.range 8192, if 8191 ≤ t + n ∧ t + n - 8191 < 8192 then f (t + n - 8191) else 0) = upTo f t := by
  unfold upTo
  have e : 8192 = (8191 - t) + (t + 1) := by omega
  rw [show Finset.range 8192 = Finset.range ((8191 - t) + (t + 1)) by rw [← e], Finset.sum_range_add]
  rw [Finset.sum_eq_zero (fun n hn => if_neg (by have := Finset.mem_range.1 hn; omega)), zero_add]
  refine Finset.sum_congr rfl fun s hs => ?_
  have := Finset.mem_range.1 hs
  rw [if_pos (by omega), show t + (8191 - t + s) - 8191 = s by omega]

theorem onFrom_window (f : ℕ → ℝ) (t : ℕ) (ht : t < 8192) :
    (∑ n ∈ Finset.range 8192, if 0 ≤ t + n ∧ t + n - 0 < 8192 then f (t + n - 0) else 0) = onFrom f t := by
  unfold onFrom
  have e : 8192 = (8192 - t) + t := by omega
  rw [show Finset.range 8192 = Finset.range ((8192 - t) + t) by rw [← e], Finset.sum_range_add]
  rw [Finset.sum_eq_zero (s := Finset.range t) (fun n hn => if_neg (by have := Finset.mem_range.1 hn; omega)), add_zero]
  refine Finset.sum_congr rfl fun s hs => ?_
  have := Finset.mem_range.1 hs
  rw [if_pos (by omega), Nat.sub_zero]

/-- The difference of two running sums is the sum over the window between. -/
theorem back_upTo (n : ℕ) (f : ℕ → ℝ) (t : ℕ) : upTo f t - (if t < n then 0 else upTo f (t - n)) = back n f t := by
  unfold back upTo
  rw [← Finset.sum_range_reflect]
  split
  · next h =>
    rw [sub_zero, show n = (t + 1) + (n - (t + 1)) by omega, Finset.sum_range_add (fun i => if i ≤ t then f (t - i) else 0)]
    rw [Finset.sum_eq_zero (s := Finset.range (n - (t + 1))) (fun i hi => if_neg (by omega)), add_zero]
    refine Finset.sum_congr rfl fun i hi => ?_
    have := Finset.mem_range.1 hi
    rw [if_pos (by omega), show t + 1 - 1 - i = t - i by omega]
  · next h =>
    have e : t + 1 = n + (t - n + 1) := by omega
    rw [show Finset.range (t + 1) = Finset.range (n + (t - n + 1)) by rw [← e], Finset.sum_range_add]
    have e2 : (∑ x ∈ Finset.range (t - n + 1), f (t + 1 - 1 - (n + x))) = ∑ s ∈ Finset.range (t - n + 1), f s := by
      rw [← Finset.sum_range_reflect]
      refine Finset.sum_congr rfl fun i hi => ?_
      have := Finset.mem_range.1 hi
      rw [show t + 1 - 1 - (n + (t - n + 1 - 1 - i)) = i by omega]
    rw [e2, add_sub_cancel_right]
    refine Finset.sum_congr rfl fun i hi => ?_
    have := Finset.mem_range.1 hi
    rw [if_pos (by omega), show t + 1 - 1 - i = t - i by omega]

/-- The rows from one on of each row less the row a window later: the window's sum. -/
theorem ahead_onFrom (n : ℕ) (e : ℕ → ℝ) (t : ℕ) (ht : t < 8192) :
    onFrom (fun s => e s + (if s + n < 8192 then -e (s + n) else 0)) t = ahead n e t := by
  unfold onFrom ahead
  rw [Finset.sum_add_distrib]
  by_cases h : t + n < 8192
  · have c : 8192 - t = n + (8192 - t - n) := by omega
    have c' : 8192 - t = (8192 - t - n) + n := by omega
    have s1 : (∑ i ∈ Finset.range (8192 - t), e (t + i)) = (∑ i ∈ Finset.range n, e (t + i)) + ∑ i ∈ Finset.range (8192 - t - n), e (t + (n + i)) := by
      rw [← Finset.sum_range_add, ← c]
    have s2 : (∑ i ∈ Finset.range (8192 - t), if t + i + n < 8192 then -e (t + i + n) else 0) = ∑ i ∈ Finset.range (8192 - t - n), -e (t + (n + i)) := by
      rw [show Finset.range (8192 - t) = Finset.range ((8192 - t - n) + n) by rw [← c'], Finset.sum_range_add]
      rw [Finset.sum_eq_zero (s := Finset.range n) (fun i hi => if_neg (by omega)), add_zero]
      refine Finset.sum_congr rfl fun i hi => ?_
      have := Finset.mem_range.1 hi
      rw [if_pos (by omega), show t + i + n = t + (n + i) by omega]
    rw [s1, s2, Finset.sum_neg_distrib, add_neg_cancel_right]
    refine Finset.sum_congr rfl fun i hi => ?_
    have := Finset.mem_range.1 hi
    rw [if_pos (by omega)]
  · rw [Finset.sum_eq_zero (f := fun i => if t + i + n < 8192 then -e (t + i + n) else 0) (fun i hi => if_neg (by omega)), add_zero]
    have c : n = (8192 - t) + (n - (8192 - t)) := by omega
    rw [show Finset.range n = Finset.range ((8192 - t) + (n - (8192 - t))) by rw [← c], Finset.sum_range_add]
    rw [Finset.sum_eq_zero (s := Finset.range (n - (8192 - t))) (fun i hi => if_neg (by omega)), add_zero]
    refine Finset.sum_congr rfl fun i hi => ?_
    have := Finset.mem_range.1 hi
    rw [if_pos (by omega)]

/-- A row's count, from its words. -/
theorem count_host (t n : ℕ) (ht : t < 8192) (hn : n ≤ 16) :
    FloatOps.sitofp (F := Ideal) FTy.f32 (IntOp.minsi (IntOp.addi (BitVec.ofNat 32 t) 1#32) (BitVec.ofNat 32 n)) = ((PoolValue.count n t : ℝ) : EReal) := by
  have e : IntOp.addi (BitVec.ofNat 32 t) 1#32 = BitVec.ofNat 32 (t + 1) := by
    apply BitVec.eq_of_toNat_eq
    show (BitVec.ofNat 32 t + 1#32).toNat = _
    simp only [BitVec.toNat_add, BitVec.toNat_ofNat]
    omega
  have hm : (IntOp.minsi (BitVec.ofNat 32 (t + 1)) (BitVec.ofNat 32 n)).toNat = min (t + 1) n := by
    rw [WordArith.toNat_minsi_of_lt _ _ (by rw [BitVec.toNat_ofNat]; omega) (by rw [BitVec.toNat_ofNat]; omega), BitVec.toNat_ofNat, BitVec.toNat_ofNat]
    omega
  rw [e]
  show (((IntOp.minsi (BitVec.ofNat 32 (t + 1)) (BitVec.ofNat 32 n)).toInt : ℝ) : EReal) = _
  rw [BitVec.toInt_eq_toNat_cond, hm, if_pos (by omega)]
  unfold PoolValue.count
  norm_cast

theorem mean_point (n t : ℕ) (ht : t < 8192) (hn : 0 < n) (hn' : n ≤ 16) (f : ℕ → ℝ) :
    Ideal.div (((upTo f t : ℝ) : EReal) - (if h : t < n then (0 : EReal) else ((upTo f (t - n) : ℝ) : EReal)))
      (FloatOps.sitofp (F := Ideal) FTy.f32 (IntOp.minsi (IntOp.addi (BitVec.ofNat 32 t) 1#32) (BitVec.ofNat 32 n))) - ((f t : ℝ) : EReal) = ((mean n f t : ℝ) : EReal) := by
  have e : (if h : t < n then (0 : EReal) else ((upTo f (t - n) : ℝ) : EReal)) = (((if t < n then 0 else upTo f (t - n) : ℝ)) : EReal) := by
    split
    · rfl
    · rfl
  rw [e, count_host t n ht hn', ← EReal.coe_sub, back_upTo, Ideal.div_coe (count_pos n t hn).ne', ← EReal.coe_mul, ← EReal.coe_sub]
  unfold mean
  rw [one_div]

theorem span_at (g n j : ℕ) (hj : j / 128 = g) (hn : 2 ^ (g + 1) = n) : span j = n := by
  subst hj; exact hn

theorem zero_literal : (FloatOps.ofBits (F := Ideal) .f32 0x00000000#32 : EReal) = 0 := Ideal.ofBits_zero_f32

/-! ## The forward map -/

section Forward
variable (I : Inputs)

theorem rows_eq : val_main_v0 (F := Ideal) (up I.u) = up3 fun _ t j => I.u t j := by
  funext y; idx_vars y; pointwise [val_main_v0]; rfl

theorem sums_eq : val_main_v2 (F := Ideal) (up I.u) = up3 fun _ t j => upTo (fun s => I.u s j) t := by
  funext y; idx_vars y
  unfold val_main_v2 Host.reduceWindowAdd
  refine (window_rows (lo := 8191) (hi := 0) (fun _ t j => I.u t j) _ (rows_eq I) reduceWindows_S1x8192x512_S1x8192x512_w1s1p0_0_w8192s1p8191_0_w1s1p0_0 _ ?_ y0 y1 y2).trans ?_
  · pointwise [val_main_call0_call0_v0, val_main_call0_call0_cst]
  · rw [upTo_window (fun s => I.u s y2.val) y1.val y1.isLt]; rfl

theorem mean0_eq : val_main_v19 (F := Ideal) (up I.u) = up3 fun _ t j => pooled I t j := by
  funext y; idx_vars y
  pointwise [val_main_v19, val_main_v17, val_main_v18, val_main_v16, val_main_v15, val_main_v14, val_main_v13, val_main_v12, val_main_v11, val_main_v10, val_main_v9, val_main_v7, val_main_v6, val_main_v5, val_main_v4, val_main_v3, val_main_c, val_main_c_1, val_main_cst, rows_eq, sums_eq]
  refine (mean_point 2 y1.val y1.isLt (by decide) (by decide) fun s => I.u s y2.val).trans ?_
  rw [up3_ix3]; unfold pooled; rw [span_at 0 2 _ (by have := y2.isLt; omega) rfl]

theorem mean1_eq : val_main_v35 (F := Ideal) (up I.u) = up3 fun _ t j => pooled I t (128 + j) := by
  funext y; idx_vars y
  pointwise [val_main_v35, val_main_v33, val_main_v34, val_main_v32, val_main_v31, val_main_v30, val_main_v29, val_main_v28, val_main_v27, val_main_v26, val_main_v25, val_main_v23, val_main_v22, val_main_v21, val_main_v20, val_main_v3, val_main_c_4, val_main_c_5, val_main_cst_2, rows_eq, sums_eq]
  refine (mean_point 4 y1.val y1.isLt (by decide) (by decide) fun s => I.u s (128 + y2.val)).trans ?_
  rw [up3_ix3]; unfold pooled; rw [span_at 1 4 _ (by have := y2.isLt; omega) rfl]

theorem mean2_eq : val_main_v51 (F := Ideal) (up I.u) = up3 fun _ t j => pooled I t (256 + j) := by
  funext y; idx_vars y
  pointwise [val_main_v51, val_main_v49, val_main_v50, val_main_v48, val_main_v47, val_main_v46, val_main_v45, val_main_v44, val_main_v43, val_main_v42, val_main_v41, val_main_v39, val_main_v38, val_main_v37, val_main_v36, val_main_v3, val_main_c_8, val_main_c_9, val_main_cst_6, rows_eq, sums_eq]
  refine (mean_point 8 y1.val y1.isLt (by decide) (by decide) fun s => I.u s (256 + y2.val)).trans ?_
  rw [up3_ix3]; unfold pooled; rw [span_at 2 8 _ (by have := y2.isLt; omega) rfl]

theorem mean3_eq : val_main_v67 (F := Ideal) (up I.u) = up3 fun _ t j => pooled I t (384 + j) := by
  funext y; idx_vars y
  pointwise [val_main_v67, val_main_v65, val_main_v66, val_main_v64, val_main_v63, val_main_v62, val_main_v61, val_main_v60, val_main_v59, val_main_v58, val_main_v57, val_main_v55, val_main_v54, val_main_v53, val_main_v52, val_main_v3, val_main_c_12, val_main_c_13, val_main_cst_10, rows_eq, sums_eq]
  refine (mean_point 16 y1.val y1.isLt (by decide) (by decide) fun s => I.u s (384 + y2.val)).trans ?_
  rw [up3_ix3]; unfold pooled; rw [span_at 3 16 _ (by have := y2.isLt; omega) rfl]

theorem stack_eq (y0 : Fin 1) (y1 : Fin 8192) (y2 : Fin 4) (y3 : Fin 128) :
    val_main_v72 (F := Ideal) (up I.u) (ix4 y0 y1 y2 y3) = ((pooled I y1.val (128 * y2.val + y3.val) : ℝ) : EReal) := by
  pointwise [val_main_v72, val_main_v71, val_main_v70, val_main_v69, val_main_v68, mean0_eq, mean1_eq, mean2_eq, mean3_eq]
  have h4 := y2.isLt
  split
  · next h => rw [up3_ix3, show 128 * y2.val + y3.val = y3.val by omega]
  · split
    · next h => rw [up3_ix3, show 128 * y2.val + y3.val = 128 + y3.val by omega]
    · split
      · next h => rw [up3_ix3, show 128 * y2.val + y3.val = 256 + y3.val by omega]
      · next h => rw [up3_ix3, show 128 * y2.val + y3.val = 384 + y3.val by omega]

theorem mixed_eq : val_main_v75 (F := Ideal) (up I.u) (cube I.w) = up3 fun _ t j => mixed I t j := by
  funext y; idx_vars y
  rw [val_main_v75_apply, val_main_v74_apply, val_main_v73_apply, up3_ix3]
  unfold mixed
  rw [Finset.sum_range, coe_sum]
  refine Finset.sum_congr rfl fun k _ => ?_
  have e0 : idx_main_v75 (ix3 y0 y1 y2) = ix4 (0 : Fin 1) y1 (⟨y2.val / 128, by have := y2.isLt; omega⟩ : Fin 4) (⟨y2.val % 128, by omega⟩ : Fin 128) := by
    have h0 := y0.isLt
    have h1 := y1.isLt
    have h2 := y2.isLt
    funext a
    refine Fin.ext ?_
    match a with
    | ⟨0, _⟩ => rfl
    | ⟨1, _⟩ => show ((y0.val * 8192 + y1.val) * 512 + y2.val) / 512 % 8192 = y1.val; omega
    | ⟨2, _⟩ => show ((y0.val * 8192 + y1.val) * 512 + y2.val) / 128 % 4 = y2.val / 128; omega
    | ⟨3, _⟩ => show ((y0.val * 8192 + y1.val) * 512 + y2.val) % 128 = y2.val % 128; omega
  have e : ridx_main_v73 (idx_main_v74 (idx_main_v75 (ix3 y0 y1 y2))) k = ix4 (0 : Fin 1) y1 (⟨y2.val / 128, by have := y2.isLt; omega⟩ : Fin 4) k := by
    rw [e0]; funext a; match a with | ⟨0, _⟩ => rfl | ⟨1, _⟩ => rfl | ⟨2, _⟩ => rfl | ⟨3, _⟩ => rfl
  have e' : lidx_main_v73 (idx_main_v74 (idx_main_v75 (ix3 y0 y1 y2))) k = ix3 (⟨y2.val / 128, by have := y2.isLt; omega⟩ : Fin 4) k (⟨y2.val % 128, by omega⟩ : Fin 128) := by
    rw [e0]; funext a; match a with | ⟨0, _⟩ => rfl | ⟨1, _⟩ => rfl | ⟨2, _⟩ => rfl
  rw [e, e', stack_eq, cube_ix3, ← EReal.coe_mul, mul_comm]

theorem ya_eq : val_main_v151 (F := Ideal) (up I.u) (cube I.w) (up fun _ => I.s) = up (ya I) := by
  funext y; idx_vars y
  pointwise [val_main_v151, val_main_v79, val_main_v78, val_main_v77, val_main_v76, val_main_v1, mixed_eq]
  rw [up3_ix3, up_ix2, up_ix2, ← EReal.coe_mul]; rfl

theorem lone_sum (y : S1x1x512.Idx → EReal) (z : S_.Idx → EReal) (j : Fin 512) : Host.reduceAdd (F := Ideal) (φ := .f32) y z reducesTo_S1x1x512_S512_d0_1 h_S_ (ix1 j) = z (Shape.Idx.first h_S_) + y (ix3 0 0 j) := by
  pointwise []
  unfold Ideal.hostReduceAdd
  refine congrArg (fun q => z (Shape.Idx.first h_S_) + q) ?_
  have d : reducesTo_S1x1x512_S512_d0_1.drop (ix3 (0 : Fin 1) (0 : Fin 1) j) = ix1 j := by
    funext b; match b with | ⟨0, _⟩ => rfl
  refine Finset.sum_eq_single_of_mem _ (Finset.mem_filter.mpr ⟨Finset.mem_univ _, d⟩) fun i hi ne => absurd ?_ ne
  have hd := (Finset.mem_filter.mp hi).2
  have h2 : i 2 = j := congrFun hd 0
  idx_vars i
  have h0 : i0 = 0 := Fin.ext (Nat.lt_one_iff.mp i0.isLt)
  have h1 : i1 = 0 := Fin.ext (Nat.lt_one_iff.mp i1.isLt)
  have h3 : i2 = j := h2
  rw [h0, h1, h3]

theorem pair_dot (x : S4x128x1x8192.Idx → EReal) (y : S1x8192x4x128.Idx → EReal) (g : Fin 4) (b a : Fin 128) :
    Host.dotGeneral (F := Ideal) (φ₁ := .f32) (φ₂ := .f32) dot_S4x128x1x8192_S1x8192x4x128_S4x128x128_23_01_1_3_0_2 none x y (ix3 g b a) = ∑ t : Fin 8192, x (ix4 g b 0 t) * y (ix4 0 t g a) := by
  pointwise []
  exact Fin.sum_univ_one _

theorem ds_eq : val_main_v149 (F := Ideal) (up I.u) (cube I.w) (up I.d) = up fun _ => ds I := by
  have e82 : ∀ j : Fin 512, val_main_v82 (F := Ideal) (up I.u) (cube I.w) (up I.d) (ix2 0 j) = ((ds I j.val : ℝ) : EReal) := fun j => by
    rw [val_main_v82_apply]
    unfold ds
    rw [Finset.sum_range, coe_sum, val_main_cst_14_apply, zero_literal, zero_add]
    refine Finset.sum_congr rfl fun t _ => ?_
    pointwise [val_main_v81, val_main_v80, mixed_eq]
    rw [show idx_main_v82 (ix2 0 j) t = ix3 0 t j by funext a; match a with | ⟨0, _⟩ => rfl | ⟨1, _⟩ => rfl | ⟨2, _⟩ => rfl]
    rw [up3_ix3, up_ix2, ← EReal.coe_mul, mul_comm]
  funext y; idx_vars y
  rw [val_main_v149_apply]
  unfold val_main_v86
  rw [show idx_main_v149 (ix2 y0 y1) = ix1 y1 by funext a; match a with | ⟨0, _⟩ => rfl]
  refine (lone_sum _ _ y1).trans ?_
  rw [val_main_cst_15_apply, zero_literal, zero_add, up_ix2]
  refine Eq.trans ?_ (e82 y1)
  pointwise [val_main_v83]

theorem dmix_eq : val_main_v85 (F := Ideal) (up fun _ => I.s) (up I.d) = up3 fun _ t j => dmix I t j := by
  funext y; idx_vars y
  pointwise [val_main_v85, val_main_v84, val_main_v80, val_main_v76, val_main_v1]
  rw [up3_ix3, up_ix2, up_ix2, ← EReal.coe_mul]; rfl

theorem dmix_group (g : Fin 4) (b : Fin 128) (z : Fin 1) (t : Fin 8192) : val_main_v88 (F := Ideal) (up fun _ => I.s) (up I.d) (ix4 g b z t) = ((dmix I t.val (128 * g.val + b.val) : ℝ) : EReal) := by
  pointwise [val_main_v88, val_main_v87, dmix_eq]
  rw [up3_ix3, mul_comm 128 g.val]

theorem dpool_eq (z : Fin 1) (t : Fin 8192) (g : Fin 4) (a : Fin 128) : val_main_v90 (F := Ideal) (cube I.w) (up fun _ => I.s) (up I.d) (ix4 z t g a) = ((dpool I t.val (128 * g.val + a.val) : ℝ) : EReal) := by
  rw [val_main_v90_apply, val_main_v89_apply]
  unfold dpool
  rw [Finset.sum_range, coe_sum]
  refine Finset.sum_congr rfl fun k _ => ?_
  have e : lidx_main_v89 (idx_main_v90 (ix4 z t g a)) k = ix4 g k z t := by
    funext c; match c with | ⟨0, _⟩ => rfl | ⟨1, _⟩ => rfl | ⟨2, _⟩ => rfl | ⟨3, _⟩ => rfl
  have e' : ridx_main_v89 (idx_main_v90 (ix4 z t g a)) k = ix3 g a k := by
    funext c; match c with | ⟨0, _⟩ => rfl | ⟨1, _⟩ => rfl | ⟨2, _⟩ => rfl
  have ha := a.isLt
  rw [e, e', dmix_group, cube_ix3, ← EReal.coe_mul, show (128 * g.val + a.val) / 128 = g.val by omega, show (128 * g.val + a.val) % 128 = a.val by omega]

theorem dw_eq : val_main_v92 (F := Ideal) (up I.u) (up fun _ => I.s) (up I.d) = cube (dw I) := by
  funext y; idx_vars y
  rw [val_main_v92_apply, show idx_main_v92 (ix3 y0 y1 y2) = ix3 y0 y2 y1 by funext a; match a with | ⟨0, _⟩ => rfl | ⟨1, _⟩ => rfl | ⟨2, _⟩ => rfl]
  unfold val_main_v91
  rw [pair_dot, cube_ix3]
  unfold dw
  rw [Finset.sum_range, coe_sum]
  refine Finset.sum_congr rfl fun t _ => ?_
  rw [dmix_group, stack_eq, ← EReal.coe_mul, mul_comm]

/-! ## The gradient of the rows -/

theorem part0_eq : val_main_v94 (F := Ideal) (cube I.w) (up fun _ => I.s) (up I.d) = up3 fun _ t k => dpool I t k := by
  funext y; idx_vars y
  pointwise [val_main_v94, val_main_v93, dpool_eq]
  rw [up3_ix3]

theorem part1_eq : val_main_v96 (F := Ideal) (cube I.w) (up fun _ => I.s) (up I.d) = up3 fun _ t k => dpool I t (128 + k) := by
  funext y; idx_vars y
  pointwise [val_main_v96, val_main_v95, dpool_eq]
  rw [up3_ix3]

theorem part2_eq : val_main_v98 (F := Ideal) (cube I.w) (up fun _ => I.s) (up I.d) = up3 fun _ t k => dpool I t (256 + k) := by
  funext y; idx_vars y
  pointwise [val_main_v98, val_main_v97, dpool_eq]
  rw [up3_ix3]

theorem part3_eq : val_main_v100 (F := Ideal) (cube I.w) (up fun _ => I.s) (up I.d) = up3 fun _ t k => dpool I t (384 + k) := by
  funext y; idx_vars y
  pointwise [val_main_v100, val_main_v99, dpool_eq]
  rw [up3_ix3]

theorem count0_eq : val_main_v14 (F := Ideal) = up3 fun _ t _ => PoolValue.count 2 t := by
  funext y; idx_vars y
  pointwise [val_main_v14, val_main_v13, val_main_v12, val_main_v11, val_main_v10, val_main_v9, val_main_v5, val_main_v4, val_main_v3, val_main_c, val_main_c_1]
  exact count_host y1.val 2 y1.isLt (by decide)

theorem count1_eq : val_main_v30 (F := Ideal) = up3 fun _ t _ => PoolValue.count 4 t := by
  funext y; idx_vars y
  pointwise [val_main_v30, val_main_v29, val_main_v28, val_main_v27, val_main_v26, val_main_v25, val_main_v21, val_main_v20, val_main_v3, val_main_c_4, val_main_c_5]
  exact count_host y1.val 4 y1.isLt (by decide)

theorem count2_eq : val_main_v46 (F := Ideal) = up3 fun _ t _ => PoolValue.count 8 t := by
  funext y; idx_vars y
  pointwise [val_main_v46, val_main_v45, val_main_v44, val_main_v43, val_main_v42, val_main_v41, val_main_v37, val_main_v36, val_main_v3, val_main_c_8, val_main_c_9]
  exact count_host y1.val 8 y1.isLt (by decide)

theorem count3_eq : val_main_v62 (F := Ideal) = up3 fun _ t _ => PoolValue.count 16 t := by
  funext y; idx_vars y
  pointwise [val_main_v62, val_main_v61, val_main_v60, val_main_v59, val_main_v58, val_main_v57, val_main_v53, val_main_v52, val_main_v3, val_main_c_12, val_main_c_13]
  exact count_host y1.val 16 y1.isLt (by decide)

/-- A row's gradient over its count, less that of the row a window later. -/
def tail (n : ℕ) (f : ℕ → ℝ) (t : ℕ) : ℝ :=
  f t * (1 / PoolValue.count n t) + (if t + n < 8192 then -(f (t + n) * (1 / PoolValue.count n (t + n))) else 0)

theorem tail_point (n c t : ℕ) (hc : c + n = 8192) (hn : 0 < n) (f : ℕ → ℝ) :
    Ideal.div ((f t : ℝ) : EReal) ((PoolValue.count n t : ℝ) : EReal)
      + (if h : t < c then -Ideal.div ((f (n + t) : ℝ) : EReal) ((PoolValue.count n (n + t) : ℝ) : EReal) else (0 : EReal)) = ((tail n f t : ℝ) : EReal) := by
  unfold tail
  rw [Ideal.div_coe (count_pos n t hn).ne', Ideal.div_coe (count_pos n (n + t) hn).ne', ← EReal.coe_mul, ← EReal.coe_mul, ← EReal.coe_neg]
  by_cases h : t < c
  · rw [dif_pos h, if_pos (by omega), ← EReal.coe_add, add_comm n t, one_div, one_div]
  · rw [dif_neg h, if_neg (by omega), add_zero, add_zero, one_div]

theorem tail3_eq : val_main_v109 (F := Ideal) (cube I.w) (up fun _ => I.s) (up I.d) = up3 fun _ t k => tail 16 (fun s => dpool I s (384 + k)) t := by
  funext y; idx_vars y
  pointwise [val_main_v109, val_main_v108, val_main_v107, val_main_v105, val_main_v104, val_main_v103, part3_eq, count3_eq, val_main_cst_17]
  simp only [up3_ix3]
  exact tail_point 16 8176 y1.val rfl (by decide) fun s => dpool I s (384 + y2.val)

theorem tail2_eq : val_main_v120 (F := Ideal) (cube I.w) (up fun _ => I.s) (up I.d) = up3 fun _ t k => tail 8 (fun s => dpool I s (256 + k)) t := by
  funext y; idx_vars y
  pointwise [val_main_v120, val_main_v119, val_main_v118, val_main_v116, val_main_v115, val_main_v114, part2_eq, count2_eq, val_main_cst_20]
  simp only [up3_ix3]
  exact tail_point 8 8184 y1.val rfl (by decide) fun s => dpool I s (256 + y2.val)

theorem tail1_eq : val_main_v132 (F := Ideal) (cube I.w) (up fun _ => I.s) (up I.d) = up3 fun _ t k => tail 4 (fun s => dpool I s (128 + k)) t := by
  funext y; idx_vars y
  pointwise [val_main_v132, val_main_v131, val_main_v130, val_main_v128, val_main_v127, val_main_v126, part1_eq, count1_eq, val_main_cst_23]
  simp only [up3_ix3]
  exact tail_point 4 8188 y1.val rfl (by decide) fun s => dpool I s (128 + y2.val)

theorem tail0_eq : val_main_v144 (F := Ideal) (cube I.w) (up fun _ => I.s) (up I.d) = up3 fun _ t k => tail 2 (fun s => dpool I s k) t := by
  funext y; idx_vars y
  pointwise [val_main_v144, val_main_v143, val_main_v142, val_main_v140, val_main_v139, val_main_v138, part0_eq, count0_eq, val_main_cst_26]
  simp only [up3_ix3]
  exact tail_point 2 8190 y1.val rfl (by decide) fun s => dpool I s y2.val

/-- Four blocks of 128 columns, each padded to the whole width, add up to the row they were cut from. -/
theorem four_blocks (a b c d f : ℕ → ℝ) (j : ℕ) (hj : j < 512) (ha : j < 128 → a j = f j) (hb : ∀ k, k < 128 → b k = f (128 + k))
    (hc : ∀ k, k < 128 → c k = f (256 + k)) (hd : ∀ k, k < 128 → d k = f (384 + k)) :
    ((((if h : 384 ≤ j ∧ j - 384 < 128 then ((d (j - 384) : ℝ) : EReal) else 0)
      + if h : 256 ≤ j ∧ j - 256 < 128 then ((c (j - 256) : ℝ) : EReal) else 0)
      + if h : 128 ≤ j ∧ j - 128 < 128 then ((b (j - 128) : ℝ) : EReal) else 0)
      + if h : j < 128 then ((a j : ℝ) : EReal) else 0) = ((f j : ℝ) : EReal) := by
  by_cases h0 : j < 128
  · rw [dif_neg (by omega), dif_neg (by omega), dif_neg (by omega), dif_pos h0, ha h0, zero_add, zero_add, zero_add]
  by_cases h1 : j < 256
  · rw [dif_neg (by omega), dif_neg (by omega), dif_pos (by omega), dif_neg h0, hb _ (by omega), show 128 + (j - 128) = j by omega, zero_add, zero_add, add_zero]
  by_cases h2 : j < 384
  · rw [dif_neg (by omega), dif_pos (by omega), dif_neg (by omega), dif_neg h0, hc _ (by omega), show 256 + (j - 256) = j by omega, zero_add, add_zero, add_zero]
  · rw [dif_pos (by omega), dif_neg (by omega), dif_neg (by omega), dif_neg h0, hd _ (by omega), show 384 + (j - 384) = j by omega, add_zero, add_zero, add_zero]

theorem less_eq : val_main_v137 (F := Ideal) (cube I.w) (up fun _ => I.s) (up I.d) = up3 fun _ t j => -dpool I t j := by
  funext y; idx_vars y
  pointwise [val_main_v137, val_main_v136, val_main_v135, val_main_v125, val_main_v124, val_main_v123, val_main_v113, val_main_v112, val_main_v111, val_main_v102, val_main_v101, part0_eq, part1_eq, part2_eq, part3_eq, val_main_cst_16, val_main_cst_19, val_main_cst_22, val_main_cst_25]
  simp only [up3_ix3, ← EReal.coe_neg]
  exact four_blocks (fun k => -dpool I y1.val k) (fun k => -dpool I y1.val (128 + k)) (fun k => -dpool I y1.val (256 + k)) (fun k => -dpool I y1.val (384 + k))
    (fun j => -dpool I y1.val j) y2.val y2.isLt (fun _ => rfl) (fun _ _ => rfl) (fun _ _ => rfl) (fun _ _ => rfl)

theorem tails_eq : val_main_v146 (F := Ideal) (cube I.w) (up fun _ => I.s) (up I.d) = up3 fun _ t j => tail (span j) (fun s => dpool I s j) t := by
  funext y; idx_vars y
  pointwise [val_main_v146, val_main_v145, val_main_v134, val_main_v133, val_main_v122, val_main_v121, val_main_v110, tail0_eq, tail1_eq, tail2_eq, tail3_eq, val_main_cst_18, val_main_cst_21, val_main_cst_24, val_main_cst_27]
  simp only [up3_ix3]
  exact four_blocks (fun k => tail 2 (fun s => dpool I s k) y1.val) (fun k => tail 4 (fun s => dpool I s (128 + k)) y1.val)
    (fun k => tail 8 (fun s => dpool I s (256 + k)) y1.val) (fun k => tail 16 (fun s => dpool I s (384 + k)) y1.val)
    (fun j => tail (span j) (fun s => dpool I s j) y1.val) y2.val y2.isLt
    (fun h => by rw [span_at 0 2 _ (by omega) rfl]) (fun k h => by rw [span_at 1 4 _ (by omega) rfl])
    (fun k h => by rw [span_at 2 8 _ (by omega) rfl]) (fun k h => by rw [span_at 3 16 _ (by omega) rfl])

theorem running_eq : val_main_v147 (F := Ideal) (cube I.w) (up fun _ => I.s) (up I.d) = up3 fun _ t j => ahead (span j) (fun s => dpool I s j * (1 / PoolValue.count (span j) s)) t := by
  funext y; idx_vars y
  unfold val_main_v147 Host.reduceWindowAdd
  refine (window_rows (lo := 0) (hi := 8191) (fun _ t j => tail (span j) (fun s => dpool I s j) t) _ (tails_eq I) reduceWindows_S1x8192x512_S1x8192x512_w1s1p0_0_w8192s1p0_8191_w1s1p0_0 _ ?_ y0 y1 y2).trans ?_
  · pointwise [val_main_call1_call0_v0, val_main_call1_call0_cst]
  · rw [onFrom_window (fun s => tail (span y2.val) (fun s => dpool I s y2.val) s) y1.val y1.isLt, up3_ix3]
    exact congrArg _ (ahead_onFrom (span y2.val) (fun s => dpool I s y2.val * (1 / PoolValue.count (span y2.val) s)) y1.val y1.isLt)

theorem du_eq : val_main_v152 (F := Ideal) (cube I.w) (up fun _ => I.s) (up I.d) = up (du I) := by
  funext y; idx_vars y
  rw [val_main_v152_apply, val_main_v150_apply]
  pointwise [val_main_v148, less_eq, running_eq, val_main_cst_28]
  refine (Fin.sum_univ_one _).trans ?_
  rw [show idx_main_v150 (ix2 y0 y1) 0 = ix3 0 y0 y1 by funext a; match a with | ⟨0, _⟩ => rfl | ⟨1, _⟩ => rfl | ⟨2, _⟩ => rfl]
  rw [up3_ix3, up3_ix3, up_ix2, ← EReal.coe_add]
  unfold du spread
  rw [sub_eq_add_neg, add_comm]

end Forward
end Cert.PoolRef
-- ==== Proof.PoolClaim.lean ====
module

public import proofs.«01_k».proof.Proof.Finite
public import proofs.«01_k».proof.Proof.PoolRun
public import proofs.«01_k».proof.Proof.PoolRef
public import proofs.«01_k».proof.Proof.Gen.Pre_pool_finite

/-! The claims of the windowed pooling's two calls. -/

@[expose] public section

noncomputable section

namespace Cert.PoolClaim

open Idealize.ShloMosaic Idealize.ShloMosaic.TcCoe Idealize.SL.Sem Cert.AttnReal Cert.Finite
open Cert.PoolIdeal Cert.PoolIdeal.Gen Cert.PoolArrays

/-- A stack of matrices of finite numbers is a stack of real matrices. -/
theorem real_cube (x : S4x128x128.Idx → EReal) (p : S4x128x128.Idx → BitVec 1)
    (hp : p = fun _ => 1#1) (e : ∀ i j k, p (ix3 i j k) = below (x (ix3 i j k))) :
    ∃ f : ℕ → ℕ → ℕ → ℝ, x = cube f := by
  refine ⟨fun r s t => if h : r < 4 ∧ s < 128 ∧ t < 128 then (x (ix3 ⟨r, h.1⟩ ⟨s, h.2.1⟩ ⟨t, h.2.2⟩)).toReal else 0, funext fun i => ?_⟩
  idx_vars i
  show x (ix3 i0 i1 i2) = (((if h : i0.val < 4 ∧ i1.val < 128 ∧ i2.val < 128 then (x (ix3 ⟨i0.val, h.1⟩ ⟨i1.val, h.2.1⟩ ⟨i2.val, h.2.2⟩)).toReal else 0 : ℝ)) : EReal)
  rw [dif_pos ⟨i0.isLt, i1.isLt, i2.isLt⟩]
  exact (Cert.AttnClaim.real_of_abs _ (lt_top _ ((e i0 i1 i2).symm.trans (congrFun hp _)))).symm

theorem reals (m : (ℓ : Loc nD τ sig) → Buf (Elt Ideal) ℓ) (hpre : Cert.Pre_PoolIdeal_pool_finite m) (c : Dev nD) :
    ∃ I : Cert.PoolValue.Inputs, Cert.PoolRun.Args m c I := by
  obtain ⟨h0, h1, h2, h3⟩ := hpre c
  obtain ⟨u, hu⟩ := real_array _ _ h0 fun i j => by pointwise [Cert.Pre_pool_finite.fn]; rfl
  obtain ⟨w, hw⟩ := real_cube _ _ h1 fun i j k => by pointwise [Cert.Pre_pool_finite.fn]; rfl
  obtain ⟨s, hs⟩ := real_array _ _ h2 fun i j => by pointwise [Cert.Pre_pool_finite.fn]; rfl
  obtain ⟨d, hd⟩ := real_array _ _ h3 fun i j => by pointwise [Cert.Pre_pool_finite.fn]; rfl
  refine ⟨⟨u, w, s 0, d⟩, hu, hw, hs.trans ?_, hd⟩
  funext j
  have e : (j 0).val = 0 := Nat.lt_one_iff.mp (j 0).isLt
  unfold up
  rw [e]

theorem frame_ref : Cert.quiescent_PoolRefIdeal := fun m g _ =>
  (θ_run Cert.PoolRefIdeal.defs _ _).mono
    (fun r h => ⟨fun c => (h c).2.2.2.2, sem_eq_zero_of_no_sems (by decide) r.2⟩)
    (Cert.PoolRefIdeal.Value.run m g)

theorem algebraic : Cert.algebraic_PoolIdeal_PoolRefIdeal_pre_pool_finite := by
  intro m g m' g' hpre hagree
  choose I A using reals m hpre
  refine ⟨_, _, _, _, (θ_run Cert.PoolIdeal.defs _ _).mono (fun r h c => ⟨
    (h c _ (mem_uc main_v1_1 (by decide))).trans (Cert.PoolRun.end_ya m g (A c)),
    (h c _ (mem_uc main_v2_0 (by decide))).trans (Cert.PoolRun.end_du m g (A c)),
    (h c _ (mem_uc main_v2_1 (by decide))).trans (Cert.PoolRun.end_dw m g (A c)),
    (h c _ (mem_uc main_v2_2 (by decide))).trans (Cert.PoolRun.end_ds m g (A c)),
    (h c _ (mem_uc main_arg0 (by decide))).trans (W3_main_arg0 m g c),
    (h c _ (mem_uc main_arg1 (by decide))).trans (W3_main_arg1 m g c),
    (h c _ (mem_uc main_arg2 (by decide))).trans (W3_main_arg2 m g c),
    (h c _ (mem_uc main_arg3 (by decide))).trans (W3_main_arg3 m g c)⟩) (Cert.PoolRun.run m g), ?_⟩
  refine (θ_run Cert.PoolRefIdeal.defs _ _).mono (fun r h c => ?_) (Cert.PoolRefIdeal.Value.run m' g')
  obtain ⟨h0, h1, h2, h3, hrest⟩ := h c
  obtain ⟨a0, a1, a2, a3⟩ := hagree c
  have b0 : StableHlo.launchContents m' c (Proc.devRef .tc Cert.PoolRefIdeal.main_arg0) = _ := a0.trans (A c).u
  have b1 : StableHlo.launchContents m' c (Proc.devRef .tc Cert.PoolRefIdeal.main_arg1) = _ := a1.trans (A c).w
  have b2 : StableHlo.launchContents m' c (Proc.devRef .tc Cert.PoolRefIdeal.main_arg2) = _ := a2.trans (A c).s
  have b3 : StableHlo.launchContents m' c (Proc.devRef .tc Cert.PoolRefIdeal.main_arg3) = _ := a3.trans (A c).d
  refine ⟨h0.trans ?_, h1.trans ?_, h2.trans ?_, h3.trans ?_, hrest⟩
  · refine Eq.trans (Cert.PoolRefIdeal.Read.val_main_v151_eq ..) ?_
    rw [b0, b1, b2]
    exact Cert.PoolRef.ya_eq (I c)
  · refine Eq.trans (Cert.PoolRefIdeal.Read.val_main_v152_eq ..) ?_
    rw [b1, b2, b3]
    exact Cert.PoolRef.du_eq (I c)
  · refine Eq.trans (Cert.PoolRefIdeal.Read.val_main_v92_eq ..) ?_
    rw [b0, b2, b3]
    exact Cert.PoolRef.dw_eq (I c)
  · refine Eq.trans (Cert.PoolRefIdeal.Read.val_main_v149_eq ..) ?_
    rw [b0, b1, b3]
    exact Cert.PoolRef.ds_eq (I c)

end Cert.PoolClaim

end
-- ==== Proof.PleValue.lean ====
/- The input embedding, the loss and their gradients: plain real formulas, and the tiles' arithmetic on real tiles. -/
module

public import proofs.«01_k».proof.Proof.NormReal
public import proofs.«01_k».proof.Proof.Gen.PleIdeal.Value
public import Idealize.ShloMosaic.Lib.Pipeline.ValueKit

@[expose] public section

noncomputable section

namespace Cert.PleValue
open Cert.PleIdeal Cert.PleIdeal.Gen Cert.AttnReal Cert.NormReal
open Idealize.ShloMosaic Idealize.ShloMosaic.TcCoe

/-! ## The formulas -/

/-- The arguments: the stream `x`, the embedding `p`, the two weights, the two gains, the target. -/
structure Inputs where
  x : ℕ → ℕ → ℝ
  p : ℕ → ℕ → ℝ
  wg : ℕ → ℕ → ℝ
  wp : ℕ → ℕ → ℝ
  gp : ℕ → ℝ
  gf : ℕ → ℝ
  target : ℕ → ℕ → ℝ

variable (I : Inputs)

/-- The same from row `512 s` on. -/
def Inputs.rows (s : ℕ) : Inputs :=
  { I with x := fun t => I.x (512 * s + t), p := fun t => I.p (512 * s + t), target := fun t => I.target (512 * s + t) }

def hidden (t k : ℕ) : ℝ := unit (I.x t) k * I.gp k

def gate (t j : ℕ) : ℝ := (1 + Real.exp (-(∑ k ∈ Finset.range 1024, hidden I t k * I.wg k j)))⁻¹

def proj (t j : ℕ) : ℝ := ∑ k ∈ Finset.range 256, I.p t k * I.wp k j

/-- The stream after the gated embedding. -/
def stream (t j : ℕ) : ℝ := I.x t j + gate I t j * proj I t j

/-- The last norm's rows less the target. -/
def err (t j : ℕ) : ℝ := unit (stream I t) j * I.gf j - I.target t j

/-- The loss's derivative at the last norm's rows. -/
def slope (t j : ℕ) : ℝ := err I t j * (1 / 1024)

def dstream (t : ℕ) : ℕ → ℝ := dunit (stream I t) fun k => slope I t k * I.gf k

def dproj (t j : ℕ) : ℝ := dstream I t j * gate I t j

def dgate (t j : ℕ) : ℝ := dstream I t j * proj I t j * gate I t j * (1 - gate I t j)

def dhidden (t j : ℕ) : ℝ := ∑ k ∈ Finset.range 1024, dgate I t k * I.wg j k

def dx (t j : ℕ) : ℝ := dunit (I.x t) (fun k => dhidden I t k * I.gp k) j + dstream I t j

/-! ## Literals -/

theorem thousandth_f32 : Ideal.ofBits .f32 0x3A800000#32 = (((1 : ℝ) / 1024 : ℝ) : EReal) := by
  simp [Ideal.ofBits, Ideal.ieee, -EReal.coe_mul]
  norm_num

theorem half_thousandth_f32 : Ideal.ofBits .f32 0x3A000000#32 = (((1 : ℝ) / 2048 : ℝ) : EReal) := by
  simp [Ideal.ofBits, Ideal.ieee, -EReal.coe_mul]
  norm_num

theorem one_f32 : Ideal.ofBits .f32 0x3F800000#32 = ((1 : ℝ) : EReal) := by
  rw [Ideal.ofBits_one_f32]; rfl

/-! ## The tiles -/

theorem proj_eq : k0_pay3 (F := Ideal) (up I.p) (up I.wp) = up (proj I) := by
  funext j; idx_vars j; pointwise [k0_pay3]
  simp only [up_ix2, ← EReal.coe_mul, ← coe_sum]
  refine congrArg _ ?_
  unfold proj; rw [Finset.sum_range]

theorem gate_eq : k0_pay6 (F := Ideal) (up (hidden I)) (up I.wg) = up (gate I) := by
  funext j; idx_vars j; pointwise [k0_pay6]
  rw [Cert.Reals.sigmoid]
  simp only [up_ix2, ← EReal.coe_mul, ← coe_sum, Ideal.logistic_coe]
  refine congrArg _ ?_
  unfold gate; rw [Finset.sum_range]

theorem stream_eq : k0_pay7 (F := Ideal) (up (hidden I)) (up I.p) (up I.wg) (up I.wp) (up I.x) = up (stream I) := by
  funext j; idx_vars j; pointwise [k0_pay7, proj_eq, gate_eq]
  simp only [up_ix2, ← EReal.coe_mul, ← EReal.coe_add]; rfl

theorem mean_eq : k0_pay8 (F := Ideal) (up (hidden I)) (up I.p) (up I.wg) (up I.wp) (up I.x)
    = up fun t _ => (∑ k ∈ Finset.range 1024, stream I t k * stream I t k) * (1 / 1024) := by
  funext j; idx_vars j; pointwise [k0_pay8, stream_eq]
  simp only [up_ix2, ← EReal.coe_mul, ← coe_sum, width_f32, Ideal.ofBits_zero_f32, zero_add, div_width]
  rw [Finset.sum_range]

theorem row_mean_eq (x : ℕ → ℕ → ℝ) : k0_pay19 (F := Ideal) (up x) = up fun t _ => (∑ k ∈ Finset.range 1024, x t k * x t k) * (1 / 1024) := by
  funext j; idx_vars j; pointwise [k0_pay19]
  simp only [up_ix2, ← EReal.coe_mul, ← coe_sum, width_f32, Ideal.ofBits_zero_f32, div_width]
  rw [Finset.sum_range]

theorem eps_eq : k0_pay9 (F := Ideal) = up fun _ _ => eps := by
  funext j; idx_vars j; pointwise [k0_pay9]; exact eps_f32

theorem eps_eq' : k0_pay20 (F := Ideal) = up fun _ _ => eps := by
  funext j; idx_vars j; pointwise [k0_pay20]; exact eps_f32

theorem inv_coe (x : ℕ → ℝ) : Ideal.rsqrt (((∑ k ∈ Finset.range 1024, x k * x k) * (1 / 1024) + eps : ℝ) : EReal) = ((inv x : ℝ) : EReal) := rsqrt_ms x

/-- The mean of the squares of the rows of `x`. -/
abbrev mean (x : ℕ → ℕ → ℝ) : S512x1.Idx → EReal := up fun t _ => (∑ k ∈ Finset.range 1024, x t k * x t k) * (1 / 1024)

theorem err_eq : k0_pay10 (F := Ideal) (up I.target) (up fun _ => I.gf) (up (stream I)) (mean (stream I)) (up fun _ _ => eps) = up (err I) := by
  funext j; idx_vars j; pointwise [k0_pay10]
  simp only [mean, up_ix2, ← EReal.coe_add, inv_coe, ← EReal.coe_mul, ← EReal.coe_sub]; rfl

theorem slope_eq : k0_pay11 (F := Ideal) (up I.target) (up fun _ => I.gf) (up (stream I)) (mean (stream I)) (up fun _ _ => eps) = up (slope I) := by
  funext j; idx_vars j; pointwise [k0_pay11, err_eq]
  simp only [up_ix2, thousandth_f32, ← EReal.coe_mul]; rfl

theorem inv_eq (x : ℕ → ℕ → ℝ) : k0_pay12 (F := Ideal) (up x) = up fun t _ => inv (x t) := by
  funext j; idx_vars j; pointwise [k0_pay12]
  simp only [up_ix2, ← coe_sum, eps_f32, width_f32, ← EReal.coe_mul, div_width, ← EReal.coe_add]
  have e : (∑ k : Fin 1024, x j0.val k.val * x j0.val k.val) * (1 / 1024) + eps = ms (x j0.val) := by
    unfold ms; rw [Finset.sum_range fun k => x j0.val k * x j0.val k]
  rw [e]; exact rsqrt_ms _

theorem unit_eq (x : ℕ → ℕ → ℝ) : k0_pay13 (F := Ideal) (up x) = up fun t => unit (x t) := by
  funext j; idx_vars j; pointwise [k0_pay13, inv_eq]; simp only [up_ix2, ← EReal.coe_mul]; rfl

theorem dstream_eq : k0_pay14 (F := Ideal) (up I.target) (up fun _ => I.gf) (up (stream I)) (mean (stream I)) (up fun _ _ => eps) = up (dstream I) := by
  funext j; idx_vars j; pointwise [k0_pay14, slope_eq, inv_eq, unit_eq]
  simp only [up_ix2, ← EReal.coe_mul, ← coe_sum, width_f32, div_width, ← EReal.coe_sub]
  refine congrArg _ ?_
  unfold dstream dunit
  rw [Finset.sum_range]

theorem dfinal_eq (j : Fin 1024) :
    k0_pay15 (F := Ideal) (up I.target) (up fun _ => I.gf) (up (stream I)) (mean (stream I)) (up fun _ _ => eps) (ix2 0 j)
      = ((∑ t ∈ Finset.range 512, slope I t j.val * unit (stream I t) j.val : ℝ) : EReal) := by
  pointwise [k0_pay15, slope_eq, unit_eq]
  simp only [up_ix2, ← EReal.coe_mul, ← coe_sum]
  rw [Finset.sum_range fun t => slope I t j.val * unit (stream I t) j.val]

theorem dproj_eq : k0_pay16 (F := Ideal) (up I.target) (up fun _ => I.gf) (up (gate I)) (up (stream I)) (mean (stream I)) (up fun _ _ => eps)
    = up (dproj I) := by
  funext j; idx_vars j; pointwise [k0_pay16, dstream_eq]
  simp only [up_ix2, ← EReal.coe_mul]; rfl

theorem dgate_eq : k0_pay17 (F := Ideal) (up (proj I)) (up I.target) (up fun _ => I.gf) (up (gate I)) (up (stream I)) (mean (stream I)) (up fun _ _ => eps)
    = up (dgate I) := by
  funext j; idx_vars j; pointwise [k0_pay17, dstream_eq]
  simp only [up_ix2, ← EReal.coe_mul]; rfl

theorem dhidden_eq : k0_pay18 (F := Ideal) (up (proj I)) (up I.target) (up fun _ => I.gf) (up I.wg) (up (gate I)) (up (stream I)) (mean (stream I)) (up fun _ _ => eps)
    = up (dhidden I) := by
  funext j; idx_vars j; pointwise [k0_pay18, dgate_eq]
  simp only [up_ix2, ← EReal.coe_mul, ← coe_sum]
  refine congrArg _ ?_
  unfold dhidden; rw [Finset.sum_range]

theorem row_inv_eq (x : ℕ → ℕ → ℝ) : k0_pay21 (F := Ideal) (mean x) (up fun _ _ => eps) = up fun t _ => inv (x t) := by
  funext j; idx_vars j; pointwise [k0_pay21]
  simp only [mean, up_ix2, ← EReal.coe_add, inv_coe]

theorem row_unit_eq (x : ℕ → ℕ → ℝ) : k0_pay22 (F := Ideal) (up x) (mean x) (up fun _ _ => eps) = up fun t => unit (x t) := by
  funext j; idx_vars j; pointwise [k0_pay22, row_inv_eq]; simp only [up_ix2, ← EReal.coe_mul]; rfl

theorem dple_eq (j : Fin 1024) : k0_pay23 (F := Ideal) (up I.x) (up (dhidden I)) (mean I.x) (up fun _ _ => eps) (ix2 0 j)
    = ((∑ t ∈ Finset.range 512, dhidden I t j.val * unit (I.x t) j.val : ℝ) : EReal) := by
  pointwise [k0_pay23, row_unit_eq]
  simp only [up_ix2, ← EReal.coe_mul, ← coe_sum]
  rw [Finset.sum_range fun t => dhidden I t j.val * unit (I.x t) j.val]

theorem dx_eq : k0_pay24 (F := Ideal) (up I.x) (up fun _ => I.gp) (up (dstream I)) (up (dhidden I)) (mean I.x) (up fun _ _ => eps) = up (dx I) := by
  funext j; idx_vars j; pointwise [k0_pay24, row_inv_eq, row_unit_eq]
  simp only [up_ix2, ← EReal.coe_mul, ← coe_sum, width_f32, div_width, ← EReal.coe_sub, ← EReal.coe_add]
  refine congrArg _ ?_
  unfold dx dunit
  rw [Finset.sum_range]

theorem loss_eq (j : Fin 1024) : k0_pay25 (F := Ideal) (up (err I)) (ix2 0 j)
    = ((1 / 2048 * ∑ t ∈ Finset.range 512, err I t j.val * err I t j.val : ℝ) : EReal) := by
  pointwise [k0_pay25]
  simp only [up_ix2, ← EReal.coe_mul, ← coe_sum, half_thousandth_f32]
  rw [Finset.sum_range fun t => err I t j.val * err I t j.val]

theorem gain_same (x : S1x1024.Idx → EReal) : k0_pay4 (F := Ideal) x = x := by
  funext j; idx_vars j; pointwise [k0_pay4]

theorem weight_same (x : S1024x1024.Idx → EReal) : k0_pay5 (F := Ideal) x = x := by
  funext j; idx_vars j; pointwise [k0_pay5]

theorem add_dple (a b : S1x1024.Idx → EReal) (j : Fin 1024) : k0_pay2 (F := Ideal) a b (ix2 0 j) = b (ix2 0 j) + a (ix2 0 j) := by
  pointwise [k0_pay2]

theorem add_loss (a b : S1x1024.Idx → EReal) (j : Fin 1024) : k0_pay1 (F := Ideal) a b (ix2 0 j) = b (ix2 0 j) + a (ix2 0 j) := by
  pointwise [k0_pay1]

theorem add_dfinal (a b : S1x1024.Idx → EReal) (j : Fin 1024) : k0_pay32 (F := Ideal) a b (ix2 0 j) = b (ix2 0 j) + a (ix2 0 j) := by
  pointwise [k0_pay32]

theorem zero_dfinal (j : S1x1024.Idx) : k0_pay29 (F := Ideal) j = 0 := by pointwise [k0_pay29]

theorem zero_loss (j : S1x1024.Idx) : k0_pay30 (F := Ideal) j = 0 := by pointwise [k0_pay30]

theorem zero_dple (j : S1x1024.Idx) : k0_pay31 (F := Ideal) j = 0 := by pointwise [k0_pay31]

/-- The one over the root of the mean of the squares, as the host writes it. -/
def hostInv (x : FVec Ideal S8192x1024 .f32) : FVec Ideal S8192x1 .f32 :=
  Host.rsqrt (addf (Host.divf (broadcastInDim S8192x1 ![0] bcast_S8192_S8192x1_0
        (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32)))

/-- The rows of the stream, normalised and scaled, as the host writes them. -/
def hostRows (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (hostInv x)))
    (broadcastInDim S8192x1024 ![0, 1] bcast_S1x1024_S8192x1024_0_1 g)) bitsLt_bf16_f32

theorem hostInv_eq : hostInv (up I.x) = up fun t _ => inv (I.x t) := by
  funext j; idx_vars j; pointwise [hostInv]
  simp only [up_ix2, ← coe_sum, eps_f32, width_f32, ← EReal.coe_mul, div_width, ← EReal.coe_add]
  have e : (∑ k : Fin 1024, I.x j0.val k.val * I.x j0.val k.val) * (1 / 1024) + eps = ms (I.x j0.val) := by
    unfold ms; rw [Finset.sum_range fun k => I.x j0.val k * I.x j0.val k]
  rw [e]; exact rsqrt_ms _

theorem hostRows_eq : hostRows (up I.x) (up fun _ => I.gp) = up (hidden I) := by
  funext j; idx_vars j; pointwise [hostRows, hostInv_eq]
  simp only [up_ix2, ← EReal.coe_mul]; rfl

end Cert.PleValue
-- ==== Proof.PleArrays.lean ====
/- The seven arrays the call leaves, in plain real formulas over the whole arguments. -/
module

public import proofs.«01_k».proof.Proof.PleValue

@[expose] public section

noncomputable section

namespace Cert.PleArrays
open Cert.PleIdeal Cert.PleIdeal.Gen Cert.AttnReal Cert.NormReal Cert.PleValue
open Idealize.ShloMosaic Idealize.ShloMosaic.TcCoe

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0]
    ∧ win0_13.index t = ![0, 0] ∧ win0_14.index t = ![0, 0] ∧ win0_15.index t = ![0, 0] :=
  (by decide +kernel : ∀ t : Fin grid0.N, _)

theorem row_lt (t : Fin cfg0.N) (j : Fin 512) : 512 * t.val + j.val < 8192 := by
  have := lt_of_lt_of_eq t.isLt N_0; omega

/-- The arguments of device `c` are these arrays of reals. -/
structure Args (m : (ℓ : Loc nD τ sig) → Buf (Elt Ideal) ℓ) (c : Dev nD) (I : Inputs) : Prop where
  x : m ((c : Thread nD τ).loc main_arg0) = (up I.x : S8192x1024.Idx → EReal)
  p : m ((c : Thread nD τ).loc main_arg1) = (up I.p : S8192x256.Idx → EReal)
  wg : m ((c : Thread nD τ).loc main_arg2) = (up I.wg : S1024x1024.Idx → EReal)
  wp : m ((c : Thread nD τ).loc main_arg3) = (up I.wp : S256x1024.Idx → EReal)
  gp : m ((c : Thread nD τ).loc main_arg4) = (up (fun _ => I.gp) : S1x1024.Idx → EReal)
  gf : m ((c : Thread nD τ).loc main_arg5) = ((fun j => ((I.gf (j 0).val : ℝ) : EReal)) : S1024.Idx → EReal)
  target : m ((c : Thread nD τ).loc main_arg6) = (up I.target : S8192x1024.Idx → EReal)

variable {m : (ℓ : Loc nD τ sig) → Buf (Elt Ideal) ℓ} {c : Dev nD} {I : Inputs} (A : Args m c I)
include A

theorem block_x (t : Fin cfg0.N) : iblk m c 4 t = (up (I.rows t.val).x : S512x1024.Idx → EReal) := by
  funext j; idx_vars j
  exact .trans (by blk_point [iblk, V, idx t]) (congrFun A.x (ix2 ⟨512 * t.val + j0.val, row_lt t j0⟩ j1))

theorem block_p (t : Fin cfg0.N) : iblk m c 1 t = (up (I.rows t.val).p : S512x256.Idx → EReal) := by
  funext j; idx_vars j
  exact .trans (by blk_point [iblk, V, idx t]) (congrFun A.p (ix2 ⟨512 * t.val + j0.val, row_lt t j0⟩ j1))

theorem block_target (t : Fin cfg0.N) : iblk m c 5 t = (up (I.rows t.val).target : S512x1024.Idx → EReal) := by
  funext j; idx_vars j
  exact .trans (by blk_point [iblk, V, idx t]) (congrFun A.target (ix2 ⟨512 * t.val + j0.val, row_lt t j0⟩ j1))

theorem block_wg (t : Fin cfg0.N) : iblk m c 2 t = (up (I.rows t.val).wg : S1024x1024.Idx → EReal) := by
  funext j; idx_vars j
  exact .trans (by blk_point [iblk, V, idx t]) (congrFun A.wg (ix2 j0 j1))

theorem block_wg' (t : Fin cfg0.N) : iblk m c 8 t = (up (I.rows t.val).wg : S1024x1024.Idx → EReal) := by
  funext j; idx_vars j
  exact .trans (by blk_point [iblk, V, idx t]) (congrFun A.wg (ix2 j0 j1))

theorem block_wp (t : Fin cfg0.N) : iblk m c 3 t = (up (I.rows t.val).wp : S256x1024.Idx → EReal) := by
  funext j; idx_vars j
  exact .trans (by blk_point [iblk, V, idx t]) (congrFun A.wp (ix2 j0 j1))

theorem block_gp (t : Fin cfg0.N) : iblk m c 7 t = (up (fun _ => (I.rows t.val).gp) : S1x1024.Idx → EReal) := by
  funext j; idx_vars j
  exact .trans (by blk_point [iblk, V, idx t]) (congrFun A.gp (ix2 j0 j1))

theorem block_gf (t : Fin cfg0.N) : iblk m c 6 t = (up (fun _ => (I.rows t.val).gf) : S1x1024.Idx → EReal) := by
  funext j; idx_vars j
  exact .trans (by blk_point [iblk, V, idx t]) (congrFun A.gf (ix1 j1))

theorem block_hidden (t : Fin cfg0.N) : iblk m c 0 t = (up (hidden (I.rows t.val)) : S512x1024.Idx → EReal) := by
  funext j; idx_vars j
  have e : iblk m c 0 t (ix2 j0 j1) = V m c main_v12 (ix2 ⟨512 * t.val + j0.val, row_lt t j0⟩ j1) := by
    blk_point [iblk, idx t]
  have h : V m c main_v12 = hostRows (m ((c : Thread nD τ).loc main_arg0)) (m ((c : Thread nD τ).loc main_arg4)) := rfl
  rw [e, h, A.x, A.gp, hostRows_eq]; rfl

/-! ## The tiles -/

theorem tile_stream (t : Fin cfg0.N) : k0_pay7 (F := Ideal) (iblk m c 0 t) (iblk m c 1 t) (iblk m c 2 t) (iblk m c 3 t) (iblk m c 4 t)
    = up (stream (I.rows t.val)) := by
  rw [block_hidden A, block_p A, block_wg A, block_wp A, block_x A]; exact stream_eq _

theorem tile_mean (t : Fin cfg0.N) : k0_pay8 (F := Ideal) (iblk m c 0 t) (iblk m c 1 t) (iblk m c 2 t) (iblk m c 3 t) (iblk m c 4 t)
    = mean (stream (I.rows t.val)) := by
  rw [block_hidden A, block_p A, block_wg A, block_wp A, block_x A]; exact mean_eq _

theorem tile_gate (t : Fin cfg0.N) : k0_pay6 (F := Ideal) (iblk m c 0 t) (iblk m c 2 t) = up (gate (I.rows t.val)) := by
  rw [block_hidden A, block_wg A]; exact gate_eq _

theorem tile_proj (t : Fin cfg0.N) : k0_pay3 (F := Ideal) (iblk m c 1 t) (iblk m c 3 t) = up (proj (I.rows t.val)) := by
  rw [block_p A, block_wp A]; exact proj_eq _

theorem tile_gf (t : Fin cfg0.N) : k0_pay4 (F := Ideal) (iblk m c 6 t) = up fun _ => (I.rows t.val).gf := by
  rw [block_gf A]; exact gain_same _

/-! ## The seven arrays -/

theorem arr9 : (dats m 0 c).arrAt 9 cfg0.N = (up (dx I) : S8192x1024.Idx → EReal) := by
  refine (dats m 0 c).arrAt_eq_of_covers 9 _ (by decide +kernel) fun t _ y => ?_
  blk_simp
  rw [after0_9]
  refine .trans ?_ (up_at 512 t.val y (by blk_simp [idx t]) (by blk_simp [idx t])).symm
  by_cases h : t.val % 16 = 0
  on_goal 1 => rw [outsAt0_A m c t h]
  on_goal 2 => rw [outsAt0_B m c t h]
  all_goals
    frame_out
    rw [tile_gf A, tile_stream A, tile_mean A, tile_gate A, tile_proj A, block_target A, block_wg' A, weight_same, eps_eq,
      dstream_eq, dhidden_eq, block_x A, block_gp A, row_mean_eq, eps_eq']
    exact congrFun (dx_eq _) y

theorem arr10 : (dats m 0 c).arrAt 10 cfg0.N = (up (dx I) : S8192x1024.Idx → EReal) := by
  refine (dats m 0 c).arrAt_eq_of_covers 10 _ (by decide +kernel) fun t _ y => ?_
  blk_simp
  rw [after0_10]
  refine .trans ?_ (up_at 512 t.val y (by blk_simp [idx t]) (by blk_simp [idx t])).symm
  by_cases h : t.val % 16 = 0
  on_goal 1 => rw [outsAt0_A m c t h]
  on_goal 2 => rw [outsAt0_B m c t h]
  all_goals
    frame_out
    rw [tile_gf A, tile_stream A, tile_mean A, tile_gate A, tile_proj A, block_target A, block_wg' A, weight_same, eps_eq,
      dstream_eq, dhidden_eq, block_x A, block_gp A, row_mean_eq, eps_eq']
    exact congrFun (dx_eq _) y

theorem arr11 : (dats m 0 c).arrAt 11 cfg0.N = (up (dproj I) : S8192x1024.Idx → EReal) := by
  refine (dats m 0 c).arrAt_eq_of_covers 11 _ (by decide +kernel) fun t _ y => ?_
  blk_simp
  rw [after0_11]
  refine .trans ?_ (up_at 512 t.val y (by blk_simp [idx t]) (by blk_simp [idx t])).symm
  by_cases h : t.val % 16 = 0
  on_goal 1 => rw [outsAt0_A m c t h]
  on_goal 2 => rw [outsAt0_B m c t h]
  all_goals
    frame_out
    rw [tile_gf A, tile_stream A, tile_mean A, tile_gate A, block_target A, eps_eq]
    exact congrFun (dproj_eq _) y

theorem arr12 : (dats m 0 c).arrAt 12 cfg0.N = (up (dgate I) : S8192x1024.Idx → EReal) := by
  refine (dats m 0 c).arrAt_eq_of_covers 12 _ (by decide +kernel) fun t _ y => ?_
  blk_simp
  rw [after0_12]
  refine .trans ?_ (up_at 512 t.val y (by blk_simp [idx t]) (by blk_simp [idx t])).symm
  by_cases h : t.val % 16 = 0
  on_goal 1 => rw [outsAt0_A m c t h]
  on_goal 2 => rw [outsAt0_B m c t h]
  all_goals
    frame_out
    rw [tile_gf A, tile_stream A, tile_mean A, tile_gate A, tile_proj A, block_target A, eps_eq]
    exact congrFun (dgate_eq _) y

theorem arr13 : (dats m 0 c).arrAt 13 cfg0.N = (up (fun _ j => ∑ t ∈ Finset.range 8192, slope I t j * unit (stream I t) j) : S1x1024.Idx → EReal) := by
  refine (dats m 0 c).arrAt_eq_of_after_last 13 t0_15 (by decide +kernel) _ fun j => ?_
  blk_simp
  obtain ⟨j1, rfl⟩ := one_row j
  rw [after0_13, Pipeline.eq_sum_fin_of_reset_step_apply_last (fun n h => (outsAt0 m c n h).2.2.2.2.1) 16 (fun _ => 0)
    (fun (t : Fin cfg0.N) (j : S1x1024.Idx) => ((∑ a ∈ Finset.range 512, slope (I.rows t.val) a (j 1).val * unit (stream (I.rows t.val) a) (j 1).val : ℝ) : EReal))
    (fun t h j => by
      obtain ⟨j1, rfl⟩ := one_row j
      rw [outsAt0_A m c t h]; frame_out
      rw [add_dfinal, tile_gf A, tile_stream A, tile_mean A, block_target A, eps_eq, dfinal_eq, zero_dfinal]; rfl)
    (fun t h j => by
      obtain ⟨j1, rfl⟩ := one_row j
      rw [outsAt0_B m c t h]; frame_out
      rw [add_dfinal, tile_gf A, tile_stream A, tile_mean A, block_target A, eps_eq, dfinal_eq]; rfl)
    (le_of_eq N_0) t0_15 rfl _, zero_add]
  exact sum_points 512 16 (fun t => slope I t j1.val * unit (stream I t) j1.val) _ fun s a => rfl

theorem arr14 : (dats m 0 c).arrAt 14 cfg0.N = (up (fun _ j => ∑ t ∈ Finset.range 8192, 1 / 2048 * (err I t j * err I t j)) : S1x1024.Idx → EReal) := by
  refine (dats m 0 c).arrAt_eq_of_after_last 14 t0_15 (by decide +kernel) _ fun j => ?_
  blk_simp
  obtain ⟨j1, rfl⟩ := one_row j
  rw [after0_14, Pipeline.eq_sum_fin_of_reset_step_apply_last (fun n h => (outsAt0 m c n h).2.2.2.2.2.1) 16 (fun _ => 0)
    (fun (t : Fin cfg0.N) (j : S1x1024.Idx) => ((∑ a ∈ Finset.range 512, 1 / 2048 * (err (I.rows t.val) a (j 1).val * err (I.rows t.val) a (j 1).val) : ℝ) : EReal))
    (fun t h j => by
      obtain ⟨j1, rfl⟩ := one_row j
      rw [outsAt0_A m c t h]; frame_out
      rw [add_loss, tile_gf A, tile_stream A, tile_mean A, block_target A, eps_eq, err_eq, loss_eq, zero_loss, Finset.mul_sum]; rfl)
    (fun t h j => by
      obtain ⟨j1, rfl⟩ := one_row j
      rw [outsAt0_B m c t h]; frame_out
      rw [add_loss, tile_gf A, tile_stream A, tile_mean A, block_target A, eps_eq, err_eq, loss_eq, Finset.mul_sum]; rfl)
    (le_of_eq N_0) t0_15 rfl _, zero_add]
  exact sum_points 512 16 (fun t => 1 / 2048 * (err I t j1.val * err I t j1.val)) _ fun s a => rfl

theorem arr15 : (dats m 0 c).arrAt 15 cfg0.N = (up (fun _ j => ∑ t ∈ Finset.range 8192, dhidden I t j * unit (I.x t) j) : S1x1024.Idx → EReal) := by
  refine (dats m 0 c).arrAt_eq_of_after_last 15 t0_15 (by decide +kernel) _ fun j => ?_
  blk_simp
  obtain ⟨j1, rfl⟩ := one_row j
  rw [after0_15, Pipeline.eq_sum_fin_of_reset_step_apply_last (fun n h => (outsAt0 m c n h).2.2.2.2.2.2) 16 (fun _ => 0)
    (fun (t : Fin cfg0.N) (j : S1x1024.Idx) => ((∑ a ∈ Finset.range 512, dhidden (I.rows t.val) a (j 1).val * unit ((I.rows t.val).x a) (j 1).val : ℝ) : EReal))
    (fun t h j => by
      obtain ⟨j1, rfl⟩ := one_row j
      rw [outsAt0_A m c t h]; frame_out
      rw [add_dple, tile_gf A, tile_stream A, tile_mean A, tile_gate A, tile_proj A, block_target A, block_wg' A, weight_same, eps_eq,
        dhidden_eq, block_x A, row_mean_eq, eps_eq', dple_eq, zero_dple]; rfl)
    (fun t h j => by
      obtain ⟨j1, rfl⟩ := one_row j
      rw [outsAt0_B m c t h]; frame_out
      rw [add_dple, tile_gf A, tile_stream A, tile_mean A, tile_gate A, tile_proj A, block_target A, block_wg' A, weight_same, eps_eq,
        dhidden_eq, block_x A, row_mean_eq, eps_eq', dple_eq]; rfl)
    (le_of_eq N_0) t0_15 rfl _, zero_add]
  exact sum_points 512 16 (fun t => dhidden I t j1.val * unit (I.x t) j1.val) _ fun s a => rfl

end Cert.PleArrays
-- ==== Proof.PleRef.lean ====
/- The reference of the embedding, the loss and their gradients, in plain real formulas. -/
module

public import proofs.«01_k».proof.Proof.PleValue
public import proofs.«01_k».proof.Proof.Gen.PleRefIdeal.Read

@[expose] public section

noncomputable section

namespace Cert.PleRef
open Cert.PleRefIdeal Cert.PleRefIdeal.Gen Cert.PleRefIdeal.Read Cert.AttnReal Cert.NormReal
open Cert.PleValue (Inputs hidden gate proj stream err slope dstream dproj dgate dhidden dx one_f32)
open Idealize.ShloMosaic Idealize.ShloMosaic.TcCoe

variable (I : Inputs)

/-- The last gain, a row of numbers. -/
abbrev row (g : ℕ → ℝ) : S1024.Idx → EReal := fun j => ((g (j 0).val : ℝ) : EReal)

theorem two_f32 : Ideal.ofBits .f32 0x40000000#32 = ((2 : ℝ) : EReal) := by
  simp [Ideal.ofBits, Ideal.ieee, -EReal.coe_mul]
  norm_num

theorem zeros_eq : val_main_v0 (F := Ideal) = up fun _ _ => 0 := by
  funext j; idx_vars j; pointwise [val_main_v0, val_main_cst]; simp only [up_ix2, EReal.coe_zero]

theorem ms_eq : val_main_v8 (F := Ideal) (up I.x) = up fun t _ => ms (I.x t) := by
  funext j; idx_vars j; pointwise [val_main_v8, val_main_v7, val_main_cst_2, val_main_v6, val_main_v5, val_main_cst_1, val_main_v4, val_main_v3, val_main_v2, val_main_cst_0]
  simp only [up_ix2, ← EReal.coe_mul, ← coe_sum, eps_f32, width_f32, Ideal.ofBits_zero_f32, div_width, ← EReal.coe_add]
  refine congrArg _ ?_
  unfold ms; rw [Finset.sum_range fun k => I.x j0.val k * I.x j0.val k]

theorem inv_eq : val_main_v9 (F := Ideal) (up I.x) = up fun t _ => inv (I.x t) := by
  funext j; idx_vars j; pointwise [val_main_v9, ms_eq]
  exact rsqrt_ms _

theorem bend_eq : val_main_v12 (F := Ideal) (up I.x) = up fun t _ => -1 / 2 * (inv (I.x t) * (1 / ms (I.x t))) := by
  funext j; idx_vars j; pointwise [val_main_v12, val_main_v11, val_main_cst_3, val_main_v10, ms_eq, inv_eq]
  simp only [up_ix2, neg_half_f32, div_ms, ← EReal.coe_mul]

theorem unit_eq : val_main_v14 (F := Ideal) (up I.x) = up fun t => unit (I.x t) := by
  funext j; idx_vars j; pointwise [val_main_v14, val_main_v13, inv_eq]
  simp only [up_ix2, ← EReal.coe_mul]; rfl

theorem hidden_eq : val_main_v17 (F := Ideal) (up I.x) (up fun _ => I.gp) = up (hidden I) := by
  funext j; idx_vars j; pointwise [val_main_v17, val_main_v16, val_main_v15, val_main_v1, unit_eq]
  simp only [up_ix2, ← EReal.coe_mul]; rfl

theorem gate_eq : val_main_v25 (F := Ideal) (up I.x) (up I.wg) (up fun _ => I.gp) = up (gate I) := by
  funext j; idx_vars j
  pointwise [val_main_v25, val_main_v24, val_main_cst_5, val_main_v23, val_main_v22, val_main_cst_4, val_main_v21, val_main_v20, val_main_v19, val_main_v18, zeros_eq, hidden_eq]
  simp only [up_ix2, ← EReal.coe_mul, ← coe_sum, ← EReal.coe_add, add_zero, ← EReal.coe_neg, Ideal.exp_coe]
  rw [← EReal.coe_one, ← EReal.coe_add, Ideal.div_coe (by positivity)]
  rw [← EReal.coe_mul]
  refine congrArg _ ?_
  unfold gate; rw [Finset.sum_range, one_mul, one_div]

theorem gate_bend_eq : val_main_v28 (F := Ideal) (up I.x) (up I.wg) (up fun _ => I.gp) = up fun t j => gate I t j * (1 - gate I t j) := by
  funext j; idx_vars j
  pointwise [val_main_v28, val_main_v27, val_main_v26, val_main_cst_6, gate_eq]
  simp only [up_ix2, ← EReal.coe_one, ← EReal.coe_sub, ← EReal.coe_mul]

theorem proj_eq : val_main_v30 (F := Ideal) (up I.p) (up I.wp) = up (proj I) := by
  funext j; idx_vars j
  pointwise [val_main_v30, val_main_v29, zeros_eq]
  simp only [up_ix2, ← EReal.coe_mul, ← coe_sum, ← EReal.coe_add, add_zero]
  refine congrArg _ ?_
  unfold proj; rw [Finset.sum_range]

theorem stream_eq : val_main_v32 (F := Ideal) (up I.x) (up I.p) (up I.wg) (up I.wp) (up fun _ => I.gp) = up (stream I) := by
  funext j; idx_vars j
  pointwise [val_main_v32, val_main_v31, gate_eq, proj_eq]
  simp only [up_ix2, ← EReal.coe_mul, ← EReal.coe_add]; rfl

theorem stream_ms_eq : val_main_v39 (F := Ideal) (up I.x) (up I.p) (up I.wg) (up I.wp) (up fun _ => I.gp) = up fun t _ => ms (stream I t) := by
  funext j; idx_vars j; pointwise [val_main_v39, val_main_v38, val_main_cst_9, val_main_v37, val_main_v36, val_main_cst_8, val_main_v35, val_main_v34, val_main_v33, val_main_cst_7, stream_eq]
  simp only [up_ix2, ← EReal.coe_mul, ← coe_sum, eps_f32, width_f32, div_width, ← EReal.coe_add]
  refine congrArg _ ?_
  unfold ms; rw [Finset.sum_range fun k => stream I j0.val k * stream I j0.val k]

theorem stream_inv_eq : val_main_v40 (F := Ideal) (up I.x) (up I.p) (up I.wg) (up I.wp) (up fun _ => I.gp) = up fun t _ => inv (stream I t) := by
  funext j; idx_vars j; pointwise [val_main_v40, stream_ms_eq]
  exact rsqrt_ms _

theorem stream_bend_eq : val_main_v43 (F := Ideal) (up I.x) (up I.p) (up I.wg) (up I.wp) (up fun _ => I.gp)
    = up fun t _ => -1 / 2 * (inv (stream I t) * (1 / ms (stream I t))) := by
  funext j; idx_vars j; pointwise [val_main_v43, val_main_v42, val_main_cst_10, val_main_v41, stream_ms_eq, stream_inv_eq]
  simp only [up_ix2, neg_half_f32, div_ms, ← EReal.coe_mul]

theorem stream_unit_eq : val_main_v45 (F := Ideal) (up I.x) (up I.p) (up I.wg) (up I.wp) (up fun _ => I.gp) = up fun t => unit (stream I t) := by
  funext j; idx_vars j; pointwise [val_main_v45, val_main_v44, stream_eq, stream_inv_eq]
  simp only [up_ix2, ← EReal.coe_mul]; rfl

theorem err_eq : val_main_v49 (F := Ideal) (up I.x) (up I.p) (up I.wg) (up I.wp) (up fun _ => I.gp) (row I.gf) (up I.target) = up (err I) := by
  funext j; idx_vars j; pointwise [val_main_v49, val_main_v48, val_main_v47, val_main_v46, stream_unit_eq]
  simp only [up_ix2, ← EReal.coe_mul, ← EReal.coe_sub]; rfl

theorem slope_eq : val_main_v64 (F := Ideal) (up I.x) (up I.p) (up I.wg) (up I.wp) (up fun _ => I.gp) (row I.gf) (up I.target) = up (slope I) := by
  funext j; idx_vars j
  pointwise [val_main_v64, val_main_v63, val_main_v62, val_main_cst_17, val_main_v61, val_main_v60, val_main_v59, val_main_cst_16, val_main_v58, val_main_cst_15,
    val_main_v52, val_main_v51, val_main_cst_11, err_eq]
  simp only [up_ix2, width_f32, two_f32, Cert.Reals.half_f32, ← EReal.coe_mul, div_width]
  refine congrArg _ ?_
  unfold PleValue.slope; ring

theorem scaled_eq : val_main_v69 (F := Ideal) (up I.x) (up I.p) (up I.wg) (up I.wp) (up fun _ => I.gp) (row I.gf) (up I.target)
    = up fun t j => slope I t j * I.gf j := by
  funext j; idx_vars j
  pointwise [val_main_v69, val_main_v68, val_main_v46, slope_eq]
  simp only [up_ix2, ← EReal.coe_mul]; rfl

theorem total_eq : val_main_v73 (F := Ideal) (up I.x) (up I.p) (up I.wg) (up I.wp) (up fun _ => I.gp) (row I.gf) (up I.target)
    = up fun t _ => ∑ i ∈ Finset.range 1024, stream I t i * (slope I t i * I.gf i) := by
  funext j; idx_vars j
  pointwise [val_main_v73, val_main_v72, val_main_v71, val_main_cst_20, scaled_eq, stream_eq]
  simp only [up_ix2, ← EReal.coe_mul, ← coe_sum]
  rw [Finset.sum_range]

theorem dstream_eq : val_main_v84 (F := Ideal) (up I.x) (up I.p) (up I.wg) (up I.wp) (up fun _ => I.gp) (row I.gf) (up I.target) = up (dstream I) := by
  funext j; idx_vars j
  pointwise [val_main_v84, val_main_v83, val_main_v82, val_main_v81, val_main_v80, val_main_v79, val_main_v78, val_main_v77, val_main_cst_21, val_main_cst_22,
    val_main_v76, val_main_v75, val_main_v74, scaled_eq, total_eq, stream_eq, stream_inv_eq, stream_bend_eq]
  simp only [up_ix2, ← EReal.coe_mul, width_f32, div_width, Finset.univ_unique, Finset.sum_singleton, ← EReal.coe_add]
  refine congrArg _ ?_
  unfold dstream
  rw [dunit_eq]
  ring

theorem dproj_eq : val_main_v85 (F := Ideal) (up I.x) (up I.p) (up I.wg) (up I.wp) (up fun _ => I.gp) (row I.gf) (up I.target) = up (dproj I) := by
  funext j; idx_vars j
  pointwise [val_main_v85, gate_eq, dstream_eq]
  simp only [up_ix2, ← EReal.coe_mul]
  rw [mul_comm]; rfl

theorem dgate_eq : val_main_v87 (F := Ideal) (up I.x) (up I.p) (up I.wg) (up I.wp) (up fun _ => I.gp) (row I.gf) (up I.target) = up (dgate I) := by
  funext j; idx_vars j
  pointwise [val_main_v87, val_main_v86, proj_eq, gate_bend_eq, dstream_eq]
  simp only [up_ix2, ← EReal.coe_mul]
  refine congrArg _ ?_
  unfold dgate; ring

theorem dhidden_eq : val_main_v88 (F := Ideal) (up I.x) (up I.p) (up I.wg) (up I.wp) (up fun _ => I.gp) (row I.gf) (up I.target) = up (dhidden I) := by
  funext j; idx_vars j
  pointwise [val_main_v88, dgate_eq]
  simp only [up_ix2, ← EReal.coe_mul, ← coe_sum]
  refine congrArg _ ?_
  unfold dhidden; rw [Finset.sum_range]

theorem dscaled_eq : val_main_v93 (F := Ideal) (up I.x) (up I.p) (up I.wg) (up I.wp) (up fun _ => I.gp) (row I.gf) (up I.target)
    = up fun t j => dhidden I t j * I.gp j := by
  funext j; idx_vars j
  pointwise [val_main_v93, val_main_v92, val_main_v15, val_main_v1, dhidden_eq]
  simp only [up_ix2, ← EReal.coe_mul]

theorem dtotal_eq : val_main_v97 (F := Ideal) (up I.x) (up I.p) (up I.wg) (up I.wp) (up fun _ => I.gp) (row I.gf) (up I.target)
    = up fun t _ => ∑ i ∈ Finset.range 1024, I.x t i * (dhidden I t i * I.gp i) := by
  funext j; idx_vars j
  pointwise [val_main_v97, val_main_v96, val_main_v95, val_main_cst_25, dscaled_eq]
  simp only [up_ix2, ← EReal.coe_mul, ← coe_sum]
  rw [Finset.sum_range]

theorem dx_eq : val_main_v109 (F := Ideal) (up I.x) (up I.p) (up I.wg) (up I.wp) (up fun _ => I.gp) (row I.gf) (up I.target) = up (dx I) := by
  funext j; idx_vars j
  pointwise [val_main_v109, val_main_v108, val_main_v107, val_main_v106, val_main_v105, val_main_v104, val_main_v103, val_main_v102, val_main_cst_26, val_main_cst_27,
    val_main_v101, val_main_v100, val_main_v99, val_main_v98, dstream_eq, dscaled_eq, dtotal_eq, inv_eq, bend_eq]
  simp only [up_ix2, ← EReal.coe_mul, width_f32, div_width, Finset.univ_unique, Finset.sum_singleton, ← EReal.coe_add]
  refine congrArg _ ?_
  unfold dx
  rw [dunit_eq]
  ring

theorem zero_literal : (FloatOps.ofBits (F := Ideal) .f32 0x00000000#32 : EReal) = 0 := Ideal.ofBits_zero_f32

theorem dfinal_column (i : S1024.Idx) : val_main_v66 (F := Ideal) (up I.x) (up I.p) (up I.wg) (up I.wp) (up fun _ => I.gp) (row I.gf) (up I.target) i
    = ((∑ t ∈ Finset.range 8192, slope I t (i 0).val * unit (stream I t) (i 0).val : ℝ) : EReal) := by
  rw [val_main_v66_apply, Finset.sum_range, coe_sum, val_main_cst_18_apply, zero_literal, zero_add]
  refine Finset.sum_congr rfl fun t _ => ?_
  rw [val_main_v65_apply, stream_unit_eq, slope_eq, mul_comm, EReal.coe_mul]
  rfl

theorem dfinal_eq : val_main_v114 (F := Ideal) (up I.x) (up I.p) (up I.wg) (up I.wp) (up fun _ => I.gp) (row I.gf) (up I.target)
    = up fun _ j => ∑ t ∈ Finset.range 8192, slope I t j * unit (stream I t) j := by
  funext j; idx_vars j
  pointwise [val_main_v114, val_main_v70, val_main_cst_19, val_main_v67, dfinal_column]
  simp only [Finset.univ_unique, Finset.sum_singleton]
  rfl

theorem dple_column (i : S1024.Idx) : val_main_v90 (F := Ideal) (up I.x) (up I.p) (up I.wg) (up I.wp) (up fun _ => I.gp) (row I.gf) (up I.target) i
    = ((∑ t ∈ Finset.range 8192, dhidden I t (i 0).val * unit (I.x t) (i 0).val : ℝ) : EReal) := by
  rw [val_main_v90_apply, Finset.sum_range, coe_sum, val_main_cst_23_apply, zero_literal, zero_add]
  refine Finset.sum_congr rfl fun t _ => ?_
  rw [val_main_v89_apply, unit_eq, dhidden_eq, mul_comm, EReal.coe_mul]
  rfl

theorem dple_eq : val_main_v110 (F := Ideal) (up I.x) (up I.p) (up I.wg) (up I.wp) (up fun _ => I.gp) (row I.gf) (up I.target)
    = up fun _ j => ∑ t ∈ Finset.range 8192, dhidden I t j * unit (I.x t) j := by
  funext j; idx_vars j
  pointwise [val_main_v110, val_main_v94, val_main_cst_24, val_main_v91, dple_column]
  simp only [Finset.univ_unique, Finset.sum_singleton]
  rfl

theorem loss_column (i : S1024.Idx) : val_main_v55 (F := Ideal) (up I.x) (up I.p) (up I.wg) (up I.wp) (up fun _ => I.gp) (row I.gf) (up I.target) i
    = ((∑ t ∈ Finset.range 8192, err I t (i 0).val * err I t (i 0).val * (1 / 1024) : ℝ) : EReal) := by
  rw [val_main_v55_apply, Finset.sum_range, coe_sum, val_main_cst_13_apply, zero_literal, zero_add]
  refine Finset.sum_congr rfl fun t _ => ?_
  have e : val_main_v50 (F := Ideal) (up I.x) (up I.p) (up I.wg) (up I.wp) (up fun _ => I.gp) (row I.gf) (up I.target) = up fun t j => err I t j * err I t j := by
    funext j; idx_vars j
    pointwise [val_main_v50, err_eq]
    simp only [up_ix2, ← EReal.coe_mul]
  rw [val_main_v54_apply, e, val_main_v53_apply, val_main_cst_12_apply]
  show Ideal.div ((err I t.val (i 0).val * err I t.val (i 0).val : ℝ) : EReal) (Ideal.ofBits .f32 0x44800000#32) = _
  rw [width_f32, div_width]

theorem loss_eq : val_main_v115 (F := Ideal) (up I.x) (up I.p) (up I.wg) (up I.wp) (up fun _ => I.gp) (row I.gf) (up I.target)
    = up fun _ j => ∑ t ∈ Finset.range 8192, 1 / 2048 * (err I t j * err I t j) := by
  funext j; idx_vars j
  pointwise [val_main_v115, val_main_v57, val_main_v56, val_main_cst_14, loss_column]
  rw [Cert.Reals.half_f32, ← EReal.coe_mul, Finset.mul_sum]
  refine congrArg _ (Finset.sum_congr rfl fun t _ => ?_)
  show 1 / 2 * (err I t j1.val * err I t j1.val * (1 / 1024)) = 1 / 2048 * (err I t j1.val * err I t j1.val)
  ring

theorem dx_cast_eq : val_main_v111 (F := Ideal) (up I.x) (up I.p) (up I.wg) (up I.wp) (up fun _ => I.gp) (row I.gf) (up I.target) = up (dx I) := by
  funext j; idx_vars j; pointwise [val_main_v111, dx_eq]

theorem dproj_cast_eq : val_main_v112 (F := Ideal) (up I.x) (up I.p) (up I.wg) (up I.wp) (up fun _ => I.gp) (row I.gf) (up I.target) = up (dproj I) := by
  funext j; idx_vars j; pointwise [val_main_v112, dproj_eq]

theorem dgate_cast_eq : val_main_v113 (F := Ideal) (up I.x) (up I.p) (up I.wg) (up I.wp) (up fun _ => I.gp) (row I.gf) (up I.target) = up (dgate I) := by
  funext j; idx_vars j; pointwise [val_main_v113, dgate_eq]

end Cert.PleRef
-- ==== Proof.PleClaim.lean ====
module

public import proofs.«01_k».proof.Proof.Finite
public import proofs.«01_k».proof.Proof.PleArrays
public import proofs.«01_k».proof.Proof.PleRef
public import proofs.«01_k».proof.Proof.Gen.Pre_ple_finite

/-! The claims of the embedding's and the loss's call. -/

@[expose] public section

noncomputable section

namespace Cert.PleClaim

open Idealize.ShloMosaic Idealize.ShloMosaic.TcCoe Idealize.SL.Sem Cert.AttnReal Cert.Finite
open Cert.PleIdeal

theorem reals (m : (ℓ : Loc nD τ sig) → Buf (Elt Ideal) ℓ) (hpre : Cert.Pre_PleIdeal_ple_finite m) (c : Dev nD) :
    ∃ I : Cert.PleValue.Inputs, Cert.PleArrays.Args m c I := by
  obtain ⟨h0, h1, h2, h3, h4, h5, h6⟩ := hpre c
  obtain ⟨x, hx⟩ := real_array _ _ h0 fun i j => by pointwise [Cert.Pre_ple_finite.fn, Cert.Pre_ple_finite.fn_part1]; rfl
  obtain ⟨p, hp⟩ := real_array _ _ h1 fun i j => by pointwise [Cert.Pre_ple_finite.fn, Cert.Pre_ple_finite.fn_part1]; rfl
  obtain ⟨wg, hwg⟩ := real_array _ _ h2 fun i j => by pointwise [Cert.Pre_ple_finite.fn, Cert.Pre_ple_finite.fn_part1]; rfl
  obtain ⟨wp, hwp⟩ := real_array _ _ h3 fun i j => by pointwise [Cert.Pre_ple_finite.fn, Cert.Pre_ple_finite.fn_part1]; rfl
  obtain ⟨gp, hgp⟩ := real_array _ _ h4 fun i j => by pointwise [Cert.Pre_ple_finite.fn, Cert.Pre_ple_finite.fn_part1]; rfl
  obtain ⟨gf, hgf⟩ := real_row _ _ h5 fun i => by pointwise [Cert.Pre_ple_finite.fn, Cert.Pre_ple_finite.fn_part1]; rfl
  obtain ⟨target, ht⟩ := real_array _ _ h6 fun i j => by pointwise [Cert.Pre_ple_finite.fn, Cert.Pre_ple_finite.fn_part1]; rfl
  refine ⟨⟨x, p, wg, wp, gp 0, gf, target⟩, hx, hp, hwg, hwp, hgp.trans ?_, hgf, ht⟩
  funext j
  have e : (j 0).val = 0 := Nat.lt_one_iff.mp (j 0).isLt
  unfold up
  rw [e]

theorem frame_ref : Cert.quiescent_PleRefIdeal := fun m g _ =>
  (θ_run Cert.PleRefIdeal.defs _ _).mono
    (fun r h => ⟨fun c => (h c).2.2.2.2.2.2.2, sem_eq_zero_of_no_sems (by decide) r.2⟩)
    (Cert.PleRefIdeal.Value.run m g)

theorem algebraic : Cert.algebraic_PleIdeal_PleRefIdeal_pre_ple_finite := by
  intro m g m' g' hpre hagree
  choose I A using reals m hpre
  refine ⟨_, _, _, _, _, _, _, (θ_run Cert.PleIdeal.defs _ _).mono (fun r h c => ⟨(h c).1.trans (Cert.PleArrays.arr9 (A c)),
    (h c).2.1.trans (Cert.PleArrays.arr10 (A c)), (h c).2.2.1.trans (Cert.PleArrays.arr11 (A c)), (h c).2.2.2.1.trans (Cert.PleArrays.arr12 (A c)),
    (h c).2.2.2.2.1.trans (Cert.PleArrays.arr13 (A c)), (h c).2.2.2.2.2.1.trans (Cert.PleArrays.arr14 (A c)),
    (h c).2.2.2.2.2.2.1.trans (Cert.PleArrays.arr15 (A c)), (h c).2.2.2.2.2.2.2⟩) (Cert.PleIdeal.Value.run_blocks m g), ?_⟩
  refine (θ_run Cert.PleRefIdeal.defs _ _).mono (fun r h c => ?_) (Cert.PleRefIdeal.Value.run m' g')
  obtain ⟨h0, h1, h2, h3, h4, h5, h6, hrest⟩ := h c
  obtain ⟨a0, a1, a2, a3, a4, a5, a6⟩ := hagree c
  have b0 : StableHlo.launchContents m' c (Proc.devRef .tc Cert.PleRefIdeal.main_arg0) = _ := a0.trans (A c).x
  have b1 : StableHlo.launchContents m' c (Proc.devRef .tc Cert.PleRefIdeal.main_arg1) = _ := a1.trans (A c).p
  have b2 : StableHlo.launchContents m' c (Proc.devRef .tc Cert.PleRefIdeal.main_arg2) = _ := a2.trans (A c).wg
  have b3 : StableHlo.launchContents m' c (Proc.devRef .tc Cert.PleRefIdeal.main_arg3) = _ := a3.trans (A c).wp
  have b4 : StableHlo.launchContents m' c (Proc.devRef .tc Cert.PleRefIdeal.main_arg4) = _ := a4.trans (A c).gp
  have b5 : StableHlo.launchContents m' c (Proc.devRef .tc Cert.PleRefIdeal.main_arg5) = _ := a5.trans (A c).gf
  have b6 : StableHlo.launchContents m' c (Proc.devRef .tc Cert.PleRefIdeal.main_arg6) = _ := a6.trans (A c).target
  refine ⟨h0.trans ?_, h1.trans ?_, h2.trans ?_, h3.trans ?_, h4.trans ?_, h5.trans ?_, h6.trans ?_, hrest⟩
  · refine Eq.trans (Cert.PleRefIdeal.Read.val_main_v109_eq ..) ?_
    rw [b0, b1, b2, b3, b4, b5, b6]
    exact Cert.PleRef.dx_eq (I c)
  · refine Eq.trans (Cert.PleRefIdeal.Read.val_main_v111_eq ..) ?_
    rw [b0, b1, b2, b3, b4, b5, b6]
    exact Cert.PleRef.dx_cast_eq (I c)
  · refine Eq.trans (Cert.PleRefIdeal.Read.val_main_v112_eq ..) ?_
    rw [b0, b1, b2, b3, b4, b5, b6]
    exact Cert.PleRef.dproj_cast_eq (I c)
  · refine Eq.trans (Cert.PleRefIdeal.Read.val_main_v113_eq ..) ?_
    rw [b0, b1, b2, b3, b4, b5, b6]
    exact Cert.PleRef.dgate_cast_eq (I c)
  · refine Eq.trans (Cert.PleRefIdeal.Read.val_main_v114_eq ..) ?_
    rw [b0, b1, b2, b3, b4, b5, b6]
    exact Cert.PleRef.dfinal_eq (I c)
  · refine Eq.trans (Cert.PleRefIdeal.Read.val_main_v115_eq ..) ?_
    rw [b0, b1, b2, b3, b4, b5, b6]
    exact Cert.PleRef.loss_eq (I c)
  · refine Eq.trans (Cert.PleRefIdeal.Read.val_main_v110_eq ..) ?_
    rw [b0, b1, b2, b3, b4, b5, b6]
    exact Cert.PleRef.dple_eq (I c)

end Cert.PleClaim

end
-- ==== Proof.FfnValue.lean ====
/- The gated two-layer map and its gradient: plain real formulas, and the tiles' arithmetic on real tiles. -/
module

public import proofs.«01_k».proof.Proof.NormReal
public import proofs.«01_k».proof.Proof.Gen.FfnIdeal.Frame
public import Idealize.ShloMosaic.Lib.Pipeline.ValueKit

@[expose] public section

noncomputable section

namespace Cert.FfnValue
open Cert.FfnIdeal Cert.FfnIdeal.Gen Cert.AttnReal Cert.NormReal
open Idealize.ShloMosaic Idealize.ShloMosaic.TcCoe

/-! ## The formulas -/

/-- The arguments: the stream `x`, the gain before, the three weights, the gain after, the cotangent `dy`. -/
structure Inputs where
  x : ℕ → ℕ → ℝ
  gf : ℕ → ℝ
  wg : ℕ → ℕ → ℝ
  wu : ℕ → ℕ → ℝ
  wd : ℕ → ℕ → ℝ
  gp : ℕ → ℝ
  dy : ℕ → ℕ → ℝ

variable (I : Inputs)

/-- The same from row `256 s` on. -/
def Inputs.rows (s : ℕ) : Inputs := { I with x := fun t => I.x (256 * s + t), dy := fun t => I.dy (256 * s + t) }

def hidden (t k : ℕ) : ℝ := unit (I.x t) k * I.gf k

def gate (t j : ℕ) : ℝ := ∑ k ∈ Finset.range 1024, hidden I t k * I.wg k j

def lift (t j : ℕ) : ℝ := ∑ k ∈ Finset.range 1024, hidden I t k * I.wu k j

/-- The logistic function of the gate. -/
def sig (t j : ℕ) : ℝ := (1 + Real.exp (-gate I t j))⁻¹

def act (t j : ℕ) : ℝ := gate I t j * sig I t j * lift I t j

/-- The stream after the map. -/
def out (t j : ℕ) : ℝ := I.x t j + ∑ k ∈ Finset.range 2816, act I t k * I.wd k j

/-- The next norm's rows. -/
def next (t j : ℕ) : ℝ := unit (out I t) j * I.gp j

def dact (t k : ℕ) : ℝ := ∑ j ∈ Finset.range 1024, I.dy t j * I.wd k j

def dgate (t j : ℕ) : ℝ := dact I t j * lift I t j * (sig I t j * (1 + gate I t j * (1 - sig I t j)))

def dlift (t j : ℕ) : ℝ := dact I t j * (gate I t j * sig I t j)

def dhidden (t j : ℕ) : ℝ := (∑ k ∈ Finset.range 2816, dgate I t k * I.wg j k) + ∑ k ∈ Finset.range 2816, dlift I t k * I.wu j k

def dx (t j : ℕ) : ℝ := dunit (I.x t) (fun k => dhidden I t k * I.gf k) j + I.dy t j

theorem one_f32 : Ideal.ofBits .f32 0x3F800000#32 = ((1 : ℝ) : EReal) := by
  rw [Ideal.ofBits_one_f32]; rfl

/-! ## The tiles of the forward call -/

/-- A weight with its two coordinates exchanged. -/
abbrev turn (w : ℕ → ℕ → ℝ) : S2816x1024.Idx → EReal := up fun j k => w k j

theorem gate_eq : k0_pay5 (F := Ideal) (up (hidden I)) (turn I.wg) = up (gate I) := by
  funext j; idx_vars j; pointwise [k0_pay5, k0_pay4]
  simp only [turn, up_ix2, ← EReal.coe_mul, ← coe_sum, Ideal.ofBits_zero_f32, zero_add]
  refine congrArg _ ?_
  unfold gate; rw [Finset.sum_range]

theorem lift_eq : k0_pay6 (F := Ideal) (up (hidden I)) (turn I.wu) = up (lift I) := by
  funext j; idx_vars j; pointwise [k0_pay6, k0_pay4]
  simp only [turn, up_ix2, ← EReal.coe_mul, ← coe_sum, Ideal.ofBits_zero_f32, zero_add]
  refine congrArg _ ?_
  unfold lift; rw [Finset.sum_range]

theorem gate_cast_eq : k0_pay10 (F := Ideal) (up (hidden I)) (turn I.wg) = up (gate I) := by
  funext j; idx_vars j; pointwise [k0_pay10, gate_eq]

theorem lift_cast_eq (x : S256x2816.Idx → EReal) : k0_pay1 (F := Ideal) x = x := by
  funext j; idx_vars j; pointwise [k0_pay1]

theorem act_eq : k0_pay7 (F := Ideal) (up (hidden I)) (turn I.wg) (turn I.wu) = up (act I) := by
  funext j; idx_vars j; pointwise [k0_pay7, gate_eq, lift_eq]
  rw [Cert.Reals.sigmoid]
  simp only [up_ix2, ← EReal.coe_mul, Ideal.logistic_coe]
  rfl

theorem out_eq : k0_pay8 (F := Ideal) (up (hidden I)) (turn I.wg) (turn I.wu) (up I.x) (up I.wd) = up (out I) := by
  funext j; idx_vars j; pointwise [k0_pay8, act_eq]
  simp only [up_ix2, ← EReal.coe_mul, ← coe_sum, ← EReal.coe_add, Ideal.ofBits_zero_f32, zero_add]
  refine congrArg _ ?_
  unfold out; rw [Finset.sum_range]

theorem next_eq : k0_pay9 (F := Ideal) (up (hidden I)) (turn I.wg) (turn I.wu) (up I.x) (up fun _ => I.gp) (up I.wd) = up (next I) := by
  funext j; idx_vars j; pointwise [k0_pay9, out_eq]
  simp only [up_ix2, ← coe_sum, eps_f32, width_f32, Ideal.ofBits_zero_f32, ← EReal.coe_mul, div_width, ← EReal.coe_add]
  have e : (∑ k : Fin 1024, out I j0.val k.val * out I j0.val k.val) * (1 / 1024) + eps = ms (out I j0.val) := by
    unfold ms; rw [Finset.sum_range fun k => out I j0.val k * out I j0.val k]
  rw [e, rsqrt_ms]
  simp only [← EReal.coe_mul]
  rfl

theorem next_cast_eq (x : S256x1024.Idx → EReal) : k0_pay3 (F := Ideal) x = x := by
  funext j; idx_vars j; pointwise [k0_pay3]

/-! ## The tiles of the backward call -/

theorem dact_eq : k1_pay3 (F := Ideal) (up I.dy) (up I.wd) = up (dact I) := by
  funext j; idx_vars j; pointwise [k1_pay3]
  simp only [up_ix2, ← EReal.coe_mul, ← coe_sum]
  refine congrArg _ ?_
  unfold dact; rw [Finset.sum_range]

theorem saved_eq (x : S256x2816.Idx → EReal) : k1_pay4 (F := Ideal) x = x := by
  funext j; idx_vars j; pointwise [k1_pay4]

theorem weight_eq (x : S2816x1024.Idx → EReal) : k1_pay5 (F := Ideal) x = x := by
  funext j; idx_vars j; pointwise [k1_pay5]

theorem weight_eq' (x : S2816x1024.Idx → EReal) : k1_pay6 (F := Ideal) x = x := by
  funext j; idx_vars j; pointwise [k1_pay6]

theorem sig_eq : k1_pay7 (F := Ideal) (up (gate I)) = up (sig I) := by
  funext j; idx_vars j; pointwise [k1_pay7, saved_eq]
  rw [Cert.Reals.sigmoid]
  simp only [up_ix2, Ideal.logistic_coe]
  rfl

theorem dgate_eq : k1_pay8 (F := Ideal) (up I.dy) (up I.wd) (up (gate I)) (up (lift I)) = up (dgate I) := by
  funext j; idx_vars j; pointwise [k1_pay8, saved_eq, sig_eq, dact_eq]
  simp only [up_ix2, ← EReal.coe_mul]
  rfl

theorem silu_eq : k1_pay9 (F := Ideal) (up (gate I)) = up fun t j => gate I t j * sig I t j := by
  funext j; idx_vars j; pointwise [k1_pay9, saved_eq, sig_eq]
  simp only [up_ix2, ← EReal.coe_mul]

theorem dlift_eq : k1_pay10 (F := Ideal) (up (dact I)) (up fun t j => gate I t j * sig I t j) = up (dlift I) := by
  funext j; idx_vars j; pointwise [k1_pay10]
  simp only [up_ix2, ← EReal.coe_mul]
  rfl

theorem dhidden_eq : k1_pay11 (F := Ideal) (up (dact I)) (turn I.wg) (turn I.wu) (up (dgate I)) (up fun t j => gate I t j * sig I t j) = up (dhidden I) := by
  funext j; idx_vars j; pointwise [k1_pay11, dlift_eq]
  simp only [turn, up_ix2, ← EReal.coe_mul, ← coe_sum, ← EReal.coe_add]
  refine congrArg _ ?_
  unfold dhidden; rw [Finset.sum_range, Finset.sum_range]

theorem inv_eq (x : ℕ → ℕ → ℝ) : k1_pay12 (F := Ideal) (up x) = up fun t _ => inv (x t) := by
  funext j; idx_vars j; pointwise [k1_pay12]
  simp only [up_ix2, ← coe_sum, eps_f32, width_f32, ← EReal.coe_mul, div_width, ← EReal.coe_add]
  have e : (∑ k : Fin 1024, x j0.val k.val * x j0.val k.val) * (1 / 1024) + eps = ms (x j0.val) := by
    unfold ms; rw [Finset.sum_range fun k => x j0.val k * x j0.val k]
  rw [e]; exact rsqrt_ms _

theorem unit_eq (x : ℕ → ℕ → ℝ) : k1_pay13 (F := Ideal) (up x) = up fun t => unit (x t) := by
  funext j; idx_vars j; pointwise [k1_pay13, inv_eq]; simp only [up_ix2, ← EReal.coe_mul]; rfl

theorem dnorm_eq : k1_pay14 (F := Ideal) (up (dact I)) (up I.x) (up fun _ => I.gf) (turn I.wg) (turn I.wu) (up (dgate I))
      (up fun t j => gate I t j * sig I t j)
    = up fun t => dunit (I.x t) fun k => dhidden I t k * I.gf k := by
  funext j; idx_vars j; pointwise [k1_pay14, dhidden_eq, inv_eq, unit_eq]
  simp only [up_ix2, ← EReal.coe_mul, ← coe_sum, width_f32, div_width, ← EReal.coe_sub]
  refine congrArg _ ?_
  unfold dunit
  rw [Finset.sum_range]

theorem dgain_eq (j : Fin 1024) : k1_pay15 (F := Ideal) (up (dact I)) (up I.x) (turn I.wg) (turn I.wu) (up (dgate I))
      (up fun t j => gate I t j * sig I t j) (ix2 0 j)
    = ((∑ t ∈ Finset.range 256, dhidden I t j.val * unit (I.x t) j.val : ℝ) : EReal) := by
  pointwise [k1_pay15, dhidden_eq, unit_eq]
  simp only [up_ix2, ← EReal.coe_mul, ← coe_sum]
  rw [Finset.sum_range fun t => dhidden I t j.val * unit (I.x t) j.val]

theorem dx_eq : k1_pay16 (F := Ideal) (up (dact I)) (up I.x) (up fun _ => I.gf) (up I.dy) (turn I.wg) (turn I.wu) (up (dgate I))
      (up fun t j => gate I t j * sig I t j) = up (dx I) := by
  funext j; idx_vars j; pointwise [k1_pay16, dnorm_eq]
  simp only [up_ix2, ← EReal.coe_add]; rfl

theorem dx_cast_eq : k1_pay19 (F := Ideal) (up (dact I)) (up I.x) (up fun _ => I.gf) (up I.dy) (turn I.wg) (turn I.wu) (up (dgate I))
      (up fun t j => gate I t j * sig I t j) = up (dx I) := by
  funext j; idx_vars j; pointwise [k1_pay19, dnorm_eq]
  simp only [up_ix2, ← EReal.coe_add]; rfl

theorem dgate_cast_eq (x : S256x2816.Idx → EReal) : k1_pay17 (F := Ideal) x = x := by
  funext j; idx_vars j; pointwise [k1_pay17]

theorem dlift_cast_eq : k1_pay18 (F := Ideal) (up (dact I)) (up fun t j => gate I t j * sig I t j) = up (dlift I) := by
  funext j; idx_vars j; pointwise [k1_pay18, dlift_eq]

theorem add_dgain (a b : S1x1024.Idx → EReal) (j : Fin 1024) : k1_pay2 (F := Ideal) a b (ix2 0 j) = b (ix2 0 j) + a (ix2 0 j) := by
  pointwise [k1_pay2]

theorem zero_dgain (j : S1x1024.Idx) : k1_pay1 (F := Ideal) j = 0 := by pointwise [k1_pay1]

/-! ## The rows before the forward call -/

/-- The one over the root of the mean of the squares, as the host writes it. -/
def hostInv (x : FVec Ideal S8192x1024 .f32) : FVec Ideal S8192x1 .f32 :=
  Host.rsqrt (addf (Host.divf (broadcastInDim S8192x1 ![0] bcast_S8192_S8192x1_0
        (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32)))

/-- The rows of the stream, normalised and scaled, as the host writes them. -/
def hostRows (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (hostInv x)))
    (broadcastInDim S8192x1024 ![0, 1] bcast_S1x1024_S8192x1024_0_1 g)) bitsLt_bf16_f32

theorem hostInv_eq : hostInv (up I.x) = up fun t _ => inv (I.x t) := by
  funext j; idx_vars j; pointwise [hostInv]
  simp only [up_ix2, ← coe_sum, eps_f32, width_f32, ← EReal.coe_mul, div_width, ← EReal.coe_add]
  have e : (∑ k : Fin 1024, I.x j0.val k.val * I.x j0.val k.val) * (1 / 1024) + eps = ms (I.x j0.val) := by
    unfold ms; rw [Finset.sum_range fun k => I.x j0.val k * I.x j0.val k]
  rw [e]; exact rsqrt_ms _

theorem hostRows_eq : hostRows (up I.x) (up fun _ => I.gf) = up (hidden I) := by
  funext j; idx_vars j; pointwise [hostRows, hostInv_eq]
  simp only [up_ix2, ← EReal.coe_mul]; rfl

end Cert.FfnValue
-- ==== Proof.FfnArrays.lean ====
/- The arrays the two calls of the gated map leave, in plain real formulas. -/
module

public import proofs.«01_k».proof.Proof.FfnValue

@[expose] public section

noncomputable section

namespace Cert.FfnArrays
open Cert.FfnIdeal Cert.FfnIdeal.Gen Cert.AttnReal Cert.NormReal Cert.FfnValue
open Idealize.ShloMosaic Idealize.ShloMosaic.TcCoe

variable {V : (c : Dev nD) → (b : Ref sig .tc) → Buf (Elt Ideal) ((c : Thread nD τ).loc b)} {c : Dev nD} {I : Inputs}

/-! ## The forward call -/

theorem idx0 : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

theorem row_lt0 (t : Fin cfg0.N) (j : Fin 256) : 256 * t.val + j.val < 8192 := by
  have := lt_of_lt_of_eq t.isLt N_0; omega

/-- What the forward call finds. -/
structure Entry0 (V : (c : Dev nD) → (b : Ref sig .tc) → Buf (Elt Ideal) ((c : Thread nD τ).loc b)) (c : Dev nD) (I : Inputs) : Prop where
  hidden : V c main_v12 = (up (hidden I) : S8192x1024.Idx → EReal)
  wg : V c main_v14 = turn I.wg
  wu : V c main_v16 = turn I.wu
  x : V c main_arg0 = (up I.x : S8192x1024.Idx → EReal)
  gp : V c main_arg5 = (up (fun _ => I.gp) : S1x1024.Idx → EReal)
  wd : V c main_v17 = (up I.wd : S2816x1024.Idx → EReal)

section Forward
variable (A : Entry0 V c I)
include A

theorem block0_hidden (t : Fin cfg0.N) : iblk0 V c 0 t = (up (hidden (I.rows t.val)) : S256x1024.Idx → EReal) := by
  funext j; idx_vars j
  exact .trans (by blk_point [iblk0, idx0 t]) (congrFun A.hidden (ix2 ⟨256 * t.val + j0.val, row_lt0 t j0⟩ j1))

theorem block0_wg (t : Fin cfg0.N) : iblk0 V c 1 t = turn (I.rows t.val).wg := by
  funext j; idx_vars j
  exact .trans (by blk_point [iblk0, idx0 t]) (congrFun A.wg (ix2 j0 j1))

theorem block0_wu (t : Fin cfg0.N) : iblk0 V c 2 t = turn (I.rows t.val).wu := by
  funext j; idx_vars j
  exact .trans (by blk_point [iblk0, idx0 t]) (congrFun A.wu (ix2 j0 j1))

theorem block0_x (t : Fin cfg0.N) : iblk0 V c 3 t = (up (I.rows t.val).x : S256x1024.Idx → EReal) := by
  funext j; idx_vars j
  exact .trans (by blk_point [iblk0, idx0 t]) (congrFun A.x (ix2 ⟨256 * t.val + j0.val, row_lt0 t j0⟩ j1))

theorem block0_gp (t : Fin cfg0.N) : iblk0 V c 4 t = (up (fun _ => (I.rows t.val).gp) : S1x1024.Idx → EReal) := by
  funext j; idx_vars j
  exact .trans (by blk_point [iblk0, idx0 t]) (congrFun A.gp (ix2 j0 j1))

theorem block0_wd (t : Fin cfg0.N) : iblk0 V c 5 t = (up (I.rows t.val).wd : S2816x1024.Idx → EReal) := by
  funext j; idx_vars j
  exact .trans (by blk_point [iblk0, idx0 t]) (congrFun A.wd (ix2 j0 j1))

theorem arr0_6 : (dat0 V c).arrAt 6 cfg0.N = (up (gate I) : S8192x2816.Idx → EReal) := by
  refine (dat0 V c).arrAt_eq_of_covers 6 _ (by decide +kernel) fun t _ y => ?_
  blk_simp
  rw [after0_6]
  refine .trans ?_ (up_at 256 t.val y (by blk_simp [idx0 t]) (by blk_simp [idx0 t])).symm
  frame_out
  rw [block0_hidden A, block0_wg A, gate_cast_eq]; rfl

theorem arr0_7 : (dat0 V c).arrAt 7 cfg0.N = (up (lift I) : S8192x2816.Idx → EReal) := by
  refine (dat0 V c).arrAt_eq_of_covers 7 _ (by decide +kernel) fun t _ y => ?_
  blk_simp
  rw [after0_7]
  refine .trans ?_ (up_at 256 t.val y (by blk_simp [idx0 t]) (by blk_simp [idx0 t])).symm
  frame_out
  rw [lift_cast_eq, block0_hidden A, block0_wu A, lift_eq]; rfl

theorem arr0_9 : (dat0 V c).arrAt 9 cfg0.N = (up (out I) : S8192x1024.Idx → EReal) := by
  refine (dat0 V c).arrAt_eq_of_covers 9 _ (by decide +kernel) fun t _ y => ?_
  blk_simp
  rw [after0_9]
  refine .trans ?_ (up_at 256 t.val y (by blk_simp [idx0 t]) (by blk_simp [idx0 t])).symm
  frame_out
  rw [block0_hidden A, block0_wg A, block0_wu A, block0_x A, block0_wd A, out_eq]; rfl

theorem arr0_10 : (dat0 V c).arrAt 10 cfg0.N = (up (next I) : S8192x1024.Idx → EReal) := by
  refine (dat0 V c).arrAt_eq_of_covers 10 _ (by decide +kernel) fun t _ y => ?_
  blk_simp
  rw [after0_10]
  refine .trans ?_ (up_at 256 t.val y (by blk_simp [idx0 t]) (by blk_simp [idx0 t])).symm
  frame_out
  rw [next_cast_eq, block0_hidden A, block0_wg A, block0_wu A, block0_x A, block0_gp A, block0_wd A, next_eq]; rfl

end Forward

/-! ## The backward call -/

theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![0, 0]
    ∧ win1_6.index t = ![t.val, 0] ∧ win1_7.index t = ![0, 0] ∧ win1_8.index t = ![0, 0]
    ∧ win1_9.index t = ![t.val, 0] ∧ win1_10.index t = ![t.val, 0] ∧ win1_11.index t = ![t.val, 0]
    ∧ win1_12.index t = ![t.val, 0] ∧ win1_13.index t = ![0, 0] :=
  (by decide +kernel : ∀ t : Fin grid1.N, _)

theorem row_lt1 (t : Fin cfg1.N) (j : Fin 256) : 256 * t.val + j.val < 8192 := by
  have := lt_of_lt_of_eq t.isLt N_1; omega

/-- What the backward call finds. -/
structure Entry1 (V : (c : Dev nD) → (b : Ref sig .tc) → Buf (Elt Ideal) ((c : Thread nD τ).loc b)) (c : Dev nD) (I : Inputs) : Prop where
  dyb : V c main_v19 = (up I.dy : S8192x1024.Idx → EReal)
  wd : V c main_v17 = (up I.wd : S2816x1024.Idx → EReal)
  gate : V c main_v18_0 = (up (gate I) : S8192x2816.Idx → EReal)
  lift : V c main_v18_1 = (up (lift I) : S8192x2816.Idx → EReal)
  x : V c main_arg0 = (up I.x : S8192x1024.Idx → EReal)
  gf : V c main_arg1 = (up (fun _ => I.gf) : S1x1024.Idx → EReal)
  dy : V c main_arg6 = (up I.dy : S8192x1024.Idx → EReal)
  wg : V c main_v14 = turn I.wg
  wu : V c main_v16 = turn I.wu

/-- The grid's last point. -/
def last : Fin cfg1.N := ⟨31, lt_of_lt_of_eq (by omega) N_1.symm⟩

section Backward
variable (A : Entry1 V c I)
include A

theorem block1_dyb (t : Fin cfg1.N) : iblk1 V c 0 t = (up (I.rows t.val).dy : S256x1024.Idx → EReal) := by
  funext j; idx_vars j
  exact .trans (by blk_point [iblk1, idx1 t]) (congrFun A.dyb (ix2 ⟨256 * t.val + j0.val, row_lt1 t j0⟩ j1))

theorem block1_wd (t : Fin cfg1.N) : iblk1 V c 1 t = (up (I.rows t.val).wd : S2816x1024.Idx → EReal) := by
  funext j; idx_vars j
  exact .trans (by blk_point [iblk1, idx1 t]) (congrFun A.wd (ix2 j0 j1))

theorem block1_gate (t : Fin cfg1.N) : iblk1 V c 2 t = (up (gate (I.rows t.val)) : S256x2816.Idx → EReal) := by
  funext j; idx_vars j
  exact .trans (by blk_point [iblk1, idx1 t]) (congrFun A.gate (ix2 ⟨256 * t.val + j0.val, row_lt1 t j0⟩ j1))

theorem block1_lift (t : Fin cfg1.N) : iblk1 V c 3 t = (up (lift (I.rows t.val)) : S256x2816.Idx → EReal) := by
  funext j; idx_vars j
  exact .trans (by blk_point [iblk1, idx1 t]) (congrFun A.lift (ix2 ⟨256 * t.val + j0.val, row_lt1 t j0⟩ j1))

theorem block1_x (t : Fin cfg1.N) : iblk1 V c 4 t = (up (I.rows t.val).x : S256x1024.Idx → EReal) := by
  funext j; idx_vars j
  exact .trans (by blk_point [iblk1, idx1 t]) (congrFun A.x (ix2 ⟨256 * t.val + j0.val, row_lt1 t j0⟩ j1))

theorem block1_gf (t : Fin cfg1.N) : iblk1 V c 5 t = (up (fun _ => (I.rows t.val).gf) : S1x1024.Idx → EReal) := by
  funext j; idx_vars j
  exact .trans (by blk_point [iblk1, idx1 t]) (congrFun A.gf (ix2 j0 j1))

theorem block1_dy (t : Fin cfg1.N) : iblk1 V c 6 t = (up (I.rows t.val).dy : S256x1024.Idx → EReal) := by
  funext j; idx_vars j
  exact .trans (by blk_point [iblk1, idx1 t]) (congrFun A.dy (ix2 ⟨256 * t.val + j0.val, row_lt1 t j0⟩ j1))

theorem block1_wg (t : Fin cfg1.N) : k1_pay5 (F := Ideal) (iblk1 V c 7 t) = turn (I.rows t.val).wg := by
  rw [weight_eq]
  funext j; idx_vars j
  exact .trans (by blk_point [iblk1, idx1 t]) (congrFun A.wg (ix2 j0 j1))

theorem block1_wu (t : Fin cfg1.N) : k1_pay6 (F := Ideal) (iblk1 V c 8 t) = turn (I.rows t.val).wu := by
  rw [weight_eq']
  funext j; idx_vars j
  exact .trans (by blk_point [iblk1, idx1 t]) (congrFun A.wu (ix2 j0 j1))

theorem tile_dact (t : Fin cfg1.N) : k1_pay3 (F := Ideal) (iblk1 V c 0 t) (iblk1 V c 1 t) = up (dact (I.rows t.val)) := by
  rw [block1_dyb A, block1_wd A]; exact dact_eq _

theorem tile_dgate (t : Fin cfg1.N) : k1_pay8 (F := Ideal) (iblk1 V c 0 t) (iblk1 V c 1 t) (iblk1 V c 2 t) (iblk1 V c 3 t) = up (dgate (I.rows t.val)) := by
  rw [block1_dyb A, block1_wd A, block1_gate A, block1_lift A]; exact dgate_eq _

theorem tile_silu (t : Fin cfg1.N) : k1_pay9 (F := Ideal) (iblk1 V c 2 t) = up fun a j => gate (I.rows t.val) a j * sig (I.rows t.val) a j := by
  rw [block1_gate A]; exact silu_eq _

theorem arr1_9 : (dat1 V c).arrAt 9 cfg1.N = (up (dgate I) : S8192x2816.Idx → EReal) := by
  refine (dat1 V c).arrAt_eq_of_covers 9 _ (by decide +kernel) fun t _ y => ?_
  blk_simp
  rw [after1_9]
  refine .trans ?_ (up_at 256 t.val y (by blk_simp [idx1 t]) (by blk_simp [idx1 t])).symm
  by_cases h : t.val % 32 = 0
  · rw [outsAt1_A V c t h]; frame_out; rw [dgate_cast_eq, tile_dgate A]; rfl
  · rw [outsAt1_B V c t h]; frame_out; rw [dgate_cast_eq, tile_dgate A]; rfl

theorem arr1_10 : (dat1 V c).arrAt 10 cfg1.N = (up (dlift I) : S8192x2816.Idx → EReal) := by
  refine (dat1 V c).arrAt_eq_of_covers 10 _ (by decide +kernel) fun t _ y => ?_
  blk_simp
  rw [after1_10]
  refine .trans ?_ (up_at 256 t.val y (by blk_simp [idx1 t]) (by blk_simp [idx1 t])).symm
  by_cases h : t.val % 32 = 0
  · rw [outsAt1_A V c t h]; frame_out; rw [tile_dact A, tile_silu A, dlift_cast_eq]; rfl
  · rw [outsAt1_B V c t h]; frame_out; rw [tile_dact A, tile_silu A, dlift_cast_eq]; rfl

theorem arr1_11 : (dat1 V c).arrAt 11 cfg1.N = (up (dx I) : S8192x1024.Idx → EReal) := by
  refine (dat1 V c).arrAt_eq_of_covers 11 _ (by decide +kernel) fun t _ y => ?_
  blk_simp
  rw [after1_11]
  refine .trans ?_ (up_at 256 t.val y (by blk_simp [idx1 t]) (by blk_simp [idx1 t])).symm
  by_cases h : t.val % 32 = 0
  on_goal 1 => rw [outsAt1_A V c t h]
  on_goal 2 => rw [outsAt1_B V c t h]
  all_goals
    frame_out
    rw [tile_dact A, tile_silu A, tile_dgate A, block1_x A, block1_gf A, block1_dy A, block1_wg A, block1_wu A, dx_eq]; rfl

theorem arr1_12 : (dat1 V c).arrAt 12 cfg1.N = (up (dx I) : S8192x1024.Idx → EReal) := by
  refine (dat1 V c).arrAt_eq_of_covers 12 _ (by decide +kernel) fun t _ y => ?_
  blk_simp
  rw [after1_12]
  refine .trans ?_ (up_at 256 t.val y (by blk_simp [idx1 t]) (by blk_simp [idx1 t])).symm
  by_cases h : t.val % 32 = 0
  on_goal 1 => rw [outsAt1_A V c t h]
  on_goal 2 => rw [outsAt1_B V c t h]
  all_goals
    frame_out
    rw [tile_dact A, tile_silu A, tile_dgate A, block1_x A, block1_gf A, block1_dy A, block1_wg A, block1_wu A, dx_cast_eq]; rfl

theorem arr1_13 : (dat1 V c).arrAt 13 cfg1.N = (up (fun _ j => ∑ t ∈ Finset.range 8192, dhidden I t j * unit (I.x t) j) : S1x1024.Idx → EReal) := by
  refine (dat1 V c).arrAt_eq_of_after_last 13 last (by decide +kernel) _ fun j => ?_
  blk_simp
  obtain ⟨j1, rfl⟩ := one_row j
  rw [after1_13, Pipeline.eq_sum_fin_of_reset_step_apply_last (fun n h => (outsAt1 V c n h).2.2.2.2) 32 (fun _ => 0)
    (fun (t : Fin cfg1.N) (j : S1x1024.Idx) => ((∑ a ∈ Finset.range 256, dhidden (I.rows t.val) a (j 1).val * unit ((I.rows t.val).x a) (j 1).val : ℝ) : EReal))
    (fun t h j => by
      obtain ⟨j1, rfl⟩ := one_row j
      rw [outsAt1_A V c t h]; frame_out
      rw [add_dgain, tile_dact A, tile_silu A, tile_dgate A, block1_x A, block1_wg A, block1_wu A, dgain_eq, zero_dgain]; rfl)
    (fun t h j => by
      obtain ⟨j1, rfl⟩ := one_row j
      rw [outsAt1_B V c t h]; frame_out
      rw [add_dgain, tile_dact A, tile_silu A, tile_dgate A, block1_x A, block1_wg A, block1_wu A, dgain_eq]; rfl)
    (le_of_eq N_1) last rfl _, zero_add]
  exact sum_points 256 32 (fun t => dhidden I t j1.val * unit (I.x t) j1.val) _ fun s a => rfl

end Backward

end Cert.FfnArrays
-- ==== Proof.FfnRun.lean ====
/- The whole program of the gated map: what its two calls find, and what the run leaves. -/
module

public import proofs.«01_k».proof.Proof.FfnArrays

@[expose] public section

noncomputable section

namespace Cert.FfnRun
open Cert.FfnIdeal Cert.FfnIdeal.Gen Cert.AttnReal Cert.NormReal Cert.FfnValue Cert.FfnArrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) {I : Inputs} {c : Dev nD}

/-- The arguments as real arrays. -/
structure Args (m : (ℓ : Loc nD τ sig) → Buf (Elt Ideal) ℓ) (c : Dev nD) (I : Inputs) : Prop where
  x : m ((c : Thread nD τ).loc main_arg0) = (up I.x : S8192x1024.Idx → EReal)
  gf : m ((c : Thread nD τ).loc main_arg1) = (up (fun _ => I.gf) : S1x1024.Idx → EReal)
  wg : m ((c : Thread nD τ).loc main_arg2) = (up I.wg : S1024x2816.Idx → EReal)
  wu : m ((c : Thread nD τ).loc main_arg3) = (up I.wu : S1024x2816.Idx → EReal)
  wd : m ((c : Thread nD τ).loc main_arg4) = (up I.wd : S2816x1024.Idx → EReal)
  gp : m ((c : Thread nD τ).loc main_arg5) = (up (fun _ => I.gp) : S1x1024.Idx → EReal)
  dy : m ((c : Thread nD τ).loc main_arg6) = (up I.dy : S8192x1024.Idx → EReal)

theorem host_rows : W1 m ρ c main_v12 = hostRows (m ((c : Thread nD τ).loc main_arg0)) (m ((c : Thread nD τ).loc main_arg1)) := rfl

theorem host_gate : W1 m ρ c main_v14 = (truncf (F := Ideal) .bf16 (transpose S2816x1024 [1, 0] (m ((c : Thread nD τ).loc main_arg2))
    transposes_S1024x2816_S2816x1024_1_0) bitsLt_bf16_f32 : FVec Ideal S2816x1024 .bf16) := rfl

theorem host_lift : W1 m ρ c main_v16 = (truncf (F := Ideal) .bf16 (transpose S2816x1024 [1, 0] (m ((c : Thread nD τ).loc main_arg3))
    transposes_S1024x2816_S2816x1024_1_0) bitsLt_bf16_f32 : FVec Ideal S2816x1024 .bf16) := rfl

theorem host_down : W1 m ρ c main_v17 = (truncf (F := Ideal) .bf16 (m ((c : Thread nD τ).loc main_arg4)) bitsLt_bf16_f32 : FVec Ideal S2816x1024 .bf16) := rfl

theorem host_dy : W3 m ρ c main_v19 = (truncf (F := Ideal) .bf16 (W2 m ρ c main_arg6) bitsLt_bf16_f32 : FVec Ideal S8192x1024 .bf16) := rfl

/-- The host's turned weight. -/
theorem turned (w : ℕ → ℕ → ℝ) : (truncf (F := Ideal) .bf16 (transpose S2816x1024 [1, 0] (up w : S1024x2816.Idx → EReal)
    transposes_S1024x2816_S2816x1024_1_0) bitsLt_bf16_f32 : FVec Ideal S2816x1024 .bf16) = turn w := by
  funext j; idx_vars j; pointwise []; rfl

theorem entry0 (A : Args m c I) : Entry0 (V1 m ρ) c I where
  hidden := by
    refine (host_rows m ρ).trans ?_
    rw [A.x, A.gf]; exact hostRows_eq I
  wg := by
    refine (host_gate m ρ).trans ?_
    rw [A.wg]; exact turned I.wg
  wu := by
    refine (host_lift m ρ).trans ?_
    rw [A.wu]; exact turned I.wu
  x := (W1_args m ρ c main_arg0 (by decide)).trans A.x
  gp := (W1_args m ρ c main_arg5 (by decide)).trans A.gp
  wd := by
    refine (host_down m ρ).trans ?_
    rw [A.wd]; rfl

/-- What the host wrote before the forward call and no call changes. -/
theorem kept (r : Ref sig .tc) (h1 : r ∉ hostOps1_W) (h0 : ∀ w : Fin cfg0.W, Pipeline.arrRef spec0 w = r → (cfg0.win w).isOut = false) :
    W3 m ρ c r = W1 m ρ c r := (W3_of m ρ c r h1).trans (W2_of m ρ c r h0)

theorem entry1 (A : Args m c I) : Entry1 (V3 m ρ) c I where
  dyb := by
    refine (host_dy m ρ).trans ?_
    rw [(W2_args m ρ c main_arg6 (by decide)).trans A.dy]; rfl
  wd := (kept m ρ main_v17 (by decide) (by decide)).trans (entry0 m ρ A).wd
  gate := (W3_of m ρ c main_v18_0 (by decide)).trans ((W2_arr m ρ c 6).trans (arr0_6 (entry0 m ρ A)))
  lift := (W3_of m ρ c main_v18_1 (by decide)).trans ((W2_arr m ρ c 7).trans (arr0_7 (entry0 m ρ A)))
  x := (W3_args m ρ c main_arg0 (by decide)).trans A.x
  gf := (W3_args m ρ c main_arg1 (by decide)).trans A.gf
  dy := (W3_args m ρ c main_arg6 (by decide)).trans A.dy
  wg := (kept m ρ main_v14 (by decide) (by decide)).trans (entry0 m ρ A).wg
  wu := (kept m ρ main_v16 (by decide) (by decide)).trans (entry0 m ρ A).wu

/-! ## What the run leaves -/

theorem end_out (A : Args m c I) : W4 m ρ c main_v18_3 = (up (out I) : S8192x1024.Idx → EReal) :=
  (W4_of m ρ c main_v18_3 (by decide)).trans ((W3_of m ρ c main_v18_3 (by decide)).trans ((W2_arr m ρ c 9).trans (arr0_9 (entry0 m ρ A))))
theorem end_next (A : Args m c I) : W4 m ρ c main_v18_4 = (up (next I) : S8192x1024.Idx → EReal) :=
  (W4_of m ρ c main_v18_4 (by decide)).trans ((W3_of m ρ c main_v18_4 (by decide)).trans ((W2_arr m ρ c 10).trans (arr0_10 (entry0 m ρ A))))
theorem end_dgate (A : Args m c I) : W4 m ρ c main_v20_0 = (up (dgate I) : S8192x2816.Idx → EReal) := (W4_arr m ρ c 9).trans (arr1_9 (entry1 m ρ A))
theorem end_dlift (A : Args m c I) : W4 m ρ c main_v20_1 = (up (dlift I) : S8192x2816.Idx → EReal) := (W4_arr m ρ c 10).trans (arr1_10 (entry1 m ρ A))
theorem end_dx (A : Args m c I) : W4 m ρ c main_v20_2 = (up (dx I) : S8192x1024.Idx → EReal) := (W4_arr m ρ c 11).trans (arr1_11 (entry1 m ρ A))
theorem end_dxb (A : Args m c I) : W4 m ρ c main_v20_3 = (up (dx I) : S8192x1024.Idx → EReal) := (W4_arr m ρ c 12).trans (arr1_12 (entry1 m ρ A))
theorem end_dgain (A : Args m c I) : W4 m ρ c main_v20_4
    = (up (fun _ j => ∑ t ∈ Finset.range 8192, dhidden I t j * unit (I.x t) j) : S1x1024.Idx → EReal) :=
  (W4_arr m ρ c 13).trans (arr1_13 (entry1 m ρ A))

local notation "𝕄" => MT nD τ sig Unit (Elt Ideal) ℕ (UR sig nD τ) ℕ

/-- The run of both calls, at the memory they leave. -/
theorem run : θ_run defs (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.FfnRun

end
-- ==== Proof.FfnRef.lean ====
/- The reference of the gated map and its gradient, in plain real formulas. -/
module

public import proofs.«01_k».proof.Proof.FfnValue
public import proofs.«01_k».proof.Proof.Gen.FfnRefIdeal.Read

@[expose] public section

noncomputable section

namespace Cert.FfnRef
open Cert.FfnRefIdeal Cert.FfnRefIdeal.Gen Cert.FfnRefIdeal.Read Cert.AttnReal Cert.NormReal
open Cert.FfnValue (Inputs hidden gate lift act out next dact dgate dlift dhidden dx one_f32)
open Idealize.ShloMosaic Idealize.ShloMosaic.TcCoe

variable (I : Inputs)

theorem zeros_eq : val_main_v0 (F := Ideal) = up fun _ _ => 0 := by
  funext j; idx_vars j; pointwise [val_main_v0, val_main_cst]; simp only [up_ix2, EReal.coe_zero]

theorem ms_eq : val_main_v8 (F := Ideal) (up I.x) = up fun t _ => ms (I.x t) := by
  funext j; idx_vars j; pointwise [val_main_v8, val_main_v7, val_main_cst_2, val_main_v6, val_main_v5, val_main_cst_1, val_main_v4, val_main_v3, val_main_v2, val_main_cst_0]
  simp only [up_ix2, ← EReal.coe_mul, ← coe_sum, eps_f32, width_f32, div_width, ← EReal.coe_add]
  refine congrArg _ ?_
  unfold ms; rw [Finset.sum_range fun k => I.x j0.val k * I.x j0.val k]

theorem inv_eq : val_main_v9 (F := Ideal) (up I.x) = up fun t _ => inv (I.x t) := by
  funext j; idx_vars j; pointwise [val_main_v9, ms_eq]
  exact rsqrt_ms _

theorem bend_eq : val_main_v12 (F := Ideal) (up I.x) = up fun t _ => -1 / 2 * (inv (I.x t) * (1 / ms (I.x t))) := by
  funext j; idx_vars j; pointwise [val_main_v12, val_main_v11, val_main_cst_3, val_main_v10, ms_eq, inv_eq]
  simp only [up_ix2, neg_half_f32, div_ms, ← EReal.coe_mul]

theorem unit_eq : val_main_v14 (F := Ideal) (up I.x) = up fun t => unit (I.x t) := by
  funext j; idx_vars j; pointwise [val_main_v14, val_main_v13, inv_eq]
  simp only [up_ix2, ← EReal.coe_mul]; rfl

theorem hidden_eq : val_main_v17 (F := Ideal) (up I.x) (up fun _ => I.gf) = up (hidden I) := by
  funext j; idx_vars j; pointwise [val_main_v17, val_main_v16, val_main_v15, val_main_v1, unit_eq]
  simp only [up_ix2, ← EReal.coe_mul]; rfl

theorem gate_eq : val_main_v19 (F := Ideal) (up I.x) (up fun _ => I.gf) (up I.wg) = up (gate I) := by
  funext j; idx_vars j; pointwise [val_main_v19, val_main_v18, zeros_eq, hidden_eq]
  simp only [up_ix2, ← EReal.coe_mul, ← coe_sum, ← EReal.coe_add, add_zero]
  refine congrArg _ ?_
  unfold gate; rw [Finset.sum_range]

theorem sig_eq : val_main_v20_2 (F := Ideal) (up I.x) (up fun _ => I.gf) (up I.wg) = up (FfnValue.sig I) := by
  funext j; idx_vars j
  pointwise [val_main_v20_2, val_main_call0_v4, val_main_call0_cst_0, val_main_call0_v3, val_main_call0_v2, val_main_call0_cst, val_main_call0_v1, val_main_call0_v0, gate_eq]
  simp only [up_ix2, ← EReal.coe_neg, Ideal.exp_coe]
  rw [← EReal.coe_one, ← EReal.coe_add, Ideal.div_coe (by positivity), ← EReal.coe_mul]
  refine congrArg _ ?_
  unfold FfnValue.sig; rw [one_mul, one_div]

theorem silu_eq : val_main_v20_0 (F := Ideal) (up I.x) (up fun _ => I.gf) (up I.wg) = up fun t j => gate I t j * FfnValue.sig I t j := by
  funext j; idx_vars j; pointwise [val_main_v20_0, gate_eq, sig_eq]
  simp only [up_ix2, ← EReal.coe_mul]

theorem sig_bend_eq : val_main_v20_1 (F := Ideal) (up I.x) (up fun _ => I.gf) (up I.wg) = up fun t j => FfnValue.sig I t j * (1 - FfnValue.sig I t j) := by
  funext j; idx_vars j; pointwise [val_main_v20_1, val_main_call0_v7, val_main_call0_v6, val_main_call0_cst_1, sig_eq]
  simp only [up_ix2, ← EReal.coe_one, ← EReal.coe_sub, ← EReal.coe_mul]

theorem lift_eq : val_main_v22 (F := Ideal) (up I.x) (up fun _ => I.gf) (up I.wu) = up (lift I) := by
  funext j; idx_vars j; pointwise [val_main_v22, val_main_v21, zeros_eq, hidden_eq]
  simp only [up_ix2, ← EReal.coe_mul, ← coe_sum, ← EReal.coe_add, add_zero]
  refine congrArg _ ?_
  unfold lift; rw [Finset.sum_range]

theorem act_eq : val_main_v23 (F := Ideal) (up I.x) (up fun _ => I.gf) (up I.wg) (up I.wu) = up (act I) := by
  funext j; idx_vars j; pointwise [val_main_v23, silu_eq, lift_eq]
  simp only [up_ix2, ← EReal.coe_mul]; rfl

theorem out_eq : val_main_v25 (F := Ideal) (up I.x) (up fun _ => I.gf) (up I.wg) (up I.wu) (up I.wd) = up (out I) := by
  funext j; idx_vars j; pointwise [val_main_v25, val_main_v24, act_eq]
  simp only [up_ix2, ← EReal.coe_mul, ← coe_sum, ← EReal.coe_add]
  refine congrArg _ ?_
  unfold out; rw [Finset.sum_range]

theorem out_ms_eq : val_main_v63 (F := Ideal) (up I.x) (up fun _ => I.gf) (up I.wg) (up I.wu) (up I.wd) = up fun t _ => ms (out I t) := by
  funext j; idx_vars j; pointwise [val_main_v63, val_main_v62, val_main_cst_11, val_main_v61, val_main_v60, val_main_cst_10, val_main_v59, val_main_v58, val_main_v57, val_main_cst_9, out_eq]
  simp only [up_ix2, ← EReal.coe_mul, ← coe_sum, eps_f32, width_f32, div_width, ← EReal.coe_add]
  refine congrArg _ ?_
  unfold ms; rw [Finset.sum_range fun k => out I j0.val k * out I j0.val k]

theorem out_inv_eq : val_main_v64 (F := Ideal) (up I.x) (up fun _ => I.gf) (up I.wg) (up I.wu) (up I.wd) = up fun t _ => inv (out I t) := by
  funext j; idx_vars j; pointwise [val_main_v64, out_ms_eq]
  exact rsqrt_ms _

theorem next_eq : val_main_v70 (F := Ideal) (up I.x) (up fun _ => I.gf) (up I.wg) (up I.wu) (up I.wd) (up fun _ => I.gp) = up (next I) := by
  funext j; idx_vars j; pointwise [val_main_v70, val_main_v69, val_main_v68, val_main_v67, val_main_v56, val_main_v66, val_main_v65, out_eq, out_inv_eq]
  simp only [up_ix2, ← EReal.coe_mul]; rfl

theorem dact_eq : val_main_v27 (F := Ideal) (up I.wd) (up I.dy) = up (dact I) := by
  funext j; idx_vars j; pointwise [val_main_v27, val_main_v26]
  simp only [up_ix2, ← EReal.coe_mul, ← coe_sum]
  refine congrArg _ ?_
  unfold dact; rw [Finset.sum_range]

theorem dlift_eq : val_main_v28 (F := Ideal) (up I.x) (up fun _ => I.gf) (up I.wg) (up I.wd) (up I.dy) = up (dlift I) := by
  funext j; idx_vars j; pointwise [val_main_v28, silu_eq, dact_eq]
  simp only [up_ix2, ← EReal.coe_mul]
  rw [mul_comm]; rfl

theorem dsilu_eq : val_main_v29 (F := Ideal) (up I.x) (up fun _ => I.gf) (up I.wu) (up I.wd) (up I.dy) = up fun t j => dact I t j * lift I t j := by
  funext j; idx_vars j; pointwise [val_main_v29, lift_eq, dact_eq]
  simp only [up_ix2, ← EReal.coe_mul]

theorem dgate_eq : val_main_v31 (F := Ideal) (up I.x) (up fun _ => I.gf) (up I.wg) (up I.wu) (up I.wd) (up I.dy) = up (dgate I) := by
  funext j; idx_vars j; pointwise [val_main_v31, val_main_call1_v2, val_main_call1_v1, val_main_call1_v0, dsilu_eq, gate_eq, sig_eq, sig_bend_eq]
  simp only [up_ix2, ← EReal.coe_mul, ← EReal.coe_add]
  refine congrArg _ ?_
  unfold dgate; ring

theorem dhidden_eq : val_main_v33 (F := Ideal) (up I.x) (up fun _ => I.gf) (up I.wg) (up I.wu) (up I.wd) (up I.dy) = up (dhidden I) := by
  funext j; idx_vars j; pointwise [val_main_v33, val_main_v32, val_main_v30, dlift_eq, dgate_eq]
  simp only [up_ix2, ← EReal.coe_mul, ← coe_sum, ← EReal.coe_add]
  refine congrArg _ ?_
  unfold dhidden; rw [Finset.sum_range, Finset.sum_range, add_comm]

theorem dscaled_eq : val_main_v38 (F := Ideal) (up I.x) (up fun _ => I.gf) (up I.wg) (up I.wu) (up I.wd) (up I.dy)
    = up fun t j => dhidden I t j * I.gf j := by
  funext j; idx_vars j; pointwise [val_main_v38, val_main_v37, val_main_v15, val_main_v1, dhidden_eq]
  simp only [up_ix2, ← EReal.coe_mul]

theorem dtotal_eq : val_main_v42 (F := Ideal) (up I.x) (up fun _ => I.gf) (up I.wg) (up I.wu) (up I.wd) (up I.dy)
    = up fun t _ => ∑ i ∈ Finset.range 1024, I.x t i * (dhidden I t i * I.gf i) := by
  funext j; idx_vars j; pointwise [val_main_v42, val_main_v41, val_main_v40, val_main_cst_6, dscaled_eq]
  simp only [up_ix2, ← EReal.coe_mul, ← coe_sum]
  rw [Finset.sum_range]

theorem dx_eq : val_main_v54 (F := Ideal) (up I.x) (up fun _ => I.gf) (up I.wg) (up I.wu) (up I.wd) (up I.dy) = up (dx I) := by
  funext j; idx_vars j
  pointwise [val_main_v54, val_main_v53, val_main_v52, val_main_v51, val_main_v50, val_main_v49, val_main_cst_8, val_main_v48, val_main_v47, val_main_cst_7,
    val_main_v46, val_main_v45, val_main_v44, val_main_v43, dscaled_eq, dtotal_eq, inv_eq, bend_eq]
  simp only [up_ix2, ← EReal.coe_mul, width_f32, div_width, Finset.univ_unique, Finset.sum_singleton, ← EReal.coe_add]
  refine congrArg _ ?_
  unfold dx
  rw [dunit_eq]
  ring

theorem dgate_cast_eq : val_main_v71 (F := Ideal) (up I.x) (up fun _ => I.gf) (up I.wg) (up I.wu) (up I.wd) (up I.dy) = up (dgate I) := by
  funext j; idx_vars j; pointwise [val_main_v71, dgate_eq]

theorem dlift_cast_eq : val_main_v72 (F := Ideal) (up I.x) (up fun _ => I.gf) (up I.wg) (up I.wd) (up I.dy) = up (dlift I) := by
  funext j; idx_vars j; pointwise [val_main_v72, dlift_eq]

theorem dx_cast_eq : val_main_v73 (F := Ideal) (up I.x) (up fun _ => I.gf) (up I.wg) (up I.wu) (up I.wd) (up I.dy) = up (dx I) := by
  funext j; idx_vars j; pointwise [val_main_v73, dx_eq]

theorem zero_literal : (FloatOps.ofBits (F := Ideal) .f32 0x00000000#32 : EReal) = 0 := Ideal.ofBits_zero_f32

theorem dgain_column (i : S1024.Idx) : val_main_v35 (F := Ideal) (up I.x) (up fun _ => I.gf) (up I.wg) (up I.wu) (up I.wd) (up I.dy) i
    = ((∑ t ∈ Finset.range 8192, dhidden I t (i 0).val * unit (I.x t) (i 0).val : ℝ) : EReal) := by
  rw [val_main_v35_apply, Finset.sum_range, coe_sum, val_main_cst_4_apply, zero_literal, zero_add]
  refine Finset.sum_congr rfl fun t _ => ?_
  rw [val_main_v34_apply, unit_eq, dhidden_eq, mul_comm, EReal.coe_mul]
  rfl

theorem dgain_eq : val_main_v55 (F := Ideal) (up I.x) (up fun _ => I.gf) (up I.wg) (up I.wu) (up I.wd) (up I.dy)
    = up fun _ j => ∑ t ∈ Finset.range 8192, dhidden I t j * unit (I.x t) j := by
  funext j; idx_vars j
  pointwise [val_main_v55, val_main_v39, val_main_cst_5, val_main_v36, dgain_column]
  simp only [Finset.univ_unique, Finset.sum_singleton]
  rfl

end Cert.FfnRef
-- ==== Proof.FfnClaim.lean ====
module

public import proofs.«01_k».proof.Proof.Finite
public import proofs.«01_k».proof.Proof.FfnRun
public import proofs.«01_k».proof.Proof.FfnRef
public import proofs.«01_k».proof.Proof.Gen.Pre_ffn_finite

/-! The claims of the gated map's two calls. -/

@[expose] public section

noncomputable section

namespace Cert.FfnClaim

open Idealize.ShloMosaic Idealize.ShloMosaic.TcCoe Idealize.SL.Sem Cert.AttnReal Cert.Finite
open Cert.FfnIdeal Cert.FfnIdeal.Gen

theorem reals (m : (ℓ : Loc nD τ sig) → Buf (Elt Ideal) ℓ) (hpre : Cert.Pre_FfnIdeal_ffn_finite m) (c : Dev nD) :
    ∃ I : Cert.FfnValue.Inputs, Cert.FfnRun.Args m c I := by
  obtain ⟨h0, h1, h2, h3, h4, h5, h6⟩ := hpre c
  obtain ⟨x, hx⟩ := real_array _ _ h0 fun i j => by pointwise [Cert.Pre_ffn_finite.fn, Cert.Pre_ffn_finite.fn_part1]; rfl
  obtain ⟨gf, hgf⟩ := real_array _ _ h1 fun i j => by pointwise [Cert.Pre_ffn_finite.fn, Cert.Pre_ffn_finite.fn_part1]; rfl
  obtain ⟨wg, hwg⟩ := real_array _ _ h2 fun i j => by pointwise [Cert.Pre_ffn_finite.fn, Cert.Pre_ffn_finite.fn_part1]; rfl
  obtain ⟨wu, hwu⟩ := real_array _ _ h3 fun i j => by pointwise [Cert.Pre_ffn_finite.fn, Cert.Pre_ffn_finite.fn_part1]; rfl
  obtain ⟨wd, hwd⟩ := real_array _ _ h4 fun i j => by pointwise [Cert.Pre_ffn_finite.fn, Cert.Pre_ffn_finite.fn_part1]; rfl
  obtain ⟨gp, hgp⟩ := real_array _ _ h5 fun i j => by pointwise [Cert.Pre_ffn_finite.fn, Cert.Pre_ffn_finite.fn_part1]; rfl
  obtain ⟨dy, hdy⟩ := real_array _ _ h6 fun i j => by pointwise [Cert.Pre_ffn_finite.fn, Cert.Pre_ffn_finite.fn_part1]; rfl
  refine ⟨⟨x, gf 0, wg, wu, wd, gp 0, dy⟩, hx, hgf.trans ?_, hwg, hwu, hwd, hgp.trans ?_, hdy⟩
  · funext j
    have e : (j 0).val = 0 := Nat.lt_one_iff.mp (j 0).isLt
    unfold up
    rw [e]
  · funext j
    have e : (j 0).val = 0 := Nat.lt_one_iff.mp (j 0).isLt
    unfold up
    rw [e]

theorem frame_ref : Cert.quiescent_FfnRefIdeal := fun m g _ =>
  (θ_run Cert.FfnRefIdeal.defs _ _).mono
    (fun r h => ⟨fun c => (h c).2.2.2.2.2.2.2, sem_eq_zero_of_no_sems (by decide) r.2⟩)
    (Cert.FfnRefIdeal.Value.run m g)

theorem algebraic : Cert.algebraic_FfnIdeal_FfnRefIdeal_pre_ffn_finite := by
  intro m g m' g' hpre hagree
  choose I A using reals m hpre
  refine ⟨_, _, _, _, _, _, _, (θ_run Cert.FfnIdeal.defs _ _).mono (fun r h c => ⟨
    (h c _ (mem_uc main_v18_3 (by decide))).trans (Cert.FfnRun.end_out m g (A c)),
    (h c _ (mem_uc main_v18_4 (by decide))).trans (Cert.FfnRun.end_next m g (A c)),
    (h c _ (mem_uc main_v20_0 (by decide))).trans (Cert.FfnRun.end_dgate m g (A c)),
    (h c _ (mem_uc main_v20_1 (by decide))).trans (Cert.FfnRun.end_dlift m g (A c)),
    (h c _ (mem_uc main_v20_2 (by decide))).trans (Cert.FfnRun.end_dx m g (A c)),
    (h c _ (mem_uc main_v20_3 (by decide))).trans (Cert.FfnRun.end_dxb m g (A c)),
    (h c _ (mem_uc main_v20_4 (by decide))).trans (Cert.FfnRun.end_dgain m g (A c)),
    (h c _ (mem_uc main_arg0 (by decide))).trans (W4_main_arg0 m g c),
    (h c _ (mem_uc main_arg1 (by decide))).trans (W4_main_arg1 m g c),
    (h c _ (mem_uc main_arg2 (by decide))).trans (W4_main_arg2 m g c),
    (h c _ (mem_uc main_arg3 (by decide))).trans (W4_main_arg3 m g c),
    (h c _ (mem_uc main_arg4 (by decide))).trans (W4_main_arg4 m g c),
    (h c _ (mem_uc main_arg5 (by decide))).trans (W4_main_arg5 m g c),
    (h c _ (mem_uc main_arg6 (by decide))).trans (W4_main_arg6 m g c)⟩) (Cert.FfnRun.run m g), ?_⟩
  refine (θ_run Cert.FfnRefIdeal.defs _ _).mono (fun r h c => ?_) (Cert.FfnRefIdeal.Value.run m' g')
  obtain ⟨h0, h1, h2, h3, h4, h5, h6, hrest⟩ := h c
  obtain ⟨a0, a1, a2, a3, a4, a5, a6⟩ := hagree c
  have b0 : m' ((c.tc : Thread Cert.FfnRefIdeal.nD Cert.FfnRefIdeal.τ).loc Cert.FfnRefIdeal.main_arg0) = _ := a0.trans (A c).x
  have b1 : m' ((c.tc : Thread Cert.FfnRefIdeal.nD Cert.FfnRefIdeal.τ).loc Cert.FfnRefIdeal.main_arg1) = _ := a1.trans (A c).gf
  have b2 : m' ((c.tc : Thread Cert.FfnRefIdeal.nD Cert.FfnRefIdeal.τ).loc Cert.FfnRefIdeal.main_arg2) = _ := a2.trans (A c).wg
  have b3 : m' ((c.tc : Thread Cert.FfnRefIdeal.nD Cert.FfnRefIdeal.τ).loc Cert.FfnRefIdeal.main_arg3) = _ := a3.trans (A c).wu
  have b4 : m' ((c.tc : Thread Cert.FfnRefIdeal.nD Cert.FfnRefIdeal.τ).loc Cert.FfnRefIdeal.main_arg4) = _ := a4.trans (A c).wd
  have b5 : m' ((c.tc : Thread Cert.FfnRefIdeal.nD Cert.FfnRefIdeal.τ).loc Cert.FfnRefIdeal.main_arg5) = _ := a5.trans (A c).gp
  have b6 : m' ((c.tc : Thread Cert.FfnRefIdeal.nD Cert.FfnRefIdeal.τ).loc Cert.FfnRefIdeal.main_arg6) = _ := a6.trans (A c).dy
  refine ⟨h0.trans ?_, h1.trans ?_, h2.trans ?_, h3.trans ?_, h4.trans ?_, h5.trans ?_, h6.trans ?_, hrest⟩
  · refine Eq.trans (Cert.FfnRefIdeal.Read.val_main_v25_eq ..) ?_
    rw [b0, b1, b2, b3, b4]
    exact Cert.FfnRef.out_eq (I c)
  · refine Eq.trans (Cert.FfnRefIdeal.Read.val_main_v70_eq ..) ?_
    rw [b0, b1, b2, b3, b4, b5]
    exact Cert.FfnRef.next_eq (I c)
  · refine Eq.trans (Cert.FfnRefIdeal.Read.val_main_v71_eq ..) ?_
    rw [b0, b1, b2, b3, b4, b6]
    exact Cert.FfnRef.dgate_cast_eq (I c)
  · refine Eq.trans (Cert.FfnRefIdeal.Read.val_main_v72_eq ..) ?_
    rw [b0, b1, b2, b4, b6]
    exact Cert.FfnRef.dlift_cast_eq (I c)
  · refine Eq.trans (Cert.FfnRefIdeal.Read.val_main_v54_eq ..) ?_
    rw [b0, b1, b2, b3, b4, b6]
    exact Cert.FfnRef.dx_eq (I c)
  · refine Eq.trans (Cert.FfnRefIdeal.Read.val_main_v73_eq ..) ?_
    rw [b0, b1, b2, b3, b4, b6]
    exact Cert.FfnRef.dx_cast_eq (I c)
  · refine Eq.trans (Cert.FfnRefIdeal.Read.val_main_v55_eq ..) ?_
    rw [b0, b1, b2, b3, b4, b6]
    exact Cert.FfnRef.dgain_eq (I c)

end Cert.FfnClaim

end
-- ==== Proof.lean ====
module

public import proofs.«01_k».proof.Proof.Gen.Proj.Frame
public import proofs.«01_k».proof.Proof.Gen.Tn.Frame
public import proofs.«01_k».proof.Proof.Gen.Adam.Frame
public import proofs.«01_k».proof.Proof.Gen.Merged.Frame
public import proofs.«01_k».proof.Proof.MergedClaim
public import proofs.«01_k».proof.Proof.Gen.Mixer.Frame
public import proofs.«01_k».proof.Proof.Gen.Norm.Frame
public import proofs.«01_k».proof.Proof.Forward
public import proofs.«01_k».proof.Proof.FwdWord
public import proofs.«01_k».proof.Proof.Products
public import proofs.«01_k».proof.Proof.BwdWord
public import proofs.«01_k».proof.Proof.FwdClaim
public import proofs.«01_k».proof.Proof.NormMixClaim
public import proofs.«01_k».proof.Proof.PoolClaim
public import proofs.«01_k».proof.Proof.PleClaim
public import proofs.«01_k».proof.Proof.FfnClaim
public import proofs.«01_k».proof.Proof.Gen.Pool.Frame
public import proofs.«01_k».proof.Proof.Gen.Ffn.Frame
public import proofs.«01_k».proof.Proof.Gen.Ple.Frame
public import proofs.«01_k».proof.Proof.Gen.NormMix.Frame

@[expose] public section

noncomputable section

namespace Cert.Proof

open Idealize.ShloMosaic Idealize.SL.Sem Cert.Merged

/-- Each named constant of the attentions stands for the words it replaces. -/
theorem words_bwd : Cert.preserves_AttnBwd_AttnBwdIdeal :=
  ⟨IdealRules.named_const.statement _ _ _ _ _ rfl, IdealRules.named_const.statement _ _ _ _ _ rfl, IdealRules.named_const.statement _ _ _ _ _ rfl⟩

theorem words_fwd : Cert.preserves_AttnFwd_AttnFwdIdeal :=
  ⟨IdealRules.named_const.statement _ _ _ _ _ rfl, IdealRules.named_const.statement _ _ _ _ _ rfl, IdealRules.named_const.statement _ _ _ _ _ rfl⟩

theorem claim : Cert.Claim := ⟨Cert.Merged.Gen.facts, Cert.MergedIdeal.Gen.facts, Cert.MergedRefIdeal.Gen.facts, Cert.AttnBwd.Gen.facts, Cert.AttnBwdIdeal.Gen.facts, Cert.AttnBwdRefIdeal.Gen.facts, Cert.Ffn.Gen.facts,
  Cert.FfnIdeal.Gen.facts, Cert.FfnRefIdeal.Gen.facts, Cert.Ple.Gen.facts, Cert.PleIdeal.Gen.facts, Cert.PleRefIdeal.Gen.facts, Cert.NormMix.Gen.facts,
  Cert.NormMixIdeal.Gen.facts, Cert.NormMixRefIdeal.Gen.facts, Cert.Pool.Gen.facts, Cert.PoolIdeal.Gen.facts, Cert.PoolRefIdeal.Gen.facts, Cert.AttnFwd.Gen.facts, Cert.AttnFwdIdeal.Gen.facts, Cert.AttnFwdRefIdeal.Gen.facts,
  Cert.Mixer.Gen.facts, Cert.MixerIdeal.Gen.facts, Cert.MixerRefIdeal.Gen.facts, Cert.Norm.Gen.facts, Cert.NormIdeal.Gen.facts, Cert.NormRefIdeal.Gen.facts,
  Cert.Proj.Gen.facts, Cert.ProjIdeal.Gen.facts, Cert.ProjRefIdeal.Gen.facts, Cert.Tn.Gen.facts, Cert.TnIdeal.Gen.facts, Cert.TnRefIdeal.Gen.facts, Cert.Adam.Gen.facts, Cert.AdamIdeal.Gen.facts, Cert.AdamRefIdeal.Gen.facts,
  Cert.Pre_attn_finite.Gen.facts, Cert.Pre_ffn_finite.Gen.facts, Cert.Pre_ple_finite.Gen.facts, Cert.Pre_h1_finite.Gen.facts, Cert.Pre_pool_finite.Gen.facts, Cert.Pre_fwd_finite.Gen.facts,
  fun m ρ _ => Cert.Merged.Gen.frame m ρ, fun m ρ _ => Cert.MergedIdeal.Gen.frame m ρ, Cert.MergedClaim.frame_ref,
  fun m ρ _ => Cert.BwdWord.frame_run m ρ, fun m ρ _ => Cert.AttnModel.frame_run m ρ, fun m ρ _ => Cert.AttnModel.frame_run m ρ,
  Cert.AttnClaim.frame_ref, fun m g _ => Cert.AttnClaim.frame_ref m g trivial,
  fun m ρ _ => Cert.Ffn.Gen.frame m ρ, fun m ρ _ => Cert.FfnIdeal.Gen.frame m ρ, fun m ρ _ => Cert.FfnIdeal.Gen.frame m ρ,
  Cert.FfnClaim.frame_ref, fun m g _ => Cert.FfnClaim.frame_ref m g trivial,
  fun m ρ _ => Cert.Ple.Gen.frame m ρ, fun m ρ _ => Cert.PleIdeal.Gen.frame m ρ, fun m ρ _ => Cert.PleIdeal.Gen.frame m ρ,
  Cert.PleClaim.frame_ref, fun m g _ => Cert.PleClaim.frame_ref m g trivial,
  fun m ρ _ => Cert.NormMix.Gen.frame m ρ, fun m ρ _ => Cert.NormMixIdeal.Gen.frame m ρ, fun m ρ _ => Cert.NormMixIdeal.Gen.frame m ρ,
  Cert.NormMixClaim.frame_ref, fun m g _ => Cert.NormMixClaim.frame_ref m g trivial,
  fun m ρ _ => Cert.Pool.Gen.frame m ρ, fun m ρ _ => Cert.PoolIdeal.Gen.frame m ρ, fun m ρ _ => Cert.PoolIdeal.Gen.frame m ρ,
  Cert.PoolClaim.frame_ref, fun m g _ => Cert.PoolClaim.frame_ref m g trivial,
  fun m ρ _ => Cert.FwdWord.frame_run m ρ, Cert.FwdClaim.frame_ideal, fun m ρ _ => Cert.FwdClaim.frame_ideal m ρ trivial,
  Cert.FwdClaim.frame_ref, fun m g _ => Cert.FwdClaim.frame_ref m g trivial,
  fun m ρ _ => Cert.Mixer.Gen.frame m ρ, fun m ρ _ => Cert.MixerIdeal.Gen.frame m ρ, Cert.ForwardClaim.frame_mixer,
  fun m ρ _ => Cert.Norm.Gen.frame m ρ, fun m ρ _ => Cert.NormIdeal.Gen.frame m ρ, Cert.ForwardClaim.frame_norm,
  fun m ρ _ => Cert.Proj.Gen.frame m ρ, fun m ρ _ => Cert.ProjIdeal.Gen.frame m ρ, Cert.ProductsClaim.frame_proj,
  fun m ρ _ => Cert.Tn.Gen.frame m ρ, fun m ρ _ => Cert.TnIdeal.Gen.frame m ρ, Cert.ProductsClaim.frame_tn,
  fun m ρ _ => Cert.Adam.Gen.frame m ρ, fun m ρ _ => Cert.AdamIdeal.Gen.frame m ρ, Cert.ProductsClaim.frame_adam,
  trivial, Cert.MergedClaim.algebraic, words_bwd, Cert.AttnClaim.algebraic, trivial, Cert.FfnClaim.algebraic, trivial, Cert.PleClaim.algebraic, trivial, Cert.NormMixClaim.algebraic, trivial, Cert.PoolClaim.algebraic, words_fwd, Cert.FwdClaim.algebraic,
  trivial, Cert.ForwardClaim.mixer, trivial, Cert.ForwardClaim.norm,
  trivial, Cert.ProductsClaim.proj, trivial, Cert.ProductsClaim.tn, trivial, Cert.ProductsClaim.adam⟩

end Cert.Proof

end
